-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Adam4096x1424 (m : (ℓ : Loc Cert.Adam4096x1424.nD Cert.Adam4096x1424.τ Cert.Adam4096x1424.sig) → Buf (Elt Bits) ℓ) : Prop :=
  True

def Pre_Adam4096x1424Ideal (m : (ℓ : Loc Cert.Adam4096x1424Ideal.nD Cert.Adam4096x1424Ideal.τ Cert.Adam4096x1424Ideal.sig) → Buf (Elt Ideal) ℓ) : Prop :=
  True

def Pre_Adam4096x1424RefIdeal (m : (ℓ : Loc Cert.Adam4096x1424RefIdeal.nD Cert.Adam4096x1424RefIdeal.τ Cert.Adam4096x1424RefIdeal.sig) → Buf (Elt Ideal) ℓ) : Prop :=
  True

def Pre_Adam1024x1536 (m : (ℓ : Loc Cert.Adam1024x1536.nD Cert.Adam1024x1536.τ Cert.Adam1024x1536.sig) → Buf (Elt Bits) ℓ) : Prop :=
  True

def Pre_Adam1024x1536Ideal (m : (ℓ : Loc Cert.Adam1024x1536Ideal.nD Cert.Adam1024x1536Ideal.τ Cert.Adam1024x1536Ideal.sig) → Buf (Elt Ideal) ℓ) : Prop :=
  True

def Pre_Adam1024x1536RefIdeal (m : (ℓ : Loc Cert.Adam1024x1536RefIdeal.nD Cert.Adam1024x1536RefIdeal.τ Cert.Adam1024x1536RefIdeal.sig) → Buf (Elt Ideal) ℓ) : Prop :=
  True

def Pre_Adam512x2048 (m : (ℓ : Loc Cert.Adam512x2048.nD Cert.Adam512x2048.τ Cert.Adam512x2048.sig) → Buf (Elt Bits) ℓ) : Prop :=
  True

def Pre_Adam512x2048Ideal (m : (ℓ : Loc Cert.Adam512x2048Ideal.nD Cert.Adam512x2048Ideal.τ Cert.Adam512x2048Ideal.sig) → Buf (Elt Ideal) ℓ) : Prop :=
  True

def Pre_Adam512x2048RefIdeal (m : (ℓ : Loc Cert.Adam512x2048RefIdeal.nD Cert.Adam512x2048RefIdeal.τ Cert.Adam512x2048RefIdeal.sig) → Buf (Elt Ideal) ℓ) : Prop :=
  True

def Pre_Adam1024x4096 (m : (ℓ : Loc Cert.Adam1024x4096.nD Cert.Adam1024x4096.τ Cert.Adam1024x4096.sig) → Buf (Elt Bits) ℓ) : Prop :=
  True

def Pre_Adam1024x4096Ideal (m : (ℓ : Loc Cert.Adam1024x4096Ideal.nD Cert.Adam1024x4096Ideal.τ Cert.Adam1024x4096Ideal.sig) → Buf (Elt Ideal) ℓ) : Prop :=
  True

def Pre_Adam1024x4096RefIdeal (m : (ℓ : Loc Cert.Adam1024x4096RefIdeal.nD Cert.Adam1024x4096RefIdeal.τ Cert.Adam1024x4096RefIdeal.sig) → Buf (Elt Ideal) ℓ) : Prop :=
  True

def Pre_Adam4096x4096 (m : (ℓ : Loc Cert.Adam4096x4096.nD Cert.Adam4096x4096.τ Cert.Adam4096x4096.sig) → Buf (Elt Bits) ℓ) : Prop :=
  True

def Pre_Adam4096x4096Ideal (m : (ℓ : Loc Cert.Adam4096x4096Ideal.nD Cert.Adam4096x4096Ideal.τ Cert.Adam4096x4096Ideal.sig) → Buf (Elt Ideal) ℓ) : Prop :=
  True

def Pre_Adam4096x4096RefIdeal (m : (ℓ : Loc Cert.Adam4096x4096RefIdeal.nD Cert.Adam4096x4096RefIdeal.τ Cert.Adam4096x4096RefIdeal.sig) → Buf (Elt Ideal) ℓ) : Prop :=
  True

def Pre_Adam4096x3072 (m : (ℓ : Loc Cert.Adam4096x3072.nD Cert.Adam4096x3072.τ Cert.Adam4096x3072.sig) → Buf (Elt Bits) ℓ) : Prop :=
  True

def Pre_Adam4096x3072Ideal (m : (ℓ : Loc Cert.Adam4096x3072Ideal.nD Cert.Adam4096x3072Ideal.τ Cert.Adam4096x3072Ideal.sig) → Buf (Elt Ideal) ℓ) : Prop :=
  True

def Pre_Adam4096x3072RefIdeal (m : (ℓ : Loc Cert.Adam4096x3072RefIdeal.nD Cert.Adam4096x3072RefIdeal.τ Cert.Adam4096x3072RefIdeal.sig) → Buf (Elt Ideal) ℓ) : Prop :=
  True

def Pre_Adam1616x128 (m : (ℓ : Loc Cert.Adam1616x128.nD Cert.Adam1616x128.τ Cert.Adam1616x128.sig) → Buf (Elt Bits) ℓ) : Prop :=
  True

def Pre_Adam1616x128Ideal (m : (ℓ : Loc Cert.Adam1616x128Ideal.nD Cert.Adam1616x128Ideal.τ Cert.Adam1616x128Ideal.sig) → Buf (Elt Ideal) ℓ) : Prop :=
  True

def Pre_Adam1616x128RefIdeal (m : (ℓ : Loc Cert.Adam1616x128RefIdeal.nD Cert.Adam1616x128RefIdeal.τ Cert.Adam1616x128RefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Pair8192x1424 (m : (ℓ : Loc Cert.Pair8192x1424.nD Cert.Pair8192x1424.τ Cert.Pair8192x1424.sig) → Buf (Elt Bits) ℓ) : Prop :=
  True

def Pre_Pair8192x1424Ideal (m : (ℓ : Loc Cert.Pair8192x1424Ideal.nD Cert.Pair8192x1424Ideal.τ Cert.Pair8192x1424Ideal.sig) → Buf (Elt Ideal) ℓ) : Prop :=
  True

def Pre_Pair8192x1424RefIdeal (m : (ℓ : Loc Cert.Pair8192x1424RefIdeal.nD Cert.Pair8192x1424RefIdeal.τ Cert.Pair8192x1424RefIdeal.sig) → Buf (Elt Ideal) ℓ) : Prop :=
  True

def Pre_Pair8192x1424Ref (m : (ℓ : Loc Cert.Pair8192x1424Ref.nD Cert.Pair8192x1424Ref.τ Cert.Pair8192x1424Ref.sig) → Buf (Elt Bits) ℓ) : Prop :=
  True

def Pre_Chip2048x1424 (m : (ℓ : Loc Cert.Chip2048x1424.nD Cert.Chip2048x1424.τ Cert.Chip2048x1424.sig) → Buf (Elt Bits) ℓ) : Prop :=
  True

def Pre_Chip2048x1424Ideal (m : (ℓ : Loc Cert.Chip2048x1424Ideal.nD Cert.Chip2048x1424Ideal.τ Cert.Chip2048x1424Ideal.sig) → Buf (Elt Ideal) ℓ) : Prop :=
  True

def Pre_Chip2048x1424RefIdeal (m : (ℓ : Loc Cert.Chip2048x1424RefIdeal.nD Cert.Chip2048x1424RefIdeal.τ Cert.Chip2048x1424RefIdeal.sig) → Buf (Elt Ideal) ℓ) : Prop :=
  True

def Pre_Pair2048x1536 (m : (ℓ : Loc Cert.Pair2048x1536.nD Cert.Pair2048x1536.τ Cert.Pair2048x1536.sig) → Buf (Elt Bits) ℓ) : Prop :=
  True

def Pre_Pair2048x1536Ideal (m : (ℓ : Loc Cert.Pair2048x1536Ideal.nD Cert.Pair2048x1536Ideal.τ Cert.Pair2048x1536Ideal.sig) → Buf (Elt Ideal) ℓ) : Prop :=
  True

def Pre_Pair2048x1536RefIdeal (m : (ℓ : Loc Cert.Pair2048x1536RefIdeal.nD Cert.Pair2048x1536RefIdeal.τ Cert.Pair2048x1536RefIdeal.sig) → Buf (Elt Ideal) ℓ) : Prop :=
  True

def Pre_Pair2048x1536Ref (m : (ℓ : Loc Cert.Pair2048x1536Ref.nD Cert.Pair2048x1536Ref.τ Cert.Pair2048x1536Ref.sig) → Buf (Elt Bits) ℓ) : Prop :=
  True

def Pre_Chip512x1536 (m : (ℓ : Loc Cert.Chip512x1536.nD Cert.Chip512x1536.τ Cert.Chip512x1536.sig) → Buf (Elt Bits) ℓ) : Prop :=
  True

def Pre_Chip512x1536Ideal (m : (ℓ : Loc Cert.Chip512x1536Ideal.nD Cert.Chip512x1536Ideal.τ Cert.Chip512x1536Ideal.sig) → Buf (Elt Ideal) ℓ) : Prop :=
  True

def Pre_Chip512x1536RefIdeal (m : (ℓ : Loc Cert.Chip512x1536RefIdeal.nD Cert.Chip512x1536RefIdeal.τ Cert.Chip512x1536RefIdeal.sig) → Buf (Elt Ideal) ℓ) : Prop :=
  True

def Pre_Pair1024x2048 (m : (ℓ : Loc Cert.Pair1024x2048.nD Cert.Pair1024x2048.τ Cert.Pair1024x2048.sig) → Buf (Elt Bits) ℓ) : Prop :=
  True

def Pre_Pair1024x2048Ideal (m : (ℓ : Loc Cert.Pair1024x2048Ideal.nD Cert.Pair1024x2048Ideal.τ Cert.Pair1024x2048Ideal.sig) → Buf (Elt Ideal) ℓ) : Prop :=
  True

def Pre_Pair1024x2048RefIdeal (m : (ℓ : Loc Cert.Pair1024x2048RefIdeal.nD Cert.Pair1024x2048RefIdeal.τ Cert.Pair1024x2048RefIdeal.sig) → Buf (Elt Ideal) ℓ) : Prop :=
  True

def Pre_Pair1024x2048Ref (m : (ℓ : Loc Cert.Pair1024x2048Ref.nD Cert.Pair1024x2048Ref.τ Cert.Pair1024x2048Ref.sig) → Buf (Elt Bits) ℓ) : Prop :=
  True

def Pre_Chip256x2048 (m : (ℓ : Loc Cert.Chip256x2048.nD Cert.Chip256x2048.τ Cert.Chip256x2048.sig) → Buf (Elt Bits) ℓ) : Prop :=
  True

def Pre_Chip256x2048Ideal (m : (ℓ : Loc Cert.Chip256x2048Ideal.nD Cert.Chip256x2048Ideal.τ Cert.Chip256x2048Ideal.sig) → Buf (Elt Ideal) ℓ) : Prop :=
  True

def Pre_Chip256x2048RefIdeal (m : (ℓ : Loc Cert.Chip256x2048RefIdeal.nD Cert.Chip256x2048RefIdeal.τ Cert.Chip256x2048RefIdeal.sig) → Buf (Elt Ideal) ℓ) : Prop :=
  True

def Pre_Pair2048x4096 (m : (ℓ : Loc Cert.Pair2048x4096.nD Cert.Pair2048x4096.τ Cert.Pair2048x4096.sig) → Buf (Elt Bits) ℓ) : Prop :=
  True

def Pre_Pair2048x4096Ideal (m : (ℓ : Loc Cert.Pair2048x4096Ideal.nD Cert.Pair2048x4096Ideal.τ Cert.Pair2048x4096Ideal.sig) → Buf (Elt Ideal) ℓ) : Prop :=
  True

def Pre_Pair2048x4096RefIdeal (m : (ℓ : Loc Cert.Pair2048x4096RefIdeal.nD Cert.Pair2048x4096RefIdeal.τ Cert.Pair2048x4096RefIdeal.sig) → Buf (Elt Ideal) ℓ) : Prop :=
  True

def Pre_Pair2048x4096Ref (m : (ℓ : Loc Cert.Pair2048x4096Ref.nD Cert.Pair2048x4096Ref.τ Cert.Pair2048x4096Ref.sig) → Buf (Elt Bits) ℓ) : Prop :=
  True

def Pre_Chip512x4096 (m : (ℓ : Loc Cert.Chip512x4096.nD Cert.Chip512x4096.τ Cert.Chip512x4096.sig) → Buf (Elt Bits) ℓ) : Prop :=
  True

def Pre_Chip512x4096Ideal (m : (ℓ : Loc Cert.Chip512x4096Ideal.nD Cert.Chip512x4096Ideal.τ Cert.Chip512x4096Ideal.sig) → Buf (Elt Ideal) ℓ) : Prop :=
  True

def Pre_Chip512x4096RefIdeal (m : (ℓ : Loc Cert.Chip512x4096RefIdeal.nD Cert.Chip512x4096RefIdeal.τ Cert.Chip512x4096RefIdeal.sig) → Buf (Elt Ideal) ℓ) : Prop :=
  True

def Pre_Pair8192x4096 (m : (ℓ : Loc Cert.Pair8192x4096.nD Cert.Pair8192x4096.τ Cert.Pair8192x4096.sig) → Buf (Elt Bits) ℓ) : Prop :=
  True

def Pre_Pair8192x4096Ideal (m : (ℓ : Loc Cert.Pair8192x4096Ideal.nD Cert.Pair8192x4096Ideal.τ Cert.Pair8192x4096Ideal.sig) → Buf (Elt Ideal) ℓ) : Prop :=
  True

def Pre_Pair8192x4096RefIdeal (m : (ℓ : Loc Cert.Pair8192x4096RefIdeal.nD Cert.Pair8192x4096RefIdeal.τ Cert.Pair8192x4096RefIdeal.sig) → Buf (Elt Ideal) ℓ) : Prop :=
  True

def Pre_Pair8192x4096Ref (m : (ℓ : Loc Cert.Pair8192x4096Ref.nD Cert.Pair8192x4096Ref.τ Cert.Pair8192x4096Ref.sig) → Buf (Elt Bits) ℓ) : Prop :=
  True

def Pre_Chip2048x4096 (m : (ℓ : Loc Cert.Chip2048x4096.nD Cert.Chip2048x4096.τ Cert.Chip2048x4096.sig) → Buf (Elt Bits) ℓ) : Prop :=
  True

def Pre_Chip2048x4096Ideal (m : (ℓ : Loc Cert.Chip2048x4096Ideal.nD Cert.Chip2048x4096Ideal.τ Cert.Chip2048x4096Ideal.sig) → Buf (Elt Ideal) ℓ) : Prop :=
  True

def Pre_Chip2048x4096RefIdeal (m : (ℓ : Loc Cert.Chip2048x4096RefIdeal.nD Cert.Chip2048x4096RefIdeal.τ Cert.Chip2048x4096RefIdeal.sig) → Buf (Elt Ideal) ℓ) : Prop :=
  True

def Pre_Pair8192x3072 (m : (ℓ : Loc Cert.Pair8192x3072.nD Cert.Pair8192x3072.τ Cert.Pair8192x3072.sig) → Buf (Elt Bits) ℓ) : Prop :=
  True

def Pre_Pair8192x3072Ideal (m : (ℓ : Loc Cert.Pair8192x3072Ideal.nD Cert.Pair8192x3072Ideal.τ Cert.Pair8192x3072Ideal.sig) → Buf (Elt Ideal) ℓ) : Prop :=
  True

def Pre_Pair8192x3072RefIdeal (m : (ℓ : Loc Cert.Pair8192x3072RefIdeal.nD Cert.Pair8192x3072RefIdeal.τ Cert.Pair8192x3072RefIdeal.sig) → Buf (Elt Ideal) ℓ) : Prop :=
  True

def Pre_Pair8192x3072Ref (m : (ℓ : Loc Cert.Pair8192x3072Ref.nD Cert.Pair8192x3072Ref.τ Cert.Pair8192x3072Ref.sig) → Buf (Elt Bits) ℓ) : Prop :=
  True

def Pre_Chip2048x3072 (m : (ℓ : Loc Cert.Chip2048x3072.nD Cert.Chip2048x3072.τ Cert.Chip2048x3072.sig) → Buf (Elt Bits) ℓ) : Prop :=
  True

def Pre_Chip2048x3072Ideal (m : (ℓ : Loc Cert.Chip2048x3072Ideal.nD Cert.Chip2048x3072Ideal.τ Cert.Chip2048x3072Ideal.sig) → Buf (Elt Ideal) ℓ) : Prop :=
  True

def Pre_Chip2048x3072RefIdeal (m : (ℓ : Loc Cert.Chip2048x3072RefIdeal.nD Cert.Chip2048x3072RefIdeal.τ Cert.Chip2048x3072RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_PostNormGrad (m : (ℓ : Loc Cert.PostNormGrad.nD Cert.PostNormGrad.τ Cert.PostNormGrad.sig) → Buf (Elt Bits) ℓ) : Prop :=
  True

def Pre_PostNormGradIdeal (m : (ℓ : Loc Cert.PostNormGradIdeal.nD Cert.PostNormGradIdeal.τ Cert.PostNormGradIdeal.sig) → Buf (Elt Ideal) ℓ) : Prop :=
  True

def Pre_PostNormGradRefIdeal (m : (ℓ : Loc Cert.PostNormGradRefIdeal.nD Cert.PostNormGradRefIdeal.τ Cert.PostNormGradRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InADw (m : (ℓ : Loc Cert.InADw.nD Cert.InADw.τ Cert.InADw.sig) → Buf (Elt Bits) ℓ) : Prop :=
  True

def Pre_InADwIdeal (m : (ℓ : Loc Cert.InADwIdeal.nD Cert.InADwIdeal.τ Cert.InADwIdeal.sig) → Buf (Elt Ideal) ℓ) : Prop :=
  True

def Pre_InADwRefIdeal (m : (ℓ : Loc Cert.InADwRefIdeal.nD Cert.InADwRefIdeal.τ Cert.InADwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScInDw (m : (ℓ : Loc Cert.ScInDw.nD Cert.ScInDw.τ Cert.ScInDw.sig) → Buf (Elt Bits) ℓ) : Prop :=
  True

def Pre_ScInDwIdeal (m : (ℓ : Loc Cert.ScInDwIdeal.nD Cert.ScInDwIdeal.τ Cert.ScInDwIdeal.sig) → Buf (Elt Ideal) ℓ) : Prop :=
  True

def Pre_ScInDwRefIdeal (m : (ℓ : Loc Cert.ScInDwRefIdeal.nD Cert.ScInDwRefIdeal.τ Cert.ScInDwRefIdeal.sig) → Buf (Elt Ideal) ℓ) : Prop :=
  True

def Pre_InADx (m : (ℓ : Loc Cert.InADx.nD Cert.InADx.τ Cert.InADx.sig) → Buf (Elt Bits) ℓ) : Prop :=
  True

def Pre_InADxIdeal (m : (ℓ : Loc Cert.InADxIdeal.nD Cert.InADxIdeal.τ Cert.InADxIdeal.sig) → Buf (Elt Ideal) ℓ) : Prop :=
  True

def Pre_InADxRefIdeal (m : (ℓ : Loc Cert.InADxRefIdeal.nD Cert.InADxRefIdeal.τ Cert.InADxRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_InZDx (m : (ℓ : Loc Cert.InZDx.nD Cert.InZDx.τ Cert.InZDx.sig) → Buf (Elt Bits) ℓ) : Prop :=
  True

def Pre_InZDxIdeal (m : (ℓ : Loc Cert.InZDxIdeal.nD Cert.InZDxIdeal.τ Cert.InZDxIdeal.sig) → Buf (Elt Ideal) ℓ) : Prop :=
  True

def Pre_InZDxRefIdeal (m : (ℓ : Loc Cert.InZDxRefIdeal.nD Cert.InZDxRefIdeal.τ Cert.InZDxRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_GmInDw (m : (ℓ : Loc Cert.GmInDw.nD Cert.GmInDw.τ Cert.GmInDw.sig) → Buf (Elt Bits) ℓ) : Prop :=
  True

def Pre_GmInDwIdeal (m : (ℓ : Loc Cert.GmInDwIdeal.nD Cert.GmInDwIdeal.τ Cert.GmInDwIdeal.sig) → Buf (Elt Ideal) ℓ) : Prop :=
  True

def Pre_GmInDwRefIdeal (m : (ℓ : Loc Cert.GmInDwRefIdeal.nD Cert.GmInDwRefIdeal.τ Cert.GmInDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5)
      ∧ r.2.mem ((c.tc : Thread Cert.Scatter.nD Cert.Scatter.τ).loc Cert.Scatter.main_arg6) = m ((c.tc : Thread Cert.Scatter.nD Cert.Scatter.τ).loc Cert.Scatter.main_arg6)
      ∧ r.2.mem ((c.tc : Thread Cert.Scatter.nD Cert.Scatter.τ).loc Cert.Scatter.main_arg7) = m ((c.tc : Thread Cert.Scatter.nD Cert.Scatter.τ).loc Cert.Scatter.main_arg7)
      ∧ r.2.mem ((c.tc : Thread Cert.Scatter.nD Cert.Scatter.τ).loc Cert.Scatter.main_arg8) = m ((c.tc : Thread Cert.Scatter.nD Cert.Scatter.τ).loc Cert.Scatter.main_arg8)
      ∧ r.2.mem ((c.tc : Thread Cert.Scatter.nD Cert.Scatter.τ).loc Cert.Scatter.main_arg9) = m ((c.tc : Thread Cert.Scatter.nD Cert.Scatter.τ).loc Cert.Scatter.main_arg9))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
      ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
      ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
      ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4)
      ∧ r.2.mem ((c.tc : Thread Cert.ScatterRefIdeal.nD Cert.ScatterRefIdeal.τ).loc Cert.ScatterRefIdeal.main_arg5) = m ((c.tc : Thread Cert.ScatterRefIdeal.nD Cert.ScatterRefIdeal.τ).loc Cert.ScatterRefIdeal.main_arg5)
      ∧ r.2.mem ((c.tc : Thread Cert.ScatterRefIdeal.nD Cert.ScatterRefIdeal.τ).loc Cert.ScatterRefIdeal.main_arg6) = m ((c.tc : Thread Cert.ScatterRefIdeal.nD Cert.ScatterRefIdeal.τ).loc Cert.ScatterRefIdeal.main_arg6)
      ∧ r.2.mem ((c.tc : Thread Cert.ScatterRefIdeal.nD Cert.ScatterRefIdeal.τ).loc Cert.ScatterRefIdeal.main_arg7) = m ((c.tc : Thread Cert.ScatterRefIdeal.nD Cert.ScatterRefIdeal.τ).loc Cert.ScatterRefIdeal.main_arg7)
      ∧ r.2.mem ((c.tc : Thread Cert.ScatterRefIdeal.nD Cert.ScatterRefIdeal.τ).loc Cert.ScatterRefIdeal.main_arg8) = m ((c.tc : Thread Cert.ScatterRefIdeal.nD Cert.ScatterRefIdeal.τ).loc Cert.ScatterRefIdeal.main_arg8)
      ∧ r.2.mem ((c.tc : Thread Cert.ScatterRefIdeal.nD Cert.ScatterRefIdeal.τ).loc Cert.ScatterRefIdeal.main_arg9) = m ((c.tc : Thread Cert.ScatterRefIdeal.nD Cert.ScatterRefIdeal.τ).loc Cert.ScatterRefIdeal.main_arg9))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3)
      ∧ r.2.mem ((c.tc : Thread Cert.ScatterRef.nD Cert.ScatterRef.τ).loc Cert.ScatterRef.main_arg4) = m ((c.tc : Thread Cert.ScatterRef.nD Cert.ScatterRef.τ).loc Cert.ScatterRef.main_arg4)
      ∧ r.2.mem ((c.tc : Thread Cert.ScatterRef.nD Cert.ScatterRef.τ).loc Cert.ScatterRef.main_arg5) = m ((c.tc : Thread Cert.ScatterRef.nD Cert.ScatterRef.τ).loc Cert.ScatterRef.main_arg5)
      ∧ r.2.mem ((c.tc : Thread Cert.ScatterRef.nD Cert.ScatterRef.τ).loc Cert.ScatterRef.main_arg6) = m ((c.tc : Thread Cert.ScatterRef.nD Cert.ScatterRef.τ).loc Cert.ScatterRef.main_arg6)
      ∧ r.2.mem ((c.tc : Thread Cert.ScatterRef.nD Cert.ScatterRef.τ).loc Cert.ScatterRef.main_arg7) = m ((c.tc : Thread Cert.ScatterRef.nD Cert.ScatterRef.τ).loc Cert.ScatterRef.main_arg7)
      ∧ r.2.mem ((c.tc : Thread Cert.ScatterRef.nD Cert.ScatterRef.τ).loc Cert.ScatterRef.main_arg8) = m ((c.tc : Thread Cert.ScatterRef.nD Cert.ScatterRef.τ).loc Cert.ScatterRef.main_arg8)
      ∧ r.2.mem ((c.tc : Thread Cert.ScatterRef.nD Cert.ScatterRef.τ).loc Cert.ScatterRef.main_arg9) = m ((c.tc : Thread Cert.ScatterRef.nD Cert.ScatterRef.τ).loc Cert.ScatterRef.main_arg9))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0)
      ∧ r.2.mem ((c.tc : Thread Cert.JoinRef.nD Cert.JoinRef.τ).loc Cert.JoinRef.main_arg1) = m ((c.tc : Thread Cert.JoinRef.nD Cert.JoinRef.τ).loc Cert.JoinRef.main_arg1)
      ∧ r.2.mem ((c.tc : Thread Cert.JoinRef.nD Cert.JoinRef.τ).loc Cert.JoinRef.main_arg2) = m ((c.tc : Thread Cert.JoinRef.nD Cert.JoinRef.τ).loc Cert.JoinRef.main_arg2)
      ∧ r.2.mem ((c.tc : Thread Cert.JoinRef.nD Cert.JoinRef.τ).loc Cert.JoinRef.main_arg3) = m ((c.tc : Thread Cert.JoinRef.nD Cert.JoinRef.τ).loc Cert.JoinRef.main_arg3)
      ∧ r.2.mem ((c.tc : Thread Cert.JoinRef.nD Cert.JoinRef.τ).loc Cert.JoinRef.main_arg4) = m ((c.tc : Thread Cert.JoinRef.nD Cert.JoinRef.τ).loc Cert.JoinRef.main_arg4)
      ∧ r.2.mem ((c.tc : Thread Cert.JoinRef.nD Cert.JoinRef.τ).loc Cert.JoinRef.main_arg5) = m ((c.tc : Thread Cert.JoinRef.nD Cert.JoinRef.τ).loc Cert.JoinRef.main_arg5)
      ∧ r.2.mem ((c.tc : Thread Cert.JoinRef.nD Cert.JoinRef.τ).loc Cert.JoinRef.main_arg6) = m ((c.tc : Thread Cert.JoinRef.nD Cert.JoinRef.τ).loc Cert.JoinRef.main_arg6)
      ∧ r.2.mem ((c.tc : Thread Cert.JoinRef.nD Cert.JoinRef.τ).loc Cert.JoinRef.main_arg7) = m ((c.tc : Thread Cert.JoinRef.nD Cert.JoinRef.τ).loc Cert.JoinRef.main_arg7)
      ∧ r.2.mem ((c.tc : Thread Cert.JoinRef.nD Cert.JoinRef.τ).loc Cert.JoinRef.main_arg8) = m ((c.tc : Thread Cert.JoinRef.nD Cert.JoinRef.τ).loc Cert.JoinRef.main_arg8)
      ∧ r.2.mem ((c.tc : Thread Cert.JoinRef.nD Cert.JoinRef.τ).loc Cert.JoinRef.main_arg9) = m ((c.tc : Thread Cert.JoinRef.nD Cert.JoinRef.τ).loc Cert.JoinRef.main_arg9))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8)
      ∧ r.2.mem ((c.tc : Thread Cert.Gather.nD Cert.Gather.τ).loc Cert.Gather.main_arg9) = m ((c.tc : Thread Cert.Gather.nD Cert.Gather.τ).loc Cert.Gather.main_arg9))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
      ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8)
      ∧ r.2.mem ((c.tc : Thread Cert.GatherRefIdeal.nD Cert.GatherRefIdeal.τ).loc Cert.GatherRefIdeal.main_arg9) = m ((c.tc : Thread Cert.GatherRefIdeal.nD Cert.GatherRefIdeal.τ).loc Cert.GatherRefIdeal.main_arg9))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6)
      ∧ r.2.mem ((c.tc : Thread Cert.GatherRef.nD Cert.GatherRef.τ).loc Cert.GatherRef.main_arg7) = m ((c.tc : Thread Cert.GatherRef.nD Cert.GatherRef.τ).loc Cert.GatherRef.main_arg7)
      ∧ r.2.mem ((c.tc : Thread Cert.GatherRef.nD Cert.GatherRef.τ).loc Cert.GatherRef.main_arg8) = m ((c.tc : Thread Cert.GatherRef.nD Cert.GatherRef.τ).loc Cert.GatherRef.main_arg8)
      ∧ r.2.mem ((c.tc : Thread Cert.GatherRef.nD Cert.GatherRef.τ).loc Cert.GatherRef.main_arg9) = m ((c.tc : Thread Cert.GatherRef.nD Cert.GatherRef.τ).loc Cert.GatherRef.main_arg9))
      ∧ r.2.sem = fun _ => 0)

def quiescent_Adam4096x1424 [hAdam4096x1424 : Cert.Adam4096x1424.Facts] : Prop :=
  ∀ (m : (ℓ : Loc Cert.Adam4096x1424.nD Cert.Adam4096x1424.τ Cert.Adam4096x1424.sig) → Buf (Elt Bits) ℓ) (g : Dev Cert.Adam4096x1424.nD → PrngReg), Pre_Adam4096x1424 m →
    θ_run (Cert.Adam4096x1424.defs (F := Bits)) (onTc (τ := Cert.Adam4096x1424.τ) (Cert.Adam4096x1424.main (F := Bits))) ⟨m, fun _ => 0, g⟩ (fun r => (∀ c : Dev Cert.Adam4096x1424.nD,
      r.2.mem ((c.tc : Thread Cert.Adam4096x1424.nD Cert.Adam4096x1424.τ).loc Cert.Adam4096x1424.main_arg0) = m ((c.tc : Thread Cert.Adam4096x1424.nD Cert.Adam4096x1424.τ).loc Cert.Adam4096x1424.main_arg0)
      ∧ r.2.mem ((c.tc : Thread Cert.Adam4096x1424.nD Cert.Adam4096x1424.τ).loc Cert.Adam4096x1424.main_arg1) = m ((c.tc : Thread Cert.Adam4096x1424.nD Cert.Adam4096x1424.τ).loc Cert.Adam4096x1424.main_arg1)
      ∧ r.2.mem ((c.tc : Thread Cert.Adam4096x1424.nD Cert.Adam4096x1424.τ).loc Cert.Adam4096x1424.main_arg2) = m ((c.tc : Thread Cert.Adam4096x1424.nD Cert.Adam4096x1424.τ).loc Cert.Adam4096x1424.main_arg2)
      ∧ r.2.mem ((c.tc : Thread Cert.Adam4096x1424.nD Cert.Adam4096x1424.τ).loc Cert.Adam4096x1424.main_arg3) = m ((c.tc : Thread Cert.Adam4096x1424.nD Cert.Adam4096x1424.τ).loc Cert.Adam4096x1424.main_arg3))
      ∧ r.2.sem = fun _ => 0)

def quiescent_Adam4096x1424Ideal [hAdam4096x1424Ideal : Cert.Adam4096x1424Ideal.Facts] : Prop :=
  ∀ (m : (ℓ : Loc Cert.Adam4096x1424Ideal.nD Cert.Adam4096x1424Ideal.τ Cert.Adam4096x1424Ideal.sig) → Buf (Elt Ideal) ℓ) (g : Dev Cert.Adam4096x1424Ideal.nD → PrngReg), Pre_Adam4096x1424Ideal m →
    θ_run (Cert.Adam4096x1424Ideal.defs (F := Ideal)) (onTc (τ := Cert.Adam4096x1424Ideal.τ) (Cert.Adam4096x1424Ideal.main (F := Ideal))) ⟨m, fun _ => 0, g⟩ (fun r => (∀ c : Dev Cert.Adam4096x1424Ideal.nD,
      r.2.mem ((c.tc : Thread Cert.Adam4096x1424Ideal.nD Cert.Adam4096x1424Ideal.τ).loc Cert.Adam4096x1424Ideal.main_arg0) = m ((c.tc : Thread Cert.Adam4096x1424Ideal.nD Cert.Adam4096x1424Ideal.τ).loc Cert.Adam4096x1424Ideal.main_arg0)
      ∧ r.2.mem ((c.tc : Thread Cert.Adam4096x1424Ideal.nD Cert.Adam4096x1424Ideal.τ).loc Cert.Adam4096x1424Ideal.main_arg1) = m ((c.tc : Thread Cert.Adam4096x1424Ideal.nD Cert.Adam4096x1424Ideal.τ).loc Cert.Adam4096x1424Ideal.main_arg1)
      ∧ r.2.mem ((c.tc : Thread Cert.Adam4096x1424Ideal.nD Cert.Adam4096x1424Ideal.τ).loc Cert.Adam4096x1424Ideal.main_arg2) = m ((c.tc : Thread Cert.Adam4096x1424Ideal.nD Cert.Adam4096x1424Ideal.τ).loc Cert.Adam4096x1424Ideal.main_arg2)
      ∧ r.2.mem ((c.tc : Thread Cert.Adam4096x1424Ideal.nD Cert.Adam4096x1424Ideal.τ).loc Cert.Adam4096x1424Ideal.main_arg3) = m ((c.tc : Thread Cert.Adam4096x1424Ideal.nD Cert.Adam4096x1424Ideal.τ).loc Cert.Adam4096x1424Ideal.main_arg3))
      ∧ r.2.sem = fun _ => 0)

def quiescent_Adam4096x1424RefIdeal [hAdam4096x1424RefIdeal : Cert.Adam4096x1424RefIdeal.Facts] : Prop :=
  ∀ (m : (ℓ : Loc Cert.Adam4096x1424RefIdeal.nD Cert.Adam4096x1424RefIdeal.τ Cert.Adam4096x1424RefIdeal.sig) → Buf (Elt Ideal) ℓ) (g : Dev Cert.Adam4096x1424RefIdeal.nD → PrngReg), Pre_Adam4096x1424RefIdeal m →
    θ_run (Cert.Adam4096x1424RefIdeal.defs (F := Ideal)) (onTc (τ := Cert.Adam4096x1424RefIdeal.τ) (Cert.Adam4096x1424RefIdeal.main (F := Ideal))) ⟨m, fun _ => 0, g⟩ (fun r => (∀ c : Dev Cert.Adam4096x1424RefIdeal.nD,
      r.2.mem ((c.tc : Thread Cert.Adam4096x1424RefIdeal.nD Cert.Adam4096x1424RefIdeal.τ).loc Cert.Adam4096x1424RefIdeal.main_arg0) = m ((c.tc : Thread Cert.Adam4096x1424RefIdeal.nD Cert.Adam4096x1424RefIdeal.τ).loc Cert.Adam4096x1424RefIdeal.main_arg0)
      ∧ r.2.mem ((c.tc : Thread Cert.Adam4096x1424RefIdeal.nD Cert.Adam4096x1424RefIdeal.τ).loc Cert.Adam4096x1424RefIdeal.main_arg1) = m ((c.tc : Thread Cert.Adam4096x1424RefIdeal.nD Cert.Adam4096x1424RefIdeal.τ).loc Cert.Adam4096x1424RefIdeal.main_arg1)
      ∧ r.2.mem ((c.tc : Thread Cert.Adam4096x1424RefIdeal.nD Cert.Adam4096x1424RefIdeal.τ).loc Cert.Adam4096x1424RefIdeal.main_arg2) = m ((c.tc : Thread Cert.Adam4096x1424RefIdeal.nD Cert.Adam4096x1424RefIdeal.τ).loc Cert.Adam4096x1424RefIdeal.main_arg2)
      ∧ r.2.mem ((c.tc : Thread Cert.Adam4096x1424RefIdeal.nD Cert.Adam4096x1424RefIdeal.τ).loc Cert.Adam4096x1424RefIdeal.main_arg3) = m ((c.tc : Thread Cert.Adam4096x1424RefIdeal.nD Cert.Adam4096x1424RefIdeal.τ).loc Cert.Adam4096x1424RefIdeal.main_arg3))
      ∧ r.2.sem = fun _ => 0)

def quiescent_Adam1024x1536 [hAdam1024x1536 : Cert.Adam1024x1536.Facts] : Prop :=
  ∀ (m : (ℓ : Loc Cert.Adam1024x1536.nD Cert.Adam1024x1536.τ Cert.Adam1024x1536.sig) → Buf (Elt Bits) ℓ) (g : Dev Cert.Adam1024x1536.nD → PrngReg), Pre_Adam1024x1536 m →
    θ_run (Cert.Adam1024x1536.defs (F := Bits)) (onTc (τ := Cert.Adam1024x1536.τ) (Cert.Adam1024x1536.main (F := Bits))) ⟨m, fun _ => 0, g⟩ (fun r => (∀ c : Dev Cert.Adam1024x1536.nD,
      r.2.mem ((c.tc : Thread Cert.Adam1024x1536.nD Cert.Adam1024x1536.τ).loc Cert.Adam1024x1536.main_arg0) = m ((c.tc : Thread Cert.Adam1024x1536.nD Cert.Adam1024x1536.τ).loc Cert.Adam1024x1536.main_arg0)
      ∧ r.2.mem ((c.tc : Thread Cert.Adam1024x1536.nD Cert.Adam1024x1536.τ).loc Cert.Adam1024x1536.main_arg1) = m ((c.tc : Thread Cert.Adam1024x1536.nD Cert.Adam1024x1536.τ).loc Cert.Adam1024x1536.main_arg1)
      ∧ r.2.mem ((c.tc : Thread Cert.Adam1024x1536.nD Cert.Adam1024x1536.τ).loc Cert.Adam1024x1536.main_arg2) = m ((c.tc : Thread Cert.Adam1024x1536.nD Cert.Adam1024x1536.τ).loc Cert.Adam1024x1536.main_arg2)
      ∧ r.2.mem ((c.tc : Thread Cert.Adam1024x1536.nD Cert.Adam1024x1536.τ).loc Cert.Adam1024x1536.main_arg3) = m ((c.tc : Thread Cert.Adam1024x1536.nD Cert.Adam1024x1536.τ).loc Cert.Adam1024x1536.main_arg3))
      ∧ r.2.sem = fun _ => 0)

def quiescent_Adam1024x1536Ideal [hAdam1024x1536Ideal : Cert.Adam1024x1536Ideal.Facts] : Prop :=
  ∀ (m : (ℓ : Loc Cert.Adam1024x1536Ideal.nD Cert.Adam1024x1536Ideal.τ Cert.Adam1024x1536Ideal.sig) → Buf (Elt Ideal) ℓ) (g : Dev Cert.Adam1024x1536Ideal.nD → PrngReg), Pre_Adam1024x1536Ideal m →
    θ_run (Cert.Adam1024x1536Ideal.defs (F := Ideal)) (onTc (τ := Cert.Adam1024x1536Ideal.τ) (Cert.Adam1024x1536Ideal.main (F := Ideal))) ⟨m, fun _ => 0, g⟩ (fun r => (∀ c : Dev Cert.Adam1024x1536Ideal.nD,
      r.2.mem ((c.tc : Thread Cert.Adam1024x1536Ideal.nD Cert.Adam1024x1536Ideal.τ).loc Cert.Adam1024x1536Ideal.main_arg0) = m ((c.tc : Thread Cert.Adam1024x1536Ideal.nD Cert.Adam1024x1536Ideal.τ).loc Cert.Adam1024x1536Ideal.main_arg0)
      ∧ r.2.mem ((c.tc : Thread Cert.Adam1024x1536Ideal.nD Cert.Adam1024x1536Ideal.τ).loc Cert.Adam1024x1536Ideal.main_arg1) = m ((c.tc : Thread Cert.Adam1024x1536Ideal.nD Cert.Adam1024x1536Ideal.τ).loc Cert.Adam1024x1536Ideal.main_arg1)
      ∧ r.2.mem ((c.tc : Thread Cert.Adam1024x1536Ideal.nD Cert.Adam1024x1536Ideal.τ).loc Cert.Adam1024x1536Ideal.main_arg2) = m ((c.tc : Thread Cert.Adam1024x1536Ideal.nD Cert.Adam1024x1536Ideal.τ).loc Cert.Adam1024x1536Ideal.main_arg2)
      ∧ r.2.mem ((c.tc : Thread Cert.Adam1024x1536Ideal.nD Cert.Adam1024x1536Ideal.τ).loc Cert.Adam1024x1536Ideal.main_arg3) = m ((c.tc : Thread Cert.Adam1024x1536Ideal.nD Cert.Adam1024x1536Ideal.τ).loc Cert.Adam1024x1536Ideal.main_arg3))
      ∧ r.2.sem = fun _ => 0)

def quiescent_Adam1024x1536RefIdeal [hAdam1024x1536RefIdeal : Cert.Adam1024x1536RefIdeal.Facts] : Prop :=
  ∀ (m : (ℓ : Loc Cert.Adam1024x1536RefIdeal.nD Cert.Adam1024x1536RefIdeal.τ Cert.Adam1024x1536RefIdeal.sig) → Buf (Elt Ideal) ℓ) (g : Dev Cert.Adam1024x1536RefIdeal.nD → PrngReg), Pre_Adam1024x1536RefIdeal m →
    θ_run (Cert.Adam1024x1536RefIdeal.defs (F := Ideal)) (onTc (τ := Cert.Adam1024x1536RefIdeal.τ) (Cert.Adam1024x1536RefIdeal.main (F := Ideal))) ⟨m, fun _ => 0, g⟩ (fun r => (∀ c : Dev Cert.Adam1024x1536RefIdeal.nD,
      r.2.mem ((c.tc : Thread Cert.Adam1024x1536RefIdeal.nD Cert.Adam1024x1536RefIdeal.τ).loc Cert.Adam1024x1536RefIdeal.main_arg0) = m ((c.tc : Thread Cert.Adam1024x1536RefIdeal.nD Cert.Adam1024x1536RefIdeal.τ).loc Cert.Adam1024x1536RefIdeal.main_arg0)
      ∧ r.2.mem ((c.tc : Thread Cert.Adam1024x1536RefIdeal.nD Cert.Adam1024x1536RefIdeal.τ).loc Cert.Adam1024x1536RefIdeal.main_arg1) = m ((c.tc : Thread Cert.Adam1024x1536RefIdeal.nD Cert.Adam1024x1536RefIdeal.τ).loc Cert.Adam1024x1536RefIdeal.main_arg1)
      ∧ r.2.mem ((c.tc : Thread Cert.Adam1024x1536RefIdeal.nD Cert.Adam1024x1536RefIdeal.τ).loc Cert.Adam1024x1536RefIdeal.main_arg2) = m ((c.tc : Thread Cert.Adam1024x1536RefIdeal.nD Cert.Adam1024x1536RefIdeal.τ).loc Cert.Adam1024x1536RefIdeal.main_arg2)
      ∧ r.2.mem ((c.tc : Thread Cert.Adam1024x1536RefIdeal.nD Cert.Adam1024x1536RefIdeal.τ).loc Cert.Adam1024x1536RefIdeal.main_arg3) = m ((c.tc : Thread Cert.Adam1024x1536RefIdeal.nD Cert.Adam1024x1536RefIdeal.τ).loc Cert.Adam1024x1536RefIdeal.main_arg3))
      ∧ r.2.sem = fun _ => 0)

def quiescent_Adam512x2048 [hAdam512x2048 : Cert.Adam512x2048.Facts] : Prop :=
  ∀ (m : (ℓ : Loc Cert.Adam512x2048.nD Cert.Adam512x2048.τ Cert.Adam512x2048.sig) → Buf (Elt Bits) ℓ) (g : Dev Cert.Adam512x2048.nD → PrngReg), Pre_Adam512x2048 m →
    θ_run (Cert.Adam512x2048.defs (F := Bits)) (onTc (τ := Cert.Adam512x2048.τ) (Cert.Adam512x2048.main (F := Bits))) ⟨m, fun _ => 0, g⟩ (fun r => (∀ c : Dev Cert.Adam512x2048.nD,
      r.2.mem ((c.tc : Thread Cert.Adam512x2048.nD Cert.Adam512x2048.τ).loc Cert.Adam512x2048.main_arg0) = m ((c.tc : Thread Cert.Adam512x2048.nD Cert.Adam512x2048.τ).loc Cert.Adam512x2048.main_arg0)
      ∧ r.2.mem ((c.tc : Thread Cert.Adam512x2048.nD Cert.Adam512x2048.τ).loc Cert.Adam512x2048.main_arg1) = m ((c.tc : Thread Cert.Adam512x2048.nD Cert.Adam512x2048.τ).loc Cert.Adam512x2048.main_arg1)
      ∧ r.2.mem ((c.tc : Thread Cert.Adam512x2048.nD Cert.Adam512x2048.τ).loc Cert.Adam512x2048.main_arg2) = m ((c.tc : Thread Cert.Adam512x2048.nD Cert.Adam512x2048.τ).loc Cert.Adam512x2048.main_arg2)
      ∧ r.2.mem ((c.tc : Thread Cert.Adam512x2048.nD Cert.Adam512x2048.τ).loc Cert.Adam512x2048.main_arg3) = m ((c.tc : Thread Cert.Adam512x2048.nD Cert.Adam512x2048.τ).loc Cert.Adam512x2048.main_arg3))
      ∧ r.2.sem = fun _ => 0)

def quiescent_Adam512x2048Ideal [hAdam512x2048Ideal : Cert.Adam512x2048Ideal.Facts] : Prop :=
  ∀ (m : (ℓ : Loc Cert.Adam512x2048Ideal.nD Cert.Adam512x2048Ideal.τ Cert.Adam512x2048Ideal.sig) → Buf (Elt Ideal) ℓ) (g : Dev Cert.Adam512x2048Ideal.nD → PrngReg), Pre_Adam512x2048Ideal m →
    θ_run (Cert.Adam512x2048Ideal.defs (F := Ideal)) (onTc (τ := Cert.Adam512x2048Ideal.τ) (Cert.Adam512x2048Ideal.main (F := Ideal))) ⟨m, fun _ => 0, g⟩ (fun r => (∀ c : Dev Cert.Adam512x2048Ideal.nD,
      r.2.mem ((c.tc : Thread Cert.Adam512x2048Ideal.nD Cert.Adam512x2048Ideal.τ).loc Cert.Adam512x2048Ideal.main_arg0) = m ((c.tc : Thread Cert.Adam512x2048Ideal.nD Cert.Adam512x2048Ideal.τ).loc Cert.Adam512x2048Ideal.main_arg0)
      ∧ r.2.mem ((c.tc : Thread Cert.Adam512x2048Ideal.nD Cert.Adam512x2048Ideal.τ).loc Cert.Adam512x2048Ideal.main_arg1) = m ((c.tc : Thread Cert.Adam512x2048Ideal.nD Cert.Adam512x2048Ideal.τ).loc Cert.Adam512x2048Ideal.main_arg1)
      ∧ r.2.mem ((c.tc : Thread Cert.Adam512x2048Ideal.nD Cert.Adam512x2048Ideal.τ).loc Cert.Adam512x2048Ideal.main_arg2) = m ((c.tc : Thread Cert.Adam512x2048Ideal.nD Cert.Adam512x2048Ideal.τ).loc Cert.Adam512x2048Ideal.main_arg2)
      ∧ r.2.mem ((c.tc : Thread Cert.Adam512x2048Ideal.nD Cert.Adam512x2048Ideal.τ).loc Cert.Adam512x2048Ideal.main_arg3) = m ((c.tc : Thread Cert.Adam512x2048Ideal.nD Cert.Adam512x2048Ideal.τ).loc Cert.Adam512x2048Ideal.main_arg3))
      ∧ r.2.sem = fun _ => 0)

def quiescent_Adam512x2048RefIdeal [hAdam512x2048RefIdeal : Cert.Adam512x2048RefIdeal.Facts] : Prop :=
  ∀ (m : (ℓ : Loc Cert.Adam512x2048RefIdeal.nD Cert.Adam512x2048RefIdeal.τ Cert.Adam512x2048RefIdeal.sig) → Buf (Elt Ideal) ℓ) (g : Dev Cert.Adam512x2048RefIdeal.nD → PrngReg), Pre_Adam512x2048RefIdeal m →
    θ_run (Cert.Adam512x2048RefIdeal.defs (F := Ideal)) (onTc (τ := Cert.Adam512x2048RefIdeal.τ) (Cert.Adam512x2048RefIdeal.main (F := Ideal))) ⟨m, fun _ => 0, g⟩ (fun r => (∀ c : Dev Cert.Adam512x2048RefIdeal.nD,
      r.2.mem ((c.tc : Thread Cert.Adam512x2048RefIdeal.nD Cert.Adam512x2048RefIdeal.τ).loc Cert.Adam512x2048RefIdeal.main_arg0) = m ((c.tc : Thread Cert.Adam512x2048RefIdeal.nD Cert.Adam512x2048RefIdeal.τ).loc Cert.Adam512x2048RefIdeal.main_arg0)
      ∧ r.2.mem ((c.tc : Thread Cert.Adam512x2048RefIdeal.nD Cert.Adam512x2048RefIdeal.τ).loc Cert.Adam512x2048RefIdeal.main_arg1) = m ((c.tc : Thread Cert.Adam512x2048RefIdeal.nD Cert.Adam512x2048RefIdeal.τ).loc Cert.Adam512x2048RefIdeal.main_arg1)
      ∧ r.2.mem ((c.tc : Thread Cert.Adam512x2048RefIdeal.nD Cert.Adam512x2048RefIdeal.τ).loc Cert.Adam512x2048RefIdeal.main_arg2) = m ((c.tc : Thread Cert.Adam512x2048RefIdeal.nD Cert.Adam512x2048RefIdeal.τ).loc Cert.Adam512x2048RefIdeal.main_arg2)
      ∧ r.2.mem ((c.tc : Thread Cert.Adam512x2048RefIdeal.nD Cert.Adam512x2048RefIdeal.τ).loc Cert.Adam512x2048RefIdeal.main_arg3) = m ((c.tc : Thread Cert.Adam512x2048RefIdeal.nD Cert.Adam512x2048RefIdeal.τ).loc Cert.Adam512x2048RefIdeal.main_arg3))
      ∧ r.2.sem = fun _ => 0)

def quiescent_Adam1024x4096 [hAdam1024x4096 : Cert.Adam1024x4096.Facts] : Prop :=
  ∀ (m : (ℓ : Loc Cert.Adam1024x4096.nD Cert.Adam1024x4096.τ Cert.Adam1024x4096.sig) → Buf (Elt Bits) ℓ) (g : Dev Cert.Adam1024x4096.nD → PrngReg), Pre_Adam1024x4096 m →
    θ_run (Cert.Adam1024x4096.defs (F := Bits)) (onTc (τ := Cert.Adam1024x4096.τ) (Cert.Adam1024x4096.main (F := Bits))) ⟨m, fun _ => 0, g⟩ (fun r => (∀ c : Dev Cert.Adam1024x4096.nD,
      r.2.mem ((c.tc : Thread Cert.Adam1024x4096.nD Cert.Adam1024x4096.τ).loc Cert.Adam1024x4096.main_arg0) = m ((c.tc : Thread Cert.Adam1024x4096.nD Cert.Adam1024x4096.τ).loc Cert.Adam1024x4096.main_arg0)
      ∧ r.2.mem ((c.tc : Thread Cert.Adam1024x4096.nD Cert.Adam1024x4096.τ).loc Cert.Adam1024x4096.main_arg1) = m ((c.tc : Thread Cert.Adam1024x4096.nD Cert.Adam1024x4096.τ).loc Cert.Adam1024x4096.main_arg1)
      ∧ r.2.mem ((c.tc : Thread Cert.Adam1024x4096.nD Cert.Adam1024x4096.τ).loc Cert.Adam1024x4096.main_arg2) = m ((c.tc : Thread Cert.Adam1024x4096.nD Cert.Adam1024x4096.τ).loc Cert.Adam1024x4096.main_arg2)
      ∧ r.2.mem ((c.tc : Thread Cert.Adam1024x4096.nD Cert.Adam1024x4096.τ).loc Cert.Adam1024x4096.main_arg3) = m ((c.tc : Thread Cert.Adam1024x4096.nD Cert.Adam1024x4096.τ).loc Cert.Adam1024x4096.main_arg3))
      ∧ r.2.sem = fun _ => 0)

def quiescent_Adam1024x4096Ideal [hAdam1024x4096Ideal : Cert.Adam1024x4096Ideal.Facts] : Prop :=
  ∀ (m : (ℓ : Loc Cert.Adam1024x4096Ideal.nD Cert.Adam1024x4096Ideal.τ Cert.Adam1024x4096Ideal.sig) → Buf (Elt Ideal) ℓ) (g : Dev Cert.Adam1024x4096Ideal.nD → PrngReg), Pre_Adam1024x4096Ideal m →
    θ_run (Cert.Adam1024x4096Ideal.defs (F := Ideal)) (onTc (τ := Cert.Adam1024x4096Ideal.τ) (Cert.Adam1024x4096Ideal.main (F := Ideal))) ⟨m, fun _ => 0, g⟩ (fun r => (∀ c : Dev Cert.Adam1024x4096Ideal.nD,
      r.2.mem ((c.tc : Thread Cert.Adam1024x4096Ideal.nD Cert.Adam1024x4096Ideal.τ).loc Cert.Adam1024x4096Ideal.main_arg0) = m ((c.tc : Thread Cert.Adam1024x4096Ideal.nD Cert.Adam1024x4096Ideal.τ).loc Cert.Adam1024x4096Ideal.main_arg0)
      ∧ r.2.mem ((c.tc : Thread Cert.Adam1024x4096Ideal.nD Cert.Adam1024x4096Ideal.τ).loc Cert.Adam1024x4096Ideal.main_arg1) = m ((c.tc : Thread Cert.Adam1024x4096Ideal.nD Cert.Adam1024x4096Ideal.τ).loc Cert.Adam1024x4096Ideal.main_arg1)
      ∧ r.2.mem ((c.tc : Thread Cert.Adam1024x4096Ideal.nD Cert.Adam1024x4096Ideal.τ).loc Cert.Adam1024x4096Ideal.main_arg2) = m ((c.tc : Thread Cert.Adam1024x4096Ideal.nD Cert.Adam1024x4096Ideal.τ).loc Cert.Adam1024x4096Ideal.main_arg2)
      ∧ r.2.mem ((c.tc : Thread Cert.Adam1024x4096Ideal.nD Cert.Adam1024x4096Ideal.τ).loc Cert.Adam1024x4096Ideal.main_arg3) = m ((c.tc : Thread Cert.Adam1024x4096Ideal.nD Cert.Adam1024x4096Ideal.τ).loc Cert.Adam1024x4096Ideal.main_arg3))
      ∧ r.2.sem = fun _ => 0)

def quiescent_Adam1024x4096RefIdeal [hAdam1024x4096RefIdeal : Cert.Adam1024x4096RefIdeal.Facts] : Prop :=
  ∀ (m : (ℓ : Loc Cert.Adam1024x4096RefIdeal.nD Cert.Adam1024x4096RefIdeal.τ Cert.Adam1024x4096RefIdeal.sig) → Buf (Elt Ideal) ℓ) (g : Dev Cert.Adam1024x4096RefIdeal.nD → PrngReg), Pre_Adam1024x4096RefIdeal m →
    θ_run (Cert.Adam1024x4096RefIdeal.defs (F := Ideal)) (onTc (τ := Cert.Adam1024x4096RefIdeal.τ) (Cert.Adam1024x4096RefIdeal.main (F := Ideal))) ⟨m, fun _ => 0, g⟩ (fun r => (∀ c : Dev Cert.Adam1024x4096RefIdeal.nD,
      r.2.mem ((c.tc : Thread Cert.Adam1024x4096RefIdeal.nD Cert.Adam1024x4096RefIdeal.τ).loc Cert.Adam1024x4096RefIdeal.main_arg0) = m ((c.tc : Thread Cert.Adam1024x4096RefIdeal.nD Cert.Adam1024x4096RefIdeal.τ).loc Cert.Adam1024x4096RefIdeal.main_arg0)
      ∧ r.2.mem ((c.tc : Thread Cert.Adam1024x4096RefIdeal.nD Cert.Adam1024x4096RefIdeal.τ).loc Cert.Adam1024x4096RefIdeal.main_arg1) = m ((c.tc : Thread Cert.Adam1024x4096RefIdeal.nD Cert.Adam1024x4096RefIdeal.τ).loc Cert.Adam1024x4096RefIdeal.main_arg1)
      ∧ r.2.mem ((c.tc : Thread Cert.Adam1024x4096RefIdeal.nD Cert.Adam1024x4096RefIdeal.τ).loc Cert.Adam1024x4096RefIdeal.main_arg2) = m ((c.tc : Thread Cert.Adam1024x4096RefIdeal.nD Cert.Adam1024x4096RefIdeal.τ).loc Cert.Adam1024x4096RefIdeal.main_arg2)
      ∧ r.2.mem ((c.tc : Thread Cert.Adam1024x4096RefIdeal.nD Cert.Adam1024x4096RefIdeal.τ).loc Cert.Adam1024x4096RefIdeal.main_arg3) = m ((c.tc : Thread Cert.Adam1024x4096RefIdeal.nD Cert.Adam1024x4096RefIdeal.τ).loc Cert.Adam1024x4096RefIdeal.main_arg3))
      ∧ r.2.sem = fun _ => 0)

def quiescent_Adam4096x4096 [hAdam4096x4096 : Cert.Adam4096x4096.Facts] : Prop :=
  ∀ (m : (ℓ : Loc Cert.Adam4096x4096.nD Cert.Adam4096x4096.τ Cert.Adam4096x4096.sig) → Buf (Elt Bits) ℓ) (g : Dev Cert.Adam4096x4096.nD → PrngReg), Pre_Adam4096x4096 m →
    θ_run (Cert.Adam4096x4096.defs (F := Bits)) (onTc (τ := Cert.Adam4096x4096.τ) (Cert.Adam4096x4096.main (F := Bits))) ⟨m, fun _ => 0, g⟩ (fun r => (∀ c : Dev Cert.Adam4096x4096.nD,
      r.2.mem ((c.tc : Thread Cert.Adam4096x4096.nD Cert.Adam4096x4096.τ).loc Cert.Adam4096x4096.main_arg0) = m ((c.tc : Thread Cert.Adam4096x4096.nD Cert.Adam4096x4096.τ).loc Cert.Adam4096x4096.main_arg0)
      ∧ r.2.mem ((c.tc : Thread Cert.Adam4096x4096.nD Cert.Adam4096x4096.τ).loc Cert.Adam4096x4096.main_arg1) = m ((c.tc : Thread Cert.Adam4096x4096.nD Cert.Adam4096x4096.τ).loc Cert.Adam4096x4096.main_arg1)
      ∧ r.2.mem ((c.tc : Thread Cert.Adam4096x4096.nD Cert.Adam4096x4096.τ).loc Cert.Adam4096x4096.main_arg2) = m ((c.tc : Thread Cert.Adam4096x4096.nD Cert.Adam4096x4096.τ).loc Cert.Adam4096x4096.main_arg2)
      ∧ r.2.mem ((c.tc : Thread Cert.Adam4096x4096.nD Cert.Adam4096x4096.τ).loc Cert.Adam4096x4096.main_arg3) = m ((c.tc : Thread Cert.Adam4096x4096.nD Cert.Adam4096x4096.τ).loc Cert.Adam4096x4096.main_arg3))
      ∧ r.2.sem = fun _ => 0)

def quiescent_Adam4096x4096Ideal [hAdam4096x4096Ideal : Cert.Adam4096x4096Ideal.Facts] : Prop :=
  ∀ (m : (ℓ : Loc Cert.Adam4096x4096Ideal.nD Cert.Adam4096x4096Ideal.τ Cert.Adam4096x4096Ideal.sig) → Buf (Elt Ideal) ℓ) (g : Dev Cert.Adam4096x4096Ideal.nD → PrngReg), Pre_Adam4096x4096Ideal m →
    θ_run (Cert.Adam4096x4096Ideal.defs (F := Ideal)) (onTc (τ := Cert.Adam4096x4096Ideal.τ) (Cert.Adam4096x4096Ideal.main (F := Ideal))) ⟨m, fun _ => 0, g⟩ (fun r => (∀ c : Dev Cert.Adam4096x4096Ideal.nD,
      r.2.mem ((c.tc : Thread Cert.Adam4096x4096Ideal.nD Cert.Adam4096x4096Ideal.τ).loc Cert.Adam4096x4096Ideal.main_arg0) = m ((c.tc : Thread Cert.Adam4096x4096Ideal.nD Cert.Adam4096x4096Ideal.τ).loc Cert.Adam4096x4096Ideal.main_arg0)
      ∧ r.2.mem ((c.tc : Thread Cert.Adam4096x4096Ideal.nD Cert.Adam4096x4096Ideal.τ).loc Cert.Adam4096x4096Ideal.main_arg1) = m ((c.tc : Thread Cert.Adam4096x4096Ideal.nD Cert.Adam4096x4096Ideal.τ).loc Cert.Adam4096x4096Ideal.main_arg1)
      ∧ r.2.mem ((c.tc : Thread Cert.Adam4096x4096Ideal.nD Cert.Adam4096x4096Ideal.τ).loc Cert.Adam4096x4096Ideal.main_arg2) = m ((c.tc : Thread Cert.Adam4096x4096Ideal.nD Cert.Adam4096x4096Ideal.τ).loc Cert.Adam4096x4096Ideal.main_arg2)
      ∧ r.2.mem ((c.tc : Thread Cert.Adam4096x4096Ideal.nD Cert.Adam4096x4096Ideal.τ).loc Cert.Adam4096x4096Ideal.main_arg3) = m ((c.tc : Thread Cert.Adam4096x4096Ideal.nD Cert.Adam4096x4096Ideal.τ).loc Cert.Adam4096x4096Ideal.main_arg3))
      ∧ r.2.sem = fun _ => 0)

def quiescent_Adam4096x4096RefIdeal [hAdam4096x4096RefIdeal : Cert.Adam4096x4096RefIdeal.Facts] : Prop :=
  ∀ (m : (ℓ : Loc Cert.Adam4096x4096RefIdeal.nD Cert.Adam4096x4096RefIdeal.τ Cert.Adam4096x4096RefIdeal.sig) → Buf (Elt Ideal) ℓ) (g : Dev Cert.Adam4096x4096RefIdeal.nD → PrngReg), Pre_Adam4096x4096RefIdeal m →
    θ_run (Cert.Adam4096x4096RefIdeal.defs (F := Ideal)) (onTc (τ := Cert.Adam4096x4096RefIdeal.τ) (Cert.Adam4096x4096RefIdeal.main (F := Ideal))) ⟨m, fun _ => 0, g⟩ (fun r => (∀ c : Dev Cert.Adam4096x4096RefIdeal.nD,
      r.2.mem ((c.tc : Thread Cert.Adam4096x4096RefIdeal.nD Cert.Adam4096x4096RefIdeal.τ).loc Cert.Adam4096x4096RefIdeal.main_arg0) = m ((c.tc : Thread Cert.Adam4096x4096RefIdeal.nD Cert.Adam4096x4096RefIdeal.τ).loc Cert.Adam4096x4096RefIdeal.main_arg0)
      ∧ r.2.mem ((c.tc : Thread Cert.Adam4096x4096RefIdeal.nD Cert.Adam4096x4096RefIdeal.τ).loc Cert.Adam4096x4096RefIdeal.main_arg1) = m ((c.tc : Thread Cert.Adam4096x4096RefIdeal.nD Cert.Adam4096x4096RefIdeal.τ).loc Cert.Adam4096x4096RefIdeal.main_arg1)
      ∧ r.2.mem ((c.tc : Thread Cert.Adam4096x4096RefIdeal.nD Cert.Adam4096x4096RefIdeal.τ).loc Cert.Adam4096x4096RefIdeal.main_arg2) = m ((c.tc : Thread Cert.Adam4096x4096RefIdeal.nD Cert.Adam4096x4096RefIdeal.τ).loc Cert.Adam4096x4096RefIdeal.main_arg2)
      ∧ r.2.mem ((c.tc : Thread Cert.Adam4096x4096RefIdeal.nD Cert.Adam4096x4096RefIdeal.τ).loc Cert.Adam4096x4096RefIdeal.main_arg3) = m ((c.tc : Thread Cert.Adam4096x4096RefIdeal.nD Cert.Adam4096x4096RefIdeal.τ).loc Cert.Adam4096x4096RefIdeal.main_arg3))
      ∧ r.2.sem = fun _ => 0)

def quiescent_Adam4096x3072 [hAdam4096x3072 : Cert.Adam4096x3072.Facts] : Prop :=
  ∀ (m : (ℓ : Loc Cert.Adam4096x3072.nD Cert.Adam4096x3072.τ Cert.Adam4096x3072.sig) → Buf (Elt Bits) ℓ) (g : Dev Cert.Adam4096x3072.nD → PrngReg), Pre_Adam4096x3072 m →
    θ_run (Cert.Adam4096x3072.defs (F := Bits)) (onTc (τ := Cert.Adam4096x3072.τ) (Cert.Adam4096x3072.main (F := Bits))) ⟨m, fun _ => 0, g⟩ (fun r => (∀ c : Dev Cert.Adam4096x3072.nD,
      r.2.mem ((c.tc : Thread Cert.Adam4096x3072.nD Cert.Adam4096x3072.τ).loc Cert.Adam4096x3072.main_arg0) = m ((c.tc : Thread Cert.Adam4096x3072.nD Cert.Adam4096x3072.τ).loc Cert.Adam4096x3072.main_arg0)
      ∧ r.2.mem ((c.tc : Thread Cert.Adam4096x3072.nD Cert.Adam4096x3072.τ).loc Cert.Adam4096x3072.main_arg1) = m ((c.tc : Thread Cert.Adam4096x3072.nD Cert.Adam4096x3072.τ).loc Cert.Adam4096x3072.main_arg1)
      ∧ r.2.mem ((c.tc : Thread Cert.Adam4096x3072.nD Cert.Adam4096x3072.τ).loc Cert.Adam4096x3072.main_arg2) = m ((c.tc : Thread Cert.Adam4096x3072.nD Cert.Adam4096x3072.τ).loc Cert.Adam4096x3072.main_arg2)
      ∧ r.2.mem ((c.tc : Thread Cert.Adam4096x3072.nD Cert.Adam4096x3072.τ).loc Cert.Adam4096x3072.main_arg3) = m ((c.tc : Thread Cert.Adam4096x3072.nD Cert.Adam4096x3072.τ).loc Cert.Adam4096x3072.main_arg3))
      ∧ r.2.sem = fun _ => 0)

def quiescent_Adam4096x3072Ideal [hAdam4096x3072Ideal : Cert.Adam4096x3072Ideal.Facts] : Prop :=
  ∀ (m : (ℓ : Loc Cert.Adam4096x3072Ideal.nD Cert.Adam4096x3072Ideal.τ Cert.Adam4096x3072Ideal.sig) → Buf (Elt Ideal) ℓ) (g : Dev Cert.Adam4096x3072Ideal.nD → PrngReg), Pre_Adam4096x3072Ideal m →
    θ_run (Cert.Adam4096x3072Ideal.defs (F := Ideal)) (onTc (τ := Cert.Adam4096x3072Ideal.τ) (Cert.Adam4096x3072Ideal.main (F := Ideal))) ⟨m, fun _ => 0, g⟩ (fun r => (∀ c : Dev Cert.Adam4096x3072Ideal.nD,
      r.2.mem ((c.tc : Thread Cert.Adam4096x3072Ideal.nD Cert.Adam4096x3072Ideal.τ).loc Cert.Adam4096x3072Ideal.main_arg0) = m ((c.tc : Thread Cert.Adam4096x3072Ideal.nD Cert.Adam4096x3072Ideal.τ).loc Cert.Adam4096x3072Ideal.main_arg0)
      ∧ r.2.mem ((c.tc : Thread Cert.Adam4096x3072Ideal.nD Cert.Adam4096x3072Ideal.τ).loc Cert.Adam4096x3072Ideal.main_arg1) = m ((c.tc : Thread Cert.Adam4096x3072Ideal.nD Cert.Adam4096x3072Ideal.τ).loc Cert.Adam4096x3072Ideal.main_arg1)
      ∧ r.2.mem ((c.tc : Thread Cert.Adam4096x3072Ideal.nD Cert.Adam4096x3072Ideal.τ).loc Cert.Adam4096x3072Ideal.main_arg2) = m ((c.tc : Thread Cert.Adam4096x3072Ideal.nD Cert.Adam4096x3072Ideal.τ).loc Cert.Adam4096x3072Ideal.main_arg2)
      ∧ r.2.mem ((c.tc : Thread Cert.Adam4096x3072Ideal.nD Cert.Adam4096x3072Ideal.τ).loc Cert.Adam4096x3072Ideal.main_arg3) = m ((c.tc : Thread Cert.Adam4096x3072Ideal.nD Cert.Adam4096x3072Ideal.τ).loc Cert.Adam4096x3072Ideal.main_arg3))
      ∧ r.2.sem = fun _ => 0)

def quiescent_Adam4096x3072RefIdeal [hAdam4096x3072RefIdeal : Cert.Adam4096x3072RefIdeal.Facts] : Prop :=
  ∀ (m : (ℓ : Loc Cert.Adam4096x3072RefIdeal.nD Cert.Adam4096x3072RefIdeal.τ Cert.Adam4096x3072RefIdeal.sig) → Buf (Elt Ideal) ℓ) (g : Dev Cert.Adam4096x3072RefIdeal.nD → PrngReg), Pre_Adam4096x3072RefIdeal m →
    θ_run (Cert.Adam4096x3072RefIdeal.defs (F := Ideal)) (onTc (τ := Cert.Adam4096x3072RefIdeal.τ) (Cert.Adam4096x3072RefIdeal.main (F := Ideal))) ⟨m, fun _ => 0, g⟩ (fun r => (∀ c : Dev Cert.Adam4096x3072RefIdeal.nD,
      r.2.mem ((c.tc : Thread Cert.Adam4096x3072RefIdeal.nD Cert.Adam4096x3072RefIdeal.τ).loc Cert.Adam4096x3072RefIdeal.main_arg0) = m ((c.tc : Thread Cert.Adam4096x3072RefIdeal.nD Cert.Adam4096x3072RefIdeal.τ).loc Cert.Adam4096x3072RefIdeal.main_arg0)
      ∧ r.2.mem ((c.tc : Thread Cert.Adam4096x3072RefIdeal.nD Cert.Adam4096x3072RefIdeal.τ).loc Cert.Adam4096x3072RefIdeal.main_arg1) = m ((c.tc : Thread Cert.Adam4096x3072RefIdeal.nD Cert.Adam4096x3072RefIdeal.τ).loc Cert.Adam4096x3072RefIdeal.main_arg1)
      ∧ r.2.mem ((c.tc : Thread Cert.Adam4096x3072RefIdeal.nD Cert.Adam4096x3072RefIdeal.τ).loc Cert.Adam4096x3072RefIdeal.main_arg2) = m ((c.tc : Thread Cert.Adam4096x3072RefIdeal.nD Cert.Adam4096x3072RefIdeal.τ).loc Cert.Adam4096x3072RefIdeal.main_arg2)
      ∧ r.2.mem ((c.tc : Thread Cert.Adam4096x3072RefIdeal.nD Cert.Adam4096x3072RefIdeal.τ).loc Cert.Adam4096x3072RefIdeal.main_arg3) = m ((c.tc : Thread Cert.Adam4096x3072RefIdeal.nD Cert.Adam4096x3072RefIdeal.τ).loc Cert.Adam4096x3072RefIdeal.main_arg3))
      ∧ r.2.sem = fun _ => 0)

def quiescent_Adam1616x128 [hAdam1616x128 : Cert.Adam1616x128.Facts] : Prop :=
  ∀ (m : (ℓ : Loc Cert.Adam1616x128.nD Cert.Adam1616x128.τ Cert.Adam1616x128.sig) → Buf (Elt Bits) ℓ) (g : Dev Cert.Adam1616x128.nD → PrngReg), Pre_Adam1616x128 m →
    θ_run (Cert.Adam1616x128.defs (F := Bits)) (onTc (τ := Cert.Adam1616x128.τ) (Cert.Adam1616x128.main (F := Bits))) ⟨m, fun _ => 0, g⟩ (fun r => (∀ c : Dev Cert.Adam1616x128.nD,
      r.2.mem ((c.tc : Thread Cert.Adam1616x128.nD Cert.Adam1616x128.τ).loc Cert.Adam1616x128.main_arg0) = m ((c.tc : Thread Cert.Adam1616x128.nD Cert.Adam1616x128.τ).loc Cert.Adam1616x128.main_arg0)
      ∧ r.2.mem ((c.tc : Thread Cert.Adam1616x128.nD Cert.Adam1616x128.τ).loc Cert.Adam1616x128.main_arg1) = m ((c.tc : Thread Cert.Adam1616x128.nD Cert.Adam1616x128.τ).loc Cert.Adam1616x128.main_arg1)
      ∧ r.2.mem ((c.tc : Thread Cert.Adam1616x128.nD Cert.Adam1616x128.τ).loc Cert.Adam1616x128.main_arg2) = m ((c.tc : Thread Cert.Adam1616x128.nD Cert.Adam1616x128.τ).loc Cert.Adam1616x128.main_arg2)
      ∧ r.2.mem ((c.tc : Thread Cert.Adam1616x128.nD Cert.Adam1616x128.τ).loc Cert.Adam1616x128.main_arg3) = m ((c.tc : Thread Cert.Adam1616x128.nD Cert.Adam1616x128.τ).loc Cert.Adam1616x128.main_arg3))
      ∧ r.2.sem = fun _ => 0)

def quiescent_Adam1616x128Ideal [hAdam1616x128Ideal : Cert.Adam1616x128Ideal.Facts] : Prop :=
  ∀ (m : (ℓ : Loc Cert.Adam1616x128Ideal.nD Cert.Adam1616x128Ideal.τ Cert.Adam1616x128Ideal.sig) → Buf (Elt Ideal) ℓ) (g : Dev Cert.Adam1616x128Ideal.nD → PrngReg), Pre_Adam1616x128Ideal m →
    θ_run (Cert.Adam1616x128Ideal.defs (F := Ideal)) (onTc (τ := Cert.Adam1616x128Ideal.τ) (Cert.Adam1616x128Ideal.main (F := Ideal))) ⟨m, fun _ => 0, g⟩ (fun r => (∀ c : Dev Cert.Adam1616x128Ideal.nD,
      r.2.mem ((c.tc : Thread Cert.Adam1616x128Ideal.nD Cert.Adam1616x128Ideal.τ).loc Cert.Adam1616x128Ideal.main_arg0) = m ((c.tc : Thread Cert.Adam1616x128Ideal.nD Cert.Adam1616x128Ideal.τ).loc Cert.Adam1616x128Ideal.main_arg0)
      ∧ r.2.mem ((c.tc : Thread Cert.Adam1616x128Ideal.nD Cert.Adam1616x128Ideal.τ).loc Cert.Adam1616x128Ideal.main_arg1) = m ((c.tc : Thread Cert.Adam1616x128Ideal.nD Cert.Adam1616x128Ideal.τ).loc Cert.Adam1616x128Ideal.main_arg1)
      ∧ r.2.mem ((c.tc : Thread Cert.Adam1616x128Ideal.nD Cert.Adam1616x128Ideal.τ).loc Cert.Adam1616x128Ideal.main_arg2) = m ((c.tc : Thread Cert.Adam1616x128Ideal.nD Cert.Adam1616x128Ideal.τ).loc Cert.Adam1616x128Ideal.main_arg2)
      ∧ r.2.mem ((c.tc : Thread Cert.Adam1616x128Ideal.nD Cert.Adam1616x128Ideal.τ).loc Cert.Adam1616x128Ideal.main_arg3) = m ((c.tc : Thread Cert.Adam1616x128Ideal.nD Cert.Adam1616x128Ideal.τ).loc Cert.Adam1616x128Ideal.main_arg3))
      ∧ r.2.sem = fun _ => 0)

def quiescent_Adam1616x128RefIdeal [hAdam1616x128RefIdeal : Cert.Adam1616x128RefIdeal.Facts] : Prop :=
  ∀ (m : (ℓ : Loc Cert.Adam1616x128RefIdeal.nD Cert.Adam1616x128RefIdeal.τ Cert.Adam1616x128RefIdeal.sig) → Buf (Elt Ideal) ℓ) (g : Dev Cert.Adam1616x128RefIdeal.nD → PrngReg), Pre_Adam1616x128RefIdeal m →
    θ_run (Cert.Adam1616x128RefIdeal.defs (F := Ideal)) (onTc (τ := Cert.Adam1616x128RefIdeal.τ) (Cert.Adam1616x128RefIdeal.main (F := Ideal))) ⟨m, fun _ => 0, g⟩ (fun r => (∀ c : Dev Cert.Adam1616x128RefIdeal.nD,
      r.2.mem ((c.tc : Thread Cert.Adam1616x128RefIdeal.nD Cert.Adam1616x128RefIdeal.τ).loc Cert.Adam1616x128RefIdeal.main_arg0) = m ((c.tc : Thread Cert.Adam1616x128RefIdeal.nD Cert.Adam1616x128RefIdeal.τ).loc Cert.Adam1616x128RefIdeal.main_arg0)
      ∧ r.2.mem ((c.tc : Thread Cert.Adam1616x128RefIdeal.nD Cert.Adam1616x128RefIdeal.τ).loc Cert.Adam1616x128RefIdeal.main_arg1) = m ((c.tc : Thread Cert.Adam1616x128RefIdeal.nD Cert.Adam1616x128RefIdeal.τ).loc Cert.Adam1616x128RefIdeal.main_arg1)
      ∧ r.2.mem ((c.tc : Thread Cert.Adam1616x128RefIdeal.nD Cert.Adam1616x128RefIdeal.τ).loc Cert.Adam1616x128RefIdeal.main_arg2) = m ((c.tc : Thread Cert.Adam1616x128RefIdeal.nD Cert.Adam1616x128RefIdeal.τ).loc Cert.Adam1616x128RefIdeal.main_arg2)
      ∧ r.2.mem ((c.tc : Thread Cert.Adam1616x128RefIdeal.nD Cert.Adam1616x128RefIdeal.τ).loc Cert.Adam1616x128RefIdeal.main_arg3) = m ((c.tc : Thread Cert.Adam1616x128RefIdeal.nD Cert.Adam1616x128RefIdeal.τ).loc Cert.Adam1616x128RefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Pair8192x1424 [hPair8192x1424 : Cert.Pair8192x1424.Facts] : Prop :=
  ∀ (m : (ℓ : Loc Cert.Pair8192x1424.nD Cert.Pair8192x1424.τ Cert.Pair8192x1424.sig) → Buf (Elt Bits) ℓ) (g : Dev Cert.Pair8192x1424.nD → PrngReg), Pre_Pair8192x1424 m →
    θ_run (Cert.Pair8192x1424.defs (F := Bits)) (onTc (τ := Cert.Pair8192x1424.τ) (Cert.Pair8192x1424.main (F := Bits))) ⟨m, fun _ => 0, g⟩ (fun r => (∀ c : Dev Cert.Pair8192x1424.nD,
      r.2.mem ((c.tc : Thread Cert.Pair8192x1424.nD Cert.Pair8192x1424.τ).loc Cert.Pair8192x1424.main_arg0) = m ((c.tc : Thread Cert.Pair8192x1424.nD Cert.Pair8192x1424.τ).loc Cert.Pair8192x1424.main_arg0)
      ∧ r.2.mem ((c.tc : Thread Cert.Pair8192x1424.nD Cert.Pair8192x1424.τ).loc Cert.Pair8192x1424.main_arg1) = m ((c.tc : Thread Cert.Pair8192x1424.nD Cert.Pair8192x1424.τ).loc Cert.Pair8192x1424.main_arg1))
      ∧ r.2.sem = fun _ => 0)

def quiescent_Pair8192x1424Ideal [hPair8192x1424Ideal : Cert.Pair8192x1424Ideal.Facts] : Prop :=
  ∀ (m : (ℓ : Loc Cert.Pair8192x1424Ideal.nD Cert.Pair8192x1424Ideal.τ Cert.Pair8192x1424Ideal.sig) → Buf (Elt Ideal) ℓ) (g : Dev Cert.Pair8192x1424Ideal.nD → PrngReg), Pre_Pair8192x1424Ideal m →
    θ_run (Cert.Pair8192x1424Ideal.defs (F := Ideal)) (onTc (τ := Cert.Pair8192x1424Ideal.τ) (Cert.Pair8192x1424Ideal.main (F := Ideal))) ⟨m, fun _ => 0, g⟩ (fun r => (∀ c : Dev Cert.Pair8192x1424Ideal.nD,
      r.2.mem ((c.tc : Thread Cert.Pair8192x1424Ideal.nD Cert.Pair8192x1424Ideal.τ).loc Cert.Pair8192x1424Ideal.main_arg0) = m ((c.tc : Thread Cert.Pair8192x1424Ideal.nD Cert.Pair8192x1424Ideal.τ).loc Cert.Pair8192x1424Ideal.main_arg0)
      ∧ r.2.mem ((c.tc : Thread Cert.Pair8192x1424Ideal.nD Cert.Pair8192x1424Ideal.τ).loc Cert.Pair8192x1424Ideal.main_arg1) = m ((c.tc : Thread Cert.Pair8192x1424Ideal.nD Cert.Pair8192x1424Ideal.τ).loc Cert.Pair8192x1424Ideal.main_arg1))
      ∧ r.2.sem = fun _ => 0)

def quiescent_Pair8192x1424RefIdeal [hPair8192x1424RefIdeal : Cert.Pair8192x1424RefIdeal.Facts] : Prop :=
  ∀ (m : (ℓ : Loc Cert.Pair8192x1424RefIdeal.nD Cert.Pair8192x1424RefIdeal.τ Cert.Pair8192x1424RefIdeal.sig) → Buf (Elt Ideal) ℓ) (g : Dev Cert.Pair8192x1424RefIdeal.nD → PrngReg), Pre_Pair8192x1424RefIdeal m →
    θ_run (Cert.Pair8192x1424RefIdeal.defs (F := Ideal)) (onTc (τ := Cert.Pair8192x1424RefIdeal.τ) (Cert.Pair8192x1424RefIdeal.main (F := Ideal))) ⟨m, fun _ => 0, g⟩ (fun r => (∀ c : Dev Cert.Pair8192x1424RefIdeal.nD,
      r.2.mem ((c.tc : Thread Cert.Pair8192x1424RefIdeal.nD Cert.Pair8192x1424RefIdeal.τ).loc Cert.Pair8192x1424RefIdeal.main_arg0) = m ((c.tc : Thread Cert.Pair8192x1424RefIdeal.nD Cert.Pair8192x1424RefIdeal.τ).loc Cert.Pair8192x1424RefIdeal.main_arg0)
      ∧ r.2.mem ((c.tc : Thread Cert.Pair8192x1424RefIdeal.nD Cert.Pair8192x1424RefIdeal.τ).loc Cert.Pair8192x1424RefIdeal.main_arg1) = m ((c.tc : Thread Cert.Pair8192x1424RefIdeal.nD Cert.Pair8192x1424RefIdeal.τ).loc Cert.Pair8192x1424RefIdeal.main_arg1))
      ∧ r.2.sem = fun _ => 0)

def quiescent_Pair8192x1424Ref [hPair8192x1424Ref : Cert.Pair8192x1424Ref.Facts] : Prop :=
  ∀ (m : (ℓ : Loc Cert.Pair8192x1424Ref.nD Cert.Pair8192x1424Ref.τ Cert.Pair8192x1424Ref.sig) → Buf (Elt Bits) ℓ) (g : Dev Cert.Pair8192x1424Ref.nD → PrngReg), Pre_Pair8192x1424Ref m →
    θ_run (Cert.Pair8192x1424Ref.defs (F := Bits)) (onTc (τ := Cert.Pair8192x1424Ref.τ) (Cert.Pair8192x1424Ref.main (F := Bits))) ⟨m, fun _ => 0, g⟩ (fun r => (∀ c : Dev Cert.Pair8192x1424Ref.nD,
      r.2.mem ((c.tc : Thread Cert.Pair8192x1424Ref.nD Cert.Pair8192x1424Ref.τ).loc Cert.Pair8192x1424Ref.main_arg0) = m ((c.tc : Thread Cert.Pair8192x1424Ref.nD Cert.Pair8192x1424Ref.τ).loc Cert.Pair8192x1424Ref.main_arg0)
      ∧ r.2.mem ((c.tc : Thread Cert.Pair8192x1424Ref.nD Cert.Pair8192x1424Ref.τ).loc Cert.Pair8192x1424Ref.main_arg1) = m ((c.tc : Thread Cert.Pair8192x1424Ref.nD Cert.Pair8192x1424Ref.τ).loc Cert.Pair8192x1424Ref.main_arg1))
      ∧ r.2.sem = fun _ => 0)

def quiescent_Chip2048x1424 [hChip2048x1424 : Cert.Chip2048x1424.Facts] : Prop :=
  ∀ (m : (ℓ : Loc Cert.Chip2048x1424.nD Cert.Chip2048x1424.τ Cert.Chip2048x1424.sig) → Buf (Elt Bits) ℓ) (g : Dev Cert.Chip2048x1424.nD → PrngReg), Pre_Chip2048x1424 m →
    θ_run (Cert.Chip2048x1424.defs (F := Bits)) (onTc (τ := Cert.Chip2048x1424.τ) (Cert.Chip2048x1424.main (F := Bits))) ⟨m, fun _ => 0, g⟩ (fun r => (∀ c : Dev Cert.Chip2048x1424.nD,
      r.2.mem ((c.tc : Thread Cert.Chip2048x1424.nD Cert.Chip2048x1424.τ).loc Cert.Chip2048x1424.main_arg0) = m ((c.tc : Thread Cert.Chip2048x1424.nD Cert.Chip2048x1424.τ).loc Cert.Chip2048x1424.main_arg0))
      ∧ r.2.sem = fun _ => 0)

def quiescent_Chip2048x1424Ideal [hChip2048x1424Ideal : Cert.Chip2048x1424Ideal.Facts] : Prop :=
  ∀ (m : (ℓ : Loc Cert.Chip2048x1424Ideal.nD Cert.Chip2048x1424Ideal.τ Cert.Chip2048x1424Ideal.sig) → Buf (Elt Ideal) ℓ) (g : Dev Cert.Chip2048x1424Ideal.nD → PrngReg), Pre_Chip2048x1424Ideal m →
    θ_run (Cert.Chip2048x1424Ideal.defs (F := Ideal)) (onTc (τ := Cert.Chip2048x1424Ideal.τ) (Cert.Chip2048x1424Ideal.main (F := Ideal))) ⟨m, fun _ => 0, g⟩ (fun r => (∀ c : Dev Cert.Chip2048x1424Ideal.nD,
      r.2.mem ((c.tc : Thread Cert.Chip2048x1424Ideal.nD Cert.Chip2048x1424Ideal.τ).loc Cert.Chip2048x1424Ideal.main_arg0) = m ((c.tc : Thread Cert.Chip2048x1424Ideal.nD Cert.Chip2048x1424Ideal.τ).loc Cert.Chip2048x1424Ideal.main_arg0))
      ∧ r.2.sem = fun _ => 0)

def quiescent_Chip2048x1424RefIdeal [hChip2048x1424RefIdeal : Cert.Chip2048x1424RefIdeal.Facts] : Prop :=
  ∀ (m : (ℓ : Loc Cert.Chip2048x1424RefIdeal.nD Cert.Chip2048x1424RefIdeal.τ Cert.Chip2048x1424RefIdeal.sig) → Buf (Elt Ideal) ℓ) (g : Dev Cert.Chip2048x1424RefIdeal.nD → PrngReg), Pre_Chip2048x1424RefIdeal m →
    θ_run (Cert.Chip2048x1424RefIdeal.defs (F := Ideal)) (onTc (τ := Cert.Chip2048x1424RefIdeal.τ) (Cert.Chip2048x1424RefIdeal.main (F := Ideal))) ⟨m, fun _ => 0, g⟩ (fun r => (∀ c : Dev Cert.Chip2048x1424RefIdeal.nD,
      r.2.mem ((c.tc : Thread Cert.Chip2048x1424RefIdeal.nD Cert.Chip2048x1424RefIdeal.τ).loc Cert.Chip2048x1424RefIdeal.main_arg0) = m ((c.tc : Thread Cert.Chip2048x1424RefIdeal.nD Cert.Chip2048x1424RefIdeal.τ).loc Cert.Chip2048x1424RefIdeal.main_arg0))
      ∧ r.2.sem = fun _ => 0)

def quiescent_Pair2048x1536 [hPair2048x1536 : Cert.Pair2048x1536.Facts] : Prop :=
  ∀ (m : (ℓ : Loc Cert.Pair2048x1536.nD Cert.Pair2048x1536.τ Cert.Pair2048x1536.sig) → Buf (Elt Bits) ℓ) (g : Dev Cert.Pair2048x1536.nD → PrngReg), Pre_Pair2048x1536 m →
    θ_run (Cert.Pair2048x1536.defs (F := Bits)) (onTc (τ := Cert.Pair2048x1536.τ) (Cert.Pair2048x1536.main (F := Bits))) ⟨m, fun _ => 0, g⟩ (fun r => (∀ c : Dev Cert.Pair2048x1536.nD,
      r.2.mem ((c.tc : Thread Cert.Pair2048x1536.nD Cert.Pair2048x1536.τ).loc Cert.Pair2048x1536.main_arg0) = m ((c.tc : Thread Cert.Pair2048x1536.nD Cert.Pair2048x1536.τ).loc Cert.Pair2048x1536.main_arg0)
      ∧ r.2.mem ((c.tc : Thread Cert.Pair2048x1536.nD Cert.Pair2048x1536.τ).loc Cert.Pair2048x1536.main_arg1) = m ((c.tc : Thread Cert.Pair2048x1536.nD Cert.Pair2048x1536.τ).loc Cert.Pair2048x1536.main_arg1))
      ∧ r.2.sem = fun _ => 0)

def quiescent_Pair2048x1536Ideal [hPair2048x1536Ideal : Cert.Pair2048x1536Ideal.Facts] : Prop :=
  ∀ (m : (ℓ : Loc Cert.Pair2048x1536Ideal.nD Cert.Pair2048x1536Ideal.τ Cert.Pair2048x1536Ideal.sig) → Buf (Elt Ideal) ℓ) (g : Dev Cert.Pair2048x1536Ideal.nD → PrngReg), Pre_Pair2048x1536Ideal m →
    θ_run (Cert.Pair2048x1536Ideal.defs (F := Ideal)) (onTc (τ := Cert.Pair2048x1536Ideal.τ) (Cert.Pair2048x1536Ideal.main (F := Ideal))) ⟨m, fun _ => 0, g⟩ (fun r => (∀ c : Dev Cert.Pair2048x1536Ideal.nD,
      r.2.mem ((c.tc : Thread Cert.Pair2048x1536Ideal.nD Cert.Pair2048x1536Ideal.τ).loc Cert.Pair2048x1536Ideal.main_arg0) = m ((c.tc : Thread Cert.Pair2048x1536Ideal.nD Cert.Pair2048x1536Ideal.τ).loc Cert.Pair2048x1536Ideal.main_arg0)
      ∧ r.2.mem ((c.tc : Thread Cert.Pair2048x1536Ideal.nD Cert.Pair2048x1536Ideal.τ).loc Cert.Pair2048x1536Ideal.main_arg1) = m ((c.tc : Thread Cert.Pair2048x1536Ideal.nD Cert.Pair2048x1536Ideal.τ).loc Cert.Pair2048x1536Ideal.main_arg1))
      ∧ r.2.sem = fun _ => 0)

def quiescent_Pair2048x1536RefIdeal [hPair2048x1536RefIdeal : Cert.Pair2048x1536RefIdeal.Facts] : Prop :=
  ∀ (m : (ℓ : Loc Cert.Pair2048x1536RefIdeal.nD Cert.Pair2048x1536RefIdeal.τ Cert.Pair2048x1536RefIdeal.sig) → Buf (Elt Ideal) ℓ) (g : Dev Cert.Pair2048x1536RefIdeal.nD → PrngReg), Pre_Pair2048x1536RefIdeal m →
    θ_run (Cert.Pair2048x1536RefIdeal.defs (F := Ideal)) (onTc (τ := Cert.Pair2048x1536RefIdeal.τ) (Cert.Pair2048x1536RefIdeal.main (F := Ideal))) ⟨m, fun _ => 0, g⟩ (fun r => (∀ c : Dev Cert.Pair2048x1536RefIdeal.nD,
      r.2.mem ((c.tc : Thread Cert.Pair2048x1536RefIdeal.nD Cert.Pair2048x1536RefIdeal.τ).loc Cert.Pair2048x1536RefIdeal.main_arg0) = m ((c.tc : Thread Cert.Pair2048x1536RefIdeal.nD Cert.Pair2048x1536RefIdeal.τ).loc Cert.Pair2048x1536RefIdeal.main_arg0)
      ∧ r.2.mem ((c.tc : Thread Cert.Pair2048x1536RefIdeal.nD Cert.Pair2048x1536RefIdeal.τ).loc Cert.Pair2048x1536RefIdeal.main_arg1) = m ((c.tc : Thread Cert.Pair2048x1536RefIdeal.nD Cert.Pair2048x1536RefIdeal.τ).loc Cert.Pair2048x1536RefIdeal.main_arg1))
      ∧ r.2.sem = fun _ => 0)

def quiescent_Pair2048x1536Ref [hPair2048x1536Ref : Cert.Pair2048x1536Ref.Facts] : Prop :=
  ∀ (m : (ℓ : Loc Cert.Pair2048x1536Ref.nD Cert.Pair2048x1536Ref.τ Cert.Pair2048x1536Ref.sig) → Buf (Elt Bits) ℓ) (g : Dev Cert.Pair2048x1536Ref.nD → PrngReg), Pre_Pair2048x1536Ref m →
    θ_run (Cert.Pair2048x1536Ref.defs (F := Bits)) (onTc (τ := Cert.Pair2048x1536Ref.τ) (Cert.Pair2048x1536Ref.main (F := Bits))) ⟨m, fun _ => 0, g⟩ (fun r => (∀ c : Dev Cert.Pair2048x1536Ref.nD,
      r.2.mem ((c.tc : Thread Cert.Pair2048x1536Ref.nD Cert.Pair2048x1536Ref.τ).loc Cert.Pair2048x1536Ref.main_arg0) = m ((c.tc : Thread Cert.Pair2048x1536Ref.nD Cert.Pair2048x1536Ref.τ).loc Cert.Pair2048x1536Ref.main_arg0)
      ∧ r.2.mem ((c.tc : Thread Cert.Pair2048x1536Ref.nD Cert.Pair2048x1536Ref.τ).loc Cert.Pair2048x1536Ref.main_arg1) = m ((c.tc : Thread Cert.Pair2048x1536Ref.nD Cert.Pair2048x1536Ref.τ).loc Cert.Pair2048x1536Ref.main_arg1))
      ∧ r.2.sem = fun _ => 0)

def quiescent_Chip512x1536 [hChip512x1536 : Cert.Chip512x1536.Facts] : Prop :=
  ∀ (m : (ℓ : Loc Cert.Chip512x1536.nD Cert.Chip512x1536.τ Cert.Chip512x1536.sig) → Buf (Elt Bits) ℓ) (g : Dev Cert.Chip512x1536.nD → PrngReg), Pre_Chip512x1536 m →
    θ_run (Cert.Chip512x1536.defs (F := Bits)) (onTc (τ := Cert.Chip512x1536.τ) (Cert.Chip512x1536.main (F := Bits))) ⟨m, fun _ => 0, g⟩ (fun r => (∀ c : Dev Cert.Chip512x1536.nD,
      r.2.mem ((c.tc : Thread Cert.Chip512x1536.nD Cert.Chip512x1536.τ).loc Cert.Chip512x1536.main_arg0) = m ((c.tc : Thread Cert.Chip512x1536.nD Cert.Chip512x1536.τ).loc Cert.Chip512x1536.main_arg0))
      ∧ r.2.sem = fun _ => 0)

def quiescent_Chip512x1536Ideal [hChip512x1536Ideal : Cert.Chip512x1536Ideal.Facts] : Prop :=
  ∀ (m : (ℓ : Loc Cert.Chip512x1536Ideal.nD Cert.Chip512x1536Ideal.τ Cert.Chip512x1536Ideal.sig) → Buf (Elt Ideal) ℓ) (g : Dev Cert.Chip512x1536Ideal.nD → PrngReg), Pre_Chip512x1536Ideal m →
    θ_run (Cert.Chip512x1536Ideal.defs (F := Ideal)) (onTc (τ := Cert.Chip512x1536Ideal.τ) (Cert.Chip512x1536Ideal.main (F := Ideal))) ⟨m, fun _ => 0, g⟩ (fun r => (∀ c : Dev Cert.Chip512x1536Ideal.nD,
      r.2.mem ((c.tc : Thread Cert.Chip512x1536Ideal.nD Cert.Chip512x1536Ideal.τ).loc Cert.Chip512x1536Ideal.main_arg0) = m ((c.tc : Thread Cert.Chip512x1536Ideal.nD Cert.Chip512x1536Ideal.τ).loc Cert.Chip512x1536Ideal.main_arg0))
      ∧ r.2.sem = fun _ => 0)

def quiescent_Chip512x1536RefIdeal [hChip512x1536RefIdeal : Cert.Chip512x1536RefIdeal.Facts] : Prop :=
  ∀ (m : (ℓ : Loc Cert.Chip512x1536RefIdeal.nD Cert.Chip512x1536RefIdeal.τ Cert.Chip512x1536RefIdeal.sig) → Buf (Elt Ideal) ℓ) (g : Dev Cert.Chip512x1536RefIdeal.nD → PrngReg), Pre_Chip512x1536RefIdeal m →
    θ_run (Cert.Chip512x1536RefIdeal.defs (F := Ideal)) (onTc (τ := Cert.Chip512x1536RefIdeal.τ) (Cert.Chip512x1536RefIdeal.main (F := Ideal))) ⟨m, fun _ => 0, g⟩ (fun r => (∀ c : Dev Cert.Chip512x1536RefIdeal.nD,
      r.2.mem ((c.tc : Thread Cert.Chip512x1536RefIdeal.nD Cert.Chip512x1536RefIdeal.τ).loc Cert.Chip512x1536RefIdeal.main_arg0) = m ((c.tc : Thread Cert.Chip512x1536RefIdeal.nD Cert.Chip512x1536RefIdeal.τ).loc Cert.Chip512x1536RefIdeal.main_arg0))
      ∧ r.2.sem = fun _ => 0)

def quiescent_Pair1024x2048 [hPair1024x2048 : Cert.Pair1024x2048.Facts] : Prop :=
  ∀ (m : (ℓ : Loc Cert.Pair1024x2048.nD Cert.Pair1024x2048.τ Cert.Pair1024x2048.sig) → Buf (Elt Bits) ℓ) (g : Dev Cert.Pair1024x2048.nD → PrngReg), Pre_Pair1024x2048 m →
    θ_run (Cert.Pair1024x2048.defs (F := Bits)) (onTc (τ := Cert.Pair1024x2048.τ) (Cert.Pair1024x2048.main (F := Bits))) ⟨m, fun _ => 0, g⟩ (fun r => (∀ c : Dev Cert.Pair1024x2048.nD,
      r.2.mem ((c.tc : Thread Cert.Pair1024x2048.nD Cert.Pair1024x2048.τ).loc Cert.Pair1024x2048.main_arg0) = m ((c.tc : Thread Cert.Pair1024x2048.nD Cert.Pair1024x2048.τ).loc Cert.Pair1024x2048.main_arg0)
      ∧ r.2.mem ((c.tc : Thread Cert.Pair1024x2048.nD Cert.Pair1024x2048.τ).loc Cert.Pair1024x2048.main_arg1) = m ((c.tc : Thread Cert.Pair1024x2048.nD Cert.Pair1024x2048.τ).loc Cert.Pair1024x2048.main_arg1))
      ∧ r.2.sem = fun _ => 0)

def quiescent_Pair1024x2048Ideal [hPair1024x2048Ideal : Cert.Pair1024x2048Ideal.Facts] : Prop :=
  ∀ (m : (ℓ : Loc Cert.Pair1024x2048Ideal.nD Cert.Pair1024x2048Ideal.τ Cert.Pair1024x2048Ideal.sig) → Buf (Elt Ideal) ℓ) (g : Dev Cert.Pair1024x2048Ideal.nD → PrngReg), Pre_Pair1024x2048Ideal m →
    θ_run (Cert.Pair1024x2048Ideal.defs (F := Ideal)) (onTc (τ := Cert.Pair1024x2048Ideal.τ) (Cert.Pair1024x2048Ideal.main (F := Ideal))) ⟨m, fun _ => 0, g⟩ (fun r => (∀ c : Dev Cert.Pair1024x2048Ideal.nD,
      r.2.mem ((c.tc : Thread Cert.Pair1024x2048Ideal.nD Cert.Pair1024x2048Ideal.τ).loc Cert.Pair1024x2048Ideal.main_arg0) = m ((c.tc : Thread Cert.Pair1024x2048Ideal.nD Cert.Pair1024x2048Ideal.τ).loc Cert.Pair1024x2048Ideal.main_arg0)
      ∧ r.2.mem ((c.tc : Thread Cert.Pair1024x2048Ideal.nD Cert.Pair1024x2048Ideal.τ).loc Cert.Pair1024x2048Ideal.main_arg1) = m ((c.tc : Thread Cert.Pair1024x2048Ideal.nD Cert.Pair1024x2048Ideal.τ).loc Cert.Pair1024x2048Ideal.main_arg1))
      ∧ r.2.sem = fun _ => 0)

def quiescent_Pair1024x2048RefIdeal [hPair1024x2048RefIdeal : Cert.Pair1024x2048RefIdeal.Facts] : Prop :=
  ∀ (m : (ℓ : Loc Cert.Pair1024x2048RefIdeal.nD Cert.Pair1024x2048RefIdeal.τ Cert.Pair1024x2048RefIdeal.sig) → Buf (Elt Ideal) ℓ) (g : Dev Cert.Pair1024x2048RefIdeal.nD → PrngReg), Pre_Pair1024x2048RefIdeal m →
    θ_run (Cert.Pair1024x2048RefIdeal.defs (F := Ideal)) (onTc (τ := Cert.Pair1024x2048RefIdeal.τ) (Cert.Pair1024x2048RefIdeal.main (F := Ideal))) ⟨m, fun _ => 0, g⟩ (fun r => (∀ c : Dev Cert.Pair1024x2048RefIdeal.nD,
      r.2.mem ((c.tc : Thread Cert.Pair1024x2048RefIdeal.nD Cert.Pair1024x2048RefIdeal.τ).loc Cert.Pair1024x2048RefIdeal.main_arg0) = m ((c.tc : Thread Cert.Pair1024x2048RefIdeal.nD Cert.Pair1024x2048RefIdeal.τ).loc Cert.Pair1024x2048RefIdeal.main_arg0)
      ∧ r.2.mem ((c.tc : Thread Cert.Pair1024x2048RefIdeal.nD Cert.Pair1024x2048RefIdeal.τ).loc Cert.Pair1024x2048RefIdeal.main_arg1) = m ((c.tc : Thread Cert.Pair1024x2048RefIdeal.nD Cert.Pair1024x2048RefIdeal.τ).loc Cert.Pair1024x2048RefIdeal.main_arg1))
      ∧ r.2.sem = fun _ => 0)

def quiescent_Pair1024x2048Ref [hPair1024x2048Ref : Cert.Pair1024x2048Ref.Facts] : Prop :=
  ∀ (m : (ℓ : Loc Cert.Pair1024x2048Ref.nD Cert.Pair1024x2048Ref.τ Cert.Pair1024x2048Ref.sig) → Buf (Elt Bits) ℓ) (g : Dev Cert.Pair1024x2048Ref.nD → PrngReg), Pre_Pair1024x2048Ref m →
    θ_run (Cert.Pair1024x2048Ref.defs (F := Bits)) (onTc (τ := Cert.Pair1024x2048Ref.τ) (Cert.Pair1024x2048Ref.main (F := Bits))) ⟨m, fun _ => 0, g⟩ (fun r => (∀ c : Dev Cert.Pair1024x2048Ref.nD,
      r.2.mem ((c.tc : Thread Cert.Pair1024x2048Ref.nD Cert.Pair1024x2048Ref.τ).loc Cert.Pair1024x2048Ref.main_arg0) = m ((c.tc : Thread Cert.Pair1024x2048Ref.nD Cert.Pair1024x2048Ref.τ).loc Cert.Pair1024x2048Ref.main_arg0)
      ∧ r.2.mem ((c.tc : Thread Cert.Pair1024x2048Ref.nD Cert.Pair1024x2048Ref.τ).loc Cert.Pair1024x2048Ref.main_arg1) = m ((c.tc : Thread Cert.Pair1024x2048Ref.nD Cert.Pair1024x2048Ref.τ).loc Cert.Pair1024x2048Ref.main_arg1))
      ∧ r.2.sem = fun _ => 0)

def quiescent_Chip256x2048 [hChip256x2048 : Cert.Chip256x2048.Facts] : Prop :=
  ∀ (m : (ℓ : Loc Cert.Chip256x2048.nD Cert.Chip256x2048.τ Cert.Chip256x2048.sig) → Buf (Elt Bits) ℓ) (g : Dev Cert.Chip256x2048.nD → PrngReg), Pre_Chip256x2048 m →
    θ_run (Cert.Chip256x2048.defs (F := Bits)) (onTc (τ := Cert.Chip256x2048.τ) (Cert.Chip256x2048.main (F := Bits))) ⟨m, fun _ => 0, g⟩ (fun r => (∀ c : Dev Cert.Chip256x2048.nD,
      r.2.mem ((c.tc : Thread Cert.Chip256x2048.nD Cert.Chip256x2048.τ).loc Cert.Chip256x2048.main_arg0) = m ((c.tc : Thread Cert.Chip256x2048.nD Cert.Chip256x2048.τ).loc Cert.Chip256x2048.main_arg0))
      ∧ r.2.sem = fun _ => 0)

def quiescent_Chip256x2048Ideal [hChip256x2048Ideal : Cert.Chip256x2048Ideal.Facts] : Prop :=
  ∀ (m : (ℓ : Loc Cert.Chip256x2048Ideal.nD Cert.Chip256x2048Ideal.τ Cert.Chip256x2048Ideal.sig) → Buf (Elt Ideal) ℓ) (g : Dev Cert.Chip256x2048Ideal.nD → PrngReg), Pre_Chip256x2048Ideal m →
    θ_run (Cert.Chip256x2048Ideal.defs (F := Ideal)) (onTc (τ := Cert.Chip256x2048Ideal.τ) (Cert.Chip256x2048Ideal.main (F := Ideal))) ⟨m, fun _ => 0, g⟩ (fun r => (∀ c : Dev Cert.Chip256x2048Ideal.nD,
      r.2.mem ((c.tc : Thread Cert.Chip256x2048Ideal.nD Cert.Chip256x2048Ideal.τ).loc Cert.Chip256x2048Ideal.main_arg0) = m ((c.tc : Thread Cert.Chip256x2048Ideal.nD Cert.Chip256x2048Ideal.τ).loc Cert.Chip256x2048Ideal.main_arg0))
      ∧ r.2.sem = fun _ => 0)

def quiescent_Chip256x2048RefIdeal [hChip256x2048RefIdeal : Cert.Chip256x2048RefIdeal.Facts] : Prop :=
  ∀ (m : (ℓ : Loc Cert.Chip256x2048RefIdeal.nD Cert.Chip256x2048RefIdeal.τ Cert.Chip256x2048RefIdeal.sig) → Buf (Elt Ideal) ℓ) (g : Dev Cert.Chip256x2048RefIdeal.nD → PrngReg), Pre_Chip256x2048RefIdeal m →
    θ_run (Cert.Chip256x2048RefIdeal.defs (F := Ideal)) (onTc (τ := Cert.Chip256x2048RefIdeal.τ) (Cert.Chip256x2048RefIdeal.main (F := Ideal))) ⟨m, fun _ => 0, g⟩ (fun r => (∀ c : Dev Cert.Chip256x2048RefIdeal.nD,
      r.2.mem ((c.tc : Thread Cert.Chip256x2048RefIdeal.nD Cert.Chip256x2048RefIdeal.τ).loc Cert.Chip256x2048RefIdeal.main_arg0) = m ((c.tc : Thread Cert.Chip256x2048RefIdeal.nD Cert.Chip256x2048RefIdeal.τ).loc Cert.Chip256x2048RefIdeal.main_arg0))
      ∧ r.2.sem = fun _ => 0)

def quiescent_Pair2048x4096 [hPair2048x4096 : Cert.Pair2048x4096.Facts] : Prop :=
  ∀ (m : (ℓ : Loc Cert.Pair2048x4096.nD Cert.Pair2048x4096.τ Cert.Pair2048x4096.sig) → Buf (Elt Bits) ℓ) (g : Dev Cert.Pair2048x4096.nD → PrngReg), Pre_Pair2048x4096 m →
    θ_run (Cert.Pair2048x4096.defs (F := Bits)) (onTc (τ := Cert.Pair2048x4096.τ) (Cert.Pair2048x4096.main (F := Bits))) ⟨m, fun _ => 0, g⟩ (fun r => (∀ c : Dev Cert.Pair2048x4096.nD,
      r.2.mem ((c.tc : Thread Cert.Pair2048x4096.nD Cert.Pair2048x4096.τ).loc Cert.Pair2048x4096.main_arg0) = m ((c.tc : Thread Cert.Pair2048x4096.nD Cert.Pair2048x4096.τ).loc Cert.Pair2048x4096.main_arg0)
      ∧ r.2.mem ((c.tc : Thread Cert.Pair2048x4096.nD Cert.Pair2048x4096.τ).loc Cert.Pair2048x4096.main_arg1) = m ((c.tc : Thread Cert.Pair2048x4096.nD Cert.Pair2048x4096.τ).loc Cert.Pair2048x4096.main_arg1))
      ∧ r.2.sem = fun _ => 0)

def quiescent_Pair2048x4096Ideal [hPair2048x4096Ideal : Cert.Pair2048x4096Ideal.Facts] : Prop :=
  ∀ (m : (ℓ : Loc Cert.Pair2048x4096Ideal.nD Cert.Pair2048x4096Ideal.τ Cert.Pair2048x4096Ideal.sig) → Buf (Elt Ideal) ℓ) (g : Dev Cert.Pair2048x4096Ideal.nD → PrngReg), Pre_Pair2048x4096Ideal m →
    θ_run (Cert.Pair2048x4096Ideal.defs (F := Ideal)) (onTc (τ := Cert.Pair2048x4096Ideal.τ) (Cert.Pair2048x4096Ideal.main (F := Ideal))) ⟨m, fun _ => 0, g⟩ (fun r => (∀ c : Dev Cert.Pair2048x4096Ideal.nD,
      r.2.mem ((c.tc : Thread Cert.Pair2048x4096Ideal.nD Cert.Pair2048x4096Ideal.τ).loc Cert.Pair2048x4096Ideal.main_arg0) = m ((c.tc : Thread Cert.Pair2048x4096Ideal.nD Cert.Pair2048x4096Ideal.τ).loc Cert.Pair2048x4096Ideal.main_arg0)
      ∧ r.2.mem ((c.tc : Thread Cert.Pair2048x4096Ideal.nD Cert.Pair2048x4096Ideal.τ).loc Cert.Pair2048x4096Ideal.main_arg1) = m ((c.tc : Thread Cert.Pair2048x4096Ideal.nD Cert.Pair2048x4096Ideal.τ).loc Cert.Pair2048x4096Ideal.main_arg1))
      ∧ r.2.sem = fun _ => 0)

def quiescent_Pair2048x4096RefIdeal [hPair2048x4096RefIdeal : Cert.Pair2048x4096RefIdeal.Facts] : Prop :=
  ∀ (m : (ℓ : Loc Cert.Pair2048x4096RefIdeal.nD Cert.Pair2048x4096RefIdeal.τ Cert.Pair2048x4096RefIdeal.sig) → Buf (Elt Ideal) ℓ) (g : Dev Cert.Pair2048x4096RefIdeal.nD → PrngReg), Pre_Pair2048x4096RefIdeal m →
    θ_run (Cert.Pair2048x4096RefIdeal.defs (F := Ideal)) (onTc (τ := Cert.Pair2048x4096RefIdeal.τ) (Cert.Pair2048x4096RefIdeal.main (F := Ideal))) ⟨m, fun _ => 0, g⟩ (fun r => (∀ c : Dev Cert.Pair2048x4096RefIdeal.nD,
      r.2.mem ((c.tc : Thread Cert.Pair2048x4096RefIdeal.nD Cert.Pair2048x4096RefIdeal.τ).loc Cert.Pair2048x4096RefIdeal.main_arg0) = m ((c.tc : Thread Cert.Pair2048x4096RefIdeal.nD Cert.Pair2048x4096RefIdeal.τ).loc Cert.Pair2048x4096RefIdeal.main_arg0)
      ∧ r.2.mem ((c.tc : Thread Cert.Pair2048x4096RefIdeal.nD Cert.Pair2048x4096RefIdeal.τ).loc Cert.Pair2048x4096RefIdeal.main_arg1) = m ((c.tc : Thread Cert.Pair2048x4096RefIdeal.nD Cert.Pair2048x4096RefIdeal.τ).loc Cert.Pair2048x4096RefIdeal.main_arg1))
      ∧ r.2.sem = fun _ => 0)

def quiescent_Pair2048x4096Ref [hPair2048x4096Ref : Cert.Pair2048x4096Ref.Facts] : Prop :=
  ∀ (m : (ℓ : Loc Cert.Pair2048x4096Ref.nD Cert.Pair2048x4096Ref.τ Cert.Pair2048x4096Ref.sig) → Buf (Elt Bits) ℓ) (g : Dev Cert.Pair2048x4096Ref.nD → PrngReg), Pre_Pair2048x4096Ref m →
    θ_run (Cert.Pair2048x4096Ref.defs (F := Bits)) (onTc (τ := Cert.Pair2048x4096Ref.τ) (Cert.Pair2048x4096Ref.main (F := Bits))) ⟨m, fun _ => 0, g⟩ (fun r => (∀ c : Dev Cert.Pair2048x4096Ref.nD,
      r.2.mem ((c.tc : Thread Cert.Pair2048x4096Ref.nD Cert.Pair2048x4096Ref.τ).loc Cert.Pair2048x4096Ref.main_arg0) = m ((c.tc : Thread Cert.Pair2048x4096Ref.nD Cert.Pair2048x4096Ref.τ).loc Cert.Pair2048x4096Ref.main_arg0)
      ∧ r.2.mem ((c.tc : Thread Cert.Pair2048x4096Ref.nD Cert.Pair2048x4096Ref.τ).loc Cert.Pair2048x4096Ref.main_arg1) = m ((c.tc : Thread Cert.Pair2048x4096Ref.nD Cert.Pair2048x4096Ref.τ).loc Cert.Pair2048x4096Ref.main_arg1))
      ∧ r.2.sem = fun _ => 0)

def quiescent_Chip512x4096 [hChip512x4096 : Cert.Chip512x4096.Facts] : Prop :=
  ∀ (m : (ℓ : Loc Cert.Chip512x4096.nD Cert.Chip512x4096.τ Cert.Chip512x4096.sig) → Buf (Elt Bits) ℓ) (g : Dev Cert.Chip512x4096.nD → PrngReg), Pre_Chip512x4096 m →
    θ_run (Cert.Chip512x4096.defs (F := Bits)) (onTc (τ := Cert.Chip512x4096.τ) (Cert.Chip512x4096.main (F := Bits))) ⟨m, fun _ => 0, g⟩ (fun r => (∀ c : Dev Cert.Chip512x4096.nD,
      r.2.mem ((c.tc : Thread Cert.Chip512x4096.nD Cert.Chip512x4096.τ).loc Cert.Chip512x4096.main_arg0) = m ((c.tc : Thread Cert.Chip512x4096.nD Cert.Chip512x4096.τ).loc Cert.Chip512x4096.main_arg0))
      ∧ r.2.sem = fun _ => 0)

def quiescent_Chip512x4096Ideal [hChip512x4096Ideal : Cert.Chip512x4096Ideal.Facts] : Prop :=
  ∀ (m : (ℓ : Loc Cert.Chip512x4096Ideal.nD Cert.Chip512x4096Ideal.τ Cert.Chip512x4096Ideal.sig) → Buf (Elt Ideal) ℓ) (g : Dev Cert.Chip512x4096Ideal.nD → PrngReg), Pre_Chip512x4096Ideal m →
    θ_run (Cert.Chip512x4096Ideal.defs (F := Ideal)) (onTc (τ := Cert.Chip512x4096Ideal.τ) (Cert.Chip512x4096Ideal.main (F := Ideal))) ⟨m, fun _ => 0, g⟩ (fun r => (∀ c : Dev Cert.Chip512x4096Ideal.nD,
      r.2.mem ((c.tc : Thread Cert.Chip512x4096Ideal.nD Cert.Chip512x4096Ideal.τ).loc Cert.Chip512x4096Ideal.main_arg0) = m ((c.tc : Thread Cert.Chip512x4096Ideal.nD Cert.Chip512x4096Ideal.τ).loc Cert.Chip512x4096Ideal.main_arg0))
      ∧ r.2.sem = fun _ => 0)

def quiescent_Chip512x4096RefIdeal [hChip512x4096RefIdeal : Cert.Chip512x4096RefIdeal.Facts] : Prop :=
  ∀ (m : (ℓ : Loc Cert.Chip512x4096RefIdeal.nD Cert.Chip512x4096RefIdeal.τ Cert.Chip512x4096RefIdeal.sig) → Buf (Elt Ideal) ℓ) (g : Dev Cert.Chip512x4096RefIdeal.nD → PrngReg), Pre_Chip512x4096RefIdeal m →
    θ_run (Cert.Chip512x4096RefIdeal.defs (F := Ideal)) (onTc (τ := Cert.Chip512x4096RefIdeal.τ) (Cert.Chip512x4096RefIdeal.main (F := Ideal))) ⟨m, fun _ => 0, g⟩ (fun r => (∀ c : Dev Cert.Chip512x4096RefIdeal.nD,
      r.2.mem ((c.tc : Thread Cert.Chip512x4096RefIdeal.nD Cert.Chip512x4096RefIdeal.τ).loc Cert.Chip512x4096RefIdeal.main_arg0) = m ((c.tc : Thread Cert.Chip512x4096RefIdeal.nD Cert.Chip512x4096RefIdeal.τ).loc Cert.Chip512x4096RefIdeal.main_arg0))
      ∧ r.2.sem = fun _ => 0)

def quiescent_Pair8192x4096 [hPair8192x4096 : Cert.Pair8192x4096.Facts] : Prop :=
  ∀ (m : (ℓ : Loc Cert.Pair8192x4096.nD Cert.Pair8192x4096.τ Cert.Pair8192x4096.sig) → Buf (Elt Bits) ℓ) (g : Dev Cert.Pair8192x4096.nD → PrngReg), Pre_Pair8192x4096 m →
    θ_run (Cert.Pair8192x4096.defs (F := Bits)) (onTc (τ := Cert.Pair8192x4096.τ) (Cert.Pair8192x4096.main (F := Bits))) ⟨m, fun _ => 0, g⟩ (fun r => (∀ c : Dev Cert.Pair8192x4096.nD,
      r.2.mem ((c.tc : Thread Cert.Pair8192x4096.nD Cert.Pair8192x4096.τ).loc Cert.Pair8192x4096.main_arg0) = m ((c.tc : Thread Cert.Pair8192x4096.nD Cert.Pair8192x4096.τ).loc Cert.Pair8192x4096.main_arg0)
      ∧ r.2.mem ((c.tc : Thread Cert.Pair8192x4096.nD Cert.Pair8192x4096.τ).loc Cert.Pair8192x4096.main_arg1) = m ((c.tc : Thread Cert.Pair8192x4096.nD Cert.Pair8192x4096.τ).loc Cert.Pair8192x4096.main_arg1))
      ∧ r.2.sem = fun _ => 0)

def quiescent_Pair8192x4096Ideal [hPair8192x4096Ideal : Cert.Pair8192x4096Ideal.Facts] : Prop :=
  ∀ (m : (ℓ : Loc Cert.Pair8192x4096Ideal.nD Cert.Pair8192x4096Ideal.τ Cert.Pair8192x4096Ideal.sig) → Buf (Elt Ideal) ℓ) (g : Dev Cert.Pair8192x4096Ideal.nD → PrngReg), Pre_Pair8192x4096Ideal m →
    θ_run (Cert.Pair8192x4096Ideal.defs (F := Ideal)) (onTc (τ := Cert.Pair8192x4096Ideal.τ) (Cert.Pair8192x4096Ideal.main (F := Ideal))) ⟨m, fun _ => 0, g⟩ (fun r => (∀ c : Dev Cert.Pair8192x4096Ideal.nD,
      r.2.mem ((c.tc : Thread Cert.Pair8192x4096Ideal.nD Cert.Pair8192x4096Ideal.τ).loc Cert.Pair8192x4096Ideal.main_arg0) = m ((c.tc : Thread Cert.Pair8192x4096Ideal.nD Cert.Pair8192x4096Ideal.τ).loc Cert.Pair8192x4096Ideal.main_arg0)
      ∧ r.2.mem ((c.tc : Thread Cert.Pair8192x4096Ideal.nD Cert.Pair8192x4096Ideal.τ).loc Cert.Pair8192x4096Ideal.main_arg1) = m ((c.tc : Thread Cert.Pair8192x4096Ideal.nD Cert.Pair8192x4096Ideal.τ).loc Cert.Pair8192x4096Ideal.main_arg1))
      ∧ r.2.sem = fun _ => 0)

def quiescent_Pair8192x4096RefIdeal [hPair8192x4096RefIdeal : Cert.Pair8192x4096RefIdeal.Facts] : Prop :=
  ∀ (m : (ℓ : Loc Cert.Pair8192x4096RefIdeal.nD Cert.Pair8192x4096RefIdeal.τ Cert.Pair8192x4096RefIdeal.sig) → Buf (Elt Ideal) ℓ) (g : Dev Cert.Pair8192x4096RefIdeal.nD → PrngReg), Pre_Pair8192x4096RefIdeal m →
    θ_run (Cert.Pair8192x4096RefIdeal.defs (F := Ideal)) (onTc (τ := Cert.Pair8192x4096RefIdeal.τ) (Cert.Pair8192x4096RefIdeal.main (F := Ideal))) ⟨m, fun _ => 0, g⟩ (fun r => (∀ c : Dev Cert.Pair8192x4096RefIdeal.nD,
      r.2.mem ((c.tc : Thread Cert.Pair8192x4096RefIdeal.nD Cert.Pair8192x4096RefIdeal.τ).loc Cert.Pair8192x4096RefIdeal.main_arg0) = m ((c.tc : Thread Cert.Pair8192x4096RefIdeal.nD Cert.Pair8192x4096RefIdeal.τ).loc Cert.Pair8192x4096RefIdeal.main_arg0)
      ∧ r.2.mem ((c.tc : Thread Cert.Pair8192x4096RefIdeal.nD Cert.Pair8192x4096RefIdeal.τ).loc Cert.Pair8192x4096RefIdeal.main_arg1) = m ((c.tc : Thread Cert.Pair8192x4096RefIdeal.nD Cert.Pair8192x4096RefIdeal.τ).loc Cert.Pair8192x4096RefIdeal.main_arg1))
      ∧ r.2.sem = fun _ => 0)

def quiescent_Pair8192x4096Ref [hPair8192x4096Ref : Cert.Pair8192x4096Ref.Facts] : Prop :=
  ∀ (m : (ℓ : Loc Cert.Pair8192x4096Ref.nD Cert.Pair8192x4096Ref.τ Cert.Pair8192x4096Ref.sig) → Buf (Elt Bits) ℓ) (g : Dev Cert.Pair8192x4096Ref.nD → PrngReg), Pre_Pair8192x4096Ref m →
    θ_run (Cert.Pair8192x4096Ref.defs (F := Bits)) (onTc (τ := Cert.Pair8192x4096Ref.τ) (Cert.Pair8192x4096Ref.main (F := Bits))) ⟨m, fun _ => 0, g⟩ (fun r => (∀ c : Dev Cert.Pair8192x4096Ref.nD,
      r.2.mem ((c.tc : Thread Cert.Pair8192x4096Ref.nD Cert.Pair8192x4096Ref.τ).loc Cert.Pair8192x4096Ref.main_arg0) = m ((c.tc : Thread Cert.Pair8192x4096Ref.nD Cert.Pair8192x4096Ref.τ).loc Cert.Pair8192x4096Ref.main_arg0)
      ∧ r.2.mem ((c.tc : Thread Cert.Pair8192x4096Ref.nD Cert.Pair8192x4096Ref.τ).loc Cert.Pair8192x4096Ref.main_arg1) = m ((c.tc : Thread Cert.Pair8192x4096Ref.nD Cert.Pair8192x4096Ref.τ).loc Cert.Pair8192x4096Ref.main_arg1))
      ∧ r.2.sem = fun _ => 0)

def quiescent_Chip2048x4096 [hChip2048x4096 : Cert.Chip2048x4096.Facts] : Prop :=
  ∀ (m : (ℓ : Loc Cert.Chip2048x4096.nD Cert.Chip2048x4096.τ Cert.Chip2048x4096.sig) → Buf (Elt Bits) ℓ) (g : Dev Cert.Chip2048x4096.nD → PrngReg), Pre_Chip2048x4096 m →
    θ_run (Cert.Chip2048x4096.defs (F := Bits)) (onTc (τ := Cert.Chip2048x4096.τ) (Cert.Chip2048x4096.main (F := Bits))) ⟨m, fun _ => 0, g⟩ (fun r => (∀ c : Dev Cert.Chip2048x4096.nD,
      r.2.mem ((c.tc : Thread Cert.Chip2048x4096.nD Cert.Chip2048x4096.τ).loc Cert.Chip2048x4096.main_arg0) = m ((c.tc : Thread Cert.Chip2048x4096.nD Cert.Chip2048x4096.τ).loc Cert.Chip2048x4096.main_arg0))
      ∧ r.2.sem = fun _ => 0)

def quiescent_Chip2048x4096Ideal [hChip2048x4096Ideal : Cert.Chip2048x4096Ideal.Facts] : Prop :=
  ∀ (m : (ℓ : Loc Cert.Chip2048x4096Ideal.nD Cert.Chip2048x4096Ideal.τ Cert.Chip2048x4096Ideal.sig) → Buf (Elt Ideal) ℓ) (g : Dev Cert.Chip2048x4096Ideal.nD → PrngReg), Pre_Chip2048x4096Ideal m →
    θ_run (Cert.Chip2048x4096Ideal.defs (F := Ideal)) (onTc (τ := Cert.Chip2048x4096Ideal.τ) (Cert.Chip2048x4096Ideal.main (F := Ideal))) ⟨m, fun _ => 0, g⟩ (fun r => (∀ c : Dev Cert.Chip2048x4096Ideal.nD,
      r.2.mem ((c.tc : Thread Cert.Chip2048x4096Ideal.nD Cert.Chip2048x4096Ideal.τ).loc Cert.Chip2048x4096Ideal.main_arg0) = m ((c.tc : Thread Cert.Chip2048x4096Ideal.nD Cert.Chip2048x4096Ideal.τ).loc Cert.Chip2048x4096Ideal.main_arg0))
      ∧ r.2.sem = fun _ => 0)

def quiescent_Chip2048x4096RefIdeal [hChip2048x4096RefIdeal : Cert.Chip2048x4096RefIdeal.Facts] : Prop :=
  ∀ (m : (ℓ : Loc Cert.Chip2048x4096RefIdeal.nD Cert.Chip2048x4096RefIdeal.τ Cert.Chip2048x4096RefIdeal.sig) → Buf (Elt Ideal) ℓ) (g : Dev Cert.Chip2048x4096RefIdeal.nD → PrngReg), Pre_Chip2048x4096RefIdeal m →
    θ_run (Cert.Chip2048x4096RefIdeal.defs (F := Ideal)) (onTc (τ := Cert.Chip2048x4096RefIdeal.τ) (Cert.Chip2048x4096RefIdeal.main (F := Ideal))) ⟨m, fun _ => 0, g⟩ (fun r => (∀ c : Dev Cert.Chip2048x4096RefIdeal.nD,
      r.2.mem ((c.tc : Thread Cert.Chip2048x4096RefIdeal.nD Cert.Chip2048x4096RefIdeal.τ).loc Cert.Chip2048x4096RefIdeal.main_arg0) = m ((c.tc : Thread Cert.Chip2048x4096RefIdeal.nD Cert.Chip2048x4096RefIdeal.τ).loc Cert.Chip2048x4096RefIdeal.main_arg0))
      ∧ r.2.sem = fun _ => 0)

def quiescent_Pair8192x3072 [hPair8192x3072 : Cert.Pair8192x3072.Facts] : Prop :=
  ∀ (m : (ℓ : Loc Cert.Pair8192x3072.nD Cert.Pair8192x3072.τ Cert.Pair8192x3072.sig) → Buf (Elt Bits) ℓ) (g : Dev Cert.Pair8192x3072.nD → PrngReg), Pre_Pair8192x3072 m →
    θ_run (Cert.Pair8192x3072.defs (F := Bits)) (onTc (τ := Cert.Pair8192x3072.τ) (Cert.Pair8192x3072.main (F := Bits))) ⟨m, fun _ => 0, g⟩ (fun r => (∀ c : Dev Cert.Pair8192x3072.nD,
      r.2.mem ((c.tc : Thread Cert.Pair8192x3072.nD Cert.Pair8192x3072.τ).loc Cert.Pair8192x3072.main_arg0) = m ((c.tc : Thread Cert.Pair8192x3072.nD Cert.Pair8192x3072.τ).loc Cert.Pair8192x3072.main_arg0)
      ∧ r.2.mem ((c.tc : Thread Cert.Pair8192x3072.nD Cert.Pair8192x3072.τ).loc Cert.Pair8192x3072.main_arg1) = m ((c.tc : Thread Cert.Pair8192x3072.nD Cert.Pair8192x3072.τ).loc Cert.Pair8192x3072.main_arg1))
      ∧ r.2.sem = fun _ => 0)

def quiescent_Pair8192x3072Ideal [hPair8192x3072Ideal : Cert.Pair8192x3072Ideal.Facts] : Prop :=
  ∀ (m : (ℓ : Loc Cert.Pair8192x3072Ideal.nD Cert.Pair8192x3072Ideal.τ Cert.Pair8192x3072Ideal.sig) → Buf (Elt Ideal) ℓ) (g : Dev Cert.Pair8192x3072Ideal.nD → PrngReg), Pre_Pair8192x3072Ideal m →
    θ_run (Cert.Pair8192x3072Ideal.defs (F := Ideal)) (onTc (τ := Cert.Pair8192x3072Ideal.τ) (Cert.Pair8192x3072Ideal.main (F := Ideal))) ⟨m, fun _ => 0, g⟩ (fun r => (∀ c : Dev Cert.Pair8192x3072Ideal.nD,
      r.2.mem ((c.tc : Thread Cert.Pair8192x3072Ideal.nD Cert.Pair8192x3072Ideal.τ).loc Cert.Pair8192x3072Ideal.main_arg0) = m ((c.tc : Thread Cert.Pair8192x3072Ideal.nD Cert.Pair8192x3072Ideal.τ).loc Cert.Pair8192x3072Ideal.main_arg0)
      ∧ r.2.mem ((c.tc : Thread Cert.Pair8192x3072Ideal.nD Cert.Pair8192x3072Ideal.τ).loc Cert.Pair8192x3072Ideal.main_arg1) = m ((c.tc : Thread Cert.Pair8192x3072Ideal.nD Cert.Pair8192x3072Ideal.τ).loc Cert.Pair8192x3072Ideal.main_arg1))
      ∧ r.2.sem = fun _ => 0)

def quiescent_Pair8192x3072RefIdeal [hPair8192x3072RefIdeal : Cert.Pair8192x3072RefIdeal.Facts] : Prop :=
  ∀ (m : (ℓ : Loc Cert.Pair8192x3072RefIdeal.nD Cert.Pair8192x3072RefIdeal.τ Cert.Pair8192x3072RefIdeal.sig) → Buf (Elt Ideal) ℓ) (g : Dev Cert.Pair8192x3072RefIdeal.nD → PrngReg), Pre_Pair8192x3072RefIdeal m →
    θ_run (Cert.Pair8192x3072RefIdeal.defs (F := Ideal)) (onTc (τ := Cert.Pair8192x3072RefIdeal.τ) (Cert.Pair8192x3072RefIdeal.main (F := Ideal))) ⟨m, fun _ => 0, g⟩ (fun r => (∀ c : Dev Cert.Pair8192x3072RefIdeal.nD,
      r.2.mem ((c.tc : Thread Cert.Pair8192x3072RefIdeal.nD Cert.Pair8192x3072RefIdeal.τ).loc Cert.Pair8192x3072RefIdeal.main_arg0) = m ((c.tc : Thread Cert.Pair8192x3072RefIdeal.nD Cert.Pair8192x3072RefIdeal.τ).loc Cert.Pair8192x3072RefIdeal.main_arg0)
      ∧ r.2.mem ((c.tc : Thread Cert.Pair8192x3072RefIdeal.nD Cert.Pair8192x3072RefIdeal.τ).loc Cert.Pair8192x3072RefIdeal.main_arg1) = m ((c.tc : Thread Cert.Pair8192x3072RefIdeal.nD Cert.Pair8192x3072RefIdeal.τ).loc Cert.Pair8192x3072RefIdeal.main_arg1))
      ∧ r.2.sem = fun _ => 0)

def quiescent_Pair8192x3072Ref [hPair8192x3072Ref : Cert.Pair8192x3072Ref.Facts] : Prop :=
  ∀ (m : (ℓ : Loc Cert.Pair8192x3072Ref.nD Cert.Pair8192x3072Ref.τ Cert.Pair8192x3072Ref.sig) → Buf (Elt Bits) ℓ) (g : Dev Cert.Pair8192x3072Ref.nD → PrngReg), Pre_Pair8192x3072Ref m →
    θ_run (Cert.Pair8192x3072Ref.defs (F := Bits)) (onTc (τ := Cert.Pair8192x3072Ref.τ) (Cert.Pair8192x3072Ref.main (F := Bits))) ⟨m, fun _ => 0, g⟩ (fun r => (∀ c : Dev Cert.Pair8192x3072Ref.nD,
      r.2.mem ((c.tc : Thread Cert.Pair8192x3072Ref.nD Cert.Pair8192x3072Ref.τ).loc Cert.Pair8192x3072Ref.main_arg0) = m ((c.tc : Thread Cert.Pair8192x3072Ref.nD Cert.Pair8192x3072Ref.τ).loc Cert.Pair8192x3072Ref.main_arg0)
      ∧ r.2.mem ((c.tc : Thread Cert.Pair8192x3072Ref.nD Cert.Pair8192x3072Ref.τ).loc Cert.Pair8192x3072Ref.main_arg1) = m ((c.tc : Thread Cert.Pair8192x3072Ref.nD Cert.Pair8192x3072Ref.τ).loc Cert.Pair8192x3072Ref.main_arg1))
      ∧ r.2.sem = fun _ => 0)

def quiescent_Chip2048x3072 [hChip2048x3072 : Cert.Chip2048x3072.Facts] : Prop :=
  ∀ (m : (ℓ : Loc Cert.Chip2048x3072.nD Cert.Chip2048x3072.τ Cert.Chip2048x3072.sig) → Buf (Elt Bits) ℓ) (g : Dev Cert.Chip2048x3072.nD → PrngReg), Pre_Chip2048x3072 m →
    θ_run (Cert.Chip2048x3072.defs (F := Bits)) (onTc (τ := Cert.Chip2048x3072.τ) (Cert.Chip2048x3072.main (F := Bits))) ⟨m, fun _ => 0, g⟩ (fun r => (∀ c : Dev Cert.Chip2048x3072.nD,
      r.2.mem ((c.tc : Thread Cert.Chip2048x3072.nD Cert.Chip2048x3072.τ).loc Cert.Chip2048x3072.main_arg0) = m ((c.tc : Thread Cert.Chip2048x3072.nD Cert.Chip2048x3072.τ).loc Cert.Chip2048x3072.main_arg0))
      ∧ r.2.sem = fun _ => 0)

def quiescent_Chip2048x3072Ideal [hChip2048x3072Ideal : Cert.Chip2048x3072Ideal.Facts] : Prop :=
  ∀ (m : (ℓ : Loc Cert.Chip2048x3072Ideal.nD Cert.Chip2048x3072Ideal.τ Cert.Chip2048x3072Ideal.sig) → Buf (Elt Ideal) ℓ) (g : Dev Cert.Chip2048x3072Ideal.nD → PrngReg), Pre_Chip2048x3072Ideal m →
    θ_run (Cert.Chip2048x3072Ideal.defs (F := Ideal)) (onTc (τ := Cert.Chip2048x3072Ideal.τ) (Cert.Chip2048x3072Ideal.main (F := Ideal))) ⟨m, fun _ => 0, g⟩ (fun r => (∀ c : Dev Cert.Chip2048x3072Ideal.nD,
      r.2.mem ((c.tc : Thread Cert.Chip2048x3072Ideal.nD Cert.Chip2048x3072Ideal.τ).loc Cert.Chip2048x3072Ideal.main_arg0) = m ((c.tc : Thread Cert.Chip2048x3072Ideal.nD Cert.Chip2048x3072Ideal.τ).loc Cert.Chip2048x3072Ideal.main_arg0))
      ∧ r.2.sem = fun _ => 0)

def quiescent_Chip2048x3072RefIdeal [hChip2048x3072RefIdeal : Cert.Chip2048x3072RefIdeal.Facts] : Prop :=
  ∀ (m : (ℓ : Loc Cert.Chip2048x3072RefIdeal.nD Cert.Chip2048x3072RefIdeal.τ Cert.Chip2048x3072RefIdeal.sig) → Buf (Elt Ideal) ℓ) (g : Dev Cert.Chip2048x3072RefIdeal.nD → PrngReg), Pre_Chip2048x3072RefIdeal m →
    θ_run (Cert.Chip2048x3072RefIdeal.defs (F := Ideal)) (onTc (τ := Cert.Chip2048x3072RefIdeal.τ) (Cert.Chip2048x3072RefIdeal.main (F := Ideal))) ⟨m, fun _ => 0, g⟩ (fun r => (∀ c : Dev Cert.Chip2048x3072RefIdeal.nD,
      r.2.mem ((c.tc : Thread Cert.Chip2048x3072RefIdeal.nD Cert.Chip2048x3072RefIdeal.τ).loc Cert.Chip2048x3072RefIdeal.main_arg0) = m ((c.tc : Thread Cert.Chip2048x3072RefIdeal.nD Cert.Chip2048x3072RefIdeal.τ).loc Cert.Chip2048x3072RefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_PostNormGrad [hPostNormGrad : Cert.PostNormGrad.Facts] : Prop :=
  ∀ (m : (ℓ : Loc Cert.PostNormGrad.nD Cert.PostNormGrad.τ Cert.PostNormGrad.sig) → Buf (Elt Bits) ℓ) (g : Dev Cert.PostNormGrad.nD → PrngReg), Pre_PostNormGrad m →
    θ_run (Cert.PostNormGrad.defs (F := Bits)) (onTc (τ := Cert.PostNormGrad.τ) (Cert.PostNormGrad.main (F := Bits))) ⟨m, fun _ => 0, g⟩ (fun r => (∀ c : Dev Cert.PostNormGrad.nD,
      r.2.mem ((c.tc : Thread Cert.PostNormGrad.nD Cert.PostNormGrad.τ).loc Cert.PostNormGrad.main_arg0) = m ((c.tc : Thread Cert.PostNormGrad.nD Cert.PostNormGrad.τ).loc Cert.PostNormGrad.main_arg0)
      ∧ r.2.mem ((c.tc : Thread Cert.PostNormGrad.nD Cert.PostNormGrad.τ).loc Cert.PostNormGrad.main_arg1) = m ((c.tc : Thread Cert.PostNormGrad.nD Cert.PostNormGrad.τ).loc Cert.PostNormGrad.main_arg1)
      ∧ r.2.mem ((c.tc : Thread Cert.PostNormGrad.nD Cert.PostNormGrad.τ).loc Cert.PostNormGrad.main_arg2) = m ((c.tc : Thread Cert.PostNormGrad.nD Cert.PostNormGrad.τ).loc Cert.PostNormGrad.main_arg2))
      ∧ r.2.sem = fun _ => 0)

def quiescent_PostNormGradIdeal [hPostNormGradIdeal : Cert.PostNormGradIdeal.Facts] : Prop :=
  ∀ (m : (ℓ : Loc Cert.PostNormGradIdeal.nD Cert.PostNormGradIdeal.τ Cert.PostNormGradIdeal.sig) → Buf (Elt Ideal) ℓ) (g : Dev Cert.PostNormGradIdeal.nD → PrngReg), Pre_PostNormGradIdeal m →
    θ_run (Cert.PostNormGradIdeal.defs (F := Ideal)) (onTc (τ := Cert.PostNormGradIdeal.τ) (Cert.PostNormGradIdeal.main (F := Ideal))) ⟨m, fun _ => 0, g⟩ (fun r => (∀ c : Dev Cert.PostNormGradIdeal.nD,
      r.2.mem ((c.tc : Thread Cert.PostNormGradIdeal.nD Cert.PostNormGradIdeal.τ).loc Cert.PostNormGradIdeal.main_arg0) = m ((c.tc : Thread Cert.PostNormGradIdeal.nD Cert.PostNormGradIdeal.τ).loc Cert.PostNormGradIdeal.main_arg0)
      ∧ r.2.mem ((c.tc : Thread Cert.PostNormGradIdeal.nD Cert.PostNormGradIdeal.τ).loc Cert.PostNormGradIdeal.main_arg1) = m ((c.tc : Thread Cert.PostNormGradIdeal.nD Cert.PostNormGradIdeal.τ).loc Cert.PostNormGradIdeal.main_arg1)
      ∧ r.2.mem ((c.tc : Thread Cert.PostNormGradIdeal.nD Cert.PostNormGradIdeal.τ).loc Cert.PostNormGradIdeal.main_arg2) = m ((c.tc : Thread Cert.PostNormGradIdeal.nD Cert.PostNormGradIdeal.τ).loc Cert.PostNormGradIdeal.main_arg2))
      ∧ r.2.sem = fun _ => 0)

def quiescent_PostNormGradRefIdeal [hPostNormGradRefIdeal : Cert.PostNormGradRefIdeal.Facts] : Prop :=
  ∀ (m : (ℓ : Loc Cert.PostNormGradRefIdeal.nD Cert.PostNormGradRefIdeal.τ Cert.PostNormGradRefIdeal.sig) → Buf (Elt Ideal) ℓ) (g : Dev Cert.PostNormGradRefIdeal.nD → PrngReg), Pre_PostNormGradRefIdeal m →
    θ_run (Cert.PostNormGradRefIdeal.defs (F := Ideal)) (onTc (τ := Cert.PostNormGradRefIdeal.τ) (Cert.PostNormGradRefIdeal.main (F := Ideal))) ⟨m, fun _ => 0, g⟩ (fun r => (∀ c : Dev Cert.PostNormGradRefIdeal.nD,
      r.2.mem ((c.tc : Thread Cert.PostNormGradRefIdeal.nD Cert.PostNormGradRefIdeal.τ).loc Cert.PostNormGradRefIdeal.main_arg0) = m ((c.tc : Thread Cert.PostNormGradRefIdeal.nD Cert.PostNormGradRefIdeal.τ).loc Cert.PostNormGradRefIdeal.main_arg0)
      ∧ r.2.mem ((c.tc : Thread Cert.PostNormGradRefIdeal.nD Cert.PostNormGradRefIdeal.τ).loc Cert.PostNormGradRefIdeal.main_arg1) = m ((c.tc : Thread Cert.PostNormGradRefIdeal.nD Cert.PostNormGradRefIdeal.τ).loc Cert.PostNormGradRefIdeal.main_arg1)
      ∧ r.2.mem ((c.tc : Thread Cert.PostNormGradRefIdeal.nD Cert.PostNormGradRefIdeal.τ).loc Cert.PostNormGradRefIdeal.main_arg2) = m ((c.tc : Thread Cert.PostNormGradRefIdeal.nD Cert.PostNormGradRefIdeal.τ).loc Cert.PostNormGradRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InADw [hInADw : Cert.InADw.Facts] : Prop :=
  ∀ (m : (ℓ : Loc Cert.InADw.nD Cert.InADw.τ Cert.InADw.sig) → Buf (Elt Bits) ℓ) (g : Dev Cert.InADw.nD → PrngReg), Pre_InADw m →
    θ_run (Cert.InADw.defs (F := Bits)) (onTc (τ := Cert.InADw.τ) (Cert.InADw.main (F := Bits))) ⟨m, fun _ => 0, g⟩ (fun r => (∀ c : Dev Cert.InADw.nD,
      r.2.mem ((c.tc : Thread Cert.InADw.nD Cert.InADw.τ).loc Cert.InADw.main_arg0) = m ((c.tc : Thread Cert.InADw.nD Cert.InADw.τ).loc Cert.InADw.main_arg0)
      ∧ r.2.mem ((c.tc : Thread Cert.InADw.nD Cert.InADw.τ).loc Cert.InADw.main_arg1) = m ((c.tc : Thread Cert.InADw.nD Cert.InADw.τ).loc Cert.InADw.main_arg1))
      ∧ r.2.sem = fun _ => 0)

def quiescent_InADwIdeal [hInADwIdeal : Cert.InADwIdeal.Facts] : Prop :=
  ∀ (m : (ℓ : Loc Cert.InADwIdeal.nD Cert.InADwIdeal.τ Cert.InADwIdeal.sig) → Buf (Elt Ideal) ℓ) (g : Dev Cert.InADwIdeal.nD → PrngReg), Pre_InADwIdeal m →
    θ_run (Cert.InADwIdeal.defs (F := Ideal)) (onTc (τ := Cert.InADwIdeal.τ) (Cert.InADwIdeal.main (F := Ideal))) ⟨m, fun _ => 0, g⟩ (fun r => (∀ c : Dev Cert.InADwIdeal.nD,
      r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
      ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ r.2.sem = fun _ => 0)

def quiescent_InADwRefIdeal [hInADwRefIdeal : Cert.InADwRefIdeal.Facts] : Prop :=
  ∀ (m : (ℓ : Loc Cert.InADwRefIdeal.nD Cert.InADwRefIdeal.τ Cert.InADwRefIdeal.sig) → Buf (Elt Ideal) ℓ) (g : Dev Cert.InADwRefIdeal.nD → PrngReg), Pre_InADwRefIdeal m →
    θ_run (Cert.InADwRefIdeal.defs (F := Ideal)) (onTc (τ := Cert.InADwRefIdeal.τ) (Cert.InADwRefIdeal.main (F := Ideal))) ⟨m, fun _ => 0, g⟩ (fun r => (∀ c : Dev Cert.InADwRefIdeal.nD,
      r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
      ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScInDw [hScInDw : Cert.ScInDw.Facts] : Prop :=
  ∀ (m : (ℓ : Loc Cert.ScInDw.nD Cert.ScInDw.τ Cert.ScInDw.sig) → Buf (Elt Bits) ℓ) (g : Dev Cert.ScInDw.nD → PrngReg), Pre_ScInDw m →
    θ_run (Cert.ScInDw.defs (F := Bits)) (onTc (τ := Cert.ScInDw.τ) (Cert.ScInDw.main (F := Bits))) ⟨m, fun _ => 0, g⟩ (fun r => (∀ c : Dev Cert.ScInDw.nD,
      r.2.mem ((c.tc : Thread Cert.ScInDw.nD Cert.ScInDw.τ).loc Cert.ScInDw.main_arg0) = m ((c.tc : Thread Cert.ScInDw.nD Cert.ScInDw.τ).loc Cert.ScInDw.main_arg0)
      ∧ r.2.mem ((c.tc : Thread Cert.ScInDw.nD Cert.ScInDw.τ).loc Cert.ScInDw.main_arg1) = m ((c.tc : Thread Cert.ScInDw.nD Cert.ScInDw.τ).loc Cert.ScInDw.main_arg1))
      ∧ r.2.sem = fun _ => 0)

def quiescent_ScInDwIdeal [hScInDwIdeal : Cert.ScInDwIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg), Pre_ScInDwIdeal m →
    θ_run (Cert.ScInDwIdeal.defs (F := Ideal)) (onTc (τ := Cert.ScInDwIdeal.τ) (Cert.ScInDwIdeal.main (F := Ideal))) ⟨m, fun _ => 0, g⟩ (fun r => (∀ c : Dev Cert.ScInDwIdeal.nD,
      r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
      ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ r.2.sem = fun _ => 0)

def quiescent_ScInDwRefIdeal [hScInDwRefIdeal : Cert.ScInDwRefIdeal.Facts] : Prop :=
  ∀ (m : (ℓ : Loc Cert.ScInDwRefIdeal.nD Cert.ScInDwRefIdeal.τ Cert.ScInDwRefIdeal.sig) → Buf (Elt Ideal) ℓ) (g : Dev Cert.ScInDwRefIdeal.nD → PrngReg), Pre_ScInDwRefIdeal m →
    θ_run (Cert.ScInDwRefIdeal.defs (F := Ideal)) (onTc (τ := Cert.ScInDwRefIdeal.τ) (Cert.ScInDwRefIdeal.main (F := Ideal))) ⟨m, fun _ => 0, g⟩ (fun r => (∀ c : Dev Cert.ScInDwRefIdeal.nD,
      r.2.mem ((c.tc : Thread Cert.ScInDwRefIdeal.nD Cert.ScInDwRefIdeal.τ).loc Cert.ScInDwRefIdeal.main_arg0) = m ((c.tc : Thread Cert.ScInDwRefIdeal.nD Cert.ScInDwRefIdeal.τ).loc Cert.ScInDwRefIdeal.main_arg0)
      ∧ r.2.mem ((c.tc : Thread Cert.ScInDwRefIdeal.nD Cert.ScInDwRefIdeal.τ).loc Cert.ScInDwRefIdeal.main_arg1) = m ((c.tc : Thread Cert.ScInDwRefIdeal.nD Cert.ScInDwRefIdeal.τ).loc Cert.ScInDwRefIdeal.main_arg1))
      ∧ r.2.sem = fun _ => 0)

def quiescent_InADx [hInADx : Cert.InADx.Facts] : Prop :=
  ∀ (m : (ℓ : Loc Cert.InADx.nD Cert.InADx.τ Cert.InADx.sig) → Buf (Elt Bits) ℓ) (g : Dev Cert.InADx.nD → PrngReg), Pre_InADx m →
    θ_run (Cert.InADx.defs (F := Bits)) (onTc (τ := Cert.InADx.τ) (Cert.InADx.main (F := Bits))) ⟨m, fun _ => 0, g⟩ (fun r => (∀ c : Dev Cert.InADx.nD,
      r.2.mem ((c.tc : Thread Cert.InADx.nD Cert.InADx.τ).loc Cert.InADx.main_arg0) = m ((c.tc : Thread Cert.InADx.nD Cert.InADx.τ).loc Cert.InADx.main_arg0)
      ∧ r.2.mem ((c.tc : Thread Cert.InADx.nD Cert.InADx.τ).loc Cert.InADx.main_arg1) = m ((c.tc : Thread Cert.InADx.nD Cert.InADx.τ).loc Cert.InADx.main_arg1))
      ∧ r.2.sem = fun _ => 0)

def quiescent_InADxIdeal [hInADxIdeal : Cert.InADxIdeal.Facts] : Prop :=
  ∀ (m : (ℓ : Loc Cert.InADxIdeal.nD Cert.InADxIdeal.τ Cert.InADxIdeal.sig) → Buf (Elt Ideal) ℓ) (g : Dev Cert.InADxIdeal.nD → PrngReg), Pre_InADxIdeal m →
    θ_run (Cert.InADxIdeal.defs (F := Ideal)) (onTc (τ := Cert.InADxIdeal.τ) (Cert.InADxIdeal.main (F := Ideal))) ⟨m, fun _ => 0, g⟩ (fun r => (∀ c : Dev Cert.InADxIdeal.nD,
      r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
      ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ r.2.sem = fun _ => 0)

def quiescent_InADxRefIdeal [hInADxRefIdeal : Cert.InADxRefIdeal.Facts] : Prop :=
  ∀ (m : (ℓ : Loc Cert.InADxRefIdeal.nD Cert.InADxRefIdeal.τ Cert.InADxRefIdeal.sig) → Buf (Elt Ideal) ℓ) (g : Dev Cert.InADxRefIdeal.nD → PrngReg), Pre_InADxRefIdeal m →
    θ_run (Cert.InADxRefIdeal.defs (F := Ideal)) (onTc (τ := Cert.InADxRefIdeal.τ) (Cert.InADxRefIdeal.main (F := Ideal))) ⟨m, fun _ => 0, g⟩ (fun r => (∀ c : Dev Cert.InADxRefIdeal.nD,
      r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
      ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_InZDx [hInZDx : Cert.InZDx.Facts] : Prop :=
  ∀ (m : (ℓ : Loc Cert.InZDx.nD Cert.InZDx.τ Cert.InZDx.sig) → Buf (Elt Bits) ℓ) (g : Dev Cert.InZDx.nD → PrngReg), Pre_InZDx m →
    θ_run (Cert.InZDx.defs (F := Bits)) (onTc (τ := Cert.InZDx.τ) (Cert.InZDx.main (F := Bits))) ⟨m, fun _ => 0, g⟩ (fun r => (∀ c : Dev Cert.InZDx.nD,
      r.2.mem ((c.tc : Thread Cert.InZDx.nD Cert.InZDx.τ).loc Cert.InZDx.main_arg0) = m ((c.tc : Thread Cert.InZDx.nD Cert.InZDx.τ).loc Cert.InZDx.main_arg0)
      ∧ r.2.mem ((c.tc : Thread Cert.InZDx.nD Cert.InZDx.τ).loc Cert.InZDx.main_arg1) = m ((c.tc : Thread Cert.InZDx.nD Cert.InZDx.τ).loc Cert.InZDx.main_arg1)
      ∧ r.2.mem ((c.tc : Thread Cert.InZDx.nD Cert.InZDx.τ).loc Cert.InZDx.main_arg2) = m ((c.tc : Thread Cert.InZDx.nD Cert.InZDx.τ).loc Cert.InZDx.main_arg2))
      ∧ r.2.sem = fun _ => 0)

def quiescent_InZDxIdeal [hInZDxIdeal : Cert.InZDxIdeal.Facts] : Prop :=
  ∀ (m : (ℓ : Loc Cert.InZDxIdeal.nD Cert.InZDxIdeal.τ Cert.InZDxIdeal.sig) → Buf (Elt Ideal) ℓ) (g : Dev Cert.InZDxIdeal.nD → PrngReg), Pre_InZDxIdeal m →
    θ_run (Cert.InZDxIdeal.defs (F := Ideal)) (onTc (τ := Cert.InZDxIdeal.τ) (Cert.InZDxIdeal.main (F := Ideal))) ⟨m, fun _ => 0, g⟩ (fun r => (∀ c : Dev Cert.InZDxIdeal.nD,
      r.2.mem ((c.tc : Thread Cert.InZDxIdeal.nD Cert.InZDxIdeal.τ).loc Cert.InZDxIdeal.main_arg0) = m ((c.tc : Thread Cert.InZDxIdeal.nD Cert.InZDxIdeal.τ).loc Cert.InZDxIdeal.main_arg0)
      ∧ r.2.mem ((c.tc : Thread Cert.InZDxIdeal.nD Cert.InZDxIdeal.τ).loc Cert.InZDxIdeal.main_arg1) = m ((c.tc : Thread Cert.InZDxIdeal.nD Cert.InZDxIdeal.τ).loc Cert.InZDxIdeal.main_arg1)
      ∧ r.2.mem ((c.tc : Thread Cert.InZDxIdeal.nD Cert.InZDxIdeal.τ).loc Cert.InZDxIdeal.main_arg2) = m ((c.tc : Thread Cert.InZDxIdeal.nD Cert.InZDxIdeal.τ).loc Cert.InZDxIdeal.main_arg2))
      ∧ r.2.sem = fun _ => 0)

def quiescent_InZDxRefIdeal [hInZDxRefIdeal : Cert.InZDxRefIdeal.Facts] : Prop :=
  ∀ (m : (ℓ : Loc Cert.InZDxRefIdeal.nD Cert.InZDxRefIdeal.τ Cert.InZDxRefIdeal.sig) → Buf (Elt Ideal) ℓ) (g : Dev Cert.InZDxRefIdeal.nD → PrngReg), Pre_InZDxRefIdeal m →
    θ_run (Cert.InZDxRefIdeal.defs (F := Ideal)) (onTc (τ := Cert.InZDxRefIdeal.τ) (Cert.InZDxRefIdeal.main (F := Ideal))) ⟨m, fun _ => 0, g⟩ (fun r => (∀ c : Dev Cert.InZDxRefIdeal.nD,
      r.2.mem ((c.tc : Thread Cert.InZDxRefIdeal.nD Cert.InZDxRefIdeal.τ).loc Cert.InZDxRefIdeal.main_arg0) = m ((c.tc : Thread Cert.InZDxRefIdeal.nD Cert.InZDxRefIdeal.τ).loc Cert.InZDxRefIdeal.main_arg0)
      ∧ r.2.mem ((c.tc : Thread Cert.InZDxRefIdeal.nD Cert.InZDxRefIdeal.τ).loc Cert.InZDxRefIdeal.main_arg1) = m ((c.tc : Thread Cert.InZDxRefIdeal.nD Cert.InZDxRefIdeal.τ).loc Cert.InZDxRefIdeal.main_arg1)
      ∧ r.2.mem ((c.tc : Thread Cert.InZDxRefIdeal.nD Cert.InZDxRefIdeal.τ).loc Cert.InZDxRefIdeal.main_arg2) = m ((c.tc : Thread Cert.InZDxRefIdeal.nD Cert.InZDxRefIdeal.τ).loc Cert.InZDxRefIdeal.main_arg2))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_GmInDw [hGmInDw : Cert.GmInDw.Facts] : Prop :=
  ∀ (m : (ℓ : Loc Cert.GmInDw.nD Cert.GmInDw.τ Cert.GmInDw.sig) → Buf (Elt Bits) ℓ) (g : Dev Cert.GmInDw.nD → PrngReg), Pre_GmInDw m →
    θ_run (Cert.GmInDw.defs (F := Bits)) (onTc (τ := Cert.GmInDw.τ) (Cert.GmInDw.main (F := Bits))) ⟨m, fun _ => 0, g⟩ (fun r => (∀ c : Dev Cert.GmInDw.nD,
      r.2.mem ((c.tc : Thread Cert.GmInDw.nD Cert.GmInDw.τ).loc Cert.GmInDw.main_arg0) = m ((c.tc : Thread Cert.GmInDw.nD Cert.GmInDw.τ).loc Cert.GmInDw.main_arg0)
      ∧ r.2.mem ((c.tc : Thread Cert.GmInDw.nD Cert.GmInDw.τ).loc Cert.GmInDw.main_arg1) = m ((c.tc : Thread Cert.GmInDw.nD Cert.GmInDw.τ).loc Cert.GmInDw.main_arg1))
      ∧ r.2.sem = fun _ => 0)

def quiescent_GmInDwIdeal [hGmInDwIdeal : Cert.GmInDwIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg), Pre_GmInDwIdeal m →
    θ_run (Cert.GmInDwIdeal.defs (F := Ideal)) (onTc (τ := Cert.GmInDwIdeal.τ) (Cert.GmInDwIdeal.main (F := Ideal))) ⟨m, fun _ => 0, g⟩ (fun r => (∀ c : Dev Cert.GmInDwIdeal.nD,
      r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
      ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ r.2.sem = fun _ => 0)

def quiescent_GmInDwRefIdeal [hGmInDwRefIdeal : Cert.GmInDwRefIdeal.Facts] : Prop :=
  ∀ (m : (ℓ : Loc Cert.GmInDwRefIdeal.nD Cert.GmInDwRefIdeal.τ Cert.GmInDwRefIdeal.sig) → Buf (Elt Ideal) ℓ) (g : Dev Cert.GmInDwRefIdeal.nD → PrngReg), Pre_GmInDwRefIdeal m →
    θ_run (Cert.GmInDwRefIdeal.defs (F := Ideal)) (onTc (τ := Cert.GmInDwRefIdeal.τ) (Cert.GmInDwRefIdeal.main (F := Ideal))) ⟨m, fun _ => 0, g⟩ (fun r => (∀ c : Dev Cert.GmInDwRefIdeal.nD,
      r.2.mem ((c.tc : Thread Cert.GmInDwRefIdeal.nD Cert.GmInDwRefIdeal.τ).loc Cert.GmInDwRefIdeal.main_arg0) = m ((c.tc : Thread Cert.GmInDwRefIdeal.nD Cert.GmInDwRefIdeal.τ).loc Cert.GmInDwRefIdeal.main_arg0)
      ∧ r.2.mem ((c.tc : Thread Cert.GmInDwRefIdeal.nD Cert.GmInDwRefIdeal.τ).loc Cert.GmInDwRefIdeal.main_arg1) = m ((c.tc : Thread Cert.GmInDwRefIdeal.nD Cert.GmInDwRefIdeal.τ).loc Cert.GmInDwRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 4096, 1424]⟩ ⟨3, ![32, 4096, 1424]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![4, 1024, 1536]⟩ ⟨3, ![32, 1024, 1536]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 512, 2048]⟩ ⟨3, ![32, 512, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 1024, 4096]⟩ ⟨3, ![32, 1024, 4096]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4, 4096, 4096]⟩ ⟨3, ![32, 4096, 4096]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![4, 1024, 4096]⟩ ⟨3, ![32, 1024, 4096]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨3, ![4, 4096, 3072]⟩ ⟨3, ![32, 4096, 3072]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨3, ![4, 1024, 4096]⟩ ⟨3, ![32, 1024, 4096]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨3, ![4, 4096, 3072]⟩ ⟨3, ![32, 4096, 3072]⟩ 0 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨3, ![4, 1024, 4096]⟩ ⟨3, ![32, 1024, 4096]⟩ 0 8 c (m' (((0 : Dev Cert.ReferenceIdeal.nD).tc : Thread Cert.ReferenceIdeal.nD Cert.ReferenceIdeal.τ).loc Cert.ReferenceIdeal.main_arg9))) →
    ∃ (v0 : Buf (Elt Ideal) (((0 : Dev Cert.ReferenceIdeal.nD).tc : Thread Cert.ReferenceIdeal.nD Cert.ReferenceIdeal.τ).loc Cert.ReferenceIdeal.main_v8)) (v1 : Buf (Elt Ideal) (((0 : Dev Cert.ReferenceIdeal.nD).tc : Thread Cert.ReferenceIdeal.nD Cert.ReferenceIdeal.τ).loc Cert.ReferenceIdeal.main_v17)) (v2 : Buf (Elt Ideal) (((0 : Dev Cert.ReferenceIdeal.nD).tc : Thread Cert.ReferenceIdeal.nD Cert.ReferenceIdeal.τ).loc Cert.ReferenceIdeal.main_v26)) (v3 : Buf (Elt Ideal) (((0 : Dev Cert.ReferenceIdeal.nD).tc : Thread Cert.ReferenceIdeal.nD Cert.ReferenceIdeal.τ).loc Cert.ReferenceIdeal.main_v35)) (v4 : Buf (Elt Ideal) (((0 : Dev Cert.ReferenceIdeal.nD).tc : Thread Cert.ReferenceIdeal.nD Cert.ReferenceIdeal.τ).loc Cert.ReferenceIdeal.main_v44)) (v5 : Buf (Elt Ideal) (((0 : Dev Cert.ReferenceIdeal.nD).tc : Thread Cert.ReferenceIdeal.nD Cert.ReferenceIdeal.τ).loc Cert.ReferenceIdeal.main_v53)) (v6 : Buf (Elt Ideal) (((0 : Dev Cert.ReferenceIdeal.nD).tc : Thread Cert.ReferenceIdeal.nD Cert.ReferenceIdeal.τ).loc Cert.ReferenceIdeal.main_v62)) (v7 : Buf (Elt Ideal) (((0 : Dev Cert.ReferenceIdeal.nD).tc : Thread Cert.ReferenceIdeal.nD Cert.ReferenceIdeal.τ).loc Cert.ReferenceIdeal.main_v71)) (v8 : Buf (Elt Ideal) (((0 : Dev Cert.ReferenceIdeal.nD).tc : Thread Cert.ReferenceIdeal.nD Cert.ReferenceIdeal.τ).loc Cert.ReferenceIdeal.main_v80)) (v9 : Buf (Elt Ideal) (((0 : Dev Cert.ReferenceIdeal.nD).tc : Thread Cert.ReferenceIdeal.nD Cert.ReferenceIdeal.τ).loc Cert.ReferenceIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![4, 2048, 1424]⟩ ⟨3, ![32, 2048, 1424]⟩ 0 8 c v0
          ∧ r.2.mem ((c.tc : Thread Cert.KernelIdeal.nD Cert.KernelIdeal.τ).loc Cert.KernelIdeal.main_v1_1) = Layout.block ⟨3, ![4, 512, 1536]⟩ ⟨3, ![32, 512, 1536]⟩ 0 8 c v1
          ∧ r.2.mem ((c.tc : Thread Cert.KernelIdeal.nD Cert.KernelIdeal.τ).loc Cert.KernelIdeal.main_v1_2) = Layout.block ⟨3, ![4, 256, 2048]⟩ ⟨3, ![32, 256, 2048]⟩ 0 8 c v2
          ∧ r.2.mem ((c.tc : Thread Cert.KernelIdeal.nD Cert.KernelIdeal.τ).loc Cert.KernelIdeal.main_v1_3) = Layout.block ⟨3, ![4, 512, 4096]⟩ ⟨3, ![32, 512, 4096]⟩ 0 8 c v3
          ∧ r.2.mem ((c.tc : Thread Cert.KernelIdeal.nD Cert.KernelIdeal.τ).loc Cert.KernelIdeal.main_v1_4) = Layout.block ⟨3, ![4, 2048, 4096]⟩ ⟨3, ![32, 2048, 4096]⟩ 0 8 c v4
          ∧ r.2.mem ((c.tc : Thread Cert.KernelIdeal.nD Cert.KernelIdeal.τ).loc Cert.KernelIdeal.main_v1_5) = Layout.block ⟨3, ![4, 512, 4096]⟩ ⟨3, ![32, 512, 4096]⟩ 0 8 c v5
          ∧ r.2.mem ((c.tc : Thread Cert.KernelIdeal.nD Cert.KernelIdeal.τ).loc Cert.KernelIdeal.main_v1_6) = Layout.block ⟨3, ![4, 2048, 3072]⟩ ⟨3, ![32, 2048, 3072]⟩ 0 8 c v6
          ∧ r.2.mem ((c.tc : Thread Cert.KernelIdeal.nD Cert.KernelIdeal.τ).loc Cert.KernelIdeal.main_v1_7) = Layout.block ⟨3, ![4, 512, 4096]⟩ ⟨3, ![32, 512, 4096]⟩ 0 8 c v7
          ∧ r.2.mem ((c.tc : Thread Cert.KernelIdeal.nD Cert.KernelIdeal.τ).loc Cert.KernelIdeal.main_v1_8) = Layout.block ⟨3, ![4, 2048, 3072]⟩ ⟨3, ![32, 2048, 3072]⟩ 0 8 c v8
          ∧ r.2.mem ((c.tc : Thread Cert.KernelIdeal.nD Cert.KernelIdeal.τ).loc Cert.KernelIdeal.main_v1_9) = Layout.block ⟨3, ![4, 512, 4096]⟩ ⟨3, ![32, 512, 4096]⟩ 0 8 c v9
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_v17) = v1
          ∧ r.2.mem (((0 : Dev Cert.ReferenceIdeal.nD).tc : Thread Cert.ReferenceIdeal.nD Cert.ReferenceIdeal.τ).loc Cert.ReferenceIdeal.main_v26) = v2
          ∧ r.2.mem (((0 : Dev Cert.ReferenceIdeal.nD).tc : Thread Cert.ReferenceIdeal.nD Cert.ReferenceIdeal.τ).loc Cert.ReferenceIdeal.main_v35) = v3
          ∧ r.2.mem (((0 : Dev Cert.ReferenceIdeal.nD).tc : Thread Cert.ReferenceIdeal.nD Cert.ReferenceIdeal.τ).loc Cert.ReferenceIdeal.main_v44) = v4
          ∧ r.2.mem (((0 : Dev Cert.ReferenceIdeal.nD).tc : Thread Cert.ReferenceIdeal.nD Cert.ReferenceIdeal.τ).loc Cert.ReferenceIdeal.main_v53) = v5
          ∧ r.2.mem (((0 : Dev Cert.ReferenceIdeal.nD).tc : Thread Cert.ReferenceIdeal.nD Cert.ReferenceIdeal.τ).loc Cert.ReferenceIdeal.main_v62) = v6
          ∧ r.2.mem (((0 : Dev Cert.ReferenceIdeal.nD).tc : Thread Cert.ReferenceIdeal.nD Cert.ReferenceIdeal.τ).loc Cert.ReferenceIdeal.main_v71) = v7
          ∧ r.2.mem (((0 : Dev Cert.ReferenceIdeal.nD).tc : Thread Cert.ReferenceIdeal.nD Cert.ReferenceIdeal.τ).loc Cert.ReferenceIdeal.main_v80) = v8
          ∧ r.2.mem (((0 : Dev Cert.ReferenceIdeal.nD).tc : Thread Cert.ReferenceIdeal.nD Cert.ReferenceIdeal.τ).loc Cert.ReferenceIdeal.main_v89) = v9
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![4, 4096, 1424]⟩ ⟨3, ![32, 4096, 1424]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![4, 1024, 1536]⟩ ⟨3, ![32, 1024, 1536]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![4, 512, 2048]⟩ ⟨3, ![32, 512, 2048]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![4, 1024, 4096]⟩ ⟨3, ![32, 1024, 4096]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![4, 4096, 4096]⟩ ⟨3, ![32, 4096, 4096]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨3, ![4, 1024, 4096]⟩ ⟨3, ![32, 1024, 4096]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨3, ![4, 4096, 3072]⟩ ⟨3, ![32, 4096, 3072]⟩ 0 8 c (m' (((0 : Dev Cert.Reference.nD).tc : Thread Cert.Reference.nD Cert.Reference.τ).loc Cert.Reference.main_arg6))
      ∧ m ((c.tc : Thread Cert.Kernel.nD Cert.Kernel.τ).loc Cert.Kernel.main_arg7) = Layout.block ⟨3, ![4, 1024, 4096]⟩ ⟨3, ![32, 1024, 4096]⟩ 0 8 c (m' (((0 : Dev Cert.Reference.nD).tc : Thread Cert.Reference.nD Cert.Reference.τ).loc Cert.Reference.main_arg7))
      ∧ m ((c.tc : Thread Cert.Kernel.nD Cert.Kernel.τ).loc Cert.Kernel.main_arg8) = Layout.block ⟨3, ![4, 4096, 3072]⟩ ⟨3, ![32, 4096, 3072]⟩ 0 8 c (m' (((0 : Dev Cert.Reference.nD).tc : Thread Cert.Reference.nD Cert.Reference.τ).loc Cert.Reference.main_arg8))
      ∧ m ((c.tc : Thread Cert.Kernel.nD Cert.Kernel.τ).loc Cert.Kernel.main_arg9) = Layout.block ⟨3, ![4, 1024, 4096]⟩ ⟨3, ![32, 1024, 4096]⟩ 0 8 c (m' (((0 : Dev Cert.Reference.nD).tc : Thread Cert.Reference.nD Cert.Reference.τ).loc Cert.Reference.main_arg9))) →
    ∃ (v0 : Buf (Elt Bits) (((0 : Dev Cert.Reference.nD).tc : Thread Cert.Reference.nD Cert.Reference.τ).loc Cert.Reference.main_v8)) (v1 : Buf (Elt Bits) (((0 : Dev Cert.Reference.nD).tc : Thread Cert.Reference.nD Cert.Reference.τ).loc Cert.Reference.main_v17)) (v2 : Buf (Elt Bits) (((0 : Dev Cert.Reference.nD).tc : Thread Cert.Reference.nD Cert.Reference.τ).loc Cert.Reference.main_v26)) (v3 : Buf (Elt Bits) (((0 : Dev Cert.Reference.nD).tc : Thread Cert.Reference.nD Cert.Reference.τ).loc Cert.Reference.main_v35)) (v4 : Buf (Elt Bits) (((0 : Dev Cert.Reference.nD).tc : Thread Cert.Reference.nD Cert.Reference.τ).loc Cert.Reference.main_v44)) (v5 : Buf (Elt Bits) (((0 : Dev Cert.Reference.nD).tc : Thread Cert.Reference.nD Cert.Reference.τ).loc Cert.Reference.main_v53)) (v6 : Buf (Elt Bits) (((0 : Dev Cert.Reference.nD).tc : Thread Cert.Reference.nD Cert.Reference.τ).loc Cert.Reference.main_v62)) (v7 : Buf (Elt Bits) (((0 : Dev Cert.Reference.nD).tc : Thread Cert.Reference.nD Cert.Reference.τ).loc Cert.Reference.main_v71)) (v8 : Buf (Elt Bits) (((0 : Dev Cert.Reference.nD).tc : Thread Cert.Reference.nD Cert.Reference.τ).loc Cert.Reference.main_v80)) (v9 : Buf (Elt Bits) (((0 : Dev Cert.Reference.nD).tc : Thread Cert.Reference.nD Cert.Reference.τ).loc Cert.Reference.main_v89)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![4, 2048, 1424]⟩ ⟨3, ![32, 2048, 1424]⟩ 0 8 c v0
          ∧ r.2.mem ((c.tc : Thread Cert.Kernel.nD Cert.Kernel.τ).loc Cert.Kernel.main_v1_1) = Layout.block ⟨3, ![4, 512, 1536]⟩ ⟨3, ![32, 512, 1536]⟩ 0 8 c v1
          ∧ r.2.mem ((c.tc : Thread Cert.Kernel.nD Cert.Kernel.τ).loc Cert.Kernel.main_v1_2) = Layout.block ⟨3, ![4, 256, 2048]⟩ ⟨3, ![32, 256, 2048]⟩ 0 8 c v2
          ∧ r.2.mem ((c.tc : Thread Cert.Kernel.nD Cert.Kernel.τ).loc Cert.Kernel.main_v1_3) = Layout.block ⟨3, ![4, 512, 4096]⟩ ⟨3, ![32, 512, 4096]⟩ 0 8 c v3
          ∧ r.2.mem ((c.tc : Thread Cert.Kernel.nD Cert.Kernel.τ).loc Cert.Kernel.main_v1_4) = Layout.block ⟨3, ![4, 2048, 4096]⟩ ⟨3, ![32, 2048, 4096]⟩ 0 8 c v4
          ∧ r.2.mem ((c.tc : Thread Cert.Kernel.nD Cert.Kernel.τ).loc Cert.Kernel.main_v1_5) = Layout.block ⟨3, ![4, 512, 4096]⟩ ⟨3, ![32, 512, 4096]⟩ 0 8 c v5
          ∧ r.2.mem ((c.tc : Thread Cert.Kernel.nD Cert.Kernel.τ).loc Cert.Kernel.main_v1_6) = Layout.block ⟨3, ![4, 2048, 3072]⟩ ⟨3, ![32, 2048, 3072]⟩ 0 8 c v6
          ∧ r.2.mem ((c.tc : Thread Cert.Kernel.nD Cert.Kernel.τ).loc Cert.Kernel.main_v1_7) = Layout.block ⟨3, ![4, 512, 4096]⟩ ⟨3, ![32, 512, 4096]⟩ 0 8 c v7
          ∧ r.2.mem ((c.tc : Thread Cert.Kernel.nD Cert.Kernel.τ).loc Cert.Kernel.main_v1_8) = Layout.block ⟨3, ![4, 2048, 3072]⟩ ⟨3, ![32, 2048, 3072]⟩ 0 8 c v8
          ∧ r.2.mem ((c.tc : Thread Cert.Kernel.nD Cert.Kernel.τ).loc Cert.Kernel.main_v1_9) = Layout.block ⟨3, ![4, 512, 4096]⟩ ⟨3, ![32, 512, 4096]⟩ 0 8 c v9
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_v17) = v1
          ∧ r.2.mem (((0 : Dev Cert.Reference.nD).tc : Thread Cert.Reference.nD Cert.Reference.τ).loc Cert.Reference.main_v26) = v2
          ∧ r.2.mem (((0 : Dev Cert.Reference.nD).tc : Thread Cert.Reference.nD Cert.Reference.τ).loc Cert.Reference.main_v35) = v3
          ∧ r.2.mem (((0 : Dev Cert.Reference.nD).tc : Thread Cert.Reference.nD Cert.Reference.τ).loc Cert.Reference.main_v44) = v4
          ∧ r.2.mem (((0 : Dev Cert.Reference.nD).tc : Thread Cert.Reference.nD Cert.Reference.τ).loc Cert.Reference.main_v53) = v5
          ∧ r.2.mem (((0 : Dev Cert.Reference.nD).tc : Thread Cert.Reference.nD Cert.Reference.τ).loc Cert.Reference.main_v62) = v6
          ∧ r.2.mem (((0 : Dev Cert.Reference.nD).tc : Thread Cert.Reference.nD Cert.Reference.τ).loc Cert.Reference.main_v71) = v7
          ∧ r.2.mem (((0 : Dev Cert.Reference.nD).tc : Thread Cert.Reference.nD Cert.Reference.τ).loc Cert.Reference.main_v80) = v8
          ∧ r.2.mem (((0 : Dev Cert.Reference.nD).tc : Thread Cert.Reference.nD Cert.Reference.τ).loc Cert.Reference.main_v89) = v9
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6)
          ∧ r.2.mem (((0 : Dev Cert.Reference.nD).tc : Thread Cert.Reference.nD Cert.Reference.τ).loc Cert.Reference.main_arg7) = m' (((0 : Dev Cert.Reference.nD).tc : Thread Cert.Reference.nD Cert.Reference.τ).loc Cert.Reference.main_arg7)
          ∧ r.2.mem (((0 : Dev Cert.Reference.nD).tc : Thread Cert.Reference.nD Cert.Reference.τ).loc Cert.Reference.main_arg8) = m' (((0 : Dev Cert.Reference.nD).tc : Thread Cert.Reference.nD Cert.Reference.τ).loc Cert.Reference.main_arg8)
          ∧ r.2.mem (((0 : Dev Cert.Reference.nD).tc : Thread Cert.Reference.nD Cert.Reference.τ).loc Cert.Reference.main_arg9) = m' (((0 : Dev Cert.Reference.nD).tc : Thread Cert.Reference.nD Cert.Reference.τ).loc Cert.Reference.main_arg9))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 2048, 1424]⟩ ⟨3, ![32, 2048, 1424]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 512, 1536]⟩ ⟨3, ![32, 512, 1536]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![4, 512, 4096]⟩ ⟨3, ![32, 512, 4096]⟩ 0 8 c (m' (((0 : Dev Cert.ScatterRefIdeal.nD).tc : Thread Cert.ScatterRefIdeal.nD Cert.ScatterRefIdeal.τ).loc Cert.ScatterRefIdeal.main_arg3))
      ∧ m ((c.tc : Thread Cert.ScatterIdeal.nD Cert.ScatterIdeal.τ).loc Cert.ScatterIdeal.main_arg4) = Layout.block ⟨3, ![4, 2048, 4096]⟩ ⟨3, ![32, 2048, 4096]⟩ 0 8 c (m' (((0 : Dev Cert.ScatterRefIdeal.nD).tc : Thread Cert.ScatterRefIdeal.nD Cert.ScatterRefIdeal.τ).loc Cert.ScatterRefIdeal.main_arg4))
      ∧ m ((c.tc : Thread Cert.ScatterIdeal.nD Cert.ScatterIdeal.τ).loc Cert.ScatterIdeal.main_arg5) = Layout.block ⟨3, ![4, 512, 4096]⟩ ⟨3, ![32, 512, 4096]⟩ 0 8 c (m' (((0 : Dev Cert.ScatterRefIdeal.nD).tc : Thread Cert.ScatterRefIdeal.nD Cert.ScatterRefIdeal.τ).loc Cert.ScatterRefIdeal.main_arg5))
      ∧ m ((c.tc : Thread Cert.ScatterIdeal.nD Cert.ScatterIdeal.τ).loc Cert.ScatterIdeal.main_arg6) = Layout.block ⟨3, ![4, 2048, 3072]⟩ ⟨3, ![32, 2048, 3072]⟩ 0 8 c (m' (((0 : Dev Cert.ScatterRefIdeal.nD).tc : Thread Cert.ScatterRefIdeal.nD Cert.ScatterRefIdeal.τ).loc Cert.ScatterRefIdeal.main_arg6))
      ∧ m ((c.tc : Thread Cert.ScatterIdeal.nD Cert.ScatterIdeal.τ).loc Cert.ScatterIdeal.main_arg7) = Layout.block ⟨3, ![4, 512, 4096]⟩ ⟨3, ![32, 512, 4096]⟩ 0 8 c (m' (((0 : Dev Cert.ScatterRefIdeal.nD).tc : Thread Cert.ScatterRefIdeal.nD Cert.ScatterRefIdeal.τ).loc Cert.ScatterRefIdeal.main_arg7))
      ∧ m ((c.tc : Thread Cert.ScatterIdeal.nD Cert.ScatterIdeal.τ).loc Cert.ScatterIdeal.main_arg8) = Layout.block ⟨3, ![4, 2048, 3072]⟩ ⟨3, ![32, 2048, 3072]⟩ 0 8 c (m' (((0 : Dev Cert.ScatterRefIdeal.nD).tc : Thread Cert.ScatterRefIdeal.nD Cert.ScatterRefIdeal.τ).loc Cert.ScatterRefIdeal.main_arg8))
      ∧ m ((c.tc : Thread Cert.ScatterIdeal.nD Cert.ScatterIdeal.τ).loc Cert.ScatterIdeal.main_arg9) = Layout.block ⟨3, ![4, 512, 4096]⟩ ⟨3, ![32, 512, 4096]⟩ 0 8 c (m' (((0 : Dev Cert.ScatterRefIdeal.nD).tc : Thread Cert.ScatterRefIdeal.nD Cert.ScatterRefIdeal.τ).loc Cert.ScatterRefIdeal.main_arg9))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)) (v4 : Buf (Elt Ideal) (((0 : Dev Cert.ScatterRefIdeal.nD).tc : Thread Cert.ScatterRefIdeal.nD Cert.ScatterRefIdeal.τ).loc Cert.ScatterRefIdeal.main_v14)) (v5 : Buf (Elt Ideal) (((0 : Dev Cert.ScatterRefIdeal.nD).tc : Thread Cert.ScatterRefIdeal.nD Cert.ScatterRefIdeal.τ).loc Cert.ScatterRefIdeal.main_v17)) (v6 : Buf (Elt Ideal) (((0 : Dev Cert.ScatterRefIdeal.nD).tc : Thread Cert.ScatterRefIdeal.nD Cert.ScatterRefIdeal.τ).loc Cert.ScatterRefIdeal.main_v20)) (v7 : Buf (Elt Ideal) (((0 : Dev Cert.ScatterRefIdeal.nD).tc : Thread Cert.ScatterRefIdeal.nD Cert.ScatterRefIdeal.τ).loc Cert.ScatterRefIdeal.main_v23)) (v8 : Buf (Elt Ideal) (((0 : Dev Cert.ScatterRefIdeal.nD).tc : Thread Cert.ScatterRefIdeal.nD Cert.ScatterRefIdeal.τ).loc Cert.ScatterRefIdeal.main_v26)) (v9 : Buf (Elt Ideal) (((0 : Dev Cert.ScatterRefIdeal.nD).tc : Thread Cert.ScatterRefIdeal.nD Cert.ScatterRefIdeal.τ).loc Cert.ScatterRefIdeal.main_v29)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v19) = Layout.block ⟨3, ![4, 2048, 1424]⟩ ⟨3, ![32, 2048, 1424]⟩ 0 8 c v0
          ∧ r.2.mem ((c.tc : Thread Cert.ScatterIdeal.nD Cert.ScatterIdeal.τ).loc Cert.ScatterIdeal.main_v27) = Layout.block ⟨3, ![4, 512, 1536]⟩ ⟨3, ![32, 512, 1536]⟩ 0 8 c v1
          ∧ r.2.mem ((c.tc : Thread Cert.ScatterIdeal.nD Cert.ScatterIdeal.τ).loc Cert.ScatterIdeal.main_v35) = Layout.block ⟨3, ![4, 256, 2048]⟩ ⟨3, ![32, 256, 2048]⟩ 0 8 c v2
          ∧ r.2.mem ((c.tc : Thread Cert.ScatterIdeal.nD Cert.ScatterIdeal.τ).loc Cert.ScatterIdeal.main_v43) = Layout.block ⟨3, ![4, 512, 4096]⟩ ⟨3, ![32, 512, 4096]⟩ 0 8 c v3
          ∧ r.2.mem ((c.tc : Thread Cert.ScatterIdeal.nD Cert.ScatterIdeal.τ).loc Cert.ScatterIdeal.main_v51) = Layout.block ⟨3, ![4, 2048, 4096]⟩ ⟨3, ![32, 2048, 4096]⟩ 0 8 c v4
          ∧ r.2.mem ((c.tc : Thread Cert.ScatterIdeal.nD Cert.ScatterIdeal.τ).loc Cert.ScatterIdeal.main_v59) = Layout.block ⟨3, ![4, 512, 4096]⟩ ⟨3, ![32, 512, 4096]⟩ 0 8 c v5
          ∧ r.2.mem ((c.tc : Thread Cert.ScatterIdeal.nD Cert.ScatterIdeal.τ).loc Cert.ScatterIdeal.main_v67) = Layout.block ⟨3, ![4, 2048, 3072]⟩ ⟨3, ![32, 2048, 3072]⟩ 0 8 c v6
          ∧ r.2.mem ((c.tc : Thread Cert.ScatterIdeal.nD Cert.ScatterIdeal.τ).loc Cert.ScatterIdeal.main_v75) = Layout.block ⟨3, ![4, 512, 4096]⟩ ⟨3, ![32, 512, 4096]⟩ 0 8 c v7
          ∧ r.2.mem ((c.tc : Thread Cert.ScatterIdeal.nD Cert.ScatterIdeal.τ).loc Cert.ScatterIdeal.main_v83) = Layout.block ⟨3, ![4, 2048, 3072]⟩ ⟨3, ![32, 2048, 3072]⟩ 0 8 c v8
          ∧ r.2.mem ((c.tc : Thread Cert.ScatterIdeal.nD Cert.ScatterIdeal.τ).loc Cert.ScatterIdeal.main_v91) = Layout.block ⟨3, ![4, 512, 4096]⟩ ⟨3, ![32, 512, 4096]⟩ 0 8 c v9
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
          ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
          ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
          ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
          ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_v14) = v4
          ∧ r.2.mem (((0 : Dev Cert.ScatterRefIdeal.nD).tc : Thread Cert.ScatterRefIdeal.nD Cert.ScatterRefIdeal.τ).loc Cert.ScatterRefIdeal.main_v17) = v5
          ∧ r.2.mem (((0 : Dev Cert.ScatterRefIdeal.nD).tc : Thread Cert.ScatterRefIdeal.nD Cert.ScatterRefIdeal.τ).loc Cert.ScatterRefIdeal.main_v20) = v6
          ∧ r.2.mem (((0 : Dev Cert.ScatterRefIdeal.nD).tc : Thread Cert.ScatterRefIdeal.nD Cert.ScatterRefIdeal.τ).loc Cert.ScatterRefIdeal.main_v23) = v7
          ∧ r.2.mem (((0 : Dev Cert.ScatterRefIdeal.nD).tc : Thread Cert.ScatterRefIdeal.nD Cert.ScatterRefIdeal.τ).loc Cert.ScatterRefIdeal.main_v26) = v8
          ∧ r.2.mem (((0 : Dev Cert.ScatterRefIdeal.nD).tc : Thread Cert.ScatterRefIdeal.nD Cert.ScatterRefIdeal.τ).loc Cert.ScatterRefIdeal.main_v29) = v9
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3)
          ∧ r.2.mem (((0 : Dev Cert.ScatterRefIdeal.nD).tc : Thread Cert.ScatterRefIdeal.nD Cert.ScatterRefIdeal.τ).loc Cert.ScatterRefIdeal.main_arg4) = m' (((0 : Dev Cert.ScatterRefIdeal.nD).tc : Thread Cert.ScatterRefIdeal.nD Cert.ScatterRefIdeal.τ).loc Cert.ScatterRefIdeal.main_arg4)
          ∧ r.2.mem (((0 : Dev Cert.ScatterRefIdeal.nD).tc : Thread Cert.ScatterRefIdeal.nD Cert.ScatterRefIdeal.τ).loc Cert.ScatterRefIdeal.main_arg5) = m' (((0 : Dev Cert.ScatterRefIdeal.nD).tc : Thread Cert.ScatterRefIdeal.nD Cert.ScatterRefIdeal.τ).loc Cert.ScatterRefIdeal.main_arg5)
          ∧ r.2.mem (((0 : Dev Cert.ScatterRefIdeal.nD).tc : Thread Cert.ScatterRefIdeal.nD Cert.ScatterRefIdeal.τ).loc Cert.ScatterRefIdeal.main_arg6) = m' (((0 : Dev Cert.ScatterRefIdeal.nD).tc : Thread Cert.ScatterRefIdeal.nD Cert.ScatterRefIdeal.τ).loc Cert.ScatterRefIdeal.main_arg6)
          ∧ r.2.mem (((0 : Dev Cert.ScatterRefIdeal.nD).tc : Thread Cert.ScatterRefIdeal.nD Cert.ScatterRefIdeal.τ).loc Cert.ScatterRefIdeal.main_arg7) = m' (((0 : Dev Cert.ScatterRefIdeal.nD).tc : Thread Cert.ScatterRefIdeal.nD Cert.ScatterRefIdeal.τ).loc Cert.ScatterRefIdeal.main_arg7)
          ∧ r.2.mem (((0 : Dev Cert.ScatterRefIdeal.nD).tc : Thread Cert.ScatterRefIdeal.nD Cert.ScatterRefIdeal.τ).loc Cert.ScatterRefIdeal.main_arg8) = m' (((0 : Dev Cert.ScatterRefIdeal.nD).tc : Thread Cert.ScatterRefIdeal.nD Cert.ScatterRefIdeal.τ).loc Cert.ScatterRefIdeal.main_arg8)
          ∧ r.2.mem (((0 : Dev Cert.ScatterRefIdeal.nD).tc : Thread Cert.ScatterRefIdeal.nD Cert.ScatterRefIdeal.τ).loc Cert.ScatterRefIdeal.main_arg9) = m' (((0 : Dev Cert.ScatterRefIdeal.nD).tc : Thread Cert.ScatterRefIdeal.nD Cert.ScatterRefIdeal.τ).loc Cert.ScatterRefIdeal.main_arg9))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 2048, 1424]⟩ ⟨3, ![32, 2048, 1424]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 512, 1536]⟩ ⟨3, ![32, 512, 1536]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![4, 256, 2048]⟩ ⟨3, ![32, 256, 2048]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![4, 512, 4096]⟩ ⟨3, ![32, 512, 4096]⟩ 0 8 c (m' (((0 : Dev Cert.ScatterRef.nD).tc : Thread Cert.ScatterRef.nD Cert.ScatterRef.τ).loc Cert.ScatterRef.main_arg3))
      ∧ m ((c.tc : Thread Cert.Scatter.nD Cert.Scatter.τ).loc Cert.Scatter.main_arg4) = Layout.block ⟨3, ![4, 2048, 4096]⟩ ⟨3, ![32, 2048, 4096]⟩ 0 8 c (m' (((0 : Dev Cert.ScatterRef.nD).tc : Thread Cert.ScatterRef.nD Cert.ScatterRef.τ).loc Cert.ScatterRef.main_arg4))
      ∧ m ((c.tc : Thread Cert.Scatter.nD Cert.Scatter.τ).loc Cert.Scatter.main_arg5) = Layout.block ⟨3, ![4, 512, 4096]⟩ ⟨3, ![32, 512, 4096]⟩ 0 8 c (m' (((0 : Dev Cert.ScatterRef.nD).tc : Thread Cert.ScatterRef.nD Cert.ScatterRef.τ).loc Cert.ScatterRef.main_arg5))
      ∧ m ((c.tc : Thread Cert.Scatter.nD Cert.Scatter.τ).loc Cert.Scatter.main_arg6) = Layout.block ⟨3, ![4, 2048, 3072]⟩ ⟨3, ![32, 2048, 3072]⟩ 0 8 c (m' (((0 : Dev Cert.ScatterRef.nD).tc : Thread Cert.ScatterRef.nD Cert.ScatterRef.τ).loc Cert.ScatterRef.main_arg6))
      ∧ m ((c.tc : Thread Cert.Scatter.nD Cert.Scatter.τ).loc Cert.Scatter.main_arg7) = Layout.block ⟨3, ![4, 512, 4096]⟩ ⟨3, ![32, 512, 4096]⟩ 0 8 c (m' (((0 : Dev Cert.ScatterRef.nD).tc : Thread Cert.ScatterRef.nD Cert.ScatterRef.τ).loc Cert.ScatterRef.main_arg7))
      ∧ m ((c.tc : Thread Cert.Scatter.nD Cert.Scatter.τ).loc Cert.Scatter.main_arg8) = Layout.block ⟨3, ![4, 2048, 3072]⟩ ⟨3, ![32, 2048, 3072]⟩ 0 8 c (m' (((0 : Dev Cert.ScatterRef.nD).tc : Thread Cert.ScatterRef.nD Cert.ScatterRef.τ).loc Cert.ScatterRef.main_arg8))
      ∧ m ((c.tc : Thread Cert.Scatter.nD Cert.Scatter.τ).loc Cert.Scatter.main_arg9) = Layout.block ⟨3, ![4, 512, 4096]⟩ ⟨3, ![32, 512, 4096]⟩ 0 8 c (m' (((0 : Dev Cert.ScatterRef.nD).tc : Thread Cert.ScatterRef.nD Cert.ScatterRef.τ).loc Cert.ScatterRef.main_arg9))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)) (v4 : Buf (Elt Bits) (((0 : Dev Cert.ScatterRef.nD).tc : Thread Cert.ScatterRef.nD Cert.ScatterRef.τ).loc Cert.ScatterRef.main_v14)) (v5 : Buf (Elt Bits) (((0 : Dev Cert.ScatterRef.nD).tc : Thread Cert.ScatterRef.nD Cert.ScatterRef.τ).loc Cert.ScatterRef.main_v17)) (v6 : Buf (Elt Bits) (((0 : Dev Cert.ScatterRef.nD).tc : Thread Cert.ScatterRef.nD Cert.ScatterRef.τ).loc Cert.ScatterRef.main_v20)) (v7 : Buf (Elt Bits) (((0 : Dev Cert.ScatterRef.nD).tc : Thread Cert.ScatterRef.nD Cert.ScatterRef.τ).loc Cert.ScatterRef.main_v23)) (v8 : Buf (Elt Bits) (((0 : Dev Cert.ScatterRef.nD).tc : Thread Cert.ScatterRef.nD Cert.ScatterRef.τ).loc Cert.ScatterRef.main_v26)) (v9 : Buf (Elt Bits) (((0 : Dev Cert.ScatterRef.nD).tc : Thread Cert.ScatterRef.nD Cert.ScatterRef.τ).loc Cert.ScatterRef.main_v29)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v19) = Layout.block ⟨3, ![4, 2048, 1424]⟩ ⟨3, ![32, 2048, 1424]⟩ 0 8 c v0
          ∧ r.2.mem ((c.tc : Thread Cert.Scatter.nD Cert.Scatter.τ).loc Cert.Scatter.main_v27) = Layout.block ⟨3, ![4, 512, 1536]⟩ ⟨3, ![32, 512, 1536]⟩ 0 8 c v1
          ∧ r.2.mem ((c.tc : Thread Cert.Scatter.nD Cert.Scatter.τ).loc Cert.Scatter.main_v35) = Layout.block ⟨3, ![4, 256, 2048]⟩ ⟨3, ![32, 256, 2048]⟩ 0 8 c v2
          ∧ r.2.mem ((c.tc : Thread Cert.Scatter.nD Cert.Scatter.τ).loc Cert.Scatter.main_v43) = Layout.block ⟨3, ![4, 512, 4096]⟩ ⟨3, ![32, 512, 4096]⟩ 0 8 c v3
          ∧ r.2.mem ((c.tc : Thread Cert.Scatter.nD Cert.Scatter.τ).loc Cert.Scatter.main_v51) = Layout.block ⟨3, ![4, 2048, 4096]⟩ ⟨3, ![32, 2048, 4096]⟩ 0 8 c v4
          ∧ r.2.mem ((c.tc : Thread Cert.Scatter.nD Cert.Scatter.τ).loc Cert.Scatter.main_v59) = Layout.block ⟨3, ![4, 512, 4096]⟩ ⟨3, ![32, 512, 4096]⟩ 0 8 c v5
          ∧ r.2.mem ((c.tc : Thread Cert.Scatter.nD Cert.Scatter.τ).loc Cert.Scatter.main_v67) = Layout.block ⟨3, ![4, 2048, 3072]⟩ ⟨3, ![32, 2048, 3072]⟩ 0 8 c v6
          ∧ r.2.mem ((c.tc : Thread Cert.Scatter.nD Cert.Scatter.τ).loc Cert.Scatter.main_v75) = Layout.block ⟨3, ![4, 512, 4096]⟩ ⟨3, ![32, 512, 4096]⟩ 0 8 c v7
          ∧ r.2.mem ((c.tc : Thread Cert.Scatter.nD Cert.Scatter.τ).loc Cert.Scatter.main_v83) = Layout.block ⟨3, ![4, 2048, 3072]⟩ ⟨3, ![32, 2048, 3072]⟩ 0 8 c v8
          ∧ r.2.mem ((c.tc : Thread Cert.Scatter.nD Cert.Scatter.τ).loc Cert.Scatter.main_v91) = Layout.block ⟨3, ![4, 512, 4096]⟩ ⟨3, ![32, 512, 4096]⟩ 0 8 c v9
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4)
          ∧ r.2.mem ((c.tc : Thread Cert.Scatter.nD Cert.Scatter.τ).loc Cert.Scatter.main_arg5) = m ((c.tc : Thread Cert.Scatter.nD Cert.Scatter.τ).loc Cert.Scatter.main_arg5)
          ∧ r.2.mem ((c.tc : Thread Cert.Scatter.nD Cert.Scatter.τ).loc Cert.Scatter.main_arg6) = m ((c.tc : Thread Cert.Scatter.nD Cert.Scatter.τ).loc Cert.Scatter.main_arg6)
          ∧ r.2.mem ((c.tc : Thread Cert.Scatter.nD Cert.Scatter.τ).loc Cert.Scatter.main_arg7) = m ((c.tc : Thread Cert.Scatter.nD Cert.Scatter.τ).loc Cert.Scatter.main_arg7)
          ∧ r.2.mem ((c.tc : Thread Cert.Scatter.nD Cert.Scatter.τ).loc Cert.Scatter.main_arg8) = m ((c.tc : Thread Cert.Scatter.nD Cert.Scatter.τ).loc Cert.Scatter.main_arg8)
          ∧ r.2.mem ((c.tc : Thread Cert.Scatter.nD Cert.Scatter.τ).loc Cert.Scatter.main_arg9) = m ((c.tc : Thread Cert.Scatter.nD Cert.Scatter.τ).loc Cert.Scatter.main_arg9))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_v14) = v4
          ∧ r.2.mem (((0 : Dev Cert.ScatterRef.nD).tc : Thread Cert.ScatterRef.nD Cert.ScatterRef.τ).loc Cert.ScatterRef.main_v17) = v5
          ∧ r.2.mem (((0 : Dev Cert.ScatterRef.nD).tc : Thread Cert.ScatterRef.nD Cert.ScatterRef.τ).loc Cert.ScatterRef.main_v20) = v6
          ∧ r.2.mem (((0 : Dev Cert.ScatterRef.nD).tc : Thread Cert.ScatterRef.nD Cert.ScatterRef.τ).loc Cert.ScatterRef.main_v23) = v7
          ∧ r.2.mem (((0 : Dev Cert.ScatterRef.nD).tc : Thread Cert.ScatterRef.nD Cert.ScatterRef.τ).loc Cert.ScatterRef.main_v26) = v8
          ∧ r.2.mem (((0 : Dev Cert.ScatterRef.nD).tc : Thread Cert.ScatterRef.nD Cert.ScatterRef.τ).loc Cert.ScatterRef.main_v29) = v9
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3)
          ∧ r.2.mem (((0 : Dev Cert.ScatterRef.nD).tc : Thread Cert.ScatterRef.nD Cert.ScatterRef.τ).loc Cert.ScatterRef.main_arg4) = m' (((0 : Dev Cert.ScatterRef.nD).tc : Thread Cert.ScatterRef.nD Cert.ScatterRef.τ).loc Cert.ScatterRef.main_arg4)
          ∧ r.2.mem (((0 : Dev Cert.ScatterRef.nD).tc : Thread Cert.ScatterRef.nD Cert.ScatterRef.τ).loc Cert.ScatterRef.main_arg5) = m' (((0 : Dev Cert.ScatterRef.nD).tc : Thread Cert.ScatterRef.nD Cert.ScatterRef.τ).loc Cert.ScatterRef.main_arg5)
          ∧ r.2.mem (((0 : Dev Cert.ScatterRef.nD).tc : Thread Cert.ScatterRef.nD Cert.ScatterRef.τ).loc Cert.ScatterRef.main_arg6) = m' (((0 : Dev Cert.ScatterRef.nD).tc : Thread Cert.ScatterRef.nD Cert.ScatterRef.τ).loc Cert.ScatterRef.main_arg6)
          ∧ r.2.mem (((0 : Dev Cert.ScatterRef.nD).tc : Thread Cert.ScatterRef.nD Cert.ScatterRef.τ).loc Cert.ScatterRef.main_arg7) = m' (((0 : Dev Cert.ScatterRef.nD).tc : Thread Cert.ScatterRef.nD Cert.ScatterRef.τ).loc Cert.ScatterRef.main_arg7)
          ∧ r.2.mem (((0 : Dev Cert.ScatterRef.nD).tc : Thread Cert.ScatterRef.nD Cert.ScatterRef.τ).loc Cert.ScatterRef.main_arg8) = m' (((0 : Dev Cert.ScatterRef.nD).tc : Thread Cert.ScatterRef.nD Cert.ScatterRef.τ).loc Cert.ScatterRef.main_arg8)
          ∧ r.2.mem (((0 : Dev Cert.ScatterRef.nD).tc : Thread Cert.ScatterRef.nD Cert.ScatterRef.τ).loc Cert.ScatterRef.main_arg9) = m' (((0 : Dev Cert.ScatterRef.nD).tc : Thread Cert.ScatterRef.nD Cert.ScatterRef.τ).loc Cert.ScatterRef.main_arg9))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![2048, 1424]⟩ ⟨2, ![16384, 1424]⟩ 0 8 c (m' (((0 : Dev Cert.JoinRefIdeal.nD).tc : Thread Cert.JoinRefIdeal.nD Cert.JoinRefIdeal.τ).loc Cert.JoinRefIdeal.main_arg0))
      ∧ m ((c.tc : Thread Cert.JoinIdeal.nD Cert.JoinIdeal.τ).loc Cert.JoinIdeal.main_arg1) = Layout.block ⟨2, ![512, 1536]⟩ ⟨2, ![4096, 1536]⟩ 0 8 c (m' (((0 : Dev Cert.JoinRefIdeal.nD).tc : Thread Cert.JoinRefIdeal.nD Cert.JoinRefIdeal.τ).loc Cert.JoinRefIdeal.main_arg1))
      ∧ m ((c.tc : Thread Cert.JoinIdeal.nD Cert.JoinIdeal.τ).loc Cert.JoinIdeal.main_arg2) = Layout.block ⟨2, ![256, 2048]⟩ ⟨2, ![2048, 2048]⟩ 0 8 c (m' (((0 : Dev Cert.JoinRefIdeal.nD).tc : Thread Cert.JoinRefIdeal.nD Cert.JoinRefIdeal.τ).loc Cert.JoinRefIdeal.main_arg2))
      ∧ m ((c.tc : Thread Cert.JoinIdeal.nD Cert.JoinIdeal.τ).loc Cert.JoinIdeal.main_arg3) = Layout.block ⟨2, ![512, 4096]⟩ ⟨2, ![4096, 4096]⟩ 0 8 c (m' (((0 : Dev Cert.JoinRefIdeal.nD).tc : Thread Cert.JoinRefIdeal.nD Cert.JoinRefIdeal.τ).loc Cert.JoinRefIdeal.main_arg3))
      ∧ m ((c.tc : Thread Cert.JoinIdeal.nD Cert.JoinIdeal.τ).loc Cert.JoinIdeal.main_arg4) = Layout.block ⟨2, ![2048, 4096]⟩ ⟨2, ![16384, 4096]⟩ 0 8 c (m' (((0 : Dev Cert.JoinRefIdeal.nD).tc : Thread Cert.JoinRefIdeal.nD Cert.JoinRefIdeal.τ).loc Cert.JoinRefIdeal.main_arg4))
      ∧ m ((c.tc : Thread Cert.JoinIdeal.nD Cert.JoinIdeal.τ).loc Cert.JoinIdeal.main_arg5) = Layout.block ⟨2, ![512, 4096]⟩ ⟨2, ![4096, 4096]⟩ 0 8 c (m' (((0 : Dev Cert.JoinRefIdeal.nD).tc : Thread Cert.JoinRefIdeal.nD Cert.JoinRefIdeal.τ).loc Cert.JoinRefIdeal.main_arg5))
      ∧ m ((c.tc : Thread Cert.JoinIdeal.nD Cert.JoinIdeal.τ).loc Cert.JoinIdeal.main_arg6) = Layout.block ⟨2, ![2048, 3072]⟩ ⟨2, ![16384, 3072]⟩ 0 8 c (m' (((0 : Dev Cert.JoinRefIdeal.nD).tc : Thread Cert.JoinRefIdeal.nD Cert.JoinRefIdeal.τ).loc Cert.JoinRefIdeal.main_arg6))
      ∧ m ((c.tc : Thread Cert.JoinIdeal.nD Cert.JoinIdeal.τ).loc Cert.JoinIdeal.main_arg7) = Layout.block ⟨2, ![512, 4096]⟩ ⟨2, ![4096, 4096]⟩ 0 8 c (m' (((0 : Dev Cert.JoinRefIdeal.nD).tc : Thread Cert.JoinRefIdeal.nD Cert.JoinRefIdeal.τ).loc Cert.JoinRefIdeal.main_arg7))
      ∧ m ((c.tc : Thread Cert.JoinIdeal.nD Cert.JoinIdeal.τ).loc Cert.JoinIdeal.main_arg8) = Layout.block ⟨2, ![2048, 3072]⟩ ⟨2, ![16384, 3072]⟩ 0 8 c (m' (((0 : Dev Cert.JoinRefIdeal.nD).tc : Thread Cert.JoinRefIdeal.nD Cert.JoinRefIdeal.τ).loc Cert.JoinRefIdeal.main_arg8))
      ∧ m ((c.tc : Thread Cert.JoinIdeal.nD Cert.JoinIdeal.τ).loc Cert.JoinIdeal.main_arg9) = Layout.block ⟨2, ![512, 4096]⟩ ⟨2, ![4096, 4096]⟩ 0 8 c (m' (((0 : Dev Cert.JoinRefIdeal.nD).tc : Thread Cert.JoinRefIdeal.nD Cert.JoinRefIdeal.τ).loc Cert.JoinRefIdeal.main_arg9))) →
    ∃ (v0 : Buf (Elt Ideal) (((0 : Dev Cert.JoinRefIdeal.nD).tc : Thread Cert.JoinRefIdeal.nD Cert.JoinRefIdeal.τ).loc Cert.JoinRefIdeal.main_v1)) (v1 : Buf (Elt Ideal) (((0 : Dev Cert.JoinRefIdeal.nD).tc : Thread Cert.JoinRefIdeal.nD Cert.JoinRefIdeal.τ).loc Cert.JoinRefIdeal.main_v3)) (v2 : Buf (Elt Ideal) (((0 : Dev Cert.JoinRefIdeal.nD).tc : Thread Cert.JoinRefIdeal.nD Cert.JoinRefIdeal.τ).loc Cert.JoinRefIdeal.main_v5)) (v3 : Buf (Elt Ideal) (((0 : Dev Cert.JoinRefIdeal.nD).tc : Thread Cert.JoinRefIdeal.nD Cert.JoinRefIdeal.τ).loc Cert.JoinRefIdeal.main_v7)) (v4 : Buf (Elt Ideal) (((0 : Dev Cert.JoinRefIdeal.nD).tc : Thread Cert.JoinRefIdeal.nD Cert.JoinRefIdeal.τ).loc Cert.JoinRefIdeal.main_v9)) (v5 : Buf (Elt Ideal) (((0 : Dev Cert.JoinRefIdeal.nD).tc : Thread Cert.JoinRefIdeal.nD Cert.JoinRefIdeal.τ).loc Cert.JoinRefIdeal.main_v11)) (v6 : Buf (Elt Ideal) (((0 : Dev Cert.JoinRefIdeal.nD).tc : Thread Cert.JoinRefIdeal.nD Cert.JoinRefIdeal.τ).loc Cert.JoinRefIdeal.main_v13)) (v7 : Buf (Elt Ideal) (((0 : Dev Cert.JoinRefIdeal.nD).tc : Thread Cert.JoinRefIdeal.nD Cert.JoinRefIdeal.τ).loc Cert.JoinRefIdeal.main_v15)) (v8 : Buf (Elt Ideal) (((0 : Dev Cert.JoinRefIdeal.nD).tc : Thread Cert.JoinRefIdeal.nD Cert.JoinRefIdeal.τ).loc Cert.JoinRefIdeal.main_v17)) (v9 : Buf (Elt Ideal) (((0 : Dev Cert.JoinRefIdeal.nD).tc : Thread Cert.JoinRefIdeal.nD Cert.JoinRefIdeal.τ).loc Cert.JoinRefIdeal.main_v19)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v10) = Layout.blockN ⟨2, ![4096, 1424]⟩ ⟨2, ![16384, 1424]⟩ (Layout.meshBlock [2, 2, 2] ![[0, 1], []] c) v0
          ∧ r.2.mem ((c.tc : Thread Cert.JoinIdeal.nD Cert.JoinIdeal.τ).loc Cert.JoinIdeal.main_v15) = Layout.blockN ⟨2, ![1024, 1536]⟩ ⟨2, ![4096, 1536]⟩ (Layout.meshBlock [2, 2, 2] ![[0, 1], []] c) v1
          ∧ r.2.mem ((c.tc : Thread Cert.JoinIdeal.nD Cert.JoinIdeal.τ).loc Cert.JoinIdeal.main_v20) = Layout.blockN ⟨2, ![512, 2048]⟩ ⟨2, ![2048, 2048]⟩ (Layout.meshBlock [2, 2, 2] ![[0, 1], []] c) v2
          ∧ r.2.mem ((c.tc : Thread Cert.JoinIdeal.nD Cert.JoinIdeal.τ).loc Cert.JoinIdeal.main_v25) = Layout.blockN ⟨2, ![1024, 4096]⟩ ⟨2, ![4096, 4096]⟩ (Layout.meshBlock [2, 2, 2] ![[0, 1], []] c) v3
          ∧ r.2.mem ((c.tc : Thread Cert.JoinIdeal.nD Cert.JoinIdeal.τ).loc Cert.JoinIdeal.main_v30) = Layout.blockN ⟨2, ![4096, 4096]⟩ ⟨2, ![16384, 4096]⟩ (Layout.meshBlock [2, 2, 2] ![[0, 1], []] c) v4
          ∧ r.2.mem ((c.tc : Thread Cert.JoinIdeal.nD Cert.JoinIdeal.τ).loc Cert.JoinIdeal.main_v35) = Layout.blockN ⟨2, ![1024, 4096]⟩ ⟨2, ![4096, 4096]⟩ (Layout.meshBlock [2, 2, 2] ![[0, 1], []] c) v5
          ∧ r.2.mem ((c.tc : Thread Cert.JoinIdeal.nD Cert.JoinIdeal.τ).loc Cert.JoinIdeal.main_v40) = Layout.blockN ⟨2, ![4096, 3072]⟩ ⟨2, ![16384, 3072]⟩ (Layout.meshBlock [2, 2, 2] ![[0, 1], []] c) v6
          ∧ r.2.mem ((c.tc : Thread Cert.JoinIdeal.nD Cert.JoinIdeal.τ).loc Cert.JoinIdeal.main_v45) = Layout.blockN ⟨2, ![1024, 4096]⟩ ⟨2, ![4096, 4096]⟩ (Layout.meshBlock [2, 2, 2] ![[0, 1], []] c) v7
          ∧ r.2.mem ((c.tc : Thread Cert.JoinIdeal.nD Cert.JoinIdeal.τ).loc Cert.JoinIdeal.main_v50) = Layout.blockN ⟨2, ![4096, 3072]⟩ ⟨2, ![16384, 3072]⟩ (Layout.meshBlock [2, 2, 2] ![[0, 1], []] c) v8
          ∧ r.2.mem ((c.tc : Thread Cert.JoinIdeal.nD Cert.JoinIdeal.τ).loc Cert.JoinIdeal.main_v55) = Layout.blockN ⟨2, ![1024, 4096]⟩ ⟨2, ![4096, 4096]⟩ (Layout.meshBlock [2, 2, 2] ![[0, 1], []] c) v9
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v1) = v0
          ∧ r.2.mem (((0 : Dev Cert.JoinRefIdeal.nD).tc : Thread Cert.JoinRefIdeal.nD Cert.JoinRefIdeal.τ).loc Cert.JoinRefIdeal.main_v3) = v1
          ∧ r.2.mem (((0 : Dev Cert.JoinRefIdeal.nD).tc : Thread Cert.JoinRefIdeal.nD Cert.JoinRefIdeal.τ).loc Cert.JoinRefIdeal.main_v5) = v2
          ∧ r.2.mem (((0 : Dev Cert.JoinRefIdeal.nD).tc : Thread Cert.JoinRefIdeal.nD Cert.JoinRefIdeal.τ).loc Cert.JoinRefIdeal.main_v7) = v3
          ∧ r.2.mem (((0 : Dev Cert.JoinRefIdeal.nD).tc : Thread Cert.JoinRefIdeal.nD Cert.JoinRefIdeal.τ).loc Cert.JoinRefIdeal.main_v9) = v4
          ∧ r.2.mem (((0 : Dev Cert.JoinRefIdeal.nD).tc : Thread Cert.JoinRefIdeal.nD Cert.JoinRefIdeal.τ).loc Cert.JoinRefIdeal.main_v11) = v5
          ∧ r.2.mem (((0 : Dev Cert.JoinRefIdeal.nD).tc : Thread Cert.JoinRefIdeal.nD Cert.JoinRefIdeal.τ).loc Cert.JoinRefIdeal.main_v13) = v6
          ∧ r.2.mem (((0 : Dev Cert.JoinRefIdeal.nD).tc : Thread Cert.JoinRefIdeal.nD Cert.JoinRefIdeal.τ).loc Cert.JoinRefIdeal.main_v15) = v7
          ∧ r.2.mem (((0 : Dev Cert.JoinRefIdeal.nD).tc : Thread Cert.JoinRefIdeal.nD Cert.JoinRefIdeal.τ).loc Cert.JoinRefIdeal.main_v17) = v8
          ∧ r.2.mem (((0 : Dev Cert.JoinRefIdeal.nD).tc : Thread Cert.JoinRefIdeal.nD Cert.JoinRefIdeal.τ).loc Cert.JoinRefIdeal.main_v19) = v9
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2)
          ∧ r.2.mem (((0 : Dev Cert.JoinRefIdeal.nD).tc : Thread Cert.JoinRefIdeal.nD Cert.JoinRefIdeal.τ).loc Cert.JoinRefIdeal.main_arg3) = m' (((0 : Dev Cert.JoinRefIdeal.nD).tc : Thread Cert.JoinRefIdeal.nD Cert.JoinRefIdeal.τ).loc Cert.JoinRefIdeal.main_arg3)
          ∧ r.2.mem (((0 : Dev Cert.JoinRefIdeal.nD).tc : Thread Cert.JoinRefIdeal.nD Cert.JoinRefIdeal.τ).loc Cert.JoinRefIdeal.main_arg4) = m' (((0 : Dev Cert.JoinRefIdeal.nD).tc : Thread Cert.JoinRefIdeal.nD Cert.JoinRefIdeal.τ).loc Cert.JoinRefIdeal.main_arg4)
          ∧ r.2.mem (((0 : Dev Cert.JoinRefIdeal.nD).tc : Thread Cert.JoinRefIdeal.nD Cert.JoinRefIdeal.τ).loc Cert.JoinRefIdeal.main_arg5) = m' (((0 : Dev Cert.JoinRefIdeal.nD).tc : Thread Cert.JoinRefIdeal.nD Cert.JoinRefIdeal.τ).loc Cert.JoinRefIdeal.main_arg5)
          ∧ r.2.mem (((0 : Dev Cert.JoinRefIdeal.nD).tc : Thread Cert.JoinRefIdeal.nD Cert.JoinRefIdeal.τ).loc Cert.JoinRefIdeal.main_arg6) = m' (((0 : Dev Cert.JoinRefIdeal.nD).tc : Thread Cert.JoinRefIdeal.nD Cert.JoinRefIdeal.τ).loc Cert.JoinRefIdeal.main_arg6)
          ∧ r.2.mem (((0 : Dev Cert.JoinRefIdeal.nD).tc : Thread Cert.JoinRefIdeal.nD Cert.JoinRefIdeal.τ).loc Cert.JoinRefIdeal.main_arg7) = m' (((0 : Dev Cert.JoinRefIdeal.nD).tc : Thread Cert.JoinRefIdeal.nD Cert.JoinRefIdeal.τ).loc Cert.JoinRefIdeal.main_arg7)
          ∧ r.2.mem (((0 : Dev Cert.JoinRefIdeal.nD).tc : Thread Cert.JoinRefIdeal.nD Cert.JoinRefIdeal.τ).loc Cert.JoinRefIdeal.main_arg8) = m' (((0 : Dev Cert.JoinRefIdeal.nD).tc : Thread Cert.JoinRefIdeal.nD Cert.JoinRefIdeal.τ).loc Cert.JoinRefIdeal.main_arg8)
          ∧ r.2.mem (((0 : Dev Cert.JoinRefIdeal.nD).tc : Thread Cert.JoinRefIdeal.nD Cert.JoinRefIdeal.τ).loc Cert.JoinRefIdeal.main_arg9) = m' (((0 : Dev Cert.JoinRefIdeal.nD).tc : Thread Cert.JoinRefIdeal.nD Cert.JoinRefIdeal.τ).loc Cert.JoinRefIdeal.main_arg9))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![2048, 1424]⟩ ⟨2, ![16384, 1424]⟩ 0 8 c (m' (((0 : Dev Cert.JoinRef.nD).tc : Thread Cert.JoinRef.nD Cert.JoinRef.τ).loc Cert.JoinRef.main_arg0))
      ∧ m ((c.tc : Thread Cert.Join.nD Cert.Join.τ).loc Cert.Join.main_arg1) = Layout.block ⟨2, ![512, 1536]⟩ ⟨2, ![4096, 1536]⟩ 0 8 c (m' (((0 : Dev Cert.JoinRef.nD).tc : Thread Cert.JoinRef.nD Cert.JoinRef.τ).loc Cert.JoinRef.main_arg1))
      ∧ m ((c.tc : Thread Cert.Join.nD Cert.Join.τ).loc Cert.Join.main_arg2) = Layout.block ⟨2, ![256, 2048]⟩ ⟨2, ![2048, 2048]⟩ 0 8 c (m' (((0 : Dev Cert.JoinRef.nD).tc : Thread Cert.JoinRef.nD Cert.JoinRef.τ).loc Cert.JoinRef.main_arg2))
      ∧ m ((c.tc : Thread Cert.Join.nD Cert.Join.τ).loc Cert.Join.main_arg3) = Layout.block ⟨2, ![512, 4096]⟩ ⟨2, ![4096, 4096]⟩ 0 8 c (m' (((0 : Dev Cert.JoinRef.nD).tc : Thread Cert.JoinRef.nD Cert.JoinRef.τ).loc Cert.JoinRef.main_arg3))
      ∧ m ((c.tc : Thread Cert.Join.nD Cert.Join.τ).loc Cert.Join.main_arg4) = Layout.block ⟨2, ![2048, 4096]⟩ ⟨2, ![16384, 4096]⟩ 0 8 c (m' (((0 : Dev Cert.JoinRef.nD).tc : Thread Cert.JoinRef.nD Cert.JoinRef.τ).loc Cert.JoinRef.main_arg4))
      ∧ m ((c.tc : Thread Cert.Join.nD Cert.Join.τ).loc Cert.Join.main_arg5) = Layout.block ⟨2, ![512, 4096]⟩ ⟨2, ![4096, 4096]⟩ 0 8 c (m' (((0 : Dev Cert.JoinRef.nD).tc : Thread Cert.JoinRef.nD Cert.JoinRef.τ).loc Cert.JoinRef.main_arg5))
      ∧ m ((c.tc : Thread Cert.Join.nD Cert.Join.τ).loc Cert.Join.main_arg6) = Layout.block ⟨2, ![2048, 3072]⟩ ⟨2, ![16384, 3072]⟩ 0 8 c (m' (((0 : Dev Cert.JoinRef.nD).tc : Thread Cert.JoinRef.nD Cert.JoinRef.τ).loc Cert.JoinRef.main_arg6))
      ∧ m ((c.tc : Thread Cert.Join.nD Cert.Join.τ).loc Cert.Join.main_arg7) = Layout.block ⟨2, ![512, 4096]⟩ ⟨2, ![4096, 4096]⟩ 0 8 c (m' (((0 : Dev Cert.JoinRef.nD).tc : Thread Cert.JoinRef.nD Cert.JoinRef.τ).loc Cert.JoinRef.main_arg7))
      ∧ m ((c.tc : Thread Cert.Join.nD Cert.Join.τ).loc Cert.Join.main_arg8) = Layout.block ⟨2, ![2048, 3072]⟩ ⟨2, ![16384, 3072]⟩ 0 8 c (m' (((0 : Dev Cert.JoinRef.nD).tc : Thread Cert.JoinRef.nD Cert.JoinRef.τ).loc Cert.JoinRef.main_arg8))
      ∧ m ((c.tc : Thread Cert.Join.nD Cert.Join.τ).loc Cert.Join.main_arg9) = Layout.block ⟨2, ![512, 4096]⟩ ⟨2, ![4096, 4096]⟩ 0 8 c (m' (((0 : Dev Cert.JoinRef.nD).tc : Thread Cert.JoinRef.nD Cert.JoinRef.τ).loc Cert.JoinRef.main_arg9))) →
    ∃ (v0 : Buf (Elt Bits) (((0 : Dev Cert.JoinRef.nD).tc : Thread Cert.JoinRef.nD Cert.JoinRef.τ).loc Cert.JoinRef.main_v1)) (v1 : Buf (Elt Bits) (((0 : Dev Cert.JoinRef.nD).tc : Thread Cert.JoinRef.nD Cert.JoinRef.τ).loc Cert.JoinRef.main_v3)) (v2 : Buf (Elt Bits) (((0 : Dev Cert.JoinRef.nD).tc : Thread Cert.JoinRef.nD Cert.JoinRef.τ).loc Cert.JoinRef.main_v5)) (v3 : Buf (Elt Bits) (((0 : Dev Cert.JoinRef.nD).tc : Thread Cert.JoinRef.nD Cert.JoinRef.τ).loc Cert.JoinRef.main_v7)) (v4 : Buf (Elt Bits) (((0 : Dev Cert.JoinRef.nD).tc : Thread Cert.JoinRef.nD Cert.JoinRef.τ).loc Cert.JoinRef.main_v9)) (v5 : Buf (Elt Bits) (((0 : Dev Cert.JoinRef.nD).tc : Thread Cert.JoinRef.nD Cert.JoinRef.τ).loc Cert.JoinRef.main_v11)) (v6 : Buf (Elt Bits) (((0 : Dev Cert.JoinRef.nD).tc : Thread Cert.JoinRef.nD Cert.JoinRef.τ).loc Cert.JoinRef.main_v13)) (v7 : Buf (Elt Bits) (((0 : Dev Cert.JoinRef.nD).tc : Thread Cert.JoinRef.nD Cert.JoinRef.τ).loc Cert.JoinRef.main_v15)) (v8 : Buf (Elt Bits) (((0 : Dev Cert.JoinRef.nD).tc : Thread Cert.JoinRef.nD Cert.JoinRef.τ).loc Cert.JoinRef.main_v17)) (v9 : Buf (Elt Bits) (((0 : Dev Cert.JoinRef.nD).tc : Thread Cert.JoinRef.nD Cert.JoinRef.τ).loc Cert.JoinRef.main_v19)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v10) = Layout.blockN ⟨2, ![4096, 1424]⟩ ⟨2, ![16384, 1424]⟩ (Layout.meshBlock [2, 2, 2] ![[0, 1], []] c) v0
          ∧ r.2.mem ((c.tc : Thread Cert.Join.nD Cert.Join.τ).loc Cert.Join.main_v15) = Layout.blockN ⟨2, ![1024, 1536]⟩ ⟨2, ![4096, 1536]⟩ (Layout.meshBlock [2, 2, 2] ![[0, 1], []] c) v1
          ∧ r.2.mem ((c.tc : Thread Cert.Join.nD Cert.Join.τ).loc Cert.Join.main_v20) = Layout.blockN ⟨2, ![512, 2048]⟩ ⟨2, ![2048, 2048]⟩ (Layout.meshBlock [2, 2, 2] ![[0, 1], []] c) v2
          ∧ r.2.mem ((c.tc : Thread Cert.Join.nD Cert.Join.τ).loc Cert.Join.main_v25) = Layout.blockN ⟨2, ![1024, 4096]⟩ ⟨2, ![4096, 4096]⟩ (Layout.meshBlock [2, 2, 2] ![[0, 1], []] c) v3
          ∧ r.2.mem ((c.tc : Thread Cert.Join.nD Cert.Join.τ).loc Cert.Join.main_v30) = Layout.blockN ⟨2, ![4096, 4096]⟩ ⟨2, ![16384, 4096]⟩ (Layout.meshBlock [2, 2, 2] ![[0, 1], []] c) v4
          ∧ r.2.mem ((c.tc : Thread Cert.Join.nD Cert.Join.τ).loc Cert.Join.main_v35) = Layout.blockN ⟨2, ![1024, 4096]⟩ ⟨2, ![4096, 4096]⟩ (Layout.meshBlock [2, 2, 2] ![[0, 1], []] c) v5
          ∧ r.2.mem ((c.tc : Thread Cert.Join.nD Cert.Join.τ).loc Cert.Join.main_v40) = Layout.blockN ⟨2, ![4096, 3072]⟩ ⟨2, ![16384, 3072]⟩ (Layout.meshBlock [2, 2, 2] ![[0, 1], []] c) v6
          ∧ r.2.mem ((c.tc : Thread Cert.Join.nD Cert.Join.τ).loc Cert.Join.main_v45) = Layout.blockN ⟨2, ![1024, 4096]⟩ ⟨2, ![4096, 4096]⟩ (Layout.meshBlock [2, 2, 2] ![[0, 1], []] c) v7
          ∧ r.2.mem ((c.tc : Thread Cert.Join.nD Cert.Join.τ).loc Cert.Join.main_v50) = Layout.blockN ⟨2, ![4096, 3072]⟩ ⟨2, ![16384, 3072]⟩ (Layout.meshBlock [2, 2, 2] ![[0, 1], []] c) v8
          ∧ r.2.mem ((c.tc : Thread Cert.Join.nD Cert.Join.τ).loc Cert.Join.main_v55) = Layout.blockN ⟨2, ![1024, 4096]⟩ ⟨2, ![4096, 4096]⟩ (Layout.meshBlock [2, 2, 2] ![[0, 1], []] c) v9
          ∧ r.2.mem ((c.tc : Thread Cert.Join.nD Cert.Join.τ).loc Cert.Join.main_arg0) = m ((c.tc : Thread Cert.Join.nD Cert.Join.τ).loc Cert.Join.main_arg0)
          ∧ r.2.mem ((c.tc : Thread Cert.Join.nD Cert.Join.τ).loc Cert.Join.main_arg1) = m ((c.tc : Thread Cert.Join.nD Cert.Join.τ).loc Cert.Join.main_arg1)
          ∧ r.2.mem ((c.tc : Thread Cert.Join.nD Cert.Join.τ).loc Cert.Join.main_arg2) = m ((c.tc : Thread Cert.Join.nD Cert.Join.τ).loc Cert.Join.main_arg2)
          ∧ r.2.mem ((c.tc : Thread Cert.Join.nD Cert.Join.τ).loc Cert.Join.main_arg3) = m ((c.tc : Thread Cert.Join.nD Cert.Join.τ).loc Cert.Join.main_arg3)
          ∧ r.2.mem ((c.tc : Thread Cert.Join.nD Cert.Join.τ).loc Cert.Join.main_arg4) = m ((c.tc : Thread Cert.Join.nD Cert.Join.τ).loc Cert.Join.main_arg4)
          ∧ r.2.mem ((c.tc : Thread Cert.Join.nD Cert.Join.τ).loc Cert.Join.main_arg5) = m ((c.tc : Thread Cert.Join.nD Cert.Join.τ).loc Cert.Join.main_arg5)
          ∧ r.2.mem ((c.tc : Thread Cert.Join.nD Cert.Join.τ).loc Cert.Join.main_arg6) = m ((c.tc : Thread Cert.Join.nD Cert.Join.τ).loc Cert.Join.main_arg6)
          ∧ r.2.mem ((c.tc : Thread Cert.Join.nD Cert.Join.τ).loc Cert.Join.main_arg7) = m ((c.tc : Thread Cert.Join.nD Cert.Join.τ).loc Cert.Join.main_arg7)
          ∧ r.2.mem ((c.tc : Thread Cert.Join.nD Cert.Join.τ).loc Cert.Join.main_arg8) = m ((c.tc : Thread Cert.Join.nD Cert.Join.τ).loc Cert.Join.main_arg8)
          ∧ r.2.mem ((c.tc : Thread Cert.Join.nD Cert.Join.τ).loc Cert.Join.main_arg9) = m ((c.tc : Thread Cert.Join.nD Cert.Join.τ).loc Cert.Join.main_arg9))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v1) = v0
          ∧ r.2.mem (((0 : Dev Cert.JoinRef.nD).tc : Thread Cert.JoinRef.nD Cert.JoinRef.τ).loc Cert.JoinRef.main_v3) = v1
          ∧ r.2.mem (((0 : Dev Cert.JoinRef.nD).tc : Thread Cert.JoinRef.nD Cert.JoinRef.τ).loc Cert.JoinRef.main_v5) = v2
          ∧ r.2.mem (((0 : Dev Cert.JoinRef.nD).tc : Thread Cert.JoinRef.nD Cert.JoinRef.τ).loc Cert.JoinRef.main_v7) = v3
          ∧ r.2.mem (((0 : Dev Cert.JoinRef.nD).tc : Thread Cert.JoinRef.nD Cert.JoinRef.τ).loc Cert.JoinRef.main_v9) = v4
          ∧ r.2.mem (((0 : Dev Cert.JoinRef.nD).tc : Thread Cert.JoinRef.nD Cert.JoinRef.τ).loc Cert.JoinRef.main_v11) = v5
          ∧ r.2.mem (((0 : Dev Cert.JoinRef.nD).tc : Thread Cert.JoinRef.nD Cert.JoinRef.τ).loc Cert.JoinRef.main_v13) = v6
          ∧ r.2.mem (((0 : Dev Cert.JoinRef.nD).tc : Thread Cert.JoinRef.nD Cert.JoinRef.τ).loc Cert.JoinRef.main_v15) = v7
          ∧ r.2.mem (((0 : Dev Cert.JoinRef.nD).tc : Thread Cert.JoinRef.nD Cert.JoinRef.τ).loc Cert.JoinRef.main_v17) = v8
          ∧ r.2.mem (((0 : Dev Cert.JoinRef.nD).tc : Thread Cert.JoinRef.nD Cert.JoinRef.τ).loc Cert.JoinRef.main_v19) = v9
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0)
          ∧ r.2.mem (((0 : Dev Cert.JoinRef.nD).tc : Thread Cert.JoinRef.nD Cert.JoinRef.τ).loc Cert.JoinRef.main_arg1) = m' (((0 : Dev Cert.JoinRef.nD).tc : Thread Cert.JoinRef.nD Cert.JoinRef.τ).loc Cert.JoinRef.main_arg1)
          ∧ r.2.mem (((0 : Dev Cert.JoinRef.nD).tc : Thread Cert.JoinRef.nD Cert.JoinRef.τ).loc Cert.JoinRef.main_arg2) = m' (((0 : Dev Cert.JoinRef.nD).tc : Thread Cert.JoinRef.nD Cert.JoinRef.τ).loc Cert.JoinRef.main_arg2)
          ∧ r.2.mem (((0 : Dev Cert.JoinRef.nD).tc : Thread Cert.JoinRef.nD Cert.JoinRef.τ).loc Cert.JoinRef.main_arg3) = m' (((0 : Dev Cert.JoinRef.nD).tc : Thread Cert.JoinRef.nD Cert.JoinRef.τ).loc Cert.JoinRef.main_arg3)
          ∧ r.2.mem (((0 : Dev Cert.JoinRef.nD).tc : Thread Cert.JoinRef.nD Cert.JoinRef.τ).loc Cert.JoinRef.main_arg4) = m' (((0 : Dev Cert.JoinRef.nD).tc : Thread Cert.JoinRef.nD Cert.JoinRef.τ).loc Cert.JoinRef.main_arg4)
          ∧ r.2.mem (((0 : Dev Cert.JoinRef.nD).tc : Thread Cert.JoinRef.nD Cert.JoinRef.τ).loc Cert.JoinRef.main_arg5) = m' (((0 : Dev Cert.JoinRef.nD).tc : Thread Cert.JoinRef.nD Cert.JoinRef.τ).loc Cert.JoinRef.main_arg5)
          ∧ r.2.mem (((0 : Dev Cert.JoinRef.nD).tc : Thread Cert.JoinRef.nD Cert.JoinRef.τ).loc Cert.JoinRef.main_arg6) = m' (((0 : Dev Cert.JoinRef.nD).tc : Thread Cert.JoinRef.nD Cert.JoinRef.τ).loc Cert.JoinRef.main_arg6)
          ∧ r.2.mem (((0 : Dev Cert.JoinRef.nD).tc : Thread Cert.JoinRef.nD Cert.JoinRef.τ).loc Cert.JoinRef.main_arg7) = m' (((0 : Dev Cert.JoinRef.nD).tc : Thread Cert.JoinRef.nD Cert.JoinRef.τ).loc Cert.JoinRef.main_arg7)
          ∧ r.2.mem (((0 : Dev Cert.JoinRef.nD).tc : Thread Cert.JoinRef.nD Cert.JoinRef.τ).loc Cert.JoinRef.main_arg8) = m' (((0 : Dev Cert.JoinRef.nD).tc : Thread Cert.JoinRef.nD Cert.JoinRef.τ).loc Cert.JoinRef.main_arg8)
          ∧ r.2.mem (((0 : Dev Cert.JoinRef.nD).tc : Thread Cert.JoinRef.nD Cert.JoinRef.τ).loc Cert.JoinRef.main_arg9) = m' (((0 : Dev Cert.JoinRef.nD).tc : Thread Cert.JoinRef.nD Cert.JoinRef.τ).loc Cert.JoinRef.main_arg9))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![4096, 1424]⟩ ⟨2, ![16384, 1424]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![1024, 1536]⟩ ⟨2, ![4096, 1536]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![1024, 4096]⟩ ⟨2, ![4096, 4096]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![4096, 4096]⟩ ⟨2, ![16384, 4096]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨2, ![1024, 4096]⟩ ⟨2, ![4096, 4096]⟩ (Layout.meshBlock [2, 2, 2] ![[0, 1], []] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨2, ![4096, 3072]⟩ ⟨2, ![16384, 3072]⟩ (Layout.meshBlock [2, 2, 2] ![[0, 1], []] c) (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.blockN ⟨2, ![1024, 4096]⟩ ⟨2, ![4096, 4096]⟩ (Layout.meshBlock [2, 2, 2] ![[0, 1], []] c) (m' (((0 : Dev Cert.GatherRefIdeal.nD).tc : Thread Cert.GatherRefIdeal.nD Cert.GatherRefIdeal.τ).loc Cert.GatherRefIdeal.main_arg7))
      ∧ m ((c.tc : Thread Cert.GatherIdeal.nD Cert.GatherIdeal.τ).loc Cert.GatherIdeal.main_arg8) = Layout.blockN ⟨2, ![4096, 3072]⟩ ⟨2, ![16384, 3072]⟩ (Layout.meshBlock [2, 2, 2] ![[0, 1], []] c) (m' (((0 : Dev Cert.GatherRefIdeal.nD).tc : Thread Cert.GatherRefIdeal.nD Cert.GatherRefIdeal.τ).loc Cert.GatherRefIdeal.main_arg8))
      ∧ m ((c.tc : Thread Cert.GatherIdeal.nD Cert.GatherIdeal.τ).loc Cert.GatherIdeal.main_arg9) = Layout.blockN ⟨2, ![1024, 4096]⟩ ⟨2, ![4096, 4096]⟩ (Layout.meshBlock [2, 2, 2] ![[0, 1], []] c) (m' (((0 : Dev Cert.GatherRefIdeal.nD).tc : Thread Cert.GatherRefIdeal.nD Cert.GatherRefIdeal.τ).loc Cert.GatherRefIdeal.main_arg9))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)) (v5 : Buf (Elt Ideal) (((0 : Dev Cert.GatherRefIdeal.nD).tc : Thread Cert.GatherRefIdeal.nD Cert.GatherRefIdeal.τ).loc Cert.GatherRefIdeal.main_v5)) (v6 : Buf (Elt Ideal) (((0 : Dev Cert.GatherRefIdeal.nD).tc : Thread Cert.GatherRefIdeal.nD Cert.GatherRefIdeal.τ).loc Cert.GatherRefIdeal.main_v6)) (v7 : Buf (Elt Ideal) (((0 : Dev Cert.GatherRefIdeal.nD).tc : Thread Cert.GatherRefIdeal.nD Cert.GatherRefIdeal.τ).loc Cert.GatherRefIdeal.main_v7)) (v8 : Buf (Elt Ideal) (((0 : Dev Cert.GatherRefIdeal.nD).tc : Thread Cert.GatherRefIdeal.nD Cert.GatherRefIdeal.τ).loc Cert.GatherRefIdeal.main_v8)) (v9 : Buf (Elt Ideal) (((0 : Dev Cert.GatherRefIdeal.nD).tc : Thread Cert.GatherRefIdeal.nD Cert.GatherRefIdeal.τ).loc Cert.GatherRefIdeal.main_v9)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v16) = v0
          ∧ r.2.mem ((c.tc : Thread Cert.GatherIdeal.nD Cert.GatherIdeal.τ).loc Cert.GatherIdeal.main_v21) = v1
          ∧ r.2.mem ((c.tc : Thread Cert.GatherIdeal.nD Cert.GatherIdeal.τ).loc Cert.GatherIdeal.main_v26) = v2
          ∧ r.2.mem ((c.tc : Thread Cert.GatherIdeal.nD Cert.GatherIdeal.τ).loc Cert.GatherIdeal.main_v31) = v3
          ∧ r.2.mem ((c.tc : Thread Cert.GatherIdeal.nD Cert.GatherIdeal.τ).loc Cert.GatherIdeal.main_v36) = v4
          ∧ r.2.mem ((c.tc : Thread Cert.GatherIdeal.nD Cert.GatherIdeal.τ).loc Cert.GatherIdeal.main_v41) = v5
          ∧ r.2.mem ((c.tc : Thread Cert.GatherIdeal.nD Cert.GatherIdeal.τ).loc Cert.GatherIdeal.main_v46) = v6
          ∧ r.2.mem ((c.tc : Thread Cert.GatherIdeal.nD Cert.GatherIdeal.τ).loc Cert.GatherIdeal.main_v51) = v7
          ∧ r.2.mem ((c.tc : Thread Cert.GatherIdeal.nD Cert.GatherIdeal.τ).loc Cert.GatherIdeal.main_v56) = v8
          ∧ r.2.mem ((c.tc : Thread Cert.GatherIdeal.nD Cert.GatherIdeal.τ).loc Cert.GatherIdeal.main_v61) = v9
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
          ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_v6) = v6
          ∧ r.2.mem (((0 : Dev Cert.GatherRefIdeal.nD).tc : Thread Cert.GatherRefIdeal.nD Cert.GatherRefIdeal.τ).loc Cert.GatherRefIdeal.main_v7) = v7
          ∧ r.2.mem (((0 : Dev Cert.GatherRefIdeal.nD).tc : Thread Cert.GatherRefIdeal.nD Cert.GatherRefIdeal.τ).loc Cert.GatherRefIdeal.main_v8) = v8
          ∧ r.2.mem (((0 : Dev Cert.GatherRefIdeal.nD).tc : Thread Cert.GatherRefIdeal.nD Cert.GatherRefIdeal.τ).loc Cert.GatherRefIdeal.main_v9) = v9
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7)
          ∧ r.2.mem (((0 : Dev Cert.GatherRefIdeal.nD).tc : Thread Cert.GatherRefIdeal.nD Cert.GatherRefIdeal.τ).loc Cert.GatherRefIdeal.main_arg8) = m' (((0 : Dev Cert.GatherRefIdeal.nD).tc : Thread Cert.GatherRefIdeal.nD Cert.GatherRefIdeal.τ).loc Cert.GatherRefIdeal.main_arg8)
          ∧ r.2.mem (((0 : Dev Cert.GatherRefIdeal.nD).tc : Thread Cert.GatherRefIdeal.nD Cert.GatherRefIdeal.τ).loc Cert.GatherRefIdeal.main_arg9) = m' (((0 : Dev Cert.GatherRefIdeal.nD).tc : Thread Cert.GatherRefIdeal.nD Cert.GatherRefIdeal.τ).loc Cert.GatherRefIdeal.main_arg9))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![4096, 1424]⟩ ⟨2, ![16384, 1424]⟩ (Layout.meshBlock [2, 2, 2] ![[0, 1], []] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![1024, 1536]⟩ ⟨2, ![4096, 1536]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![1024, 4096]⟩ ⟨2, ![4096, 4096]⟩ (Layout.meshBlock [2, 2, 2] ![[0, 1], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![4096, 4096]⟩ ⟨2, ![16384, 4096]⟩ (Layout.meshBlock [2, 2, 2] ![[0, 1], []] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.blockN ⟨2, ![1024, 4096]⟩ ⟨2, ![4096, 4096]⟩ (Layout.meshBlock [2, 2, 2] ![[0, 1], []] c) (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨2, ![4096, 3072]⟩ ⟨2, ![16384, 3072]⟩ (Layout.meshBlock [2, 2, 2] ![[0, 1], []] c) (m' (((0 : Dev Cert.GatherRef.nD).tc : Thread Cert.GatherRef.nD Cert.GatherRef.τ).loc Cert.GatherRef.main_arg6))
      ∧ m ((c.tc : Thread Cert.Gather.nD Cert.Gather.τ).loc Cert.Gather.main_arg7) = Layout.blockN ⟨2, ![1024, 4096]⟩ ⟨2, ![4096, 4096]⟩ (Layout.meshBlock [2, 2, 2] ![[0, 1], []] c) (m' (((0 : Dev Cert.GatherRef.nD).tc : Thread Cert.GatherRef.nD Cert.GatherRef.τ).loc Cert.GatherRef.main_arg7))
      ∧ m ((c.tc : Thread Cert.Gather.nD Cert.Gather.τ).loc Cert.Gather.main_arg8) = Layout.blockN ⟨2, ![4096, 3072]⟩ ⟨2, ![16384, 3072]⟩ (Layout.meshBlock [2, 2, 2] ![[0, 1], []] c) (m' (((0 : Dev Cert.GatherRef.nD).tc : Thread Cert.GatherRef.nD Cert.GatherRef.τ).loc Cert.GatherRef.main_arg8))
      ∧ m ((c.tc : Thread Cert.Gather.nD Cert.Gather.τ).loc Cert.Gather.main_arg9) = Layout.blockN ⟨2, ![1024, 4096]⟩ ⟨2, ![4096, 4096]⟩ (Layout.meshBlock [2, 2, 2] ![[0, 1], []] c) (m' (((0 : Dev Cert.GatherRef.nD).tc : Thread Cert.GatherRef.nD Cert.GatherRef.τ).loc Cert.GatherRef.main_arg9))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)) (v5 : Buf (Elt Bits) (((0 : Dev Cert.GatherRef.nD).tc : Thread Cert.GatherRef.nD Cert.GatherRef.τ).loc Cert.GatherRef.main_v5)) (v6 : Buf (Elt Bits) (((0 : Dev Cert.GatherRef.nD).tc : Thread Cert.GatherRef.nD Cert.GatherRef.τ).loc Cert.GatherRef.main_v6)) (v7 : Buf (Elt Bits) (((0 : Dev Cert.GatherRef.nD).tc : Thread Cert.GatherRef.nD Cert.GatherRef.τ).loc Cert.GatherRef.main_v7)) (v8 : Buf (Elt Bits) (((0 : Dev Cert.GatherRef.nD).tc : Thread Cert.GatherRef.nD Cert.GatherRef.τ).loc Cert.GatherRef.main_v8)) (v9 : Buf (Elt Bits) (((0 : Dev Cert.GatherRef.nD).tc : Thread Cert.GatherRef.nD Cert.GatherRef.τ).loc Cert.GatherRef.main_v9)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v16) = v0
          ∧ r.2.mem ((c.tc : Thread Cert.Gather.nD Cert.Gather.τ).loc Cert.Gather.main_v21) = v1
          ∧ r.2.mem ((c.tc : Thread Cert.Gather.nD Cert.Gather.τ).loc Cert.Gather.main_v26) = v2
          ∧ r.2.mem ((c.tc : Thread Cert.Gather.nD Cert.Gather.τ).loc Cert.Gather.main_v31) = v3
          ∧ r.2.mem ((c.tc : Thread Cert.Gather.nD Cert.Gather.τ).loc Cert.Gather.main_v36) = v4
          ∧ r.2.mem ((c.tc : Thread Cert.Gather.nD Cert.Gather.τ).loc Cert.Gather.main_v41) = v5
          ∧ r.2.mem ((c.tc : Thread Cert.Gather.nD Cert.Gather.τ).loc Cert.Gather.main_v46) = v6
          ∧ r.2.mem ((c.tc : Thread Cert.Gather.nD Cert.Gather.τ).loc Cert.Gather.main_v51) = v7
          ∧ r.2.mem ((c.tc : Thread Cert.Gather.nD Cert.Gather.τ).loc Cert.Gather.main_v56) = v8
          ∧ r.2.mem ((c.tc : Thread Cert.Gather.nD Cert.Gather.τ).loc Cert.Gather.main_v61) = v9
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8)
          ∧ r.2.mem ((c.tc : Thread Cert.Gather.nD Cert.Gather.τ).loc Cert.Gather.main_arg9) = m ((c.tc : Thread Cert.Gather.nD Cert.Gather.τ).loc Cert.Gather.main_arg9))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_v5) = v5
          ∧ r.2.mem (((0 : Dev Cert.GatherRef.nD).tc : Thread Cert.GatherRef.nD Cert.GatherRef.τ).loc Cert.GatherRef.main_v6) = v6
          ∧ r.2.mem (((0 : Dev Cert.GatherRef.nD).tc : Thread Cert.GatherRef.nD Cert.GatherRef.τ).loc Cert.GatherRef.main_v7) = v7
          ∧ r.2.mem (((0 : Dev Cert.GatherRef.nD).tc : Thread Cert.GatherRef.nD Cert.GatherRef.τ).loc Cert.GatherRef.main_v8) = v8
          ∧ r.2.mem (((0 : Dev Cert.GatherRef.nD).tc : Thread Cert.GatherRef.nD Cert.GatherRef.τ).loc Cert.GatherRef.main_v9) = v9
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6)
          ∧ r.2.mem (((0 : Dev Cert.GatherRef.nD).tc : Thread Cert.GatherRef.nD Cert.GatherRef.τ).loc Cert.GatherRef.main_arg7) = m' (((0 : Dev Cert.GatherRef.nD).tc : Thread Cert.GatherRef.nD Cert.GatherRef.τ).loc Cert.GatherRef.main_arg7)
          ∧ r.2.mem (((0 : Dev Cert.GatherRef.nD).tc : Thread Cert.GatherRef.nD Cert.GatherRef.τ).loc Cert.GatherRef.main_arg8) = m' (((0 : Dev Cert.GatherRef.nD).tc : Thread Cert.GatherRef.nD Cert.GatherRef.τ).loc Cert.GatherRef.main_arg8)
          ∧ r.2.mem (((0 : Dev Cert.GatherRef.nD).tc : Thread Cert.GatherRef.nD Cert.GatherRef.τ).loc Cert.GatherRef.main_arg9) = m' (((0 : Dev Cert.GatherRef.nD).tc : Thread Cert.GatherRef.nD Cert.GatherRef.τ).loc Cert.GatherRef.main_arg9))

def preserves_Adam4096x1424_Adam4096x1424Ideal : Prop :=
  True

def algebraic_Adam4096x1424Ideal_Adam4096x1424RefIdeal [hAdam4096x1424Ideal : Cert.Adam4096x1424Ideal.Facts] [hAdam4096x1424RefIdeal : Cert.Adam4096x1424RefIdeal.Facts] : Prop :=
  ∀ (m : (ℓ : Loc Cert.Adam4096x1424Ideal.nD Cert.Adam4096x1424Ideal.τ Cert.Adam4096x1424Ideal.sig) → Buf (Elt Ideal) ℓ) (g : Dev Cert.Adam4096x1424Ideal.nD → PrngReg)
    (m' : (ℓ : Loc Cert.Adam4096x1424RefIdeal.nD Cert.Adam4096x1424RefIdeal.τ Cert.Adam4096x1424RefIdeal.sig) → Buf (Elt Ideal) ℓ) (g' : Dev Cert.Adam4096x1424RefIdeal.nD → PrngReg), Pre_Adam4096x1424Ideal m →
    (∀ c : Dev Cert.Adam4096x1424Ideal.nD,
      m' ((c.tc : Thread Cert.Adam4096x1424RefIdeal.nD Cert.Adam4096x1424RefIdeal.τ).loc Cert.Adam4096x1424RefIdeal.main_arg0) = m ((c.tc : Thread Cert.Adam4096x1424Ideal.nD Cert.Adam4096x1424Ideal.τ).loc Cert.Adam4096x1424Ideal.main_arg0)
      ∧ m' ((c.tc : Thread Cert.Adam4096x1424RefIdeal.nD Cert.Adam4096x1424RefIdeal.τ).loc Cert.Adam4096x1424RefIdeal.main_arg1) = m ((c.tc : Thread Cert.Adam4096x1424Ideal.nD Cert.Adam4096x1424Ideal.τ).loc Cert.Adam4096x1424Ideal.main_arg1)
      ∧ m' ((c.tc : Thread Cert.Adam4096x1424RefIdeal.nD Cert.Adam4096x1424RefIdeal.τ).loc Cert.Adam4096x1424RefIdeal.main_arg2) = m ((c.tc : Thread Cert.Adam4096x1424Ideal.nD Cert.Adam4096x1424Ideal.τ).loc Cert.Adam4096x1424Ideal.main_arg2)
      ∧ m' ((c.tc : Thread Cert.Adam4096x1424RefIdeal.nD Cert.Adam4096x1424RefIdeal.τ).loc Cert.Adam4096x1424RefIdeal.main_arg3) = m ((c.tc : Thread Cert.Adam4096x1424Ideal.nD Cert.Adam4096x1424Ideal.τ).loc Cert.Adam4096x1424Ideal.main_arg3)) →
    ∃ (v0 : (c : Dev Cert.Adam4096x1424Ideal.nD) → Buf (Elt Ideal) ((c.tc : Thread Cert.Adam4096x1424Ideal.nD Cert.Adam4096x1424Ideal.τ).loc Cert.Adam4096x1424Ideal.main_v0_0)) (v1 : (c : Dev Cert.Adam4096x1424Ideal.nD) → Buf (Elt Ideal) ((c.tc : Thread Cert.Adam4096x1424Ideal.nD Cert.Adam4096x1424Ideal.τ).loc Cert.Adam4096x1424Ideal.main_v0_1)) (v2 : (c : Dev Cert.Adam4096x1424Ideal.nD) → Buf (Elt Ideal) ((c.tc : Thread Cert.Adam4096x1424Ideal.nD Cert.Adam4096x1424Ideal.τ).loc Cert.Adam4096x1424Ideal.main_v0_2)),
      θ_run (Cert.Adam4096x1424Ideal.defs (F := Ideal)) (onTc (τ := Cert.Adam4096x1424Ideal.τ) (Cert.Adam4096x1424Ideal.main (F := Ideal))) ⟨m, fun _ => 0, g⟩ (fun r => ∀ c : Dev Cert.Adam4096x1424Ideal.nD,
          r.2.mem ((c.tc : Thread Cert.Adam4096x1424Ideal.nD Cert.Adam4096x1424Ideal.τ).loc Cert.Adam4096x1424Ideal.main_v0_0) = v0 c
          ∧ r.2.mem ((c.tc : Thread Cert.Adam4096x1424Ideal.nD Cert.Adam4096x1424Ideal.τ).loc Cert.Adam4096x1424Ideal.main_v0_1) = v1 c
          ∧ r.2.mem ((c.tc : Thread Cert.Adam4096x1424Ideal.nD Cert.Adam4096x1424Ideal.τ).loc Cert.Adam4096x1424Ideal.main_v0_2) = v2 c
          ∧ r.2.mem ((c.tc : Thread Cert.Adam4096x1424Ideal.nD Cert.Adam4096x1424Ideal.τ).loc Cert.Adam4096x1424Ideal.main_arg0) = m ((c.tc : Thread Cert.Adam4096x1424Ideal.nD Cert.Adam4096x1424Ideal.τ).loc Cert.Adam4096x1424Ideal.main_arg0)
          ∧ r.2.mem ((c.tc : Thread Cert.Adam4096x1424Ideal.nD Cert.Adam4096x1424Ideal.τ).loc Cert.Adam4096x1424Ideal.main_arg1) = m ((c.tc : Thread Cert.Adam4096x1424Ideal.nD Cert.Adam4096x1424Ideal.τ).loc Cert.Adam4096x1424Ideal.main_arg1)
          ∧ r.2.mem ((c.tc : Thread Cert.Adam4096x1424Ideal.nD Cert.Adam4096x1424Ideal.τ).loc Cert.Adam4096x1424Ideal.main_arg2) = m ((c.tc : Thread Cert.Adam4096x1424Ideal.nD Cert.Adam4096x1424Ideal.τ).loc Cert.Adam4096x1424Ideal.main_arg2)
          ∧ r.2.mem ((c.tc : Thread Cert.Adam4096x1424Ideal.nD Cert.Adam4096x1424Ideal.τ).loc Cert.Adam4096x1424Ideal.main_arg3) = m ((c.tc : Thread Cert.Adam4096x1424Ideal.nD Cert.Adam4096x1424Ideal.τ).loc Cert.Adam4096x1424Ideal.main_arg3))
      ∧ θ_run (Cert.Adam4096x1424RefIdeal.defs (F := Ideal)) (onTc (τ := Cert.Adam4096x1424RefIdeal.τ) (Cert.Adam4096x1424RefIdeal.main (F := Ideal))) ⟨m', fun _ => 0, g'⟩ (fun r => ∀ c : Dev Cert.Adam4096x1424RefIdeal.nD,
          r.2.mem ((c.tc : Thread Cert.Adam4096x1424RefIdeal.nD Cert.Adam4096x1424RefIdeal.τ).loc Cert.Adam4096x1424RefIdeal.main_v23) = v0 c
          ∧ r.2.mem ((c.tc : Thread Cert.Adam4096x1424RefIdeal.nD Cert.Adam4096x1424RefIdeal.τ).loc Cert.Adam4096x1424RefIdeal.main_v4) = v1 c
          ∧ r.2.mem ((c.tc : Thread Cert.Adam4096x1424RefIdeal.nD Cert.Adam4096x1424RefIdeal.τ).loc Cert.Adam4096x1424RefIdeal.main_v10) = v2 c
          ∧ r.2.mem ((c.tc : Thread Cert.Adam4096x1424RefIdeal.nD Cert.Adam4096x1424RefIdeal.τ).loc Cert.Adam4096x1424RefIdeal.main_arg0) = m' ((c.tc : Thread Cert.Adam4096x1424RefIdeal.nD Cert.Adam4096x1424RefIdeal.τ).loc Cert.Adam4096x1424RefIdeal.main_arg0)
          ∧ r.2.mem ((c.tc : Thread Cert.Adam4096x1424RefIdeal.nD Cert.Adam4096x1424RefIdeal.τ).loc Cert.Adam4096x1424RefIdeal.main_arg1) = m' ((c.tc : Thread Cert.Adam4096x1424RefIdeal.nD Cert.Adam4096x1424RefIdeal.τ).loc Cert.Adam4096x1424RefIdeal.main_arg1)
          ∧ r.2.mem ((c.tc : Thread Cert.Adam4096x1424RefIdeal.nD Cert.Adam4096x1424RefIdeal.τ).loc Cert.Adam4096x1424RefIdeal.main_arg2) = m' ((c.tc : Thread Cert.Adam4096x1424RefIdeal.nD Cert.Adam4096x1424RefIdeal.τ).loc Cert.Adam4096x1424RefIdeal.main_arg2)
          ∧ r.2.mem ((c.tc : Thread Cert.Adam4096x1424RefIdeal.nD Cert.Adam4096x1424RefIdeal.τ).loc Cert.Adam4096x1424RefIdeal.main_arg3) = m' ((c.tc : Thread Cert.Adam4096x1424RefIdeal.nD Cert.Adam4096x1424RefIdeal.τ).loc Cert.Adam4096x1424RefIdeal.main_arg3))

def preserves_Adam1024x1536_Adam1024x1536Ideal : Prop :=
  True

def algebraic_Adam1024x1536Ideal_Adam1024x1536RefIdeal [hAdam1024x1536Ideal : Cert.Adam1024x1536Ideal.Facts] [hAdam1024x1536RefIdeal : Cert.Adam1024x1536RefIdeal.Facts] : Prop :=
  ∀ (m : (ℓ : Loc Cert.Adam1024x1536Ideal.nD Cert.Adam1024x1536Ideal.τ Cert.Adam1024x1536Ideal.sig) → Buf (Elt Ideal) ℓ) (g : Dev Cert.Adam1024x1536Ideal.nD → PrngReg)
    (m' : (ℓ : Loc Cert.Adam1024x1536RefIdeal.nD Cert.Adam1024x1536RefIdeal.τ Cert.Adam1024x1536RefIdeal.sig) → Buf (Elt Ideal) ℓ) (g' : Dev Cert.Adam1024x1536RefIdeal.nD → PrngReg), Pre_Adam1024x1536Ideal m →
    (∀ c : Dev Cert.Adam1024x1536Ideal.nD,
      m' ((c.tc : Thread Cert.Adam1024x1536RefIdeal.nD Cert.Adam1024x1536RefIdeal.τ).loc Cert.Adam1024x1536RefIdeal.main_arg0) = m ((c.tc : Thread Cert.Adam1024x1536Ideal.nD Cert.Adam1024x1536Ideal.τ).loc Cert.Adam1024x1536Ideal.main_arg0)
      ∧ m' ((c.tc : Thread Cert.Adam1024x1536RefIdeal.nD Cert.Adam1024x1536RefIdeal.τ).loc Cert.Adam1024x1536RefIdeal.main_arg1) = m ((c.tc : Thread Cert.Adam1024x1536Ideal.nD Cert.Adam1024x1536Ideal.τ).loc Cert.Adam1024x1536Ideal.main_arg1)
      ∧ m' ((c.tc : Thread Cert.Adam1024x1536RefIdeal.nD Cert.Adam1024x1536RefIdeal.τ).loc Cert.Adam1024x1536RefIdeal.main_arg2) = m ((c.tc : Thread Cert.Adam1024x1536Ideal.nD Cert.Adam1024x1536Ideal.τ).loc Cert.Adam1024x1536Ideal.main_arg2)
      ∧ m' ((c.tc : Thread Cert.Adam1024x1536RefIdeal.nD Cert.Adam1024x1536RefIdeal.τ).loc Cert.Adam1024x1536RefIdeal.main_arg3) = m ((c.tc : Thread Cert.Adam1024x1536Ideal.nD Cert.Adam1024x1536Ideal.τ).loc Cert.Adam1024x1536Ideal.main_arg3)) →
    ∃ (v0 : (c : Dev Cert.Adam1024x1536Ideal.nD) → Buf (Elt Ideal) ((c.tc : Thread Cert.Adam1024x1536Ideal.nD Cert.Adam1024x1536Ideal.τ).loc Cert.Adam1024x1536Ideal.main_v0_0)) (v1 : (c : Dev Cert.Adam1024x1536Ideal.nD) → Buf (Elt Ideal) ((c.tc : Thread Cert.Adam1024x1536Ideal.nD Cert.Adam1024x1536Ideal.τ).loc Cert.Adam1024x1536Ideal.main_v0_1)) (v2 : (c : Dev Cert.Adam1024x1536Ideal.nD) → Buf (Elt Ideal) ((c.tc : Thread Cert.Adam1024x1536Ideal.nD Cert.Adam1024x1536Ideal.τ).loc Cert.Adam1024x1536Ideal.main_v0_2)),
      θ_run (Cert.Adam1024x1536Ideal.defs (F := Ideal)) (onTc (τ := Cert.Adam1024x1536Ideal.τ) (Cert.Adam1024x1536Ideal.main (F := Ideal))) ⟨m, fun _ => 0, g⟩ (fun r => ∀ c : Dev Cert.Adam1024x1536Ideal.nD,
          r.2.mem ((c.tc : Thread Cert.Adam1024x1536Ideal.nD Cert.Adam1024x1536Ideal.τ).loc Cert.Adam1024x1536Ideal.main_v0_0) = v0 c
          ∧ r.2.mem ((c.tc : Thread Cert.Adam1024x1536Ideal.nD Cert.Adam1024x1536Ideal.τ).loc Cert.Adam1024x1536Ideal.main_v0_1) = v1 c
          ∧ r.2.mem ((c.tc : Thread Cert.Adam1024x1536Ideal.nD Cert.Adam1024x1536Ideal.τ).loc Cert.Adam1024x1536Ideal.main_v0_2) = v2 c
          ∧ r.2.mem ((c.tc : Thread Cert.Adam1024x1536Ideal.nD Cert.Adam1024x1536Ideal.τ).loc Cert.Adam1024x1536Ideal.main_arg0) = m ((c.tc : Thread Cert.Adam1024x1536Ideal.nD Cert.Adam1024x1536Ideal.τ).loc Cert.Adam1024x1536Ideal.main_arg0)
          ∧ r.2.mem ((c.tc : Thread Cert.Adam1024x1536Ideal.nD Cert.Adam1024x1536Ideal.τ).loc Cert.Adam1024x1536Ideal.main_arg1) = m ((c.tc : Thread Cert.Adam1024x1536Ideal.nD Cert.Adam1024x1536Ideal.τ).loc Cert.Adam1024x1536Ideal.main_arg1)
          ∧ r.2.mem ((c.tc : Thread Cert.Adam1024x1536Ideal.nD Cert.Adam1024x1536Ideal.τ).loc Cert.Adam1024x1536Ideal.main_arg2) = m ((c.tc : Thread Cert.Adam1024x1536Ideal.nD Cert.Adam1024x1536Ideal.τ).loc Cert.Adam1024x1536Ideal.main_arg2)
          ∧ r.2.mem ((c.tc : Thread Cert.Adam1024x1536Ideal.nD Cert.Adam1024x1536Ideal.τ).loc Cert.Adam1024x1536Ideal.main_arg3) = m ((c.tc : Thread Cert.Adam1024x1536Ideal.nD Cert.Adam1024x1536Ideal.τ).loc Cert.Adam1024x1536Ideal.main_arg3))
      ∧ θ_run (Cert.Adam1024x1536RefIdeal.defs (F := Ideal)) (onTc (τ := Cert.Adam1024x1536RefIdeal.τ) (Cert.Adam1024x1536RefIdeal.main (F := Ideal))) ⟨m', fun _ => 0, g'⟩ (fun r => ∀ c : Dev Cert.Adam1024x1536RefIdeal.nD,
          r.2.mem ((c.tc : Thread Cert.Adam1024x1536RefIdeal.nD Cert.Adam1024x1536RefIdeal.τ).loc Cert.Adam1024x1536RefIdeal.main_v23) = v0 c
          ∧ r.2.mem ((c.tc : Thread Cert.Adam1024x1536RefIdeal.nD Cert.Adam1024x1536RefIdeal.τ).loc Cert.Adam1024x1536RefIdeal.main_v4) = v1 c
          ∧ r.2.mem ((c.tc : Thread Cert.Adam1024x1536RefIdeal.nD Cert.Adam1024x1536RefIdeal.τ).loc Cert.Adam1024x1536RefIdeal.main_v10) = v2 c
          ∧ r.2.mem ((c.tc : Thread Cert.Adam1024x1536RefIdeal.nD Cert.Adam1024x1536RefIdeal.τ).loc Cert.Adam1024x1536RefIdeal.main_arg0) = m' ((c.tc : Thread Cert.Adam1024x1536RefIdeal.nD Cert.Adam1024x1536RefIdeal.τ).loc Cert.Adam1024x1536RefIdeal.main_arg0)
          ∧ r.2.mem ((c.tc : Thread Cert.Adam1024x1536RefIdeal.nD Cert.Adam1024x1536RefIdeal.τ).loc Cert.Adam1024x1536RefIdeal.main_arg1) = m' ((c.tc : Thread Cert.Adam1024x1536RefIdeal.nD Cert.Adam1024x1536RefIdeal.τ).loc Cert.Adam1024x1536RefIdeal.main_arg1)
          ∧ r.2.mem ((c.tc : Thread Cert.Adam1024x1536RefIdeal.nD Cert.Adam1024x1536RefIdeal.τ).loc Cert.Adam1024x1536RefIdeal.main_arg2) = m' ((c.tc : Thread Cert.Adam1024x1536RefIdeal.nD Cert.Adam1024x1536RefIdeal.τ).loc Cert.Adam1024x1536RefIdeal.main_arg2)
          ∧ r.2.mem ((c.tc : Thread Cert.Adam1024x1536RefIdeal.nD Cert.Adam1024x1536RefIdeal.τ).loc Cert.Adam1024x1536RefIdeal.main_arg3) = m' ((c.tc : Thread Cert.Adam1024x1536RefIdeal.nD Cert.Adam1024x1536RefIdeal.τ).loc Cert.Adam1024x1536RefIdeal.main_arg3))

def preserves_Adam512x2048_Adam512x2048Ideal : Prop :=
  True

def algebraic_Adam512x2048Ideal_Adam512x2048RefIdeal [hAdam512x2048Ideal : Cert.Adam512x2048Ideal.Facts] [hAdam512x2048RefIdeal : Cert.Adam512x2048RefIdeal.Facts] : Prop :=
  ∀ (m : (ℓ : Loc Cert.Adam512x2048Ideal.nD Cert.Adam512x2048Ideal.τ Cert.Adam512x2048Ideal.sig) → Buf (Elt Ideal) ℓ) (g : Dev Cert.Adam512x2048Ideal.nD → PrngReg)
    (m' : (ℓ : Loc Cert.Adam512x2048RefIdeal.nD Cert.Adam512x2048RefIdeal.τ Cert.Adam512x2048RefIdeal.sig) → Buf (Elt Ideal) ℓ) (g' : Dev Cert.Adam512x2048RefIdeal.nD → PrngReg), Pre_Adam512x2048Ideal m →
    (∀ c : Dev Cert.Adam512x2048Ideal.nD,
      m' ((c.tc : Thread Cert.Adam512x2048RefIdeal.nD Cert.Adam512x2048RefIdeal.τ).loc Cert.Adam512x2048RefIdeal.main_arg0) = m ((c.tc : Thread Cert.Adam512x2048Ideal.nD Cert.Adam512x2048Ideal.τ).loc Cert.Adam512x2048Ideal.main_arg0)
      ∧ m' ((c.tc : Thread Cert.Adam512x2048RefIdeal.nD Cert.Adam512x2048RefIdeal.τ).loc Cert.Adam512x2048RefIdeal.main_arg1) = m ((c.tc : Thread Cert.Adam512x2048Ideal.nD Cert.Adam512x2048Ideal.τ).loc Cert.Adam512x2048Ideal.main_arg1)
      ∧ m' ((c.tc : Thread Cert.Adam512x2048RefIdeal.nD Cert.Adam512x2048RefIdeal.τ).loc Cert.Adam512x2048RefIdeal.main_arg2) = m ((c.tc : Thread Cert.Adam512x2048Ideal.nD Cert.Adam512x2048Ideal.τ).loc Cert.Adam512x2048Ideal.main_arg2)
      ∧ m' ((c.tc : Thread Cert.Adam512x2048RefIdeal.nD Cert.Adam512x2048RefIdeal.τ).loc Cert.Adam512x2048RefIdeal.main_arg3) = m ((c.tc : Thread Cert.Adam512x2048Ideal.nD Cert.Adam512x2048Ideal.τ).loc Cert.Adam512x2048Ideal.main_arg3)) →
    ∃ (v0 : (c : Dev Cert.Adam512x2048Ideal.nD) → Buf (Elt Ideal) ((c.tc : Thread Cert.Adam512x2048Ideal.nD Cert.Adam512x2048Ideal.τ).loc Cert.Adam512x2048Ideal.main_v0_0)) (v1 : (c : Dev Cert.Adam512x2048Ideal.nD) → Buf (Elt Ideal) ((c.tc : Thread Cert.Adam512x2048Ideal.nD Cert.Adam512x2048Ideal.τ).loc Cert.Adam512x2048Ideal.main_v0_1)) (v2 : (c : Dev Cert.Adam512x2048Ideal.nD) → Buf (Elt Ideal) ((c.tc : Thread Cert.Adam512x2048Ideal.nD Cert.Adam512x2048Ideal.τ).loc Cert.Adam512x2048Ideal.main_v0_2)),
      θ_run (Cert.Adam512x2048Ideal.defs (F := Ideal)) (onTc (τ := Cert.Adam512x2048Ideal.τ) (Cert.Adam512x2048Ideal.main (F := Ideal))) ⟨m, fun _ => 0, g⟩ (fun r => ∀ c : Dev Cert.Adam512x2048Ideal.nD,
          r.2.mem ((c.tc : Thread Cert.Adam512x2048Ideal.nD Cert.Adam512x2048Ideal.τ).loc Cert.Adam512x2048Ideal.main_v0_0) = v0 c
          ∧ r.2.mem ((c.tc : Thread Cert.Adam512x2048Ideal.nD Cert.Adam512x2048Ideal.τ).loc Cert.Adam512x2048Ideal.main_v0_1) = v1 c
          ∧ r.2.mem ((c.tc : Thread Cert.Adam512x2048Ideal.nD Cert.Adam512x2048Ideal.τ).loc Cert.Adam512x2048Ideal.main_v0_2) = v2 c
          ∧ r.2.mem ((c.tc : Thread Cert.Adam512x2048Ideal.nD Cert.Adam512x2048Ideal.τ).loc Cert.Adam512x2048Ideal.main_arg0) = m ((c.tc : Thread Cert.Adam512x2048Ideal.nD Cert.Adam512x2048Ideal.τ).loc Cert.Adam512x2048Ideal.main_arg0)
          ∧ r.2.mem ((c.tc : Thread Cert.Adam512x2048Ideal.nD Cert.Adam512x2048Ideal.τ).loc Cert.Adam512x2048Ideal.main_arg1) = m ((c.tc : Thread Cert.Adam512x2048Ideal.nD Cert.Adam512x2048Ideal.τ).loc Cert.Adam512x2048Ideal.main_arg1)
          ∧ r.2.mem ((c.tc : Thread Cert.Adam512x2048Ideal.nD Cert.Adam512x2048Ideal.τ).loc Cert.Adam512x2048Ideal.main_arg2) = m ((c.tc : Thread Cert.Adam512x2048Ideal.nD Cert.Adam512x2048Ideal.τ).loc Cert.Adam512x2048Ideal.main_arg2)
          ∧ r.2.mem ((c.tc : Thread Cert.Adam512x2048Ideal.nD Cert.Adam512x2048Ideal.τ).loc Cert.Adam512x2048Ideal.main_arg3) = m ((c.tc : Thread Cert.Adam512x2048Ideal.nD Cert.Adam512x2048Ideal.τ).loc Cert.Adam512x2048Ideal.main_arg3))
      ∧ θ_run (Cert.Adam512x2048RefIdeal.defs (F := Ideal)) (onTc (τ := Cert.Adam512x2048RefIdeal.τ) (Cert.Adam512x2048RefIdeal.main (F := Ideal))) ⟨m', fun _ => 0, g'⟩ (fun r => ∀ c : Dev Cert.Adam512x2048RefIdeal.nD,
          r.2.mem ((c.tc : Thread Cert.Adam512x2048RefIdeal.nD Cert.Adam512x2048RefIdeal.τ).loc Cert.Adam512x2048RefIdeal.main_v23) = v0 c
          ∧ r.2.mem ((c.tc : Thread Cert.Adam512x2048RefIdeal.nD Cert.Adam512x2048RefIdeal.τ).loc Cert.Adam512x2048RefIdeal.main_v4) = v1 c
          ∧ r.2.mem ((c.tc : Thread Cert.Adam512x2048RefIdeal.nD Cert.Adam512x2048RefIdeal.τ).loc Cert.Adam512x2048RefIdeal.main_v10) = v2 c
          ∧ r.2.mem ((c.tc : Thread Cert.Adam512x2048RefIdeal.nD Cert.Adam512x2048RefIdeal.τ).loc Cert.Adam512x2048RefIdeal.main_arg0) = m' ((c.tc : Thread Cert.Adam512x2048RefIdeal.nD Cert.Adam512x2048RefIdeal.τ).loc Cert.Adam512x2048RefIdeal.main_arg0)
          ∧ r.2.mem ((c.tc : Thread Cert.Adam512x2048RefIdeal.nD Cert.Adam512x2048RefIdeal.τ).loc Cert.Adam512x2048RefIdeal.main_arg1) = m' ((c.tc : Thread Cert.Adam512x2048RefIdeal.nD Cert.Adam512x2048RefIdeal.τ).loc Cert.Adam512x2048RefIdeal.main_arg1)
          ∧ r.2.mem ((c.tc : Thread Cert.Adam512x2048RefIdeal.nD Cert.Adam512x2048RefIdeal.τ).loc Cert.Adam512x2048RefIdeal.main_arg2) = m' ((c.tc : Thread Cert.Adam512x2048RefIdeal.nD Cert.Adam512x2048RefIdeal.τ).loc Cert.Adam512x2048RefIdeal.main_arg2)
          ∧ r.2.mem ((c.tc : Thread Cert.Adam512x2048RefIdeal.nD Cert.Adam512x2048RefIdeal.τ).loc Cert.Adam512x2048RefIdeal.main_arg3) = m' ((c.tc : Thread Cert.Adam512x2048RefIdeal.nD Cert.Adam512x2048RefIdeal.τ).loc Cert.Adam512x2048RefIdeal.main_arg3))

def preserves_Adam1024x4096_Adam1024x4096Ideal : Prop :=
  True

def algebraic_Adam1024x4096Ideal_Adam1024x4096RefIdeal [hAdam1024x4096Ideal : Cert.Adam1024x4096Ideal.Facts] [hAdam1024x4096RefIdeal : Cert.Adam1024x4096RefIdeal.Facts] : Prop :=
  ∀ (m : (ℓ : Loc Cert.Adam1024x4096Ideal.nD Cert.Adam1024x4096Ideal.τ Cert.Adam1024x4096Ideal.sig) → Buf (Elt Ideal) ℓ) (g : Dev Cert.Adam1024x4096Ideal.nD → PrngReg)
    (m' : (ℓ : Loc Cert.Adam1024x4096RefIdeal.nD Cert.Adam1024x4096RefIdeal.τ Cert.Adam1024x4096RefIdeal.sig) → Buf (Elt Ideal) ℓ) (g' : Dev Cert.Adam1024x4096RefIdeal.nD → PrngReg), Pre_Adam1024x4096Ideal m →
    (∀ c : Dev Cert.Adam1024x4096Ideal.nD,
      m' ((c.tc : Thread Cert.Adam1024x4096RefIdeal.nD Cert.Adam1024x4096RefIdeal.τ).loc Cert.Adam1024x4096RefIdeal.main_arg0) = m ((c.tc : Thread Cert.Adam1024x4096Ideal.nD Cert.Adam1024x4096Ideal.τ).loc Cert.Adam1024x4096Ideal.main_arg0)
      ∧ m' ((c.tc : Thread Cert.Adam1024x4096RefIdeal.nD Cert.Adam1024x4096RefIdeal.τ).loc Cert.Adam1024x4096RefIdeal.main_arg1) = m ((c.tc : Thread Cert.Adam1024x4096Ideal.nD Cert.Adam1024x4096Ideal.τ).loc Cert.Adam1024x4096Ideal.main_arg1)
      ∧ m' ((c.tc : Thread Cert.Adam1024x4096RefIdeal.nD Cert.Adam1024x4096RefIdeal.τ).loc Cert.Adam1024x4096RefIdeal.main_arg2) = m ((c.tc : Thread Cert.Adam1024x4096Ideal.nD Cert.Adam1024x4096Ideal.τ).loc Cert.Adam1024x4096Ideal.main_arg2)
      ∧ m' ((c.tc : Thread Cert.Adam1024x4096RefIdeal.nD Cert.Adam1024x4096RefIdeal.τ).loc Cert.Adam1024x4096RefIdeal.main_arg3) = m ((c.tc : Thread Cert.Adam1024x4096Ideal.nD Cert.Adam1024x4096Ideal.τ).loc Cert.Adam1024x4096Ideal.main_arg3)) →
    ∃ (v0 : (c : Dev Cert.Adam1024x4096Ideal.nD) → Buf (Elt Ideal) ((c.tc : Thread Cert.Adam1024x4096Ideal.nD Cert.Adam1024x4096Ideal.τ).loc Cert.Adam1024x4096Ideal.main_v0_0)) (v1 : (c : Dev Cert.Adam1024x4096Ideal.nD) → Buf (Elt Ideal) ((c.tc : Thread Cert.Adam1024x4096Ideal.nD Cert.Adam1024x4096Ideal.τ).loc Cert.Adam1024x4096Ideal.main_v0_1)) (v2 : (c : Dev Cert.Adam1024x4096Ideal.nD) → Buf (Elt Ideal) ((c.tc : Thread Cert.Adam1024x4096Ideal.nD Cert.Adam1024x4096Ideal.τ).loc Cert.Adam1024x4096Ideal.main_v0_2)),
      θ_run (Cert.Adam1024x4096Ideal.defs (F := Ideal)) (onTc (τ := Cert.Adam1024x4096Ideal.τ) (Cert.Adam1024x4096Ideal.main (F := Ideal))) ⟨m, fun _ => 0, g⟩ (fun r => ∀ c : Dev Cert.Adam1024x4096Ideal.nD,
          r.2.mem ((c.tc : Thread Cert.Adam1024x4096Ideal.nD Cert.Adam1024x4096Ideal.τ).loc Cert.Adam1024x4096Ideal.main_v0_0) = v0 c
          ∧ r.2.mem ((c.tc : Thread Cert.Adam1024x4096Ideal.nD Cert.Adam1024x4096Ideal.τ).loc Cert.Adam1024x4096Ideal.main_v0_1) = v1 c
          ∧ r.2.mem ((c.tc : Thread Cert.Adam1024x4096Ideal.nD Cert.Adam1024x4096Ideal.τ).loc Cert.Adam1024x4096Ideal.main_v0_2) = v2 c
          ∧ r.2.mem ((c.tc : Thread Cert.Adam1024x4096Ideal.nD Cert.Adam1024x4096Ideal.τ).loc Cert.Adam1024x4096Ideal.main_arg0) = m ((c.tc : Thread Cert.Adam1024x4096Ideal.nD Cert.Adam1024x4096Ideal.τ).loc Cert.Adam1024x4096Ideal.main_arg0)
          ∧ r.2.mem ((c.tc : Thread Cert.Adam1024x4096Ideal.nD Cert.Adam1024x4096Ideal.τ).loc Cert.Adam1024x4096Ideal.main_arg1) = m ((c.tc : Thread Cert.Adam1024x4096Ideal.nD Cert.Adam1024x4096Ideal.τ).loc Cert.Adam1024x4096Ideal.main_arg1)
          ∧ r.2.mem ((c.tc : Thread Cert.Adam1024x4096Ideal.nD Cert.Adam1024x4096Ideal.τ).loc Cert.Adam1024x4096Ideal.main_arg2) = m ((c.tc : Thread Cert.Adam1024x4096Ideal.nD Cert.Adam1024x4096Ideal.τ).loc Cert.Adam1024x4096Ideal.main_arg2)
          ∧ r.2.mem ((c.tc : Thread Cert.Adam1024x4096Ideal.nD Cert.Adam1024x4096Ideal.τ).loc Cert.Adam1024x4096Ideal.main_arg3) = m ((c.tc : Thread Cert.Adam1024x4096Ideal.nD Cert.Adam1024x4096Ideal.τ).loc Cert.Adam1024x4096Ideal.main_arg3))
      ∧ θ_run (Cert.Adam1024x4096RefIdeal.defs (F := Ideal)) (onTc (τ := Cert.Adam1024x4096RefIdeal.τ) (Cert.Adam1024x4096RefIdeal.main (F := Ideal))) ⟨m', fun _ => 0, g'⟩ (fun r => ∀ c : Dev Cert.Adam1024x4096RefIdeal.nD,
          r.2.mem ((c.tc : Thread Cert.Adam1024x4096RefIdeal.nD Cert.Adam1024x4096RefIdeal.τ).loc Cert.Adam1024x4096RefIdeal.main_v23) = v0 c
          ∧ r.2.mem ((c.tc : Thread Cert.Adam1024x4096RefIdeal.nD Cert.Adam1024x4096RefIdeal.τ).loc Cert.Adam1024x4096RefIdeal.main_v4) = v1 c
          ∧ r.2.mem ((c.tc : Thread Cert.Adam1024x4096RefIdeal.nD Cert.Adam1024x4096RefIdeal.τ).loc Cert.Adam1024x4096RefIdeal.main_v10) = v2 c
          ∧ r.2.mem ((c.tc : Thread Cert.Adam1024x4096RefIdeal.nD Cert.Adam1024x4096RefIdeal.τ).loc Cert.Adam1024x4096RefIdeal.main_arg0) = m' ((c.tc : Thread Cert.Adam1024x4096RefIdeal.nD Cert.Adam1024x4096RefIdeal.τ).loc Cert.Adam1024x4096RefIdeal.main_arg0)
          ∧ r.2.mem ((c.tc : Thread Cert.Adam1024x4096RefIdeal.nD Cert.Adam1024x4096RefIdeal.τ).loc Cert.Adam1024x4096RefIdeal.main_arg1) = m' ((c.tc : Thread Cert.Adam1024x4096RefIdeal.nD Cert.Adam1024x4096RefIdeal.τ).loc Cert.Adam1024x4096RefIdeal.main_arg1)
          ∧ r.2.mem ((c.tc : Thread Cert.Adam1024x4096RefIdeal.nD Cert.Adam1024x4096RefIdeal.τ).loc Cert.Adam1024x4096RefIdeal.main_arg2) = m' ((c.tc : Thread Cert.Adam1024x4096RefIdeal.nD Cert.Adam1024x4096RefIdeal.τ).loc Cert.Adam1024x4096RefIdeal.main_arg2)
          ∧ r.2.mem ((c.tc : Thread Cert.Adam1024x4096RefIdeal.nD Cert.Adam1024x4096RefIdeal.τ).loc Cert.Adam1024x4096RefIdeal.main_arg3) = m' ((c.tc : Thread Cert.Adam1024x4096RefIdeal.nD Cert.Adam1024x4096RefIdeal.τ).loc Cert.Adam1024x4096RefIdeal.main_arg3))

def preserves_Adam4096x4096_Adam4096x4096Ideal : Prop :=
  True

def algebraic_Adam4096x4096Ideal_Adam4096x4096RefIdeal [hAdam4096x4096Ideal : Cert.Adam4096x4096Ideal.Facts] [hAdam4096x4096RefIdeal : Cert.Adam4096x4096RefIdeal.Facts] : Prop :=
  ∀ (m : (ℓ : Loc Cert.Adam4096x4096Ideal.nD Cert.Adam4096x4096Ideal.τ Cert.Adam4096x4096Ideal.sig) → Buf (Elt Ideal) ℓ) (g : Dev Cert.Adam4096x4096Ideal.nD → PrngReg)
    (m' : (ℓ : Loc Cert.Adam4096x4096RefIdeal.nD Cert.Adam4096x4096RefIdeal.τ Cert.Adam4096x4096RefIdeal.sig) → Buf (Elt Ideal) ℓ) (g' : Dev Cert.Adam4096x4096RefIdeal.nD → PrngReg), Pre_Adam4096x4096Ideal m →
    (∀ c : Dev Cert.Adam4096x4096Ideal.nD,
      m' ((c.tc : Thread Cert.Adam4096x4096RefIdeal.nD Cert.Adam4096x4096RefIdeal.τ).loc Cert.Adam4096x4096RefIdeal.main_arg0) = m ((c.tc : Thread Cert.Adam4096x4096Ideal.nD Cert.Adam4096x4096Ideal.τ).loc Cert.Adam4096x4096Ideal.main_arg0)
      ∧ m' ((c.tc : Thread Cert.Adam4096x4096RefIdeal.nD Cert.Adam4096x4096RefIdeal.τ).loc Cert.Adam4096x4096RefIdeal.main_arg1) = m ((c.tc : Thread Cert.Adam4096x4096Ideal.nD Cert.Adam4096x4096Ideal.τ).loc Cert.Adam4096x4096Ideal.main_arg1)
      ∧ m' ((c.tc : Thread Cert.Adam4096x4096RefIdeal.nD Cert.Adam4096x4096RefIdeal.τ).loc Cert.Adam4096x4096RefIdeal.main_arg2) = m ((c.tc : Thread Cert.Adam4096x4096Ideal.nD Cert.Adam4096x4096Ideal.τ).loc Cert.Adam4096x4096Ideal.main_arg2)
      ∧ m' ((c.tc : Thread Cert.Adam4096x4096RefIdeal.nD Cert.Adam4096x4096RefIdeal.τ).loc Cert.Adam4096x4096RefIdeal.main_arg3) = m ((c.tc : Thread Cert.Adam4096x4096Ideal.nD Cert.Adam4096x4096Ideal.τ).loc Cert.Adam4096x4096Ideal.main_arg3)) →
    ∃ (v0 : (c : Dev Cert.Adam4096x4096Ideal.nD) → Buf (Elt Ideal) ((c.tc : Thread Cert.Adam4096x4096Ideal.nD Cert.Adam4096x4096Ideal.τ).loc Cert.Adam4096x4096Ideal.main_v0_0)) (v1 : (c : Dev Cert.Adam4096x4096Ideal.nD) → Buf (Elt Ideal) ((c.tc : Thread Cert.Adam4096x4096Ideal.nD Cert.Adam4096x4096Ideal.τ).loc Cert.Adam4096x4096Ideal.main_v0_1)) (v2 : (c : Dev Cert.Adam4096x4096Ideal.nD) → Buf (Elt Ideal) ((c.tc : Thread Cert.Adam4096x4096Ideal.nD Cert.Adam4096x4096Ideal.τ).loc Cert.Adam4096x4096Ideal.main_v0_2)),
      θ_run (Cert.Adam4096x4096Ideal.defs (F := Ideal)) (onTc (τ := Cert.Adam4096x4096Ideal.τ) (Cert.Adam4096x4096Ideal.main (F := Ideal))) ⟨m, fun _ => 0, g⟩ (fun r => ∀ c : Dev Cert.Adam4096x4096Ideal.nD,
          r.2.mem ((c.tc : Thread Cert.Adam4096x4096Ideal.nD Cert.Adam4096x4096Ideal.τ).loc Cert.Adam4096x4096Ideal.main_v0_0) = v0 c
          ∧ r.2.mem ((c.tc : Thread Cert.Adam4096x4096Ideal.nD Cert.Adam4096x4096Ideal.τ).loc Cert.Adam4096x4096Ideal.main_v0_1) = v1 c
          ∧ r.2.mem ((c.tc : Thread Cert.Adam4096x4096Ideal.nD Cert.Adam4096x4096Ideal.τ).loc Cert.Adam4096x4096Ideal.main_v0_2) = v2 c
          ∧ r.2.mem ((c.tc : Thread Cert.Adam4096x4096Ideal.nD Cert.Adam4096x4096Ideal.τ).loc Cert.Adam4096x4096Ideal.main_arg0) = m ((c.tc : Thread Cert.Adam4096x4096Ideal.nD Cert.Adam4096x4096Ideal.τ).loc Cert.Adam4096x4096Ideal.main_arg0)
          ∧ r.2.mem ((c.tc : Thread Cert.Adam4096x4096Ideal.nD Cert.Adam4096x4096Ideal.τ).loc Cert.Adam4096x4096Ideal.main_arg1) = m ((c.tc : Thread Cert.Adam4096x4096Ideal.nD Cert.Adam4096x4096Ideal.τ).loc Cert.Adam4096x4096Ideal.main_arg1)
          ∧ r.2.mem ((c.tc : Thread Cert.Adam4096x4096Ideal.nD Cert.Adam4096x4096Ideal.τ).loc Cert.Adam4096x4096Ideal.main_arg2) = m ((c.tc : Thread Cert.Adam4096x4096Ideal.nD Cert.Adam4096x4096Ideal.τ).loc Cert.Adam4096x4096Ideal.main_arg2)
          ∧ r.2.mem ((c.tc : Thread Cert.Adam4096x4096Ideal.nD Cert.Adam4096x4096Ideal.τ).loc Cert.Adam4096x4096Ideal.main_arg3) = m ((c.tc : Thread Cert.Adam4096x4096Ideal.nD Cert.Adam4096x4096Ideal.τ).loc Cert.Adam4096x4096Ideal.main_arg3))
      ∧ θ_run (Cert.Adam4096x4096RefIdeal.defs (F := Ideal)) (onTc (τ := Cert.Adam4096x4096RefIdeal.τ) (Cert.Adam4096x4096RefIdeal.main (F := Ideal))) ⟨m', fun _ => 0, g'⟩ (fun r => ∀ c : Dev Cert.Adam4096x4096RefIdeal.nD,
          r.2.mem ((c.tc : Thread Cert.Adam4096x4096RefIdeal.nD Cert.Adam4096x4096RefIdeal.τ).loc Cert.Adam4096x4096RefIdeal.main_v23) = v0 c
          ∧ r.2.mem ((c.tc : Thread Cert.Adam4096x4096RefIdeal.nD Cert.Adam4096x4096RefIdeal.τ).loc Cert.Adam4096x4096RefIdeal.main_v4) = v1 c
          ∧ r.2.mem ((c.tc : Thread Cert.Adam4096x4096RefIdeal.nD Cert.Adam4096x4096RefIdeal.τ).loc Cert.Adam4096x4096RefIdeal.main_v10) = v2 c
          ∧ r.2.mem ((c.tc : Thread Cert.Adam4096x4096RefIdeal.nD Cert.Adam4096x4096RefIdeal.τ).loc Cert.Adam4096x4096RefIdeal.main_arg0) = m' ((c.tc : Thread Cert.Adam4096x4096RefIdeal.nD Cert.Adam4096x4096RefIdeal.τ).loc Cert.Adam4096x4096RefIdeal.main_arg0)
          ∧ r.2.mem ((c.tc : Thread Cert.Adam4096x4096RefIdeal.nD Cert.Adam4096x4096RefIdeal.τ).loc Cert.Adam4096x4096RefIdeal.main_arg1) = m' ((c.tc : Thread Cert.Adam4096x4096RefIdeal.nD Cert.Adam4096x4096RefIdeal.τ).loc Cert.Adam4096x4096RefIdeal.main_arg1)
          ∧ r.2.mem ((c.tc : Thread Cert.Adam4096x4096RefIdeal.nD Cert.Adam4096x4096RefIdeal.τ).loc Cert.Adam4096x4096RefIdeal.main_arg2) = m' ((c.tc : Thread Cert.Adam4096x4096RefIdeal.nD Cert.Adam4096x4096RefIdeal.τ).loc Cert.Adam4096x4096RefIdeal.main_arg2)
          ∧ r.2.mem ((c.tc : Thread Cert.Adam4096x4096RefIdeal.nD Cert.Adam4096x4096RefIdeal.τ).loc Cert.Adam4096x4096RefIdeal.main_arg3) = m' ((c.tc : Thread Cert.Adam4096x4096RefIdeal.nD Cert.Adam4096x4096RefIdeal.τ).loc Cert.Adam4096x4096RefIdeal.main_arg3))

def preserves_Adam4096x3072_Adam4096x3072Ideal : Prop :=
  True

def algebraic_Adam4096x3072Ideal_Adam4096x3072RefIdeal [hAdam4096x3072Ideal : Cert.Adam4096x3072Ideal.Facts] [hAdam4096x3072RefIdeal : Cert.Adam4096x3072RefIdeal.Facts] : Prop :=
  ∀ (m : (ℓ : Loc Cert.Adam4096x3072Ideal.nD Cert.Adam4096x3072Ideal.τ Cert.Adam4096x3072Ideal.sig) → Buf (Elt Ideal) ℓ) (g : Dev Cert.Adam4096x3072Ideal.nD → PrngReg)
    (m' : (ℓ : Loc Cert.Adam4096x3072RefIdeal.nD Cert.Adam4096x3072RefIdeal.τ Cert.Adam4096x3072RefIdeal.sig) → Buf (Elt Ideal) ℓ) (g' : Dev Cert.Adam4096x3072RefIdeal.nD → PrngReg), Pre_Adam4096x3072Ideal m →
    (∀ c : Dev Cert.Adam4096x3072Ideal.nD,
      m' ((c.tc : Thread Cert.Adam4096x3072RefIdeal.nD Cert.Adam4096x3072RefIdeal.τ).loc Cert.Adam4096x3072RefIdeal.main_arg0) = m ((c.tc : Thread Cert.Adam4096x3072Ideal.nD Cert.Adam4096x3072Ideal.τ).loc Cert.Adam4096x3072Ideal.main_arg0)
      ∧ m' ((c.tc : Thread Cert.Adam4096x3072RefIdeal.nD Cert.Adam4096x3072RefIdeal.τ).loc Cert.Adam4096x3072RefIdeal.main_arg1) = m ((c.tc : Thread Cert.Adam4096x3072Ideal.nD Cert.Adam4096x3072Ideal.τ).loc Cert.Adam4096x3072Ideal.main_arg1)
      ∧ m' ((c.tc : Thread Cert.Adam4096x3072RefIdeal.nD Cert.Adam4096x3072RefIdeal.τ).loc Cert.Adam4096x3072RefIdeal.main_arg2) = m ((c.tc : Thread Cert.Adam4096x3072Ideal.nD Cert.Adam4096x3072Ideal.τ).loc Cert.Adam4096x3072Ideal.main_arg2)
      ∧ m' ((c.tc : Thread Cert.Adam4096x3072RefIdeal.nD Cert.Adam4096x3072RefIdeal.τ).loc Cert.Adam4096x3072RefIdeal.main_arg3) = m ((c.tc : Thread Cert.Adam4096x3072Ideal.nD Cert.Adam4096x3072Ideal.τ).loc Cert.Adam4096x3072Ideal.main_arg3)) →
    ∃ (v0 : (c : Dev Cert.Adam4096x3072Ideal.nD) → Buf (Elt Ideal) ((c.tc : Thread Cert.Adam4096x3072Ideal.nD Cert.Adam4096x3072Ideal.τ).loc Cert.Adam4096x3072Ideal.main_v0_0)) (v1 : (c : Dev Cert.Adam4096x3072Ideal.nD) → Buf (Elt Ideal) ((c.tc : Thread Cert.Adam4096x3072Ideal.nD Cert.Adam4096x3072Ideal.τ).loc Cert.Adam4096x3072Ideal.main_v0_1)) (v2 : (c : Dev Cert.Adam4096x3072Ideal.nD) → Buf (Elt Ideal) ((c.tc : Thread Cert.Adam4096x3072Ideal.nD Cert.Adam4096x3072Ideal.τ).loc Cert.Adam4096x3072Ideal.main_v0_2)),
      θ_run (Cert.Adam4096x3072Ideal.defs (F := Ideal)) (onTc (τ := Cert.Adam4096x3072Ideal.τ) (Cert.Adam4096x3072Ideal.main (F := Ideal))) ⟨m, fun _ => 0, g⟩ (fun r => ∀ c : Dev Cert.Adam4096x3072Ideal.nD,
          r.2.mem ((c.tc : Thread Cert.Adam4096x3072Ideal.nD Cert.Adam4096x3072Ideal.τ).loc Cert.Adam4096x3072Ideal.main_v0_0) = v0 c
          ∧ r.2.mem ((c.tc : Thread Cert.Adam4096x3072Ideal.nD Cert.Adam4096x3072Ideal.τ).loc Cert.Adam4096x3072Ideal.main_v0_1) = v1 c
          ∧ r.2.mem ((c.tc : Thread Cert.Adam4096x3072Ideal.nD Cert.Adam4096x3072Ideal.τ).loc Cert.Adam4096x3072Ideal.main_v0_2) = v2 c
          ∧ r.2.mem ((c.tc : Thread Cert.Adam4096x3072Ideal.nD Cert.Adam4096x3072Ideal.τ).loc Cert.Adam4096x3072Ideal.main_arg0) = m ((c.tc : Thread Cert.Adam4096x3072Ideal.nD Cert.Adam4096x3072Ideal.τ).loc Cert.Adam4096x3072Ideal.main_arg0)
          ∧ r.2.mem ((c.tc : Thread Cert.Adam4096x3072Ideal.nD Cert.Adam4096x3072Ideal.τ).loc Cert.Adam4096x3072Ideal.main_arg1) = m ((c.tc : Thread Cert.Adam4096x3072Ideal.nD Cert.Adam4096x3072Ideal.τ).loc Cert.Adam4096x3072Ideal.main_arg1)
          ∧ r.2.mem ((c.tc : Thread Cert.Adam4096x3072Ideal.nD Cert.Adam4096x3072Ideal.τ).loc Cert.Adam4096x3072Ideal.main_arg2) = m ((c.tc : Thread Cert.Adam4096x3072Ideal.nD Cert.Adam4096x3072Ideal.τ).loc Cert.Adam4096x3072Ideal.main_arg2)
          ∧ r.2.mem ((c.tc : Thread Cert.Adam4096x3072Ideal.nD Cert.Adam4096x3072Ideal.τ).loc Cert.Adam4096x3072Ideal.main_arg3) = m ((c.tc : Thread Cert.Adam4096x3072Ideal.nD Cert.Adam4096x3072Ideal.τ).loc Cert.Adam4096x3072Ideal.main_arg3))
      ∧ θ_run (Cert.Adam4096x3072RefIdeal.defs (F := Ideal)) (onTc (τ := Cert.Adam4096x3072RefIdeal.τ) (Cert.Adam4096x3072RefIdeal.main (F := Ideal))) ⟨m', fun _ => 0, g'⟩ (fun r => ∀ c : Dev Cert.Adam4096x3072RefIdeal.nD,
          r.2.mem ((c.tc : Thread Cert.Adam4096x3072RefIdeal.nD Cert.Adam4096x3072RefIdeal.τ).loc Cert.Adam4096x3072RefIdeal.main_v23) = v0 c
          ∧ r.2.mem ((c.tc : Thread Cert.Adam4096x3072RefIdeal.nD Cert.Adam4096x3072RefIdeal.τ).loc Cert.Adam4096x3072RefIdeal.main_v4) = v1 c
          ∧ r.2.mem ((c.tc : Thread Cert.Adam4096x3072RefIdeal.nD Cert.Adam4096x3072RefIdeal.τ).loc Cert.Adam4096x3072RefIdeal.main_v10) = v2 c
          ∧ r.2.mem ((c.tc : Thread Cert.Adam4096x3072RefIdeal.nD Cert.Adam4096x3072RefIdeal.τ).loc Cert.Adam4096x3072RefIdeal.main_arg0) = m' ((c.tc : Thread Cert.Adam4096x3072RefIdeal.nD Cert.Adam4096x3072RefIdeal.τ).loc Cert.Adam4096x3072RefIdeal.main_arg0)
          ∧ r.2.mem ((c.tc : Thread Cert.Adam4096x3072RefIdeal.nD Cert.Adam4096x3072RefIdeal.τ).loc Cert.Adam4096x3072RefIdeal.main_arg1) = m' ((c.tc : Thread Cert.Adam4096x3072RefIdeal.nD Cert.Adam4096x3072RefIdeal.τ).loc Cert.Adam4096x3072RefIdeal.main_arg1)
          ∧ r.2.mem ((c.tc : Thread Cert.Adam4096x3072RefIdeal.nD Cert.Adam4096x3072RefIdeal.τ).loc Cert.Adam4096x3072RefIdeal.main_arg2) = m' ((c.tc : Thread Cert.Adam4096x3072RefIdeal.nD Cert.Adam4096x3072RefIdeal.τ).loc Cert.Adam4096x3072RefIdeal.main_arg2)
          ∧ r.2.mem ((c.tc : Thread Cert.Adam4096x3072RefIdeal.nD Cert.Adam4096x3072RefIdeal.τ).loc Cert.Adam4096x3072RefIdeal.main_arg3) = m' ((c.tc : Thread Cert.Adam4096x3072RefIdeal.nD Cert.Adam4096x3072RefIdeal.τ).loc Cert.Adam4096x3072RefIdeal.main_arg3))

def preserves_Adam1616x128_Adam1616x128Ideal : Prop :=
  True

def algebraic_Adam1616x128Ideal_Adam1616x128RefIdeal [hAdam1616x128Ideal : Cert.Adam1616x128Ideal.Facts] [hAdam1616x128RefIdeal : Cert.Adam1616x128RefIdeal.Facts] : Prop :=
  ∀ (m : (ℓ : Loc Cert.Adam1616x128Ideal.nD Cert.Adam1616x128Ideal.τ Cert.Adam1616x128Ideal.sig) → Buf (Elt Ideal) ℓ) (g : Dev Cert.Adam1616x128Ideal.nD → PrngReg)
    (m' : (ℓ : Loc Cert.Adam1616x128RefIdeal.nD Cert.Adam1616x128RefIdeal.τ Cert.Adam1616x128RefIdeal.sig) → Buf (Elt Ideal) ℓ) (g' : Dev Cert.Adam1616x128RefIdeal.nD → PrngReg), Pre_Adam1616x128Ideal m →
    (∀ c : Dev Cert.Adam1616x128Ideal.nD,
      m' ((c.tc : Thread Cert.Adam1616x128RefIdeal.nD Cert.Adam1616x128RefIdeal.τ).loc Cert.Adam1616x128RefIdeal.main_arg0) = m ((c.tc : Thread Cert.Adam1616x128Ideal.nD Cert.Adam1616x128Ideal.τ).loc Cert.Adam1616x128Ideal.main_arg0)
      ∧ m' ((c.tc : Thread Cert.Adam1616x128RefIdeal.nD Cert.Adam1616x128RefIdeal.τ).loc Cert.Adam1616x128RefIdeal.main_arg1) = m ((c.tc : Thread Cert.Adam1616x128Ideal.nD Cert.Adam1616x128Ideal.τ).loc Cert.Adam1616x128Ideal.main_arg1)
      ∧ m' ((c.tc : Thread Cert.Adam1616x128RefIdeal.nD Cert.Adam1616x128RefIdeal.τ).loc Cert.Adam1616x128RefIdeal.main_arg2) = m ((c.tc : Thread Cert.Adam1616x128Ideal.nD Cert.Adam1616x128Ideal.τ).loc Cert.Adam1616x128Ideal.main_arg2)
      ∧ m' ((c.tc : Thread Cert.Adam1616x128RefIdeal.nD Cert.Adam1616x128RefIdeal.τ).loc Cert.Adam1616x128RefIdeal.main_arg3) = m ((c.tc : Thread Cert.Adam1616x128Ideal.nD Cert.Adam1616x128Ideal.τ).loc Cert.Adam1616x128Ideal.main_arg3)) →
    ∃ (v0 : (c : Dev Cert.Adam1616x128Ideal.nD) → Buf (Elt Ideal) ((c.tc : Thread Cert.Adam1616x128Ideal.nD Cert.Adam1616x128Ideal.τ).loc Cert.Adam1616x128Ideal.main_v0_0)) (v1 : (c : Dev Cert.Adam1616x128Ideal.nD) → Buf (Elt Ideal) ((c.tc : Thread Cert.Adam1616x128Ideal.nD Cert.Adam1616x128Ideal.τ).loc Cert.Adam1616x128Ideal.main_v0_1)) (v2 : (c : Dev Cert.Adam1616x128Ideal.nD) → Buf (Elt Ideal) ((c.tc : Thread Cert.Adam1616x128Ideal.nD Cert.Adam1616x128Ideal.τ).loc Cert.Adam1616x128Ideal.main_v0_2)),
      θ_run (Cert.Adam1616x128Ideal.defs (F := Ideal)) (onTc (τ := Cert.Adam1616x128Ideal.τ) (Cert.Adam1616x128Ideal.main (F := Ideal))) ⟨m, fun _ => 0, g⟩ (fun r => ∀ c : Dev Cert.Adam1616x128Ideal.nD,
          r.2.mem ((c.tc : Thread Cert.Adam1616x128Ideal.nD Cert.Adam1616x128Ideal.τ).loc Cert.Adam1616x128Ideal.main_v0_0) = v0 c
          ∧ r.2.mem ((c.tc : Thread Cert.Adam1616x128Ideal.nD Cert.Adam1616x128Ideal.τ).loc Cert.Adam1616x128Ideal.main_v0_1) = v1 c
          ∧ r.2.mem ((c.tc : Thread Cert.Adam1616x128Ideal.nD Cert.Adam1616x128Ideal.τ).loc Cert.Adam1616x128Ideal.main_v0_2) = v2 c
          ∧ r.2.mem ((c.tc : Thread Cert.Adam1616x128Ideal.nD Cert.Adam1616x128Ideal.τ).loc Cert.Adam1616x128Ideal.main_arg0) = m ((c.tc : Thread Cert.Adam1616x128Ideal.nD Cert.Adam1616x128Ideal.τ).loc Cert.Adam1616x128Ideal.main_arg0)
          ∧ r.2.mem ((c.tc : Thread Cert.Adam1616x128Ideal.nD Cert.Adam1616x128Ideal.τ).loc Cert.Adam1616x128Ideal.main_arg1) = m ((c.tc : Thread Cert.Adam1616x128Ideal.nD Cert.Adam1616x128Ideal.τ).loc Cert.Adam1616x128Ideal.main_arg1)
          ∧ r.2.mem ((c.tc : Thread Cert.Adam1616x128Ideal.nD Cert.Adam1616x128Ideal.τ).loc Cert.Adam1616x128Ideal.main_arg2) = m ((c.tc : Thread Cert.Adam1616x128Ideal.nD Cert.Adam1616x128Ideal.τ).loc Cert.Adam1616x128Ideal.main_arg2)
          ∧ r.2.mem ((c.tc : Thread Cert.Adam1616x128Ideal.nD Cert.Adam1616x128Ideal.τ).loc Cert.Adam1616x128Ideal.main_arg3) = m ((c.tc : Thread Cert.Adam1616x128Ideal.nD Cert.Adam1616x128Ideal.τ).loc Cert.Adam1616x128Ideal.main_arg3))
      ∧ θ_run (Cert.Adam1616x128RefIdeal.defs (F := Ideal)) (onTc (τ := Cert.Adam1616x128RefIdeal.τ) (Cert.Adam1616x128RefIdeal.main (F := Ideal))) ⟨m', fun _ => 0, g'⟩ (fun r => ∀ c : Dev Cert.Adam1616x128RefIdeal.nD,
          r.2.mem ((c.tc : Thread Cert.Adam1616x128RefIdeal.nD Cert.Adam1616x128RefIdeal.τ).loc Cert.Adam1616x128RefIdeal.main_v23) = v0 c
          ∧ r.2.mem ((c.tc : Thread Cert.Adam1616x128RefIdeal.nD Cert.Adam1616x128RefIdeal.τ).loc Cert.Adam1616x128RefIdeal.main_v4) = v1 c
          ∧ r.2.mem ((c.tc : Thread Cert.Adam1616x128RefIdeal.nD Cert.Adam1616x128RefIdeal.τ).loc Cert.Adam1616x128RefIdeal.main_v10) = v2 c
          ∧ r.2.mem ((c.tc : Thread Cert.Adam1616x128RefIdeal.nD Cert.Adam1616x128RefIdeal.τ).loc Cert.Adam1616x128RefIdeal.main_arg0) = m' ((c.tc : Thread Cert.Adam1616x128RefIdeal.nD Cert.Adam1616x128RefIdeal.τ).loc Cert.Adam1616x128RefIdeal.main_arg0)
          ∧ r.2.mem ((c.tc : Thread Cert.Adam1616x128RefIdeal.nD Cert.Adam1616x128RefIdeal.τ).loc Cert.Adam1616x128RefIdeal.main_arg1) = m' ((c.tc : Thread Cert.Adam1616x128RefIdeal.nD Cert.Adam1616x128RefIdeal.τ).loc Cert.Adam1616x128RefIdeal.main_arg1)
          ∧ r.2.mem ((c.tc : Thread Cert.Adam1616x128RefIdeal.nD Cert.Adam1616x128RefIdeal.τ).loc Cert.Adam1616x128RefIdeal.main_arg2) = m' ((c.tc : Thread Cert.Adam1616x128RefIdeal.nD Cert.Adam1616x128RefIdeal.τ).loc Cert.Adam1616x128RefIdeal.main_arg2)
          ∧ r.2.mem ((c.tc : Thread Cert.Adam1616x128RefIdeal.nD Cert.Adam1616x128RefIdeal.τ).loc Cert.Adam1616x128RefIdeal.main_arg3) = m' ((c.tc : Thread Cert.Adam1616x128RefIdeal.nD Cert.Adam1616x128RefIdeal.τ).loc Cert.Adam1616x128RefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Pair8192x1424_Pair8192x1424Ideal : Prop :=
  True

def algebraic_Pair8192x1424Ideal_Pair8192x1424RefIdeal [hPair8192x1424Ideal : Cert.Pair8192x1424Ideal.Facts] [hPair8192x1424RefIdeal : Cert.Pair8192x1424RefIdeal.Facts] : Prop :=
  ∀ (m : (ℓ : Loc Cert.Pair8192x1424Ideal.nD Cert.Pair8192x1424Ideal.τ Cert.Pair8192x1424Ideal.sig) → Buf (Elt Ideal) ℓ) (g : Dev Cert.Pair8192x1424Ideal.nD → PrngReg)
    (m' : (ℓ : Loc Cert.Pair8192x1424RefIdeal.nD Cert.Pair8192x1424RefIdeal.τ Cert.Pair8192x1424RefIdeal.sig) → Buf (Elt Ideal) ℓ) (g' : Dev Cert.Pair8192x1424RefIdeal.nD → PrngReg), Pre_Pair8192x1424Ideal m →
    (∀ c : Dev Cert.Pair8192x1424Ideal.nD,
      m' ((c.tc : Thread Cert.Pair8192x1424RefIdeal.nD Cert.Pair8192x1424RefIdeal.τ).loc Cert.Pair8192x1424RefIdeal.main_arg0) = m ((c.tc : Thread Cert.Pair8192x1424Ideal.nD Cert.Pair8192x1424Ideal.τ).loc Cert.Pair8192x1424Ideal.main_arg0)
      ∧ m' ((c.tc : Thread Cert.Pair8192x1424RefIdeal.nD Cert.Pair8192x1424RefIdeal.τ).loc Cert.Pair8192x1424RefIdeal.main_arg1) = m ((c.tc : Thread Cert.Pair8192x1424Ideal.nD Cert.Pair8192x1424Ideal.τ).loc Cert.Pair8192x1424Ideal.main_arg1)) →
    ∃ (v0 : (c : Dev Cert.Pair8192x1424Ideal.nD) → Buf (Elt Ideal) ((c.tc : Thread Cert.Pair8192x1424Ideal.nD Cert.Pair8192x1424Ideal.τ).loc Cert.Pair8192x1424Ideal.main_v0)),
      θ_run (Cert.Pair8192x1424Ideal.defs (F := Ideal)) (onTc (τ := Cert.Pair8192x1424Ideal.τ) (Cert.Pair8192x1424Ideal.main (F := Ideal))) ⟨m, fun _ => 0, g⟩ (fun r => ∀ c : Dev Cert.Pair8192x1424Ideal.nD,
          r.2.mem ((c.tc : Thread Cert.Pair8192x1424Ideal.nD Cert.Pair8192x1424Ideal.τ).loc Cert.Pair8192x1424Ideal.main_v0) = v0 c
          ∧ r.2.mem ((c.tc : Thread Cert.Pair8192x1424Ideal.nD Cert.Pair8192x1424Ideal.τ).loc Cert.Pair8192x1424Ideal.main_arg0) = m ((c.tc : Thread Cert.Pair8192x1424Ideal.nD Cert.Pair8192x1424Ideal.τ).loc Cert.Pair8192x1424Ideal.main_arg0)
          ∧ r.2.mem ((c.tc : Thread Cert.Pair8192x1424Ideal.nD Cert.Pair8192x1424Ideal.τ).loc Cert.Pair8192x1424Ideal.main_arg1) = m ((c.tc : Thread Cert.Pair8192x1424Ideal.nD Cert.Pair8192x1424Ideal.τ).loc Cert.Pair8192x1424Ideal.main_arg1))
      ∧ θ_run (Cert.Pair8192x1424RefIdeal.defs (F := Ideal)) (onTc (τ := Cert.Pair8192x1424RefIdeal.τ) (Cert.Pair8192x1424RefIdeal.main (F := Ideal))) ⟨m', fun _ => 0, g'⟩ (fun r => ∀ c : Dev Cert.Pair8192x1424RefIdeal.nD,
          r.2.mem ((c.tc : Thread Cert.Pair8192x1424RefIdeal.nD Cert.Pair8192x1424RefIdeal.τ).loc Cert.Pair8192x1424RefIdeal.main_v1) = v0 c
          ∧ r.2.mem ((c.tc : Thread Cert.Pair8192x1424RefIdeal.nD Cert.Pair8192x1424RefIdeal.τ).loc Cert.Pair8192x1424RefIdeal.main_arg0) = m' ((c.tc : Thread Cert.Pair8192x1424RefIdeal.nD Cert.Pair8192x1424RefIdeal.τ).loc Cert.Pair8192x1424RefIdeal.main_arg0)
          ∧ r.2.mem ((c.tc : Thread Cert.Pair8192x1424RefIdeal.nD Cert.Pair8192x1424RefIdeal.τ).loc Cert.Pair8192x1424RefIdeal.main_arg1) = m' ((c.tc : Thread Cert.Pair8192x1424RefIdeal.nD Cert.Pair8192x1424RefIdeal.τ).loc Cert.Pair8192x1424RefIdeal.main_arg1))

def bitexact_Pair8192x1424_Pair8192x1424Ref [hPair8192x1424 : Cert.Pair8192x1424.Facts] [hPair8192x1424Ref : Cert.Pair8192x1424Ref.Facts] : Prop :=
  ∀ (m : (ℓ : Loc Cert.Pair8192x1424.nD Cert.Pair8192x1424.τ Cert.Pair8192x1424.sig) → Buf (Elt Bits) ℓ) (g : Dev Cert.Pair8192x1424.nD → PrngReg)
    (m' : (ℓ : Loc Cert.Pair8192x1424Ref.nD Cert.Pair8192x1424Ref.τ Cert.Pair8192x1424Ref.sig) → Buf (Elt Bits) ℓ) (g' : Dev Cert.Pair8192x1424Ref.nD → PrngReg), Pre_Pair8192x1424 m →
    (∀ c : Dev Cert.Pair8192x1424.nD,
      m' ((c.tc : Thread Cert.Pair8192x1424Ref.nD Cert.Pair8192x1424Ref.τ).loc Cert.Pair8192x1424Ref.main_arg0) = m ((c.tc : Thread Cert.Pair8192x1424.nD Cert.Pair8192x1424.τ).loc Cert.Pair8192x1424.main_arg0)
      ∧ m' ((c.tc : Thread Cert.Pair8192x1424Ref.nD Cert.Pair8192x1424Ref.τ).loc Cert.Pair8192x1424Ref.main_arg1) = m ((c.tc : Thread Cert.Pair8192x1424.nD Cert.Pair8192x1424.τ).loc Cert.Pair8192x1424.main_arg1)) →
    ∃ (v0 : (c : Dev Cert.Pair8192x1424.nD) → Buf (Elt Bits) ((c.tc : Thread Cert.Pair8192x1424.nD Cert.Pair8192x1424.τ).loc Cert.Pair8192x1424.main_v0)),
      θ_run (Cert.Pair8192x1424.defs (F := Bits)) (onTc (τ := Cert.Pair8192x1424.τ) (Cert.Pair8192x1424.main (F := Bits))) ⟨m, fun _ => 0, g⟩ (fun r => ∀ c : Dev Cert.Pair8192x1424.nD,
          r.2.mem ((c.tc : Thread Cert.Pair8192x1424.nD Cert.Pair8192x1424.τ).loc Cert.Pair8192x1424.main_v0) = v0 c
          ∧ r.2.mem ((c.tc : Thread Cert.Pair8192x1424.nD Cert.Pair8192x1424.τ).loc Cert.Pair8192x1424.main_arg0) = m ((c.tc : Thread Cert.Pair8192x1424.nD Cert.Pair8192x1424.τ).loc Cert.Pair8192x1424.main_arg0)
          ∧ r.2.mem ((c.tc : Thread Cert.Pair8192x1424.nD Cert.Pair8192x1424.τ).loc Cert.Pair8192x1424.main_arg1) = m ((c.tc : Thread Cert.Pair8192x1424.nD Cert.Pair8192x1424.τ).loc Cert.Pair8192x1424.main_arg1))
      ∧ θ_run (Cert.Pair8192x1424Ref.defs (F := Bits)) (onTc (τ := Cert.Pair8192x1424Ref.τ) (Cert.Pair8192x1424Ref.main (F := Bits))) ⟨m', fun _ => 0, g'⟩ (fun r => ∀ c : Dev Cert.Pair8192x1424Ref.nD,
          r.2.mem ((c.tc : Thread Cert.Pair8192x1424Ref.nD Cert.Pair8192x1424Ref.τ).loc Cert.Pair8192x1424Ref.main_v1) = v0 c
          ∧ r.2.mem ((c.tc : Thread Cert.Pair8192x1424Ref.nD Cert.Pair8192x1424Ref.τ).loc Cert.Pair8192x1424Ref.main_arg0) = m' ((c.tc : Thread Cert.Pair8192x1424Ref.nD Cert.Pair8192x1424Ref.τ).loc Cert.Pair8192x1424Ref.main_arg0)
          ∧ r.2.mem ((c.tc : Thread Cert.Pair8192x1424Ref.nD Cert.Pair8192x1424Ref.τ).loc Cert.Pair8192x1424Ref.main_arg1) = m' ((c.tc : Thread Cert.Pair8192x1424Ref.nD Cert.Pair8192x1424Ref.τ).loc Cert.Pair8192x1424Ref.main_arg1))

def preserves_Chip2048x1424_Chip2048x1424Ideal : Prop :=
  True

def algebraic_Chip2048x1424Ideal_Chip2048x1424RefIdeal [hChip2048x1424Ideal : Cert.Chip2048x1424Ideal.Facts] [hChip2048x1424RefIdeal : Cert.Chip2048x1424RefIdeal.Facts] : Prop :=
  ∀ (m : (ℓ : Loc Cert.Chip2048x1424Ideal.nD Cert.Chip2048x1424Ideal.τ Cert.Chip2048x1424Ideal.sig) → Buf (Elt Ideal) ℓ) (g : Dev Cert.Chip2048x1424Ideal.nD → PrngReg)
    (m' : (ℓ : Loc Cert.Chip2048x1424RefIdeal.nD Cert.Chip2048x1424RefIdeal.τ Cert.Chip2048x1424RefIdeal.sig) → Buf (Elt Ideal) ℓ) (g' : Dev Cert.Chip2048x1424RefIdeal.nD → PrngReg), Pre_Chip2048x1424Ideal m →
    (∀ c : Dev Cert.Chip2048x1424Ideal.nD,
      m' ((c.tc : Thread Cert.Chip2048x1424RefIdeal.nD Cert.Chip2048x1424RefIdeal.τ).loc Cert.Chip2048x1424RefIdeal.main_arg0) = m ((c.tc : Thread Cert.Chip2048x1424Ideal.nD Cert.Chip2048x1424Ideal.τ).loc Cert.Chip2048x1424Ideal.main_arg0)) →
    ∃ (v0 : (c : Dev Cert.Chip2048x1424Ideal.nD) → Buf (Elt Ideal) ((c.tc : Thread Cert.Chip2048x1424Ideal.nD Cert.Chip2048x1424Ideal.τ).loc Cert.Chip2048x1424Ideal.main_v0)),
      θ_run (Cert.Chip2048x1424Ideal.defs (F := Ideal)) (onTc (τ := Cert.Chip2048x1424Ideal.τ) (Cert.Chip2048x1424Ideal.main (F := Ideal))) ⟨m, fun _ => 0, g⟩ (fun r => ∀ c : Dev Cert.Chip2048x1424Ideal.nD,
          r.2.mem ((c.tc : Thread Cert.Chip2048x1424Ideal.nD Cert.Chip2048x1424Ideal.τ).loc Cert.Chip2048x1424Ideal.main_v0) = v0 c
          ∧ r.2.mem ((c.tc : Thread Cert.Chip2048x1424Ideal.nD Cert.Chip2048x1424Ideal.τ).loc Cert.Chip2048x1424Ideal.main_arg0) = m ((c.tc : Thread Cert.Chip2048x1424Ideal.nD Cert.Chip2048x1424Ideal.τ).loc Cert.Chip2048x1424Ideal.main_arg0))
      ∧ θ_run (Cert.Chip2048x1424RefIdeal.defs (F := Ideal)) (onTc (τ := Cert.Chip2048x1424RefIdeal.τ) (Cert.Chip2048x1424RefIdeal.main (F := Ideal))) ⟨m', fun _ => 0, g'⟩ (fun r => ∀ c : Dev Cert.Chip2048x1424RefIdeal.nD,
          r.2.mem ((c.tc : Thread Cert.Chip2048x1424RefIdeal.nD Cert.Chip2048x1424RefIdeal.τ).loc Cert.Chip2048x1424RefIdeal.main_v1) = v0 c
          ∧ r.2.mem ((c.tc : Thread Cert.Chip2048x1424RefIdeal.nD Cert.Chip2048x1424RefIdeal.τ).loc Cert.Chip2048x1424RefIdeal.main_arg0) = m' ((c.tc : Thread Cert.Chip2048x1424RefIdeal.nD Cert.Chip2048x1424RefIdeal.τ).loc Cert.Chip2048x1424RefIdeal.main_arg0))

def preserves_Pair2048x1536_Pair2048x1536Ideal : Prop :=
  True

def algebraic_Pair2048x1536Ideal_Pair2048x1536RefIdeal [hPair2048x1536Ideal : Cert.Pair2048x1536Ideal.Facts] [hPair2048x1536RefIdeal : Cert.Pair2048x1536RefIdeal.Facts] : Prop :=
  ∀ (m : (ℓ : Loc Cert.Pair2048x1536Ideal.nD Cert.Pair2048x1536Ideal.τ Cert.Pair2048x1536Ideal.sig) → Buf (Elt Ideal) ℓ) (g : Dev Cert.Pair2048x1536Ideal.nD → PrngReg)
    (m' : (ℓ : Loc Cert.Pair2048x1536RefIdeal.nD Cert.Pair2048x1536RefIdeal.τ Cert.Pair2048x1536RefIdeal.sig) → Buf (Elt Ideal) ℓ) (g' : Dev Cert.Pair2048x1536RefIdeal.nD → PrngReg), Pre_Pair2048x1536Ideal m →
    (∀ c : Dev Cert.Pair2048x1536Ideal.nD,
      m' ((c.tc : Thread Cert.Pair2048x1536RefIdeal.nD Cert.Pair2048x1536RefIdeal.τ).loc Cert.Pair2048x1536RefIdeal.main_arg0) = m ((c.tc : Thread Cert.Pair2048x1536Ideal.nD Cert.Pair2048x1536Ideal.τ).loc Cert.Pair2048x1536Ideal.main_arg0)
      ∧ m' ((c.tc : Thread Cert.Pair2048x1536RefIdeal.nD Cert.Pair2048x1536RefIdeal.τ).loc Cert.Pair2048x1536RefIdeal.main_arg1) = m ((c.tc : Thread Cert.Pair2048x1536Ideal.nD Cert.Pair2048x1536Ideal.τ).loc Cert.Pair2048x1536Ideal.main_arg1)) →
    ∃ (v0 : (c : Dev Cert.Pair2048x1536Ideal.nD) → Buf (Elt Ideal) ((c.tc : Thread Cert.Pair2048x1536Ideal.nD Cert.Pair2048x1536Ideal.τ).loc Cert.Pair2048x1536Ideal.main_v0)),
      θ_run (Cert.Pair2048x1536Ideal.defs (F := Ideal)) (onTc (τ := Cert.Pair2048x1536Ideal.τ) (Cert.Pair2048x1536Ideal.main (F := Ideal))) ⟨m, fun _ => 0, g⟩ (fun r => ∀ c : Dev Cert.Pair2048x1536Ideal.nD,
          r.2.mem ((c.tc : Thread Cert.Pair2048x1536Ideal.nD Cert.Pair2048x1536Ideal.τ).loc Cert.Pair2048x1536Ideal.main_v0) = v0 c
          ∧ r.2.mem ((c.tc : Thread Cert.Pair2048x1536Ideal.nD Cert.Pair2048x1536Ideal.τ).loc Cert.Pair2048x1536Ideal.main_arg0) = m ((c.tc : Thread Cert.Pair2048x1536Ideal.nD Cert.Pair2048x1536Ideal.τ).loc Cert.Pair2048x1536Ideal.main_arg0)
          ∧ r.2.mem ((c.tc : Thread Cert.Pair2048x1536Ideal.nD Cert.Pair2048x1536Ideal.τ).loc Cert.Pair2048x1536Ideal.main_arg1) = m ((c.tc : Thread Cert.Pair2048x1536Ideal.nD Cert.Pair2048x1536Ideal.τ).loc Cert.Pair2048x1536Ideal.main_arg1))
      ∧ θ_run (Cert.Pair2048x1536RefIdeal.defs (F := Ideal)) (onTc (τ := Cert.Pair2048x1536RefIdeal.τ) (Cert.Pair2048x1536RefIdeal.main (F := Ideal))) ⟨m', fun _ => 0, g'⟩ (fun r => ∀ c : Dev Cert.Pair2048x1536RefIdeal.nD,
          r.2.mem ((c.tc : Thread Cert.Pair2048x1536RefIdeal.nD Cert.Pair2048x1536RefIdeal.τ).loc Cert.Pair2048x1536RefIdeal.main_v1) = v0 c
          ∧ r.2.mem ((c.tc : Thread Cert.Pair2048x1536RefIdeal.nD Cert.Pair2048x1536RefIdeal.τ).loc Cert.Pair2048x1536RefIdeal.main_arg0) = m' ((c.tc : Thread Cert.Pair2048x1536RefIdeal.nD Cert.Pair2048x1536RefIdeal.τ).loc Cert.Pair2048x1536RefIdeal.main_arg0)
          ∧ r.2.mem ((c.tc : Thread Cert.Pair2048x1536RefIdeal.nD Cert.Pair2048x1536RefIdeal.τ).loc Cert.Pair2048x1536RefIdeal.main_arg1) = m' ((c.tc : Thread Cert.Pair2048x1536RefIdeal.nD Cert.Pair2048x1536RefIdeal.τ).loc Cert.Pair2048x1536RefIdeal.main_arg1))

def bitexact_Pair2048x1536_Pair2048x1536Ref [hPair2048x1536 : Cert.Pair2048x1536.Facts] [hPair2048x1536Ref : Cert.Pair2048x1536Ref.Facts] : Prop :=
  ∀ (m : (ℓ : Loc Cert.Pair2048x1536.nD Cert.Pair2048x1536.τ Cert.Pair2048x1536.sig) → Buf (Elt Bits) ℓ) (g : Dev Cert.Pair2048x1536.nD → PrngReg)
    (m' : (ℓ : Loc Cert.Pair2048x1536Ref.nD Cert.Pair2048x1536Ref.τ Cert.Pair2048x1536Ref.sig) → Buf (Elt Bits) ℓ) (g' : Dev Cert.Pair2048x1536Ref.nD → PrngReg), Pre_Pair2048x1536 m →
    (∀ c : Dev Cert.Pair2048x1536.nD,
      m' ((c.tc : Thread Cert.Pair2048x1536Ref.nD Cert.Pair2048x1536Ref.τ).loc Cert.Pair2048x1536Ref.main_arg0) = m ((c.tc : Thread Cert.Pair2048x1536.nD Cert.Pair2048x1536.τ).loc Cert.Pair2048x1536.main_arg0)
      ∧ m' ((c.tc : Thread Cert.Pair2048x1536Ref.nD Cert.Pair2048x1536Ref.τ).loc Cert.Pair2048x1536Ref.main_arg1) = m ((c.tc : Thread Cert.Pair2048x1536.nD Cert.Pair2048x1536.τ).loc Cert.Pair2048x1536.main_arg1)) →
    ∃ (v0 : (c : Dev Cert.Pair2048x1536.nD) → Buf (Elt Bits) ((c.tc : Thread Cert.Pair2048x1536.nD Cert.Pair2048x1536.τ).loc Cert.Pair2048x1536.main_v0)),
      θ_run (Cert.Pair2048x1536.defs (F := Bits)) (onTc (τ := Cert.Pair2048x1536.τ) (Cert.Pair2048x1536.main (F := Bits))) ⟨m, fun _ => 0, g⟩ (fun r => ∀ c : Dev Cert.Pair2048x1536.nD,
          r.2.mem ((c.tc : Thread Cert.Pair2048x1536.nD Cert.Pair2048x1536.τ).loc Cert.Pair2048x1536.main_v0) = v0 c
          ∧ r.2.mem ((c.tc : Thread Cert.Pair2048x1536.nD Cert.Pair2048x1536.τ).loc Cert.Pair2048x1536.main_arg0) = m ((c.tc : Thread Cert.Pair2048x1536.nD Cert.Pair2048x1536.τ).loc Cert.Pair2048x1536.main_arg0)
          ∧ r.2.mem ((c.tc : Thread Cert.Pair2048x1536.nD Cert.Pair2048x1536.τ).loc Cert.Pair2048x1536.main_arg1) = m ((c.tc : Thread Cert.Pair2048x1536.nD Cert.Pair2048x1536.τ).loc Cert.Pair2048x1536.main_arg1))
      ∧ θ_run (Cert.Pair2048x1536Ref.defs (F := Bits)) (onTc (τ := Cert.Pair2048x1536Ref.τ) (Cert.Pair2048x1536Ref.main (F := Bits))) ⟨m', fun _ => 0, g'⟩ (fun r => ∀ c : Dev Cert.Pair2048x1536Ref.nD,
          r.2.mem ((c.tc : Thread Cert.Pair2048x1536Ref.nD Cert.Pair2048x1536Ref.τ).loc Cert.Pair2048x1536Ref.main_v1) = v0 c
          ∧ r.2.mem ((c.tc : Thread Cert.Pair2048x1536Ref.nD Cert.Pair2048x1536Ref.τ).loc Cert.Pair2048x1536Ref.main_arg0) = m' ((c.tc : Thread Cert.Pair2048x1536Ref.nD Cert.Pair2048x1536Ref.τ).loc Cert.Pair2048x1536Ref.main_arg0)
          ∧ r.2.mem ((c.tc : Thread Cert.Pair2048x1536Ref.nD Cert.Pair2048x1536Ref.τ).loc Cert.Pair2048x1536Ref.main_arg1) = m' ((c.tc : Thread Cert.Pair2048x1536Ref.nD Cert.Pair2048x1536Ref.τ).loc Cert.Pair2048x1536Ref.main_arg1))

def preserves_Chip512x1536_Chip512x1536Ideal : Prop :=
  True

def algebraic_Chip512x1536Ideal_Chip512x1536RefIdeal [hChip512x1536Ideal : Cert.Chip512x1536Ideal.Facts] [hChip512x1536RefIdeal : Cert.Chip512x1536RefIdeal.Facts] : Prop :=
  ∀ (m : (ℓ : Loc Cert.Chip512x1536Ideal.nD Cert.Chip512x1536Ideal.τ Cert.Chip512x1536Ideal.sig) → Buf (Elt Ideal) ℓ) (g : Dev Cert.Chip512x1536Ideal.nD → PrngReg)
    (m' : (ℓ : Loc Cert.Chip512x1536RefIdeal.nD Cert.Chip512x1536RefIdeal.τ Cert.Chip512x1536RefIdeal.sig) → Buf (Elt Ideal) ℓ) (g' : Dev Cert.Chip512x1536RefIdeal.nD → PrngReg), Pre_Chip512x1536Ideal m →
    (∀ c : Dev Cert.Chip512x1536Ideal.nD,
      m' ((c.tc : Thread Cert.Chip512x1536RefIdeal.nD Cert.Chip512x1536RefIdeal.τ).loc Cert.Chip512x1536RefIdeal.main_arg0) = m ((c.tc : Thread Cert.Chip512x1536Ideal.nD Cert.Chip512x1536Ideal.τ).loc Cert.Chip512x1536Ideal.main_arg0)) →
    ∃ (v0 : (c : Dev Cert.Chip512x1536Ideal.nD) → Buf (Elt Ideal) ((c.tc : Thread Cert.Chip512x1536Ideal.nD Cert.Chip512x1536Ideal.τ).loc Cert.Chip512x1536Ideal.main_v0)),
      θ_run (Cert.Chip512x1536Ideal.defs (F := Ideal)) (onTc (τ := Cert.Chip512x1536Ideal.τ) (Cert.Chip512x1536Ideal.main (F := Ideal))) ⟨m, fun _ => 0, g⟩ (fun r => ∀ c : Dev Cert.Chip512x1536Ideal.nD,
          r.2.mem ((c.tc : Thread Cert.Chip512x1536Ideal.nD Cert.Chip512x1536Ideal.τ).loc Cert.Chip512x1536Ideal.main_v0) = v0 c
          ∧ r.2.mem ((c.tc : Thread Cert.Chip512x1536Ideal.nD Cert.Chip512x1536Ideal.τ).loc Cert.Chip512x1536Ideal.main_arg0) = m ((c.tc : Thread Cert.Chip512x1536Ideal.nD Cert.Chip512x1536Ideal.τ).loc Cert.Chip512x1536Ideal.main_arg0))
      ∧ θ_run (Cert.Chip512x1536RefIdeal.defs (F := Ideal)) (onTc (τ := Cert.Chip512x1536RefIdeal.τ) (Cert.Chip512x1536RefIdeal.main (F := Ideal))) ⟨m', fun _ => 0, g'⟩ (fun r => ∀ c : Dev Cert.Chip512x1536RefIdeal.nD,
          r.2.mem ((c.tc : Thread Cert.Chip512x1536RefIdeal.nD Cert.Chip512x1536RefIdeal.τ).loc Cert.Chip512x1536RefIdeal.main_v1) = v0 c
          ∧ r.2.mem ((c.tc : Thread Cert.Chip512x1536RefIdeal.nD Cert.Chip512x1536RefIdeal.τ).loc Cert.Chip512x1536RefIdeal.main_arg0) = m' ((c.tc : Thread Cert.Chip512x1536RefIdeal.nD Cert.Chip512x1536RefIdeal.τ).loc Cert.Chip512x1536RefIdeal.main_arg0))

def preserves_Pair1024x2048_Pair1024x2048Ideal : Prop :=
  True

def algebraic_Pair1024x2048Ideal_Pair1024x2048RefIdeal [hPair1024x2048Ideal : Cert.Pair1024x2048Ideal.Facts] [hPair1024x2048RefIdeal : Cert.Pair1024x2048RefIdeal.Facts] : Prop :=
  ∀ (m : (ℓ : Loc Cert.Pair1024x2048Ideal.nD Cert.Pair1024x2048Ideal.τ Cert.Pair1024x2048Ideal.sig) → Buf (Elt Ideal) ℓ) (g : Dev Cert.Pair1024x2048Ideal.nD → PrngReg)
    (m' : (ℓ : Loc Cert.Pair1024x2048RefIdeal.nD Cert.Pair1024x2048RefIdeal.τ Cert.Pair1024x2048RefIdeal.sig) → Buf (Elt Ideal) ℓ) (g' : Dev Cert.Pair1024x2048RefIdeal.nD → PrngReg), Pre_Pair1024x2048Ideal m →
    (∀ c : Dev Cert.Pair1024x2048Ideal.nD,
      m' ((c.tc : Thread Cert.Pair1024x2048RefIdeal.nD Cert.Pair1024x2048RefIdeal.τ).loc Cert.Pair1024x2048RefIdeal.main_arg0) = m ((c.tc : Thread Cert.Pair1024x2048Ideal.nD Cert.Pair1024x2048Ideal.τ).loc Cert.Pair1024x2048Ideal.main_arg0)
      ∧ m' ((c.tc : Thread Cert.Pair1024x2048RefIdeal.nD Cert.Pair1024x2048RefIdeal.τ).loc Cert.Pair1024x2048RefIdeal.main_arg1) = m ((c.tc : Thread Cert.Pair1024x2048Ideal.nD Cert.Pair1024x2048Ideal.τ).loc Cert.Pair1024x2048Ideal.main_arg1)) →
    ∃ (v0 : (c : Dev Cert.Pair1024x2048Ideal.nD) → Buf (Elt Ideal) ((c.tc : Thread Cert.Pair1024x2048Ideal.nD Cert.Pair1024x2048Ideal.τ).loc Cert.Pair1024x2048Ideal.main_v0)),
      θ_run (Cert.Pair1024x2048Ideal.defs (F := Ideal)) (onTc (τ := Cert.Pair1024x2048Ideal.τ) (Cert.Pair1024x2048Ideal.main (F := Ideal))) ⟨m, fun _ => 0, g⟩ (fun r => ∀ c : Dev Cert.Pair1024x2048Ideal.nD,
          r.2.mem ((c.tc : Thread Cert.Pair1024x2048Ideal.nD Cert.Pair1024x2048Ideal.τ).loc Cert.Pair1024x2048Ideal.main_v0) = v0 c
          ∧ r.2.mem ((c.tc : Thread Cert.Pair1024x2048Ideal.nD Cert.Pair1024x2048Ideal.τ).loc Cert.Pair1024x2048Ideal.main_arg0) = m ((c.tc : Thread Cert.Pair1024x2048Ideal.nD Cert.Pair1024x2048Ideal.τ).loc Cert.Pair1024x2048Ideal.main_arg0)
          ∧ r.2.mem ((c.tc : Thread Cert.Pair1024x2048Ideal.nD Cert.Pair1024x2048Ideal.τ).loc Cert.Pair1024x2048Ideal.main_arg1) = m ((c.tc : Thread Cert.Pair1024x2048Ideal.nD Cert.Pair1024x2048Ideal.τ).loc Cert.Pair1024x2048Ideal.main_arg1))
      ∧ θ_run (Cert.Pair1024x2048RefIdeal.defs (F := Ideal)) (onTc (τ := Cert.Pair1024x2048RefIdeal.τ) (Cert.Pair1024x2048RefIdeal.main (F := Ideal))) ⟨m', fun _ => 0, g'⟩ (fun r => ∀ c : Dev Cert.Pair1024x2048RefIdeal.nD,
          r.2.mem ((c.tc : Thread Cert.Pair1024x2048RefIdeal.nD Cert.Pair1024x2048RefIdeal.τ).loc Cert.Pair1024x2048RefIdeal.main_v1) = v0 c
          ∧ r.2.mem ((c.tc : Thread Cert.Pair1024x2048RefIdeal.nD Cert.Pair1024x2048RefIdeal.τ).loc Cert.Pair1024x2048RefIdeal.main_arg0) = m' ((c.tc : Thread Cert.Pair1024x2048RefIdeal.nD Cert.Pair1024x2048RefIdeal.τ).loc Cert.Pair1024x2048RefIdeal.main_arg0)
          ∧ r.2.mem ((c.tc : Thread Cert.Pair1024x2048RefIdeal.nD Cert.Pair1024x2048RefIdeal.τ).loc Cert.Pair1024x2048RefIdeal.main_arg1) = m' ((c.tc : Thread Cert.Pair1024x2048RefIdeal.nD Cert.Pair1024x2048RefIdeal.τ).loc Cert.Pair1024x2048RefIdeal.main_arg1))

def bitexact_Pair1024x2048_Pair1024x2048Ref [hPair1024x2048 : Cert.Pair1024x2048.Facts] [hPair1024x2048Ref : Cert.Pair1024x2048Ref.Facts] : Prop :=
  ∀ (m : (ℓ : Loc Cert.Pair1024x2048.nD Cert.Pair1024x2048.τ Cert.Pair1024x2048.sig) → Buf (Elt Bits) ℓ) (g : Dev Cert.Pair1024x2048.nD → PrngReg)
    (m' : (ℓ : Loc Cert.Pair1024x2048Ref.nD Cert.Pair1024x2048Ref.τ Cert.Pair1024x2048Ref.sig) → Buf (Elt Bits) ℓ) (g' : Dev Cert.Pair1024x2048Ref.nD → PrngReg), Pre_Pair1024x2048 m →
    (∀ c : Dev Cert.Pair1024x2048.nD,
      m' ((c.tc : Thread Cert.Pair1024x2048Ref.nD Cert.Pair1024x2048Ref.τ).loc Cert.Pair1024x2048Ref.main_arg0) = m ((c.tc : Thread Cert.Pair1024x2048.nD Cert.Pair1024x2048.τ).loc Cert.Pair1024x2048.main_arg0)
      ∧ m' ((c.tc : Thread Cert.Pair1024x2048Ref.nD Cert.Pair1024x2048Ref.τ).loc Cert.Pair1024x2048Ref.main_arg1) = m ((c.tc : Thread Cert.Pair1024x2048.nD Cert.Pair1024x2048.τ).loc Cert.Pair1024x2048.main_arg1)) →
    ∃ (v0 : (c : Dev Cert.Pair1024x2048.nD) → Buf (Elt Bits) ((c.tc : Thread Cert.Pair1024x2048.nD Cert.Pair1024x2048.τ).loc Cert.Pair1024x2048.main_v0)),
      θ_run (Cert.Pair1024x2048.defs (F := Bits)) (onTc (τ := Cert.Pair1024x2048.τ) (Cert.Pair1024x2048.main (F := Bits))) ⟨m, fun _ => 0, g⟩ (fun r => ∀ c : Dev Cert.Pair1024x2048.nD,
          r.2.mem ((c.tc : Thread Cert.Pair1024x2048.nD Cert.Pair1024x2048.τ).loc Cert.Pair1024x2048.main_v0) = v0 c
          ∧ r.2.mem ((c.tc : Thread Cert.Pair1024x2048.nD Cert.Pair1024x2048.τ).loc Cert.Pair1024x2048.main_arg0) = m ((c.tc : Thread Cert.Pair1024x2048.nD Cert.Pair1024x2048.τ).loc Cert.Pair1024x2048.main_arg0)
          ∧ r.2.mem ((c.tc : Thread Cert.Pair1024x2048.nD Cert.Pair1024x2048.τ).loc Cert.Pair1024x2048.main_arg1) = m ((c.tc : Thread Cert.Pair1024x2048.nD Cert.Pair1024x2048.τ).loc Cert.Pair1024x2048.main_arg1))
      ∧ θ_run (Cert.Pair1024x2048Ref.defs (F := Bits)) (onTc (τ := Cert.Pair1024x2048Ref.τ) (Cert.Pair1024x2048Ref.main (F := Bits))) ⟨m', fun _ => 0, g'⟩ (fun r => ∀ c : Dev Cert.Pair1024x2048Ref.nD,
          r.2.mem ((c.tc : Thread Cert.Pair1024x2048Ref.nD Cert.Pair1024x2048Ref.τ).loc Cert.Pair1024x2048Ref.main_v1) = v0 c
          ∧ r.2.mem ((c.tc : Thread Cert.Pair1024x2048Ref.nD Cert.Pair1024x2048Ref.τ).loc Cert.Pair1024x2048Ref.main_arg0) = m' ((c.tc : Thread Cert.Pair1024x2048Ref.nD Cert.Pair1024x2048Ref.τ).loc Cert.Pair1024x2048Ref.main_arg0)
          ∧ r.2.mem ((c.tc : Thread Cert.Pair1024x2048Ref.nD Cert.Pair1024x2048Ref.τ).loc Cert.Pair1024x2048Ref.main_arg1) = m' ((c.tc : Thread Cert.Pair1024x2048Ref.nD Cert.Pair1024x2048Ref.τ).loc Cert.Pair1024x2048Ref.main_arg1))

def preserves_Chip256x2048_Chip256x2048Ideal : Prop :=
  True

def algebraic_Chip256x2048Ideal_Chip256x2048RefIdeal [hChip256x2048Ideal : Cert.Chip256x2048Ideal.Facts] [hChip256x2048RefIdeal : Cert.Chip256x2048RefIdeal.Facts] : Prop :=
  ∀ (m : (ℓ : Loc Cert.Chip256x2048Ideal.nD Cert.Chip256x2048Ideal.τ Cert.Chip256x2048Ideal.sig) → Buf (Elt Ideal) ℓ) (g : Dev Cert.Chip256x2048Ideal.nD → PrngReg)
    (m' : (ℓ : Loc Cert.Chip256x2048RefIdeal.nD Cert.Chip256x2048RefIdeal.τ Cert.Chip256x2048RefIdeal.sig) → Buf (Elt Ideal) ℓ) (g' : Dev Cert.Chip256x2048RefIdeal.nD → PrngReg), Pre_Chip256x2048Ideal m →
    (∀ c : Dev Cert.Chip256x2048Ideal.nD,
      m' ((c.tc : Thread Cert.Chip256x2048RefIdeal.nD Cert.Chip256x2048RefIdeal.τ).loc Cert.Chip256x2048RefIdeal.main_arg0) = m ((c.tc : Thread Cert.Chip256x2048Ideal.nD Cert.Chip256x2048Ideal.τ).loc Cert.Chip256x2048Ideal.main_arg0)) →
    ∃ (v0 : (c : Dev Cert.Chip256x2048Ideal.nD) → Buf (Elt Ideal) ((c.tc : Thread Cert.Chip256x2048Ideal.nD Cert.Chip256x2048Ideal.τ).loc Cert.Chip256x2048Ideal.main_v0)),
      θ_run (Cert.Chip256x2048Ideal.defs (F := Ideal)) (onTc (τ := Cert.Chip256x2048Ideal.τ) (Cert.Chip256x2048Ideal.main (F := Ideal))) ⟨m, fun _ => 0, g⟩ (fun r => ∀ c : Dev Cert.Chip256x2048Ideal.nD,
          r.2.mem ((c.tc : Thread Cert.Chip256x2048Ideal.nD Cert.Chip256x2048Ideal.τ).loc Cert.Chip256x2048Ideal.main_v0) = v0 c
          ∧ r.2.mem ((c.tc : Thread Cert.Chip256x2048Ideal.nD Cert.Chip256x2048Ideal.τ).loc Cert.Chip256x2048Ideal.main_arg0) = m ((c.tc : Thread Cert.Chip256x2048Ideal.nD Cert.Chip256x2048Ideal.τ).loc Cert.Chip256x2048Ideal.main_arg0))
      ∧ θ_run (Cert.Chip256x2048RefIdeal.defs (F := Ideal)) (onTc (τ := Cert.Chip256x2048RefIdeal.τ) (Cert.Chip256x2048RefIdeal.main (F := Ideal))) ⟨m', fun _ => 0, g'⟩ (fun r => ∀ c : Dev Cert.Chip256x2048RefIdeal.nD,
          r.2.mem ((c.tc : Thread Cert.Chip256x2048RefIdeal.nD Cert.Chip256x2048RefIdeal.τ).loc Cert.Chip256x2048RefIdeal.main_v1) = v0 c
          ∧ r.2.mem ((c.tc : Thread Cert.Chip256x2048RefIdeal.nD Cert.Chip256x2048RefIdeal.τ).loc Cert.Chip256x2048RefIdeal.main_arg0) = m' ((c.tc : Thread Cert.Chip256x2048RefIdeal.nD Cert.Chip256x2048RefIdeal.τ).loc Cert.Chip256x2048RefIdeal.main_arg0))

def preserves_Pair2048x4096_Pair2048x4096Ideal : Prop :=
  True

def algebraic_Pair2048x4096Ideal_Pair2048x4096RefIdeal [hPair2048x4096Ideal : Cert.Pair2048x4096Ideal.Facts] [hPair2048x4096RefIdeal : Cert.Pair2048x4096RefIdeal.Facts] : Prop :=
  ∀ (m : (ℓ : Loc Cert.Pair2048x4096Ideal.nD Cert.Pair2048x4096Ideal.τ Cert.Pair2048x4096Ideal.sig) → Buf (Elt Ideal) ℓ) (g : Dev Cert.Pair2048x4096Ideal.nD → PrngReg)
    (m' : (ℓ : Loc Cert.Pair2048x4096RefIdeal.nD Cert.Pair2048x4096RefIdeal.τ Cert.Pair2048x4096RefIdeal.sig) → Buf (Elt Ideal) ℓ) (g' : Dev Cert.Pair2048x4096RefIdeal.nD → PrngReg), Pre_Pair2048x4096Ideal m →
    (∀ c : Dev Cert.Pair2048x4096Ideal.nD,
      m' ((c.tc : Thread Cert.Pair2048x4096RefIdeal.nD Cert.Pair2048x4096RefIdeal.τ).loc Cert.Pair2048x4096RefIdeal.main_arg0) = m ((c.tc : Thread Cert.Pair2048x4096Ideal.nD Cert.Pair2048x4096Ideal.τ).loc Cert.Pair2048x4096Ideal.main_arg0)
      ∧ m' ((c.tc : Thread Cert.Pair2048x4096RefIdeal.nD Cert.Pair2048x4096RefIdeal.τ).loc Cert.Pair2048x4096RefIdeal.main_arg1) = m ((c.tc : Thread Cert.Pair2048x4096Ideal.nD Cert.Pair2048x4096Ideal.τ).loc Cert.Pair2048x4096Ideal.main_arg1)) →
    ∃ (v0 : (c : Dev Cert.Pair2048x4096Ideal.nD) → Buf (Elt Ideal) ((c.tc : Thread Cert.Pair2048x4096Ideal.nD Cert.Pair2048x4096Ideal.τ).loc Cert.Pair2048x4096Ideal.main_v0)),
      θ_run (Cert.Pair2048x4096Ideal.defs (F := Ideal)) (onTc (τ := Cert.Pair2048x4096Ideal.τ) (Cert.Pair2048x4096Ideal.main (F := Ideal))) ⟨m, fun _ => 0, g⟩ (fun r => ∀ c : Dev Cert.Pair2048x4096Ideal.nD,
          r.2.mem ((c.tc : Thread Cert.Pair2048x4096Ideal.nD Cert.Pair2048x4096Ideal.τ).loc Cert.Pair2048x4096Ideal.main_v0) = v0 c
          ∧ r.2.mem ((c.tc : Thread Cert.Pair2048x4096Ideal.nD Cert.Pair2048x4096Ideal.τ).loc Cert.Pair2048x4096Ideal.main_arg0) = m ((c.tc : Thread Cert.Pair2048x4096Ideal.nD Cert.Pair2048x4096Ideal.τ).loc Cert.Pair2048x4096Ideal.main_arg0)
          ∧ r.2.mem ((c.tc : Thread Cert.Pair2048x4096Ideal.nD Cert.Pair2048x4096Ideal.τ).loc Cert.Pair2048x4096Ideal.main_arg1) = m ((c.tc : Thread Cert.Pair2048x4096Ideal.nD Cert.Pair2048x4096Ideal.τ).loc Cert.Pair2048x4096Ideal.main_arg1))
      ∧ θ_run (Cert.Pair2048x4096RefIdeal.defs (F := Ideal)) (onTc (τ := Cert.Pair2048x4096RefIdeal.τ) (Cert.Pair2048x4096RefIdeal.main (F := Ideal))) ⟨m', fun _ => 0, g'⟩ (fun r => ∀ c : Dev Cert.Pair2048x4096RefIdeal.nD,
          r.2.mem ((c.tc : Thread Cert.Pair2048x4096RefIdeal.nD Cert.Pair2048x4096RefIdeal.τ).loc Cert.Pair2048x4096RefIdeal.main_v1) = v0 c
          ∧ r.2.mem ((c.tc : Thread Cert.Pair2048x4096RefIdeal.nD Cert.Pair2048x4096RefIdeal.τ).loc Cert.Pair2048x4096RefIdeal.main_arg0) = m' ((c.tc : Thread Cert.Pair2048x4096RefIdeal.nD Cert.Pair2048x4096RefIdeal.τ).loc Cert.Pair2048x4096RefIdeal.main_arg0)
          ∧ r.2.mem ((c.tc : Thread Cert.Pair2048x4096RefIdeal.nD Cert.Pair2048x4096RefIdeal.τ).loc Cert.Pair2048x4096RefIdeal.main_arg1) = m' ((c.tc : Thread Cert.Pair2048x4096RefIdeal.nD Cert.Pair2048x4096RefIdeal.τ).loc Cert.Pair2048x4096RefIdeal.main_arg1))

def bitexact_Pair2048x4096_Pair2048x4096Ref [hPair2048x4096 : Cert.Pair2048x4096.Facts] [hPair2048x4096Ref : Cert.Pair2048x4096Ref.Facts] : Prop :=
  ∀ (m : (ℓ : Loc Cert.Pair2048x4096.nD Cert.Pair2048x4096.τ Cert.Pair2048x4096.sig) → Buf (Elt Bits) ℓ) (g : Dev Cert.Pair2048x4096.nD → PrngReg)
    (m' : (ℓ : Loc Cert.Pair2048x4096Ref.nD Cert.Pair2048x4096Ref.τ Cert.Pair2048x4096Ref.sig) → Buf (Elt Bits) ℓ) (g' : Dev Cert.Pair2048x4096Ref.nD → PrngReg), Pre_Pair2048x4096 m →
    (∀ c : Dev Cert.Pair2048x4096.nD,
      m' ((c.tc : Thread Cert.Pair2048x4096Ref.nD Cert.Pair2048x4096Ref.τ).loc Cert.Pair2048x4096Ref.main_arg0) = m ((c.tc : Thread Cert.Pair2048x4096.nD Cert.Pair2048x4096.τ).loc Cert.Pair2048x4096.main_arg0)
      ∧ m' ((c.tc : Thread Cert.Pair2048x4096Ref.nD Cert.Pair2048x4096Ref.τ).loc Cert.Pair2048x4096Ref.main_arg1) = m ((c.tc : Thread Cert.Pair2048x4096.nD Cert.Pair2048x4096.τ).loc Cert.Pair2048x4096.main_arg1)) →
    ∃ (v0 : (c : Dev Cert.Pair2048x4096.nD) → Buf (Elt Bits) ((c.tc : Thread Cert.Pair2048x4096.nD Cert.Pair2048x4096.τ).loc Cert.Pair2048x4096.main_v0)),
      θ_run (Cert.Pair2048x4096.defs (F := Bits)) (onTc (τ := Cert.Pair2048x4096.τ) (Cert.Pair2048x4096.main (F := Bits))) ⟨m, fun _ => 0, g⟩ (fun r => ∀ c : Dev Cert.Pair2048x4096.nD,
          r.2.mem ((c.tc : Thread Cert.Pair2048x4096.nD Cert.Pair2048x4096.τ).loc Cert.Pair2048x4096.main_v0) = v0 c
          ∧ r.2.mem ((c.tc : Thread Cert.Pair2048x4096.nD Cert.Pair2048x4096.τ).loc Cert.Pair2048x4096.main_arg0) = m ((c.tc : Thread Cert.Pair2048x4096.nD Cert.Pair2048x4096.τ).loc Cert.Pair2048x4096.main_arg0)
          ∧ r.2.mem ((c.tc : Thread Cert.Pair2048x4096.nD Cert.Pair2048x4096.τ).loc Cert.Pair2048x4096.main_arg1) = m ((c.tc : Thread Cert.Pair2048x4096.nD Cert.Pair2048x4096.τ).loc Cert.Pair2048x4096.main_arg1))
      ∧ θ_run (Cert.Pair2048x4096Ref.defs (F := Bits)) (onTc (τ := Cert.Pair2048x4096Ref.τ) (Cert.Pair2048x4096Ref.main (F := Bits))) ⟨m', fun _ => 0, g'⟩ (fun r => ∀ c : Dev Cert.Pair2048x4096Ref.nD,
          r.2.mem ((c.tc : Thread Cert.Pair2048x4096Ref.nD Cert.Pair2048x4096Ref.τ).loc Cert.Pair2048x4096Ref.main_v1) = v0 c
          ∧ r.2.mem ((c.tc : Thread Cert.Pair2048x4096Ref.nD Cert.Pair2048x4096Ref.τ).loc Cert.Pair2048x4096Ref.main_arg0) = m' ((c.tc : Thread Cert.Pair2048x4096Ref.nD Cert.Pair2048x4096Ref.τ).loc Cert.Pair2048x4096Ref.main_arg0)
          ∧ r.2.mem ((c.tc : Thread Cert.Pair2048x4096Ref.nD Cert.Pair2048x4096Ref.τ).loc Cert.Pair2048x4096Ref.main_arg1) = m' ((c.tc : Thread Cert.Pair2048x4096Ref.nD Cert.Pair2048x4096Ref.τ).loc Cert.Pair2048x4096Ref.main_arg1))

def preserves_Chip512x4096_Chip512x4096Ideal : Prop :=
  True

def algebraic_Chip512x4096Ideal_Chip512x4096RefIdeal [hChip512x4096Ideal : Cert.Chip512x4096Ideal.Facts] [hChip512x4096RefIdeal : Cert.Chip512x4096RefIdeal.Facts] : Prop :=
  ∀ (m : (ℓ : Loc Cert.Chip512x4096Ideal.nD Cert.Chip512x4096Ideal.τ Cert.Chip512x4096Ideal.sig) → Buf (Elt Ideal) ℓ) (g : Dev Cert.Chip512x4096Ideal.nD → PrngReg)
    (m' : (ℓ : Loc Cert.Chip512x4096RefIdeal.nD Cert.Chip512x4096RefIdeal.τ Cert.Chip512x4096RefIdeal.sig) → Buf (Elt Ideal) ℓ) (g' : Dev Cert.Chip512x4096RefIdeal.nD → PrngReg), Pre_Chip512x4096Ideal m →
    (∀ c : Dev Cert.Chip512x4096Ideal.nD,
      m' ((c.tc : Thread Cert.Chip512x4096RefIdeal.nD Cert.Chip512x4096RefIdeal.τ).loc Cert.Chip512x4096RefIdeal.main_arg0) = m ((c.tc : Thread Cert.Chip512x4096Ideal.nD Cert.Chip512x4096Ideal.τ).loc Cert.Chip512x4096Ideal.main_arg0)) →
    ∃ (v0 : (c : Dev Cert.Chip512x4096Ideal.nD) → Buf (Elt Ideal) ((c.tc : Thread Cert.Chip512x4096Ideal.nD Cert.Chip512x4096Ideal.τ).loc Cert.Chip512x4096Ideal.main_v0)),
      θ_run (Cert.Chip512x4096Ideal.defs (F := Ideal)) (onTc (τ := Cert.Chip512x4096Ideal.τ) (Cert.Chip512x4096Ideal.main (F := Ideal))) ⟨m, fun _ => 0, g⟩ (fun r => ∀ c : Dev Cert.Chip512x4096Ideal.nD,
          r.2.mem ((c.tc : Thread Cert.Chip512x4096Ideal.nD Cert.Chip512x4096Ideal.τ).loc Cert.Chip512x4096Ideal.main_v0) = v0 c
          ∧ r.2.mem ((c.tc : Thread Cert.Chip512x4096Ideal.nD Cert.Chip512x4096Ideal.τ).loc Cert.Chip512x4096Ideal.main_arg0) = m ((c.tc : Thread Cert.Chip512x4096Ideal.nD Cert.Chip512x4096Ideal.τ).loc Cert.Chip512x4096Ideal.main_arg0))
      ∧ θ_run (Cert.Chip512x4096RefIdeal.defs (F := Ideal)) (onTc (τ := Cert.Chip512x4096RefIdeal.τ) (Cert.Chip512x4096RefIdeal.main (F := Ideal))) ⟨m', fun _ => 0, g'⟩ (fun r => ∀ c : Dev Cert.Chip512x4096RefIdeal.nD,
          r.2.mem ((c.tc : Thread Cert.Chip512x4096RefIdeal.nD Cert.Chip512x4096RefIdeal.τ).loc Cert.Chip512x4096RefIdeal.main_v1) = v0 c
          ∧ r.2.mem ((c.tc : Thread Cert.Chip512x4096RefIdeal.nD Cert.Chip512x4096RefIdeal.τ).loc Cert.Chip512x4096RefIdeal.main_arg0) = m' ((c.tc : Thread Cert.Chip512x4096RefIdeal.nD Cert.Chip512x4096RefIdeal.τ).loc Cert.Chip512x4096RefIdeal.main_arg0))

def preserves_Pair8192x4096_Pair8192x4096Ideal : Prop :=
  True

def algebraic_Pair8192x4096Ideal_Pair8192x4096RefIdeal [hPair8192x4096Ideal : Cert.Pair8192x4096Ideal.Facts] [hPair8192x4096RefIdeal : Cert.Pair8192x4096RefIdeal.Facts] : Prop :=
  ∀ (m : (ℓ : Loc Cert.Pair8192x4096Ideal.nD Cert.Pair8192x4096Ideal.τ Cert.Pair8192x4096Ideal.sig) → Buf (Elt Ideal) ℓ) (g : Dev Cert.Pair8192x4096Ideal.nD → PrngReg)
    (m' : (ℓ : Loc Cert.Pair8192x4096RefIdeal.nD Cert.Pair8192x4096RefIdeal.τ Cert.Pair8192x4096RefIdeal.sig) → Buf (Elt Ideal) ℓ) (g' : Dev Cert.Pair8192x4096RefIdeal.nD → PrngReg), Pre_Pair8192x4096Ideal m →
    (∀ c : Dev Cert.Pair8192x4096Ideal.nD,
      m' ((c.tc : Thread Cert.Pair8192x4096RefIdeal.nD Cert.Pair8192x4096RefIdeal.τ).loc Cert.Pair8192x4096RefIdeal.main_arg0) = m ((c.tc : Thread Cert.Pair8192x4096Ideal.nD Cert.Pair8192x4096Ideal.τ).loc Cert.Pair8192x4096Ideal.main_arg0)
      ∧ m' ((c.tc : Thread Cert.Pair8192x4096RefIdeal.nD Cert.Pair8192x4096RefIdeal.τ).loc Cert.Pair8192x4096RefIdeal.main_arg1) = m ((c.tc : Thread Cert.Pair8192x4096Ideal.nD Cert.Pair8192x4096Ideal.τ).loc Cert.Pair8192x4096Ideal.main_arg1)) →
    ∃ (v0 : (c : Dev Cert.Pair8192x4096Ideal.nD) → Buf (Elt Ideal) ((c.tc : Thread Cert.Pair8192x4096Ideal.nD Cert.Pair8192x4096Ideal.τ).loc Cert.Pair8192x4096Ideal.main_v0)),
      θ_run (Cert.Pair8192x4096Ideal.defs (F := Ideal)) (onTc (τ := Cert.Pair8192x4096Ideal.τ) (Cert.Pair8192x4096Ideal.main (F := Ideal))) ⟨m, fun _ => 0, g⟩ (fun r => ∀ c : Dev Cert.Pair8192x4096Ideal.nD,
          r.2.mem ((c.tc : Thread Cert.Pair8192x4096Ideal.nD Cert.Pair8192x4096Ideal.τ).loc Cert.Pair8192x4096Ideal.main_v0) = v0 c
          ∧ r.2.mem ((c.tc : Thread Cert.Pair8192x4096Ideal.nD Cert.Pair8192x4096Ideal.τ).loc Cert.Pair8192x4096Ideal.main_arg0) = m ((c.tc : Thread Cert.Pair8192x4096Ideal.nD Cert.Pair8192x4096Ideal.τ).loc Cert.Pair8192x4096Ideal.main_arg0)
          ∧ r.2.mem ((c.tc : Thread Cert.Pair8192x4096Ideal.nD Cert.Pair8192x4096Ideal.τ).loc Cert.Pair8192x4096Ideal.main_arg1) = m ((c.tc : Thread Cert.Pair8192x4096Ideal.nD Cert.Pair8192x4096Ideal.τ).loc Cert.Pair8192x4096Ideal.main_arg1))
      ∧ θ_run (Cert.Pair8192x4096RefIdeal.defs (F := Ideal)) (onTc (τ := Cert.Pair8192x4096RefIdeal.τ) (Cert.Pair8192x4096RefIdeal.main (F := Ideal))) ⟨m', fun _ => 0, g'⟩ (fun r => ∀ c : Dev Cert.Pair8192x4096RefIdeal.nD,
          r.2.mem ((c.tc : Thread Cert.Pair8192x4096RefIdeal.nD Cert.Pair8192x4096RefIdeal.τ).loc Cert.Pair8192x4096RefIdeal.main_v1) = v0 c
          ∧ r.2.mem ((c.tc : Thread Cert.Pair8192x4096RefIdeal.nD Cert.Pair8192x4096RefIdeal.τ).loc Cert.Pair8192x4096RefIdeal.main_arg0) = m' ((c.tc : Thread Cert.Pair8192x4096RefIdeal.nD Cert.Pair8192x4096RefIdeal.τ).loc Cert.Pair8192x4096RefIdeal.main_arg0)
          ∧ r.2.mem ((c.tc : Thread Cert.Pair8192x4096RefIdeal.nD Cert.Pair8192x4096RefIdeal.τ).loc Cert.Pair8192x4096RefIdeal.main_arg1) = m' ((c.tc : Thread Cert.Pair8192x4096RefIdeal.nD Cert.Pair8192x4096RefIdeal.τ).loc Cert.Pair8192x4096RefIdeal.main_arg1))

def bitexact_Pair8192x4096_Pair8192x4096Ref [hPair8192x4096 : Cert.Pair8192x4096.Facts] [hPair8192x4096Ref : Cert.Pair8192x4096Ref.Facts] : Prop :=
  ∀ (m : (ℓ : Loc Cert.Pair8192x4096.nD Cert.Pair8192x4096.τ Cert.Pair8192x4096.sig) → Buf (Elt Bits) ℓ) (g : Dev Cert.Pair8192x4096.nD → PrngReg)
    (m' : (ℓ : Loc Cert.Pair8192x4096Ref.nD Cert.Pair8192x4096Ref.τ Cert.Pair8192x4096Ref.sig) → Buf (Elt Bits) ℓ) (g' : Dev Cert.Pair8192x4096Ref.nD → PrngReg), Pre_Pair8192x4096 m →
    (∀ c : Dev Cert.Pair8192x4096.nD,
      m' ((c.tc : Thread Cert.Pair8192x4096Ref.nD Cert.Pair8192x4096Ref.τ).loc Cert.Pair8192x4096Ref.main_arg0) = m ((c.tc : Thread Cert.Pair8192x4096.nD Cert.Pair8192x4096.τ).loc Cert.Pair8192x4096.main_arg0)
      ∧ m' ((c.tc : Thread Cert.Pair8192x4096Ref.nD Cert.Pair8192x4096Ref.τ).loc Cert.Pair8192x4096Ref.main_arg1) = m ((c.tc : Thread Cert.Pair8192x4096.nD Cert.Pair8192x4096.τ).loc Cert.Pair8192x4096.main_arg1)) →
    ∃ (v0 : (c : Dev Cert.Pair8192x4096.nD) → Buf (Elt Bits) ((c.tc : Thread Cert.Pair8192x4096.nD Cert.Pair8192x4096.τ).loc Cert.Pair8192x4096.main_v0)),
      θ_run (Cert.Pair8192x4096.defs (F := Bits)) (onTc (τ := Cert.Pair8192x4096.τ) (Cert.Pair8192x4096.main (F := Bits))) ⟨m, fun _ => 0, g⟩ (fun r => ∀ c : Dev Cert.Pair8192x4096.nD,
          r.2.mem ((c.tc : Thread Cert.Pair8192x4096.nD Cert.Pair8192x4096.τ).loc Cert.Pair8192x4096.main_v0) = v0 c
          ∧ r.2.mem ((c.tc : Thread Cert.Pair8192x4096.nD Cert.Pair8192x4096.τ).loc Cert.Pair8192x4096.main_arg0) = m ((c.tc : Thread Cert.Pair8192x4096.nD Cert.Pair8192x4096.τ).loc Cert.Pair8192x4096.main_arg0)
          ∧ r.2.mem ((c.tc : Thread Cert.Pair8192x4096.nD Cert.Pair8192x4096.τ).loc Cert.Pair8192x4096.main_arg1) = m ((c.tc : Thread Cert.Pair8192x4096.nD Cert.Pair8192x4096.τ).loc Cert.Pair8192x4096.main_arg1))
      ∧ θ_run (Cert.Pair8192x4096Ref.defs (F := Bits)) (onTc (τ := Cert.Pair8192x4096Ref.τ) (Cert.Pair8192x4096Ref.main (F := Bits))) ⟨m', fun _ => 0, g'⟩ (fun r => ∀ c : Dev Cert.Pair8192x4096Ref.nD,
          r.2.mem ((c.tc : Thread Cert.Pair8192x4096Ref.nD Cert.Pair8192x4096Ref.τ).loc Cert.Pair8192x4096Ref.main_v1) = v0 c
          ∧ r.2.mem ((c.tc : Thread Cert.Pair8192x4096Ref.nD Cert.Pair8192x4096Ref.τ).loc Cert.Pair8192x4096Ref.main_arg0) = m' ((c.tc : Thread Cert.Pair8192x4096Ref.nD Cert.Pair8192x4096Ref.τ).loc Cert.Pair8192x4096Ref.main_arg0)
          ∧ r.2.mem ((c.tc : Thread Cert.Pair8192x4096Ref.nD Cert.Pair8192x4096Ref.τ).loc Cert.Pair8192x4096Ref.main_arg1) = m' ((c.tc : Thread Cert.Pair8192x4096Ref.nD Cert.Pair8192x4096Ref.τ).loc Cert.Pair8192x4096Ref.main_arg1))

def preserves_Chip2048x4096_Chip2048x4096Ideal : Prop :=
  True

def algebraic_Chip2048x4096Ideal_Chip2048x4096RefIdeal [hChip2048x4096Ideal : Cert.Chip2048x4096Ideal.Facts] [hChip2048x4096RefIdeal : Cert.Chip2048x4096RefIdeal.Facts] : Prop :=
  ∀ (m : (ℓ : Loc Cert.Chip2048x4096Ideal.nD Cert.Chip2048x4096Ideal.τ Cert.Chip2048x4096Ideal.sig) → Buf (Elt Ideal) ℓ) (g : Dev Cert.Chip2048x4096Ideal.nD → PrngReg)
    (m' : (ℓ : Loc Cert.Chip2048x4096RefIdeal.nD Cert.Chip2048x4096RefIdeal.τ Cert.Chip2048x4096RefIdeal.sig) → Buf (Elt Ideal) ℓ) (g' : Dev Cert.Chip2048x4096RefIdeal.nD → PrngReg), Pre_Chip2048x4096Ideal m →
    (∀ c : Dev Cert.Chip2048x4096Ideal.nD,
      m' ((c.tc : Thread Cert.Chip2048x4096RefIdeal.nD Cert.Chip2048x4096RefIdeal.τ).loc Cert.Chip2048x4096RefIdeal.main_arg0) = m ((c.tc : Thread Cert.Chip2048x4096Ideal.nD Cert.Chip2048x4096Ideal.τ).loc Cert.Chip2048x4096Ideal.main_arg0)) →
    ∃ (v0 : (c : Dev Cert.Chip2048x4096Ideal.nD) → Buf (Elt Ideal) ((c.tc : Thread Cert.Chip2048x4096Ideal.nD Cert.Chip2048x4096Ideal.τ).loc Cert.Chip2048x4096Ideal.main_v0)),
      θ_run (Cert.Chip2048x4096Ideal.defs (F := Ideal)) (onTc (τ := Cert.Chip2048x4096Ideal.τ) (Cert.Chip2048x4096Ideal.main (F := Ideal))) ⟨m, fun _ => 0, g⟩ (fun r => ∀ c : Dev Cert.Chip2048x4096Ideal.nD,
          r.2.mem ((c.tc : Thread Cert.Chip2048x4096Ideal.nD Cert.Chip2048x4096Ideal.τ).loc Cert.Chip2048x4096Ideal.main_v0) = v0 c
          ∧ r.2.mem ((c.tc : Thread Cert.Chip2048x4096Ideal.nD Cert.Chip2048x4096Ideal.τ).loc Cert.Chip2048x4096Ideal.main_arg0) = m ((c.tc : Thread Cert.Chip2048x4096Ideal.nD Cert.Chip2048x4096Ideal.τ).loc Cert.Chip2048x4096Ideal.main_arg0))
      ∧ θ_run (Cert.Chip2048x4096RefIdeal.defs (F := Ideal)) (onTc (τ := Cert.Chip2048x4096RefIdeal.τ) (Cert.Chip2048x4096RefIdeal.main (F := Ideal))) ⟨m', fun _ => 0, g'⟩ (fun r => ∀ c : Dev Cert.Chip2048x4096RefIdeal.nD,
          r.2.mem ((c.tc : Thread Cert.Chip2048x4096RefIdeal.nD Cert.Chip2048x4096RefIdeal.τ).loc Cert.Chip2048x4096RefIdeal.main_v1) = v0 c
          ∧ r.2.mem ((c.tc : Thread Cert.Chip2048x4096RefIdeal.nD Cert.Chip2048x4096RefIdeal.τ).loc Cert.Chip2048x4096RefIdeal.main_arg0) = m' ((c.tc : Thread Cert.Chip2048x4096RefIdeal.nD Cert.Chip2048x4096RefIdeal.τ).loc Cert.Chip2048x4096RefIdeal.main_arg0))

def preserves_Pair8192x3072_Pair8192x3072Ideal : Prop :=
  True

def algebraic_Pair8192x3072Ideal_Pair8192x3072RefIdeal [hPair8192x3072Ideal : Cert.Pair8192x3072Ideal.Facts] [hPair8192x3072RefIdeal : Cert.Pair8192x3072RefIdeal.Facts] : Prop :=
  ∀ (m : (ℓ : Loc Cert.Pair8192x3072Ideal.nD Cert.Pair8192x3072Ideal.τ Cert.Pair8192x3072Ideal.sig) → Buf (Elt Ideal) ℓ) (g : Dev Cert.Pair8192x3072Ideal.nD → PrngReg)
    (m' : (ℓ : Loc Cert.Pair8192x3072RefIdeal.nD Cert.Pair8192x3072RefIdeal.τ Cert.Pair8192x3072RefIdeal.sig) → Buf (Elt Ideal) ℓ) (g' : Dev Cert.Pair8192x3072RefIdeal.nD → PrngReg), Pre_Pair8192x3072Ideal m →
    (∀ c : Dev Cert.Pair8192x3072Ideal.nD,
      m' ((c.tc : Thread Cert.Pair8192x3072RefIdeal.nD Cert.Pair8192x3072RefIdeal.τ).loc Cert.Pair8192x3072RefIdeal.main_arg0) = m ((c.tc : Thread Cert.Pair8192x3072Ideal.nD Cert.Pair8192x3072Ideal.τ).loc Cert.Pair8192x3072Ideal.main_arg0)
      ∧ m' ((c.tc : Thread Cert.Pair8192x3072RefIdeal.nD Cert.Pair8192x3072RefIdeal.τ).loc Cert.Pair8192x3072RefIdeal.main_arg1) = m ((c.tc : Thread Cert.Pair8192x3072Ideal.nD Cert.Pair8192x3072Ideal.τ).loc Cert.Pair8192x3072Ideal.main_arg1)) →
    ∃ (v0 : (c : Dev Cert.Pair8192x3072Ideal.nD) → Buf (Elt Ideal) ((c.tc : Thread Cert.Pair8192x3072Ideal.nD Cert.Pair8192x3072Ideal.τ).loc Cert.Pair8192x3072Ideal.main_v0)),
      θ_run (Cert.Pair8192x3072Ideal.defs (F := Ideal)) (onTc (τ := Cert.Pair8192x3072Ideal.τ) (Cert.Pair8192x3072Ideal.main (F := Ideal))) ⟨m, fun _ => 0, g⟩ (fun r => ∀ c : Dev Cert.Pair8192x3072Ideal.nD,
          r.2.mem ((c.tc : Thread Cert.Pair8192x3072Ideal.nD Cert.Pair8192x3072Ideal.τ).loc Cert.Pair8192x3072Ideal.main_v0) = v0 c
          ∧ r.2.mem ((c.tc : Thread Cert.Pair8192x3072Ideal.nD Cert.Pair8192x3072Ideal.τ).loc Cert.Pair8192x3072Ideal.main_arg0) = m ((c.tc : Thread Cert.Pair8192x3072Ideal.nD Cert.Pair8192x3072Ideal.τ).loc Cert.Pair8192x3072Ideal.main_arg0)
          ∧ r.2.mem ((c.tc : Thread Cert.Pair8192x3072Ideal.nD Cert.Pair8192x3072Ideal.τ).loc Cert.Pair8192x3072Ideal.main_arg1) = m ((c.tc : Thread Cert.Pair8192x3072Ideal.nD Cert.Pair8192x3072Ideal.τ).loc Cert.Pair8192x3072Ideal.main_arg1))
      ∧ θ_run (Cert.Pair8192x3072RefIdeal.defs (F := Ideal)) (onTc (τ := Cert.Pair8192x3072RefIdeal.τ) (Cert.Pair8192x3072RefIdeal.main (F := Ideal))) ⟨m', fun _ => 0, g'⟩ (fun r => ∀ c : Dev Cert.Pair8192x3072RefIdeal.nD,
          r.2.mem ((c.tc : Thread Cert.Pair8192x3072RefIdeal.nD Cert.Pair8192x3072RefIdeal.τ).loc Cert.Pair8192x3072RefIdeal.main_v1) = v0 c
          ∧ r.2.mem ((c.tc : Thread Cert.Pair8192x3072RefIdeal.nD Cert.Pair8192x3072RefIdeal.τ).loc Cert.Pair8192x3072RefIdeal.main_arg0) = m' ((c.tc : Thread Cert.Pair8192x3072RefIdeal.nD Cert.Pair8192x3072RefIdeal.τ).loc Cert.Pair8192x3072RefIdeal.main_arg0)
          ∧ r.2.mem ((c.tc : Thread Cert.Pair8192x3072RefIdeal.nD Cert.Pair8192x3072RefIdeal.τ).loc Cert.Pair8192x3072RefIdeal.main_arg1) = m' ((c.tc : Thread Cert.Pair8192x3072RefIdeal.nD Cert.Pair8192x3072RefIdeal.τ).loc Cert.Pair8192x3072RefIdeal.main_arg1))

def bitexact_Pair8192x3072_Pair8192x3072Ref [hPair8192x3072 : Cert.Pair8192x3072.Facts] [hPair8192x3072Ref : Cert.Pair8192x3072Ref.Facts] : Prop :=
  ∀ (m : (ℓ : Loc Cert.Pair8192x3072.nD Cert.Pair8192x3072.τ Cert.Pair8192x3072.sig) → Buf (Elt Bits) ℓ) (g : Dev Cert.Pair8192x3072.nD → PrngReg)
    (m' : (ℓ : Loc Cert.Pair8192x3072Ref.nD Cert.Pair8192x3072Ref.τ Cert.Pair8192x3072Ref.sig) → Buf (Elt Bits) ℓ) (g' : Dev Cert.Pair8192x3072Ref.nD → PrngReg), Pre_Pair8192x3072 m →
    (∀ c : Dev Cert.Pair8192x3072.nD,
      m' ((c.tc : Thread Cert.Pair8192x3072Ref.nD Cert.Pair8192x3072Ref.τ).loc Cert.Pair8192x3072Ref.main_arg0) = m ((c.tc : Thread Cert.Pair8192x3072.nD Cert.Pair8192x3072.τ).loc Cert.Pair8192x3072.main_arg0)
      ∧ m' ((c.tc : Thread Cert.Pair8192x3072Ref.nD Cert.Pair8192x3072Ref.τ).loc Cert.Pair8192x3072Ref.main_arg1) = m ((c.tc : Thread Cert.Pair8192x3072.nD Cert.Pair8192x3072.τ).loc Cert.Pair8192x3072.main_arg1)) →
    ∃ (v0 : (c : Dev Cert.Pair8192x3072.nD) → Buf (Elt Bits) ((c.tc : Thread Cert.Pair8192x3072.nD Cert.Pair8192x3072.τ).loc Cert.Pair8192x3072.main_v0)),
      θ_run (Cert.Pair8192x3072.defs (F := Bits)) (onTc (τ := Cert.Pair8192x3072.τ) (Cert.Pair8192x3072.main (F := Bits))) ⟨m, fun _ => 0, g⟩ (fun r => ∀ c : Dev Cert.Pair8192x3072.nD,
          r.2.mem ((c.tc : Thread Cert.Pair8192x3072.nD Cert.Pair8192x3072.τ).loc Cert.Pair8192x3072.main_v0) = v0 c
          ∧ r.2.mem ((c.tc : Thread Cert.Pair8192x3072.nD Cert.Pair8192x3072.τ).loc Cert.Pair8192x3072.main_arg0) = m ((c.tc : Thread Cert.Pair8192x3072.nD Cert.Pair8192x3072.τ).loc Cert.Pair8192x3072.main_arg0)
          ∧ r.2.mem ((c.tc : Thread Cert.Pair8192x3072.nD Cert.Pair8192x3072.τ).loc Cert.Pair8192x3072.main_arg1) = m ((c.tc : Thread Cert.Pair8192x3072.nD Cert.Pair8192x3072.τ).loc Cert.Pair8192x3072.main_arg1))
      ∧ θ_run (Cert.Pair8192x3072Ref.defs (F := Bits)) (onTc (τ := Cert.Pair8192x3072Ref.τ) (Cert.Pair8192x3072Ref.main (F := Bits))) ⟨m', fun _ => 0, g'⟩ (fun r => ∀ c : Dev Cert.Pair8192x3072Ref.nD,
          r.2.mem ((c.tc : Thread Cert.Pair8192x3072Ref.nD Cert.Pair8192x3072Ref.τ).loc Cert.Pair8192x3072Ref.main_v1) = v0 c
          ∧ r.2.mem ((c.tc : Thread Cert.Pair8192x3072Ref.nD Cert.Pair8192x3072Ref.τ).loc Cert.Pair8192x3072Ref.main_arg0) = m' ((c.tc : Thread Cert.Pair8192x3072Ref.nD Cert.Pair8192x3072Ref.τ).loc Cert.Pair8192x3072Ref.main_arg0)
          ∧ r.2.mem ((c.tc : Thread Cert.Pair8192x3072Ref.nD Cert.Pair8192x3072Ref.τ).loc Cert.Pair8192x3072Ref.main_arg1) = m' ((c.tc : Thread Cert.Pair8192x3072Ref.nD Cert.Pair8192x3072Ref.τ).loc Cert.Pair8192x3072Ref.main_arg1))

def preserves_Chip2048x3072_Chip2048x3072Ideal : Prop :=
  True

def algebraic_Chip2048x3072Ideal_Chip2048x3072RefIdeal [hChip2048x3072Ideal : Cert.Chip2048x3072Ideal.Facts] [hChip2048x3072RefIdeal : Cert.Chip2048x3072RefIdeal.Facts] : Prop :=
  ∀ (m : (ℓ : Loc Cert.Chip2048x3072Ideal.nD Cert.Chip2048x3072Ideal.τ Cert.Chip2048x3072Ideal.sig) → Buf (Elt Ideal) ℓ) (g : Dev Cert.Chip2048x3072Ideal.nD → PrngReg)
    (m' : (ℓ : Loc Cert.Chip2048x3072RefIdeal.nD Cert.Chip2048x3072RefIdeal.τ Cert.Chip2048x3072RefIdeal.sig) → Buf (Elt Ideal) ℓ) (g' : Dev Cert.Chip2048x3072RefIdeal.nD → PrngReg), Pre_Chip2048x3072Ideal m →
    (∀ c : Dev Cert.Chip2048x3072Ideal.nD,
      m' ((c.tc : Thread Cert.Chip2048x3072RefIdeal.nD Cert.Chip2048x3072RefIdeal.τ).loc Cert.Chip2048x3072RefIdeal.main_arg0) = m ((c.tc : Thread Cert.Chip2048x3072Ideal.nD Cert.Chip2048x3072Ideal.τ).loc Cert.Chip2048x3072Ideal.main_arg0)) →
    ∃ (v0 : (c : Dev Cert.Chip2048x3072Ideal.nD) → Buf (Elt Ideal) ((c.tc : Thread Cert.Chip2048x3072Ideal.nD Cert.Chip2048x3072Ideal.τ).loc Cert.Chip2048x3072Ideal.main_v0)),
      θ_run (Cert.Chip2048x3072Ideal.defs (F := Ideal)) (onTc (τ := Cert.Chip2048x3072Ideal.τ) (Cert.Chip2048x3072Ideal.main (F := Ideal))) ⟨m, fun _ => 0, g⟩ (fun r => ∀ c : Dev Cert.Chip2048x3072Ideal.nD,
          r.2.mem ((c.tc : Thread Cert.Chip2048x3072Ideal.nD Cert.Chip2048x3072Ideal.τ).loc Cert.Chip2048x3072Ideal.main_v0) = v0 c
          ∧ r.2.mem ((c.tc : Thread Cert.Chip2048x3072Ideal.nD Cert.Chip2048x3072Ideal.τ).loc Cert.Chip2048x3072Ideal.main_arg0) = m ((c.tc : Thread Cert.Chip2048x3072Ideal.nD Cert.Chip2048x3072Ideal.τ).loc Cert.Chip2048x3072Ideal.main_arg0))
      ∧ θ_run (Cert.Chip2048x3072RefIdeal.defs (F := Ideal)) (onTc (τ := Cert.Chip2048x3072RefIdeal.τ) (Cert.Chip2048x3072RefIdeal.main (F := Ideal))) ⟨m', fun _ => 0, g'⟩ (fun r => ∀ c : Dev Cert.Chip2048x3072RefIdeal.nD,
          r.2.mem ((c.tc : Thread Cert.Chip2048x3072RefIdeal.nD Cert.Chip2048x3072RefIdeal.τ).loc Cert.Chip2048x3072RefIdeal.main_v1) = v0 c
          ∧ r.2.mem ((c.tc : Thread Cert.Chip2048x3072RefIdeal.nD Cert.Chip2048x3072RefIdeal.τ).loc Cert.Chip2048x3072RefIdeal.main_arg0) = m' ((c.tc : Thread Cert.Chip2048x3072RefIdeal.nD Cert.Chip2048x3072RefIdeal.τ).loc Cert.Chip2048x3072RefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v3) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v8) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v2_0)) (v1 : (c : Dev Cert.NormGradIdeal.nD) → Buf (Elt Ideal) ((c.tc : Thread Cert.NormGradIdeal.nD Cert.NormGradIdeal.τ).loc Cert.NormGradIdeal.main_v2_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v2_0) = v0 c
          ∧ r.2.mem ((c.tc : Thread Cert.NormGradIdeal.nD Cert.NormGradIdeal.τ).loc Cert.NormGradIdeal.main_v2_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v23) = v0 c
          ∧ r.2.mem ((c.tc : Thread Cert.NormGradRefIdeal.nD Cert.NormGradRefIdeal.τ).loc Cert.NormGradRefIdeal.main_v26) = v1 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v2)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v2) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v13) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v1) = v0 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v14) = v0 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_PostNormGrad_PostNormGradIdeal : Prop :=
  True

def algebraic_PostNormGradIdeal_PostNormGradRefIdeal [hPostNormGradIdeal : Cert.PostNormGradIdeal.Facts] [hPostNormGradRefIdeal : Cert.PostNormGradRefIdeal.Facts] : Prop :=
  ∀ (m : (ℓ : Loc Cert.PostNormGradIdeal.nD Cert.PostNormGradIdeal.τ Cert.PostNormGradIdeal.sig) → Buf (Elt Ideal) ℓ) (g : Dev Cert.PostNormGradIdeal.nD → PrngReg)
    (m' : (ℓ : Loc Cert.PostNormGradRefIdeal.nD Cert.PostNormGradRefIdeal.τ Cert.PostNormGradRefIdeal.sig) → Buf (Elt Ideal) ℓ) (g' : Dev Cert.PostNormGradRefIdeal.nD → PrngReg), Pre_PostNormGradIdeal m →
    (∀ c : Dev Cert.PostNormGradIdeal.nD,
      m' ((c.tc : Thread Cert.PostNormGradRefIdeal.nD Cert.PostNormGradRefIdeal.τ).loc Cert.PostNormGradRefIdeal.main_arg0) = m ((c.tc : Thread Cert.PostNormGradIdeal.nD Cert.PostNormGradIdeal.τ).loc Cert.PostNormGradIdeal.main_arg0)
      ∧ m' ((c.tc : Thread Cert.PostNormGradRefIdeal.nD Cert.PostNormGradRefIdeal.τ).loc Cert.PostNormGradRefIdeal.main_arg1) = m ((c.tc : Thread Cert.PostNormGradIdeal.nD Cert.PostNormGradIdeal.τ).loc Cert.PostNormGradIdeal.main_arg1)
      ∧ m' ((c.tc : Thread Cert.PostNormGradRefIdeal.nD Cert.PostNormGradRefIdeal.τ).loc Cert.PostNormGradRefIdeal.main_arg2) = m ((c.tc : Thread Cert.PostNormGradIdeal.nD Cert.PostNormGradIdeal.τ).loc Cert.PostNormGradIdeal.main_arg2)) →
    ∃ (v0 : (c : Dev Cert.PostNormGradIdeal.nD) → Buf (Elt Ideal) ((c.tc : Thread Cert.PostNormGradIdeal.nD Cert.PostNormGradIdeal.τ).loc Cert.PostNormGradIdeal.main_v1_0)) (v1 : (c : Dev Cert.PostNormGradIdeal.nD) → Buf (Elt Ideal) ((c.tc : Thread Cert.PostNormGradIdeal.nD Cert.PostNormGradIdeal.τ).loc Cert.PostNormGradIdeal.main_v1_1)),
      θ_run (Cert.PostNormGradIdeal.defs (F := Ideal)) (onTc (τ := Cert.PostNormGradIdeal.τ) (Cert.PostNormGradIdeal.main (F := Ideal))) ⟨m, fun _ => 0, g⟩ (fun r => ∀ c : Dev Cert.PostNormGradIdeal.nD,
          r.2.mem ((c.tc : Thread Cert.PostNormGradIdeal.nD Cert.PostNormGradIdeal.τ).loc Cert.PostNormGradIdeal.main_v1_0) = v0 c
          ∧ r.2.mem ((c.tc : Thread Cert.PostNormGradIdeal.nD Cert.PostNormGradIdeal.τ).loc Cert.PostNormGradIdeal.main_v1_1) = v1 c
          ∧ r.2.mem ((c.tc : Thread Cert.PostNormGradIdeal.nD Cert.PostNormGradIdeal.τ).loc Cert.PostNormGradIdeal.main_arg0) = m ((c.tc : Thread Cert.PostNormGradIdeal.nD Cert.PostNormGradIdeal.τ).loc Cert.PostNormGradIdeal.main_arg0)
          ∧ r.2.mem ((c.tc : Thread Cert.PostNormGradIdeal.nD Cert.PostNormGradIdeal.τ).loc Cert.PostNormGradIdeal.main_arg1) = m ((c.tc : Thread Cert.PostNormGradIdeal.nD Cert.PostNormGradIdeal.τ).loc Cert.PostNormGradIdeal.main_arg1)
          ∧ r.2.mem ((c.tc : Thread Cert.PostNormGradIdeal.nD Cert.PostNormGradIdeal.τ).loc Cert.PostNormGradIdeal.main_arg2) = m ((c.tc : Thread Cert.PostNormGradIdeal.nD Cert.PostNormGradIdeal.τ).loc Cert.PostNormGradIdeal.main_arg2))
      ∧ θ_run (Cert.PostNormGradRefIdeal.defs (F := Ideal)) (onTc (τ := Cert.PostNormGradRefIdeal.τ) (Cert.PostNormGradRefIdeal.main (F := Ideal))) ⟨m', fun _ => 0, g'⟩ (fun r => ∀ c : Dev Cert.PostNormGradRefIdeal.nD,
          r.2.mem ((c.tc : Thread Cert.PostNormGradRefIdeal.nD Cert.PostNormGradRefIdeal.τ).loc Cert.PostNormGradRefIdeal.main_v24) = v0 c
          ∧ r.2.mem ((c.tc : Thread Cert.PostNormGradRefIdeal.nD Cert.PostNormGradRefIdeal.τ).loc Cert.PostNormGradRefIdeal.main_v27) = v1 c
          ∧ r.2.mem ((c.tc : Thread Cert.PostNormGradRefIdeal.nD Cert.PostNormGradRefIdeal.τ).loc Cert.PostNormGradRefIdeal.main_arg0) = m' ((c.tc : Thread Cert.PostNormGradRefIdeal.nD Cert.PostNormGradRefIdeal.τ).loc Cert.PostNormGradRefIdeal.main_arg0)
          ∧ r.2.mem ((c.tc : Thread Cert.PostNormGradRefIdeal.nD Cert.PostNormGradRefIdeal.τ).loc Cert.PostNormGradRefIdeal.main_arg1) = m' ((c.tc : Thread Cert.PostNormGradRefIdeal.nD Cert.PostNormGradRefIdeal.τ).loc Cert.PostNormGradRefIdeal.main_arg1)
          ∧ r.2.mem ((c.tc : Thread Cert.PostNormGradRefIdeal.nD Cert.PostNormGradRefIdeal.τ).loc Cert.PostNormGradRefIdeal.main_arg2) = m' ((c.tc : Thread Cert.PostNormGradRefIdeal.nD Cert.PostNormGradRefIdeal.τ).loc Cert.PostNormGradRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)) →
    ∃ (v0 : (c : Dev Cert.GateGradIdeal.nD) → Buf (Elt Ideal) ((c.tc : Thread Cert.GateGradIdeal.nD Cert.GateGradIdeal.τ).loc Cert.GateGradIdeal.main_v0_0)) (v1 : (c : Dev Cert.GateGradIdeal.nD) → Buf (Elt Ideal) ((c.tc : Thread Cert.GateGradIdeal.nD Cert.GateGradIdeal.τ).loc Cert.GateGradIdeal.main_v0_1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0_0) = v0 c
          ∧ r.2.mem ((c.tc : Thread Cert.GateGradIdeal.nD Cert.GateGradIdeal.τ).loc Cert.GateGradIdeal.main_v0_1) = v1 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v17) = v0 c
          ∧ r.2.mem ((c.tc : Thread Cert.GateGradRefIdeal.nD Cert.GateGradRefIdeal.τ).loc Cert.GateGradRefIdeal.main_v19) = v1 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v1) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InADw_InADwIdeal : Prop :=
  True

def algebraic_InADwIdeal_InADwRefIdeal [hInADwIdeal : Cert.InADwIdeal.Facts] [hInADwRefIdeal : Cert.InADwRefIdeal.Facts] : Prop :=
  ∀ (m : (ℓ : Loc Cert.InADwIdeal.nD Cert.InADwIdeal.τ Cert.InADwIdeal.sig) → Buf (Elt Ideal) ℓ) (g : Dev Cert.InADwIdeal.nD → PrngReg)
    (m' : (ℓ : Loc Cert.InADwRefIdeal.nD Cert.InADwRefIdeal.τ Cert.InADwRefIdeal.sig) → Buf (Elt Ideal) ℓ) (g' : Dev Cert.InADwRefIdeal.nD → PrngReg), Pre_InADwIdeal m →
    (∀ c : Dev Cert.InADwIdeal.nD,
      m' ((c.tc : Thread Cert.InADwRefIdeal.nD Cert.InADwRefIdeal.τ).loc Cert.InADwRefIdeal.main_arg0) = m ((c.tc : Thread Cert.InADwIdeal.nD Cert.InADwIdeal.τ).loc Cert.InADwIdeal.main_arg0)
      ∧ m' ((c.tc : Thread Cert.InADwRefIdeal.nD Cert.InADwRefIdeal.τ).loc Cert.InADwRefIdeal.main_arg1) = m ((c.tc : Thread Cert.InADwIdeal.nD Cert.InADwIdeal.τ).loc Cert.InADwIdeal.main_arg1)) →
    ∃ (v0 : (c : Dev Cert.InADwIdeal.nD) → Buf (Elt Ideal) ((c.tc : Thread Cert.InADwIdeal.nD Cert.InADwIdeal.τ).loc Cert.InADwIdeal.main_v0)),
      θ_run (Cert.InADwIdeal.defs (F := Ideal)) (onTc (τ := Cert.InADwIdeal.τ) (Cert.InADwIdeal.main (F := Ideal))) ⟨m, fun _ => 0, g⟩ (fun r => ∀ c : Dev Cert.InADwIdeal.nD,
          r.2.mem ((c.tc : Thread Cert.InADwIdeal.nD Cert.InADwIdeal.τ).loc Cert.InADwIdeal.main_v0) = v0 c
          ∧ r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
          ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ θ_run (Cert.InADwRefIdeal.defs (F := Ideal)) (onTc (τ := Cert.InADwRefIdeal.τ) (Cert.InADwRefIdeal.main (F := Ideal))) ⟨m', fun _ => 0, g'⟩ (fun r => ∀ c : Dev Cert.InADwRefIdeal.nD,
          r.2.mem ((c.tc : Thread Cert.InADwRefIdeal.nD Cert.InADwRefIdeal.τ).loc Cert.InADwRefIdeal.main_v1) = v0 c
          ∧ r.2.mem ((c.tc : Thread Cert.InADwRefIdeal.nD Cert.InADwRefIdeal.τ).loc Cert.InADwRefIdeal.main_arg0) = m' ((c.tc : Thread Cert.InADwRefIdeal.nD Cert.InADwRefIdeal.τ).loc Cert.InADwRefIdeal.main_arg0)
          ∧ r.2.mem ((c.tc : Thread Cert.InADwRefIdeal.nD Cert.InADwRefIdeal.τ).loc Cert.InADwRefIdeal.main_arg1) = m' ((c.tc : Thread Cert.InADwRefIdeal.nD Cert.InADwRefIdeal.τ).loc Cert.InADwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v1) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v1) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v1) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v1) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)) →
    ∃ (v0 : (c : Dev Cert.KvUpDwIdeal.nD) → Buf (Elt Ideal) ((c.tc : Thread Cert.KvUpDwIdeal.nD Cert.KvUpDwIdeal.τ).loc Cert.KvUpDwIdeal.main_v0)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v0) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v1) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v0)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v0) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v1) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScInDw_ScInDwIdeal : Prop :=
  True

def algebraic_ScInDwIdeal_ScInDwRefIdeal [hScInDwIdeal : Cert.ScInDwIdeal.Facts] [hScInDwRefIdeal : Cert.ScInDwRefIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg)
    (m' : (ℓ : Loc Cert.ScInDwRefIdeal.nD Cert.ScInDwRefIdeal.τ Cert.ScInDwRefIdeal.sig) → Buf (Elt Ideal) ℓ) (g' : Dev Cert.ScInDwRefIdeal.nD → PrngReg), Pre_ScInDwIdeal m →
    (∀ c : Dev Cert.ScInDwIdeal.nD,
      m' ((c.tc : Thread Cert.ScInDwRefIdeal.nD Cert.ScInDwRefIdeal.τ).loc Cert.ScInDwRefIdeal.main_arg0) = m ((c.tc : Thread Cert.ScInDwIdeal.nD Cert.ScInDwIdeal.τ).loc Cert.ScInDwIdeal.main_arg0)
      ∧ m' ((c.tc : Thread Cert.ScInDwRefIdeal.nD Cert.ScInDwRefIdeal.τ).loc Cert.ScInDwRefIdeal.main_arg1) = m ((c.tc : Thread Cert.ScInDwIdeal.nD Cert.ScInDwIdeal.τ).loc Cert.ScInDwIdeal.main_arg1)) →
    ∃ (v0 : (c : Dev Cert.ScInDwIdeal.nD) → Buf (Elt Ideal) ((c.tc : Thread Cert.ScInDwIdeal.nD Cert.ScInDwIdeal.τ).loc Cert.ScInDwIdeal.main_v0)),
      θ_run (Cert.ScInDwIdeal.defs (F := Ideal)) (onTc (τ := Cert.ScInDwIdeal.τ) (Cert.ScInDwIdeal.main (F := Ideal))) ⟨m, fun _ => 0, g⟩ (fun r => ∀ c : Dev Cert.ScInDwIdeal.nD,
          r.2.mem ((c.tc : Thread Cert.ScInDwIdeal.nD Cert.ScInDwIdeal.τ).loc Cert.ScInDwIdeal.main_v0) = v0 c
          ∧ r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
          ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ θ_run (Cert.ScInDwRefIdeal.defs (F := Ideal)) (onTc (τ := Cert.ScInDwRefIdeal.τ) (Cert.ScInDwRefIdeal.main (F := Ideal))) ⟨m', fun _ => 0, g'⟩ (fun r => ∀ c : Dev Cert.ScInDwRefIdeal.nD,
          r.2.mem ((c.tc : Thread Cert.ScInDwRefIdeal.nD Cert.ScInDwRefIdeal.τ).loc Cert.ScInDwRefIdeal.main_v1) = v0 c
          ∧ r.2.mem ((c.tc : Thread Cert.ScInDwRefIdeal.nD Cert.ScInDwRefIdeal.τ).loc Cert.ScInDwRefIdeal.main_arg0) = m' ((c.tc : Thread Cert.ScInDwRefIdeal.nD Cert.ScInDwRefIdeal.τ).loc Cert.ScInDwRefIdeal.main_arg0)
          ∧ r.2.mem ((c.tc : Thread Cert.ScInDwRefIdeal.nD Cert.ScInDwRefIdeal.τ).loc Cert.ScInDwRefIdeal.main_arg1) = m' ((c.tc : Thread Cert.ScInDwRefIdeal.nD Cert.ScInDwRefIdeal.τ).loc Cert.ScInDwRefIdeal.main_arg1))

def preserves_InADx_InADxIdeal : Prop :=
  True

def algebraic_InADxIdeal_InADxRefIdeal [hInADxIdeal : Cert.InADxIdeal.Facts] [hInADxRefIdeal : Cert.InADxRefIdeal.Facts] : Prop :=
  ∀ (m : (ℓ : Loc Cert.InADxIdeal.nD Cert.InADxIdeal.τ Cert.InADxIdeal.sig) → Buf (Elt Ideal) ℓ) (g : Dev Cert.InADxIdeal.nD → PrngReg)
    (m' : (ℓ : Loc Cert.InADxRefIdeal.nD Cert.InADxRefIdeal.τ Cert.InADxRefIdeal.sig) → Buf (Elt Ideal) ℓ) (g' : Dev Cert.InADxRefIdeal.nD → PrngReg), Pre_InADxIdeal m →
    (∀ c : Dev Cert.InADxIdeal.nD,
      m' ((c.tc : Thread Cert.InADxRefIdeal.nD Cert.InADxRefIdeal.τ).loc Cert.InADxRefIdeal.main_arg0) = m ((c.tc : Thread Cert.InADxIdeal.nD Cert.InADxIdeal.τ).loc Cert.InADxIdeal.main_arg0)
      ∧ m' ((c.tc : Thread Cert.InADxRefIdeal.nD Cert.InADxRefIdeal.τ).loc Cert.InADxRefIdeal.main_arg1) = m ((c.tc : Thread Cert.InADxIdeal.nD Cert.InADxIdeal.τ).loc Cert.InADxIdeal.main_arg1)) →
    ∃ (v0 : (c : Dev Cert.InADxIdeal.nD) → Buf (Elt Ideal) ((c.tc : Thread Cert.InADxIdeal.nD Cert.InADxIdeal.τ).loc Cert.InADxIdeal.main_v0)),
      θ_run (Cert.InADxIdeal.defs (F := Ideal)) (onTc (τ := Cert.InADxIdeal.τ) (Cert.InADxIdeal.main (F := Ideal))) ⟨m, fun _ => 0, g⟩ (fun r => ∀ c : Dev Cert.InADxIdeal.nD,
          r.2.mem ((c.tc : Thread Cert.InADxIdeal.nD Cert.InADxIdeal.τ).loc Cert.InADxIdeal.main_v0) = v0 c
          ∧ r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
          ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ θ_run (Cert.InADxRefIdeal.defs (F := Ideal)) (onTc (τ := Cert.InADxRefIdeal.τ) (Cert.InADxRefIdeal.main (F := Ideal))) ⟨m', fun _ => 0, g'⟩ (fun r => ∀ c : Dev Cert.InADxRefIdeal.nD,
          r.2.mem ((c.tc : Thread Cert.InADxRefIdeal.nD Cert.InADxRefIdeal.τ).loc Cert.InADxRefIdeal.main_v0) = v0 c
          ∧ r.2.mem ((c.tc : Thread Cert.InADxRefIdeal.nD Cert.InADxRefIdeal.τ).loc Cert.InADxRefIdeal.main_arg0) = m' ((c.tc : Thread Cert.InADxRefIdeal.nD Cert.InADxRefIdeal.τ).loc Cert.InADxRefIdeal.main_arg0)
          ∧ r.2.mem ((c.tc : Thread Cert.InADxRefIdeal.nD Cert.InADxRefIdeal.τ).loc Cert.InADxRefIdeal.main_arg1) = m' ((c.tc : Thread Cert.InADxRefIdeal.nD Cert.InADxRefIdeal.τ).loc Cert.InADxRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v0) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_InZDx_InZDxIdeal : Prop :=
  True

def algebraic_InZDxIdeal_InZDxRefIdeal [hInZDxIdeal : Cert.InZDxIdeal.Facts] [hInZDxRefIdeal : Cert.InZDxRefIdeal.Facts] : Prop :=
  ∀ (m : (ℓ : Loc Cert.InZDxIdeal.nD Cert.InZDxIdeal.τ Cert.InZDxIdeal.sig) → Buf (Elt Ideal) ℓ) (g : Dev Cert.InZDxIdeal.nD → PrngReg)
    (m' : (ℓ : Loc Cert.InZDxRefIdeal.nD Cert.InZDxRefIdeal.τ Cert.InZDxRefIdeal.sig) → Buf (Elt Ideal) ℓ) (g' : Dev Cert.InZDxRefIdeal.nD → PrngReg), Pre_InZDxIdeal m →
    (∀ c : Dev Cert.InZDxIdeal.nD,
      m' ((c.tc : Thread Cert.InZDxRefIdeal.nD Cert.InZDxRefIdeal.τ).loc Cert.InZDxRefIdeal.main_arg0) = m ((c.tc : Thread Cert.InZDxIdeal.nD Cert.InZDxIdeal.τ).loc Cert.InZDxIdeal.main_arg0)
      ∧ m' ((c.tc : Thread Cert.InZDxRefIdeal.nD Cert.InZDxRefIdeal.τ).loc Cert.InZDxRefIdeal.main_arg1) = m ((c.tc : Thread Cert.InZDxIdeal.nD Cert.InZDxIdeal.τ).loc Cert.InZDxIdeal.main_arg1)
      ∧ m' ((c.tc : Thread Cert.InZDxRefIdeal.nD Cert.InZDxRefIdeal.τ).loc Cert.InZDxRefIdeal.main_arg2) = m ((c.tc : Thread Cert.InZDxIdeal.nD Cert.InZDxIdeal.τ).loc Cert.InZDxIdeal.main_arg2)) →
    ∃ (v0 : (c : Dev Cert.InZDxIdeal.nD) → Buf (Elt Ideal) ((c.tc : Thread Cert.InZDxIdeal.nD Cert.InZDxIdeal.τ).loc Cert.InZDxIdeal.main_v0)),
      θ_run (Cert.InZDxIdeal.defs (F := Ideal)) (onTc (τ := Cert.InZDxIdeal.τ) (Cert.InZDxIdeal.main (F := Ideal))) ⟨m, fun _ => 0, g⟩ (fun r => ∀ c : Dev Cert.InZDxIdeal.nD,
          r.2.mem ((c.tc : Thread Cert.InZDxIdeal.nD Cert.InZDxIdeal.τ).loc Cert.InZDxIdeal.main_v0) = v0 c
          ∧ r.2.mem ((c.tc : Thread Cert.InZDxIdeal.nD Cert.InZDxIdeal.τ).loc Cert.InZDxIdeal.main_arg0) = m ((c.tc : Thread Cert.InZDxIdeal.nD Cert.InZDxIdeal.τ).loc Cert.InZDxIdeal.main_arg0)
          ∧ r.2.mem ((c.tc : Thread Cert.InZDxIdeal.nD Cert.InZDxIdeal.τ).loc Cert.InZDxIdeal.main_arg1) = m ((c.tc : Thread Cert.InZDxIdeal.nD Cert.InZDxIdeal.τ).loc Cert.InZDxIdeal.main_arg1)
          ∧ r.2.mem ((c.tc : Thread Cert.InZDxIdeal.nD Cert.InZDxIdeal.τ).loc Cert.InZDxIdeal.main_arg2) = m ((c.tc : Thread Cert.InZDxIdeal.nD Cert.InZDxIdeal.τ).loc Cert.InZDxIdeal.main_arg2))
      ∧ θ_run (Cert.InZDxRefIdeal.defs (F := Ideal)) (onTc (τ := Cert.InZDxRefIdeal.τ) (Cert.InZDxRefIdeal.main (F := Ideal))) ⟨m', fun _ => 0, g'⟩ (fun r => ∀ c : Dev Cert.InZDxRefIdeal.nD,
          r.2.mem ((c.tc : Thread Cert.InZDxRefIdeal.nD Cert.InZDxRefIdeal.τ).loc Cert.InZDxRefIdeal.main_v1) = v0 c
          ∧ r.2.mem ((c.tc : Thread Cert.InZDxRefIdeal.nD Cert.InZDxRefIdeal.τ).loc Cert.InZDxRefIdeal.main_arg0) = m' ((c.tc : Thread Cert.InZDxRefIdeal.nD Cert.InZDxRefIdeal.τ).loc Cert.InZDxRefIdeal.main_arg0)
          ∧ r.2.mem ((c.tc : Thread Cert.InZDxRefIdeal.nD Cert.InZDxRefIdeal.τ).loc Cert.InZDxRefIdeal.main_arg1) = m' ((c.tc : Thread Cert.InZDxRefIdeal.nD Cert.InZDxRefIdeal.τ).loc Cert.InZDxRefIdeal.main_arg1)
          ∧ r.2.mem ((c.tc : Thread Cert.InZDxRefIdeal.nD Cert.InZDxRefIdeal.τ).loc Cert.InZDxRefIdeal.main_arg2) = m' ((c.tc : Thread Cert.InZDxRefIdeal.nD Cert.InZDxRefIdeal.τ).loc Cert.InZDxRefIdeal.main_arg2))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v0)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v0) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v4) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_GmInDw_GmInDwIdeal : Prop :=
  True

def algebraic_GmInDwIdeal_GmInDwRefIdeal [hGmInDwIdeal : Cert.GmInDwIdeal.Facts] [hGmInDwRefIdeal : Cert.GmInDwRefIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg)
    (m' : (ℓ : Loc Cert.GmInDwRefIdeal.nD Cert.GmInDwRefIdeal.τ Cert.GmInDwRefIdeal.sig) → Buf (Elt Ideal) ℓ) (g' : Dev Cert.GmInDwRefIdeal.nD → PrngReg), Pre_GmInDwIdeal m →
    (∀ c : Dev Cert.GmInDwIdeal.nD,
      m' ((c.tc : Thread Cert.GmInDwRefIdeal.nD Cert.GmInDwRefIdeal.τ).loc Cert.GmInDwRefIdeal.main_arg0) = m ((c.tc : Thread Cert.GmInDwIdeal.nD Cert.GmInDwIdeal.τ).loc Cert.GmInDwIdeal.main_arg0)
      ∧ m' ((c.tc : Thread Cert.GmInDwRefIdeal.nD Cert.GmInDwRefIdeal.τ).loc Cert.GmInDwRefIdeal.main_arg1) = m ((c.tc : Thread Cert.GmInDwIdeal.nD Cert.GmInDwIdeal.τ).loc Cert.GmInDwIdeal.main_arg1)) →
    ∃ (v0 : (c : Dev Cert.GmInDwIdeal.nD) → Buf (Elt Ideal) ((c.tc : Thread Cert.GmInDwIdeal.nD Cert.GmInDwIdeal.τ).loc Cert.GmInDwIdeal.main_v0)),
      θ_run (Cert.GmInDwIdeal.defs (F := Ideal)) (onTc (τ := Cert.GmInDwIdeal.τ) (Cert.GmInDwIdeal.main (F := Ideal))) ⟨m, fun _ => 0, g⟩ (fun r => ∀ c : Dev Cert.GmInDwIdeal.nD,
          r.2.mem ((c.tc : Thread Cert.GmInDwIdeal.nD Cert.GmInDwIdeal.τ).loc Cert.GmInDwIdeal.main_v0) = v0 c
          ∧ r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
          ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ θ_run (Cert.GmInDwRefIdeal.defs (F := Ideal)) (onTc (τ := Cert.GmInDwRefIdeal.τ) (Cert.GmInDwRefIdeal.main (F := Ideal))) ⟨m', fun _ => 0, g'⟩ (fun r => ∀ c : Dev Cert.GmInDwRefIdeal.nD,
          r.2.mem ((c.tc : Thread Cert.GmInDwRefIdeal.nD Cert.GmInDwRefIdeal.τ).loc Cert.GmInDwRefIdeal.main_v5) = v0 c
          ∧ r.2.mem ((c.tc : Thread Cert.GmInDwRefIdeal.nD Cert.GmInDwRefIdeal.τ).loc Cert.GmInDwRefIdeal.main_arg0) = m' ((c.tc : Thread Cert.GmInDwRefIdeal.nD Cert.GmInDwRefIdeal.τ).loc Cert.GmInDwRefIdeal.main_arg0)
          ∧ r.2.mem ((c.tc : Thread Cert.GmInDwRefIdeal.nD Cert.GmInDwRefIdeal.τ).loc Cert.GmInDwRefIdeal.main_arg1) = m' ((c.tc : Thread Cert.GmInDwRefIdeal.nD Cert.GmInDwRefIdeal.τ).loc Cert.GmInDwRefIdeal.main_arg1))

def Claim : Prop :=
  ∃ (hKernel : Cert.Kernel.Facts) (hKernelIdeal : Cert.KernelIdeal.Facts) (hReferenceIdeal : Cert.ReferenceIdeal.Facts) (hReference : Cert.Reference.Facts) (hScatter : Cert.Scatter.Facts) (hScatterIdeal : Cert.ScatterIdeal.Facts) (hScatterRefIdeal : Cert.ScatterRefIdeal.Facts) (hScatterRef : Cert.ScatterRef.Facts) (hJoin : Cert.Join.Facts) (hJoinIdeal : Cert.JoinIdeal.Facts) (hJoinRefIdeal : Cert.JoinRefIdeal.Facts) (hJoinRef : Cert.JoinRef.Facts) (hGather : Cert.Gather.Facts) (hGatherIdeal : Cert.GatherIdeal.Facts) (hGatherRefIdeal : Cert.GatherRefIdeal.Facts) (hGatherRef : Cert.GatherRef.Facts) (hAdam4096x1424 : Cert.Adam4096x1424.Facts) (hAdam4096x1424Ideal : Cert.Adam4096x1424Ideal.Facts) (hAdam4096x1424RefIdeal : Cert.Adam4096x1424RefIdeal.Facts) (hAdam1024x1536 : Cert.Adam1024x1536.Facts) (hAdam1024x1536Ideal : Cert.Adam1024x1536Ideal.Facts) (hAdam1024x1536RefIdeal : Cert.Adam1024x1536RefIdeal.Facts) (hAdam512x2048 : Cert.Adam512x2048.Facts) (hAdam512x2048Ideal : Cert.Adam512x2048Ideal.Facts) (hAdam512x2048RefIdeal : Cert.Adam512x2048RefIdeal.Facts) (hAdam1024x4096 : Cert.Adam1024x4096.Facts) (hAdam1024x4096Ideal : Cert.Adam1024x4096Ideal.Facts) (hAdam1024x4096RefIdeal : Cert.Adam1024x4096RefIdeal.Facts) (hAdam4096x4096 : Cert.Adam4096x4096.Facts) (hAdam4096x4096Ideal : Cert.Adam4096x4096Ideal.Facts) (hAdam4096x4096RefIdeal : Cert.Adam4096x4096RefIdeal.Facts) (hAdam4096x3072 : Cert.Adam4096x3072.Facts) (hAdam4096x3072Ideal : Cert.Adam4096x3072Ideal.Facts) (hAdam4096x3072RefIdeal : Cert.Adam4096x3072RefIdeal.Facts) (hAdam1616x128 : Cert.Adam1616x128.Facts) (hAdam1616x128Ideal : Cert.Adam1616x128Ideal.Facts) (hAdam1616x128RefIdeal : Cert.Adam1616x128RefIdeal.Facts) (hSlots : Cert.Slots.Facts) (hSlotsIdeal : Cert.SlotsIdeal.Facts) (hSlotsRefIdeal : Cert.SlotsRefIdeal.Facts) (hPair8192x1424 : Cert.Pair8192x1424.Facts) (hPair8192x1424Ideal : Cert.Pair8192x1424Ideal.Facts) (hPair8192x1424RefIdeal : Cert.Pair8192x1424RefIdeal.Facts) (hPair8192x1424Ref : Cert.Pair8192x1424Ref.Facts) (hChip2048x1424 : Cert.Chip2048x1424.Facts) (hChip2048x1424Ideal : Cert.Chip2048x1424Ideal.Facts) (hChip2048x1424RefIdeal : Cert.Chip2048x1424RefIdeal.Facts) (hPair2048x1536 : Cert.Pair2048x1536.Facts) (hPair2048x1536Ideal : Cert.Pair2048x1536Ideal.Facts) (hPair2048x1536RefIdeal : Cert.Pair2048x1536RefIdeal.Facts) (hPair2048x1536Ref : Cert.Pair2048x1536Ref.Facts) (hChip512x1536 : Cert.Chip512x1536.Facts) (hChip512x1536Ideal : Cert.Chip512x1536Ideal.Facts) (hChip512x1536RefIdeal : Cert.Chip512x1536RefIdeal.Facts) (hPair1024x2048 : Cert.Pair1024x2048.Facts) (hPair1024x2048Ideal : Cert.Pair1024x2048Ideal.Facts) (hPair1024x2048RefIdeal : Cert.Pair1024x2048RefIdeal.Facts) (hPair1024x2048Ref : Cert.Pair1024x2048Ref.Facts) (hChip256x2048 : Cert.Chip256x2048.Facts) (hChip256x2048Ideal : Cert.Chip256x2048Ideal.Facts) (hChip256x2048RefIdeal : Cert.Chip256x2048RefIdeal.Facts) (hPair2048x4096 : Cert.Pair2048x4096.Facts) (hPair2048x4096Ideal : Cert.Pair2048x4096Ideal.Facts) (hPair2048x4096RefIdeal : Cert.Pair2048x4096RefIdeal.Facts) (hPair2048x4096Ref : Cert.Pair2048x4096Ref.Facts) (hChip512x4096 : Cert.Chip512x4096.Facts) (hChip512x4096Ideal : Cert.Chip512x4096Ideal.Facts) (hChip512x4096RefIdeal : Cert.Chip512x4096RefIdeal.Facts) (hPair8192x4096 : Cert.Pair8192x4096.Facts) (hPair8192x4096Ideal : Cert.Pair8192x4096Ideal.Facts) (hPair8192x4096RefIdeal : Cert.Pair8192x4096RefIdeal.Facts) (hPair8192x4096Ref : Cert.Pair8192x4096Ref.Facts) (hChip2048x4096 : Cert.Chip2048x4096.Facts) (hChip2048x4096Ideal : Cert.Chip2048x4096Ideal.Facts) (hChip2048x4096RefIdeal : Cert.Chip2048x4096RefIdeal.Facts) (hPair8192x3072 : Cert.Pair8192x3072.Facts) (hPair8192x3072Ideal : Cert.Pair8192x3072Ideal.Facts) (hPair8192x3072RefIdeal : Cert.Pair8192x3072RefIdeal.Facts) (hPair8192x3072Ref : Cert.Pair8192x3072Ref.Facts) (hChip2048x3072 : Cert.Chip2048x3072.Facts) (hChip2048x3072Ideal : Cert.Chip2048x3072Ideal.Facts) (hChip2048x3072RefIdeal : Cert.Chip2048x3072RefIdeal.Facts) (hLoss : Cert.Loss.Facts) (hLossIdeal : Cert.LossIdeal.Facts) (hLossRefIdeal : Cert.LossRefIdeal.Facts) (hNormGrad : Cert.NormGrad.Facts) (hNormGradIdeal : Cert.NormGradIdeal.Facts) (hNormGradRefIdeal : Cert.NormGradRefIdeal.Facts) (hPreNorm : Cert.PreNorm.Facts) (hPreNormIdeal : Cert.PreNormIdeal.Facts) (hPreNormRefIdeal : Cert.PreNormRefIdeal.Facts) (hPostNorm : Cert.PostNorm.Facts) (hPostNormIdeal : Cert.PostNormIdeal.Facts) (hPostNormRefIdeal : Cert.PostNormRefIdeal.Facts) (hPostNormGrad : Cert.PostNormGrad.Facts) (hPostNormGradIdeal : Cert.PostNormGradIdeal.Facts) (hPostNormGradRefIdeal : Cert.PostNormGradRefIdeal.Facts) (hGate : Cert.Gate.Facts) (hGateIdeal : Cert.GateIdeal.Facts) (hGateRefIdeal : Cert.GateRefIdeal.Facts) (hGateGrad : Cert.GateGrad.Facts) (hGateGradIdeal : Cert.GateGradIdeal.Facts) (hGateGradRefIdeal : Cert.GateGradRefIdeal.Facts) (hInA : Cert.InA.Facts) (hInAIdeal : Cert.InAIdeal.Facts) (hInARefIdeal : Cert.InARefIdeal.Facts) (hInADw : Cert.InADw.Facts) (hInADwIdeal : Cert.InADwIdeal.Facts) (hInADwRefIdeal : Cert.InADwRefIdeal.Facts) (hOutProj : Cert.OutProj.Facts) (hOutProjIdeal : Cert.OutProjIdeal.Facts) (hOutProjRefIdeal : Cert.OutProjRefIdeal.Facts) (hOutProjDw : Cert.OutProjDw.Facts) (hOutProjDwIdeal : Cert.OutProjDwIdeal.Facts) (hOutProjDwRefIdeal : Cert.OutProjDwRefIdeal.Facts) (hQUp : Cert.QUp.Facts) (hQUpIdeal : Cert.QUpIdeal.Facts) (hQUpRefIdeal : Cert.QUpRefIdeal.Facts) (hQUpDw : Cert.QUpDw.Facts) (hQUpDwIdeal : Cert.QUpDwIdeal.Facts) (hQUpDwRefIdeal : Cert.QUpDwRefIdeal.Facts) (hKvUp : Cert.KvUp.Facts) (hKvUpIdeal : Cert.KvUpIdeal.Facts) (hKvUpRefIdeal : Cert.KvUpRefIdeal.Facts) (hKvUpDw : Cert.KvUpDw.Facts) (hKvUpDwIdeal : Cert.KvUpDwIdeal.Facts) (hKvUpDwRefIdeal : Cert.KvUpDwRefIdeal.Facts) (hScIn : Cert.ScIn.Facts) (hScInIdeal : Cert.ScInIdeal.Facts) (hScInRefIdeal : Cert.ScInRefIdeal.Facts) (hScInDw : Cert.ScInDw.Facts) (hScInDwIdeal : Cert.ScInDwIdeal.Facts) (hScInDwRefIdeal : Cert.ScInDwRefIdeal.Facts) (hInADx : Cert.InADx.Facts) (hInADxIdeal : Cert.InADxIdeal.Facts) (hInADxRefIdeal : Cert.InADxRefIdeal.Facts) (hOutProjDx : Cert.OutProjDx.Facts) (hOutProjDxIdeal : Cert.OutProjDxIdeal.Facts) (hOutProjDxRefIdeal : Cert.OutProjDxRefIdeal.Facts) (hInZDx : Cert.InZDx.Facts) (hInZDxIdeal : Cert.InZDxIdeal.Facts) (hInZDxRefIdeal : Cert.InZDxRefIdeal.Facts) (hGmIn : Cert.GmIn.Facts) (hGmInIdeal : Cert.GmInIdeal.Facts) (hGmInRefIdeal : Cert.GmInRefIdeal.Facts) (hGmInDw : Cert.GmInDw.Facts) (hGmInDwIdeal : Cert.GmInDwIdeal.Facts) (hGmInDwRefIdeal : Cert.GmInDwRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Adam4096x1424 (hAdam4096x1424 := hAdam4096x1424)
    ∧ quiescent_Adam4096x1424Ideal (hAdam4096x1424Ideal := hAdam4096x1424Ideal)
    ∧ quiescent_Adam4096x1424RefIdeal (hAdam4096x1424RefIdeal := hAdam4096x1424RefIdeal)
    ∧ quiescent_Adam1024x1536 (hAdam1024x1536 := hAdam1024x1536)
    ∧ quiescent_Adam1024x1536Ideal (hAdam1024x1536Ideal := hAdam1024x1536Ideal)
    ∧ quiescent_Adam1024x1536RefIdeal (hAdam1024x1536RefIdeal := hAdam1024x1536RefIdeal)
    ∧ quiescent_Adam512x2048 (hAdam512x2048 := hAdam512x2048)
    ∧ quiescent_Adam512x2048Ideal (hAdam512x2048Ideal := hAdam512x2048Ideal)
    ∧ quiescent_Adam512x2048RefIdeal (hAdam512x2048RefIdeal := hAdam512x2048RefIdeal)
    ∧ quiescent_Adam1024x4096 (hAdam1024x4096 := hAdam1024x4096)
    ∧ quiescent_Adam1024x4096Ideal (hAdam1024x4096Ideal := hAdam1024x4096Ideal)
    ∧ quiescent_Adam1024x4096RefIdeal (hAdam1024x4096RefIdeal := hAdam1024x4096RefIdeal)
    ∧ quiescent_Adam4096x4096 (hAdam4096x4096 := hAdam4096x4096)
    ∧ quiescent_Adam4096x4096Ideal (hAdam4096x4096Ideal := hAdam4096x4096Ideal)
    ∧ quiescent_Adam4096x4096RefIdeal (hAdam4096x4096RefIdeal := hAdam4096x4096RefIdeal)
    ∧ quiescent_Adam4096x3072 (hAdam4096x3072 := hAdam4096x3072)
    ∧ quiescent_Adam4096x3072Ideal (hAdam4096x3072Ideal := hAdam4096x3072Ideal)
    ∧ quiescent_Adam4096x3072RefIdeal (hAdam4096x3072RefIdeal := hAdam4096x3072RefIdeal)
    ∧ quiescent_Adam1616x128 (hAdam1616x128 := hAdam1616x128)
    ∧ quiescent_Adam1616x128Ideal (hAdam1616x128Ideal := hAdam1616x128Ideal)
    ∧ quiescent_Adam1616x128RefIdeal (hAdam1616x128RefIdeal := hAdam1616x128RefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Pair8192x1424 (hPair8192x1424 := hPair8192x1424)
    ∧ quiescent_Pair8192x1424Ideal (hPair8192x1424Ideal := hPair8192x1424Ideal)
    ∧ quiescent_Pair8192x1424RefIdeal (hPair8192x1424RefIdeal := hPair8192x1424RefIdeal)
    ∧ quiescent_Pair8192x1424Ref (hPair8192x1424Ref := hPair8192x1424Ref)
    ∧ quiescent_Chip2048x1424 (hChip2048x1424 := hChip2048x1424)
    ∧ quiescent_Chip2048x1424Ideal (hChip2048x1424Ideal := hChip2048x1424Ideal)
    ∧ quiescent_Chip2048x1424RefIdeal (hChip2048x1424RefIdeal := hChip2048x1424RefIdeal)
    ∧ quiescent_Pair2048x1536 (hPair2048x1536 := hPair2048x1536)
    ∧ quiescent_Pair2048x1536Ideal (hPair2048x1536Ideal := hPair2048x1536Ideal)
    ∧ quiescent_Pair2048x1536RefIdeal (hPair2048x1536RefIdeal := hPair2048x1536RefIdeal)
    ∧ quiescent_Pair2048x1536Ref (hPair2048x1536Ref := hPair2048x1536Ref)
    ∧ quiescent_Chip512x1536 (hChip512x1536 := hChip512x1536)
    ∧ quiescent_Chip512x1536Ideal (hChip512x1536Ideal := hChip512x1536Ideal)
    ∧ quiescent_Chip512x1536RefIdeal (hChip512x1536RefIdeal := hChip512x1536RefIdeal)
    ∧ quiescent_Pair1024x2048 (hPair1024x2048 := hPair1024x2048)
    ∧ quiescent_Pair1024x2048Ideal (hPair1024x2048Ideal := hPair1024x2048Ideal)
    ∧ quiescent_Pair1024x2048RefIdeal (hPair1024x2048RefIdeal := hPair1024x2048RefIdeal)
    ∧ quiescent_Pair1024x2048Ref (hPair1024x2048Ref := hPair1024x2048Ref)
    ∧ quiescent_Chip256x2048 (hChip256x2048 := hChip256x2048)
    ∧ quiescent_Chip256x2048Ideal (hChip256x2048Ideal := hChip256x2048Ideal)
    ∧ quiescent_Chip256x2048RefIdeal (hChip256x2048RefIdeal := hChip256x2048RefIdeal)
    ∧ quiescent_Pair2048x4096 (hPair2048x4096 := hPair2048x4096)
    ∧ quiescent_Pair2048x4096Ideal (hPair2048x4096Ideal := hPair2048x4096Ideal)
    ∧ quiescent_Pair2048x4096RefIdeal (hPair2048x4096RefIdeal := hPair2048x4096RefIdeal)
    ∧ quiescent_Pair2048x4096Ref (hPair2048x4096Ref := hPair2048x4096Ref)
    ∧ quiescent_Chip512x4096 (hChip512x4096 := hChip512x4096)
    ∧ quiescent_Chip512x4096Ideal (hChip512x4096Ideal := hChip512x4096Ideal)
    ∧ quiescent_Chip512x4096RefIdeal (hChip512x4096RefIdeal := hChip512x4096RefIdeal)
    ∧ quiescent_Pair8192x4096 (hPair8192x4096 := hPair8192x4096)
    ∧ quiescent_Pair8192x4096Ideal (hPair8192x4096Ideal := hPair8192x4096Ideal)
    ∧ quiescent_Pair8192x4096RefIdeal (hPair8192x4096RefIdeal := hPair8192x4096RefIdeal)
    ∧ quiescent_Pair8192x4096Ref (hPair8192x4096Ref := hPair8192x4096Ref)
    ∧ quiescent_Chip2048x4096 (hChip2048x4096 := hChip2048x4096)
    ∧ quiescent_Chip2048x4096Ideal (hChip2048x4096Ideal := hChip2048x4096Ideal)
    ∧ quiescent_Chip2048x4096RefIdeal (hChip2048x4096RefIdeal := hChip2048x4096RefIdeal)
    ∧ quiescent_Pair8192x3072 (hPair8192x3072 := hPair8192x3072)
    ∧ quiescent_Pair8192x3072Ideal (hPair8192x3072Ideal := hPair8192x3072Ideal)
    ∧ quiescent_Pair8192x3072RefIdeal (hPair8192x3072RefIdeal := hPair8192x3072RefIdeal)
    ∧ quiescent_Pair8192x3072Ref (hPair8192x3072Ref := hPair8192x3072Ref)
    ∧ quiescent_Chip2048x3072 (hChip2048x3072 := hChip2048x3072)
    ∧ quiescent_Chip2048x3072Ideal (hChip2048x3072Ideal := hChip2048x3072Ideal)
    ∧ quiescent_Chip2048x3072RefIdeal (hChip2048x3072RefIdeal := hChip2048x3072RefIdeal)
    ∧ quiescent_Loss (hLoss := hLoss)
    ∧ quiescent_LossIdeal (hLossIdeal := hLossIdeal)
    ∧ quiescent_LossRefIdeal (hLossRefIdeal := hLossRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_PostNormGrad (hPostNormGrad := hPostNormGrad)
    ∧ quiescent_PostNormGradIdeal (hPostNormGradIdeal := hPostNormGradIdeal)
    ∧ quiescent_PostNormGradRefIdeal (hPostNormGradRefIdeal := hPostNormGradRefIdeal)
    ∧ quiescent_Gate (hGate := hGate)
    ∧ quiescent_GateIdeal (hGateIdeal := hGateIdeal)
    ∧ quiescent_GateRefIdeal (hGateRefIdeal := hGateRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_InA (hInA := hInA)
    ∧ quiescent_InAIdeal (hInAIdeal := hInAIdeal)
    ∧ quiescent_InARefIdeal (hInARefIdeal := hInARefIdeal)
    ∧ quiescent_InADw (hInADw := hInADw)
    ∧ quiescent_InADwIdeal (hInADwIdeal := hInADwIdeal)
    ∧ quiescent_InADwRefIdeal (hInADwRefIdeal := hInADwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_QUp (hQUp := hQUp)
    ∧ quiescent_QUpIdeal (hQUpIdeal := hQUpIdeal)
    ∧ quiescent_QUpRefIdeal (hQUpRefIdeal := hQUpRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_ScIn (hScIn := hScIn)
    ∧ quiescent_ScInIdeal (hScInIdeal := hScInIdeal)
    ∧ quiescent_ScInRefIdeal (hScInRefIdeal := hScInRefIdeal)
    ∧ quiescent_ScInDw (hScInDw := hScInDw)
    ∧ quiescent_ScInDwIdeal (hScInDwIdeal := hScInDwIdeal)
    ∧ quiescent_ScInDwRefIdeal (hScInDwRefIdeal := hScInDwRefIdeal)
    ∧ quiescent_InADx (hInADx := hInADx)
    ∧ quiescent_InADxIdeal (hInADxIdeal := hInADxIdeal)
    ∧ quiescent_InADxRefIdeal (hInADxRefIdeal := hInADxRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_InZDx (hInZDx := hInZDx)
    ∧ quiescent_InZDxIdeal (hInZDxIdeal := hInZDxIdeal)
    ∧ quiescent_InZDxRefIdeal (hInZDxRefIdeal := hInZDxRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_GmInDw (hGmInDw := hGmInDw)
    ∧ quiescent_GmInDwIdeal (hGmInDwIdeal := hGmInDwIdeal)
    ∧ quiescent_GmInDwRefIdeal (hGmInDwRefIdeal := hGmInDwRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Adam4096x1424_Adam4096x1424Ideal
    ∧ algebraic_Adam4096x1424Ideal_Adam4096x1424RefIdeal (hAdam4096x1424Ideal := hAdam4096x1424Ideal) (hAdam4096x1424RefIdeal := hAdam4096x1424RefIdeal)
    ∧ preserves_Adam1024x1536_Adam1024x1536Ideal
    ∧ algebraic_Adam1024x1536Ideal_Adam1024x1536RefIdeal (hAdam1024x1536Ideal := hAdam1024x1536Ideal) (hAdam1024x1536RefIdeal := hAdam1024x1536RefIdeal)
    ∧ preserves_Adam512x2048_Adam512x2048Ideal
    ∧ algebraic_Adam512x2048Ideal_Adam512x2048RefIdeal (hAdam512x2048Ideal := hAdam512x2048Ideal) (hAdam512x2048RefIdeal := hAdam512x2048RefIdeal)
    ∧ preserves_Adam1024x4096_Adam1024x4096Ideal
    ∧ algebraic_Adam1024x4096Ideal_Adam1024x4096RefIdeal (hAdam1024x4096Ideal := hAdam1024x4096Ideal) (hAdam1024x4096RefIdeal := hAdam1024x4096RefIdeal)
    ∧ preserves_Adam4096x4096_Adam4096x4096Ideal
    ∧ algebraic_Adam4096x4096Ideal_Adam4096x4096RefIdeal (hAdam4096x4096Ideal := hAdam4096x4096Ideal) (hAdam4096x4096RefIdeal := hAdam4096x4096RefIdeal)
    ∧ preserves_Adam4096x3072_Adam4096x3072Ideal
    ∧ algebraic_Adam4096x3072Ideal_Adam4096x3072RefIdeal (hAdam4096x3072Ideal := hAdam4096x3072Ideal) (hAdam4096x3072RefIdeal := hAdam4096x3072RefIdeal)
    ∧ preserves_Adam1616x128_Adam1616x128Ideal
    ∧ algebraic_Adam1616x128Ideal_Adam1616x128RefIdeal (hAdam1616x128Ideal := hAdam1616x128Ideal) (hAdam1616x128RefIdeal := hAdam1616x128RefIdeal)
    ∧ preserves_Slots_SlotsIdeal
    ∧ algebraic_SlotsIdeal_SlotsRefIdeal (hSlotsIdeal := hSlotsIdeal) (hSlotsRefIdeal := hSlotsRefIdeal)
    ∧ preserves_Pair8192x1424_Pair8192x1424Ideal
    ∧ algebraic_Pair8192x1424Ideal_Pair8192x1424RefIdeal (hPair8192x1424Ideal := hPair8192x1424Ideal) (hPair8192x1424RefIdeal := hPair8192x1424RefIdeal)
    ∧ bitexact_Pair8192x1424_Pair8192x1424Ref (hPair8192x1424 := hPair8192x1424) (hPair8192x1424Ref := hPair8192x1424Ref)
    ∧ preserves_Chip2048x1424_Chip2048x1424Ideal
    ∧ algebraic_Chip2048x1424Ideal_Chip2048x1424RefIdeal (hChip2048x1424Ideal := hChip2048x1424Ideal) (hChip2048x1424RefIdeal := hChip2048x1424RefIdeal)
    ∧ preserves_Pair2048x1536_Pair2048x1536Ideal
    ∧ algebraic_Pair2048x1536Ideal_Pair2048x1536RefIdeal (hPair2048x1536Ideal := hPair2048x1536Ideal) (hPair2048x1536RefIdeal := hPair2048x1536RefIdeal)
    ∧ bitexact_Pair2048x1536_Pair2048x1536Ref (hPair2048x1536 := hPair2048x1536) (hPair2048x1536Ref := hPair2048x1536Ref)
    ∧ preserves_Chip512x1536_Chip512x1536Ideal
    ∧ algebraic_Chip512x1536Ideal_Chip512x1536RefIdeal (hChip512x1536Ideal := hChip512x1536Ideal) (hChip512x1536RefIdeal := hChip512x1536RefIdeal)
    ∧ preserves_Pair1024x2048_Pair1024x2048Ideal
    ∧ algebraic_Pair1024x2048Ideal_Pair1024x2048RefIdeal (hPair1024x2048Ideal := hPair1024x2048Ideal) (hPair1024x2048RefIdeal := hPair1024x2048RefIdeal)
    ∧ bitexact_Pair1024x2048_Pair1024x2048Ref (hPair1024x2048 := hPair1024x2048) (hPair1024x2048Ref := hPair1024x2048Ref)
    ∧ preserves_Chip256x2048_Chip256x2048Ideal
    ∧ algebraic_Chip256x2048Ideal_Chip256x2048RefIdeal (hChip256x2048Ideal := hChip256x2048Ideal) (hChip256x2048RefIdeal := hChip256x2048RefIdeal)
    ∧ preserves_Pair2048x4096_Pair2048x4096Ideal
    ∧ algebraic_Pair2048x4096Ideal_Pair2048x4096RefIdeal (hPair2048x4096Ideal := hPair2048x4096Ideal) (hPair2048x4096RefIdeal := hPair2048x4096RefIdeal)
    ∧ bitexact_Pair2048x4096_Pair2048x4096Ref (hPair2048x4096 := hPair2048x4096) (hPair2048x4096Ref := hPair2048x4096Ref)
    ∧ preserves_Chip512x4096_Chip512x4096Ideal
    ∧ algebraic_Chip512x4096Ideal_Chip512x4096RefIdeal (hChip512x4096Ideal := hChip512x4096Ideal) (hChip512x4096RefIdeal := hChip512x4096RefIdeal)
    ∧ preserves_Pair8192x4096_Pair8192x4096Ideal
    ∧ algebraic_Pair8192x4096Ideal_Pair8192x4096RefIdeal (hPair8192x4096Ideal := hPair8192x4096Ideal) (hPair8192x4096RefIdeal := hPair8192x4096RefIdeal)
    ∧ bitexact_Pair8192x4096_Pair8192x4096Ref (hPair8192x4096 := hPair8192x4096) (hPair8192x4096Ref := hPair8192x4096Ref)
    ∧ preserves_Chip2048x4096_Chip2048x4096Ideal
    ∧ algebraic_Chip2048x4096Ideal_Chip2048x4096RefIdeal (hChip2048x4096Ideal := hChip2048x4096Ideal) (hChip2048x4096RefIdeal := hChip2048x4096RefIdeal)
    ∧ preserves_Pair8192x3072_Pair8192x3072Ideal
    ∧ algebraic_Pair8192x3072Ideal_Pair8192x3072RefIdeal (hPair8192x3072Ideal := hPair8192x3072Ideal) (hPair8192x3072RefIdeal := hPair8192x3072RefIdeal)
    ∧ bitexact_Pair8192x3072_Pair8192x3072Ref (hPair8192x3072 := hPair8192x3072) (hPair8192x3072Ref := hPair8192x3072Ref)
    ∧ preserves_Chip2048x3072_Chip2048x3072Ideal
    ∧ algebraic_Chip2048x3072Ideal_Chip2048x3072RefIdeal (hChip2048x3072Ideal := hChip2048x3072Ideal) (hChip2048x3072RefIdeal := hChip2048x3072RefIdeal)
    ∧ preserves_Loss_LossIdeal
    ∧ algebraic_LossIdeal_LossRefIdeal (hLossIdeal := hLossIdeal) (hLossRefIdeal := hLossRefIdeal)
    ∧ preserves_NormGrad_NormGradIdeal
    ∧ algebraic_NormGradIdeal_NormGradRefIdeal (hNormGradIdeal := hNormGradIdeal) (hNormGradRefIdeal := hNormGradRefIdeal)
    ∧ preserves_PreNorm_PreNormIdeal
    ∧ algebraic_PreNormIdeal_PreNormRefIdeal (hPreNormIdeal := hPreNormIdeal) (hPreNormRefIdeal := hPreNormRefIdeal)
    ∧ preserves_PostNorm_PostNormIdeal
    ∧ algebraic_PostNormIdeal_PostNormRefIdeal (hPostNormIdeal := hPostNormIdeal) (hPostNormRefIdeal := hPostNormRefIdeal)
    ∧ preserves_PostNormGrad_PostNormGradIdeal
    ∧ algebraic_PostNormGradIdeal_PostNormGradRefIdeal (hPostNormGradIdeal := hPostNormGradIdeal) (hPostNormGradRefIdeal := hPostNormGradRefIdeal)
    ∧ preserves_Gate_GateIdeal
    ∧ algebraic_GateIdeal_GateRefIdeal (hGateIdeal := hGateIdeal) (hGateRefIdeal := hGateRefIdeal)
    ∧ preserves_GateGrad_GateGradIdeal
    ∧ algebraic_GateGradIdeal_GateGradRefIdeal (hGateGradIdeal := hGateGradIdeal) (hGateGradRefIdeal := hGateGradRefIdeal)
    ∧ preserves_InA_InAIdeal
    ∧ algebraic_InAIdeal_InARefIdeal (hInAIdeal := hInAIdeal) (hInARefIdeal := hInARefIdeal)
    ∧ preserves_InADw_InADwIdeal
    ∧ algebraic_InADwIdeal_InADwRefIdeal (hInADwIdeal := hInADwIdeal) (hInADwRefIdeal := hInADwRefIdeal)
    ∧ preserves_OutProj_OutProjIdeal
    ∧ algebraic_OutProjIdeal_OutProjRefIdeal (hOutProjIdeal := hOutProjIdeal) (hOutProjRefIdeal := hOutProjRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_QUp_QUpIdeal
    ∧ algebraic_QUpIdeal_QUpRefIdeal (hQUpIdeal := hQUpIdeal) (hQUpRefIdeal := hQUpRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUp_KvUpIdeal
    ∧ algebraic_KvUpIdeal_KvUpRefIdeal (hKvUpIdeal := hKvUpIdeal) (hKvUpRefIdeal := hKvUpRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_ScIn_ScInIdeal
    ∧ algebraic_ScInIdeal_ScInRefIdeal (hScInIdeal := hScInIdeal) (hScInRefIdeal := hScInRefIdeal)
    ∧ preserves_ScInDw_ScInDwIdeal
    ∧ algebraic_ScInDwIdeal_ScInDwRefIdeal (hScInDwIdeal := hScInDwIdeal) (hScInDwRefIdeal := hScInDwRefIdeal)
    ∧ preserves_InADx_InADxIdeal
    ∧ algebraic_InADxIdeal_InADxRefIdeal (hInADxIdeal := hInADxIdeal) (hInADxRefIdeal := hInADxRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_InZDx_InZDxIdeal
    ∧ algebraic_InZDxIdeal_InZDxRefIdeal (hInZDxIdeal := hInZDxIdeal) (hInZDxRefIdeal := hInZDxRefIdeal)
    ∧ preserves_GmIn_GmInIdeal
    ∧ algebraic_GmInIdeal_GmInRefIdeal (hGmInIdeal := hGmInIdeal) (hGmInRefIdeal := hGmInRefIdeal)
    ∧ preserves_GmInDw_GmInDwIdeal
    ∧ algebraic_GmInDwIdeal_GmInDwRefIdeal (hGmInDwIdeal := hGmInDwIdeal) (hGmInDwRefIdeal := hGmInDwRefIdeal)
-- ==== Kernel.lean ====
abbrev S4x4096x1424 : Shape := ⟨3, ![4, 4096, 1424]⟩
abbrev S4x1024x1536 : Shape := ⟨3, ![4, 1024, 1536]⟩
abbrev S4x512x2048 : Shape := ⟨3, ![4, 512, 2048]⟩
abbrev S4x1024x4096 : Shape := ⟨3, ![4, 1024, 4096]⟩
abbrev S4x4096x4096 : Shape := ⟨3, ![4, 4096, 4096]⟩
abbrev S4x4096x3072 : Shape := ⟨3, ![4, 4096, 3072]⟩
abbrev S4x2048x1424 : Shape := ⟨3, ![4, 2048, 1424]⟩
abbrev S4x512x1536 : Shape := ⟨3, ![4, 512, 1536]⟩
abbrev S4x256x2048 : Shape := ⟨3, ![4, 256, 2048]⟩
abbrev S4x512x4096 : Shape := ⟨3, ![4, 512, 4096]⟩
abbrev S4x2048x4096 : Shape := ⟨3, ![4, 2048, 4096]⟩
abbrev S4x2048x3072 : Shape := ⟨3, ![4, 2048, 3072]⟩
abbrev S10 : Shape := ⟨1, ![10]⟩
abbrev S1 : Shape := ⟨1, ![1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1424, .f32⟩
  | .hbm, ⟨1, _⟩ => ⟨S4x1024x1536, .f32⟩
  | .hbm, ⟨2, _⟩ => ⟨S4x512x2048, .f32⟩
  | .hbm, ⟨3, _⟩ => ⟨S4x1024x4096, .f32⟩
  | .hbm, ⟨4, _⟩ => ⟨S4x4096x4096, .f32⟩
  | .hbm, ⟨5, _⟩ => ⟨S4x1024x4096, .f32⟩
  | .hbm, ⟨6, _⟩ => ⟨S4x4096x3072, .f32⟩
  | .hbm, ⟨7, _⟩ => ⟨S4x1024x4096, .f32⟩
  | .hbm, ⟨8, _⟩ => ⟨S4x4096x3072, .f32⟩
  | .hbm, ⟨9, _⟩ => ⟨S4x1024x4096, .f32⟩
  | .hbm, ⟨10, _⟩ => ⟨S4x2048x1424, .f32⟩
  | .hbm, ⟨11, _⟩ => ⟨S4x512x1536, .f32⟩
  | .hbm, ⟨12, _⟩ => ⟨S4x256x2048, .f32⟩
  | .hbm, ⟨13, _⟩ => ⟨S4x512x4096, .f32⟩
  | .hbm, ⟨14, _⟩ => ⟨S4x2048x4096, .f32⟩
  | .hbm, ⟨15, _⟩ => ⟨S4x512x4096, .f32⟩
  | .hbm, ⟨16, _⟩ => ⟨S4x2048x3072, .f32⟩
  | .hbm, ⟨17, _⟩ => ⟨S4x512x4096, .f32⟩
  | .hbm, ⟨18, _⟩ => ⟨S4x2048x3072, .f32⟩
  | .hbm, ⟨19, _⟩ => ⟨S4x512x4096, .f32⟩
  | _, _ => ⟨S4x4096x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_off1 (d0 : Dev nD) : Fin 3 → Nat :=
  let c0_i32_10 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c2048_i32 : BitVec 32 := 2048#32
  let v11 : BitVec 32 := Scalar.muli v10 c2048_i32
  let c0_i32_11 : BitVec 32 := 0#32
  ![0, v11.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v16 : BitVec 32 := Scalar.muli v9 c1_i32_9
  let v17 : BitVec 32 := Scalar.addi v15 v16
  v17.toNat
def k0_off2 (d0 : Dev nD) : Fin 3 → Nat :=
  let c0_i32_19 : BitVec 32 := 0#32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32 : BitVec 32 := 512#32
  let v24 : BitVec 32 := Scalar.muli v23 c512_i32
  let c0_i32_20 : BitVec 32 := 0#32
  ![0, v24.toNat, 0]
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32_16 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v27 : BitVec 32 := Scalar.muli v5 c2_i32_17
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v29 : BitVec 32 := Scalar.muli v9 c1_i32_18
  let v30 : BitVec 32 := Scalar.addi v28 v29
  v30.toNat
def k0_off3 (d0 : Dev nD) : Fin 3 → Nat :=
  let c0_i32_28 : BitVec 32 := 0#32
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_21 v8
  let c256_i32 : BitVec 32 := 256#32
  let v37 : BitVec 32 := Scalar.muli v36 c256_i32
  let c0_i32_29 : BitVec 32 := 0#32
  ![0, v37.toNat, 0]
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_off4 (d0 : Dev nD) : Fin 3 → Nat :=
  let c0_i32_37 : BitVec 32 := 0#32
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c512_i32_31 : BitVec 32 := 512#32
  let v50 : BitVec 32 := Scalar.muli v49 c512_i32_31
  let c0_i32_38 : BitVec 32 := 0#32
  ![0, v50.toNat, 0]
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v51 : BitVec 32 := Scalar.muli v2 c4_i32_33
  let v52 : BitVec 32 := Scalar.addi c0_i32_34 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v53 : BitVec 32 := Scalar.muli v5 c2_i32_35
  let v54 : BitVec 32 := Scalar.addi v52 v53
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v55 : BitVec 32 := Scalar.muli v9 c1_i32_36
  let v56 : BitVec 32 := Scalar.addi v54 v55
  v56.toNat
def k0_off5 (d0 : Dev nD) : Fin 3 → Nat :=
  let c0_i32_47 : BitVec 32 := 0#32
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.subi c1_i32_39 v8
  let c2048_i32_40 : BitVec 32 := 2048#32
  let v63 : BitVec 32 := Scalar.muli v62 c2048_i32_40
  let c0_i32_48 : BitVec 32 := 0#32
  ![0, v63.toNat, 0]
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v64 : BitVec 32 := Scalar.muli v2 c4_i32_43
  let v65 : BitVec 32 := Scalar.addi c0_i32_44 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v66 : BitVec 32 := Scalar.muli v5 c2_i32_45
  let v67 : BitVec 32 := Scalar.addi v65 v66
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_46 : BitVec 32 := 1#32
  let v68 : BitVec 32 := Scalar.muli v9 c1_i32_46
  let v69 : BitVec 32 := Scalar.addi v67 v68
  v69.toNat
def k0_dev6 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v77 : BitVec 32 := Scalar.muli v2 c4_i32_52
  let v78 : BitVec 32 := Scalar.addi c0_i32_53 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v79 : BitVec 32 := Scalar.muli v5 c2_i32_54
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_55 : BitVec 32 := 1#32
  let v81 : BitVec 32 := Scalar.muli v9 c1_i32_55
  let v82 : BitVec 32 := Scalar.addi v80 v81
  v82.toNat
def k0_off6 (d0 : Dev nD) : Fin 3 → Nat :=
  let c0_i32_65 : BitVec 32 := 0#32
  let c1_i32_58 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v88 : BitVec 32 := Scalar.subi c1_i32_58 v8
  let c2048_i32_59 : BitVec 32 := 2048#32
  let v89 : BitVec 32 := Scalar.muli v88 c2048_i32_59
  let c0_i32_66 : BitVec 32 := 0#32
  ![0, v89.toNat, 0]
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_64 : BitVec 32 := 1#32
  let v94 : BitVec 32 := Scalar.muli v9 c1_i32_64
  let v95 : BitVec 32 := Scalar.addi v93 v94
  v95.toNat
def k0_dev8 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v103 : BitVec 32 := Scalar.muli v2 c4_i32_70
  let v104 : BitVec 32 := Scalar.addi c0_i32_71 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v105 : BitVec 32 := Scalar.muli v5 c2_i32_72
  let v106 : BitVec 32 := Scalar.addi v104 v105
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v107 : BitVec 32 := Scalar.muli v9 c1_i32_73
  let v108 : BitVec 32 := Scalar.addi v106 v107
  v108.toNat
def k0_dev9 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v116 : BitVec 32 := Scalar.muli v2 c4_i32_79
  let v117 : BitVec 32 := Scalar.addi c0_i32_80 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v118 : BitVec 32 := Scalar.muli v5 c2_i32_81
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v120 : BitVec 32 := Scalar.muli v9 c1_i32_82
  let v121 : BitVec 32 := Scalar.addi v119 v120
  v121.toNat
def k0_dev10 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v129 : BitVec 32 := Scalar.muli v2 c4_i32_88
  let v130 : BitVec 32 := Scalar.addi c0_i32_89 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v131 : BitVec 32 := Scalar.muli v5 c2_i32_90
  let v132 : BitVec 32 := Scalar.addi v130 v131
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_91 : BitVec 32 := 1#32
  let v133 : BitVec 32 := Scalar.muli v9 c1_i32_91
  let v134 : BitVec 32 := Scalar.addi v132 v133
  v134.toNat
-- ==== Reference.lean ====
abbrev S32x4096x1424 : Shape := ⟨3, ![32, 4096, 1424]⟩
abbrev S32x1024x1536 : Shape := ⟨3, ![32, 1024, 1536]⟩
abbrev S32x512x2048 : Shape := ⟨3, ![32, 512, 2048]⟩
abbrev S32x1024x4096 : Shape := ⟨3, ![32, 1024, 4096]⟩
abbrev S32x4096x4096 : Shape := ⟨3, ![32, 4096, 4096]⟩
abbrev S32x4096x3072 : Shape := ⟨3, ![32, 4096, 3072]⟩
abbrev S4x2x4x2x2048x1424 : Shape := ⟨6, ![4, 2, 4, 2, 2048, 1424]⟩
abbrev S4x1x4x1x2048x1424 : Shape := ⟨6, ![4, 1, 4, 1, 2048, 1424]⟩
abbrev S4x4x2048x1424 : Shape := ⟨4, ![4, 4, 2048, 1424]⟩
abbrev S4x1x4x2048x1424 : Shape := ⟨5, ![4, 1, 4, 2048, 1424]⟩
abbrev S4x2x4x2048x1424 : Shape := ⟨5, ![4, 2, 4, 2048, 1424]⟩
abbrev S32x2048x1424 : Shape := ⟨3, ![32, 2048, 1424]⟩
abbrev S4x2x4x2x512x1536 : Shape := ⟨6, ![4, 2, 4, 2, 512, 1536]⟩
abbrev S4x1x4x1x512x1536 : Shape := ⟨6, ![4, 1, 4, 1, 512, 1536]⟩
abbrev S4x4x512x1536 : Shape := ⟨4, ![4, 4, 512, 1536]⟩
abbrev S4x1x4x512x1536 : Shape := ⟨5, ![4, 1, 4, 512, 1536]⟩
abbrev S4x2x4x512x1536 : Shape := ⟨5, ![4, 2, 4, 512, 1536]⟩
abbrev S32x512x1536 : Shape := ⟨3, ![32, 512, 1536]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S32x256x2048 : Shape := ⟨3, ![32, 256, 2048]⟩
abbrev S4x2x4x2x512x4096 : Shape := ⟨6, ![4, 2, 4, 2, 512, 4096]⟩
abbrev S4x1x4x1x512x4096 : Shape := ⟨6, ![4, 1, 4, 1, 512, 4096]⟩
abbrev S4x4x512x4096 : Shape := ⟨4, ![4, 4, 512, 4096]⟩
abbrev S4x1x4x512x4096 : Shape := ⟨5, ![4, 1, 4, 512, 4096]⟩
abbrev S4x2x4x512x4096 : Shape := ⟨5, ![4, 2, 4, 512, 4096]⟩
abbrev S32x512x4096 : Shape := ⟨3, ![32, 512, 4096]⟩
abbrev S4x2x4x2x2048x4096 : Shape := ⟨6, ![4, 2, 4, 2, 2048, 4096]⟩
abbrev S4x1x4x1x2048x4096 : Shape := ⟨6, ![4, 1, 4, 1, 2048, 4096]⟩
abbrev S4x4x2048x4096 : Shape := ⟨4, ![4, 4, 2048, 4096]⟩
abbrev S4x1x4x2048x4096 : Shape := ⟨5, ![4, 1, 4, 2048, 4096]⟩
abbrev S4x2x4x2048x4096 : Shape := ⟨5, ![4, 2, 4, 2048, 4096]⟩
abbrev S32x2048x4096 : Shape := ⟨3, ![32, 2048, 4096]⟩
abbrev S4x2x4x2x2048x3072 : Shape := ⟨6, ![4, 2, 4, 2, 2048, 3072]⟩
abbrev S4x1x4x1x2048x3072 : Shape := ⟨6, ![4, 1, 4, 1, 2048, 3072]⟩
abbrev S4x4x2048x3072 : Shape := ⟨4, ![4, 4, 2048, 3072]⟩
abbrev S4x1x4x2048x3072 : Shape := ⟨5, ![4, 1, 4, 2048, 3072]⟩
abbrev S4x2x4x2048x3072 : Shape := ⟨5, ![4, 2, 4, 2048, 3072]⟩
abbrev S32x2048x3072 : Shape := ⟨3, ![32, 2048, 3072]⟩

abbrev nBuf : Space → Nat
  | .hbm => 100
  | .vmem => 0
  | .smem => 0
  | _ => 0

abbrev bufTy : (tb : Table) → Fin (tcTables nBuf tb) → BufTy
  | .hbm, ⟨0, _⟩ => ⟨S32x4096x1424, .f32⟩
  | .hbm, ⟨1, _⟩ => ⟨S32x1024x1536, .f32⟩
  | .hbm, ⟨2, _⟩ => ⟨S32x512x2048, .f32⟩
  | .hbm, ⟨3, _⟩ => ⟨S32x1024x4096, .f32⟩
  | .hbm, ⟨4, _⟩ => ⟨S32x4096x4096, .f32⟩
  | .hbm, ⟨5, _⟩ => ⟨S32x1024x4096, .f32⟩
  | .hbm, ⟨6, _⟩ => ⟨S32x4096x3072, .f32⟩
  | .hbm, ⟨7, _⟩ => ⟨S32x1024x4096, .f32⟩
  | .hbm, ⟨8, _⟩ => ⟨S32x4096x3072, .f32⟩
  | .hbm, ⟨9, _⟩ => ⟨S32x1024x4096, .f32⟩
  | .hbm, ⟨10, _⟩ => ⟨S4x2x4x2x2048x1424, .f32⟩
  | .hbm, ⟨11, _⟩ => ⟨S4x1x4x1x2048x1424, .f32⟩
  | .hbm, ⟨12, _⟩ => ⟨S4x4x2048x1424, .f32⟩
  | .hbm, ⟨13, _⟩ => ⟨S4x1x4x1x2048x1424, .f32⟩
  | .hbm, ⟨14, _⟩ => ⟨S4x4x2048x1424, .f32⟩
  | .hbm, ⟨15, _⟩ => ⟨S4x1x4x2048x1424, .f32⟩
  | .hbm, ⟨16, _⟩ => ⟨S4x1x4x2048x1424, .f32⟩
  | .hbm, ⟨17, _⟩ => ⟨S4x2x4x2048x1424, .f32⟩
  | .hbm, ⟨18, _⟩ => ⟨S32x2048x1424, .f32⟩
  | .hbm, ⟨19, _⟩ => ⟨S4x2x4x2x512x1536, .f32⟩
  | .hbm, ⟨20, _⟩ => ⟨S4x1x4x1x512x1536, .f32⟩
  | .hbm, ⟨21, _⟩ => ⟨S4x4x512x1536, .f32⟩
  | .hbm, ⟨22, _⟩ => ⟨S4x1x4x1x512x1536, .f32⟩
  | .hbm, ⟨23, _⟩ => ⟨S4x4x512x1536, .f32⟩
  | .hbm, ⟨24, _⟩ => ⟨S4x1x4x512x1536, .f32⟩
  | .hbm, ⟨25, _⟩ => ⟨S4x1x4x512x1536, .f32⟩
  | .hbm, ⟨26, _⟩ => ⟨S4x2x4x512x1536, .f32⟩
  | .hbm, ⟨27, _⟩ => ⟨S32x512x1536, .f32⟩
  | .hbm, ⟨28, _⟩ => ⟨S4x2x4x2x256x2048, .f32⟩
  | .hbm, ⟨29, _⟩ => ⟨S4x1x4x1x256x2048, .f32⟩
  | .hbm, ⟨30, _⟩ => ⟨S4x4x256x2048, .f32⟩
  | .hbm, ⟨31, _⟩ => ⟨S4x1x4x1x256x2048, .f32⟩
  | .hbm, ⟨32, _⟩ => ⟨S4x4x256x2048, .f32⟩
  | .hbm, ⟨33, _⟩ => ⟨S4x1x4x256x2048, .f32⟩
  | .hbm, ⟨34, _⟩ => ⟨S4x1x4x256x2048, .f32⟩
  | .hbm, ⟨35, _⟩ => ⟨S4x2x4x256x2048, .f32⟩
  | .hbm, ⟨36, _⟩ => ⟨S32x256x2048, .f32⟩
  | .hbm, ⟨37, _⟩ => ⟨S4x2x4x2x512x4096, .f32⟩
  | .hbm, ⟨38, _⟩ => ⟨S4x1x4x1x512x4096, .f32⟩
  | .hbm, ⟨39, _⟩ => ⟨S4x4x512x4096, .f32⟩
  | .hbm, ⟨40, _⟩ => ⟨S4x1x4x1x512x4096, .f32⟩
  | .hbm, ⟨41, _⟩ => ⟨S4x4x512x4096, .f32⟩
  | .hbm, ⟨42, _⟩ => ⟨S4x1x4x512x4096, .f32⟩
  | .hbm, ⟨43, _⟩ => ⟨S4x1x4x512x4096, .f32⟩
  | .hbm, ⟨44, _⟩ => ⟨S4x2x4x512x4096, .f32⟩
  | .hbm, ⟨45, _⟩ => ⟨S32x512x4096, .f32⟩
  | .hbm, ⟨46, _⟩ => ⟨S4x2x4x2x2048x4096, .f32⟩
  | .hbm, ⟨47, _⟩ => ⟨S4x1x4x1x2048x4096, .f32⟩
  | .hbm, ⟨48, _⟩ => ⟨S4x4x2048x4096, .f32⟩
  | .hbm, ⟨49, _⟩ => ⟨S4x1x4x1x2048x4096, .f32⟩
  | .hbm, ⟨50, _⟩ => ⟨S4x4x2048x4096, .f32⟩
  | .hbm, ⟨51, _⟩ => ⟨S4x1x4x2048x4096, .f32⟩
  | .hbm, ⟨52, _⟩ => ⟨S4x1x4x2048x4096, .f32⟩
  | .hbm, ⟨53, _⟩ => ⟨S4x2x4x2048x4096, .f32⟩
  | .hbm, ⟨54, _⟩ => ⟨S32x2048x4096, .f32⟩
  | .hbm, ⟨55, _⟩ => ⟨S4x2x4x2x512x4096, .f32⟩
  | .hbm, ⟨56, _⟩ => ⟨S4x1x4x1x512x4096, .f32⟩
  | .hbm, ⟨57, _⟩ => ⟨S4x4x512x4096, .f32⟩
  | .hbm, ⟨58, _⟩ => ⟨S4x1x4x1x512x4096, .f32⟩
  | .hbm, ⟨59, _⟩ => ⟨S4x4x512x4096, .f32⟩
  | .hbm, ⟨60, _⟩ => ⟨S4x1x4x512x4096, .f32⟩
  | .hbm, ⟨61, _⟩ => ⟨S4x1x4x512x4096, .f32⟩
  | .hbm, ⟨62, _⟩ => ⟨S4x2x4x512x4096, .f32⟩
  | .hbm, ⟨63, _⟩ => ⟨S32x512x4096, .f32⟩
  | .hbm, ⟨64, _⟩ => ⟨S4x2x4x2x2048x3072, .f32⟩
  | .hbm, ⟨65, _⟩ => ⟨S4x1x4x1x2048x3072, .f32⟩
  | .hbm, ⟨66, _⟩ => ⟨S4x4x2048x3072, .f32⟩
  | .hbm, ⟨67, _⟩ => ⟨S4x1x4x1x2048x3072, .f32⟩
  | .hbm, ⟨68, _⟩ => ⟨S4x4x2048x3072, .f32⟩
  | .hbm, ⟨69, _⟩ => ⟨S4x1x4x2048x3072, .f32⟩
  | .hbm, ⟨70, _⟩ => ⟨S4x1x4x2048x3072, .f32⟩
  | .hbm, ⟨71, _⟩ => ⟨S4x2x4x2048x3072, .f32⟩
  | .hbm, ⟨72, _⟩ => ⟨S32x2048x3072, .f32⟩
  | .hbm, ⟨73, _⟩ => ⟨S4x2x4x2x512x4096, .f32⟩
  | .hbm, ⟨74, _⟩ => ⟨S4x1x4x1x512x4096, .f32⟩
  | .hbm, ⟨75, _⟩ => ⟨S4x4x512x4096, .f32⟩
  | .hbm, ⟨76, _⟩ => ⟨S4x1x4x1x512x4096, .f32⟩
  | .hbm, ⟨77, _⟩ => ⟨S4x4x512x4096, .f32⟩
  | .hbm, ⟨78, _⟩ => ⟨S4x1x4x512x4096, .f32⟩
  | .hbm, ⟨79, _⟩ => ⟨S4x1x4x512x4096, .f32⟩
  | .hbm, ⟨80, _⟩ => ⟨S4x2x4x512x4096, .f32⟩
  | .hbm, ⟨81, _⟩ => ⟨S32x512x4096, .f32⟩
  | .hbm, ⟨82, _⟩ => ⟨S4x2x4x2x2048x3072, .f32⟩
  | .hbm, ⟨83, _⟩ => ⟨S4x1x4x1x2048x3072, .f32⟩
  | .hbm, ⟨84, _⟩ => ⟨S4x4x2048x3072, .f32⟩
  | .hbm, ⟨85, _⟩ => ⟨S4x1x4x1x2048x3072, .f32⟩
  | .hbm, ⟨86, _⟩ => ⟨S4x4x2048x3072, .f32⟩
  | .hbm, ⟨87, _⟩ => ⟨S4x1x4x2048x3072, .f32⟩
  | .hbm, ⟨88, _⟩ => ⟨S4x1x4x2048x3072, .f32⟩
  | .hbm, ⟨89, _⟩ => ⟨S4x2x4x2048x3072, .f32⟩
  | .hbm, ⟨90, _⟩ => ⟨S32x2048x3072, .f32⟩
  | .hbm, ⟨91, _⟩ => ⟨S4x2x4x2x512x4096, .f32⟩
  | .hbm, ⟨92, _⟩ => ⟨S4x1x4x1x512x4096, .f32⟩
  | .hbm, ⟨93, _⟩ => ⟨S4x4x512x4096, .f32⟩
  | .hbm, ⟨94, _⟩ => ⟨S4x1x4x1x512x4096, .f32⟩
  | .hbm, ⟨95, _⟩ => ⟨S4x4x512x4096, .f32⟩
  | .hbm, ⟨96, _⟩ => ⟨S4x1x4x512x4096, .f32⟩
  | .hbm, ⟨97, _⟩ => ⟨S4x1x4x512x4096, .f32⟩
  | .hbm, ⟨98, _⟩ => ⟨S4x2x4x512x4096, .f32⟩
  | .hbm, ⟨99, _⟩ => ⟨S32x512x4096, .f32⟩
  | _, _ => ⟨S32x4096x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩

abbrev nD : Nat := 1
abbrev τ : Topo := Topo.v7x

variable {F : FTy → Type} [FloatOps F]
-- ==== Scatter.lean ====
abbrev S4x2048x1424 : Shape := ⟨3, ![4, 2048, 1424]⟩
abbrev S4x512x1536 : Shape := ⟨3, ![4, 512, 1536]⟩
abbrev S4x256x2048 : Shape := ⟨3, ![4, 256, 2048]⟩
abbrev S4x512x4096 : Shape := ⟨3, ![4, 512, 4096]⟩
abbrev S4x2048x4096 : Shape := ⟨3, ![4, 2048, 4096]⟩
abbrev S4x2048x3072 : Shape := ⟨3, ![4, 2048, 3072]⟩
abbrev S30 : Shape := ⟨1, ![30]⟩
abbrev S1 : Shape := ⟨1, ![1]⟩
abbrev S_ : Shape := ⟨0, ![]⟩
abbrev S1x2048x1424 : Shape := ⟨3, ![1, 2048, 1424]⟩
abbrev S2048x1424 : Shape := ⟨2, ![2048, 1424]⟩
abbrev S1x512x1536 : Shape := ⟨3, ![1, 512, 1536]⟩
abbrev S512x1536 : Shape := ⟨2, ![512, 1536]⟩
abbrev S1x256x2048 : Shape := ⟨3, ![1, 256, 2048]⟩
abbrev S256x2048 : Shape := ⟨2, ![256, 2048]⟩
abbrev S1x512x4096 : Shape := ⟨3, ![1, 512, 4096]⟩
abbrev S512x4096 : Shape := ⟨2, ![512, 4096]⟩
abbrev S1x2048x4096 : Shape := ⟨3, ![1, 2048, 4096]⟩
abbrev S2048x4096 : Shape := ⟨2, ![2048, 4096]⟩
abbrev S1x2048x3072 : Shape := ⟨3, ![1, 2048, 3072]⟩
abbrev S2048x3072 : Shape := ⟨2, ![2048, 3072]⟩

abbrev nBuf : Space → Nat
  | .hbm => 195
  | .vmem => 0
  | .smem => 0
  | _ => 0

abbrev hbmTy0_0 (i : Nat) : BufTy := match i % 128 with
  | 0 => ⟨S4x2048x1424, .bf16⟩
  | 1 => ⟨S4x512x1536, .bf16⟩
  | 2 => ⟨S4x256x2048, .bf16⟩
  | 3 => ⟨S4x512x4096, .bf16⟩
  | 4 => ⟨S4x2048x4096, .bf16⟩
  | 5 => ⟨S4x512x4096, .bf16⟩
  | 6 => ⟨S4x2048x3072, .bf16⟩
  | 7 => ⟨S4x512x4096, .bf16⟩
  | 8 => ⟨S4x2048x3072, .bf16⟩
  | 9 => ⟨S4x512x4096, .bf16⟩
  | 10 => ⟨S4x2048x1424, .bf16⟩
  | 11 => ⟨S4x512x1536, .bf16⟩
  | 12 => ⟨S4x256x2048, .bf16⟩
  | 13 => ⟨S4x512x4096, .bf16⟩
  | 14 => ⟨S4x2048x4096, .bf16⟩
  | 15 => ⟨S4x512x4096, .bf16⟩
  | 16 => ⟨S4x2048x3072, .bf16⟩
  | 17 => ⟨S4x512x4096, .bf16⟩
  | 18 => ⟨S4x2048x3072, .bf16⟩
  | 19 => ⟨S4x512x4096, .bf16⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x2048x1424, .bf16⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S4x2048x1424, .bf16⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x512x1536, .bf16⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S4x512x1536, .bf16⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x256x2048, .bf16⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S4x256x2048, .bf16⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x512x4096, .bf16⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S4x512x4096, .bf16⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x2048x4096, .bf16⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S4x2048x4096, .bf16⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x512x4096, .bf16⟩
  | 123 => ⟨S_, .i32⟩
  | 124 => ⟨S_, .i1⟩
  | 125 => ⟨S_, .i32⟩
  | 126 => ⟨S_, .i32⟩
  | 127 => ⟨S_, .i32⟩
  | _ => ⟨S4x2048x1424, .bf16⟩

abbrev hbmTy0_1 (i : Nat) : BufTy := match i % 128 with
  | 0 => ⟨S_, .i32⟩
  | 1 => ⟨S_, .i32⟩
  | 2 => ⟨S4x512x4096, .bf16⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S1x2048x3072, .bf16⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S4x2048x3072, .bf16⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x512x4096, .bf16⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S4x512x4096, .bf16⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x2048x3072, .bf16⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S4x2048x3072, .bf16⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x512x4096, .bf16⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S4x512x4096, .bf16⟩
  | _ => ⟨S4x2048x1424, .bf16⟩

abbrev hbmTy (i : Nat) : BufTy := match i / 128 with
  | 0 => hbmTy0_0 i
  | 1 => hbmTy0_1 i
  | _ => ⟨S4x2048x1424, .bf16⟩

abbrev bufTy : (tb : Table) → Fin (tcTables nBuf tb) → BufTy
  | .hbm, ⟨i, _⟩ => hbmTy i
  | _, _ => ⟨S4x2048x1424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩
abbrev main_c : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_c_2 : Ref sig .tc := ⟨.hbm, 28, rfl⟩
abbrev main_c_3 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_c_5 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_c_7 : Ref sig .tc := ⟨.hbm, 41, rfl⟩
abbrev main_v15 : Ref sig .tc := ⟨.hbm, 42, rfl⟩
abbrev main_c_8 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_v18 : Ref sig .tc := ⟨.hbm, 47, rfl⟩
abbrev main_c_10 : Ref sig .tc := ⟨.hbm, 48, rfl⟩
abbrev main_c_11 : Ref sig .tc := ⟨.hbm, 49, rfl⟩
abbrev main_v19 : Ref sig .tc := ⟨.hbm, 50, rfl⟩
abbrev main_c_12 : Ref sig .tc := ⟨.hbm, 51, rfl⟩
abbrev main_v20 : Ref sig .tc := ⟨.hbm, 52, rfl⟩
abbrev main_c_13 : Ref sig .tc := ⟨.hbm, 53, rfl⟩
abbrev main_v21 : Ref sig .tc := ⟨.hbm, 54, rfl⟩
abbrev main_v22 : Ref sig .tc := ⟨.hbm, 55, rfl⟩
abbrev main_c_14 : Ref sig .tc := ⟨.hbm, 56, rfl⟩
abbrev main_c_15 : Ref sig .tc := ⟨.hbm, 57, rfl⟩
abbrev main_v23 : Ref sig .tc := ⟨.hbm, 58, rfl⟩
abbrev main_c_16 : Ref sig .tc := ⟨.hbm, 59, rfl⟩
abbrev main_v24 : Ref sig .tc := ⟨.hbm, 60, rfl⟩
abbrev main_c_17 : Ref sig .tc := ⟨.hbm, 61, rfl⟩
abbrev main_v25 : Ref sig .tc := ⟨.hbm, 62, rfl⟩
abbrev main_v26 : Ref sig .tc := ⟨.hbm, 63, rfl⟩
abbrev main_c_18 : Ref sig .tc := ⟨.hbm, 64, rfl⟩
abbrev main_c_19 : Ref sig .tc := ⟨.hbm, 65, rfl⟩
abbrev main_v27 : Ref sig .tc := ⟨.hbm, 66, rfl⟩
abbrev main_c_20 : Ref sig .tc := ⟨.hbm, 67, rfl⟩
abbrev main_v28 : Ref sig .tc := ⟨.hbm, 68, rfl⟩
abbrev main_c_21 : Ref sig .tc := ⟨.hbm, 69, rfl⟩
abbrev main_v29 : Ref sig .tc := ⟨.hbm, 70, rfl⟩
abbrev main_v30 : Ref sig .tc := ⟨.hbm, 71, rfl⟩
abbrev main_c_22 : Ref sig .tc := ⟨.hbm, 72, rfl⟩
abbrev main_c_23 : Ref sig .tc := ⟨.hbm, 73, rfl⟩
abbrev main_v31 : Ref sig .tc := ⟨.hbm, 74, rfl⟩
abbrev main_c_24 : Ref sig .tc := ⟨.hbm, 75, rfl⟩
abbrev main_v32 : Ref sig .tc := ⟨.hbm, 76, rfl⟩
abbrev main_c_25 : Ref sig .tc := ⟨.hbm, 77, rfl⟩
abbrev main_v33 : Ref sig .tc := ⟨.hbm, 78, rfl⟩
abbrev main_v34 : Ref sig .tc := ⟨.hbm, 79, rfl⟩
abbrev main_c_26 : Ref sig .tc := ⟨.hbm, 80, rfl⟩
abbrev main_c_27 : Ref sig .tc := ⟨.hbm, 81, rfl⟩
abbrev main_v35 : Ref sig .tc := ⟨.hbm, 82, rfl⟩
abbrev main_c_28 : Ref sig .tc := ⟨.hbm, 83, rfl⟩
abbrev main_v36 : Ref sig .tc := ⟨.hbm, 84, rfl⟩
abbrev main_c_29 : Ref sig .tc := ⟨.hbm, 85, rfl⟩
abbrev main_v37 : Ref sig .tc := ⟨.hbm, 86, rfl⟩
abbrev main_v38 : Ref sig .tc := ⟨.hbm, 87, rfl⟩
abbrev main_c_30 : Ref sig .tc := ⟨.hbm, 88, rfl⟩
abbrev main_c_31 : Ref sig .tc := ⟨.hbm, 89, rfl⟩
abbrev main_v39 : Ref sig .tc := ⟨.hbm, 90, rfl⟩
abbrev main_c_32 : Ref sig .tc := ⟨.hbm, 91, rfl⟩
abbrev main_v40 : Ref sig .tc := ⟨.hbm, 92, rfl⟩
abbrev main_c_33 : Ref sig .tc := ⟨.hbm, 93, rfl⟩
abbrev main_v41 : Ref sig .tc := ⟨.hbm, 94, rfl⟩
abbrev main_v42 : Ref sig .tc := ⟨.hbm, 95, rfl⟩
abbrev main_c_34 : Ref sig .tc := ⟨.hbm, 96, rfl⟩
abbrev main_c_35 : Ref sig .tc := ⟨.hbm, 97, rfl⟩
abbrev main_v43 : Ref sig .tc := ⟨.hbm, 98, rfl⟩
abbrev main_c_36 : Ref sig .tc := ⟨.hbm, 99, rfl⟩
abbrev main_v44 : Ref sig .tc := ⟨.hbm, 100, rfl⟩
abbrev main_c_37 : Ref sig .tc := ⟨.hbm, 101, rfl⟩
abbrev main_v45 : Ref sig .tc := ⟨.hbm, 102, rfl⟩
abbrev main_v46 : Ref sig .tc := ⟨.hbm, 103, rfl⟩
abbrev main_c_38 : Ref sig .tc := ⟨.hbm, 104, rfl⟩
abbrev main_c_39 : Ref sig .tc := ⟨.hbm, 105, rfl⟩
abbrev main_v47 : Ref sig .tc := ⟨.hbm, 106, rfl⟩
abbrev main_c_40 : Ref sig .tc := ⟨.hbm, 107, rfl⟩
abbrev main_v48 : Ref sig .tc := ⟨.hbm, 108, rfl⟩
abbrev main_c_41 : Ref sig .tc := ⟨.hbm, 109, rfl⟩
abbrev main_v49 : Ref sig .tc := ⟨.hbm, 110, rfl⟩
abbrev main_v50 : Ref sig .tc := ⟨.hbm, 111, rfl⟩
abbrev main_c_42 : Ref sig .tc := ⟨.hbm, 112, rfl⟩
abbrev main_c_43 : Ref sig .tc := ⟨.hbm, 113, rfl⟩
abbrev main_v51 : Ref sig .tc := ⟨.hbm, 114, rfl⟩
abbrev main_c_44 : Ref sig .tc := ⟨.hbm, 115, rfl⟩
abbrev main_v52 : Ref sig .tc := ⟨.hbm, 116, rfl⟩
abbrev main_c_45 : Ref sig .tc := ⟨.hbm, 117, rfl⟩
abbrev main_v53 : Ref sig .tc := ⟨.hbm, 118, rfl⟩
abbrev main_v54 : Ref sig .tc := ⟨.hbm, 119, rfl⟩
abbrev main_c_46 : Ref sig .tc := ⟨.hbm, 120, rfl⟩
abbrev main_c_47 : Ref sig .tc := ⟨.hbm, 121, rfl⟩
abbrev main_v55 : Ref sig .tc := ⟨.hbm, 122, rfl⟩
abbrev main_c_48 : Ref sig .tc := ⟨.hbm, 123, rfl⟩
abbrev main_v56 : Ref sig .tc := ⟨.hbm, 124, rfl⟩
abbrev main_c_49 : Ref sig .tc := ⟨.hbm, 125, rfl⟩
abbrev main_v57 : Ref sig .tc := ⟨.hbm, 126, rfl⟩
abbrev main_v58 : Ref sig .tc := ⟨.hbm, 127, rfl⟩
abbrev main_c_50 : Ref sig .tc := ⟨.hbm, 128, rfl⟩
abbrev main_c_51 : Ref sig .tc := ⟨.hbm, 129, rfl⟩
abbrev main_v59 : Ref sig .tc := ⟨.hbm, 130, rfl⟩
abbrev main_c_52 : Ref sig .tc := ⟨.hbm, 131, rfl⟩
abbrev main_v60 : Ref sig .tc := ⟨.hbm, 132, rfl⟩
abbrev main_c_53 : Ref sig .tc := ⟨.hbm, 133, rfl⟩
abbrev main_v61 : Ref sig .tc := ⟨.hbm, 134, rfl⟩
abbrev main_v62 : Ref sig .tc := ⟨.hbm, 135, rfl⟩
abbrev main_c_54 : Ref sig .tc := ⟨.hbm, 136, rfl⟩
abbrev main_c_55 : Ref sig .tc := ⟨.hbm, 137, rfl⟩
abbrev main_v63 : Ref sig .tc := ⟨.hbm, 138, rfl⟩
abbrev main_c_56 : Ref sig .tc := ⟨.hbm, 139, rfl⟩
abbrev main_v64 : Ref sig .tc := ⟨.hbm, 140, rfl⟩
abbrev main_c_57 : Ref sig .tc := ⟨.hbm, 141, rfl⟩
abbrev main_v65 : Ref sig .tc := ⟨.hbm, 142, rfl⟩
abbrev main_v66 : Ref sig .tc := ⟨.hbm, 143, rfl⟩
abbrev main_c_58 : Ref sig .tc := ⟨.hbm, 144, rfl⟩
abbrev main_c_59 : Ref sig .tc := ⟨.hbm, 145, rfl⟩
abbrev main_v67 : Ref sig .tc := ⟨.hbm, 146, rfl⟩
abbrev main_c_60 : Ref sig .tc := ⟨.hbm, 147, rfl⟩
abbrev main_v68 : Ref sig .tc := ⟨.hbm, 148, rfl⟩
abbrev main_c_61 : Ref sig .tc := ⟨.hbm, 149, rfl⟩
abbrev main_v69 : Ref sig .tc := ⟨.hbm, 150, rfl⟩
abbrev main_v70 : Ref sig .tc := ⟨.hbm, 151, rfl⟩
abbrev main_c_62 : Ref sig .tc := ⟨.hbm, 152, rfl⟩
abbrev main_c_63 : Ref sig .tc := ⟨.hbm, 153, rfl⟩
abbrev main_v71 : Ref sig .tc := ⟨.hbm, 154, rfl⟩
abbrev main_c_64 : Ref sig .tc := ⟨.hbm, 155, rfl⟩
abbrev main_v72 : Ref sig .tc := ⟨.hbm, 156, rfl⟩
abbrev main_c_65 : Ref sig .tc := ⟨.hbm, 157, rfl⟩
abbrev main_v73 : Ref sig .tc := ⟨.hbm, 158, rfl⟩
abbrev main_v74 : Ref sig .tc := ⟨.hbm, 159, rfl⟩
abbrev main_c_66 : Ref sig .tc := ⟨.hbm, 160, rfl⟩
abbrev main_c_67 : Ref sig .tc := ⟨.hbm, 161, rfl⟩
abbrev main_v75 : Ref sig .tc := ⟨.hbm, 162, rfl⟩
abbrev main_c_68 : Ref sig .tc := ⟨.hbm, 163, rfl⟩
abbrev main_v76 : Ref sig .tc := ⟨.hbm, 164, rfl⟩
abbrev main_c_69 : Ref sig .tc := ⟨.hbm, 165, rfl⟩
abbrev main_v77 : Ref sig .tc := ⟨.hbm, 166, rfl⟩
abbrev main_v78 : Ref sig .tc := ⟨.hbm, 167, rfl⟩
abbrev main_c_70 : Ref sig .tc := ⟨.hbm, 168, rfl⟩
abbrev main_c_71 : Ref sig .tc := ⟨.hbm, 169, rfl⟩
abbrev main_v79 : Ref sig .tc := ⟨.hbm, 170, rfl⟩
abbrev main_c_72 : Ref sig .tc := ⟨.hbm, 171, rfl⟩
abbrev main_v80 : Ref sig .tc := ⟨.hbm, 172, rfl⟩
abbrev main_c_73 : Ref sig .tc := ⟨.hbm, 173, rfl⟩
abbrev main_v81 : Ref sig .tc := ⟨.hbm, 174, rfl⟩
abbrev main_v82 : Ref sig .tc := ⟨.hbm, 175, rfl⟩
abbrev main_c_74 : Ref sig .tc := ⟨.hbm, 176, rfl⟩
abbrev main_c_75 : Ref sig .tc := ⟨.hbm, 177, rfl⟩
abbrev main_v83 : Ref sig .tc := ⟨.hbm, 178, rfl⟩
abbrev main_c_76 : Ref sig .tc := ⟨.hbm, 179, rfl⟩
abbrev main_v84 : Ref sig .tc := ⟨.hbm, 180, rfl⟩
abbrev main_c_77 : Ref sig .tc := ⟨.hbm, 181, rfl⟩
abbrev main_v85 : Ref sig .tc := ⟨.hbm, 182, rfl⟩
abbrev main_v86 : Ref sig .tc := ⟨.hbm, 183, rfl⟩
abbrev main_c_78 : Ref sig .tc := ⟨.hbm, 184, rfl⟩
abbrev main_c_79 : Ref sig .tc := ⟨.hbm, 185, rfl⟩
abbrev main_v87 : Ref sig .tc := ⟨.hbm, 186, rfl⟩
abbrev main_c_80 : Ref sig .tc := ⟨.hbm, 187, rfl⟩
abbrev main_v88 : Ref sig .tc := ⟨.hbm, 188, rfl⟩
abbrev main_c_81 : Ref sig .tc := ⟨.hbm, 189, rfl⟩
abbrev main_v89 : Ref sig .tc := ⟨.hbm, 190, rfl⟩
abbrev main_v90 : Ref sig .tc := ⟨.hbm, 191, rfl⟩
abbrev main_c_82 : Ref sig .tc := ⟨.hbm, 192, rfl⟩
abbrev main_c_83 : Ref sig .tc := ⟨.hbm, 193, rfl⟩
abbrev main_v91 : Ref sig .tc := ⟨.hbm, 194, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_14 : BitVec 32 := 0#32
  let c0_i32_15 : BitVec 32 := 0#32
  ![v10.toNat, 0, 0]
def k0_off2 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_16 : BitVec 32 := 0#32
  let c0_i32_17 : BitVec 32 := 0#32
  ![v16.toNat, 0, 0]
def k0_dev1 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_10 : BitVec 32 := 4#32
  let v17 : BitVec 32 := Scalar.muli v11 c4_i32_10
  let v18 : BitVec 32 := Scalar.addi c0_i32_11 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v19 : BitVec 32 := Scalar.muli v5 c2_i32_12
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v21 : BitVec 32 := Scalar.muli v8 c1_i32_13
  let v22 : BitVec 32 := Scalar.addi v20 v21
  v22.toNat
def k0_off3 (d0 : Dev nD) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_18 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v32 : BitVec 32 := Scalar.addi v31 v12
  let c0_i32_27 : BitVec 32 := 0#32
  let c0_i32_28 : BitVec 32 := 0#32
  ![v32.toNat, 0, 0]
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_23 : BitVec 32 := 2#32
  let v35 : BitVec 32 := Scalar.muli v12 c2_i32_23
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v37 : BitVec 32 := Scalar.muli v8 c1_i32_24
  let v38 : BitVec 32 := Scalar.addi v36 v37
  v38.toNat
def k0_off4 (d0 : Dev nD) : Fin 3 → Nat :=
  let c2_i32_29 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v47 : BitVec 32 := Scalar.muli c2_i32_29 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v48 : BitVec 32 := Scalar.addi v47 v14
  let c0_i32_38 : BitVec 32 := 0#32
  let c0_i32_39 : BitVec 32 := 0#32
  ![v48.toNat, 0, 0]
def k0_dev3 (d0 : Dev nD) : Nat :=
  let c0_i32_33 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_32 : BitVec 32 := 4#32
  let v49 : BitVec 32 := Scalar.muli v13 c4_i32_32
  let v50 : BitVec 32 := Scalar.addi c0_i32_33 v49
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_34 : BitVec 32 := 2#32
  let v51 : BitVec 32 := Scalar.muli v14 c2_i32_34
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v53 : BitVec 32 := Scalar.muli v8 c1_i32_35
  let v54 : BitVec 32 := Scalar.addi v52 v53
  v54.toNat
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_46 : BitVec 32 := 0#32
  let c0_i32_47 : BitVec 32 := 0#32
  ![v10.toNat, 0, 0]
def k0_off6 (d0 : Dev nD) : Fin 3 → Nat :=
  let c2_i32_40 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v63 : BitVec 32 := Scalar.muli c2_i32_40 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v64 : BitVec 32 := Scalar.addi v63 v5
  let c0_i32_48 : BitVec 32 := 0#32
  let c0_i32_49 : BitVec 32 := 0#32
  ![v64.toNat, 0, 0]
def k0_dev4 (d0 : Dev nD) : Nat :=
  let c0_i32_43 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_42 : BitVec 32 := 4#32
  let v65 : BitVec 32 := Scalar.muli v11 c4_i32_42
  let v66 : BitVec 32 := Scalar.addi c0_i32_43 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v67 : BitVec 32 := Scalar.muli v5 c2_i32_44
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v69 : BitVec 32 := Scalar.muli v8 c1_i32_45
  let v70 : BitVec 32 := Scalar.addi v68 v69
  v70.toNat
def k0_off7 (d0 : Dev nD) : Fin 3 → Nat :=
  let c2_i32_50 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v79 : BitVec 32 := Scalar.muli c2_i32_50 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v80 : BitVec 32 := Scalar.addi v79 v12
  let c0_i32_59 : BitVec 32 := 0#32
  let c0_i32_60 : BitVec 32 := 0#32
  ![v80.toNat, 0, 0]
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v81 : BitVec 32 := Scalar.muli v2 c4_i32_53
  let v82 : BitVec 32 := Scalar.addi c0_i32_54 v81
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_55 : BitVec 32 := 2#32
  let v83 : BitVec 32 := Scalar.muli v12 c2_i32_55
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v85 : BitVec 32 := Scalar.muli v8 c1_i32_56
  let v86 : BitVec 32 := Scalar.addi v84 v85
  v86.toNat
def k0_off8 (d0 : Dev nD) : Fin 3 → Nat :=
  let c2_i32_61 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v95 : BitVec 32 := Scalar.muli c2_i32_61 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v96 : BitVec 32 := Scalar.addi v95 v14
  let c0_i32_69 : BitVec 32 := 0#32
  let c0_i32_70 : BitVec 32 := 0#32
  ![v96.toNat, 0, 0]
def k0_dev6 (d0 : Dev nD) : Nat :=
  let c0_i32_64 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_63 : BitVec 32 := 4#32
  let v97 : BitVec 32 := Scalar.muli v13 c4_i32_63
  let v98 : BitVec 32 := Scalar.addi c0_i32_64 v97
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_65 : BitVec 32 := 2#32
  let v99 : BitVec 32 := Scalar.muli v14 c2_i32_65
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v101 : BitVec 32 := Scalar.muli v8 c1_i32_66
  let v102 : BitVec 32 := Scalar.addi v100 v101
  v102.toNat
def k0_off9 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_77 : BitVec 32 := 0#32
  let c0_i32_78 : BitVec 32 := 0#32
  ![v10.toNat, 0, 0]
def k0_off10 (d0 : Dev nD) : Fin 3 → Nat :=
  let c2_i32_71 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v111 : BitVec 32 := Scalar.muli c2_i32_71 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v112 : BitVec 32 := Scalar.addi v111 v5
  let c0_i32_79 : BitVec 32 := 0#32
  let c0_i32_80 : BitVec 32 := 0#32
  ![v112.toNat, 0, 0]
def k0_dev7 (d0 : Dev nD) : Nat :=
  let c0_i32_74 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_73 : BitVec 32 := 4#32
  let v113 : BitVec 32 := Scalar.muli v11 c4_i32_73
  let v114 : BitVec 32 := Scalar.addi c0_i32_74 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v115 : BitVec 32 := Scalar.muli v5 c2_i32_75
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v117 : BitVec 32 := Scalar.muli v8 c1_i32_76
  let v118 : BitVec 32 := Scalar.addi v116 v117
  v118.toNat
def k0_off11 (d0 : Dev nD) : Fin 3 → Nat :=
  let c2_i32_81 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.muli c2_i32_81 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v128 : BitVec 32 := Scalar.addi v127 v12
  let c0_i32_89 : BitVec 32 := 0#32
  let c0_i32_90 : BitVec 32 := 0#32
  ![v128.toNat, 0, 0]
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v129 : BitVec 32 := Scalar.muli v2 c4_i32_83
  let v130 : BitVec 32 := Scalar.addi c0_i32_84 v129
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_85 : BitVec 32 := 2#32
  let v131 : BitVec 32 := Scalar.muli v12 c2_i32_85
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v133 : BitVec 32 := Scalar.muli v8 c1_i32_86
  let v134 : BitVec 32 := Scalar.addi v132 v133
  v134.toNat
def k0_off12 (d0 : Dev nD) : Fin 3 → Nat :=
  let c2_i32_91 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v143 : BitVec 32 := Scalar.muli c2_i32_91 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v144 : BitVec 32 := Scalar.addi v143 v14
  let c0_i32_99 : BitVec 32 := 0#32
  let c0_i32_100 : BitVec 32 := 0#32
  ![v144.toNat, 0, 0]
def k0_dev9 (d0 : Dev nD) : Nat :=
  let c0_i32_94 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_93 : BitVec 32 := 4#32
  let v145 : BitVec 32 := Scalar.muli v13 c4_i32_93
  let v146 : BitVec 32 := Scalar.addi c0_i32_94 v145
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_95 : BitVec 32 := 2#32
  let v147 : BitVec 32 := Scalar.muli v14 c2_i32_95
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v149 : BitVec 32 := Scalar.muli v8 c1_i32_96
  let v150 : BitVec 32 := Scalar.addi v148 v149
  v150.toNat
def k0_off13 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_107 : BitVec 32 := 0#32
  let c0_i32_108 : BitVec 32 := 0#32
  ![v10.toNat, 0, 0]
def k0_off14 (d0 : Dev nD) : Fin 3 → Nat :=
  let c2_i32_101 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v159 : BitVec 32 := Scalar.muli c2_i32_101 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v160 : BitVec 32 := Scalar.addi v159 v5
  let c0_i32_109 : BitVec 32 := 0#32
  let c0_i32_110 : BitVec 32 := 0#32
  ![v160.toNat, 0, 0]
def k0_dev10 (d0 : Dev nD) : Nat :=
  let c0_i32_104 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_103 : BitVec 32 := 4#32
  let v161 : BitVec 32 := Scalar.muli v11 c4_i32_103
  let v162 : BitVec 32 := Scalar.addi c0_i32_104 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v163 : BitVec 32 := Scalar.muli v5 c2_i32_105
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v165 : BitVec 32 := Scalar.muli v8 c1_i32_106
  let v166 : BitVec 32 := Scalar.addi v164 v165
  v166.toNat
def k0_off15 (d0 : Dev nD) : Fin 3 → Nat :=
  let c2_i32_111 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v175 : BitVec 32 := Scalar.muli c2_i32_111 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v176 : BitVec 32 := Scalar.addi v175 v12
  let c0_i32_119 : BitVec 32 := 0#32
  let c0_i32_120 : BitVec 32 := 0#32
  ![v176.toNat, 0, 0]
def k0_dev11 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v177 : BitVec 32 := Scalar.muli v2 c4_i32_113
  let v178 : BitVec 32 := Scalar.addi c0_i32_114 v177
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_115 : BitVec 32 := 2#32
  let v179 : BitVec 32 := Scalar.muli v12 c2_i32_115
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v181 : BitVec 32 := Scalar.muli v8 c1_i32_116
  let v182 : BitVec 32 := Scalar.addi v180 v181
  v182.toNat
def k0_off16 (d0 : Dev nD) : Fin 3 → Nat :=
  let c2_i32_121 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v191 : BitVec 32 := Scalar.muli c2_i32_121 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v192 : BitVec 32 := Scalar.addi v191 v14
  let c0_i32_129 : BitVec 32 := 0#32
  let c0_i32_130 : BitVec 32 := 0#32
  ![v192.toNat, 0, 0]
def k0_dev12 (d0 : Dev nD) : Nat :=
  let c0_i32_124 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_123 : BitVec 32 := 4#32
  let v193 : BitVec 32 := Scalar.muli v13 c4_i32_123
  let v194 : BitVec 32 := Scalar.addi c0_i32_124 v193
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_125 : BitVec 32 := 2#32
  let v195 : BitVec 32 := Scalar.muli v14 c2_i32_125
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v197 : BitVec 32 := Scalar.muli v8 c1_i32_126
  let v198 : BitVec 32 := Scalar.addi v196 v197
  v198.toNat
def k0_off17 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_137 : BitVec 32 := 0#32
  let c0_i32_138 : BitVec 32 := 0#32
  ![v10.toNat, 0, 0]
def k0_off18 (d0 : Dev nD) : Fin 3 → Nat :=
  let c2_i32_131 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v207 : BitVec 32 := Scalar.muli c2_i32_131 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v208 : BitVec 32 := Scalar.addi v207 v5
  let c0_i32_139 : BitVec 32 := 0#32
  let c0_i32_140 : BitVec 32 := 0#32
  ![v208.toNat, 0, 0]
def k0_dev13 (d0 : Dev nD) : Nat :=
  let c0_i32_134 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_133 : BitVec 32 := 4#32
  let v209 : BitVec 32 := Scalar.muli v11 c4_i32_133
  let v210 : BitVec 32 := Scalar.addi c0_i32_134 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v211 : BitVec 32 := Scalar.muli v5 c2_i32_135
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v213 : BitVec 32 := Scalar.muli v8 c1_i32_136
  let v214 : BitVec 32 := Scalar.addi v212 v213
  v214.toNat
def k0_off19 (d0 : Dev nD) : Fin 3 → Nat :=
  let c2_i32_141 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v223 : BitVec 32 := Scalar.muli c2_i32_141 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v224 : BitVec 32 := Scalar.addi v223 v12
  let c0_i32_149 : BitVec 32 := 0#32
  let c0_i32_150 : BitVec 32 := 0#32
  ![v224.toNat, 0, 0]
def k0_dev14 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v225 : BitVec 32 := Scalar.muli v2 c4_i32_143
  let v226 : BitVec 32 := Scalar.addi c0_i32_144 v225
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_145 : BitVec 32 := 2#32
  let v227 : BitVec 32 := Scalar.muli v12 c2_i32_145
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v229 : BitVec 32 := Scalar.muli v8 c1_i32_146
  let v230 : BitVec 32 := Scalar.addi v228 v229
  v230.toNat
def k0_off20 (d0 : Dev nD) : Fin 3 → Nat :=
  let c2_i32_151 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v239 : BitVec 32 := Scalar.muli c2_i32_151 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v240 : BitVec 32 := Scalar.addi v239 v14
  let c0_i32_159 : BitVec 32 := 0#32
  let c0_i32_160 : BitVec 32 := 0#32
  ![v240.toNat, 0, 0]
def k0_dev15 (d0 : Dev nD) : Nat :=
  let c0_i32_154 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_153 : BitVec 32 := 4#32
  let v241 : BitVec 32 := Scalar.muli v13 c4_i32_153
  let v242 : BitVec 32 := Scalar.addi c0_i32_154 v241
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_155 : BitVec 32 := 2#32
  let v243 : BitVec 32 := Scalar.muli v14 c2_i32_155
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v245 : BitVec 32 := Scalar.muli v8 c1_i32_156
  let v246 : BitVec 32 := Scalar.addi v244 v245
  v246.toNat
def k0_dev16 (d0 : Dev nD) : Nat :=
  let c0_i32_164 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_163 : BitVec 32 := 4#32
  let v257 : BitVec 32 := Scalar.muli v11 c4_i32_163
  let v258 : BitVec 32 := Scalar.addi c0_i32_164 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v259 : BitVec 32 := Scalar.muli v5 c2_i32_165
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v261 : BitVec 32 := Scalar.muli v8 c1_i32_166
  let v262 : BitVec 32 := Scalar.addi v260 v261
  v262.toNat
def k0_dev17 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v273 : BitVec 32 := Scalar.muli v2 c4_i32_173
  let v274 : BitVec 32 := Scalar.addi c0_i32_174 v273
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_175 : BitVec 32 := 2#32
  let v275 : BitVec 32 := Scalar.muli v12 c2_i32_175
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v277 : BitVec 32 := Scalar.muli v8 c1_i32_176
  let v278 : BitVec 32 := Scalar.addi v276 v277
  v278.toNat
def k0_dev18 (d0 : Dev nD) : Nat :=
  let c0_i32_184 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_183 : BitVec 32 := 4#32
  let v289 : BitVec 32 := Scalar.muli v13 c4_i32_183
  let v290 : BitVec 32 := Scalar.addi c0_i32_184 v289
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_185 : BitVec 32 := 2#32
  let v291 : BitVec 32 := Scalar.muli v14 c2_i32_185
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v293 : BitVec 32 := Scalar.muli v8 c1_i32_186
  let v294 : BitVec 32 := Scalar.addi v292 v293
  v294.toNat
def k0_off21 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_197 : BitVec 32 := 0#32
  let c0_i32_198 : BitVec 32 := 0#32
  ![v10.toNat, 0, 0]
def k0_off22 (d0 : Dev nD) : Fin 3 → Nat :=
  let c2_i32_191 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v303 : BitVec 32 := Scalar.muli c2_i32_191 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v304 : BitVec 32 := Scalar.addi v303 v5
  let c0_i32_199 : BitVec 32 := 0#32
  let c0_i32_200 : BitVec 32 := 0#32
  ![v304.toNat, 0, 0]
def k0_dev19 (d0 : Dev nD) : Nat :=
  let c0_i32_194 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_193 : BitVec 32 := 4#32
  let v305 : BitVec 32 := Scalar.muli v11 c4_i32_193
  let v306 : BitVec 32 := Scalar.addi c0_i32_194 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v307 : BitVec 32 := Scalar.muli v5 c2_i32_195
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v309 : BitVec 32 := Scalar.muli v8 c1_i32_196
  let v310 : BitVec 32 := Scalar.addi v308 v309
  v310.toNat
def k0_off23 (d0 : Dev nD) : Fin 3 → Nat :=
  let c2_i32_201 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v319 : BitVec 32 := Scalar.muli c2_i32_201 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v320 : BitVec 32 := Scalar.addi v319 v12
  let c0_i32_209 : BitVec 32 := 0#32
  let c0_i32_210 : BitVec 32 := 0#32
  ![v320.toNat, 0, 0]
def k0_dev20 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v321 : BitVec 32 := Scalar.muli v2 c4_i32_203
  let v322 : BitVec 32 := Scalar.addi c0_i32_204 v321
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_205 : BitVec 32 := 2#32
  let v323 : BitVec 32 := Scalar.muli v12 c2_i32_205
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v325 : BitVec 32 := Scalar.muli v8 c1_i32_206
  let v326 : BitVec 32 := Scalar.addi v324 v325
  v326.toNat
def k0_off24 (d0 : Dev nD) : Fin 3 → Nat :=
  let c2_i32_211 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v335 : BitVec 32 := Scalar.muli c2_i32_211 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v336 : BitVec 32 := Scalar.addi v335 v14
  let c0_i32_219 : BitVec 32 := 0#32
  let c0_i32_220 : BitVec 32 := 0#32
  ![v336.toNat, 0, 0]
def k0_dev21 (d0 : Dev nD) : Nat :=
  let c0_i32_214 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_213 : BitVec 32 := 4#32
  let v337 : BitVec 32 := Scalar.muli v13 c4_i32_213
  let v338 : BitVec 32 := Scalar.addi c0_i32_214 v337
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_215 : BitVec 32 := 2#32
  let v339 : BitVec 32 := Scalar.muli v14 c2_i32_215
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v341 : BitVec 32 := Scalar.muli v8 c1_i32_216
  let v342 : BitVec 32 := Scalar.addi v340 v341
  v342.toNat
def k0_dev22 (d0 : Dev nD) : Nat :=
  let c0_i32_224 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_223 : BitVec 32 := 4#32
  let v353 : BitVec 32 := Scalar.muli v11 c4_i32_223
  let v354 : BitVec 32 := Scalar.addi c0_i32_224 v353
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v355 : BitVec 32 := Scalar.muli v5 c2_i32_225
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v357 : BitVec 32 := Scalar.muli v8 c1_i32_226
  let v358 : BitVec 32 := Scalar.addi v356 v357
  v358.toNat
def k0_dev23 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v369 : BitVec 32 := Scalar.muli v2 c4_i32_233
  let v370 : BitVec 32 := Scalar.addi c0_i32_234 v369
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_235 : BitVec 32 := 2#32
  let v371 : BitVec 32 := Scalar.muli v12 c2_i32_235
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v373 : BitVec 32 := Scalar.muli v8 c1_i32_236
  let v374 : BitVec 32 := Scalar.addi v372 v373
  v374.toNat
def k0_dev24 (d0 : Dev nD) : Nat :=
  let c0_i32_244 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_243 : BitVec 32 := 4#32
  let v385 : BitVec 32 := Scalar.muli v13 c4_i32_243
  let v386 : BitVec 32 := Scalar.addi c0_i32_244 v385
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_245 : BitVec 32 := 2#32
  let v387 : BitVec 32 := Scalar.muli v14 c2_i32_245
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v389 : BitVec 32 := Scalar.muli v8 c1_i32_246
  let v390 : BitVec 32 := Scalar.addi v388 v389
  v390.toNat
def k0_dev25 (d0 : Dev nD) : Nat :=
  let c0_i32_254 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_253 : BitVec 32 := 4#32
  let v401 : BitVec 32 := Scalar.muli v11 c4_i32_253
  let v402 : BitVec 32 := Scalar.addi c0_i32_254 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v403 : BitVec 32 := Scalar.muli v5 c2_i32_255
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v405 : BitVec 32 := Scalar.muli v8 c1_i32_256
  let v406 : BitVec 32 := Scalar.addi v404 v405
  v406.toNat
def k0_dev26 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v417 : BitVec 32 := Scalar.muli v2 c4_i32_263
  let v418 : BitVec 32 := Scalar.addi c0_i32_264 v417
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_265 : BitVec 32 := 2#32
  let v419 : BitVec 32 := Scalar.muli v12 c2_i32_265
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v421 : BitVec 32 := Scalar.muli v8 c1_i32_266
  let v422 : BitVec 32 := Scalar.addi v420 v421
  v422.toNat
def k0_dev27 (d0 : Dev nD) : Nat :=
  let c0_i32_274 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_273 : BitVec 32 := 4#32
  let v433 : BitVec 32 := Scalar.muli v13 c4_i32_273
  let v434 : BitVec 32 := Scalar.addi c0_i32_274 v433
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_275 : BitVec 32 := 2#32
  let v435 : BitVec 32 := Scalar.muli v14 c2_i32_275
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v437 : BitVec 32 := Scalar.muli v8 c1_i32_276
  let v438 : BitVec 32 := Scalar.addi v436 v437
  v438.toNat
def k0_dev28 (d0 : Dev nD) : Nat :=
  let c0_i32_284 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_283 : BitVec 32 := 4#32
  let v449 : BitVec 32 := Scalar.muli v11 c4_i32_283
  let v450 : BitVec 32 := Scalar.addi c0_i32_284 v449
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v451 : BitVec 32 := Scalar.muli v5 c2_i32_285
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v453 : BitVec 32 := Scalar.muli v8 c1_i32_286
  let v454 : BitVec 32 := Scalar.addi v452 v453
  v454.toNat
def k0_dev29 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v465 : BitVec 32 := Scalar.muli v2 c4_i32_293
  let v466 : BitVec 32 := Scalar.addi c0_i32_294 v465
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_295 : BitVec 32 := 2#32
  let v467 : BitVec 32 := Scalar.muli v12 c2_i32_295
  let v468 : BitVec 32 := Scalar.addi v466 v467
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v469 : BitVec 32 := Scalar.muli v8 c1_i32_296
  let v470 : BitVec 32 := Scalar.addi v468 v469
  v470.toNat
def k0_dev30 (d0 : Dev nD) : Nat :=
  let c0_i32_304 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_303 : BitVec 32 := 4#32
  let v481 : BitVec 32 := Scalar.muli v13 c4_i32_303
  let v482 : BitVec 32 := Scalar.addi c0_i32_304 v481
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_305 : BitVec 32 := 2#32
  let v483 : BitVec 32 := Scalar.muli v14 c2_i32_305
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v485 : BitVec 32 := Scalar.muli v8 c1_i32_306
  let v486 : BitVec 32 := Scalar.addi v484 v485
  v486.toNat
-- ==== ScatterRef.lean ====
abbrev S32x2048x1424 : Shape := ⟨3, ![32, 2048, 1424]⟩
abbrev S32x512x1536 : Shape := ⟨3, ![32, 512, 1536]⟩
abbrev S32x256x2048 : Shape := ⟨3, ![32, 256, 2048]⟩
abbrev S32x512x4096 : Shape := ⟨3, ![32, 512, 4096]⟩
abbrev S32x2048x4096 : Shape := ⟨3, ![32, 2048, 4096]⟩
abbrev S32x2048x3072 : Shape := ⟨3, ![32, 2048, 3072]⟩
abbrev S4x2x4x2048x1424 : Shape := ⟨5, ![4, 2, 4, 2048, 1424]⟩
abbrev S4x2x4x512x1536 : Shape := ⟨5, ![4, 2, 4, 512, 1536]⟩
abbrev S4x2x4x256x2048 : Shape := ⟨5, ![4, 2, 4, 256, 2048]⟩
abbrev S4x2x4x512x4096 : Shape := ⟨5, ![4, 2, 4, 512, 4096]⟩
abbrev S4x2x4x2048x4096 : Shape := ⟨5, ![4, 2, 4, 2048, 4096]⟩
abbrev S4x2x4x2048x3072 : Shape := ⟨5, ![4, 2, 4, 2048, 3072]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x1424, .bf16⟩
  | .hbm, ⟨1, _⟩ => ⟨S32x512x1536, .bf16⟩
  | .hbm, ⟨2, _⟩ => ⟨S32x256x2048, .bf16⟩
  | .hbm, ⟨3, _⟩ => ⟨S32x512x4096, .bf16⟩
  | .hbm, ⟨4, _⟩ => ⟨S32x2048x4096, .bf16⟩
  | .hbm, ⟨5, _⟩ => ⟨S32x512x4096, .bf16⟩
  | .hbm, ⟨6, _⟩ => ⟨S32x2048x3072, .bf16⟩
  | .hbm, ⟨7, _⟩ => ⟨S32x512x4096, .bf16⟩
  | .hbm, ⟨8, _⟩ => ⟨S32x2048x3072, .bf16⟩
  | .hbm, ⟨9, _⟩ => ⟨S32x512x4096, .bf16⟩
  | .hbm, ⟨10, _⟩ => ⟨S4x2x4x2048x1424, .bf16⟩
  | .hbm, ⟨11, _⟩ => ⟨S4x2x4x2048x1424, .bf16⟩
  | .hbm, ⟨12, _⟩ => ⟨S32x2048x1424, .bf16⟩
  | .hbm, ⟨13, _⟩ => ⟨S4x2x4x512x1536, .bf16⟩
  | .hbm, ⟨14, _⟩ => ⟨S4x2x4x512x1536, .bf16⟩
  | .hbm, ⟨15, _⟩ => ⟨S32x512x1536, .bf16⟩
  | .hbm, ⟨16, _⟩ => ⟨S4x2x4x256x2048, .bf16⟩
  | .hbm, ⟨17, _⟩ => ⟨S4x2x4x256x2048, .bf16⟩
  | .hbm, ⟨18, _⟩ => ⟨S32x256x2048, .bf16⟩
  | .hbm, ⟨19, _⟩ => ⟨S4x2x4x512x4096, .bf16⟩
  | .hbm, ⟨20, _⟩ => ⟨S4x2x4x512x4096, .bf16⟩
  | .hbm, ⟨21, _⟩ => ⟨S32x512x4096, .bf16⟩
  | .hbm, ⟨22, _⟩ => ⟨S4x2x4x2048x4096, .bf16⟩
  | .hbm, ⟨23, _⟩ => ⟨S4x2x4x2048x4096, .bf16⟩
  | .hbm, ⟨24, _⟩ => ⟨S32x2048x4096, .bf16⟩
  | .hbm, ⟨25, _⟩ => ⟨S4x2x4x512x4096, .bf16⟩
  | .hbm, ⟨26, _⟩ => ⟨S4x2x4x512x4096, .bf16⟩
  | .hbm, ⟨27, _⟩ => ⟨S32x512x4096, .bf16⟩
  | .hbm, ⟨28, _⟩ => ⟨S4x2x4x2048x3072, .bf16⟩
  | .hbm, ⟨29, _⟩ => ⟨S4x2x4x2048x3072, .bf16⟩
  | .hbm, ⟨30, _⟩ => ⟨S32x2048x3072, .bf16⟩
  | .hbm, ⟨31, _⟩ => ⟨S4x2x4x512x4096, .bf16⟩
  | .hbm, ⟨32, _⟩ => ⟨S4x2x4x512x4096, .bf16⟩
  | .hbm, ⟨33, _⟩ => ⟨S32x512x4096, .bf16⟩
  | .hbm, ⟨34, _⟩ => ⟨S4x2x4x2048x3072, .bf16⟩
  | .hbm, ⟨35, _⟩ => ⟨S4x2x4x2048x3072, .bf16⟩
  | .hbm, ⟨36, _⟩ => ⟨S32x2048x3072, .bf16⟩
  | .hbm, ⟨37, _⟩ => ⟨S4x2x4x512x4096, .bf16⟩
  | .hbm, ⟨38, _⟩ => ⟨S4x2x4x512x4096, .bf16⟩
  | .hbm, ⟨39, _⟩ => ⟨S32x512x4096, .bf16⟩
  | _, _ => ⟨S32x2048x1424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Join.lean ====
abbrev S2048x1424 : Shape := ⟨2, ![2048, 1424]⟩
abbrev S512x1536 : Shape := ⟨2, ![512, 1536]⟩
abbrev S256x2048 : Shape := ⟨2, ![256, 2048]⟩
abbrev S512x4096 : Shape := ⟨2, ![512, 4096]⟩
abbrev S2048x4096 : Shape := ⟨2, ![2048, 4096]⟩
abbrev S2048x3072 : Shape := ⟨2, ![2048, 3072]⟩
abbrev S4096x1424 : Shape := ⟨2, ![4096, 1424]⟩
abbrev S1024x1536 : Shape := ⟨2, ![1024, 1536]⟩
abbrev S512x2048 : Shape := ⟨2, ![512, 2048]⟩
abbrev S1024x4096 : Shape := ⟨2, ![1024, 4096]⟩
abbrev S4096x4096 : Shape := ⟨2, ![4096, 4096]⟩
abbrev S4096x3072 : Shape := ⟨2, ![4096, 3072]⟩
abbrev S10 : Shape := ⟨1, ![10]⟩
abbrev S1 : Shape := ⟨1, ![1]⟩
abbrev S_ : Shape := ⟨0, ![]⟩

abbrev nBuf : Space → Nat
  | .hbm => 116
  | .vmem => 0
  | .smem => 0
  | _ => 0

abbrev bufTy : (tb : Table) → Fin (tcTables nBuf tb) → BufTy
  | .hbm, ⟨0, _⟩ => ⟨S2048x1424, .f32⟩
  | .hbm, ⟨1, _⟩ => ⟨S512x1536, .f32⟩
  | .hbm, ⟨2, _⟩ => ⟨S256x2048, .f32⟩
  | .hbm, ⟨3, _⟩ => ⟨S512x4096, .f32⟩
  | .hbm, ⟨4, _⟩ => ⟨S2048x4096, .f32⟩
  | .hbm, ⟨5, _⟩ => ⟨S512x4096, .f32⟩
  | .hbm, ⟨6, _⟩ => ⟨S2048x3072, .f32⟩
  | .hbm, ⟨7, _⟩ => ⟨S512x4096, .f32⟩
  | .hbm, ⟨8, _⟩ => ⟨S2048x3072, .f32⟩
  | .hbm, ⟨9, _⟩ => ⟨S512x4096, .f32⟩
  | .hbm, ⟨10, _⟩ => ⟨S4096x1424, .f32⟩
  | .hbm, ⟨11, _⟩ => ⟨S1024x1536, .f32⟩
  | .hbm, ⟨12, _⟩ => ⟨S512x2048, .f32⟩
  | .hbm, ⟨13, _⟩ => ⟨S1024x4096, .f32⟩
  | .hbm, ⟨14, _⟩ => ⟨S4096x4096, .f32⟩
  | .hbm, ⟨15, _⟩ => ⟨S1024x4096, .f32⟩
  | .hbm, ⟨16, _⟩ => ⟨S4096x3072, .f32⟩
  | .hbm, ⟨17, _⟩ => ⟨S1024x4096, .f32⟩
  | .hbm, ⟨18, _⟩ => ⟨S4096x3072, .f32⟩
  | .hbm, ⟨19, _⟩ => ⟨S1024x4096, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4096x1424, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1024x1536, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S512x2048, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1024x4096, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S4096x4096, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1024x4096, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S4096x3072, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S1024x4096, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S4096x3072, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S1024x4096, .f32⟩
  | _, _ => ⟨S2048x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩
abbrev main_c : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_c_3 : Ref sig .tc := ⟨.hbm, 30, rfl⟩
abbrev main_v8 : Ref sig .tc := ⟨.hbm, 31, rfl⟩
abbrev main_v9 : Ref sig .tc := ⟨.hbm, 32, rfl⟩
abbrev main_c_4 : Ref sig .tc := ⟨.hbm, 33, rfl⟩
abbrev main_v10 : Ref sig .tc := ⟨.hbm, 34, rfl⟩
abbrev main_c_5 : Ref sig .tc := ⟨.hbm, 35, rfl⟩
abbrev main_v11 : Ref sig .tc := ⟨.hbm, 36, rfl⟩
abbrev main_c_6 : Ref sig .tc := ⟨.hbm, 37, rfl⟩
abbrev main_v12 : Ref sig .tc := ⟨.hbm, 38, rfl⟩
abbrev main_c_7 : Ref sig .tc := ⟨.hbm, 39, rfl⟩
abbrev main_v13 : Ref sig .tc := ⟨.hbm, 40, rfl⟩
abbrev main_v14 : Ref sig .tc := ⟨.hbm, 41, rfl⟩
abbrev main_c_8 : Ref sig .tc := ⟨.hbm, 42, rfl⟩
abbrev main_v15 : Ref sig .tc := ⟨.hbm, 43, rfl⟩
abbrev main_c_9 : Ref sig .tc := ⟨.hbm, 44, rfl⟩
abbrev main_v16 : Ref sig .tc := ⟨.hbm, 45, rfl⟩
abbrev main_c_10 : Ref sig .tc := ⟨.hbm, 46, rfl⟩
abbrev main_v17 : Ref sig .tc := ⟨.hbm, 47, rfl⟩
abbrev main_c_11 : Ref sig .tc := ⟨.hbm, 48, rfl⟩
abbrev main_v18 : Ref sig .tc := ⟨.hbm, 49, rfl⟩
abbrev main_v19 : Ref sig .tc := ⟨.hbm, 50, rfl⟩
abbrev main_c_12 : Ref sig .tc := ⟨.hbm, 51, rfl⟩
abbrev main_v20 : Ref sig .tc := ⟨.hbm, 52, rfl⟩
abbrev main_c_13 : Ref sig .tc := ⟨.hbm, 53, rfl⟩
abbrev main_v21 : Ref sig .tc := ⟨.hbm, 54, rfl⟩
abbrev main_c_14 : Ref sig .tc := ⟨.hbm, 55, rfl⟩
abbrev main_v22 : Ref sig .tc := ⟨.hbm, 56, rfl⟩
abbrev main_c_15 : Ref sig .tc := ⟨.hbm, 57, rfl⟩
abbrev main_v23 : Ref sig .tc := ⟨.hbm, 58, rfl⟩
abbrev main_v24 : Ref sig .tc := ⟨.hbm, 59, rfl⟩
abbrev main_c_16 : Ref sig .tc := ⟨.hbm, 60, rfl⟩
abbrev main_v25 : Ref sig .tc := ⟨.hbm, 61, rfl⟩
abbrev main_c_17 : Ref sig .tc := ⟨.hbm, 62, rfl⟩
abbrev main_v26 : Ref sig .tc := ⟨.hbm, 63, rfl⟩
abbrev main_c_18 : Ref sig .tc := ⟨.hbm, 64, rfl⟩
abbrev main_v27 : Ref sig .tc := ⟨.hbm, 65, rfl⟩
abbrev main_c_19 : Ref sig .tc := ⟨.hbm, 66, rfl⟩
abbrev main_v28 : Ref sig .tc := ⟨.hbm, 67, rfl⟩
abbrev main_v29 : Ref sig .tc := ⟨.hbm, 68, rfl⟩
abbrev main_c_20 : Ref sig .tc := ⟨.hbm, 69, rfl⟩
abbrev main_v30 : Ref sig .tc := ⟨.hbm, 70, rfl⟩
abbrev main_c_21 : Ref sig .tc := ⟨.hbm, 71, rfl⟩
abbrev main_v31 : Ref sig .tc := ⟨.hbm, 72, rfl⟩
abbrev main_c_22 : Ref sig .tc := ⟨.hbm, 73, rfl⟩
abbrev main_v32 : Ref sig .tc := ⟨.hbm, 74, rfl⟩
abbrev main_c_23 : Ref sig .tc := ⟨.hbm, 75, rfl⟩
abbrev main_v33 : Ref sig .tc := ⟨.hbm, 76, rfl⟩
abbrev main_v34 : Ref sig .tc := ⟨.hbm, 77, rfl⟩
abbrev main_c_24 : Ref sig .tc := ⟨.hbm, 78, rfl⟩
abbrev main_v35 : Ref sig .tc := ⟨.hbm, 79, rfl⟩
abbrev main_c_25 : Ref sig .tc := ⟨.hbm, 80, rfl⟩
abbrev main_v36 : Ref sig .tc := ⟨.hbm, 81, rfl⟩
abbrev main_c_26 : Ref sig .tc := ⟨.hbm, 82, rfl⟩
abbrev main_v37 : Ref sig .tc := ⟨.hbm, 83, rfl⟩
abbrev main_c_27 : Ref sig .tc := ⟨.hbm, 84, rfl⟩
abbrev main_v38 : Ref sig .tc := ⟨.hbm, 85, rfl⟩
abbrev main_v39 : Ref sig .tc := ⟨.hbm, 86, rfl⟩
abbrev main_c_28 : Ref sig .tc := ⟨.hbm, 87, rfl⟩
abbrev main_v40 : Ref sig .tc := ⟨.hbm, 88, rfl⟩
abbrev main_c_29 : Ref sig .tc := ⟨.hbm, 89, rfl⟩
abbrev main_v41 : Ref sig .tc := ⟨.hbm, 90, rfl⟩
abbrev main_c_30 : Ref sig .tc := ⟨.hbm, 91, rfl⟩
abbrev main_v42 : Ref sig .tc := ⟨.hbm, 92, rfl⟩
abbrev main_c_31 : Ref sig .tc := ⟨.hbm, 93, rfl⟩
abbrev main_v43 : Ref sig .tc := ⟨.hbm, 94, rfl⟩
abbrev main_v44 : Ref sig .tc := ⟨.hbm, 95, rfl⟩
abbrev main_c_32 : Ref sig .tc := ⟨.hbm, 96, rfl⟩
abbrev main_v45 : Ref sig .tc := ⟨.hbm, 97, rfl⟩
abbrev main_c_33 : Ref sig .tc := ⟨.hbm, 98, rfl⟩
abbrev main_v46 : Ref sig .tc := ⟨.hbm, 99, rfl⟩
abbrev main_c_34 : Ref sig .tc := ⟨.hbm, 100, rfl⟩
abbrev main_v47 : Ref sig .tc := ⟨.hbm, 101, rfl⟩
abbrev main_c_35 : Ref sig .tc := ⟨.hbm, 102, rfl⟩
abbrev main_v48 : Ref sig .tc := ⟨.hbm, 103, rfl⟩
abbrev main_v49 : Ref sig .tc := ⟨.hbm, 104, rfl⟩
abbrev main_c_36 : Ref sig .tc := ⟨.hbm, 105, rfl⟩
abbrev main_v50 : Ref sig .tc := ⟨.hbm, 106, rfl⟩
abbrev main_c_37 : Ref sig .tc := ⟨.hbm, 107, rfl⟩
abbrev main_v51 : Ref sig .tc := ⟨.hbm, 108, rfl⟩
abbrev main_c_38 : Ref sig .tc := ⟨.hbm, 109, rfl⟩
abbrev main_v52 : Ref sig .tc := ⟨.hbm, 110, rfl⟩
abbrev main_c_39 : Ref sig .tc := ⟨.hbm, 111, rfl⟩
abbrev main_v53 : Ref sig .tc := ⟨.hbm, 112, rfl⟩
abbrev main_v54 : Ref sig .tc := ⟨.hbm, 113, rfl⟩
abbrev main_c_40 : Ref sig .tc := ⟨.hbm, 114, rfl⟩
abbrev main_v55 : Ref sig .tc := ⟨.hbm, 115, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v10 : BitVec 32 := Scalar.muli v8 c2048_i32
  let c0_i32_9 : BitVec 32 := 0#32
  ![v10.toNat, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v13 : BitVec 32 := Scalar.muli v5 c2_i32_7
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v15 : BitVec 32 := Scalar.muli v9 c1_i32_8
  let v16 : BitVec 32 := Scalar.addi v14 v15
  v16.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v22 : BitVec 32 := Scalar.muli v8 c512_i32
  let c0_i32_16 : BitVec 32 := 0#32
  ![v22.toNat, 0]
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v23 : BitVec 32 := Scalar.muli v2 c4_i32_12
  let v24 : BitVec 32 := Scalar.addi c0_i32_13 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v25 : BitVec 32 := Scalar.muli v5 c2_i32_14
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_15 : BitVec 32 := 1#32
  let v27 : BitVec 32 := Scalar.muli v9 c1_i32_15
  let v28 : BitVec 32 := Scalar.addi v26 v27
  v28.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v34 : BitVec 32 := Scalar.muli v8 c256_i32
  let c0_i32_23 : BitVec 32 := 0#32
  ![v34.toNat, 0]
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v35 : BitVec 32 := Scalar.muli v2 c4_i32_19
  let v36 : BitVec 32 := Scalar.addi c0_i32_20 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v37 : BitVec 32 := Scalar.muli v5 c2_i32_21
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v39 : BitVec 32 := Scalar.muli v9 c1_i32_22
  let v40 : BitVec 32 := Scalar.addi v38 v39
  v40.toNat
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_24 : BitVec 32 := 512#32
  let v46 : BitVec 32 := Scalar.muli v8 c512_i32_24
  let c0_i32_30 : BitVec 32 := 0#32
  ![v46.toNat, 0]
def k0_dev4 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v47 : BitVec 32 := Scalar.muli v2 c4_i32_26
  let v48 : BitVec 32 := Scalar.addi c0_i32_27 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v49 : BitVec 32 := Scalar.muli v5 c2_i32_28
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v51 : BitVec 32 := Scalar.muli v9 c1_i32_29
  let v52 : BitVec 32 := Scalar.addi v50 v51
  v52.toNat
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_31 : BitVec 32 := 2048#32
  let v58 : BitVec 32 := Scalar.muli v8 c2048_i32_31
  let c0_i32_38 : BitVec 32 := 0#32
  ![v58.toNat, 0]
def k0_dev5 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v59 : BitVec 32 := Scalar.muli v2 c4_i32_34
  let v60 : BitVec 32 := Scalar.addi c0_i32_35 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v61 : BitVec 32 := Scalar.muli v5 c2_i32_36
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v63 : BitVec 32 := Scalar.muli v9 c1_i32_37
  let v64 : BitVec 32 := Scalar.addi v62 v63
  v64.toNat
def k0_dev6 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v71 : BitVec 32 := Scalar.muli v2 c4_i32_41
  let v72 : BitVec 32 := Scalar.addi c0_i32_42 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v73 : BitVec 32 := Scalar.muli v5 c2_i32_43
  let v74 : BitVec 32 := Scalar.addi v72 v73
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v75 : BitVec 32 := Scalar.muli v9 c1_i32_44
  let v76 : BitVec 32 := Scalar.addi v74 v75
  v76.toNat
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_46 : BitVec 32 := 2048#32
  let v82 : BitVec 32 := Scalar.muli v8 c2048_i32_46
  let c0_i32_52 : BitVec 32 := 0#32
  ![v82.toNat, 0]
def k0_dev7 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v83 : BitVec 32 := Scalar.muli v2 c4_i32_48
  let v84 : BitVec 32 := Scalar.addi c0_i32_49 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v85 : BitVec 32 := Scalar.muli v5 c2_i32_50
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_51 : BitVec 32 := 1#32
  let v87 : BitVec 32 := Scalar.muli v9 c1_i32_51
  let v88 : BitVec 32 := Scalar.addi v86 v87
  v88.toNat
def k0_dev8 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v95 : BitVec 32 := Scalar.muli v2 c4_i32_55
  let v96 : BitVec 32 := Scalar.addi c0_i32_56 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v97 : BitVec 32 := Scalar.muli v5 c2_i32_57
  let v98 : BitVec 32 := Scalar.addi v96 v97
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_58 : BitVec 32 := 1#32
  let v99 : BitVec 32 := Scalar.muli v9 c1_i32_58
  let v100 : BitVec 32 := Scalar.addi v98 v99
  v100.toNat
def k0_dev9 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v107 : BitVec 32 := Scalar.muli v2 c4_i32_62
  let v108 : BitVec 32 := Scalar.addi c0_i32_63 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v109 : BitVec 32 := Scalar.muli v5 c2_i32_64
  let v110 : BitVec 32 := Scalar.addi v108 v109
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v111 : BitVec 32 := Scalar.muli v9 c1_i32_65
  let v112 : BitVec 32 := Scalar.addi v110 v111
  v112.toNat
def k0_dev10 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v119 : BitVec 32 := Scalar.muli v2 c4_i32_69
  let v120 : BitVec 32 := Scalar.addi c0_i32_70 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v121 : BitVec 32 := Scalar.muli v5 c2_i32_71
  let v122 : BitVec 32 := Scalar.addi v120 v121
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_72 : BitVec 32 := 1#32
  let v123 : BitVec 32 := Scalar.muli v9 c1_i32_72
  let v124 : BitVec 32 := Scalar.addi v122 v123
  v124.toNat
def k0_off7 (d0 : Dev nD) : Fin 2 → Nat :=
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v130 : BitVec 32 := Scalar.subi c1_i32_74 v8
  let c2048_i32_75 : BitVec 32 := 2048#32
  let v131 : BitVec 32 := Scalar.muli v130 c2048_i32_75
  let c0_i32_82 : BitVec 32 := 0#32
  ![v131.toNat, 0]
def k0_off8 (d0 : Dev nD) : Fin 2 → Nat :=
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.subi c1_i32_83 v8
  let c512_i32_84 : BitVec 32 := 512#32
  let v142 : BitVec 32 := Scalar.muli v141 c512_i32_84
  let c0_i32_91 : BitVec 32 := 0#32
  ![v142.toNat, 0]
def k0_off9 (d0 : Dev nD) : Fin 2 → Nat :=
  let c1_i32_93 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v153 : BitVec 32 := Scalar.subi c1_i32_93 v8
  let c256_i32_94 : BitVec 32 := 256#32
  let v154 : BitVec 32 := Scalar.muli v153 c256_i32_94
  let c0_i32_101 : BitVec 32 := 0#32
  ![v154.toNat, 0]
def k0_off10 (d0 : Dev nD) : Fin 2 → Nat :=
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.subi c1_i32_103 v8
  let c512_i32_104 : BitVec 32 := 512#32
  let v166 : BitVec 32 := Scalar.muli v165 c512_i32_104
  let c0_i32_111 : BitVec 32 := 0#32
  ![v166.toNat, 0]
def k0_off11 (d0 : Dev nD) : Fin 2 → Nat :=
  let c1_i32_113 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v177 : BitVec 32 := Scalar.subi c1_i32_113 v8
  let c2048_i32_114 : BitVec 32 := 2048#32
  let v178 : BitVec 32 := Scalar.muli v177 c2048_i32_114
  let c0_i32_121 : BitVec 32 := 0#32
  ![v178.toNat, 0]
def k0_off12 (d0 : Dev nD) : Fin 2 → Nat :=
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.subi c1_i32_133 v8
  let c2048_i32_134 : BitVec 32 := 2048#32
  let v202 : BitVec 32 := Scalar.muli v201 c2048_i32_134
  let c0_i32_141 : BitVec 32 := 0#32
  ![v202.toNat, 0]
-- ==== JoinRef.lean ====
abbrev S16384x1424 : Shape := ⟨2, ![16384, 1424]⟩
abbrev S4096x1536 : Shape := ⟨2, ![4096, 1536]⟩
abbrev S2048x2048 : Shape := ⟨2, ![2048, 2048]⟩
abbrev S4096x4096 : Shape := ⟨2, ![4096, 4096]⟩
abbrev S16384x4096 : Shape := ⟨2, ![16384, 4096]⟩
abbrev S16384x3072 : Shape := ⟨2, ![16384, 3072]⟩
abbrev S4x2x2048x1424 : Shape := ⟨4, ![4, 2, 2048, 1424]⟩
abbrev S4x2x512x1536 : Shape := ⟨4, ![4, 2, 512, 1536]⟩
abbrev S4x2x256x2048 : Shape := ⟨4, ![4, 2, 256, 2048]⟩
abbrev S4x2x512x4096 : Shape := ⟨4, ![4, 2, 512, 4096]⟩
abbrev S4x2x2048x4096 : Shape := ⟨4, ![4, 2, 2048, 4096]⟩
abbrev S4x2x2048x3072 : Shape := ⟨4, ![4, 2, 2048, 3072]⟩

abbrev nBuf : Space → Nat
  | .hbm => 30
  | .vmem => 0
  | .smem => 0
  | _ => 0

abbrev bufTy : (tb : Table) → Fin (tcTables nBuf tb) → BufTy
  | .hbm, ⟨0, _⟩ => ⟨S16384x1424, .f32⟩
  | .hbm, ⟨1, _⟩ => ⟨S4096x1536, .f32⟩
  | .hbm, ⟨2, _⟩ => ⟨S2048x2048, .f32⟩
  | .hbm, ⟨3, _⟩ => ⟨S4096x4096, .f32⟩
  | .hbm, ⟨4, _⟩ => ⟨S16384x4096, .f32⟩
  | .hbm, ⟨5, _⟩ => ⟨S4096x4096, .f32⟩
  | .hbm, ⟨6, _⟩ => ⟨S16384x3072, .f32⟩
  | .hbm, ⟨7, _⟩ => ⟨S4096x4096, .f32⟩
  | .hbm, ⟨8, _⟩ => ⟨S16384x3072, .f32⟩
  | .hbm, ⟨9, _⟩ => ⟨S4096x4096, .f32⟩
  | .hbm, ⟨10, _⟩ => ⟨S4x2x2048x1424, .f32⟩
  | .hbm, ⟨11, _⟩ => ⟨S16384x1424, .f32⟩
  | .hbm, ⟨12, _⟩ => ⟨S4x2x512x1536, .f32⟩
  | .hbm, ⟨13, _⟩ => ⟨S4096x1536, .f32⟩
  | .hbm, ⟨14, _⟩ => ⟨S4x2x256x2048, .f32⟩
  | .hbm, ⟨15, _⟩ => ⟨S2048x2048, .f32⟩
  | .hbm, ⟨16, _⟩ => ⟨S4x2x512x4096, .f32⟩
  | .hbm, ⟨17, _⟩ => ⟨S4096x4096, .f32⟩
  | .hbm, ⟨18, _⟩ => ⟨S4x2x2048x4096, .f32⟩
  | .hbm, ⟨19, _⟩ => ⟨S16384x4096, .f32⟩
  | .hbm, ⟨20, _⟩ => ⟨S4x2x512x4096, .f32⟩
  | .hbm, ⟨21, _⟩ => ⟨S4096x4096, .f32⟩
  | .hbm, ⟨22, _⟩ => ⟨S4x2x2048x3072, .f32⟩
  | .hbm, ⟨23, _⟩ => ⟨S16384x3072, .f32⟩
  | .hbm, ⟨24, _⟩ => ⟨S4x2x512x4096, .f32⟩
  | .hbm, ⟨25, _⟩ => ⟨S4096x4096, .f32⟩
  | .hbm, ⟨26, _⟩ => ⟨S4x2x2048x3072, .f32⟩
  | .hbm, ⟨27, _⟩ => ⟨S16384x3072, .f32⟩
  | .hbm, ⟨28, _⟩ => ⟨S4x2x512x4096, .f32⟩
  | .hbm, ⟨29, _⟩ => ⟨S4096x4096, .f32⟩
  | _, _ => ⟨S16384x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Gather.lean ====
abbrev S4096x1424 : Shape := ⟨2, ![4096, 1424]⟩
abbrev S1024x1536 : Shape := ⟨2, ![1024, 1536]⟩
abbrev S512x2048 : Shape := ⟨2, ![512, 2048]⟩
abbrev S1024x4096 : Shape := ⟨2, ![1024, 4096]⟩
abbrev S4096x4096 : Shape := ⟨2, ![4096, 4096]⟩
abbrev S4096x3072 : Shape := ⟨2, ![4096, 3072]⟩
abbrev S4x4096x1424 : Shape := ⟨3, ![4, 4096, 1424]⟩
abbrev S4x1024x1536 : Shape := ⟨3, ![4, 1024, 1536]⟩
abbrev S4x512x2048 : Shape := ⟨3, ![4, 512, 2048]⟩
abbrev S4x1024x4096 : Shape := ⟨3, ![4, 1024, 4096]⟩
abbrev S4x4096x4096 : Shape := ⟨3, ![4, 4096, 4096]⟩
abbrev S4x4096x3072 : Shape := ⟨3, ![4, 4096, 3072]⟩
abbrev S60 : Shape := ⟨1, ![60]⟩
abbrev S1 : Shape := ⟨1, ![1]⟩
abbrev S_ : Shape := ⟨0, ![]⟩
abbrev S1x2048x1424 : Shape := ⟨3, ![1, 2048, 1424]⟩
abbrev S2048x1424 : Shape := ⟨2, ![2048, 1424]⟩
abbrev S1x512x1536 : Shape := ⟨3, ![1, 512, 1536]⟩
abbrev S512x1536 : Shape := ⟨2, ![512, 1536]⟩
abbrev S1x256x2048 : Shape := ⟨3, ![1, 256, 2048]⟩
abbrev S256x2048 : Shape := ⟨2, ![256, 2048]⟩
abbrev S1x512x4096 : Shape := ⟨3, ![1, 512, 4096]⟩
abbrev S512x4096 : Shape := ⟨2, ![512, 4096]⟩
abbrev S1x2048x4096 : Shape := ⟨3, ![1, 2048, 4096]⟩
abbrev S2048x4096 : Shape := ⟨2, ![2048, 4096]⟩
abbrev S1x2048x3072 : Shape := ⟨3, ![1, 2048, 3072]⟩
abbrev S2048x3072 : Shape := ⟨2, ![2048, 3072]⟩
abbrev S1x4096x1424 : Shape := ⟨3, ![1, 4096, 1424]⟩
abbrev S1x1024x1536 : Shape := ⟨3, ![1, 1024, 1536]⟩
abbrev S1x512x2048 : Shape := ⟨3, ![1, 512, 2048]⟩
abbrev S1x1024x4096 : Shape := ⟨3, ![1, 1024, 4096]⟩
abbrev S1x4096x4096 : Shape := ⟨3, ![1, 4096, 4096]⟩
abbrev S1x4096x3072 : Shape := ⟨3, ![1, 4096, 3072]⟩

abbrev nBuf : Space → Nat
  | .hbm => 125
  | .vmem => 0
  | .smem => 0
  | _ => 0

abbrev bufTy : (tb : Table) → Fin (tcTables nBuf tb) → BufTy
  | .hbm, ⟨0, _⟩ => ⟨S4096x1424, .bf16⟩
  | .hbm, ⟨1, _⟩ => ⟨S1024x1536, .bf16⟩
  | .hbm, ⟨2, _⟩ => ⟨S512x2048, .bf16⟩
  | .hbm, ⟨3, _⟩ => ⟨S1024x4096, .bf16⟩
  | .hbm, ⟨4, _⟩ => ⟨S4096x4096, .bf16⟩
  | .hbm, ⟨5, _⟩ => ⟨S1024x4096, .bf16⟩
  | .hbm, ⟨6, _⟩ => ⟨S4096x3072, .bf16⟩
  | .hbm, ⟨7, _⟩ => ⟨S1024x4096, .bf16⟩
  | .hbm, ⟨8, _⟩ => ⟨S4096x3072, .bf16⟩
  | .hbm, ⟨9, _⟩ => ⟨S1024x4096, .bf16⟩
  | .hbm, ⟨10, _⟩ => ⟨S4x4096x1424, .bf16⟩
  | .hbm, ⟨11, _⟩ => ⟨S4x1024x1536, .bf16⟩
  | .hbm, ⟨12, _⟩ => ⟨S4x512x2048, .bf16⟩
  | .hbm, ⟨13, _⟩ => ⟨S4x1024x4096, .bf16⟩
  | .hbm, ⟨14, _⟩ => ⟨S4x4096x4096, .bf16⟩
  | .hbm, ⟨15, _⟩ => ⟨S4x1024x4096, .bf16⟩
  | .hbm, ⟨16, _⟩ => ⟨S4x4096x3072, .bf16⟩
  | .hbm, ⟨17, _⟩ => ⟨S4x1024x4096, .bf16⟩
  | .hbm, ⟨18, _⟩ => ⟨S4x4096x3072, .bf16⟩
  | .hbm, ⟨19, _⟩ => ⟨S4x1024x4096, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4096x1424, .bf16⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S4x4096x1424, .bf16⟩
  | .hbm, ⟨44, _⟩ => ⟨S1x1024x1536, .bf16⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S4x1024x1536, .bf16⟩
  | .hbm, ⟨53, _⟩ => ⟨S1x512x2048, .bf16⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S4x512x2048, .bf16⟩
  | .hbm, ⟨62, _⟩ => ⟨S1x1024x4096, .bf16⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S4x1024x4096, .bf16⟩
  | .hbm, ⟨71, _⟩ => ⟨S1x4096x4096, .bf16⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S4x4096x4096, .bf16⟩
  | .hbm, ⟨80, _⟩ => ⟨S1x1024x4096, .bf16⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S4x1024x4096, .bf16⟩
  | .hbm, ⟨89, _⟩ => ⟨S1x4096x3072, .bf16⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S4x4096x3072, .bf16⟩
  | .hbm, ⟨98, _⟩ => ⟨S1x1024x4096, .bf16⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S4x1024x4096, .bf16⟩
  | .hbm, ⟨107, _⟩ => ⟨S1x4096x3072, .bf16⟩
  | .hbm, ⟨108, _⟩ => ⟨S_, .i32⟩
  | .hbm, ⟨109, _⟩ => ⟨S_, .i1⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S4x4096x3072, .bf16⟩
  | .hbm, ⟨116, _⟩ => ⟨S1x1024x4096, .bf16⟩
  | .hbm, ⟨117, _⟩ => ⟨S_, .i32⟩
  | .hbm, ⟨118, _⟩ => ⟨S_, .i1⟩
  | .hbm, ⟨119, _⟩ => ⟨S_, .i32⟩
  | .hbm, ⟨120, _⟩ => ⟨S_, .i32⟩
  | .hbm, ⟨121, _⟩ => ⟨S_, .i32⟩
  | .hbm, ⟨122, _⟩ => ⟨S_, .i32⟩
  | .hbm, ⟨123, _⟩ => ⟨S_, .i32⟩
  | .hbm, ⟨124, _⟩ => ⟨S4x1024x4096, .bf16⟩
  | _, _ => ⟨S4096x1424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩
abbrev main_c : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_c_2 : Ref sig .tc := ⟨.hbm, 28, rfl⟩
abbrev main_c_3 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_c_5 : Ref sig .tc := ⟨.hbm, 38, rfl⟩
abbrev main_v14 : Ref sig .tc := ⟨.hbm, 39, rfl⟩
abbrev main_v15 : Ref sig .tc := ⟨.hbm, 40, rfl⟩
abbrev main_c_6 : Ref sig .tc := ⟨.hbm, 41, rfl⟩
abbrev main_c_7 : Ref sig .tc := ⟨.hbm, 42, rfl⟩
abbrev main_v16 : Ref sig .tc := ⟨.hbm, 43, rfl⟩
abbrev main_v17 : Ref sig .tc := ⟨.hbm, 44, rfl⟩
abbrev main_c_8 : Ref sig .tc := ⟨.hbm, 45, rfl⟩
abbrev main_v18 : Ref sig .tc := ⟨.hbm, 46, rfl⟩
abbrev main_c_9 : Ref sig .tc := ⟨.hbm, 47, rfl⟩
abbrev main_v19 : Ref sig .tc := ⟨.hbm, 48, rfl⟩
abbrev main_v20 : Ref sig .tc := ⟨.hbm, 49, rfl⟩
abbrev main_c_10 : Ref sig .tc := ⟨.hbm, 50, rfl⟩
abbrev main_c_11 : Ref sig .tc := ⟨.hbm, 51, rfl⟩
abbrev main_v21 : Ref sig .tc := ⟨.hbm, 52, rfl⟩
abbrev main_v22 : Ref sig .tc := ⟨.hbm, 53, rfl⟩
abbrev main_c_12 : Ref sig .tc := ⟨.hbm, 54, rfl⟩
abbrev main_v23 : Ref sig .tc := ⟨.hbm, 55, rfl⟩
abbrev main_c_13 : Ref sig .tc := ⟨.hbm, 56, rfl⟩
abbrev main_v24 : Ref sig .tc := ⟨.hbm, 57, rfl⟩
abbrev main_v25 : Ref sig .tc := ⟨.hbm, 58, rfl⟩
abbrev main_c_14 : Ref sig .tc := ⟨.hbm, 59, rfl⟩
abbrev main_c_15 : Ref sig .tc := ⟨.hbm, 60, rfl⟩
abbrev main_v26 : Ref sig .tc := ⟨.hbm, 61, rfl⟩
abbrev main_v27 : Ref sig .tc := ⟨.hbm, 62, rfl⟩
abbrev main_c_16 : Ref sig .tc := ⟨.hbm, 63, rfl⟩
abbrev main_v28 : Ref sig .tc := ⟨.hbm, 64, rfl⟩
abbrev main_c_17 : Ref sig .tc := ⟨.hbm, 65, rfl⟩
abbrev main_v29 : Ref sig .tc := ⟨.hbm, 66, rfl⟩
abbrev main_v30 : Ref sig .tc := ⟨.hbm, 67, rfl⟩
abbrev main_c_18 : Ref sig .tc := ⟨.hbm, 68, rfl⟩
abbrev main_c_19 : Ref sig .tc := ⟨.hbm, 69, rfl⟩
abbrev main_v31 : Ref sig .tc := ⟨.hbm, 70, rfl⟩
abbrev main_v32 : Ref sig .tc := ⟨.hbm, 71, rfl⟩
abbrev main_c_20 : Ref sig .tc := ⟨.hbm, 72, rfl⟩
abbrev main_v33 : Ref sig .tc := ⟨.hbm, 73, rfl⟩
abbrev main_c_21 : Ref sig .tc := ⟨.hbm, 74, rfl⟩
abbrev main_v34 : Ref sig .tc := ⟨.hbm, 75, rfl⟩
abbrev main_v35 : Ref sig .tc := ⟨.hbm, 76, rfl⟩
abbrev main_c_22 : Ref sig .tc := ⟨.hbm, 77, rfl⟩
abbrev main_c_23 : Ref sig .tc := ⟨.hbm, 78, rfl⟩
abbrev main_v36 : Ref sig .tc := ⟨.hbm, 79, rfl⟩
abbrev main_v37 : Ref sig .tc := ⟨.hbm, 80, rfl⟩
abbrev main_c_24 : Ref sig .tc := ⟨.hbm, 81, rfl⟩
abbrev main_v38 : Ref sig .tc := ⟨.hbm, 82, rfl⟩
abbrev main_c_25 : Ref sig .tc := ⟨.hbm, 83, rfl⟩
abbrev main_v39 : Ref sig .tc := ⟨.hbm, 84, rfl⟩
abbrev main_v40 : Ref sig .tc := ⟨.hbm, 85, rfl⟩
abbrev main_c_26 : Ref sig .tc := ⟨.hbm, 86, rfl⟩
abbrev main_c_27 : Ref sig .tc := ⟨.hbm, 87, rfl⟩
abbrev main_v41 : Ref sig .tc := ⟨.hbm, 88, rfl⟩
abbrev main_v42 : Ref sig .tc := ⟨.hbm, 89, rfl⟩
abbrev main_c_28 : Ref sig .tc := ⟨.hbm, 90, rfl⟩
abbrev main_v43 : Ref sig .tc := ⟨.hbm, 91, rfl⟩
abbrev main_c_29 : Ref sig .tc := ⟨.hbm, 92, rfl⟩
abbrev main_v44 : Ref sig .tc := ⟨.hbm, 93, rfl⟩
abbrev main_v45 : Ref sig .tc := ⟨.hbm, 94, rfl⟩
abbrev main_c_30 : Ref sig .tc := ⟨.hbm, 95, rfl⟩
abbrev main_c_31 : Ref sig .tc := ⟨.hbm, 96, rfl⟩
abbrev main_v46 : Ref sig .tc := ⟨.hbm, 97, rfl⟩
abbrev main_v47 : Ref sig .tc := ⟨.hbm, 98, rfl⟩
abbrev main_c_32 : Ref sig .tc := ⟨.hbm, 99, rfl⟩
abbrev main_v48 : Ref sig .tc := ⟨.hbm, 100, rfl⟩
abbrev main_c_33 : Ref sig .tc := ⟨.hbm, 101, rfl⟩
abbrev main_v49 : Ref sig .tc := ⟨.hbm, 102, rfl⟩
abbrev main_v50 : Ref sig .tc := ⟨.hbm, 103, rfl⟩
abbrev main_c_34 : Ref sig .tc := ⟨.hbm, 104, rfl⟩
abbrev main_c_35 : Ref sig .tc := ⟨.hbm, 105, rfl⟩
abbrev main_v51 : Ref sig .tc := ⟨.hbm, 106, rfl⟩
abbrev main_v52 : Ref sig .tc := ⟨.hbm, 107, rfl⟩
abbrev main_c_36 : Ref sig .tc := ⟨.hbm, 108, rfl⟩
abbrev main_v53 : Ref sig .tc := ⟨.hbm, 109, rfl⟩
abbrev main_c_37 : Ref sig .tc := ⟨.hbm, 110, rfl⟩
abbrev main_v54 : Ref sig .tc := ⟨.hbm, 111, rfl⟩
abbrev main_v55 : Ref sig .tc := ⟨.hbm, 112, rfl⟩
abbrev main_c_38 : Ref sig .tc := ⟨.hbm, 113, rfl⟩
abbrev main_c_39 : Ref sig .tc := ⟨.hbm, 114, rfl⟩
abbrev main_v56 : Ref sig .tc := ⟨.hbm, 115, rfl⟩
abbrev main_v57 : Ref sig .tc := ⟨.hbm, 116, rfl⟩
abbrev main_c_40 : Ref sig .tc := ⟨.hbm, 117, rfl⟩
abbrev main_v58 : Ref sig .tc := ⟨.hbm, 118, rfl⟩
abbrev main_c_41 : Ref sig .tc := ⟨.hbm, 119, rfl⟩
abbrev main_v59 : Ref sig .tc := ⟨.hbm, 120, rfl⟩
abbrev main_v60 : Ref sig .tc := ⟨.hbm, 121, rfl⟩
abbrev main_c_42 : Ref sig .tc := ⟨.hbm, 122, rfl⟩
abbrev main_c_43 : Ref sig .tc := ⟨.hbm, 123, rfl⟩
abbrev main_v61 : Ref sig .tc := ⟨.hbm, 124, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_9 : BitVec 32 := 2048#32
  let v17 : BitVec 32 := Scalar.muli v8 c2048_i32_9
  let c0_i32_15 : BitVec 32 := 0#32
  ![v10.toNat, v17.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v16 : BitVec 32 := Scalar.muli v8 c2048_i32
  let c0_i32_16 : BitVec 32 := 0#32
  ![v16.toNat, 0]
def k0_dev1 (d0 : Dev nD) : Nat :=
  let c0_i32_12 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_11 : BitVec 32 := 4#32
  let v18 : BitVec 32 := Scalar.muli v12 c4_i32_11
  let v19 : BitVec 32 := Scalar.addi c0_i32_12 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v20 : BitVec 32 := Scalar.muli v5 c2_i32_13
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v22 : BitVec 32 := Scalar.muli v8 c1_i32_14
  let v23 : BitVec 32 := Scalar.addi v21 v22
  v23.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_23 : BitVec 32 := 2#32
  let v35 : BitVec 32 := Scalar.muli v13 c2_i32_23
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v37 : BitVec 32 := Scalar.muli v8 c1_i32_24
  let v38 : BitVec 32 := Scalar.addi v36 v37
  v38.toNat
def k0_dev3 (d0 : Dev nD) : Nat :=
  let c0_i32_32 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_31 : BitVec 32 := 4#32
  let v48 : BitVec 32 := Scalar.muli v14 c4_i32_31
  let v49 : BitVec 32 := Scalar.addi c0_i32_32 v48
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_33 : BitVec 32 := 2#32
  let v50 : BitVec 32 := Scalar.muli v15 c2_i32_33
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v52 : BitVec 32 := Scalar.muli v8 c1_i32_34
  let v53 : BitVec 32 := Scalar.addi v51 v52
  v53.toNat
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_37 : BitVec 32 := 512#32
  let v62 : BitVec 32 := Scalar.muli v8 c512_i32_37
  let c0_i32_43 : BitVec 32 := 0#32
  ![v10.toNat, v62.toNat, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v61 : BitVec 32 := Scalar.muli v8 c512_i32
  let c0_i32_44 : BitVec 32 := 0#32
  ![v61.toNat, 0]
def k0_dev4 (d0 : Dev nD) : Nat :=
  let c0_i32_40 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_39 : BitVec 32 := 4#32
  let v63 : BitVec 32 := Scalar.muli v12 c4_i32_39
  let v64 : BitVec 32 := Scalar.addi c0_i32_40 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v65 : BitVec 32 := Scalar.muli v5 c2_i32_41
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v67 : BitVec 32 := Scalar.muli v8 c1_i32_42
  let v68 : BitVec 32 := Scalar.addi v66 v67
  v68.toNat
def k0_dev5 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v78 : BitVec 32 := Scalar.muli v2 c4_i32_48
  let v79 : BitVec 32 := Scalar.addi c0_i32_49 v78
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_50 : BitVec 32 := 2#32
  let v80 : BitVec 32 := Scalar.muli v13 c2_i32_50
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v82 : BitVec 32 := Scalar.muli v8 c1_i32_51
  let v83 : BitVec 32 := Scalar.addi v81 v82
  v83.toNat
def k0_dev6 (d0 : Dev nD) : Nat :=
  let c0_i32_58 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_57 : BitVec 32 := 4#32
  let v93 : BitVec 32 := Scalar.muli v14 c4_i32_57
  let v94 : BitVec 32 := Scalar.addi c0_i32_58 v93
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_59 : BitVec 32 := 2#32
  let v95 : BitVec 32 := Scalar.muli v15 c2_i32_59
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v97 : BitVec 32 := Scalar.muli v8 c1_i32_60
  let v98 : BitVec 32 := Scalar.addi v96 v97
  v98.toNat
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_63 : BitVec 32 := 256#32
  let v107 : BitVec 32 := Scalar.muli v8 c256_i32_63
  let c0_i32_69 : BitVec 32 := 0#32
  ![v10.toNat, v107.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v106 : BitVec 32 := Scalar.muli v8 c256_i32
  let c0_i32_70 : BitVec 32 := 0#32
  ![v106.toNat, 0]
def k0_dev7 (d0 : Dev nD) : Nat :=
  let c0_i32_66 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_65 : BitVec 32 := 4#32
  let v108 : BitVec 32 := Scalar.muli v12 c4_i32_65
  let v109 : BitVec 32 := Scalar.addi c0_i32_66 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v110 : BitVec 32 := Scalar.muli v5 c2_i32_67
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v112 : BitVec 32 := Scalar.muli v8 c1_i32_68
  let v113 : BitVec 32 := Scalar.addi v111 v112
  v113.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v123 : BitVec 32 := Scalar.muli v2 c4_i32_74
  let v124 : BitVec 32 := Scalar.addi c0_i32_75 v123
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_76 : BitVec 32 := 2#32
  let v125 : BitVec 32 := Scalar.muli v13 c2_i32_76
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v127 : BitVec 32 := Scalar.muli v8 c1_i32_77
  let v128 : BitVec 32 := Scalar.addi v126 v127
  v128.toNat
def k0_dev9 (d0 : Dev nD) : Nat :=
  let c0_i32_84 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_83 : BitVec 32 := 4#32
  let v138 : BitVec 32 := Scalar.muli v14 c4_i32_83
  let v139 : BitVec 32 := Scalar.addi c0_i32_84 v138
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_85 : BitVec 32 := 2#32
  let v140 : BitVec 32 := Scalar.muli v15 c2_i32_85
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v142 : BitVec 32 := Scalar.muli v8 c1_i32_86
  let v143 : BitVec 32 := Scalar.addi v141 v142
  v143.toNat
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_90 : BitVec 32 := 512#32
  let v152 : BitVec 32 := Scalar.muli v8 c512_i32_90
  let c0_i32_96 : BitVec 32 := 0#32
  ![v10.toNat, v152.toNat, 0]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_89 : BitVec 32 := 512#32
  let v151 : BitVec 32 := Scalar.muli v8 c512_i32_89
  let c0_i32_97 : BitVec 32 := 0#32
  ![v151.toNat, 0]
def k0_dev10 (d0 : Dev nD) : Nat :=
  let c0_i32_93 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_92 : BitVec 32 := 4#32
  let v153 : BitVec 32 := Scalar.muli v12 c4_i32_92
  let v154 : BitVec 32 := Scalar.addi c0_i32_93 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v155 : BitVec 32 := Scalar.muli v5 c2_i32_94
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v157 : BitVec 32 := Scalar.muli v8 c1_i32_95
  let v158 : BitVec 32 := Scalar.addi v156 v157
  v158.toNat
def k0_dev11 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v168 : BitVec 32 := Scalar.muli v2 c4_i32_101
  let v169 : BitVec 32 := Scalar.addi c0_i32_102 v168
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_103 : BitVec 32 := 2#32
  let v170 : BitVec 32 := Scalar.muli v13 c2_i32_103
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v172 : BitVec 32 := Scalar.muli v8 c1_i32_104
  let v173 : BitVec 32 := Scalar.addi v171 v172
  v173.toNat
def k0_dev12 (d0 : Dev nD) : Nat :=
  let c0_i32_111 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_110 : BitVec 32 := 4#32
  let v183 : BitVec 32 := Scalar.muli v14 c4_i32_110
  let v184 : BitVec 32 := Scalar.addi c0_i32_111 v183
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_112 : BitVec 32 := 2#32
  let v185 : BitVec 32 := Scalar.muli v15 c2_i32_112
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v187 : BitVec 32 := Scalar.muli v8 c1_i32_113
  let v188 : BitVec 32 := Scalar.addi v186 v187
  v188.toNat
def k0_off9 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_117 : BitVec 32 := 2048#32
  let v197 : BitVec 32 := Scalar.muli v8 c2048_i32_117
  let c0_i32_123 : BitVec 32 := 0#32
  ![v10.toNat, v197.toNat, 0]
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_116 : BitVec 32 := 2048#32
  let v196 : BitVec 32 := Scalar.muli v8 c2048_i32_116
  let c0_i32_124 : BitVec 32 := 0#32
  ![v196.toNat, 0]
def k0_dev13 (d0 : Dev nD) : Nat :=
  let c0_i32_120 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_119 : BitVec 32 := 4#32
  let v198 : BitVec 32 := Scalar.muli v12 c4_i32_119
  let v199 : BitVec 32 := Scalar.addi c0_i32_120 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v200 : BitVec 32 := Scalar.muli v5 c2_i32_121
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v202 : BitVec 32 := Scalar.muli v8 c1_i32_122
  let v203 : BitVec 32 := Scalar.addi v201 v202
  v203.toNat
def k0_dev14 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v213 : BitVec 32 := Scalar.muli v2 c4_i32_128
  let v214 : BitVec 32 := Scalar.addi c0_i32_129 v213
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_130 : BitVec 32 := 2#32
  let v215 : BitVec 32 := Scalar.muli v13 c2_i32_130
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v217 : BitVec 32 := Scalar.muli v8 c1_i32_131
  let v218 : BitVec 32 := Scalar.addi v216 v217
  v218.toNat
def k0_dev15 (d0 : Dev nD) : Nat :=
  let c0_i32_138 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_137 : BitVec 32 := 4#32
  let v228 : BitVec 32 := Scalar.muli v14 c4_i32_137
  let v229 : BitVec 32 := Scalar.addi c0_i32_138 v228
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_139 : BitVec 32 := 2#32
  let v230 : BitVec 32 := Scalar.muli v15 c2_i32_139
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v232 : BitVec 32 := Scalar.muli v8 c1_i32_140
  let v233 : BitVec 32 := Scalar.addi v231 v232
  v233.toNat
def k0_dev16 (d0 : Dev nD) : Nat :=
  let c0_i32_147 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_146 : BitVec 32 := 4#32
  let v243 : BitVec 32 := Scalar.muli v12 c4_i32_146
  let v244 : BitVec 32 := Scalar.addi c0_i32_147 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v245 : BitVec 32 := Scalar.muli v5 c2_i32_148
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v247 : BitVec 32 := Scalar.muli v8 c1_i32_149
  let v248 : BitVec 32 := Scalar.addi v246 v247
  v248.toNat
def k0_dev17 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v258 : BitVec 32 := Scalar.muli v2 c4_i32_155
  let v259 : BitVec 32 := Scalar.addi c0_i32_156 v258
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_157 : BitVec 32 := 2#32
  let v260 : BitVec 32 := Scalar.muli v13 c2_i32_157
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v262 : BitVec 32 := Scalar.muli v8 c1_i32_158
  let v263 : BitVec 32 := Scalar.addi v261 v262
  v263.toNat
def k0_dev18 (d0 : Dev nD) : Nat :=
  let c0_i32_165 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_164 : BitVec 32 := 4#32
  let v273 : BitVec 32 := Scalar.muli v14 c4_i32_164
  let v274 : BitVec 32 := Scalar.addi c0_i32_165 v273
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_166 : BitVec 32 := 2#32
  let v275 : BitVec 32 := Scalar.muli v15 c2_i32_166
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v277 : BitVec 32 := Scalar.muli v8 c1_i32_167
  let v278 : BitVec 32 := Scalar.addi v276 v277
  v278.toNat
def k0_off11 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_171 : BitVec 32 := 2048#32
  let v287 : BitVec 32 := Scalar.muli v8 c2048_i32_171
  let c0_i32_177 : BitVec 32 := 0#32
  ![v10.toNat, v287.toNat, 0]
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_170 : BitVec 32 := 2048#32
  let v286 : BitVec 32 := Scalar.muli v8 c2048_i32_170
  let c0_i32_178 : BitVec 32 := 0#32
  ![v286.toNat, 0]
def k0_dev19 (d0 : Dev nD) : Nat :=
  let c0_i32_174 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_173 : BitVec 32 := 4#32
  let v288 : BitVec 32 := Scalar.muli v12 c4_i32_173
  let v289 : BitVec 32 := Scalar.addi c0_i32_174 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v290 : BitVec 32 := Scalar.muli v5 c2_i32_175
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v292 : BitVec 32 := Scalar.muli v8 c1_i32_176
  let v293 : BitVec 32 := Scalar.addi v291 v292
  v293.toNat
def k0_dev20 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v303 : BitVec 32 := Scalar.muli v2 c4_i32_182
  let v304 : BitVec 32 := Scalar.addi c0_i32_183 v303
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_184 : BitVec 32 := 2#32
  let v305 : BitVec 32 := Scalar.muli v13 c2_i32_184
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v307 : BitVec 32 := Scalar.muli v8 c1_i32_185
  let v308 : BitVec 32 := Scalar.addi v306 v307
  v308.toNat
def k0_dev21 (d0 : Dev nD) : Nat :=
  let c0_i32_192 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_191 : BitVec 32 := 4#32
  let v318 : BitVec 32 := Scalar.muli v14 c4_i32_191
  let v319 : BitVec 32 := Scalar.addi c0_i32_192 v318
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_193 : BitVec 32 := 2#32
  let v320 : BitVec 32 := Scalar.muli v15 c2_i32_193
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v322 : BitVec 32 := Scalar.muli v8 c1_i32_194
  let v323 : BitVec 32 := Scalar.addi v321 v322
  v323.toNat
def k0_dev22 (d0 : Dev nD) : Nat :=
  let c0_i32_201 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_200 : BitVec 32 := 4#32
  let v333 : BitVec 32 := Scalar.muli v12 c4_i32_200
  let v334 : BitVec 32 := Scalar.addi c0_i32_201 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v335 : BitVec 32 := Scalar.muli v5 c2_i32_202
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v337 : BitVec 32 := Scalar.muli v8 c1_i32_203
  let v338 : BitVec 32 := Scalar.addi v336 v337
  v338.toNat
def k0_dev23 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v348 : BitVec 32 := Scalar.muli v2 c4_i32_209
  let v349 : BitVec 32 := Scalar.addi c0_i32_210 v348
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_211 : BitVec 32 := 2#32
  let v350 : BitVec 32 := Scalar.muli v13 c2_i32_211
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v352 : BitVec 32 := Scalar.muli v8 c1_i32_212
  let v353 : BitVec 32 := Scalar.addi v351 v352
  v353.toNat
def k0_dev24 (d0 : Dev nD) : Nat :=
  let c0_i32_219 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_218 : BitVec 32 := 4#32
  let v363 : BitVec 32 := Scalar.muli v14 c4_i32_218
  let v364 : BitVec 32 := Scalar.addi c0_i32_219 v363
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_220 : BitVec 32 := 2#32
  let v365 : BitVec 32 := Scalar.muli v15 c2_i32_220
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v367 : BitVec 32 := Scalar.muli v8 c1_i32_221
  let v368 : BitVec 32 := Scalar.addi v366 v367
  v368.toNat
def k0_dev25 (d0 : Dev nD) : Nat :=
  let c0_i32_228 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_227 : BitVec 32 := 4#32
  let v378 : BitVec 32 := Scalar.muli v12 c4_i32_227
  let v379 : BitVec 32 := Scalar.addi c0_i32_228 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v380 : BitVec 32 := Scalar.muli v5 c2_i32_229
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v382 : BitVec 32 := Scalar.muli v8 c1_i32_230
  let v383 : BitVec 32 := Scalar.addi v381 v382
  v383.toNat
def k0_dev26 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v393 : BitVec 32 := Scalar.muli v2 c4_i32_236
  let v394 : BitVec 32 := Scalar.addi c0_i32_237 v393
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_238 : BitVec 32 := 2#32
  let v395 : BitVec 32 := Scalar.muli v13 c2_i32_238
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v397 : BitVec 32 := Scalar.muli v8 c1_i32_239
  let v398 : BitVec 32 := Scalar.addi v396 v397
  v398.toNat
def k0_dev27 (d0 : Dev nD) : Nat :=
  let c0_i32_246 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_245 : BitVec 32 := 4#32
  let v408 : BitVec 32 := Scalar.muli v14 c4_i32_245
  let v409 : BitVec 32 := Scalar.addi c0_i32_246 v408
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_247 : BitVec 32 := 2#32
  let v410 : BitVec 32 := Scalar.muli v15 c2_i32_247
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v412 : BitVec 32 := Scalar.muli v8 c1_i32_248
  let v413 : BitVec 32 := Scalar.addi v411 v412
  v413.toNat
def k0_dev28 (d0 : Dev nD) : Nat :=
  let c0_i32_255 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_254 : BitVec 32 := 4#32
  let v423 : BitVec 32 := Scalar.muli v12 c4_i32_254
  let v424 : BitVec 32 := Scalar.addi c0_i32_255 v423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v425 : BitVec 32 := Scalar.muli v5 c2_i32_256
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v427 : BitVec 32 := Scalar.muli v8 c1_i32_257
  let v428 : BitVec 32 := Scalar.addi v426 v427
  v428.toNat
def k0_dev29 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v438 : BitVec 32 := Scalar.muli v2 c4_i32_263
  let v439 : BitVec 32 := Scalar.addi c0_i32_264 v438
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_265 : BitVec 32 := 2#32
  let v440 : BitVec 32 := Scalar.muli v13 c2_i32_265
  let v441 : BitVec 32 := Scalar.addi v439 v440
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v442 : BitVec 32 := Scalar.muli v8 c1_i32_266
  let v443 : BitVec 32 := Scalar.addi v441 v442
  v443.toNat
def k0_dev30 (d0 : Dev nD) : Nat :=
  let c0_i32_273 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_272 : BitVec 32 := 4#32
  let v453 : BitVec 32 := Scalar.muli v14 c4_i32_272
  let v454 : BitVec 32 := Scalar.addi c0_i32_273 v453
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_274 : BitVec 32 := 2#32
  let v455 : BitVec 32 := Scalar.muli v15 c2_i32_274
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v457 : BitVec 32 := Scalar.muli v8 c1_i32_275
  let v458 : BitVec 32 := Scalar.addi v456 v457
  v458.toNat
def k0_off13 (d0 : Dev nD) : Fin 3 → Nat :=
  let c2_i32_278 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v466 : BitVec 32 := Scalar.muli c2_i32_278 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v467 : BitVec 32 := Scalar.addi v466 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_279 : BitVec 32 := 2048#32
  let v468 : BitVec 32 := Scalar.muli v8 c2048_i32_279
  let c0_i32_286 : BitVec 32 := 0#32
  ![v467.toNat, v468.toNat, 0]
def k0_dev31 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v481 : BitVec 32 := Scalar.muli v2 c4_i32_289
  let v482 : BitVec 32 := Scalar.addi c0_i32_290 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v483 : BitVec 32 := Scalar.muli v5 c2_i32_291
  let v484 : BitVec 32 := Scalar.addi v482 v483
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_292 : BitVec 32 := 1#32
  let v485 : BitVec 32 := Scalar.muli v11 c1_i32_292
  let v486 : BitVec 32 := Scalar.addi v484 v485
  v486.toNat
def k0_off14 (d0 : Dev nD) : Fin 3 → Nat :=
  let c2_i32_295 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v495 : BitVec 32 := Scalar.muli c2_i32_295 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v496 : BitVec 32 := Scalar.addi v495 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_296 : BitVec 32 := 2048#32
  let v497 : BitVec 32 := Scalar.muli v8 c2048_i32_296
  let c0_i32_303 : BitVec 32 := 0#32
  ![v496.toNat, v497.toNat, 0]
def k0_dev32 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v510 : BitVec 32 := Scalar.muli v2 c4_i32_307
  let v511 : BitVec 32 := Scalar.addi c0_i32_308 v510
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v512 : BitVec 32 := Scalar.muli v5 c2_i32_309
  let v513 : BitVec 32 := Scalar.addi v511 v512
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_310 : BitVec 32 := 1#32
  let v514 : BitVec 32 := Scalar.muli v11 c1_i32_310
  let v515 : BitVec 32 := Scalar.addi v513 v514
  v515.toNat
def k0_off15 (d0 : Dev nD) : Fin 3 → Nat :=
  let c2_i32_313 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v524 : BitVec 32 := Scalar.muli c2_i32_313 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v525 : BitVec 32 := Scalar.addi v524 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_314 : BitVec 32 := 2048#32
  let v526 : BitVec 32 := Scalar.muli v8 c2048_i32_314
  let c0_i32_321 : BitVec 32 := 0#32
  ![v525.toNat, v526.toNat, 0]
def k0_dev33 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v539 : BitVec 32 := Scalar.muli v2 c4_i32_324
  let v540 : BitVec 32 := Scalar.addi c0_i32_325 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v541 : BitVec 32 := Scalar.muli v5 c2_i32_326
  let v542 : BitVec 32 := Scalar.addi v540 v541
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_327 : BitVec 32 := 1#32
  let v543 : BitVec 32 := Scalar.muli v11 c1_i32_327
  let v544 : BitVec 32 := Scalar.addi v542 v543
  v544.toNat
def k0_off16 (d0 : Dev nD) : Fin 3 → Nat :=
  let c2_i32_330 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v553 : BitVec 32 := Scalar.muli c2_i32_330 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v554 : BitVec 32 := Scalar.addi v553 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_331 : BitVec 32 := 512#32
  let v555 : BitVec 32 := Scalar.muli v8 c512_i32_331
  let c0_i32_338 : BitVec 32 := 0#32
  ![v554.toNat, v555.toNat, 0]
def k0_dev34 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v568 : BitVec 32 := Scalar.muli v2 c4_i32_341
  let v569 : BitVec 32 := Scalar.addi c0_i32_342 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v570 : BitVec 32 := Scalar.muli v5 c2_i32_343
  let v571 : BitVec 32 := Scalar.addi v569 v570
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_344 : BitVec 32 := 1#32
  let v572 : BitVec 32 := Scalar.muli v11 c1_i32_344
  let v573 : BitVec 32 := Scalar.addi v571 v572
  v573.toNat
def k0_off17 (d0 : Dev nD) : Fin 3 → Nat :=
  let c2_i32_347 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v582 : BitVec 32 := Scalar.muli c2_i32_347 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v583 : BitVec 32 := Scalar.addi v582 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_348 : BitVec 32 := 512#32
  let v584 : BitVec 32 := Scalar.muli v8 c512_i32_348
  let c0_i32_355 : BitVec 32 := 0#32
  ![v583.toNat, v584.toNat, 0]
def k0_dev35 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v597 : BitVec 32 := Scalar.muli v2 c4_i32_358
  let v598 : BitVec 32 := Scalar.addi c0_i32_359 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v599 : BitVec 32 := Scalar.muli v5 c2_i32_360
  let v600 : BitVec 32 := Scalar.addi v598 v599
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_361 : BitVec 32 := 1#32
  let v601 : BitVec 32 := Scalar.muli v11 c1_i32_361
  let v602 : BitVec 32 := Scalar.addi v600 v601
  v602.toNat
def k0_off18 (d0 : Dev nD) : Fin 3 → Nat :=
  let c2_i32_364 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v611 : BitVec 32 := Scalar.muli c2_i32_364 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v612 : BitVec 32 := Scalar.addi v611 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_365 : BitVec 32 := 512#32
  let v613 : BitVec 32 := Scalar.muli v8 c512_i32_365
  let c0_i32_372 : BitVec 32 := 0#32
  ![v612.toNat, v613.toNat, 0]
def k0_dev36 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v626 : BitVec 32 := Scalar.muli v2 c4_i32_375
  let v627 : BitVec 32 := Scalar.addi c0_i32_376 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v628 : BitVec 32 := Scalar.muli v5 c2_i32_377
  let v629 : BitVec 32 := Scalar.addi v627 v628
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_378 : BitVec 32 := 1#32
  let v630 : BitVec 32 := Scalar.muli v11 c1_i32_378
  let v631 : BitVec 32 := Scalar.addi v629 v630
  v631.toNat
def k0_off19 (d0 : Dev nD) : Fin 3 → Nat :=
  let c2_i32_381 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v640 : BitVec 32 := Scalar.muli c2_i32_381 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v641 : BitVec 32 := Scalar.addi v640 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_382 : BitVec 32 := 256#32
  let v642 : BitVec 32 := Scalar.muli v8 c256_i32_382
  let c0_i32_389 : BitVec 32 := 0#32
  ![v641.toNat, v642.toNat, 0]
def k0_dev37 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v655 : BitVec 32 := Scalar.muli v2 c4_i32_392
  let v656 : BitVec 32 := Scalar.addi c0_i32_393 v655
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v657 : BitVec 32 := Scalar.muli v5 c2_i32_394
  let v658 : BitVec 32 := Scalar.addi v656 v657
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_395 : BitVec 32 := 1#32
  let v659 : BitVec 32 := Scalar.muli v11 c1_i32_395
  let v660 : BitVec 32 := Scalar.addi v658 v659
  v660.toNat
def k0_off20 (d0 : Dev nD) : Fin 3 → Nat :=
  let c2_i32_398 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v669 : BitVec 32 := Scalar.muli c2_i32_398 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v670 : BitVec 32 := Scalar.addi v669 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_399 : BitVec 32 := 256#32
  let v671 : BitVec 32 := Scalar.muli v8 c256_i32_399
  let c0_i32_406 : BitVec 32 := 0#32
  ![v670.toNat, v671.toNat, 0]
def k0_dev38 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v684 : BitVec 32 := Scalar.muli v2 c4_i32_409
  let v685 : BitVec 32 := Scalar.addi c0_i32_410 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v686 : BitVec 32 := Scalar.muli v5 c2_i32_411
  let v687 : BitVec 32 := Scalar.addi v685 v686
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_412 : BitVec 32 := 1#32
  let v688 : BitVec 32 := Scalar.muli v11 c1_i32_412
  let v689 : BitVec 32 := Scalar.addi v687 v688
  v689.toNat
def k0_off21 (d0 : Dev nD) : Fin 3 → Nat :=
  let c2_i32_415 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v698 : BitVec 32 := Scalar.muli c2_i32_415 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v699 : BitVec 32 := Scalar.addi v698 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_416 : BitVec 32 := 256#32
  let v700 : BitVec 32 := Scalar.muli v8 c256_i32_416
  let c0_i32_423 : BitVec 32 := 0#32
  ![v699.toNat, v700.toNat, 0]
def k0_dev39 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v713 : BitVec 32 := Scalar.muli v2 c4_i32_426
  let v714 : BitVec 32 := Scalar.addi c0_i32_427 v713
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v715 : BitVec 32 := Scalar.muli v5 c2_i32_428
  let v716 : BitVec 32 := Scalar.addi v714 v715
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_429 : BitVec 32 := 1#32
  let v717 : BitVec 32 := Scalar.muli v11 c1_i32_429
  let v718 : BitVec 32 := Scalar.addi v716 v717
  v718.toNat
def k0_off22 (d0 : Dev nD) : Fin 3 → Nat :=
  let c2_i32_432 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v727 : BitVec 32 := Scalar.muli c2_i32_432 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v728 : BitVec 32 := Scalar.addi v727 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_433 : BitVec 32 := 512#32
  let v729 : BitVec 32 := Scalar.muli v8 c512_i32_433
  let c0_i32_440 : BitVec 32 := 0#32
  ![v728.toNat, v729.toNat, 0]
def k0_dev40 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v742 : BitVec 32 := Scalar.muli v2 c4_i32_443
  let v743 : BitVec 32 := Scalar.addi c0_i32_444 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v744 : BitVec 32 := Scalar.muli v5 c2_i32_445
  let v745 : BitVec 32 := Scalar.addi v743 v744
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_446 : BitVec 32 := 1#32
  let v746 : BitVec 32 := Scalar.muli v11 c1_i32_446
  let v747 : BitVec 32 := Scalar.addi v745 v746
  v747.toNat
def k0_off23 (d0 : Dev nD) : Fin 3 → Nat :=
  let c2_i32_449 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v756 : BitVec 32 := Scalar.muli c2_i32_449 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v757 : BitVec 32 := Scalar.addi v756 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_450 : BitVec 32 := 512#32
  let v758 : BitVec 32 := Scalar.muli v8 c512_i32_450
  let c0_i32_457 : BitVec 32 := 0#32
  ![v757.toNat, v758.toNat, 0]
def k0_dev41 (d0 : Dev nD) : Nat :=
  let c0_i32_461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_460 : BitVec 32 := 4#32
  let v771 : BitVec 32 := Scalar.muli v2 c4_i32_460
  let v772 : BitVec 32 := Scalar.addi c0_i32_461 v771
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v773 : BitVec 32 := Scalar.muli v5 c2_i32_462
  let v774 : BitVec 32 := Scalar.addi v772 v773
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_463 : BitVec 32 := 1#32
  let v775 : BitVec 32 := Scalar.muli v11 c1_i32_463
  let v776 : BitVec 32 := Scalar.addi v774 v775
  v776.toNat
def k0_off24 (d0 : Dev nD) : Fin 3 → Nat :=
  let c2_i32_466 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v785 : BitVec 32 := Scalar.muli c2_i32_466 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v786 : BitVec 32 := Scalar.addi v785 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_467 : BitVec 32 := 512#32
  let v787 : BitVec 32 := Scalar.muli v8 c512_i32_467
  let c0_i32_474 : BitVec 32 := 0#32
  ![v786.toNat, v787.toNat, 0]
def k0_dev42 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v800 : BitVec 32 := Scalar.muli v2 c4_i32_477
  let v801 : BitVec 32 := Scalar.addi c0_i32_478 v800
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v802 : BitVec 32 := Scalar.muli v5 c2_i32_479
  let v803 : BitVec 32 := Scalar.addi v801 v802
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_480 : BitVec 32 := 1#32
  let v804 : BitVec 32 := Scalar.muli v11 c1_i32_480
  let v805 : BitVec 32 := Scalar.addi v803 v804
  v805.toNat
def k0_off25 (d0 : Dev nD) : Fin 3 → Nat :=
  let c2_i32_483 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v814 : BitVec 32 := Scalar.muli c2_i32_483 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v815 : BitVec 32 := Scalar.addi v814 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_484 : BitVec 32 := 2048#32
  let v816 : BitVec 32 := Scalar.muli v8 c2048_i32_484
  let c0_i32_491 : BitVec 32 := 0#32
  ![v815.toNat, v816.toNat, 0]
def k0_dev43 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v829 : BitVec 32 := Scalar.muli v2 c4_i32_494
  let v830 : BitVec 32 := Scalar.addi c0_i32_495 v829
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v831 : BitVec 32 := Scalar.muli v5 c2_i32_496
  let v832 : BitVec 32 := Scalar.addi v830 v831
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_497 : BitVec 32 := 1#32
  let v833 : BitVec 32 := Scalar.muli v11 c1_i32_497
  let v834 : BitVec 32 := Scalar.addi v832 v833
  v834.toNat
def k0_off26 (d0 : Dev nD) : Fin 3 → Nat :=
  let c2_i32_500 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v843 : BitVec 32 := Scalar.muli c2_i32_500 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v844 : BitVec 32 := Scalar.addi v843 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_501 : BitVec 32 := 2048#32
  let v845 : BitVec 32 := Scalar.muli v8 c2048_i32_501
  let c0_i32_508 : BitVec 32 := 0#32
  ![v844.toNat, v845.toNat, 0]
def k0_dev44 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v858 : BitVec 32 := Scalar.muli v2 c4_i32_511
  let v859 : BitVec 32 := Scalar.addi c0_i32_512 v858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v860 : BitVec 32 := Scalar.muli v5 c2_i32_513
  let v861 : BitVec 32 := Scalar.addi v859 v860
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_514 : BitVec 32 := 1#32
  let v862 : BitVec 32 := Scalar.muli v11 c1_i32_514
  let v863 : BitVec 32 := Scalar.addi v861 v862
  v863.toNat
def k0_off27 (d0 : Dev nD) : Fin 3 → Nat :=
  let c2_i32_517 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v872 : BitVec 32 := Scalar.muli c2_i32_517 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v873 : BitVec 32 := Scalar.addi v872 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_518 : BitVec 32 := 2048#32
  let v874 : BitVec 32 := Scalar.muli v8 c2048_i32_518
  let c0_i32_525 : BitVec 32 := 0#32
  ![v873.toNat, v874.toNat, 0]
def k0_dev45 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v887 : BitVec 32 := Scalar.muli v2 c4_i32_528
  let v888 : BitVec 32 := Scalar.addi c0_i32_529 v887
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v889 : BitVec 32 := Scalar.muli v5 c2_i32_530
  let v890 : BitVec 32 := Scalar.addi v888 v889
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_531 : BitVec 32 := 1#32
  let v891 : BitVec 32 := Scalar.muli v11 c1_i32_531
  let v892 : BitVec 32 := Scalar.addi v890 v891
  v892.toNat
def k0_dev46 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v916 : BitVec 32 := Scalar.muli v2 c4_i32_545
  let v917 : BitVec 32 := Scalar.addi c0_i32_546 v916
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v918 : BitVec 32 := Scalar.muli v5 c2_i32_547
  let v919 : BitVec 32 := Scalar.addi v917 v918
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_548 : BitVec 32 := 1#32
  let v920 : BitVec 32 := Scalar.muli v11 c1_i32_548
  let v921 : BitVec 32 := Scalar.addi v919 v920
  v921.toNat
def k0_dev47 (d0 : Dev nD) : Nat :=
  let c0_i32_563 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_562 : BitVec 32 := 4#32
  let v945 : BitVec 32 := Scalar.muli v2 c4_i32_562
  let v946 : BitVec 32 := Scalar.addi c0_i32_563 v945
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_564 : BitVec 32 := 2#32
  let v947 : BitVec 32 := Scalar.muli v5 c2_i32_564
  let v948 : BitVec 32 := Scalar.addi v946 v947
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_565 : BitVec 32 := 1#32
  let v949 : BitVec 32 := Scalar.muli v11 c1_i32_565
  let v950 : BitVec 32 := Scalar.addi v948 v949
  v950.toNat
def k0_dev48 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v974 : BitVec 32 := Scalar.muli v2 c4_i32_579
  let v975 : BitVec 32 := Scalar.addi c0_i32_580 v974
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v976 : BitVec 32 := Scalar.muli v5 c2_i32_581
  let v977 : BitVec 32 := Scalar.addi v975 v976
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_582 : BitVec 32 := 1#32
  let v978 : BitVec 32 := Scalar.muli v11 c1_i32_582
  let v979 : BitVec 32 := Scalar.addi v977 v978
  v979.toNat
def k0_off28 (d0 : Dev nD) : Fin 3 → Nat :=
  let c2_i32_585 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v988 : BitVec 32 := Scalar.muli c2_i32_585 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v989 : BitVec 32 := Scalar.addi v988 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_586 : BitVec 32 := 2048#32
  let v990 : BitVec 32 := Scalar.muli v8 c2048_i32_586
  let c0_i32_593 : BitVec 32 := 0#32
  ![v989.toNat, v990.toNat, 0]
def k0_dev49 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v1003 : BitVec 32 := Scalar.muli v2 c4_i32_596
  let v1004 : BitVec 32 := Scalar.addi c0_i32_597 v1003
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v1005 : BitVec 32 := Scalar.muli v5 c2_i32_598
  let v1006 : BitVec 32 := Scalar.addi v1004 v1005
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_599 : BitVec 32 := 1#32
  let v1007 : BitVec 32 := Scalar.muli v11 c1_i32_599
  let v1008 : BitVec 32 := Scalar.addi v1006 v1007
  v1008.toNat
def k0_off29 (d0 : Dev nD) : Fin 3 → Nat :=
  let c2_i32_602 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1017 : BitVec 32 := Scalar.muli c2_i32_602 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1018 : BitVec 32 := Scalar.addi v1017 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_603 : BitVec 32 := 2048#32
  let v1019 : BitVec 32 := Scalar.muli v8 c2048_i32_603
  let c0_i32_610 : BitVec 32 := 0#32
  ![v1018.toNat, v1019.toNat, 0]
def k0_dev50 (d0 : Dev nD) : Nat :=
  let c0_i32_614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_613 : BitVec 32 := 4#32
  let v1032 : BitVec 32 := Scalar.muli v2 c4_i32_613
  let v1033 : BitVec 32 := Scalar.addi c0_i32_614 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v1034 : BitVec 32 := Scalar.muli v5 c2_i32_615
  let v1035 : BitVec 32 := Scalar.addi v1033 v1034
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_616 : BitVec 32 := 1#32
  let v1036 : BitVec 32 := Scalar.muli v11 c1_i32_616
  let v1037 : BitVec 32 := Scalar.addi v1035 v1036
  v1037.toNat
def k0_off30 (d0 : Dev nD) : Fin 3 → Nat :=
  let c2_i32_619 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1046 : BitVec 32 := Scalar.muli c2_i32_619 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1047 : BitVec 32 := Scalar.addi v1046 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_620 : BitVec 32 := 2048#32
  let v1048 : BitVec 32 := Scalar.muli v8 c2048_i32_620
  let c0_i32_627 : BitVec 32 := 0#32
  ![v1047.toNat, v1048.toNat, 0]
def k0_dev51 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v1061 : BitVec 32 := Scalar.muli v2 c4_i32_630
  let v1062 : BitVec 32 := Scalar.addi c0_i32_631 v1061
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v1063 : BitVec 32 := Scalar.muli v5 c2_i32_632
  let v1064 : BitVec 32 := Scalar.addi v1062 v1063
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_633 : BitVec 32 := 1#32
  let v1065 : BitVec 32 := Scalar.muli v11 c1_i32_633
  let v1066 : BitVec 32 := Scalar.addi v1064 v1065
  v1066.toNat
def k0_dev52 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v1090 : BitVec 32 := Scalar.muli v2 c4_i32_647
  let v1091 : BitVec 32 := Scalar.addi c0_i32_648 v1090
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v1092 : BitVec 32 := Scalar.muli v5 c2_i32_649
  let v1093 : BitVec 32 := Scalar.addi v1091 v1092
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_650 : BitVec 32 := 1#32
  let v1094 : BitVec 32 := Scalar.muli v11 c1_i32_650
  let v1095 : BitVec 32 := Scalar.addi v1093 v1094
  v1095.toNat
def k0_dev53 (d0 : Dev nD) : Nat :=
  let c0_i32_665 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_664 : BitVec 32 := 4#32
  let v1119 : BitVec 32 := Scalar.muli v2 c4_i32_664
  let v1120 : BitVec 32 := Scalar.addi c0_i32_665 v1119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_666 : BitVec 32 := 2#32
  let v1121 : BitVec 32 := Scalar.muli v5 c2_i32_666
  let v1122 : BitVec 32 := Scalar.addi v1120 v1121
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_667 : BitVec 32 := 1#32
  let v1123 : BitVec 32 := Scalar.muli v11 c1_i32_667
  let v1124 : BitVec 32 := Scalar.addi v1122 v1123
  v1124.toNat
def k0_dev54 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_681 : BitVec 32 := 4#32
  let v1148 : BitVec 32 := Scalar.muli v2 c4_i32_681
  let v1149 : BitVec 32 := Scalar.addi c0_i32_682 v1148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_683 : BitVec 32 := 2#32
  let v1150 : BitVec 32 := Scalar.muli v5 c2_i32_683
  let v1151 : BitVec 32 := Scalar.addi v1149 v1150
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_684 : BitVec 32 := 1#32
  let v1152 : BitVec 32 := Scalar.muli v11 c1_i32_684
  let v1153 : BitVec 32 := Scalar.addi v1151 v1152
  v1153.toNat
def k0_dev55 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_698 : BitVec 32 := 4#32
  let v1177 : BitVec 32 := Scalar.muli v2 c4_i32_698
  let v1178 : BitVec 32 := Scalar.addi c0_i32_699 v1177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_700 : BitVec 32 := 2#32
  let v1179 : BitVec 32 := Scalar.muli v5 c2_i32_700
  let v1180 : BitVec 32 := Scalar.addi v1178 v1179
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_701 : BitVec 32 := 1#32
  let v1181 : BitVec 32 := Scalar.muli v11 c1_i32_701
  let v1182 : BitVec 32 := Scalar.addi v1180 v1181
  v1182.toNat
def k0_dev56 (d0 : Dev nD) : Nat :=
  let c0_i32_716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_715 : BitVec 32 := 4#32
  let v1206 : BitVec 32 := Scalar.muli v2 c4_i32_715
  let v1207 : BitVec 32 := Scalar.addi c0_i32_716 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_717 : BitVec 32 := 2#32
  let v1208 : BitVec 32 := Scalar.muli v5 c2_i32_717
  let v1209 : BitVec 32 := Scalar.addi v1207 v1208
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_718 : BitVec 32 := 1#32
  let v1210 : BitVec 32 := Scalar.muli v11 c1_i32_718
  let v1211 : BitVec 32 := Scalar.addi v1209 v1210
  v1211.toNat
def k0_dev57 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v1235 : BitVec 32 := Scalar.muli v2 c4_i32_732
  let v1236 : BitVec 32 := Scalar.addi c0_i32_733 v1235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v1237 : BitVec 32 := Scalar.muli v5 c2_i32_734
  let v1238 : BitVec 32 := Scalar.addi v1236 v1237
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_735 : BitVec 32 := 1#32
  let v1239 : BitVec 32 := Scalar.muli v11 c1_i32_735
  let v1240 : BitVec 32 := Scalar.addi v1238 v1239
  v1240.toNat
def k0_dev58 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v1264 : BitVec 32 := Scalar.muli v2 c4_i32_749
  let v1265 : BitVec 32 := Scalar.addi c0_i32_750 v1264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_751 : BitVec 32 := 2#32
  let v1266 : BitVec 32 := Scalar.muli v5 c2_i32_751
  let v1267 : BitVec 32 := Scalar.addi v1265 v1266
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_752 : BitVec 32 := 1#32
  let v1268 : BitVec 32 := Scalar.muli v11 c1_i32_752
  let v1269 : BitVec 32 := Scalar.addi v1267 v1268
  v1269.toNat
def k0_dev59 (d0 : Dev nD) : Nat :=
  let c0_i32_767 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_766 : BitVec 32 := 4#32
  let v1293 : BitVec 32 := Scalar.muli v2 c4_i32_766
  let v1294 : BitVec 32 := Scalar.addi c0_i32_767 v1293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_768 : BitVec 32 := 2#32
  let v1295 : BitVec 32 := Scalar.muli v5 c2_i32_768
  let v1296 : BitVec 32 := Scalar.addi v1294 v1295
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_769 : BitVec 32 := 1#32
  let v1297 : BitVec 32 := Scalar.muli v11 c1_i32_769
  let v1298 : BitVec 32 := Scalar.addi v1296 v1297
  v1298.toNat
def k0_dev60 (d0 : Dev nD) : Nat :=
  let c0_i32_784 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_783 : BitVec 32 := 4#32
  let v1322 : BitVec 32 := Scalar.muli v2 c4_i32_783
  let v1323 : BitVec 32 := Scalar.addi c0_i32_784 v1322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_785 : BitVec 32 := 2#32
  let v1324 : BitVec 32 := Scalar.muli v5 c2_i32_785
  let v1325 : BitVec 32 := Scalar.addi v1323 v1324
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_786 : BitVec 32 := 1#32
  let v1326 : BitVec 32 := Scalar.muli v11 c1_i32_786
  let v1327 : BitVec 32 := Scalar.addi v1325 v1326
  v1327.toNat
def k0_off31 (d0 : Dev nD) : Fin 3 → Nat :=
  let c2_i32_789 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1336 : BitVec 32 := Scalar.muli c2_i32_789 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1337 : BitVec 32 := Scalar.addi v1336 v5
  let c1_i32_790 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1338 : BitVec 32 := Scalar.subi c1_i32_790 v8
  let c2048_i32_791 : BitVec 32 := 2048#32
  let v1339 : BitVec 32 := Scalar.muli v1338 c2048_i32_791
  let c0_i32_798 : BitVec 32 := 0#32
  ![v1337.toNat, v1339.toNat, 0]
def k0_off32 (d0 : Dev nD) : Fin 3 → Nat :=
  let c2_i32_800 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1352 : BitVec 32 := Scalar.muli c2_i32_800 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1353 : BitVec 32 := Scalar.addi v1352 v13
  let c1_i32_801 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1354 : BitVec 32 := Scalar.subi c1_i32_801 v8
  let c2048_i32_802 : BitVec 32 := 2048#32
  let v1355 : BitVec 32 := Scalar.muli v1354 c2048_i32_802
  let c0_i32_809 : BitVec 32 := 0#32
  ![v1353.toNat, v1355.toNat, 0]
def k0_off33 (d0 : Dev nD) : Fin 3 → Nat :=
  let c2_i32_811 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1368 : BitVec 32 := Scalar.muli c2_i32_811 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1369 : BitVec 32 := Scalar.addi v1368 v15
  let c1_i32_812 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1370 : BitVec 32 := Scalar.subi c1_i32_812 v8
  let c2048_i32_813 : BitVec 32 := 2048#32
  let v1371 : BitVec 32 := Scalar.muli v1370 c2048_i32_813
  let c0_i32_820 : BitVec 32 := 0#32
  ![v1369.toNat, v1371.toNat, 0]
def k0_off34 (d0 : Dev nD) : Fin 3 → Nat :=
  let c2_i32_822 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1384 : BitVec 32 := Scalar.muli c2_i32_822 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1385 : BitVec 32 := Scalar.addi v1384 v5
  let c1_i32_823 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1386 : BitVec 32 := Scalar.subi c1_i32_823 v8
  let c512_i32_824 : BitVec 32 := 512#32
  let v1387 : BitVec 32 := Scalar.muli v1386 c512_i32_824
  let c0_i32_831 : BitVec 32 := 0#32
  ![v1385.toNat, v1387.toNat, 0]
def k0_off35 (d0 : Dev nD) : Fin 3 → Nat :=
  let c2_i32_833 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1400 : BitVec 32 := Scalar.muli c2_i32_833 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1401 : BitVec 32 := Scalar.addi v1400 v13
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1402 : BitVec 32 := Scalar.subi c1_i32_834 v8
  let c512_i32_835 : BitVec 32 := 512#32
  let v1403 : BitVec 32 := Scalar.muli v1402 c512_i32_835
  let c0_i32_842 : BitVec 32 := 0#32
  ![v1401.toNat, v1403.toNat, 0]
def k0_off36 (d0 : Dev nD) : Fin 3 → Nat :=
  let c2_i32_844 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1416 : BitVec 32 := Scalar.muli c2_i32_844 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1417 : BitVec 32 := Scalar.addi v1416 v15
  let c1_i32_845 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1418 : BitVec 32 := Scalar.subi c1_i32_845 v8
  let c512_i32_846 : BitVec 32 := 512#32
  let v1419 : BitVec 32 := Scalar.muli v1418 c512_i32_846
  let c0_i32_853 : BitVec 32 := 0#32
  ![v1417.toNat, v1419.toNat, 0]
def k0_off37 (d0 : Dev nD) : Fin 3 → Nat :=
  let c2_i32_855 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1432 : BitVec 32 := Scalar.muli c2_i32_855 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1433 : BitVec 32 := Scalar.addi v1432 v5
  let c1_i32_856 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : BitVec 32 := Scalar.subi c1_i32_856 v8
  let c256_i32_857 : BitVec 32 := 256#32
  let v1435 : BitVec 32 := Scalar.muli v1434 c256_i32_857
  let c0_i32_864 : BitVec 32 := 0#32
  ![v1433.toNat, v1435.toNat, 0]
def k0_off38 (d0 : Dev nD) : Fin 3 → Nat :=
  let c2_i32_866 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1448 : BitVec 32 := Scalar.muli c2_i32_866 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1449 : BitVec 32 := Scalar.addi v1448 v13
  let c1_i32_867 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1450 : BitVec 32 := Scalar.subi c1_i32_867 v8
  let c256_i32_868 : BitVec 32 := 256#32
  let v1451 : BitVec 32 := Scalar.muli v1450 c256_i32_868
  let c0_i32_875 : BitVec 32 := 0#32
  ![v1449.toNat, v1451.toNat, 0]
def k0_off39 (d0 : Dev nD) : Fin 3 → Nat :=
  let c2_i32_877 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1464 : BitVec 32 := Scalar.muli c2_i32_877 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1465 : BitVec 32 := Scalar.addi v1464 v15
  let c1_i32_878 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1466 : BitVec 32 := Scalar.subi c1_i32_878 v8
  let c256_i32_879 : BitVec 32 := 256#32
  let v1467 : BitVec 32 := Scalar.muli v1466 c256_i32_879
  let c0_i32_886 : BitVec 32 := 0#32
  ![v1465.toNat, v1467.toNat, 0]
def k0_off40 (d0 : Dev nD) : Fin 3 → Nat :=
  let c2_i32_888 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1480 : BitVec 32 := Scalar.muli c2_i32_888 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1481 : BitVec 32 := Scalar.addi v1480 v5
  let c1_i32_889 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1482 : BitVec 32 := Scalar.subi c1_i32_889 v8
  let c512_i32_890 : BitVec 32 := 512#32
  let v1483 : BitVec 32 := Scalar.muli v1482 c512_i32_890
  let c0_i32_897 : BitVec 32 := 0#32
  ![v1481.toNat, v1483.toNat, 0]
def k0_off41 (d0 : Dev nD) : Fin 3 → Nat :=
  let c2_i32_899 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1496 : BitVec 32 := Scalar.muli c2_i32_899 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1497 : BitVec 32 := Scalar.addi v1496 v13
  let c1_i32_900 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1498 : BitVec 32 := Scalar.subi c1_i32_900 v8
  let c512_i32_901 : BitVec 32 := 512#32
  let v1499 : BitVec 32 := Scalar.muli v1498 c512_i32_901
  let c0_i32_908 : BitVec 32 := 0#32
  ![v1497.toNat, v1499.toNat, 0]
def k0_off42 (d0 : Dev nD) : Fin 3 → Nat :=
  let c2_i32_910 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1512 : BitVec 32 := Scalar.muli c2_i32_910 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1513 : BitVec 32 := Scalar.addi v1512 v15
  let c1_i32_911 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1514 : BitVec 32 := Scalar.subi c1_i32_911 v8
  let c512_i32_912 : BitVec 32 := 512#32
  let v1515 : BitVec 32 := Scalar.muli v1514 c512_i32_912
  let c0_i32_919 : BitVec 32 := 0#32
  ![v1513.toNat, v1515.toNat, 0]
def k0_off43 (d0 : Dev nD) : Fin 3 → Nat :=
  let c2_i32_921 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1528 : BitVec 32 := Scalar.muli c2_i32_921 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1529 : BitVec 32 := Scalar.addi v1528 v5
  let c1_i32_922 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1530 : BitVec 32 := Scalar.subi c1_i32_922 v8
  let c2048_i32_923 : BitVec 32 := 2048#32
  let v1531 : BitVec 32 := Scalar.muli v1530 c2048_i32_923
  let c0_i32_930 : BitVec 32 := 0#32
  ![v1529.toNat, v1531.toNat, 0]
def k0_off44 (d0 : Dev nD) : Fin 3 → Nat :=
  let c2_i32_932 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1544 : BitVec 32 := Scalar.muli c2_i32_932 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1545 : BitVec 32 := Scalar.addi v1544 v13
  let c1_i32_933 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1546 : BitVec 32 := Scalar.subi c1_i32_933 v8
  let c2048_i32_934 : BitVec 32 := 2048#32
  let v1547 : BitVec 32 := Scalar.muli v1546 c2048_i32_934
  let c0_i32_941 : BitVec 32 := 0#32
  ![v1545.toNat, v1547.toNat, 0]
def k0_off45 (d0 : Dev nD) : Fin 3 → Nat :=
  let c2_i32_943 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1560 : BitVec 32 := Scalar.muli c2_i32_943 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1561 : BitVec 32 := Scalar.addi v1560 v15
  let c1_i32_944 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1562 : BitVec 32 := Scalar.subi c1_i32_944 v8
  let c2048_i32_945 : BitVec 32 := 2048#32
  let v1563 : BitVec 32 := Scalar.muli v1562 c2048_i32_945
  let c0_i32_952 : BitVec 32 := 0#32
  ![v1561.toNat, v1563.toNat, 0]
def k0_off46 (d0 : Dev nD) : Fin 3 → Nat :=
  let c2_i32_987 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v1624 : BitVec 32 := Scalar.muli c2_i32_987 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1625 : BitVec 32 := Scalar.addi v1624 v5
  let c1_i32_988 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1626 : BitVec 32 := Scalar.subi c1_i32_988 v8
  let c2048_i32_989 : BitVec 32 := 2048#32
  let v1627 : BitVec 32 := Scalar.muli v1626 c2048_i32_989
  let c0_i32_996 : BitVec 32 := 0#32
  ![v1625.toNat, v1627.toNat, 0]
def k0_off47 (d0 : Dev nD) : Fin 3 → Nat :=
  let c2_i32_998 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1640 : BitVec 32 := Scalar.muli c2_i32_998 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v1641 : BitVec 32 := Scalar.addi v1640 v13
  let c1_i32_999 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1642 : BitVec 32 := Scalar.subi c1_i32_999 v8
  let c2048_i32_1000 : BitVec 32 := 2048#32
  let v1643 : BitVec 32 := Scalar.muli v1642 c2048_i32_1000
  let c0_i32_1007 : BitVec 32 := 0#32
  ![v1641.toNat, v1643.toNat, 0]
def k0_off48 (d0 : Dev nD) : Fin 3 → Nat :=
  let c2_i32_1009 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1656 : BitVec 32 := Scalar.muli c2_i32_1009 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1657 : BitVec 32 := Scalar.addi v1656 v15
  let c1_i32_1010 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1658 : BitVec 32 := Scalar.subi c1_i32_1010 v8
  let c2048_i32_1011 : BitVec 32 := 2048#32
  let v1659 : BitVec 32 := Scalar.muli v1658 c2048_i32_1011
  let c0_i32_1018 : BitVec 32 := 0#32
  ![v1657.toNat, v1659.toNat, 0]
-- ==== GatherRef.lean ====
abbrev S16384x1424 : Shape := ⟨2, ![16384, 1424]⟩
abbrev S4096x1536 : Shape := ⟨2, ![4096, 1536]⟩
abbrev S2048x2048 : Shape := ⟨2, ![2048, 2048]⟩
abbrev S4096x4096 : Shape := ⟨2, ![4096, 4096]⟩
abbrev S16384x4096 : Shape := ⟨2, ![16384, 4096]⟩
abbrev S16384x3072 : Shape := ⟨2, ![16384, 3072]⟩
abbrev S4x4096x1424 : Shape := ⟨3, ![4, 4096, 1424]⟩
abbrev S4x1024x1536 : Shape := ⟨3, ![4, 1024, 1536]⟩
abbrev S4x512x2048 : Shape := ⟨3, ![4, 512, 2048]⟩
abbrev S4x1024x4096 : Shape := ⟨3, ![4, 1024, 4096]⟩
abbrev S4x4096x4096 : Shape := ⟨3, ![4, 4096, 4096]⟩
abbrev S4x4096x3072 : Shape := ⟨3, ![4, 4096, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16384x1424, .bf16⟩
  | .hbm, ⟨1, _⟩ => ⟨S4096x1536, .bf16⟩
  | .hbm, ⟨2, _⟩ => ⟨S2048x2048, .bf16⟩
  | .hbm, ⟨3, _⟩ => ⟨S4096x4096, .bf16⟩
  | .hbm, ⟨4, _⟩ => ⟨S16384x4096, .bf16⟩
  | .hbm, ⟨5, _⟩ => ⟨S4096x4096, .bf16⟩
  | .hbm, ⟨6, _⟩ => ⟨S16384x3072, .bf16⟩
  | .hbm, ⟨7, _⟩ => ⟨S4096x4096, .bf16⟩
  | .hbm, ⟨8, _⟩ => ⟨S16384x3072, .bf16⟩
  | .hbm, ⟨9, _⟩ => ⟨S4096x4096, .bf16⟩
  | .hbm, ⟨10, _⟩ => ⟨S4x4096x1424, .bf16⟩
  | .hbm, ⟨11, _⟩ => ⟨S4x1024x1536, .bf16⟩
  | .hbm, ⟨12, _⟩ => ⟨S4x512x2048, .bf16⟩
  | .hbm, ⟨13, _⟩ => ⟨S4x1024x4096, .bf16⟩
  | .hbm, ⟨14, _⟩ => ⟨S4x4096x4096, .bf16⟩
  | .hbm, ⟨15, _⟩ => ⟨S4x1024x4096, .bf16⟩
  | .hbm, ⟨16, _⟩ => ⟨S4x4096x3072, .bf16⟩
  | .hbm, ⟨17, _⟩ => ⟨S4x1024x4096, .bf16⟩
  | .hbm, ⟨18, _⟩ => ⟨S4x4096x3072, .bf16⟩
  | .hbm, ⟨19, _⟩ => ⟨S4x1024x4096, .bf16⟩
  | _, _ => ⟨S16384x1424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Adam4096x1424.lean ====
abbrev S4096x1424 : Shape := ⟨2, ![4096, 1424]⟩
abbrev S256x1424 : Shape := ⟨2, ![256, 1424]⟩

abbrev nBuf : Space → Nat
  | .hbm => 7
  | .vmem => 14
  | .smem => 0
  | _ => 0

abbrev bufTy : (tb : Table) → Fin (tcTables nBuf tb) → BufTy
  | .hbm, ⟨0, _⟩ => ⟨S4096x1424, .f32⟩
  | .hbm, ⟨1, _⟩ => ⟨S4096x1424, .f32⟩
  | .hbm, ⟨2, _⟩ => ⟨S4096x1424, .f32⟩
  | .hbm, ⟨3, _⟩ => ⟨S4096x1424, .f32⟩
  | .hbm, ⟨4, _⟩ => ⟨S4096x1424, .f32⟩
  | .hbm, ⟨5, _⟩ => ⟨S4096x1424, .f32⟩
  | .hbm, ⟨6, _⟩ => ⟨S4096x1424, .f32⟩
  | .local _ .vmem, ⟨0, _⟩ => ⟨S256x1424, .f32⟩
  | .local _ .vmem, ⟨1, _⟩ => ⟨S256x1424, .f32⟩
  | .local _ .vmem, ⟨2, _⟩ => ⟨S256x1424, .f32⟩
  | .local _ .vmem, ⟨3, _⟩ => ⟨S256x1424, .f32⟩
  | .local _ .vmem, ⟨4, _⟩ => ⟨S256x1424, .f32⟩
  | .local _ .vmem, ⟨5, _⟩ => ⟨S256x1424, .f32⟩
  | .local _ .vmem, ⟨6, _⟩ => ⟨S256x1424, .f32⟩
  | .local _ .vmem, ⟨7, _⟩ => ⟨S256x1424, .f32⟩
  | .local _ .vmem, ⟨8, _⟩ => ⟨S256x1424, .f32⟩
  | .local _ .vmem, ⟨9, _⟩ => ⟨S256x1424, .f32⟩
  | .local _ .vmem, ⟨10, _⟩ => ⟨S256x1424, .f32⟩
  | .local _ .vmem, ⟨11, _⟩ => ⟨S256x1424, .f32⟩
  | .local _ .vmem, ⟨12, _⟩ => ⟨S256x1424, .f32⟩
  | .local _ .vmem, ⟨13, _⟩ => ⟨S256x1424, .f32⟩
  | _, _ => ⟨S4096x1424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x1424Ideal.lean ====
abbrev S4096x1424 : Shape := ⟨2, ![4096, 1424]⟩
abbrev S256x1424 : Shape := ⟨2, ![256, 1424]⟩

abbrev nBuf : Space → Nat
  | .hbm => 7
  | .vmem => 14
  | .smem => 0
  | _ => 0

abbrev bufTy : (tb : Table) → Fin (tcTables nBuf tb) → BufTy
  | .hbm, ⟨0, _⟩ => ⟨S4096x1424, .f32⟩
  | .hbm, ⟨1, _⟩ => ⟨S4096x1424, .f32⟩
  | .hbm, ⟨2, _⟩ => ⟨S4096x1424, .f32⟩
  | .hbm, ⟨3, _⟩ => ⟨S4096x1424, .f32⟩
  | .hbm, ⟨4, _⟩ => ⟨S4096x1424, .f32⟩
  | .hbm, ⟨5, _⟩ => ⟨S4096x1424, .f32⟩
  | .hbm, ⟨6, _⟩ => ⟨S4096x1424, .f32⟩
  | .local _ .vmem, ⟨0, _⟩ => ⟨S256x1424, .f32⟩
  | .local _ .vmem, ⟨1, _⟩ => ⟨S256x1424, .f32⟩
  | .local _ .vmem, ⟨2, _⟩ => ⟨S256x1424, .f32⟩
  | .local _ .vmem, ⟨3, _⟩ => ⟨S256x1424, .f32⟩
  | .local _ .vmem, ⟨4, _⟩ => ⟨S256x1424, .f32⟩
  | .local _ .vmem, ⟨5, _⟩ => ⟨S256x1424, .f32⟩
  | .local _ .vmem, ⟨6, _⟩ => ⟨S256x1424, .f32⟩
  | .local _ .vmem, ⟨7, _⟩ => ⟨S256x1424, .f32⟩
  | .local _ .vmem, ⟨8, _⟩ => ⟨S256x1424, .f32⟩
  | .local _ .vmem, ⟨9, _⟩ => ⟨S256x1424, .f32⟩
  | .local _ .vmem, ⟨10, _⟩ => ⟨S256x1424, .f32⟩
  | .local _ .vmem, ⟨11, _⟩ => ⟨S256x1424, .f32⟩
  | .local _ .vmem, ⟨12, _⟩ => ⟨S256x1424, .f32⟩
  | .local _ .vmem, ⟨13, _⟩ => ⟨S256x1424, .f32⟩
  | _, _ => ⟨S4096x1424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x1424RefIdeal.lean ====
abbrev S4096x1424 : Shape := ⟨2, ![4096, 1424]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1424, .f32⟩
  | .hbm, ⟨1, _⟩ => ⟨S4096x1424, .f32⟩
  | .hbm, ⟨2, _⟩ => ⟨S4096x1424, .f32⟩
  | .hbm, ⟨3, _⟩ => ⟨S4096x1424, .f32⟩
  | .hbm, ⟨4, _⟩ => ⟨S_, .f32⟩
  | .hbm, ⟨5, _⟩ => ⟨S4096x1424, .f32⟩
  | .hbm, ⟨6, _⟩ => ⟨S4096x1424, .f32⟩
  | .hbm, ⟨7, _⟩ => ⟨S_, .f32⟩
  | .hbm, ⟨8, _⟩ => ⟨S4096x1424, .f32⟩
  | .hbm, ⟨9, _⟩ => ⟨S4096x1424, .f32⟩
  | .hbm, ⟨10, _⟩ => ⟨S4096x1424, .f32⟩
  | .hbm, ⟨11, _⟩ => ⟨S_, .f32⟩
  | .hbm, ⟨12, _⟩ => ⟨S4096x1424, .f32⟩
  | .hbm, ⟨13, _⟩ => ⟨S4096x1424, .f32⟩
  | .hbm, ⟨14, _⟩ => ⟨S4096x1424, .f32⟩
  | .hbm, ⟨15, _⟩ => ⟨S_, .f32⟩
  | .hbm, ⟨16, _⟩ => ⟨S4096x1424, .f32⟩
  | .hbm, ⟨17, _⟩ => ⟨S4096x1424, .f32⟩
  | .hbm, ⟨18, _⟩ => ⟨S4096x1424, .f32⟩
  | .hbm, ⟨19, _⟩ => ⟨S_, .f32⟩
  | .hbm, ⟨20, _⟩ => ⟨S4096x1424, .f32⟩
  | .hbm, ⟨21, _⟩ => ⟨S4096x1424, .f32⟩
  | .hbm, ⟨22, _⟩ => ⟨S_, .f32⟩
  | .hbm, ⟨23, _⟩ => ⟨S4096x1424, .f32⟩
  | .hbm, ⟨24, _⟩ => ⟨S4096x1424, .f32⟩
  | .hbm, ⟨25, _⟩ => ⟨S4096x1424, .f32⟩
  | .hbm, ⟨26, _⟩ => ⟨S_, .f32⟩
  | .hbm, ⟨27, _⟩ => ⟨S4096x1424, .f32⟩
  | .hbm, ⟨28, _⟩ => ⟨S4096x1424, .f32⟩
  | .hbm, ⟨29, _⟩ => ⟨S4096x1424, .f32⟩
  | .hbm, ⟨30, _⟩ => ⟨S_, .f32⟩
  | .hbm, ⟨31, _⟩ => ⟨S4096x1424, .f32⟩
  | .hbm, ⟨32, _⟩ => ⟨S4096x1424, .f32⟩
  | .hbm, ⟨33, _⟩ => ⟨S4096x1424, .f32⟩
  | .hbm, ⟨34, _⟩ => ⟨S_, .f32⟩
  | .hbm, ⟨35, _⟩ => ⟨S4096x1424, .f32⟩
  | .hbm, ⟨36, _⟩ => ⟨S4096x1424, .f32⟩
  | _, _ => ⟨S4096x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam1024x1536.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam1024x1536Ideal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam1024x1536RefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam512x2048.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam512x2048Ideal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam512x2048RefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam1024x4096.lean ====
abbrev S1024x4096 : Shape := ⟨2, ![1024, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam1024x4096Ideal.lean ====
abbrev S1024x4096 : Shape := ⟨2, ![1024, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam1024x4096RefIdeal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam4096x4096.lean ====
abbrev S4096x4096 : Shape := ⟨2, ![4096, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x4096Ideal.lean ====
abbrev S4096x4096 : Shape := ⟨2, ![4096, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x4096RefIdeal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam4096x3072.lean ====
abbrev S4096x3072 : Shape := ⟨2, ![4096, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x3072Ideal.lean ====
abbrev S4096x3072 : Shape := ⟨2, ![4096, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4096x3072RefIdeal.lean ====
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam1616x128.lean ====
abbrev S1616x128 : Shape := ⟨2, ![1616, 128]⟩

abbrev nBuf : Space → Nat
  | .hbm => 7
  | .vmem => 7
  | .smem => 0
  | _ => 0

abbrev bufTy : (tb : Table) → Fin (tcTables nBuf tb) → BufTy
  | .hbm, ⟨0, _⟩ => ⟨S1616x128, .f32⟩
  | .hbm, ⟨1, _⟩ => ⟨S1616x128, .f32⟩
  | .hbm, ⟨2, _⟩ => ⟨S1616x128, .f32⟩
  | .hbm, ⟨3, _⟩ => ⟨S1616x128, .f32⟩
  | .hbm, ⟨4, _⟩ => ⟨S1616x128, .f32⟩
  | .hbm, ⟨5, _⟩ => ⟨S1616x128, .f32⟩
  | .hbm, ⟨6, _⟩ => ⟨S1616x128, .f32⟩
  | .local _ .vmem, ⟨0, _⟩ => ⟨S1616x128, .f32⟩
  | .local _ .vmem, ⟨1, _⟩ => ⟨S1616x128, .f32⟩
  | .local _ .vmem, ⟨2, _⟩ => ⟨S1616x128, .f32⟩
  | .local _ .vmem, ⟨3, _⟩ => ⟨S1616x128, .f32⟩
  | .local _ .vmem, ⟨4, _⟩ => ⟨S1616x128, .f32⟩
  | .local _ .vmem, ⟨5, _⟩ => ⟨S1616x128, .f32⟩
  | .local _ .vmem, ⟨6, _⟩ => ⟨S1616x128, .f32⟩
  | _, _ => ⟨S1616x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1616x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1616x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1616x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1616x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1616x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1616x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1616x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam1616x128RefIdeal.lean ====
abbrev S1616x128 : Shape := ⟨2, ![1616, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1616x128, .f32⟩
  | .hbm, ⟨1, _⟩ => ⟨S1616x128, .f32⟩
  | .hbm, ⟨2, _⟩ => ⟨S1616x128, .f32⟩
  | .hbm, ⟨3, _⟩ => ⟨S1616x128, .f32⟩
  | .hbm, ⟨4, _⟩ => ⟨S_, .f32⟩
  | .hbm, ⟨5, _⟩ => ⟨S1616x128, .f32⟩
  | .hbm, ⟨6, _⟩ => ⟨S1616x128, .f32⟩
  | .hbm, ⟨7, _⟩ => ⟨S_, .f32⟩
  | .hbm, ⟨8, _⟩ => ⟨S1616x128, .f32⟩
  | .hbm, ⟨9, _⟩ => ⟨S1616x128, .f32⟩
  | .hbm, ⟨10, _⟩ => ⟨S1616x128, .f32⟩
  | .hbm, ⟨11, _⟩ => ⟨S_, .f32⟩
  | .hbm, ⟨12, _⟩ => ⟨S1616x128, .f32⟩
  | .hbm, ⟨13, _⟩ => ⟨S1616x128, .f32⟩
  | .hbm, ⟨14, _⟩ => ⟨S1616x128, .f32⟩
  | .hbm, ⟨15, _⟩ => ⟨S_, .f32⟩
  | .hbm, ⟨16, _⟩ => ⟨S1616x128, .f32⟩
  | .hbm, ⟨17, _⟩ => ⟨S1616x128, .f32⟩
  | .hbm, ⟨18, _⟩ => ⟨S1616x128, .f32⟩
  | .hbm, ⟨19, _⟩ => ⟨S_, .f32⟩
  | .hbm, ⟨20, _⟩ => ⟨S1616x128, .f32⟩
  | .hbm, ⟨21, _⟩ => ⟨S1616x128, .f32⟩
  | .hbm, ⟨22, _⟩ => ⟨S_, .f32⟩
  | .hbm, ⟨23, _⟩ => ⟨S1616x128, .f32⟩
  | .hbm, ⟨24, _⟩ => ⟨S1616x128, .f32⟩
  | .hbm, ⟨25, _⟩ => ⟨S1616x128, .f32⟩
  | .hbm, ⟨26, _⟩ => ⟨S_, .f32⟩
  | .hbm, ⟨27, _⟩ => ⟨S1616x128, .f32⟩
  | .hbm, ⟨28, _⟩ => ⟨S1616x128, .f32⟩
  | .hbm, ⟨29, _⟩ => ⟨S1616x128, .f32⟩
  | .hbm, ⟨30, _⟩ => ⟨S_, .f32⟩
  | .hbm, ⟨31, _⟩ => ⟨S1616x128, .f32⟩
  | .hbm, ⟨32, _⟩ => ⟨S1616x128, .f32⟩
  | .hbm, ⟨33, _⟩ => ⟨S1616x128, .f32⟩
  | .hbm, ⟨34, _⟩ => ⟨S_, .f32⟩
  | .hbm, ⟨35, _⟩ => ⟨S1616x128, .f32⟩
  | .hbm, ⟨36, _⟩ => ⟨S1616x128, .f32⟩
  | _, _ => ⟨S1616x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Slots.lean ====
abbrev S8x2552x128 : Shape := ⟨3, ![8, 2552, 128]⟩
abbrev S2552x128 : Shape := ⟨2, ![2552, 128]⟩
abbrev S1x2552x128 : Shape := ⟨3, ![1, 2552, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2552x128, .f32⟩
  | .hbm, ⟨1, _⟩ => ⟨S2552x128, .f32⟩
  | .local _ .vmem, ⟨0, _⟩ => ⟨S8x2552x128, .f32⟩
  | .local _ .vmem, ⟨1, _⟩ => ⟨S2552x128, .f32⟩
  | _, _ => ⟨S8x2552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotsRefIdeal.lean ====
abbrev S8x2552x128 : Shape := ⟨3, ![8, 2552, 128]⟩
abbrev S_ : Shape := ⟨0, ![]⟩
abbrev S2552x128 : Shape := ⟨2, ![2552, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2552x128, .f32⟩
  | .hbm, ⟨1, _⟩ => ⟨S_, .f32⟩
  | .hbm, ⟨2, _⟩ => ⟨S2552x128, .f32⟩
  | _, _ => ⟨S8x2552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pair8192x1424.lean ====
abbrev S8192x1424 : Shape := ⟨2, ![8192, 1424]⟩
abbrev S256x1424 : Shape := ⟨2, ![256, 1424]⟩

abbrev nBuf : Space → Nat
  | .hbm => 3
  | .vmem => 6
  | .smem => 0
  | _ => 0

abbrev bufTy : (tb : Table) → Fin (tcTables nBuf tb) → BufTy
  | .hbm, ⟨0, _⟩ => ⟨S8192x1424, .f32⟩
  | .hbm, ⟨1, _⟩ => ⟨S8192x1424, .f32⟩
  | .hbm, ⟨2, _⟩ => ⟨S8192x1424, .bf16⟩
  | .local _ .vmem, ⟨0, _⟩ => ⟨S256x1424, .f32⟩
  | .local _ .vmem, ⟨1, _⟩ => ⟨S256x1424, .f32⟩
  | .local _ .vmem, ⟨2, _⟩ => ⟨S256x1424, .f32⟩
  | .local _ .vmem, ⟨3, _⟩ => ⟨S256x1424, .f32⟩
  | .local _ .vmem, ⟨4, _⟩ => ⟨S256x1424, .bf16⟩
  | .local _ .vmem, ⟨5, _⟩ => ⟨S256x1424, .bf16⟩
  | _, _ => ⟨S8192x1424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1424 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair8192x1424Ideal.lean ====
abbrev S8192x1424 : Shape := ⟨2, ![8192, 1424]⟩
abbrev S256x1424 : Shape := ⟨2, ![256, 1424]⟩

abbrev nBuf : Space → Nat
  | .hbm => 3
  | .vmem => 6
  | .smem => 0
  | _ => 0

abbrev bufTy : (tb : Table) → Fin (tcTables nBuf tb) → BufTy
  | .hbm, ⟨0, _⟩ => ⟨S8192x1424, .f32⟩
  | .hbm, ⟨1, _⟩ => ⟨S8192x1424, .f32⟩
  | .hbm, ⟨2, _⟩ => ⟨S8192x1424, .bf16⟩
  | .local _ .vmem, ⟨0, _⟩ => ⟨S256x1424, .f32⟩
  | .local _ .vmem, ⟨1, _⟩ => ⟨S256x1424, .f32⟩
  | .local _ .vmem, ⟨2, _⟩ => ⟨S256x1424, .f32⟩
  | .local _ .vmem, ⟨3, _⟩ => ⟨S256x1424, .f32⟩
  | .local _ .vmem, ⟨4, _⟩ => ⟨S256x1424, .bf16⟩
  | .local _ .vmem, ⟨5, _⟩ => ⟨S256x1424, .bf16⟩
  | _, _ => ⟨S8192x1424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1424 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair8192x1424RefIdeal.lean ====
abbrev S8192x1424 : Shape := ⟨2, ![8192, 1424]⟩

abbrev nBuf : Space → Nat
  | .hbm => 4
  | .vmem => 0
  | .smem => 0
  | _ => 0

abbrev bufTy : (tb : Table) → Fin (tcTables nBuf tb) → BufTy
  | .hbm, ⟨0, _⟩ => ⟨S8192x1424, .f32⟩
  | .hbm, ⟨1, _⟩ => ⟨S8192x1424, .f32⟩
  | .hbm, ⟨2, _⟩ => ⟨S8192x1424, .f32⟩
  | .hbm, ⟨3, _⟩ => ⟨S8192x1424, .bf16⟩
  | _, _ => ⟨S8192x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair8192x1424Ref.lean ====
abbrev S8192x1424 : Shape := ⟨2, ![8192, 1424]⟩

abbrev nBuf : Space → Nat
  | .hbm => 4
  | .vmem => 0
  | .smem => 0
  | _ => 0

abbrev bufTy : (tb : Table) → Fin (tcTables nBuf tb) → BufTy
  | .hbm, ⟨0, _⟩ => ⟨S8192x1424, .f32⟩
  | .hbm, ⟨1, _⟩ => ⟨S8192x1424, .f32⟩
  | .hbm, ⟨2, _⟩ => ⟨S8192x1424, .f32⟩
  | .hbm, ⟨3, _⟩ => ⟨S8192x1424, .bf16⟩
  | _, _ => ⟨S8192x1424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip2048x1424.lean ====
abbrev S4x2048x1424 : Shape := ⟨3, ![4, 2048, 1424]⟩
abbrev S2048x1424 : Shape := ⟨2, ![2048, 1424]⟩
abbrev S4x256x1424 : Shape := ⟨3, ![4, 256, 1424]⟩
abbrev S256x1424 : Shape := ⟨2, ![256, 1424]⟩
abbrev S1x256x1424 : Shape := ⟨3, ![1, 256, 1424]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1424, .bf16⟩
  | .hbm, ⟨1, _⟩ => ⟨S2048x1424, .f32⟩
  | .local _ .vmem, ⟨0, _⟩ => ⟨S4x256x1424, .bf16⟩
  | .local _ .vmem, ⟨1, _⟩ => ⟨S4x256x1424, .bf16⟩
  | .local _ .vmem, ⟨2, _⟩ => ⟨S256x1424, .f32⟩
  | .local _ .vmem, ⟨3, _⟩ => ⟨S256x1424, .f32⟩
  | _, _ => ⟨S4x2048x1424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip2048x1424Ideal.lean ====
abbrev S4x2048x1424 : Shape := ⟨3, ![4, 2048, 1424]⟩
abbrev S2048x1424 : Shape := ⟨2, ![2048, 1424]⟩
abbrev S4x256x1424 : Shape := ⟨3, ![4, 256, 1424]⟩
abbrev S256x1424 : Shape := ⟨2, ![256, 1424]⟩
abbrev S1x256x1424 : Shape := ⟨3, ![1, 256, 1424]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1424, .bf16⟩
  | .hbm, ⟨1, _⟩ => ⟨S2048x1424, .f32⟩
  | .local _ .vmem, ⟨0, _⟩ => ⟨S4x256x1424, .bf16⟩
  | .local _ .vmem, ⟨1, _⟩ => ⟨S4x256x1424, .bf16⟩
  | .local _ .vmem, ⟨2, _⟩ => ⟨S256x1424, .f32⟩
  | .local _ .vmem, ⟨3, _⟩ => ⟨S256x1424, .f32⟩
  | _, _ => ⟨S4x2048x1424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip2048x1424RefIdeal.lean ====
abbrev S4x2048x1424 : Shape := ⟨3, ![4, 2048, 1424]⟩
abbrev S_ : Shape := ⟨0, ![]⟩
abbrev S2048x1424 : Shape := ⟨2, ![2048, 1424]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1424, .bf16⟩
  | .hbm, ⟨1, _⟩ => ⟨S4x2048x1424, .f32⟩
  | .hbm, ⟨2, _⟩ => ⟨S_, .f32⟩
  | .hbm, ⟨3, _⟩ => ⟨S2048x1424, .f32⟩
  | _, _ => ⟨S4x2048x1424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair2048x1536.lean ====
abbrev S2048x1536 : Shape := ⟨2, ![2048, 1536]⟩
abbrev S256x1536 : Shape := ⟨2, ![256, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .bf16⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .bf16⟩
  | .local _ .vmem, ⟨5, _⟩ => ⟨S256x1536, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair2048x1536Ideal.lean ====
abbrev S2048x1536 : Shape := ⟨2, ![2048, 1536]⟩
abbrev S256x1536 : Shape := ⟨2, ![256, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .bf16⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .bf16⟩
  | .local _ .vmem, ⟨5, _⟩ => ⟨S256x1536, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair2048x1536RefIdeal.lean ====
abbrev S2048x1536 : Shape := ⟨2, ![2048, 1536]⟩

abbrev nBuf : Space → Nat
  | .hbm => 4
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair2048x1536Ref.lean ====
abbrev S2048x1536 : Shape := ⟨2, ![2048, 1536]⟩

abbrev nBuf : Space → Nat
  | .hbm => 4
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip512x1536.lean ====
abbrev S4x512x1536 : Shape := ⟨3, ![4, 512, 1536]⟩
abbrev S512x1536 : Shape := ⟨2, ![512, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip512x1536Ideal.lean ====
abbrev S4x512x1536 : Shape := ⟨3, ![4, 512, 1536]⟩
abbrev S512x1536 : Shape := ⟨2, ![512, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip512x1536RefIdeal.lean ====
abbrev S4x512x1536 : Shape := ⟨3, ![4, 512, 1536]⟩
abbrev S_ : Shape := ⟨0, ![]⟩
abbrev S512x1536 : Shape := ⟨2, ![512, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .f32⟩
  | .hbm, ⟨2, _⟩ => ⟨S_, .f32⟩
  | .hbm, ⟨3, _⟩ => ⟨S512x1536, .f32⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair1024x2048.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair1024x2048Ideal.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair1024x2048RefIdeal.lean ====
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair1024x2048Ref.lean ====
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip256x2048.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Chip256x2048Ideal.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Chip256x2048RefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair2048x4096.lean ====
abbrev S2048x4096 : Shape := ⟨2, ![2048, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair2048x4096Ideal.lean ====
abbrev S2048x4096 : Shape := ⟨2, ![2048, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair2048x4096RefIdeal.lean ====
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair2048x4096Ref.lean ====
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip512x4096.lean ====
abbrev S4x512x4096 : Shape := ⟨3, ![4, 512, 4096]⟩
abbrev S512x4096 : Shape := ⟨2, ![512, 4096]⟩
abbrev S4x256x4096 : Shape := ⟨3, ![4, 256, 4096]⟩
abbrev S256x4096 : Shape := ⟨2, ![256, 4096]⟩
abbrev S1x256x4096 : Shape := ⟨3, ![1, 256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .local _ .vmem, ⟨0, _⟩ => ⟨S4x256x4096, .bf16⟩
  | .local _ .vmem, ⟨1, _⟩ => ⟨S4x256x4096, .bf16⟩
  | .local _ .vmem, ⟨2, _⟩ => ⟨S256x4096, .f32⟩
  | .local _ .vmem, ⟨3, _⟩ => ⟨S256x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip512x4096Ideal.lean ====
abbrev S4x512x4096 : Shape := ⟨3, ![4, 512, 4096]⟩
abbrev S512x4096 : Shape := ⟨2, ![512, 4096]⟩
abbrev S4x256x4096 : Shape := ⟨3, ![4, 256, 4096]⟩
abbrev S256x4096 : Shape := ⟨2, ![256, 4096]⟩
abbrev S1x256x4096 : Shape := ⟨3, ![1, 256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .local _ .vmem, ⟨0, _⟩ => ⟨S4x256x4096, .bf16⟩
  | .local _ .vmem, ⟨1, _⟩ => ⟨S4x256x4096, .bf16⟩
  | .local _ .vmem, ⟨2, _⟩ => ⟨S256x4096, .f32⟩
  | .local _ .vmem, ⟨3, _⟩ => ⟨S256x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip512x4096RefIdeal.lean ====
abbrev S4x512x4096 : Shape := ⟨3, ![4, 512, 4096]⟩
abbrev S_ : Shape := ⟨0, ![]⟩
abbrev S512x4096 : Shape := ⟨2, ![512, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x512x4096, .f32⟩
  | .hbm, ⟨2, _⟩ => ⟨S_, .f32⟩
  | .hbm, ⟨3, _⟩ => ⟨S512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair8192x4096.lean ====
abbrev S8192x4096 : Shape := ⟨2, ![8192, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair8192x4096Ideal.lean ====
abbrev S8192x4096 : Shape := ⟨2, ![8192, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair8192x4096RefIdeal.lean ====
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair8192x4096Ref.lean ====
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip2048x4096.lean ====
abbrev S4x2048x4096 : Shape := ⟨3, ![4, 2048, 4096]⟩
abbrev S2048x4096 : Shape := ⟨2, ![2048, 4096]⟩
abbrev S4x256x4096 : Shape := ⟨3, ![4, 256, 4096]⟩
abbrev S256x4096 : Shape := ⟨2, ![256, 4096]⟩
abbrev S1x256x4096 : Shape := ⟨3, ![1, 256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x4096, .bf16⟩
  | .hbm, ⟨1, _⟩ => ⟨S2048x4096, .f32⟩
  | .local _ .vmem, ⟨0, _⟩ => ⟨S4x256x4096, .bf16⟩
  | .local _ .vmem, ⟨1, _⟩ => ⟨S4x256x4096, .bf16⟩
  | .local _ .vmem, ⟨2, _⟩ => ⟨S256x4096, .f32⟩
  | .local _ .vmem, ⟨3, _⟩ => ⟨S256x4096, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip2048x4096Ideal.lean ====
abbrev S4x2048x4096 : Shape := ⟨3, ![4, 2048, 4096]⟩
abbrev S2048x4096 : Shape := ⟨2, ![2048, 4096]⟩
abbrev S4x256x4096 : Shape := ⟨3, ![4, 256, 4096]⟩
abbrev S256x4096 : Shape := ⟨2, ![256, 4096]⟩
abbrev S1x256x4096 : Shape := ⟨3, ![1, 256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x4096, .bf16⟩
  | .hbm, ⟨1, _⟩ => ⟨S2048x4096, .f32⟩
  | .local _ .vmem, ⟨0, _⟩ => ⟨S4x256x4096, .bf16⟩
  | .local _ .vmem, ⟨1, _⟩ => ⟨S4x256x4096, .bf16⟩
  | .local _ .vmem, ⟨2, _⟩ => ⟨S256x4096, .f32⟩
  | .local _ .vmem, ⟨3, _⟩ => ⟨S256x4096, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip2048x4096RefIdeal.lean ====
abbrev S4x2048x4096 : Shape := ⟨3, ![4, 2048, 4096]⟩
abbrev S_ : Shape := ⟨0, ![]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x4096, .f32⟩
  | .hbm, ⟨2, _⟩ => ⟨S_, .f32⟩
  | .hbm, ⟨3, _⟩ => ⟨S2048x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair8192x3072.lean ====
abbrev S8192x3072 : Shape := ⟨2, ![8192, 3072]⟩
abbrev S256x3072 : Shape := ⟨2, ![256, 3072]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .bf16⟩
  | .local _ .vmem, ⟨5, _⟩ => ⟨S256x3072, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pair8192x3072Ref.lean ====
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chip2048x3072.lean ====
abbrev S4x2048x3072 : Shape := ⟨3, ![4, 2048, 3072]⟩
abbrev S2048x3072 : Shape := ⟨2, ![2048, 3072]⟩
abbrev S4x256x3072 : Shape := ⟨3, ![4, 256, 3072]⟩
abbrev S256x3072 : Shape := ⟨2, ![256, 3072]⟩
abbrev S1x256x3072 : Shape := ⟨3, ![1, 256, 3072]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x3072, .bf16⟩
  | .hbm, ⟨1, _⟩ => ⟨S2048x3072, .f32⟩
  | .local _ .vmem, ⟨0, _⟩ => ⟨S4x256x3072, .bf16⟩
  | .local _ .vmem, ⟨1, _⟩ => ⟨S4x256x3072, .bf16⟩
  | .local _ .vmem, ⟨2, _⟩ => ⟨S256x3072, .f32⟩
  | .local _ .vmem, ⟨3, _⟩ => ⟨S256x3072, .f32⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Chip2048x3072RefIdeal.lean ====
abbrev S4x2048x3072 : Shape := ⟨3, ![4, 2048, 3072]⟩
abbrev S_ : Shape := ⟨0, ![]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x3072, .f32⟩
  | .hbm, ⟨2, _⟩ => ⟨S_, .f32⟩
  | .hbm, ⟨3, _⟩ => ⟨S2048x3072, .f32⟩
  | _, _ => ⟨S4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Loss.lean ====
abbrev S4096x4096 : Shape := ⟨2, ![4096, 4096]⟩
abbrev S8x128 : Shape := ⟨2, ![8, 128]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S8x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x4096 : Shape := ⟨2, ![4096, 4096]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x4096, .f32⟩
  | .hbm, ⟨24, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== NormGrad.lean ====
abbrev S4096x4096 : Shape := ⟨2, ![4096, 4096]⟩
abbrev S4096 : Shape := ⟨1, ![4096]⟩
abbrev S1x4096x4096 : Shape := ⟨3, ![1, 4096, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096x4096, .f32⟩
  | .hbm, ⟨5, _⟩ => ⟨S1x4096, .f32⟩
  | .hbm, ⟨6, _⟩ => ⟨S4096x4096, .f32⟩
  | .hbm, ⟨7, _⟩ => ⟨S1x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== PreNorm.lean ====
abbrev S4096x4096 : Shape := ⟨2, ![4096, 4096]⟩
abbrev S4096 : Shape := ⟨1, ![4096]⟩
abbrev S1x4096x4096 : Shape := ⟨3, ![1, 4096, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096x4096, .f32⟩
  | .hbm, ⟨3, _⟩ => ⟨S1x4096, .f32⟩
  | .hbm, ⟨4, _⟩ => ⟨S4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostNorm.lean ====
abbrev S1x4096x4096 : Shape := ⟨3, ![1, 4096, 4096]⟩
abbrev S4096 : Shape := ⟨1, ![4096]⟩
abbrev S4096x4096 : Shape := ⟨2, ![4096, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormRefIdeal.lean ====
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PostNormGrad.lean ====
abbrev S1x4096x4096 : Shape := ⟨3, ![1, 4096, 4096]⟩
abbrev S4096 : Shape := ⟨1, ![4096]⟩
abbrev S4096x4096 : Shape := ⟨2, ![4096, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S4096x4096, .bf16⟩
  | .hbm, ⟨5, _⟩ => ⟨S1x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostNormGradRefIdeal.lean ====
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .bf16⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Gate.lean ====
abbrev S4096x4096 : Shape := ⟨2, ![4096, 4096]⟩
abbrev S1x4096x4096 : Shape := ⟨3, ![1, 4096, 4096]⟩
abbrev S256x4096 : Shape := ⟨2, ![256, 4096]⟩
abbrev S1x256x4096 : Shape := ⟨3, ![1, 256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x256x4096, .f32⟩
  | .local _ .vmem, ⟨3, _⟩ => ⟨S1x256x4096, .f32⟩
  | .local _ .vmem, ⟨4, _⟩ => ⟨S256x4096, .bf16⟩
  | .local _ .vmem, ⟨5, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S4096x4096 : Shape := ⟨2, ![4096, 4096]⟩
abbrev S1x4096x4096 : Shape := ⟨3, ![1, 4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== GateGrad.lean ====
abbrev S4096x4096 : Shape := ⟨2, ![4096, 4096]⟩
abbrev S1x4096x4096 : Shape := ⟨3, ![1, 4096, 4096]⟩
abbrev S256x4096 : Shape := ⟨2, ![256, 4096]⟩
abbrev S1x256x4096 : Shape := ⟨3, ![1, 256, 4096]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096x4096, .f32⟩
  | .hbm, ⟨3, _⟩ => ⟨S4096x4096, .bf16⟩
  | .hbm, ⟨4, _⟩ => ⟨S1x4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x256x4096, .f32⟩
  | .local _ .vmem, ⟨5, _⟩ => ⟨S1x256x4096, .f32⟩
  | .local _ .vmem, ⟨6, _⟩ => ⟨S256x4096, .bf16⟩
  | .local _ .vmem, ⟨7, _⟩ => ⟨S256x4096, .bf16⟩
  | .local _ .vmem, ⟨8, _⟩ => ⟨S1x256x4096, .bf16⟩
  | .local _ .vmem, ⟨9, _⟩ => ⟨S1x256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateGradRefIdeal.lean ====
abbrev S4096x4096 : Shape := ⟨2, ![4096, 4096]⟩
abbrev S1x4096x4096 : Shape := ⟨3, ![1, 4096, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096x4096, .bf16⟩
  | .hbm, ⟨26, _⟩ => ⟨S1x4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InA.lean ====
abbrev S4096x4096 : Shape := ⟨2, ![4096, 4096]⟩
abbrev S1x4096x1664 : Shape := ⟨3, ![1, 4096, 1664]⟩
abbrev S1024x4096 : Shape := ⟨2, ![1024, 4096]⟩
abbrev S1x1024x1664 : Shape := ⟨3, ![1, 1024, 1664]⟩
abbrev S4096x1664 : Shape := ⟨2, ![4096, 1664]⟩
abbrev S1024x1664 : Shape := ⟨2, ![1024, 1664]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x4096x1664, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1664, .bf16⟩
  | .local _ .vmem, ⟨3, _⟩ => ⟨S1x1024x1664, .f32⟩
  | .local _ .vmem, ⟨4, _⟩ => ⟨S1x1024x1664, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAIdeal.lean ====
abbrev S4096x4096 : Shape := ⟨2, ![4096, 4096]⟩
abbrev S1x4096x1664 : Shape := ⟨3, ![1, 4096, 1664]⟩
abbrev S1024x4096 : Shape := ⟨2, ![1024, 4096]⟩
abbrev S1x1024x1664 : Shape := ⟨3, ![1, 1024, 1664]⟩
abbrev S4096x1664 : Shape := ⟨2, ![4096, 1664]⟩
abbrev S1024x1664 : Shape := ⟨2, ![1024, 1664]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x4096x1664, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1664, .bf16⟩
  | .local _ .vmem, ⟨3, _⟩ => ⟨S1x1024x1664, .f32⟩
  | .local _ .vmem, ⟨4, _⟩ => ⟨S1x1024x1664, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S4096x4096 : Shape := ⟨2, ![4096, 4096]⟩
abbrev S1x4096x1664 : Shape := ⟨3, ![1, 4096, 1664]⟩
abbrev S1x1664x4096 : Shape := ⟨3, ![1, 1664, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x1664x4096, .f32⟩
  | .hbm, ⟨3, _⟩ => ⟨S1x4096x1664, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InADw.lean ====
abbrev S4096x4096 : Shape := ⟨2, ![4096, 4096]⟩
abbrev S1x4096x1664 : Shape := ⟨3, ![1, 4096, 1664]⟩
abbrev S4096x1024 : Shape := ⟨2, ![4096, 1024]⟩
abbrev S1x1024x1664 : Shape := ⟨3, ![1, 1024, 1664]⟩
abbrev S4096x1664 : Shape := ⟨2, ![4096, 1664]⟩
abbrev S1024x1664 : Shape := ⟨2, ![1024, 1664]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x4096x1664, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1664, .bf16⟩
  | .local _ .vmem, ⟨3, _⟩ => ⟨S1x1024x1664, .f32⟩
  | .local _ .vmem, ⟨4, _⟩ => ⟨S1x1024x1664, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADwIdeal.lean ====
abbrev S4096x4096 : Shape := ⟨2, ![4096, 4096]⟩
abbrev S1x4096x1664 : Shape := ⟨3, ![1, 4096, 1664]⟩
abbrev S4096x1024 : Shape := ⟨2, ![4096, 1024]⟩
abbrev S1x1024x1664 : Shape := ⟨3, ![1, 1024, 1664]⟩
abbrev S4096x1664 : Shape := ⟨2, ![4096, 1664]⟩
abbrev S1024x1664 : Shape := ⟨2, ![1024, 1664]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x4096x1664, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1664, .bf16⟩
  | .local _ .vmem, ⟨3, _⟩ => ⟨S1x1024x1664, .f32⟩
  | .local _ .vmem, ⟨4, _⟩ => ⟨S1x1024x1664, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADwRefIdeal.lean ====
abbrev S4096x4096 : Shape := ⟨2, ![4096, 4096]⟩
abbrev S1x4096x1664 : Shape := ⟨3, ![1, 4096, 1664]⟩
abbrev S1x1664x4096 : Shape := ⟨3, ![1, 1664, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x1664, .bf16⟩
  | .hbm, ⟨2, _⟩ => ⟨S1x1664x4096, .f32⟩
  | .hbm, ⟨3, _⟩ => ⟨S1x4096x1664, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S4096x4096 : Shape := ⟨2, ![4096, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjIdeal.lean ====
abbrev S4096x4096 : Shape := ⟨2, ![4096, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x4096 : Shape := ⟨2, ![4096, 4096]⟩
abbrev S1x4096x4096 : Shape := ⟨3, ![1, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .hbm, ⟨3, _⟩ => ⟨S1x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProjDw.lean ====
abbrev S4096x4096 : Shape := ⟨2, ![4096, 4096]⟩
abbrev S1x4096x4096 : Shape := ⟨3, ![1, 4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwIdeal.lean ====
abbrev S4096x4096 : Shape := ⟨2, ![4096, 4096]⟩
abbrev S1x4096x4096 : Shape := ⟨3, ![1, 4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x4096 : Shape := ⟨2, ![4096, 4096]⟩
abbrev S1x4096x4096 : Shape := ⟨3, ![1, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S1x4096x4096, .f32⟩
  | .hbm, ⟨3, _⟩ => ⟨S1x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QUp.lean ====
abbrev S4096x1024 : Shape := ⟨2, ![4096, 1024]⟩
abbrev S1x1024x8192 : Shape := ⟨3, ![1, 1024, 8192]⟩
abbrev S1x4096x8192 : Shape := ⟨3, ![1, 4096, 8192]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x8192, .bf16⟩
  | .hbm, ⟨2, _⟩ => ⟨S1x4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpIdeal.lean ====
abbrev S4096x1024 : Shape := ⟨2, ![4096, 1024]⟩
abbrev S1x1024x8192 : Shape := ⟨3, ![1, 1024, 8192]⟩
abbrev S1x4096x8192 : Shape := ⟨3, ![1, 4096, 8192]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x8192, .bf16⟩
  | .hbm, ⟨2, _⟩ => ⟨S1x4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S4096x1024 : Shape := ⟨2, ![4096, 1024]⟩
abbrev S1x1024x8192 : Shape := ⟨3, ![1, 1024, 8192]⟩
abbrev S1x8192x4096 : Shape := ⟨3, ![1, 8192, 4096]⟩
abbrev S1x4096x8192 : Shape := ⟨3, ![1, 4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x8192, .bf16⟩
  | .hbm, ⟨2, _⟩ => ⟨S1x8192x4096, .f32⟩
  | .hbm, ⟨3, _⟩ => ⟨S1x4096x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QUpDw.lean ====
abbrev S4096x1024 : Shape := ⟨2, ![4096, 1024]⟩
abbrev S1x4096x8192 : Shape := ⟨3, ![1, 4096, 8192]⟩
abbrev S1x1024x8192 : Shape := ⟨3, ![1, 1024, 8192]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x4096x8192, .bf16⟩
  | .hbm, ⟨2, _⟩ => ⟨S1x1024x8192, .f32⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwIdeal.lean ====
abbrev S4096x1024 : Shape := ⟨2, ![4096, 1024]⟩
abbrev S1x4096x8192 : Shape := ⟨3, ![1, 4096, 8192]⟩
abbrev S1x1024x8192 : Shape := ⟨3, ![1, 1024, 8192]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x4096x8192, .bf16⟩
  | .hbm, ⟨2, _⟩ => ⟨S1x1024x8192, .f32⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwRefIdeal.lean ====
abbrev S4096x1024 : Shape := ⟨2, ![4096, 1024]⟩
abbrev S1x4096x8192 : Shape := ⟨3, ![1, 4096, 8192]⟩
abbrev S1x8192x1024 : Shape := ⟨3, ![1, 8192, 1024]⟩
abbrev S1x1024x8192 : Shape := ⟨3, ![1, 1024, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x4096x8192, .bf16⟩
  | .hbm, ⟨2, _⟩ => ⟨S1x8192x1024, .f32⟩
  | .hbm, ⟨3, _⟩ => ⟨S1x1024x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvUp.lean ====
abbrev S4096x512 : Shape := ⟨2, ![4096, 512]⟩
abbrev S1x512x8192 : Shape := ⟨3, ![1, 512, 8192]⟩
abbrev S1x4096x8192 : Shape := ⟨3, ![1, 4096, 8192]⟩
abbrev S1024x512 : Shape := ⟨2, ![1024, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1x512x8192, .bf16⟩
  | .hbm, ⟨2, _⟩ => ⟨S1x4096x8192, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpIdeal.lean ====
abbrev S4096x512 : Shape := ⟨2, ![4096, 512]⟩
abbrev S1x512x8192 : Shape := ⟨3, ![1, 512, 8192]⟩
abbrev S1x4096x8192 : Shape := ⟨3, ![1, 4096, 8192]⟩
abbrev S1024x512 : Shape := ⟨2, ![1024, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1x512x8192, .bf16⟩
  | .hbm, ⟨2, _⟩ => ⟨S1x4096x8192, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S4096x512 : Shape := ⟨2, ![4096, 512]⟩
abbrev S1x512x8192 : Shape := ⟨3, ![1, 512, 8192]⟩
abbrev S1x8192x4096 : Shape := ⟨3, ![1, 8192, 4096]⟩
abbrev S1x4096x8192 : Shape := ⟨3, ![1, 4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1x512x8192, .bf16⟩
  | .hbm, ⟨2, _⟩ => ⟨S1x8192x4096, .f32⟩
  | .hbm, ⟨3, _⟩ => ⟨S1x4096x8192, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvUpDw.lean ====
abbrev S4096x512 : Shape := ⟨2, ![4096, 512]⟩
abbrev S1x4096x8192 : Shape := ⟨3, ![1, 4096, 8192]⟩
abbrev S1x512x8192 : Shape := ⟨3, ![1, 512, 8192]⟩
abbrev S1x4096x1024 : Shape := ⟨3, ![1, 4096, 1024]⟩
abbrev S1x512x1024 : Shape := ⟨3, ![1, 512, 1024]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1x4096x8192, .bf16⟩
  | .hbm, ⟨2, _⟩ => ⟨S1x512x8192, .f32⟩
  | .local _ .vmem, ⟨0, _⟩ => ⟨S4096x512, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x512x1024, .f32⟩
  | .local _ .vmem, ⟨4, _⟩ => ⟨S1x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwIdeal.lean ====
abbrev S4096x512 : Shape := ⟨2, ![4096, 512]⟩
abbrev S1x4096x8192 : Shape := ⟨3, ![1, 4096, 8192]⟩
abbrev S1x512x8192 : Shape := ⟨3, ![1, 512, 8192]⟩
abbrev S1x4096x1024 : Shape := ⟨3, ![1, 4096, 1024]⟩
abbrev S1x512x1024 : Shape := ⟨3, ![1, 512, 1024]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1x4096x8192, .bf16⟩
  | .hbm, ⟨2, _⟩ => ⟨S1x512x8192, .f32⟩
  | .local _ .vmem, ⟨0, _⟩ => ⟨S4096x512, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x512x1024, .f32⟩
  | .local _ .vmem, ⟨4, _⟩ => ⟨S1x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwRefIdeal.lean ====
abbrev S4096x512 : Shape := ⟨2, ![4096, 512]⟩
abbrev S1x4096x8192 : Shape := ⟨3, ![1, 4096, 8192]⟩
abbrev S1x8192x512 : Shape := ⟨3, ![1, 8192, 512]⟩
abbrev S1x512x8192 : Shape := ⟨3, ![1, 512, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1x4096x8192, .bf16⟩
  | .hbm, ⟨2, _⟩ => ⟨S1x8192x512, .f32⟩
  | .hbm, ⟨3, _⟩ => ⟨S1x512x8192, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ScIn.lean ====
abbrev S4096x4096 : Shape := ⟨2, ![4096, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4x4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInRefIdeal.lean ====
abbrev S4096x4096 : Shape := ⟨2, ![4096, 4096]⟩
abbrev S4x4096x4096 : Shape := ⟨3, ![4, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4x4096x4096, .f32⟩
  | .hbm, ⟨3, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ScInDw.lean ====
abbrev S4096x4096 : Shape := ⟨2, ![4096, 4096]⟩
abbrev S4x4096x4096 : Shape := ⟨3, ![4, 4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDwRefIdeal.lean ====
abbrev S4096x4096 : Shape := ⟨2, ![4096, 4096]⟩
abbrev S4x4096x4096 : Shape := ⟨3, ![4, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4x4096x4096, .f32⟩
  | .hbm, ⟨3, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InADx.lean ====
abbrev S1x4096x1664 : Shape := ⟨3, ![1, 4096, 1664]⟩
abbrev S4096x4096 : Shape := ⟨2, ![4096, 4096]⟩
abbrev S1x1024x1664 : Shape := ⟨3, ![1, 1024, 1664]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x1664, .bf16⟩
  | .hbm, ⟨1, _⟩ => ⟨S1x4096x1664, .bf16⟩
  | .hbm, ⟨2, _⟩ => ⟨S4096x4096, .f32⟩
  | .local _ .vmem, ⟨0, _⟩ => ⟨S1x1024x1664, .bf16⟩
  | .local _ .vmem, ⟨1, _⟩ => ⟨S1x1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | _, _ => ⟨S1x4096x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxIdeal.lean ====
abbrev S1x4096x1664 : Shape := ⟨3, ![1, 4096, 1664]⟩
abbrev S4096x4096 : Shape := ⟨2, ![4096, 4096]⟩
abbrev S1x1024x1664 : Shape := ⟨3, ![1, 1024, 1664]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x1664, .bf16⟩
  | .hbm, ⟨1, _⟩ => ⟨S1x4096x1664, .bf16⟩
  | .hbm, ⟨2, _⟩ => ⟨S4096x4096, .f32⟩
  | .local _ .vmem, ⟨0, _⟩ => ⟨S1x1024x1664, .bf16⟩
  | .local _ .vmem, ⟨1, _⟩ => ⟨S1x1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | _, _ => ⟨S1x4096x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxRefIdeal.lean ====
abbrev S1x4096x1664 : Shape := ⟨3, ![1, 4096, 1664]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x1664, .bf16⟩
  | .hbm, ⟨1, _⟩ => ⟨S1x4096x1664, .bf16⟩
  | .hbm, ⟨2, _⟩ => ⟨S4096x4096, .f32⟩
  | _, _ => ⟨S1x4096x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjDx.lean ====
abbrev S1x4096x4096 : Shape := ⟨3, ![1, 4096, 4096]⟩
abbrev S4096x4096 : Shape := ⟨2, ![4096, 4096]⟩
abbrev S1x1024x4096 : Shape := ⟨3, ![1, 1024, 4096]⟩
abbrev S1024x1024 : Shape := ⟨2, ![1024, 1024]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x4096, .bf16⟩
  | .hbm, ⟨1, _⟩ => ⟨S1x4096x4096, .bf16⟩
  | .hbm, ⟨2, _⟩ => ⟨S4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S1x4096x4096 : Shape := ⟨3, ![1, 4096, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x4096, .bf16⟩
  | .hbm, ⟨1, _⟩ => ⟨S1x4096x4096, .bf16⟩
  | .hbm, ⟨2, _⟩ => ⟨S4096x4096, .f32⟩
  | _, _ => ⟨S1x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InZDx.lean ====
abbrev S1x4096x4096 : Shape := ⟨3, ![1, 4096, 4096]⟩
abbrev S4096x4096 : Shape := ⟨2, ![4096, 4096]⟩
abbrev S1x1024x4096 : Shape := ⟨3, ![1, 1024, 4096]⟩
abbrev S1024x1024 : Shape := ⟨2, ![1024, 1024]⟩
abbrev S1024x4096 : Shape := ⟨2, ![1024, 4096]⟩

abbrev nBuf : Space → Nat
  | .hbm => 4
  | .vmem => 8
  | .smem => 0
  | _ => 0

abbrev bufTy : (tb : Table) → Fin (tcTables nBuf tb) → BufTy
  | .hbm, ⟨0, _⟩ => ⟨S1x4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InZDxRefIdeal.lean ====
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S1x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GmIn.lean ====
abbrev S4096x4096 : Shape := ⟨2, ![4096, 4096]⟩
abbrev S4x4096x3072 : Shape := ⟨3, ![4, 4096, 3072]⟩
abbrev S3x4096x4096 : Shape := ⟨3, ![3, 4096, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x3072, .bf16⟩
  | .hbm, ⟨2, _⟩ => ⟨S3x4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S4096x4096 : Shape := ⟨2, ![4096, 4096]⟩
abbrev S4x4096x3072 : Shape := ⟨3, ![4, 4096, 3072]⟩
abbrev S4096x4x3072 : Shape := ⟨3, ![4096, 4, 3072]⟩
abbrev S4096x12288 : Shape := ⟨2, ![4096, 12288]⟩
abbrev S4096x3x4096 : Shape := ⟨3, ![4096, 3, 4096]⟩
abbrev S3x4096x4096 : Shape := ⟨3, ![3, 4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x3072, .bf16⟩
  | .hbm, ⟨2, _⟩ => ⟨S4096x4x3072, .bf16⟩
  | .hbm, ⟨3, _⟩ => ⟨S4096x12288, .bf16⟩
  | .hbm, ⟨4, _⟩ => ⟨S4096x12288, .f32⟩
  | .hbm, ⟨5, _⟩ => ⟨S4096x3x4096, .f32⟩
  | .hbm, ⟨6, _⟩ => ⟨S3x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GmInDw.lean ====
abbrev S4096x4096 : Shape := ⟨2, ![4096, 4096]⟩
abbrev S3x4096x4096 : Shape := ⟨3, ![3, 4096, 4096]⟩
abbrev S4x4096x3072 : Shape := ⟨3, ![4, 4096, 3072]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S3x4096x4096, .bf16⟩
  | .hbm, ⟨2, _⟩ => ⟨S4x4096x3072, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDwRefIdeal.lean ====
abbrev S4096x4096 : Shape := ⟨2, ![4096, 4096]⟩
abbrev S3x4096x4096 : Shape := ⟨3, ![3, 4096, 4096]⟩
abbrev S4096x3x4096 : Shape := ⟨3, ![4096, 3, 4096]⟩
abbrev S4096x12288 : Shape := ⟨2, ![4096, 12288]⟩
abbrev S4096x4x3072 : Shape := ⟨3, ![4096, 4, 3072]⟩
abbrev S4x4096x3072 : Shape := ⟨3, ![4, 4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x4096x4096, .bf16⟩
  | .hbm, ⟨2, _⟩ => ⟨S4096x4096, .bf16⟩
  | .hbm, ⟨3, _⟩ => ⟨S4096x3x4096, .bf16⟩
  | .hbm, ⟨4, _⟩ => ⟨S4096x12288, .bf16⟩
  | .hbm, ⟨5, _⟩ => ⟨S4096x12288, .f32⟩
  | .hbm, ⟨6, _⟩ => ⟨S4096x4x3072, .f32⟩
  | .hbm, ⟨7, _⟩ => ⟨S4x4096x3072, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.PeerLaunch.lean ====
/-
The launch of a program that runs ONE windowless kernel region and then, possibly, host operations, on several
devices whose kernels write straight into one another's arrays.

A device that copies into another device's result array has to own that array before the other device has entered
its kernel. So all devices' holdings are put on one table first: the kernel's own semaphores, the arrays, and the
certificate's ghost resources, and the certificate deals them out again (`hglob`), each device receiving the share
its run needs, which may be parts of other devices' arrays.
-/
module

public import Idealize.ShloMosaic.Lib.Pipeline.Launch
public import Idealize.ShloMosaic.Lib.Pipeline.Regions
public import Idealize.ShloMosaic.Lib.Quiescent
public import Idealize.ShloMosaic.Lib.Tactic

@[expose] public section

noncomputable section

namespace Cert.PeerLaunch

open Idealize.ShloMosaic
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open TcCoe
open Idealize.ShloMosaic.Pipeline Idealize.ShloMosaic.Pipeline.PerCore
open Idealize.ShloMosaic.Rounds
open PCS

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- The level facts of the whole machine come from every TensorCore's rights to assign levels, when no other
    thread's cell has an index with a level. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have others (d : Dev nD) : (bigSep (Finset.univ.erase Proc.tc) fun q => (coreLevAts ((d, q) : Thread nD τ) L lv : sProp 𝕄)) = BI.emp := by
    refine (bigSep_congr fun q hq => ?_).trans (BI.bigSep_emp_const (Finset.univ.erase Proc.tc))
    unfold coreLevAts
    refine (bigSep_congr fun sm _ => ?_).trans (BI.bigSep_emp_const Finset.univ)
    rw [hL (((d, q) : Thread nD τ), sm) (Finset.ne_of_mem_erase hq), BI.bigSep_empty]
  have total : (levAts L lv : sProp 𝕄) = bigSep Finset.univ fun c : Thread nD τ => coreLevAts c L lv :=
    bigSep_univ_prod fun g : GSem nD τ sig => bigSep (L g) fun i => levAt g i (lv g i)
  rw [total, bigSep_threads (fun c : Thread nD τ => coreLevAts c L lv)]
  refine (bigSep_mono fun c _ => lev_assign_cells (c.tc : Thread nD τ) L lv).trans <| (BI.bigSep_bupd _ _).trans <| BI.bupd_mono ?_
  rw [bigSep_sep', bigSep_congr (s := Finset.univ) fun (d : Dev nD) _ => others d, BI.bigSep_emp_const]
  refine (show ∀ A B : sProp 𝕄, iprop(A ∗ B) ⊢ iprop(B ∗ emp) from fun A B => ?_) _ _
  iintro ⟨-, H⟩
  isplitl [H]; · iexact H
  iempintro

include phinj hw ho in
/-- A program `customCall (entry p) ();  k` whose kernel has no windows and no prefetched tables, from memory `m`
    with every counter at zero, the devices owing one another `O₀` at launch. `hglob` redistributes all devices'
    own semaphores, arrays and ghost resources at once; `htail` runs what follows the kernel, from the arrays and
    whatever the kernel left; `hQ` is told what the certificate reads at the end and that every scoped counter is
    back at zero. -/
theorem run_region [DecidableEq P] [Preorder Lvl] [∀ e, Nonempty (Val e)] [Infinite Name]
    [EP.LandsIn (upEmb : UEmb _ 𝕄)] [IsEmpty (Fin (pcs p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (k : Dev nD → PUnit → Prog (TpuEff nD τ sig Val (Sig Λ₀ P fun p => (pcs p).Adm) .tc) PUnit)
    (hmain : ∀ c, main c = .op (.customCall (entry p) ()) (k c))
    (hbody : ∀ c, BodyObligationLoose (pdats p c) defs₀ 𝒱₀ ι Set.univ)
    (O₀ : Dev nD → CellTallies nD τ sig Ix) (howed₀ : ∀ c, (pdats p c).owed 0 = O₀ c)
    (L : GSem nD τ sig → Finset Ix) (lv : GSem nD τ sig → Ix → Lvl) (hL : ∀ g : GSem nD τ sig, g.1.2 ≠ .tc → L g = ∅)
    (G G' : Dev nD → sProp 𝕄) (u₀ : U)
    (hu₀ : (ownU u₀ : sProp 𝕄) ⊢ |={Set.univ}=> bigSep Finset.univ G)
    (hglob : (bigSep Finset.univ fun c => iprop(ownSems0 osem c ∗ unscopedBufs c (fun b => m ((c.tc : Thread nD τ).loc b)) ∗ G c) : sProp 𝕄)
      ⊢ |={Set.univ}=> bigSep Finset.univ G')
    (X Y Z Y' : Dev nD → sProp 𝕄)
    (hX : ∀ c, iprop(levAts L lv ∗ launchCred O₀ c ∗ prngReg c (g c) ∗ G' c) ⊢ |={Set.univ}=> iprop(X c ∗ Z c))
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (htail : ∀ (c : Dev nD) (Q' : PUnit → sProp 𝕄),
      iprop((iprop(boundary (c.tc : Thread nD τ) ∗ Y' c ∗ (∃ W, owes (c.tc : Thread nD τ) (0 : CellTallies nD τ sig Ix) W)) -∗ Q' ⟨⟩)
          ∗ boundary (c.tc : Thread nD τ) ∗ Y c ∗ Z c ∗ (pdats p c).owesAt ι (Fin.last (pinD pcs a c p).N))
        ⊢ wp frame (wpE 𝔻 𝕍 (c.tc : Thread nD τ) none) Set.univ (k c ⟨⟩) Q')
    (QY : Dev nD → MemSt nD τ sig Val → Prop)
    (hY : ∀ c (s' : Phys nD τ sig Val), iprop(Y' c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsems := fun c : Dev nD => scopedSems0_split (pinD pcs a) phinj p (fun _ => hw) (fun _ => ho) (Ix := Ix) (Val := Val) (Name := Name) (U := U) (Lvl := Lvl) c
  have hbufs := fun c : Dev nD => scopedBufs_split (pinD pcs a) p c hw.stage_scoped hw.stage_inj (fun w => isEmptyElim w) (nD := nD) (τ := τ) (Ix := Ix) (Val := Val) (Name := Name) (U := U) (Lvl := Lvl)
  have noW : (Finset.univ : Finset (Fin (pcs p).W)) = ∅ := Finset.univ_eq_empty
  -- nothing of the pipeline's own remains to be held where there is no window
  have ecells (c : Dev nD) : (cellsSems0 (pinD pcs a) p c : sProp 𝕄) = BI.emp := by
    unfold PerCore.cellsSems0; exact (congrArg (fun s => bigSep s _) noW).trans BI.bigSep_empty
  have earr (c : Dev nD) (B) : ((pdats p c).arrays B : sProp 𝕄) = BI.emp := by
    unfold Dat.arrays; exact (congrArg (fun s => bigSep s _) noW).trans BI.bigSep_empty
  have ewaits (c : Dev nD) : (cellsWaits (pinD pcs a) pdats ι p c : sProp 𝕄) = BI.emp := by
    unfold PerCore.cellsWaits; exact (congrArg (fun s => bigSep s _) noW).trans BI.bigSep_empty
  have eghost (c : Dev nD) : (cellsGhost (pinD pcs a) EP p c : sProp 𝕄) = BI.emp := by
    unfold PerCore.cellsGhost; exact (congrArg (fun s => bigSep s _) noW).trans BI.bigSep_empty
  have etoks (c : Dev nD) : (toksInit (pinD pcs a) EP p c : sProp 𝕄) = BI.emp := by
    unfold PerCore.toksInit; exact (congrArg (fun s => bigSep s _) noW).trans BI.bigSep_empty
  have epref (c : Dev nD) (q) : (prefHeld (pcs p).pre c q (a c p).1 : sProp 𝕄) = BI.emp := by
    unfold prefHeld; rw [Finset.univ_eq_empty, BI.bigSep_empty]
  let pre : Dev nD → sProp 𝕄 := fun c => iprop(scopedBufs (c.tc : Thread nD τ) ∗ idleSems0 (pinD pcs a) phinj p (fun _ => ho) c
    ∗ opIdle (c.tc : Thread nD τ) ∗ owes (c.tc : Thread nD τ) (O₀ c) ∅ ∗ levAts L lv ∗ launchCred O₀ c ∗ prngReg c (g c) ∗ G' c)
  let fin : Dev nD → sProp 𝕄 := fun c => iprop(boundary (c.tc : Thread nD τ) ∗ Y' c)
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: every device's holdings on one table, dealt anew
    have hcore (c : Dev nD) :
        coreInit (Ix := Ix) (Name := Name) (U := U) (Lvl := Lvl) (owing O₀) 0 (⟨m, fun _ => 0, g⟩ : MemSt nD τ sig Val) (c.tc : Thread nD τ)
          ⊢ iprop(iprop(scopedBufs (c.tc : Thread nD τ) ∗ idleSems0 (pinD pcs a) phinj p (fun _ => ho) c ∗ opIdle (c.tc : Thread nD τ)
                ∗ owes (c.tc : Thread nD τ) (O₀ c) ∅ ∗ launchCred O₀ c ∗ prngReg c (g c))
              ∗ iprop(ownSems0 osem c ∗ unscopedBufs c (fun b => m ((c.tc : Thread nD τ).loc b))) ∗ levels0 c) := by
      refine (coreInit_boundary_owing O₀ m g c).trans ?_
      unfold boundary
      rw [hsems c]
      iintro ⟨⟨Hsc, ⟨⟨-, Hos⟩, Hidle⟩, Hid⟩, Hub, -, HL, Hlv, Hpr, Hcr⟩
      isplitr [Hos Hub Hlv]
      · isplitl [Hsc]; · iexact Hsc
        isplitl [Hidle]; · iexact Hidle
        isplitl [Hid]; · iexact Hid
        isplitl [HL]; · iexact HL
        isplitl [Hcr] <;> iassumption
      isplitr [Hlv]
      · isplitl [Hos] <;> iassumption
      iexact Hlv
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => iprop(scopedBufs (c.tc : Thread nD τ) ∗ idleSems0 (pinD pcs a) phinj p (fun _ => ho) c ∗ opIdle (c.tc : Thread nD τ)
                ∗ owes (c.tc : Thread nD τ) (O₀ c) ∅ ∗ launchCred O₀ c ∗ prngReg c (g c)))
            ∗ (bigSep Finset.univ fun c : Dev nD => iprop(ownSems0 osem c ∗ unscopedBufs c (fun b => m ((c.tc : Thread nD τ).loc b))))
            ∗ (bigSep Finset.univ fun c : Dev nD => levels0 c) : sProp 𝕄) := (bigSep_mono fun (c : Dev nD) (_ : c ∈ Finset.univ) => hcore c).trans
      ((Entails.of_eq (bigSep_sep' _ _ _)).trans (sep_mono_right (Entails.of_eq (bigSep_sep' _ _ _))))
    have hassoc (A B C : sProp 𝕄) : iprop((A ∗ B) ∗ C) ⊢ iprop(A ∗ B ∗ C) := by
      iintro ⟨⟨H1, H2⟩, H3⟩
      isplitl [H1]; · iexact H1
      isplitl [H2] <;> iassumption
    have hglob' : iprop((bigSep Finset.univ fun c : Dev nD => iprop(ownSems0 osem c ∗ unscopedBufs c (fun b => m ((c.tc : Thread nD τ).loc b)))) ∗ bigSep Finset.univ G)
        ⊢ (|={Set.univ}=> bigSep Finset.univ G' : sProp 𝕄) :=
      (Entails.of_eq (bigSep_sep' _ _ _).symm).trans ((bigSep_mono fun c _ => hassoc _ _ _).trans hglob)
    iintro ⟨Hcores, Hu⟩
    ihave Hc := hcores $$ Hcores
    icases Hc with ⟨Hb, Hob, Hlv⟩
    imod (assign_levels (Val := Val) (Name := Name) (U := U) L lv hL) $$ Hlv with Hla
    imod hu₀ $$ Hu with HG
    imod hglob' $$ [Hob HG] with HG'
    · isplitl [Hob] <;> iassumption
    imodintro
    iexists ()
    isplitr []
    · simp only [pre, bigSep_sep']
      icases Hb with ⟨Hsc, Hidle, Hid, HL, Hcr, Hpr⟩
      isplitl [Hsc]; · iexact Hsc
      isplitl [Hidle]; · iexact Hidle
      isplitl [Hid]; · iexact Hid
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hpr]; · iexact Hpr
      iexact HG'
    · iempintro
  · -- a device's run: the kernel, then what follows
    have hout' : iprop((pdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hos, Hrest⟩
      isplitl [HY]; · iexact HY
      isplitr [Hst Hrest]
      · isplitr [Hidle]
        · isplitl [Hcells] <;> iassumption
        iexact Hidle
      isplitl [Hst] <;> iassumption
    have hin' : iprop(X c ∗ prefHeld (pcs p).pre c (fun _ => fullShare.right) (a c p).1 ∗ scopedRest (pinD pcs a c p).spec c) ⊢ (pdats p c).Φ 0 := by
      iintro ⟨H, -, Hs⟩
      iapply (hin c)
      isplitl [H] <;> iassumption
    simp only [pre]
    rw [hmain c]
    iintro ⟨Hsc, Hidle, Hid, HL, #Hla, Hcr, Hpr, HG⟩
    iapply (fupd_wp frame (wpE 𝔻 𝕍 (c.tc : Thread nD τ) none) Set.univ _ _)
    imod (cellsInit_alloc (pinD pcs a) pdats EP phinj p c) $$ [] with ⟨%κ, -, Hinit⟩
    · rw [ecells, eghost]; isplitl <;> iempintro
    imod (hX c) $$ [Hcr Hpr HG] with ⟨HX, HZ⟩
    · isplitr; · iexact Hla
      isplitl [Hcr]; · iexact Hcr
      isplitl [Hpr] <;> iassumption
    imodintro
    iapply (wp_customCall_entry_frame pcs a pdats ι EP κ phinj p defs₀ 𝒱₀ (fun _ => fullShare.right) c Set.univ (fun _ _ => Set.mem_univ _)
        (hbody c) (fun w => isEmptyElim (α := Fin (pcs p).W) w) none (fun u h => nomatch h) (X := X c) (Y := Y c) (R := scopedRest (pinD pcs a c p).spec c) (I := idleSems0 (pinD pcs a) phinj p (fun _ => ho) c)
        (Entails.of_eq (hbufs c)) hin' hout'
        (k := k c) (Q := fun _ => post (liftTc fin BI.emp) (c.tc : Thread nD τ))) $$ [HL Hinit HX Hidle Hsc]
    · isplitl [HL Hinit]
      · unfold PerCore.EntryPre
        rw [earr, ewaits, etoks]
        unfold Dat.owesAt owesWithin
        rw [howed₀ c]
        isplitr; · iempintro
        isplitl [HL]
        · iexists ∅; isplitr; · ipureintro; rw [Finset.coe_empty]; exact Set.empty_subset _
          iexact HL
        isplitr; · iempintro
        isplitl [Hinit]; · iexact Hinit
        iempintro
      isplitr; · rw [epref]; iempintro
      isplitl [HX]; · iexact HX
      isplitl [Hidle] <;> iassumption
    iintro ⟨Hpost, HY, Hss, Hsb⟩
    unfold PerCore.EntryPost
    icases Hpost with ⟨-, HO⟩
    iapply (htail c _)
    isplitr [Hss Hsb Hid HY HZ HO]
    · iintro ⟨Hb, HY', HW⟩
      unfold post; simp only [liftTc_tc, fin]
      isplitr [HW]
      · isplitl [Hb] <;> iassumption
      · iexact HW
    isplitl [Hss Hsb Hid]
    · unfold boundary
      isplitl [Hsb]; · iexact Hsb
      isplitl [Hss] <;> iassumption
    isplitl [HY]; · iexact HY
    isplitl [HZ] <;> iassumption
  · -- what a final state shows
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      unfold boundary
      iintro ⟨⟨⟨-, Hss, -⟩, HY⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.PeerLaunch

end
-- ==== Proof.OneShot.lean ====
/-
A network of one-shot copies between devices.

Every device starts the same finite family of copies. Copy `k` of device `d` reads a region of an array of `d` and
lands in a region of an array of the device `peer d k`; it credits the cell `snd k` of `d` when its source has been
read and the cell `rcv k` of the peer when it has landed. Each cell is credited by exactly one copy, so it has one
round with one duty. What a cell hands to the device that waits on it is a region at its FINAL contents, read off one
valuation `V` of all arrays: the source region comes back unchanged with the send cell, the landed region comes with
the receive cell.

The module states the network, its schedule, the rules for starting a copy and for the two waits, a rule for a list
of such steps, and the dealing of all resources at launch.
-/
module

public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {C : Type}

/-- The copies each device starts: their regions, their peers, their cells, the credit of each. -/
structure Net (nD : ℕ) (sig : RefSig) (C : Type) where
  shp : C → Shape
  elt : C → EltTy
  /-- what device `d`'s copy `k` reads -/
  src : Dev nD → (k : C) → Memref sig .tc .hbm (shp k) (elt k)
  /-- where device `d`'s copy `k` lands, on `peer d k` -/
  dst : Dev nD → (k : C) → Memref sig .tc .hbm (shp k) (elt k)
  peer : Dev nD → C → Dev nD
  peer_peer : ∀ d k, peer (peer d k) k = d
  snd : C → DmaSem sig
  rcv : C → DmaSem sig
  sem_inj : Function.Injective (Sum.elim snd rcv : C ⊕ C → DmaSem sig)
  N : C → ℕ
  N_pos : ∀ k, 0 < N k
  credit : ∀ d k, (dst d k).view.dmaCredit = N k

namespace Net

variable (n : Net nD sig C)

/-- A device's semaphores: the send cells and the receive cells. -/
def osem (x : C ⊕ C) : SemLoc sig := .dma (Sum.elim n.snd n.rcv x)

/-- All cells of the network. -/
def kcell (y : Dev nD × (C ⊕ C)) : GSem nD τ sig := ((y.1 : Thread nD τ), n.osem y.2)

abbrev sCell (d : Dev nD) (k : C) : GSem nD τ sig := n.kcell (τ := τ) (d, .inl k)
abbrev rCell (d : Dev nD) (k : C) : GSem nD τ sig := n.kcell (τ := τ) (d, .inr k)

theorem kcell_injective : Function.Injective (n.kcell (τ := τ)) := by
  rintro ⟨c, k⟩ ⟨c', k'⟩ h
  have h1 : c = c' := congrArg (fun g : GSem nD τ sig => g.1.1) h
  subst h1
  have h2 : n.osem k = n.osem k' := congrArg Prod.snd h
  have h3 : Sum.elim n.snd n.rcv k = Sum.elim n.snd n.rcv k' := by
    unfold osem at h2; injection h2
  rw [n.sem_inj h3]

/-- The device whose copy lands in region `k` is unique. -/
def swap (k : C) : Dev nD ≃ Dev nD := ⟨fun d => n.peer d k, fun d => n.peer d k, fun d => n.peer_peer d k, fun d => n.peer_peer d k⟩

end Net

section Logic

variable [Fintype C] [DecidableEq C] (n : Net nD sig C)
variable {Val : EltTy → Type} {U : Type} [URA U]

local notation "𝕄" => MT nD τ sig Unit Val ℕ U ℕ

variable (ER : Emb (URounds (GSem nD τ sig) Unit) (MT nD τ sig Unit Val ℕ U ℕ)) [ER.LandsIn (upEmb : UEmb _ (MT nD τ sig Unit Val ℕ U ℕ))]
variable (V : (d : Dev nD) → (b : Ref sig .tc) → Buf Val ((d : Thread nD τ).loc b)) (q : C → PosShare TreeShare)

/-- The source region of device `d`'s copy `k`, at share `q k`. -/
def srcPts (d : Dev nD) (k : C) : sProp 𝕄 :=
  (n.src d k).view.loc (d : Thread nD τ) ↦[(n.src d k).view.set]{q k} V d (n.src d k).view.ref

/-- The region of device `d` in which copy `k` of its peer lands, at contents `f`. -/
def landPts (f : (d : Dev nD) → (b : Ref sig .tc) → Buf Val ((d : Thread nD τ).loc b)) (d : Dev nD) (k : C) : sProp 𝕄 :=
  (n.dst (n.peer d k) k).view.loc (d : Thread nD τ) ↦[(n.dst (n.peer d k) k).view.set]{fullShare} f d (n.dst (n.peer d k) k).view.ref

/-- The same region, seen by the device that writes it. -/
def tgtPts (f : (d : Dev nD) → (b : Ref sig .tc) → Buf Val ((d : Thread nD τ).loc b)) (d : Dev nD) (k : C) : sProp 𝕄 :=
  (n.dst d k).view.loc (n.peer d k : Thread nD τ) ↦[(n.dst d k).view.set]{fullShare} f (n.peer d k) (n.dst d k).view.ref

omit [Fintype C] [DecidableEq C] in
theorem tgtPts_peer (f) (d : Dev nD) (k : C) : (tgtPts n f (n.peer d k) k : sProp 𝕄) = landPts n f d k := by
  unfold tgtPts landPts; rw [n.peer_peer]

omit [Fintype C] [DecidableEq C] in
theorem landPts_peer (f) (d : Dev nD) (k : C) : (landPts n f (n.peer d k) k : sProp 𝕄) = tgtPts n f d k := by
  rw [← tgtPts_peer, n.peer_peer]

/-- What cell `(d, x)` hands over. -/
def pay (y : Dev nD × (C ⊕ C)) : sProp 𝕄 :=
  match y with
  | (d, .inl k) => srcPts n V q d k
  | (d, .inr k) => landPts n V d k

omit [Fintype C] [DecidableEq C] in
instance pay_storable (y : Dev nD × (C ⊕ C)) : BI.Storable (upEmb : UEmb _ 𝕄) (pay n V q y) := by
  rcases y with ⟨d, k | k⟩
  · show BI.Storable _ (srcPts n V q d k); unfold srcPts; infer_instance
  · show BI.Storable _ (landPts n V d k); unfold landPts; infer_instance

open Classical in
/-- One round, one duty, on each cell of the network. -/
def sched : Rounds.Schedule (GSem nD τ sig) Unit 𝕄 where
  duties g r := if r = 0 ∧ ∃ y, n.kcell y = g then {()} else ∅
  unitless _ := False
  amount g _ _ := if h : ∃ y, n.kcell y = g then n.N (Sum.elim id id h.choose.2) else 1
  payload g _ _ := if h : ∃ y, n.kcell y = g then pay n V q h.choose else iprop(emp)
  amount_pos g _ _ _ := by
    split
    · exact n.N_pos _
    · exact Nat.one_pos

instance sched_storable (g : GSem nD τ sig) (r : ℕ) (d : Unit) : BI.Storable (upEmb : UEmb _ 𝕄) ((sched n V q).payload g r d) := by
  show BI.Storable upEmb (dite _ _ _)
  split <;> infer_instance

omit [Fintype C] [DecidableEq C] in
theorem chosen (y : Dev nD × (C ⊕ C)) (h : ∃ y', n.kcell (τ := τ) y' = n.kcell y) : h.choose = y :=
  n.kcell_injective h.choose_spec

theorem duties_kcell (y : Dev nD × (C ⊕ C)) : (sched (τ := τ) (U := U) n V q).duties (n.kcell y) 0 = {()} := by
  dsimp only [sched]; exact if_pos ⟨rfl, y, rfl⟩
theorem duties_later (g : GSem nD τ sig) (r : ℕ) (hr : 0 + 1 ≤ r) : (sched (U := U) n V q).duties g r = ∅ := by
  dsimp only [sched]; exact if_neg fun h => by omega
theorem amount_kcell (y : Dev nD × (C ⊕ C)) (u : Unit) : (sched (τ := τ) (U := U) n V q).amount (n.kcell y) 0 u = n.N (Sum.elim id id y.2) := by
  have h : ∃ y', n.kcell (τ := τ) y' = n.kcell y := ⟨y, rfl⟩
  dsimp only [sched]; rw [dif_pos h, chosen n y h]
theorem payload_kcell (y : Dev nD × (C ⊕ C)) (u : Unit) : (sched (τ := τ) (U := U) n V q).payload (n.kcell y) 0 u = pay n V q y := by
  have h : ∃ y', n.kcell (τ := τ) y' = n.kcell y := ⟨y, rfl⟩
  dsimp only [sched]; rw [dif_pos h, chosen n y h]
theorem expect_kcell (y : Dev nD × (C ⊕ C)) : (sched (τ := τ) (U := U) n V q).expect (n.kcell y) 0 = n.N (Sum.elim id id y.2) := by
  unfold Schedule.expect Schedule.amountOf; rw [duties_kcell, Finset.sum_singleton, amount_kcell]
theorem rest_kcell (y : Dev nD × (C ⊕ C)) :
    bigSep ((sched (τ := τ) (U := U) n V q).duties (n.kcell y) 0 \ ∅) (fun u => (sched (τ := τ) (U := U) n V q).payload (n.kcell y) 0 u) = pay n V q y := by
  rw [Finset.sdiff_empty, duties_kcell, bigSep_singleton, payload_kcell]

/-- What all devices know: every cell's invariant, and that its round is open. -/
def records (K : Dev nD × (C ⊕ C) → ℕ) : sProp 𝕄 :=
  iprop((bigSep Finset.univ fun y => cellInv ER (sched n V q) (K y) (n.kcell y)) ∗ bigSep Finset.univ fun y => reached ER (n.kcell y) 0)
instance records_persistent (K : Dev nD × (C ⊕ C) → ℕ) : BI.Persistent (records n ER V q K) := by unfold records; infer_instance

theorem records_inv (K : Dev nD × (C ⊕ C) → ℕ) (y : Dev nD × (C ⊕ C)) : records n ER V q K ⊢ cellInv ER (sched n V q) (K y) (n.kcell y) := by
  have h : (bigSep Finset.univ fun y => cellInv ER (sched n V q) (K y) (n.kcell y) : sProp 𝕄) ⊢ cellInv ER (sched n V q) (K y) (n.kcell y) :=
    bigSep_elim (Finset.mem_univ y)
  unfold records
  iintro ⟨H, -⟩
  iapply h; iexact H
theorem records_reached (K : Dev nD × (C ⊕ C) → ℕ) (y : Dev nD × (C ⊕ C)) : records n ER V q K ⊢ reached ER (n.kcell y) 0 := by
  have h : (bigSep Finset.univ fun y => reached ER (n.kcell y) 0 : sProp 𝕄) ⊢ reached ER (n.kcell y) 0 := bigSep_elim (Finset.mem_univ y)
  unfold records
  iintro ⟨-, H⟩
  iapply h; iexact H

/-- The right to start copy `k`: the region it lands in, and the tokens of its two cells. -/
def ticket (f : (d : Dev nD) → (b : Ref sig .tc) → Buf Val ((d : Thread nD τ).loc b)) (d : Dev nD) (k : C) : sProp 𝕄 :=
  iprop(tgtPts n f d k ∗ dutyTok ER (n.sCell d k) 0 () ∗ dutyTok ER (n.rCell (n.peer d k) k) 0 ())

/-- A cell not yet waited on, and one that has been. -/
def before (y : Dev nD × (C ⊕ C)) : sProp 𝕄 := atPos ER (n.kcell y) 0 ∅ 0
def after (y : Dev nD × (C ⊕ C)) : sProp 𝕄 := atPos ER (n.kcell y) (0 + 1) ∅ 0

/-- The tokens that pay a wait. -/
def paid (y : Dev nD × (C ⊕ C)) : sProp 𝕄 := cred (tallyAt (n.kcell y) () (n.N (Sum.elim id id y.2)))

/-- What device `d` owes for copy `k` until it has started it. -/
def due (d : Dev nD) (k : C) : CellTallies nD τ sig Unit := tallyAt (n.rCell (n.peer d k) k) () (n.N k)

/-- Owing `O`, whatever has been waited for. -/
def owing' (d : Dev nD) (O : CellTallies nD τ sig Unit) : sProp 𝕄 := iprop(∃ W, owes (d : Thread nD τ) O W)

section Steps

variable {Λ : Labels} (defs : Defs nD τ sig Val Λ) (𝒱 : Variants)

/-- Every copy lands at its target's final contents what its source finally holds. -/
def Lands : Prop := ∀ d k, (n.dst d k).view.read Val (V (n.peer d k) (n.dst d k).view.ref) = (n.src d k).view.read Val (V d (n.src d k).view.ref)

omit [Fintype C] [DecidableEq C] in
theorem landed (hV : Lands n V) (d : Dev nD) (k : C) (fd) :
    ((n.dst d k).view.loc (n.peer d k : Thread nD τ) ↦[(n.dst d k).view.set]{fullShare}
      (n.dst d k).view.write Val fd ((n.src d k).view.read Val (V d (n.src d k).view.ref)) Finset.univ : sProp 𝕄) = tgtPts n V d k := by
  unfold tgtPts
  refine pointsTo_congr fun i hi => ?_
  rw [← hV d k, View.write_read_eq_piecewise, View.setOn_univ, Finset.piecewise_eq_of_mem _ _ _ hi]

/-- Starting copy `k`. -/
theorem wp_start (hV : Lands n V) (K : Dev nD × (C ⊕ C) → ℕ) (f) (d : Dev nD) (k : C) (O : CellTallies nD τ sig Unit)
    {hsc : (n.dst d k).view.ref.isScScratch = false} {hsrc : (n.src d k).view.WordExact} {hdst : (n.dst d k).view.WordExact}
    {hsem : DmaTarget.Typed .hbm (.dma (n.rcv k)) (.remote (n.peer d k : Thread nD τ) (n.dst d k) (.dma (n.snd k)) hsc)}
    {α : Type} {Q : α → sProp 𝕄} {rest : PUnit → Prog (TpuEff nD τ sig Val Λ .tc) α} :
    iprop(records n ER V q K ∗ (srcPts n V q d k ∗ ticket n ER f d k) ∗ owing' d (due n d k + O))
      ⊢ iprop(((paid n (d, .inl k) ∗ owing' d O) -∗ wp frame (wpE defs 𝒱 (d : Thread nD τ) none) Set.univ (rest ⟨⟩) Q)
          -∗ wp frame (wpE defs 𝒱 (d : Thread nD τ) none) Set.univ
              (.op (.enqueueDma (n.src d k) (.remote (n.peer d k : Thread nD τ) (n.dst d k) (.dma (n.snd k)) hsc) (.dma (n.rcv k)) hsrc hdst hsem) rest) Q) := by
  unfold owing' ticket paid
  iintro ⟨#HR, ⟨Hs, Ht, Htk, Htk'⟩, ⟨%W, HO⟩⟩ Hk
  ihave #HI1 := (records_inv n ER V q K (d, .inl k)) $$ HR
  ihave #HI2 := (records_inv n ER V q K (n.peer d k, .inr k)) $$ HR
  ihave #Hr1 := (records_reached n ER V q K (d, .inl k)) $$ HR
  ihave #Hr2 := (records_reached n ER V q K (n.peer d k, .inr k)) $$ HR
  unfold srcPts tgtPts
  iapply (Rounds.wp_send_pointsTo 𝒱 ER (sched n V q) (d : Thread nD τ) none (κ₁ := K (d, .inl k)) (κ₂ := K (n.peer d k, .inr k))
    (c' := (n.peer d k : Thread nD τ)) (src := n.src d k) (dst := n.dst d k) (r₁ := 0) (r₂ := 0) (d₁ := ()) (d₂ := ()) (sS := .dma (n.snd k)) (sem := .dma (n.rcv k))
    (by have := duties_kcell (τ := τ) (U := U) n V q (d, .inl k); exact this ▸ Finset.mem_singleton_self _)
    (by have := duties_kcell (τ := τ) (U := U) n V q (n.peer d k, .inr k); exact this ▸ Finset.mem_singleton_self _)
    () () (n.N k) (n.credit d k) (amount_kcell n V q (d, .inl k) ()) (amount_kcell n V q (n.peer d k, .inr k) ())
    O (add_comm _ _) (W := W)
    (Entails.of_eq (payload_kcell n V q (d, .inl k) ()).symm)
    (Entails.of_eq ((landed n V hV d k _).trans ((landPts_peer n V d k).symm.trans (payload_kcell n V q (n.peer d k, .inr k) ()).symm)))
    (Topo.routes_tc _ _)) $$ [Hs Ht HO Htk Htk']
  · isplitr; · iexact HI1
    isplitr; · iexact HI2
    isplitl [Hs]; · iexact Hs
    isplitl [Ht]; · iexact Ht
    isplitl [HO]; · iexact HO
    isplitl [Htk]; · iexact Htk
    isplitr; · iexact Hr1
    isplitl [Htk']; · iexact Htk'
    iexact Hr2
  iintro ⟨Hc, HO⟩
  iapply Hk
  isplitl [Hc]; · iexact Hc
  iexists W; iexact HO

/-- Waiting on a cell of one's own. -/
theorem wp_wait (K : Dev nD × (C ⊕ C) → ℕ) (d : Dev nD) (x : C ⊕ C) (O : CellTallies nD τ sig Unit)
    {w : TpuEff nD τ sig Val Λ .tc PUnit}
    (hw : ∀ R : PUnit → sProp 𝕄, wpE defs 𝒱 (d : Thread nD τ) none Set.univ w R = waitSpec (d : Thread nD τ) Set.univ (n.osem x) (n.N (Sum.elim id id x)) R)
    {α : Type} {Q : α → sProp 𝕄} {rest : PUnit → Prog (TpuEff nD τ sig Val Λ .tc) α} :
    iprop(records n ER V q K ∗ (paid n (d, x) ∗ before n ER (d, x)) ∗ MayWait (d : Thread nD τ) (n.osem x) () O ∗ owing' d O)
      ⊢ iprop((((pay n V q (d, x) ∗ after n ER (d, x)) ∗ owing' d O) -∗ wp frame (wpE defs 𝒱 (d : Thread nD τ) none) Set.univ (rest ⟨⟩) Q)
          -∗ wp frame (wpE defs 𝒱 (d : Thread nD τ) none) Set.univ (.op w rest) Q) := by
  unfold owing' paid before after
  iintro ⟨#HR, ⟨Hc, Hat⟩, HM, ⟨%W, HO⟩⟩ Hk
  ihave #HI := (records_inv n ER V q K (d, x)) $$ HR
  iapply (Rounds.wp_wait_rest_token 𝒱 ER (sched n V q) (d : Thread nD τ) none (κ := K (d, x)) (sm := n.osem x)
      hw (Set.mem_univ _) () (O := O) (W := W) (R := 0) (m := 0) (T := ∅)
      (by rw [Nat.zero_add]; exact (expect_kcell n V q (d, x)).symm)) $$ [Hc HO Hat HM]
  · isplitr; · iexact HI
    isplitl [Hc]; · iexact Hc
    isplitl [HO]; · iexact HO
    isplitl [HM]; · iexact HM
    iexact Hat
  iintro ⟨HO, Hat, -, Hp⟩
  ihave Hp' := (show bigSep ((sched (τ := τ) (U := U) n V q).duties ((d : Thread nD τ), n.osem x) 0 \ ∅)
      (fun u => (sched (τ := τ) (U := U) n V q).payload ((d : Thread nD τ), n.osem x) 0 u) ⊢ pay n V q (d, x) from Entails.of_eq (rest_kcell n V q (d, x))) $$ Hp
  iapply Hk
  isplitr [HO]
  · isplitl [Hp']; · iexact Hp'
    iexact Hat
  iexists _; iexact HO

end Steps

/-- A cell that has been waited on is closed: its counter is back at zero. -/
theorem close_cells (K : Dev nD × (C ⊕ C) → ℕ) (d : Dev nD) :
    iprop(records n ER V q K ∗ bigSep Finset.univ fun x : C ⊕ C => after n ER (d, x)) ⊢ (|={Set.univ}=> bigSep Finset.univ fun x : C ⊕ C => semVal (n.kcell (d, x)) 0 : sProp 𝕄) := by
  have h (x : C ⊕ C) : iprop(records n ER V q K ∗ after n ER (d, x)) ⊢ (|={Set.univ}=> semVal (n.kcell (d, x)) 0 : sProp 𝕄) := by
    unfold after
    iintro ⟨#HR, Hat⟩
    ihave #HI := (records_inv n ER V q K (d, x)) $$ HR
    iapply (Rounds.cell_close ER (sched n V q) (Set.mem_univ (K (d, x))) (fun h => h) (R := 0 + 1) (duties_later (U := U) n V q (n.kcell (d, x))))
    isplitr; · iexact HI
    iexact Hat
  refine BI.Entails.trans ?_ (bigSep_fupd _ _)
  refine (sep_mono_left (BI.bigSep_of_persistent (Finset.univ : Finset (C ⊕ C)) (records n ER V q K))).trans ?_
  rw [← bigSep_sep']
  exact bigSep_mono fun x _ => h x

end Logic

/-! ## A list of steps -/

section Steps

variable {Val : EltTy → Type} {U : Type} [URA U] {Λ : Labels} (defs : Defs nD τ sig Val Λ) (𝒱 : Variants)

local notation "𝕄" => MT nD τ sig Unit Val ℕ U ℕ

/-- Steps `step k`, one for each member of a list, each turning `P k` into `R k` under what all devices know and
    moving what is owed from `O (k :: l)` to `O l`, turn all `P` into all `R`. -/
theorem wp_list {I α : Type} (c : Thread nD τ) (Γ : sProp 𝕄) [BI.Persistent Γ] (P R : I → sProp 𝕄) (O : List I → sProp 𝕄)
    (step : I → Prog (TpuEff nD τ sig Val Λ c.2) α → Prog (TpuEff nD τ sig Val Λ c.2) α) (Q : α → sProp 𝕄)
    (h : ∀ k l rest, iprop(Γ ∗ P k ∗ O (k :: l)) ⊢ iprop(((R k ∗ O l) -∗ wp frame (wpE defs 𝒱 c none) Set.univ rest Q)
      -∗ wp frame (wpE defs 𝒱 c none) Set.univ (step k rest) Q)) (l : List I) (rest) :
    iprop(Γ ∗ bigSepL l P ∗ O l) ⊢ iprop(((bigSepL l R ∗ O []) -∗ wp frame (wpE defs 𝒱 c none) Set.univ rest Q)
      -∗ wp frame (wpE defs 𝒱 c none) Set.univ (l.foldr step rest) Q) := by
  induction l with
  | nil =>
    iintro ⟨-, H, HO⟩ Hk
    iapply Hk
    isplitl [H]; · iexact H
    iexact HO
  | cons k l ih =>
    rw [bigSepL_cons', bigSepL_cons', List.foldr_cons]
    iintro ⟨#HΓ, ⟨H, Hl⟩, HO⟩ Hk
    iapply (h k l _) $$ [H HO]
    · isplitr; · iexact HΓ
      isplitl [H]; · iexact H
      iexact HO
    iintro ⟨HR, HO⟩
    iapply ih $$ [Hl HO]
    · isplitr; · iexact HΓ
      isplitl [Hl]; · iexact Hl
      iexact HO
    iintro ⟨HRl, HO⟩
    iapply Hk
    isplitl [HR HRl]
    · isplitl [HR]; · iexact HR
      iexact HRl
    iexact HO

end Steps

end Cert.OneShot

end
-- ==== Proof.OneShotLaunch.lean ====
/-
The launch of a network of one-shot copies, and a device's whole run of it.

`fund` makes the ghost state of all cells; `deal` takes every device's counters, arrays and ghost state and hands
each device what it needs: the right to start each of its copies, which includes the regions of its peers' arrays
that they land in, and its own cells. `credits` reads off what the devices owe one another that each device may
wait for all its landings. `body` is the run of a device that starts all its copies and then waits for all its cells,
in any order.
-/
module

public import proofs.«01_k».proof.Proof.OneShot

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {C : Type} [Fintype C] [DecidableEq C] (n : Net nD sig C)
variable {Val : EltTy → Type} {U : Type} [URA U]

local notation "𝕄" => MT nD τ sig Unit Val ℕ U ℕ

variable (ER : Emb (URounds (GSem nD τ sig) Unit) (MT nD τ sig Unit Val ℕ U ℕ)) [ER.LandsIn (upEmb : UEmb _ (MT nD τ sig Unit Val ℕ U ℕ))]
variable (V : (d : Dev nD) → (b : Ref sig .tc) → Buf Val ((d : Thread nD τ).loc b)) (q : C → PosShare TreeShare)
variable (m : (d : Dev nD) → (b : Ref sig .tc) → Buf Val ((d : Thread nD τ).loc b))

/-! ## Ghost state -/

def cells : Finset (GSem nD τ sig) := Finset.univ.map ⟨n.kcell, n.kcell_injective⟩
def tokens : Finset (GSem nD τ sig × ℕ × Unit) :=
  Finset.univ.map ⟨fun y : Dev nD × (C ⊕ C) => (n.kcell y, 0, ()), fun _ _ h => n.kcell_injective (congrArg Prod.fst h)⟩

/-- A device's part of the fresh ghost state. -/
def fresh (d : Dev nD) : sProp 𝕄 :=
  iprop((bigSep Finset.univ fun x : C ⊕ C => roundState ER (sched n V q) (n.kcell (d, x)) 0)
    ∗ (bigSep Finset.univ fun x : C ⊕ C => reached ER (n.kcell (d, x)) 0)
    ∗ (bigSep Finset.univ fun x : C ⊕ C => before n ER (d, x))
    ∗ (bigSep Finset.univ fun x : C ⊕ C => dutyTok ER (n.kcell (d, x)) 0 ()))

theorem fund : BI.own (ER (initOf (cells n) (tokens n))) ⊢ (|==> bigSep Finset.univ (fresh n ER V q) : sProp 𝕄) := by
  have hX (Φ : GSem nD τ sig → sProp 𝕄) :
      bigSep (cells n) Φ = bigSep Finset.univ fun d : Dev nD => bigSep Finset.univ fun x : C ⊕ C => Φ (n.kcell (d, x)) := by
    unfold cells; rw [bigSep_map, bigSep_univ_prod]; rfl
  have hT (Φ : GSem nD τ sig × ℕ × Unit → sProp 𝕄) :
      bigSep (tokens n) Φ = bigSep Finset.univ fun d : Dev nD => bigSep Finset.univ fun x : C ⊕ C => Φ (n.kcell (d, x), 0, ()) := by
    unfold tokens; rw [bigSep_map, bigSep_univ_prod]; rfl
  iintro HX
  imod (Rounds.fund ER (sched n V q) (cells n) (tokens n)) $$ HX with ⟨Hst, Hr, Hat, Htok⟩
  imodintro
  ihave Hst' := (Entails.of_eq (hX fun g => roundState ER (sched n V q) g 0)) $$ Hst
  ihave Hr' := (Entails.of_eq (hX fun g => reached ER g 0)) $$ Hr
  ihave Hat' := (Entails.of_eq (hX fun g => atPos ER g 0 ∅ 0)) $$ Hat
  ihave Htok' := (Entails.of_eq (hT fun x => dutyTok ER x.1 x.2.1 x.2.2)) $$ Htok
  unfold fresh before; simp only [bigSep_sep']
  isplitl [Hst']; · iexact Hst'
  isplitl [Hr']; · iexact Hr'
  isplitl [Hat']; · iexact Hat'
  iexact Htok'

/-! ## The dealing -/

/-- What a device starts its run with, besides its own arrays' parts. -/
def hand (d : Dev nD) : sProp 𝕄 :=
  iprop(∃ K, records n ER V q K ∗ (bigSep Finset.univ fun x : C ⊕ C => before n ER (d, x))
    ∗ bigSep Finset.univ fun k : C => ticket n ER m d k)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Landing regions and tokens move to the devices that write them. -/
theorem tickets :
    iprop((bigSep Finset.univ fun d : Dev nD => bigSep Finset.univ fun k : C => landPts n m d k)
        ∗ bigSep Finset.univ fun d : Dev nD => bigSep Finset.univ fun x : C ⊕ C => dutyTok ER (n.kcell (d, x)) 0 ())
      ⊢ (bigSep Finset.univ fun d : Dev nD => bigSep Finset.univ fun k : C => ticket n ER m d k : sProp 𝕄) := by
  have move (Φ : Dev nD → C → sProp 𝕄) : (bigSep Finset.univ fun d : Dev nD => bigSep Finset.univ fun k : C => Φ d k)
      = bigSep Finset.univ fun d : Dev nD => bigSep Finset.univ fun k : C => Φ (n.peer d k) k := by
    rw [Pipeline.bigSep_univ_comm, Pipeline.bigSep_univ_comm (fun d k => Φ (n.peer d k) k)]
    exact bigSep_congr fun k _ => bigSep_univ_equiv (n.swap k) fun d => Φ d k
  have hland : (bigSep Finset.univ fun d : Dev nD => bigSep Finset.univ fun k : C => landPts n m d k : sProp 𝕄)
      = bigSep Finset.univ fun d : Dev nD => bigSep Finset.univ fun k : C => tgtPts n m d k := by
    rw [move]; exact bigSep_congr fun d _ => bigSep_congr fun k _ => landPts_peer n m d k
  have htok : (bigSep Finset.univ fun d : Dev nD => bigSep Finset.univ fun x : C ⊕ C => dutyTok ER (n.kcell (d, x)) 0 () : sProp 𝕄)
      = iprop((bigSep Finset.univ fun d : Dev nD => bigSep Finset.univ fun k : C => dutyTok ER (n.sCell d k) 0 ())
        ∗ bigSep Finset.univ fun d : Dev nD => bigSep Finset.univ fun k : C => dutyTok ER (n.rCell (n.peer d k) k) 0 ()) := by
    rw [← move fun d k => dutyTok ER (n.rCell d k) 0 (), ← bigSep_sep']
    exact bigSep_congr fun d _ => BI.bigSep_univ_sum _
  rw [hland, htok]
  unfold ticket
  simp only [bigSep_sep']
  iintro H
  iexact H

/-- All devices' counters, landing regions and ghost state, dealt. -/
theorem deal (own : Dev nD → sProp 𝕄) :
    (bigSep Finset.univ fun d : Dev nD => iprop((bigSep Finset.univ fun x : C ⊕ C => semVal (n.kcell (d, x)) 0)
        ∗ (own d ∗ bigSep Finset.univ fun k : C => landPts n m d k) ∗ fresh n ER V q d) : sProp 𝕄)
      ⊢ |={Set.univ}=> bigSep Finset.univ fun d : Dev nD => iprop(hand n ER V q m d ∗ own d) := by
  have alloc : iprop((bigSep Finset.univ fun d : Dev nD => bigSep Finset.univ fun x : C ⊕ C => semVal (n.kcell (d, x)) 0)
      ∗ bigSep Finset.univ fun d : Dev nD => bigSep Finset.univ fun x : C ⊕ C => roundState ER (sched n V q) (n.kcell (d, x)) 0)
      ⊢ (|={Set.univ}=> bigSep Finset.univ fun y : Dev nD × (C ⊕ C) => iprop(∃ κ : ℕ, cellInv ER (sched n V q) κ (n.kcell y)) : sProp 𝕄) := by
    rw [← bigSep_univ_prod (fun y : Dev nD × (C ⊕ C) => (semVal (n.kcell y) 0 : sProp 𝕄)),
      ← bigSep_univ_prod (fun y : Dev nD × (C ⊕ C) => (roundState ER (sched n V q) (n.kcell y) 0 : sProp 𝕄)), ← bigSep_sep']
    exact (bigSep_mono fun y _ => (Rounds.body_intro ER (sched n V q) (n.kcell y)).trans inv_alloc).trans (bigSep_fupd _ _)
  unfold fresh
  simp only [bigSep_sep']
  iintro ⟨Hv, ⟨Hown, Hland⟩, Hst, #Hr, Hat, Htok⟩
  imod alloc $$ [Hv Hst] with HI
  · isplitl [Hv] <;> iassumption
  imodintro
  ihave HK := (BI.bigSep_exists_pi Finset.univ (fun (y : Dev nD × (C ⊕ C)) (κ : ℕ) => (cellInv ER (sched n V q) κ (n.kcell y) : sProp 𝕄))) $$ HI
  icases HK with ⟨%K, #HI⟩
  isplitr [Hown]
  · have give (d : Dev nD) : iprop(records n ER V q K ∗ (bigSep Finset.univ fun x : C ⊕ C => before n ER (d, x))
        ∗ bigSep Finset.univ fun k : C => ticket n ER m d k) ⊢ (hand n ER V q m d : sProp 𝕄) := by
      unfold hand; iintro H; iexists K; iexact H
    iapply (with_persistent (R := records n ER V q K) fun d _ => give d)
    isplitr
    · unfold records
      isplitl; · iexact HI
      rw [bigSep_univ_prod (fun y : Dev nD × (C ⊕ C) => (reached ER (n.kcell y) 0 : sProp 𝕄))]
      iexact Hr
    · rw [bigSep_sep']
      isplitl [Hat]; · iexact Hat
      iapply (tickets n ER m)
      isplitl [Hland] <;> iassumption
  · iexact Hown

/-! ## The launch credit -/

/-- What device `d` owes at launch: every landing of its copies. -/
def dues (d : Dev nD) : CellTallies nD τ sig Unit := ∑ k, due n d k

theorem dues_list (d : Dev nD) (l : List C) (h : Finset.univ = l.toFinset) (hl : l.Nodup) : dues (τ := τ) n d = (l.map (due n d)).sum := by
  unfold dues; rw [h, List.sum_toFinset _ hl]

theorem due_rCell (d c : Dev nD) (k k' : C) : due (τ := τ) n d k' (n.rCell c k) () = if d = n.peer c k ∧ k' = k then n.N k else 0 := by
  unfold due
  rw [tallyAt_apply]
  by_cases h : d = n.peer c k ∧ k' = k
  · obtain ⟨rfl, rfl⟩ := h
    rw [n.peer_peer, if_pos ⟨rfl, rfl⟩, if_pos ⟨rfl, rfl⟩]
  · rw [if_neg h, if_neg]
    rintro ⟨h1, -⟩
    have h2 := n.kcell_injective h1
    have h3 : k = k' := by injection (Prod.mk.inj h2).2
    subst h3
    refine h ⟨?_, rfl⟩
    rw [(Prod.mk.inj h2).1, n.peer_peer]

theorem dues_rCell (c : Dev nD) (k : C) :
    tallyOn (n.rCell (τ := τ) c k) (launchCredit (Pipeline.owing (dues (τ := τ) n)) 0 (n.rCell c k)) = (tallyAt (n.rCell c k) () (n.N k) : CellTallies nD τ sig Unit) := by
  unfold tallyAt; refine congrArg _ (Finsupp.ext fun u => ?_); cases u
  rw [Pipeline.launchCredit_owing, Finsupp.single_eq_same]
  have h (d : Dev nD) : dues (τ := τ) n d (n.rCell c k) () = if d = n.peer c k then n.N k else 0 := by
    unfold dues
    rw [Finset.sum_apply, Finsupp.finset_sum_apply, Finset.sum_congr rfl fun k' _ => due_rCell n d c k k']
    by_cases hd : d = n.peer c k
    · rw [if_pos hd, Finset.sum_eq_single k (fun k' _ hk => if_neg fun h => hk h.2) (fun h => absurd (Finset.mem_univ _) h), if_pos ⟨hd, rfl⟩]
    · rw [if_neg hd]; exact Finset.sum_eq_zero fun k' _ => if_neg fun h => hd h.1
  rw [Finset.sum_congr rfl fun d _ => h d, Finset.sum_ite_eq' Finset.univ (n.peer c k) fun _ => n.N k, if_pos (Finset.mem_univ _)]

/-- A device's launch credit pays for the waits for all its landings. -/
theorem credits (c : Dev nD) : (Pipeline.launchCred (dues n) c : sProp 𝕄) ⊢ bigSep Finset.univ fun k : C => paid n (c, .inr k) := by
  have hinj : Function.Injective fun k : C => n.osem (.inr k) := fun k k' h => by
    have := n.kcell_injective (τ := τ) (a₁ := (c, .inr k)) (a₂ := (c, .inr k')) (by unfold Net.kcell; exact congrArg _ h)
    injection (Prod.mk.inj this).2
  unfold Pipeline.launchCred
  refine (bigSep_subset (Finset.subset_univ (Finset.univ.map ⟨_, hinj⟩))).trans ?_
  rw [bigSep_map]
  refine Entails.of_eq (bigSep_congr fun k _ => ?_)
  exact congrArg cred (dues_rCell n c k)

/-! ## A device's run -/

section Body

variable {Λ : Labels} (defs : Defs nD τ sig Val Λ) (𝒱 : Variants)

/-- The printed operations of a device: what its starts must come with, and its waits. -/
structure Code (d : Dev nD) where
  hsc : ∀ k, (n.dst d k).view.ref.isScScratch = false
  hsrc : ∀ k, (n.src d k).view.WordExact
  hdst : ∀ k, (n.dst d k).view.WordExact
  hsem : ∀ k, DmaTarget.Typed (p := (.tc : Proc τ)) .hbm (.dma (n.rcv k)) (.remote (n.peer d k : Thread nD τ) (n.dst d k) (.dma (n.snd k)) (hsc k))
  wait : C ⊕ C → TpuEff nD τ sig Val Λ .tc PUnit
  hwait : ∀ (x : C ⊕ C) (R : PUnit → sProp 𝕄), wpE defs 𝒱 (d : Thread nD τ) none Set.univ (wait x) R
    = waitSpec (d : Thread nD τ) Set.univ (n.osem x) (n.N (Sum.elim id id x)) R

/-- The usual code: a wait names the same two regions as the copy, the sent one last for a send, the landed one last
    for a landing. -/
def Code.of {d : Dev nD} (hsc : ∀ k, (n.dst d k).view.ref.isScScratch = false) (hsrc : ∀ k, (n.src d k).view.WordExact)
    (hdst : ∀ k, (n.dst d k).view.WordExact)
    (hsem : ∀ k, DmaTarget.Typed (p := (.tc : Proc τ)) .hbm (.dma (n.rcv k)) (.remote (n.peer d k : Thread nD τ) (n.dst d k) (.dma (n.snd k)) (hsc k)))
    (hN : ∀ k, (n.src d k).view.dmaCredit = n.N k) : Code (U := U) n defs 𝒱 d where
  hsc := hsc
  hsrc := hsrc
  hdst := hdst
  hsem := hsem
  wait
    | .inl k => .waitDma2 (n.snd k) (n.dst d k) (n.src d k) (hdst k) (hsrc k)
    | .inr k => .waitDma2 (n.rcv k) (n.src d k) (n.dst d k) (hsrc k) (hdst k)
  hwait
    | .inl k, R => by rw [wpE_waitDma2_eq, hN]; rfl
    | .inr k, R => by rw [wpE_waitDma2_eq, n.credit]; rfl

/-- Code whose waits for landings name regions of their own, of the sizes of the copies. -/
def Code.naming {d : Dev nD} (hsc : ∀ k, (n.dst d k).view.ref.isScScratch = false) (hsrc : ∀ k, (n.src d k).view.WordExact)
    (hdst : ∀ k, (n.dst d k).view.WordExact)
    (hsem : ∀ k, DmaTarget.Typed (p := (.tc : Proc τ)) .hbm (.dma (n.rcv k)) (.remote (n.peer d k : Thread nD τ) (n.dst d k) (.dma (n.snd k)) (hsc k)))
    (hN : ∀ k, (n.src d k).view.dmaCredit = n.N k)
    (ws wd : (k : C) → Memref sig .tc .hbm (n.shp k) (n.elt k)) (hws : ∀ k, (ws k).view.WordExact) (hwd : ∀ k, (wd k).view.WordExact)
    (hM : ∀ k, (wd k).view.dmaCredit = n.N k) : Code (U := U) n defs 𝒱 d where
  hsc := hsc
  hsrc := hsrc
  hdst := hdst
  hsem := hsem
  wait
    | .inl k => .waitDma2 (n.snd k) (n.dst d k) (n.src d k) (hdst k) (hsrc k)
    | .inr k => .waitDma2 (n.rcv k) (ws k) (wd k) (hws k) (hwd k)
  hwait
    | .inl k, R => by rw [wpE_waitDma2_eq, hN]; rfl
    | .inr k, R => by rw [wpE_waitDma2_eq, hM]; rfl

variable {n defs 𝒱}

/-- The start of copy `k`, before the rest of the program. -/
def Code.start {d : Dev nD} (cd : Code (τ := τ) (U := U) n defs 𝒱 d) (k : C) (rest : Prog (TpuEff nD τ sig Val Λ .tc) PUnit) : Prog (TpuEff nD τ sig Val Λ .tc) PUnit :=
  .op (.enqueueDma (n.src d k) (.remote (n.peer d k : Thread nD τ) (n.dst d k) (.dma (n.snd k)) (cd.hsc k)) (.dma (n.rcv k)) (cd.hsrc k) (cd.hdst k) (cd.hsem k)) fun _ => rest

/-- The wait for a cell, before the rest of the program. -/
def Code.await {d : Dev nD} (cd : Code (τ := τ) (U := U) n defs 𝒱 d) (x : C ⊕ C) (rest : Prog (TpuEff nD τ sig Val Λ .tc) PUnit) : Prog (TpuEff nD τ sig Val Λ .tc) PUnit :=
  .op (cd.wait x) fun _ => rest

variable (n) in
/-- What is owed while the copies of a list are still to be started, on top of `O`. -/
def owed (d : Dev nD) (O : CellTallies nD τ sig Unit) (l : List C) : sProp 𝕄 := owing' d ((l.map (due n d)).sum + O)

/-- Starting a list of copies. -/
theorem wp_starts {d : Dev nD} (cd : Code (τ := τ) (U := U) n defs 𝒱 d) (hV : Lands n V) (K) (O : CellTallies nD τ sig Unit) (l : List C) (rest) (Q : PUnit → sProp 𝕄) :
    iprop(records n ER V q K ∗ bigSepL l (fun k => iprop(srcPts n V q d k ∗ ticket n ER m d k)) ∗ owing' d ((l.map (due n d)).sum + O))
      ⊢ iprop(((bigSepL l (fun k => paid n (d, .inl k)) ∗ owing' d O) -∗ wp frame (wpE defs 𝒱 (d : Thread nD τ) none) Set.univ rest Q)
        -∗ wp frame (wpE defs 𝒱 (d : Thread nD τ) none) Set.univ (l.foldr cd.start rest) Q) := by
  have h := wp_list defs 𝒱 (d : Thread nD τ) (records n ER V q K) (fun k => iprop(srcPts n V q d k ∗ ticket n ER m d k)) (fun k => paid n (d, .inl k))
    (owed n d O) cd.start Q (fun k l rest => by
      have h := wp_start n ER V q defs 𝒱 hV K m d k ((l.map (due n d)).sum + O) (hsc := cd.hsc k) (hsrc := cd.hsrc k) (hdst := cd.hdst k) (hsem := cd.hsem k)
        (Q := Q) (rest := fun _ => rest)
      unfold owed Code.start
      rw [List.map_cons, List.sum_cons, add_assoc]
      exact h) l rest
  unfold owed at h
  rw [List.map_nil, List.sum_nil, zero_add] at h
  exact h

/-- Waiting for a list of cells, owing `O`. -/
theorem wp_waits {d : Dev nD} (cd : Code (τ := τ) (U := U) n defs 𝒱 d) (K) (O : CellTallies nD τ sig Unit) (Γ : sProp 𝕄) [BI.Persistent Γ] (l : List (C ⊕ C))
    (hM : ∀ x, Γ ⊢ MayWait (d : Thread nD τ) (n.osem x) () O) (rest) (Q : PUnit → sProp 𝕄) :
    iprop((records n ER V q K ∗ Γ) ∗ bigSepL l (fun x => iprop(paid n (d, x) ∗ before n ER (d, x))) ∗ owing' d O)
      ⊢ iprop(((bigSepL l (fun x => iprop(pay n V q (d, x) ∗ after n ER (d, x))) ∗ owing' d O) -∗ wp frame (wpE defs 𝒱 (d : Thread nD τ) none) Set.univ rest Q)
        -∗ wp frame (wpE defs 𝒱 (d : Thread nD τ) none) Set.univ (l.foldr cd.await rest) Q) := by
  refine wp_list defs 𝒱 (d : Thread nD τ) iprop(records n ER V q K ∗ Γ) (fun x => iprop(paid n (d, x) ∗ before n ER (d, x))) (fun x => iprop(pay n V q (d, x) ∗ after n ER (d, x)))
    (fun _ => owing' d O) cd.await Q (fun x l rest => ?_) l rest
  have h := wp_wait n ER V q defs 𝒱 K d x O (w := cd.wait x) (cd.hwait x) (Q := Q) (rest := fun _ => rest)
  unfold Code.await
  iintro ⟨⟨#HR, #HΓ⟩, H, HO⟩
  iapply h
  isplitr; · iexact HR
  isplitl [H]; · iexact H
  isplitr; · iapply (hM x); iexact HΓ
  iexact HO

theorem no_debt (d : Dev nD) (x : C ⊕ C) : (emp : sProp 𝕄) ⊢ MayWait (d : Thread nD τ) (n.osem x) () 0 := by
  rw [MayWait_zero]; exact Entails.refl _

/-- What send and receive cells have, together. -/
theorem both (Φ : C ⊕ C → sProp 𝕄) :
    bigSep Finset.univ Φ = iprop((bigSep Finset.univ fun k => Φ (.inl k)) ∗ bigSep Finset.univ fun k => Φ (.inr k)) := BI.bigSep_univ_sum Φ

/-- A device that starts all its copies and then waits for all its cells ends with its sources back, its landing
    regions at their final contents, all counters at zero and nothing owed. -/
theorem body {d : Dev nD} (cd : Code (τ := τ) (U := U) n defs 𝒱 d) (hV : Lands n V)
    (l : List C) (h : Finset.univ = l.toFinset) (hl : l.Nodup) (lx : List (C ⊕ C)) (hx : Finset.univ = lx.toFinset) (hlx : lx.Nodup) :
    iprop(hand n ER V q m d ∗ (bigSep Finset.univ fun k => srcPts n V q d k) ∗ (bigSep Finset.univ fun k => paid n (d, .inr k)) ∗ owing' d (dues n d))
      ⊢ wp frame (wpE defs 𝒱 (d : Thread nD τ) none) Set.univ (l.foldr cd.start (lx.foldr cd.await (.ret ⟨⟩)))
        fun _ => iprop((bigSep Finset.univ fun k => srcPts n V q d k) ∗ (bigSep Finset.univ fun k => landPts n V d k)
          ∗ (bigSep Finset.univ fun x : C ⊕ C => semVal (n.kcell (d, x)) 0) ∗ owing' d 0) := by
  unfold hand
  iintro ⟨⟨%K, #HR, Hb, Ht⟩, Hs, Hp, HO⟩
  iapply (wp_starts ER V q m cd hV K 0 l _ _) $$ [Hs Ht HO]
  · isplitr; · iexact HR
    isplitl [Hs Ht]
    · rw [← bigSep_univ_eq_bigSepL l h hl, bigSep_sep']
      isplitl [Hs]; · iexact Hs
      iexact Ht
    · rw [← dues_list n d l h hl, add_zero]; iexact HO
  rw [← bigSep_univ_eq_bigSepL l h hl]
  iintro ⟨Hps, HO⟩
  iapply (wp_waits ER V q cd K 0 iprop(emp) lx (no_debt d) _ _) $$ [Hb Hp Hps HO]
  · isplitr
    · isplitr; · iexact HR
      iempintro
    isplitl [Hb Hp Hps]
    · rw [← bigSep_univ_eq_bigSepL lx hx hlx, bigSep_sep']
      isplitl [Hp Hps]
      · rw [both]
        isplitl [Hps]; · iexact Hps
        iexact Hp
      · iexact Hb
    · iexact HO
  rw [← bigSep_univ_eq_bigSepL lx hx hlx, bigSep_sep']
  iintro ⟨⟨Hpay, Haft⟩, HO⟩
  rw [wp_ret]
  imod (close_cells n ER V q K d) $$ [Haft] with Hz
  · isplitr; · iexact HR
    iexact Haft
  imodintro
  ihave Hpay' := (Entails.of_eq (both fun x => pay n V q (d, x))) $$ Hpay
  icases Hpay' with ⟨H1, H2⟩
  isplitl [H1]; · iexact H1
  isplitl [H2]; · iexact H2
  isplitl [Hz]; · iexact Hz
  iexact HO

end Body

end Cert.OneShot

end
-- ==== Proof.OneShotRun.lean ====
/-
The run of a program that is one kernel region whose kernel is a network of one-shot copies, and possibly host
operations after it.

The certificate says how a device's arrays split into what its kernel starts with (`A`), the regions in which its
peers' copies land, and the rest; that its kernel runs from the first to `B`; and that `B` and the rest are all its
arrays at the final contents. The launch gives the landing regions to the devices that write them.
-/
module

public import proofs.«01_k».proof.Proof.PeerLaunch
public import proofs.«01_k».proof.Proof.OneShotLaunch

@[expose] public section

noncomputable section

namespace Cert.OneShot

open Idealize.ShloMosaic
open Idealize.ShloMosaic.TcCoe
open Idealize.SL Idealize.SL.RA
open Idealize.SL.BI (sProp bigSep bigSep_sep' bigSep_insert bigSep_mono bigSep_congr)
open scoped Idealize.SL.BI
open Idealize.SL.BI.BIBase Idealize.SL.BI.Laws Idealize.SL.ProofMode Idealize.SL.Sem
open Idealize.ShloMosaic.Rounds
open Idealize.ShloMosaic.Pipeline (PCfg Dat BodyObligationLoose WinFacts₀ OwnSemFacts launchCred pinD)

set_option Elab.async false

variable {nD : ℕ} {τ : Topo} {sig : RefSig} {C : Type} [Fintype C] [DecidableEq C] (n : Net nD sig C)
variable {Val : EltTy → Type}

/-- The ghost state: the pipelines' rounds (none here) and the network's. -/
abbrev Gh (nD : ℕ) (τ : Topo) (sig : RefSig) : Type := URounds (GSem nD τ sig) Unit × URounds (GSem nD τ sig) Unit

local notation "𝕄" => MT nD τ sig Unit Val ℕ (Gh nD τ sig) ℕ

/-- The network's part of it. -/
abbrev netEmb (nD : ℕ) (τ : Topo) (sig : RefSig) (Val : EltTy → Type) : Emb (URounds (GSem nD τ sig) Unit) (MT nD τ sig Unit Val ℕ (Gh nD τ sig) ℕ) := embR
/-- The pipelines' part of it. -/
abbrev pipeEmb (nD : ℕ) (τ : Topo) (sig : RefSig) (Val : EltTy → Type) : Emb (URounds (GSem nD τ sig) Unit) (MT nD τ sig Unit Val ℕ (Gh nD τ sig) ℕ) := embL

/-- An assertion that shows a fact is kept beside the fact. -/
theorem keep {P : sProp 𝕄} {φ : Prop} (h : P ⊢ (⌜φ⌝ : sProp 𝕄)) : P ⊢ iprop(⌜φ⌝ ∗ P) := by
  by_cases hφ : φ
  · iintro H
    isplitr; · ipureintro; exact hφ
    iexact H
  · refine h.trans ?_
    iintro %hf
    exact absurd hf hφ

/-- A device that holds all its arrays knows what memory holds. -/
theorem arrays_read (c : Dev nD) (W : (b : Ref sig .tc) → Buf Val ((c.tc : Thread nD τ).loc b)) (s : Phys nD τ sig Val) (B : Finset (Ref sig .tc)) :
    iprop((bigSep B fun b => ((c.tc : Thread nD τ).loc b) ↦{fullShare} W b) ∗ SI s)
      ⊢ (⌜∀ b ∈ B, s.mem.mem ((c.tc : Thread nD τ).loc b) = W b⌝ : sProp 𝕄) := by
  induction B using Finset.induction_on with
  | empty => iintro -; ipureintro; simp
  | insert b B hb ih =>
    rw [bigSep_insert hb]
    refine (show iprop(((((c.tc : Thread nD τ).loc b) ↦{fullShare} W b) ∗ (bigSep B fun b => ((c.tc : Thread nD τ).loc b) ↦{fullShare} W b)) ∗ SI s) ⊢ _ from ?_)
    iintro ⟨⟨Hb, HB⟩, HSI⟩
    icombine HSI Hb gives %h
    ihave %hB := ih $$ [HSI HB]
    · isplitl [HB] <;> iassumption
    ipureintro
    intro b' hb'
    rcases Finset.mem_insert.mp hb' with rfl | hb'
    · exact funext fun i => h i (Finset.mem_univ i)
    · exact hB b' hb'

variable (V : (d : Dev nD) → (b : Ref sig .tc) → Buf Val ((d : Thread nD τ).loc b)) (q : C → PosShare TreeShare)

variable {Λ₀ : Idealize.SL.Sem.Labels} {P : Type} [Fintype P] [DecidableEq P]
variable (pcs : P → PCfg sig Λ₀ Val) (a : Dev nD → (p : P) → (pcs p).Adm) [∀ p, IsEmpty (Fin (pcs p).W)] [∀ p, IsEmpty (Fin (pcs p).pre.K)]

/-- What the kernel's single grid point is described by: before it `pre`, after it `post`; at its start the device
    owes its landings, at its end nothing. -/
def dat (pre post : Dev nD → sProp 𝕄) (p : P) (c : Dev nD) : Dat τ Val Unit ℕ (Gh nD τ sig) ℕ (pinD pcs a c p) c where
  A w := isEmptyElim (α := Fin (pcs p).W) w
  after w := isEmptyElim (α := Fin (pcs p).W) w
  Φ t := match t with
    | ⟨0, _⟩ => pre c
    | ⟨_ + 1, _⟩ => post c
  q w := isEmptyElim (α := Fin (pcs p).W) w
  owed t := match t with
    | ⟨0, _⟩ => dues n c
    | ⟨_ + 1, _⟩ => 0

variable (phinj : Function.Injective (Pipeline.PerCore.cellOf (nD := nD) (pinD pcs a))) (p : P)
  (hw : WinFacts₀ (pcs p).spec) (ho : OwnSemFacts (pcs p).spec n.osem) (hN : ∀ c, (pinD pcs a c p).N = 1)
  (defs₀ : Defs nD τ sig Val Λ₀) (𝒱₀ : Variants)

local notation "𝔻" => Pipeline.defs pcs defs₀
local notation "𝕍" => Variants.lift 𝒱₀

variable (m : (ℓ : Loc nD τ sig) → Buf Val ℓ)
variable (L : GSem nD τ sig → Finset Unit) (lv : GSem nD τ sig → Unit → ℕ)
variable (A B : Dev nD → sProp (MT nD τ sig Unit Val ℕ (Gh nD τ sig) ℕ))

/-- What a device's kernel starts with. -/
def start (c : Dev nD) : sProp 𝕄 :=
  iprop(levAts L lv ∗ hand n (netEmb nD τ sig Val) V q (fun d b => m ((d : Thread nD τ).loc b)) c ∗ A c ∗ bigSep Finset.univ fun k => paid n (c, .inr k))
/-- What it ends with. -/
def finish (c : Dev nD) : sProp 𝕄 := iprop(B c ∗ bigSep Finset.univ fun x : C ⊕ C => semVal (n.kcell (c, x)) 0)

omit [∀ p, IsEmpty (Fin (pcs p).pre.K)] [DecidableEq P] [Fintype P] in
/-- The kernel's obligation, from what its body does. -/
theorem obligation (hN : ∀ c, (pinD pcs a c p).N = 1) (c : Dev nD)
    (hbody : ∀ t, iprop(start n V q m L lv A c ∗ owing' c (dues n c))
      ⊢ wp frame (wpE defs₀ 𝒱₀ (c : Thread nD τ) none) Set.univ (defs₀ .tc (pinD pcs a c p).body ((pinD pcs a c p).bodyArgs t ((pinD pcs a c p).slots t)))
        fun _ => iprop(finish n B c ∗ owing' c 0)) :
    BodyObligationLoose (dat n pcs a (start n V q m L lv A) (finish n B) p c) defs₀ 𝒱₀ () Set.univ := by
  intro t
  have ht : t.val = 0 := by have := t.isLt; have h' := hN c; omega
  have hemp (Φ : Fin (pcs p).W → sProp 𝕄) : bigSep Finset.univ Φ = BI.emp := by rw [Finset.univ_eq_empty, BI.bigSep_empty]
  obtain ⟨t, ht'⟩ := t
  obtain rfl : t = 0 := ht
  refine (show _ ⊢ iprop(start n V q m L lv A c ∗ owing' c (dues n c)) from ?_).trans ((hbody ⟨0, ht'⟩).trans (wp_mono frame _ _ fun _ => ?_))
  · refine (show _ ⊢ iprop(start n V q m L lv A c ∗ (dat n pcs a (start n V q m L lv A) (finish n B) p c).owesAt () (Fin.castSucc ⟨0, ht'⟩) ∗ _) from BI.Entails.refl _).trans ?_
    unfold owing' Dat.owesAt Pipeline.owesWithin
    iintro ⟨HS, ⟨%W, %hW, HO⟩, -⟩
    isplitl [HS]; · iexact HS
    iexists W; iexact HO
  · refine Entails.trans ?_ (show iprop(finish n B c ∗ (dat n pcs a (start n V q m L lv A) (finish n B) p c).owesAt () (Fin.succ ⟨0, ht'⟩) ∗ bigSep Finset.univ _) ⊢ _ from BI.Entails.refl _)
    rw [hemp]
    unfold owing' Dat.owesAt Pipeline.owesWithin
    iintro ⟨HS, ⟨%W, HO⟩⟩
    isplitl [HS]; · iexact HS
    isplitl
    · iexists W
      isplitr; · ipureintro; exact fun _ _ => Or.inl trivial
      iexact HO
    · iempintro

variable [∀ e, Nonempty (Val e)]

include phinj hw ho hN in
/-- The run. `k` is what follows the kernel, from all arrays at `V₁` to all arrays at `W`. -/
theorem run (g : Dev nD → PrngReg) (R : Dev nD → sProp 𝕄) (V₁ W : (d : Dev nD) → (b : Ref sig .tc) → Buf Val ((d : Thread nD τ).loc b))
    (main : Dev nD → Prog (TpuEff nD τ sig Val (Pipeline.Sig Λ₀ P fun p => (pcs p).Adm) .tc) PUnit)
    (k : Dev nD → PUnit → Prog (TpuEff nD τ sig Val (Pipeline.Sig Λ₀ P fun p => (pcs p).Adm) .tc) PUnit)
    (hmain : ∀ c, main c = .op (.customCall (Pipeline.entry p) ()) (k c))
    (hL : ∀ g : GSem nD τ sig, g.1.2 ≠ .tc → L g = ∅)
    (hrest : ∀ c, (Pipeline.scopedRest (pinD pcs a c p).spec c : sProp 𝕄) = BI.emp)
    (hbody : ∀ c t, iprop(start n V q m L lv A c ∗ owing' c (dues n c))
      ⊢ wp frame (wpE defs₀ 𝒱₀ (c : Thread nD τ) none) Set.univ (defs₀ .tc (pinD pcs a c p).body ((pinD pcs a c p).bodyArgs t ((pinD pcs a c p).slots t)))
        fun _ => iprop(finish n B c ∗ owing' c 0))
    (cut : ∀ c : Dev nD, (unscopedBufs c (fun b => m ((c : Thread nD τ).loc b)) : sProp 𝕄)
      ⊢ iprop((A c ∗ R c) ∗ bigSep Finset.univ fun k => landPts n (fun d b => m ((d : Thread nD τ).loc b)) c k))
    (glue : ∀ c : Dev nD, iprop(B c ∗ R c) ⊢ (unscopedBufs c (V₁ c) : sProp 𝕄))
    (htail : ∀ (c : Dev nD) (Q' : PUnit → sProp 𝕄),
      iprop((iprop(boundary (c : Thread nD τ) ∗ unscopedBufs c (W c) ∗ owing' c 0) -∗ Q' ⟨⟩)
          ∗ boundary (c : Thread nD τ) ∗ unscopedBufs c (V₁ c) ∗ owing' c 0)
        ⊢ wp frame (wpE 𝔻 𝕍 (c : Thread nD τ) none) Set.univ (k c ⟨⟩) Q')
    {Q : PUnit × MemSt nD τ sig Val → Prop}
    (hQ : ∀ s : MemSt nD τ sig Val, (∀ (c : Dev nD) (b : Ref sig .tc), ¬ b.isScoped → s.mem ((c : Thread nD τ).loc b) = W c b) →
      (∀ g' : GSem nD τ sig, (g'.1.2 ≠ .tc ∨ g'.2.isScoped .tc = true) → s.sem g' = 0) → Q (⟨⟩, s)) :
    θ_run 𝔻 (onTc main) ⟨m, fun _ => 0, g⟩ Q :=
  PeerLaunch.run_region pcs a (fun p c => dat n pcs a (start n V q m L lv A) (finish n B) p c) () phinj p hw ho (pipeEmb nD τ sig Val) defs₀ 𝒱₀ m g main k hmain
    (fun c => obligation n V q pcs a p defs₀ 𝒱₀ m L lv A B hN c (hbody c))
    (dues n) (fun _ => rfl) L lv hL
    (fresh n (netEmb nD τ sig Val) V q)
    (fun c => iprop(hand n (netEmb nD τ sig Val) V q (fun d b => m ((d : Thread nD τ).loc b)) c ∗ (A c ∗ R c)))
    (initOf ∅ ∅, initOf (cells n) (tokens n))
    (by
      iintro Hu
      ihave H := (ownU_pair _ _) $$ Hu
      icases H with ⟨-, HX⟩
      imod (fund n (netEmb nD τ sig Val) V q) $$ HX with HG
      imodintro
      iexact HG)
    ((bigSep_mono fun c _ => sep_mono_right (sep_mono_left (cut c))).trans (deal n (netEmb nD τ sig Val) V q (fun d b => m ((d : Thread nD τ).loc b)) fun c => iprop(A c ∗ R c)))
    (start n V q m L lv A) B R (fun c => unscopedBufs c (W c))
    (fun c => by
      unfold start
      iintro ⟨HL, HC, -, ⟨HH, HA, HR⟩⟩
      ihave HC := (credits n c) $$ HC
      imodintro
      isplitr [HR]
      · isplitl [HL]; · iexact HL
        isplitl [HH]; · iexact HH
        isplitl [HA]; · iexact HA
        iexact HC
      · iexact HR)
    (fun c => by
      rw [hrest]
      refine (show _ ⊢ start n V q m L lv A c from ?_).trans (BI.Entails.refl _)
      iintro ⟨H, -⟩
      iexact H)
    (fun c => by
      rw [hrest]
      refine (show (dat n pcs a (start n V q m L lv A) (finish n B) p c).Φ (Fin.last (pinD pcs a c p).N) ⊢ finish n B c from ?_).trans ?_
      · have h := hN c
        have h' : Fin.last (pinD pcs a c p).N = ⟨0 + 1, by omega⟩ := Fin.ext h
        rw [h']; exact BI.Entails.refl _
      · unfold finish Pipeline.ownSems0
        refine (show iprop(B c ∗ bigSep Finset.univ fun x : C ⊕ C => semVal ((c.tc : Thread nD τ), n.osem x) 0) ⊢ _ from ?_)
        iintro ⟨HB, HZ⟩
        isplitl [HB]; · iexact HB
        isplitl [HZ]; · iexact HZ
        iempintro)
    (fun c Q' => by
      have h : (dat n pcs a (start n V q m L lv A) (finish n B) p c).owed (Fin.last (pinD pcs a c p).N) = 0 := by
        have h := hN c
        have h' : Fin.last (pinD pcs a c p).N = ⟨0 + 1, by omega⟩ := Fin.ext h
        rw [h']; rfl
      refine Entails.trans ?_ (htail c Q')
      unfold owing' Dat.owesAt Pipeline.owesWithin
      rw [h]
      iintro ⟨HK, Hb, HB, HR, ⟨%W', %hW, HO⟩⟩
      isplitl [HK]; · iexact HK
      isplitl [Hb]; · iexact Hb
      isplitl [HB HR]
      · iapply (glue c); isplitl [HB] <;> iassumption
      · iexists W'; iexact HO)
    (fun c s => ∀ b : Ref sig .tc, ¬ b.isScoped → s.mem ((c : Thread nD τ).loc b) = W c b)
    (fun c s' => by
      have h := keep (arrays_read c (W c) s' (Finset.univ.filter fun b : Ref sig .tc => ¬ b.isScoped))
      refine (show iprop(unscopedBufs c (W c) ∗ SI s') ⊢ _ from h).trans ?_
      iintro ⟨%hb, ⟨-, HSI⟩⟩
      imodintro
      isplitr
      · ipureintro; exact fun b hb' => hb b (Finset.mem_filter.mpr ⟨Finset.mem_univ _, hb'⟩)
      · iexact HSI)
    hQ

end Cert.OneShot

end
-- ==== Proof.Pieces.lean ====
/-
The arrays of one device, cut into the pieces that copies read and write.

A finite family of pieces is given, each a set of elements of one array, pieces of the same array disjoint. The
device's holding of all its arrays is exactly its holding of all the pieces and of what no piece covers.
-/
module

public import Idealize.ShloMosaic.Lib.Pipeline.Launch

@[expose] public section

noncomputable section

namespace Cert.Pieces

open Idealize.ShloMosaic
open Idealize.ShloMosaic.TcCoe
open Idealize.SL Idealize.SL.RA
open Idealize.SL.BI (sProp bigSep bigSep_sep' bigSep_congr bigSep_biUnion_eq)
open scoped Idealize.SL.BI
open Idealize.SL.BI.BIBase Idealize.SL.BI.Laws

variable {nD : ℕ} {τ : Topo} {sig : RefSig} {Val : EltTy → Type} {Ix Name U Lvl : Type} [DecidableEq Ix] [DecidableEq Name] [URA U]

local notation "𝕄" => MT nD τ sig Ix Val Name U Lvl

variable {I : Type} [Fintype I] [DecidableEq I] (r : I → Ref sig .tc) (S : (i : I) → Finset (r i).ty.Idx)

/-- The elements piece `i` takes of array `b`: none when it is a piece of another array. -/
def part (b : Ref sig .tc) (i : I) : Finset b.ty.Idx := if h : r i = b then h ▸ S i else ∅

/-- The elements of array `b` that some piece takes. -/
def used (b : Ref sig .tc) : Finset b.ty.Idx := (Finset.univ.filter fun i => r i = b).biUnion (part r S b)

omit [Fintype I] [DecidableEq I] in
theorem part_self (i : I) : part r S (r i) i = S i := by unfold part; rw [dif_pos rfl]

/-- Pieces of the same array are disjoint. -/
def Apart : Prop := ∀ i j (h : r j = r i), i ≠ j → Disjoint (S i) (h ▸ S j)

variable (c : Dev nD) (f : (b : Ref sig .tc) → Buf Val ((c.tc : Thread nD τ).loc b))

/-- Piece `i`, held in full. -/
def held (i : I) : sProp 𝕄 := ((c.tc : Thread nD τ).loc (r i)) ↦[S i]{fullShare} f (r i)

/-- What no piece takes of the device's arrays. -/
def left : sProp 𝕄 :=
  bigSep (Finset.univ.filter fun b : Ref sig .tc => ¬ b.isScoped) fun b => ((c.tc : Thread nD τ).loc b) ↦[Finset.univ \ used r S b]{fullShare} f b

/-- One array, cut. -/
theorem array_eq (hS : Apart r S) (b : Ref sig .tc) :
    ((((c.tc : Thread nD τ).loc b) ↦{fullShare} f b : sProp 𝕄))
      = iprop((bigSep (Finset.univ.filter fun i => r i = b) fun i => held r S c f i)
        ∗ (((c.tc : Thread nD τ).loc b) ↦[Finset.univ \ used r S b]{fullShare} f b)) := by
  have h1 : ((((c.tc : Thread nD τ).loc b) ↦{fullShare} f b : sProp 𝕄))
      ⊣⊢ iprop((((c.tc : Thread nD τ).loc b) ↦[used r S b]{fullShare} f b) ∗ (((c.tc : Thread nD τ).loc b) ↦[Finset.univ \ used r S b]{fullShare} f b)) :=
    pointsTo_split_subset (Finset.subset_univ _)
  rw [BI.equiv_iff.mp ⟨h1.1, h1.2⟩]
  congr 1
  unfold used
  refine (pointsTo_biUnion (ℓ := ((c.tc : Thread nD τ).loc b)) _ _ fun i hi j hj hne => ?_).trans (bigSep_congr fun i hi => ?_)
  · have hi := (Finset.mem_filter.mp hi).2
    have hj := (Finset.mem_filter.mp hj).2
    subst hi
    rw [part_self]
    unfold part
    rw [dif_pos hj]
    exact hS i j hj hne
  · have hi := (Finset.mem_filter.mp hi).2
    subst hi
    rw [part_self]
    rfl

/-- All arrays, cut. -/
theorem arrays_eq (hS : Apart r S) (hr : ∀ i, ¬ (r i).isScoped) :
    (unscopedBufs c f : sProp 𝕄) = iprop((bigSep Finset.univ fun i => held r S c f i) ∗ left r S c f) := by
  unfold unscopedBufs left
  rw [bigSep_congr (s := Finset.univ.filter fun b : Ref sig .tc => ¬ b.isScoped) fun b _ => array_eq r S c f hS b]
  refine (bigSep_sep' _ _ _).trans ?_
  have hu : (Finset.univ : Finset I) = (Finset.univ.filter fun b : Ref sig .tc => ¬ b.isScoped).biUnion fun b => Finset.univ.filter fun i => r i = b := by
    ext i
    simp only [Finset.mem_univ, true_iff]
    exact Finset.mem_biUnion.mpr ⟨r i, Finset.mem_filter.mpr ⟨Finset.mem_univ _, hr i⟩, Finset.mem_filter.mpr ⟨Finset.mem_univ _, rfl⟩⟩
  conv_rhs => rw [hu]
  rw [bigSep_biUnion_eq _ _ _ fun b _ b' _ hne => Finset.disjoint_filter.mpr fun i _ h h' => hne (h.symm.trans h')]

variable {f}
omit [DecidableEq I] in
/-- What no piece takes, at other contents that agree there. -/
theorem left_congr {g : (b : Ref sig .tc) → Buf Val ((c.tc : Thread nD τ).loc b)} (h : ∀ b, ¬ b.isScoped → ∀ x, x ∉ used r S b → f b x = g b x) :
    (left r S c f : sProp 𝕄) = left r S c g := by
  unfold left
  refine bigSep_congr fun b hb => pointsTo_congr fun x hx => h b (Finset.mem_filter.mp hb).2 x (Finset.mem_sdiff.mp hx).2

/-! ## Contents with every piece at given values -/

section Contents

variable {shp : I → Shape} {elt : I → EltTy} (v : (i : I) → View sig .tc .hbm (shp i) (elt i)) (w : (i : I) → (shp i).Idx → Val (elt i))

/-- One piece written. -/
def put (i : I) (g : (b : Ref sig .tc) → b.ty.Contents Val) : (b : Ref sig .tc) → b.ty.Contents Val := fun b =>
  if h : (v i).ref = b then h ▸ (v i).write Val (g (v i).ref) (w i) Finset.univ else g b

omit [Fintype I] [DecidableEq I] in
theorem put_self (i : I) (g) : put v w i g (v i).ref = (v i).write Val (g (v i).ref) (w i) Finset.univ := by
  unfold put; rw [dif_pos rfl]

omit [Fintype I] [DecidableEq I] in
theorem put_off (i : I) (g : (b : Ref sig .tc) → b.ty.Contents Val) (b : Ref sig .tc) (x : b.ty.Idx) (hx : x ∉ part (fun i => (v i).ref) (fun i => (v i).set) b i) :
    put v w i g b x = g b x := by
  by_cases h : (v i).ref = b
  · subst h
    rw [put_self]
    have hx' : x ∉ (v i).set := by
      intro h'; apply hx; unfold part; rw [dif_pos rfl]; exact h'
    exact View.write_of_not_mem _ _ _ (by rwa [View.setOn_univ])
  · unfold put; rw [dif_neg h]

/-- There are contents at which every piece reads as given, and which are the given ones where no piece is. -/
theorem exists_contents (hS : Apart (fun i => (v i).ref) (fun i => (v i).set)) (g : (b : Ref sig .tc) → b.ty.Contents Val) :
    ∃ g' : (b : Ref sig .tc) → b.ty.Contents Val, (∀ i, (v i).read Val (g' (v i).ref) = w i)
      ∧ ∀ b x, x ∉ used (fun i => (v i).ref) (fun i => (v i).set) b → g' b x = g b x := by
  suffices h : ∀ T : Finset I, ∃ g' : (b : Ref sig .tc) → b.ty.Contents Val, (∀ i ∈ T, (v i).read Val (g' (v i).ref) = w i)
      ∧ ∀ b x, x ∉ used (fun i => (v i).ref) (fun i => (v i).set) b → g' b x = g b x by
    obtain ⟨g', h1, h2⟩ := h Finset.univ
    exact ⟨g', fun i => h1 i (Finset.mem_univ i), h2⟩
  intro T
  induction T using Finset.induction_on with
  | empty => exact ⟨g, fun i hi => absurd hi (Finset.notMem_empty _), fun _ _ _ => rfl⟩
  | insert i T hi ih =>
    obtain ⟨g', h1, h2⟩ := ih
    refine ⟨put v w i g', fun j hj => ?_, fun b x hx => ?_⟩
    · by_cases e : j = i
      · subst e; rw [put_self]; exact View.read_write_univ _ _
      · rw [← h1 j ((Finset.mem_insert.mp hj).resolve_left e)]
        have hh : ∀ x ∈ (v j).set, put v w i g' (v j).ref x = g' (v j).ref x := by
          intro x hx
          refine put_off v w i g' (v j).ref x fun hx' => ?_
          unfold part at hx'
          by_cases h : (v i).ref = (v j).ref
          · rw [dif_pos h] at hx'
            exact Finset.disjoint_left.mp (hS j i h e) hx hx'
          · rw [dif_neg h] at hx'
            exact Finset.notMem_empty _ hx'
        exact View.read_congr hh
    · refine (put_off v w i g' b x fun hx' => hx ?_).trans (h2 b x hx)
      by_cases h : (v i).ref = b
      · exact Finset.mem_biUnion.mpr ⟨i, Finset.mem_filter.mpr ⟨Finset.mem_univ _, h⟩, hx'⟩
      · unfold part at hx'; rw [dif_neg h] at hx'; exact absurd hx' (Finset.notMem_empty _)

end Contents

end Cert.Pieces

end
-- ==== Proof.OneShotWhole.lean ====
/-
A program that is one kernel: every device starts its copies, then waits for all of them, then host operations may
follow.

When the regions that copies read and the regions in which they land are pairwise disjoint on every device, all is
determined: there are contents `V` at which every landing region reads as the source region of its peer did and
everything else is unchanged; the kernel takes the arrays from the initial contents to `V`.
-/
module

public import proofs.«01_k».proof.Proof.OneShotRun
public import proofs.«01_k».proof.Proof.Pieces

@[expose] public section

noncomputable section

namespace Cert.OneShot

open Idealize.ShloMosaic
open Idealize.ShloMosaic.TcCoe
open Idealize.SL Idealize.SL.RA
open Idealize.SL.BI (sProp bigSep bigSep_sep' bigSep_insert bigSep_mono bigSep_congr)
open scoped Idealize.SL.BI
open Idealize.SL.BI.BIBase Idealize.SL.BI.Laws Idealize.SL.ProofMode Idealize.SL.Sem
open Idealize.ShloMosaic.Rounds
open Idealize.ShloMosaic.Pipeline (PCfg Dat BodyObligationLoose WinFacts₀ OwnSemFacts launchCred pinD)

set_option Elab.async false

variable {nD : ℕ} {τ : Topo} {sig : RefSig} {C : Type} [Fintype C] [DecidableEq C] (n : Net nD sig C)
variable {Val : EltTy → Type}

local notation "𝕄" => MT nD τ sig Unit Val ℕ (Gh nD τ sig) ℕ

/-- The arrays of the regions device `d` has in the copies: those it reads, then those written for it. -/
def pref (d : Dev nD) : C ⊕ C → Ref sig .tc
  | .inl k => (n.src d k).view.ref
  | .inr k => (n.dst (n.peer d k) k).view.ref

/-- The regions. -/
def pset (d : Dev nD) : (i : C ⊕ C) → Finset (pref n d i).ty.Idx
  | .inl k => (n.src d k).view.set
  | .inr k => (n.dst (n.peer d k) k).view.set

/-- The arrays of the landing regions, and the regions. -/
abbrev lref (d : Dev nD) (k : C) : Ref sig .tc := (n.dst (n.peer d k) k).view.ref
abbrev lset (d : Dev nD) (k : C) : Finset (lref n d k).ty.Idx := (n.dst (n.peer d k) k).view.set

/-- `V` is `m` after the copies: unchanged where nothing lands, and every landing region read as its source was. -/
structure After (m V : (d : Dev nD) → (b : Ref sig .tc) → Buf Val ((d : Thread nD τ).loc b)) : Prop where
  lands : ∀ d k, (n.dst (n.peer d k) k).view.read Val (V d (n.dst (n.peer d k) k).view.ref)
    = (n.src (n.peer d k) k).view.read Val (m (n.peer d k) (n.src (n.peer d k) k).view.ref)
  off : ∀ d b x, x ∉ Pieces.used (lref n d) (lset n d) b → V d b x = m d b x

variable {n}

omit [Fintype C] [DecidableEq C] in
theorem apart_landings {d : Dev nD} (hA : Pieces.Apart (pref n d) (pset n d)) : Pieces.Apart (lref n d) (lset n d) :=
  fun i j h e => hA (.inr i) (.inr j) h fun e' => e (Sum.inr_injective e')

theorem After.exists (hA : ∀ d, Pieces.Apart (pref n d) (pset n d)) (m : (d : Dev nD) → (b : Ref sig .tc) → Buf Val ((d : Thread nD τ).loc b)) :
    ∃ V, After (τ := τ) n m V := by
  choose V hV hoff using fun d => Pieces.exists_contents (fun k => (n.dst (n.peer d k) k).view)
    (fun k => (n.src (n.peer d k) k).view.read Val (m (n.peer d k) (n.src (n.peer d k) k).view.ref)) (apart_landings (hA d)) (m d)
  exact ⟨V, hV, hoff⟩

variable {m V : (d : Dev nD) → (b : Ref sig .tc) → Buf Val ((d : Thread nD τ).loc b)}

/-- What copies read is unchanged. -/
theorem After.source (h : After n m V) (hA : ∀ d, Pieces.Apart (pref n d) (pset n d)) (d : Dev nD) (k : C) :
    ∀ x ∈ (n.src d k).view.set, V d (n.src d k).view.ref x = m d (n.src d k).view.ref x := fun x hx =>
  h.off d (n.src d k).view.ref x fun hu => by
    obtain ⟨i, hi, hx'⟩ := Finset.mem_biUnion.mp hu
    have hi := (Finset.mem_filter.mp hi).2
    unfold Pieces.part at hx'
    rw [dif_pos hi] at hx'
    exact Finset.disjoint_left.mp (hA d (.inl k) (.inr i) hi (by simp)) hx hx'

theorem After.Lands (h : After n m V) (hA : ∀ d, Pieces.Apart (pref n d) (pset n d)) : Lands n V := fun d k => by
  have h1 := h.lands (n.peer d k) k
  rw [n.peer_peer] at h1
  rw [h1]
  exact View.read_congr fun x hx => (h.source hA d k x hx).symm

/-- An array in which nothing lands is unchanged. -/
theorem After.same (h : After n m V) (d : Dev nD) (b : Ref sig .tc) (hb : ∀ k, lref n d k ≠ b) : V d b = m d b :=
  funext fun x => h.off d b x fun hu => by
    obtain ⟨i, hi, -⟩ := Finset.mem_biUnion.mp hu
    exact hb i (Finset.mem_filter.mp hi).2

theorem used_landings {d : Dev nD} {b : Ref sig .tc} {x : b.ty.Idx} (hx : x ∉ Pieces.used (pref n d) (pset n d) b) :
    x ∉ Pieces.used (lref n d) (lset n d) b := fun hu => by
  obtain ⟨i, hi, hx'⟩ := Finset.mem_biUnion.mp hu
  exact hx (Finset.mem_biUnion.mpr ⟨.inr i, Finset.mem_filter.mpr ⟨Finset.mem_univ _, (Finset.mem_filter.mp hi).2⟩, hx'⟩)

/-- All arrays of a device: the sources, the landing regions, the rest. -/
theorem arrays_cut (hA : ∀ d, Pieces.Apart (pref n d) (pset n d)) (hr : ∀ d i, ¬ (pref n d i).isScoped) (d : Dev nD)
    (f : (d : Dev nD) → (b : Ref sig .tc) → Buf Val ((d : Thread nD τ).loc b)) :
    (unscopedBufs d (f d) : sProp 𝕄) = iprop(((bigSep Finset.univ fun k => srcPts n f (fun _ => fullShare) d k)
      ∗ bigSep Finset.univ fun k => landPts n f d k) ∗ Pieces.left (pref n d) (pset n d) d (f d)) := by
  rw [Pieces.arrays_eq (pref n d) (pset n d) d (f d) (hA d) (hr d)]
  congr 1
  exact both (fun i => Pieces.held (pref n d) (pset n d) d (f d) i)

theorem After.left_eq (h : After n m V) (d : Dev nD) :
    (Pieces.left (pref n d) (pset n d) d (V d) : sProp 𝕄) = Pieces.left (pref n d) (pset n d) d (m d) :=
  Pieces.left_congr _ _ _ fun b _ x hx => h.off d b x (used_landings hx)

theorem After.srcPts_eq (h : After n m V) (hA : ∀ d, Pieces.Apart (pref n d) (pset n d)) (q : C → PosShare TreeShare) (d : Dev nD) (k : C) :
    (srcPts n V q d k : sProp 𝕄) = srcPts n m q d k :=
  pointsTo_congr fun x hx => h.source hA d k x hx

section Run

variable {Λ₀ : Idealize.SL.Sem.Labels} {P : Type} [Fintype P] [DecidableEq P]
variable (pcs : P → PCfg sig Λ₀ Val) (a : Dev nD → (p : P) → (pcs p).Adm) [∀ p, IsEmpty (Fin (pcs p).W)] [∀ p, IsEmpty (Fin (pcs p).pre.K)]
variable (phinj : Function.Injective (Pipeline.PerCore.cellOf (nD := nD) (pinD pcs a))) (p : P)
  (hw : WinFacts₀ (pcs p).spec) (ho : OwnSemFacts (pcs p).spec n.osem) (hN : ∀ c, (pinD pcs a c p).N = 1)
  (defs₀ : Defs nD τ sig Val Λ₀) (𝒱₀ : Variants)

local notation "𝔻" => Pipeline.defs pcs defs₀
local notation "𝕍" => Variants.lift 𝒱₀

variable [∀ e, Nonempty (Val e)]

include phinj hw ho hN in
/-- The run of a kernel that starts all copies and waits for all: `W V` is what the host operations after it make of
    the contents `V` it leaves. -/
theorem run_all (hA : ∀ d, Pieces.Apart (pref n d) (pset n d)) (hr : ∀ d i, ¬ (pref n d i).isScoped)
    (m : (ℓ : Loc nD τ sig) → Buf Val ℓ) (g : Dev nD → PrngReg)
    (W : ((d : Dev nD) → (b : Ref sig .tc) → Buf Val ((d : Thread nD τ).loc b)) → (d : Dev nD) → (b : Ref sig .tc) → Buf Val ((d : Thread nD τ).loc b))
    (main : Dev nD → Prog (TpuEff nD τ sig Val (Pipeline.Sig Λ₀ P fun p => (pcs p).Adm) .tc) PUnit)
    (k : Dev nD → PUnit → Prog (TpuEff nD τ sig Val (Pipeline.Sig Λ₀ P fun p => (pcs p).Adm) .tc) PUnit)
    (hmain : ∀ c, main c = .op (.customCall (Pipeline.entry p) ()) (k c))
    (hrest : ∀ c, (Pipeline.scopedRest (pinD pcs a c p).spec c : sProp 𝕄) = BI.emp)
    (cd : (d : Dev nD) → Code (U := Gh nD τ sig) n defs₀ 𝒱₀ d)
    (l : List C) (hl : Finset.univ = l.toFinset) (hl' : l.Nodup) (lx : List (C ⊕ C)) (hlx : Finset.univ = lx.toFinset) (hlx' : lx.Nodup)
    (hcode : ∀ (c : Dev nD) t (R : sProp 𝕄), wp frame (wpE defs₀ 𝒱₀ (c : Thread nD τ) none) Set.univ (l.foldr (cd c).start (lx.foldr (cd c).await (.ret ⟨⟩))) (fun _ => R)
      ⊢ wp frame (wpE defs₀ 𝒱₀ (c : Thread nD τ) none) Set.univ (defs₀ .tc (pinD pcs a c p).body ((pinD pcs a c p).bodyArgs t ((pinD pcs a c p).slots t))) fun _ => R)
    (htail : ∀ V, After n (fun d b => m ((d : Thread nD τ).loc b)) V → ∀ (c : Dev nD) (Q' : PUnit → sProp 𝕄),
      iprop((iprop(boundary (c : Thread nD τ) ∗ unscopedBufs c (W V c) ∗ owing' c 0) -∗ Q' ⟨⟩)
          ∗ boundary (c : Thread nD τ) ∗ unscopedBufs c (V c) ∗ owing' c 0)
        ⊢ wp frame (wpE 𝔻 𝕍 (c : Thread nD τ) none) Set.univ (k c ⟨⟩) Q')
    {Q : PUnit × MemSt nD τ sig Val → Prop}
    (hQ : ∀ V, After n (fun d b => m ((d : Thread nD τ).loc b)) V → ∀ s : MemSt nD τ sig Val,
      (∀ (c : Dev nD) (b : Ref sig .tc), ¬ b.isScoped → s.mem ((c : Thread nD τ).loc b) = W V c b) →
      (∀ g' : GSem nD τ sig, (g'.1.2 ≠ .tc ∨ g'.2.isScoped .tc = true) → s.sem g' = 0) → Q (⟨⟩, s)) :
    θ_run 𝔻 (onTc main) ⟨m, fun _ => 0, g⟩ Q := by
  obtain ⟨V, hV⟩ := After.exists hA (fun d b => m ((d : Thread nD τ).loc b))
  refine run n V (fun _ => fullShare) pcs a phinj p hw ho hN defs₀ 𝒱₀ m (fun g => if g.1.2 = .tc then {()} else ∅) (fun _ _ => 0)
    (fun c => bigSep Finset.univ fun k => srcPts n V (fun _ => fullShare) c k)
    (fun c => iprop((bigSep Finset.univ fun k => srcPts n V (fun _ => fullShare) c k) ∗ bigSep Finset.univ fun k => landPts n V c k))
    g (fun c => Pieces.left (pref n c) (pset n c) c (V c)) V (W V) main k hmain (fun g hg => if_neg hg) hrest ?_ ?_ ?_ (htail V hV) (hQ V hV)
  · intro c t
    refine Entails.trans ?_ (hcode c t _)
    have h := body (netEmb nD τ sig Val) V (fun _ => fullShare) (fun d b => m ((d : Thread nD τ).loc b)) (cd c) (hV.Lands hA) l hl hl' lx hlx hlx'
    refine Entails.trans ?_ (h.trans (wp_mono frame _ _ fun _ => ?_))
    · unfold start
      iintro ⟨⟨-, HH, HA, HP⟩, HO⟩
      isplitl [HH]; · iexact HH
      isplitl [HA]; · iexact HA
      isplitl [HP]; · iexact HP
      iexact HO
    · unfold finish
      iintro ⟨H1, H2, H3, H4⟩
      isplitr [H4]
      · isplitr [H3]
        · isplitl [H1]; · iexact H1
          iexact H2
        · iexact H3
      · iexact H4
  · intro c
    rw [arrays_cut hA hr c (fun d b => m ((d : Thread nD τ).loc b)), hV.left_eq c,
      bigSep_congr (s := Finset.univ) fun k _ => hV.srcPts_eq hA (fun _ => fullShare) c k]
    iintro ⟨⟨H1, H2⟩, H3⟩
    isplitr [H2]
    · isplitl [H1]; · iexact H1
      iexact H3
    · iexact H2
  · intro c
    rw [arrays_cut hA hr c V]

end Run

end Cert.OneShot

end
-- ==== Proof.Exchange.lean ====
/-
The exchange of the gradients' halves between the two cores of a chip.

Every device holds ten gradients, of which the other core of its chip needs, for every chip's shard, the half of the
rows that the other core will sum. It sends each half straight into a result array of the other core: ten copies, none
of which reads or writes what another writes. This module states the network of these copies and runs the program.
-/
module

public import proofs.«01_k».proof.Proof.OneShotWhole
public import proofs.«01_k».proof.Proof.Gen.KernelIdeal
public import proofs.«01_k».proof.Proof.Gen.KernelIdeal.Skeleton
public import proofs.«01_k».proof.Proof.Gen.KernelIdeal.Launch
public import Idealize.ShloMosaic.Lib.Quiescent

@[expose] public section

noncomputable section

namespace Cert.Exchange

open Cert.KernelIdeal Cert.KernelIdeal.Gen Cert.OneShot
open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

/-- The halves that are sent. -/
abbrev shp : Fin 10 → Shape
  | 0 => S4x2048x1424
  | 1 => S4x512x1536
  | 2 => S4x256x2048
  | 3 => S4x512x4096
  | 4 => S4x2048x4096
  | 5 => S4x512x4096
  | 6 => S4x2048x3072
  | 7 => S4x512x4096
  | 8 => S4x2048x3072
  | 9 => S4x512x4096

/-- The half of gradient `k` that device `d` sends. -/
abbrev src (d : Dev nD) : (k : Fin 10) → Memref sig .tc .hbm (shp k) .f32
  | 0 => (Memref.whole main_arg0).slice (Rect.unit (s := S4x4096x1424) (k0_off1 d) S4x2048x1424.size (k0_off1_inb d)) (fun _ => rfl)
  | 1 => (Memref.whole main_arg1).slice (Rect.unit (s := S4x1024x1536) (k0_off2 d) S4x512x1536.size (k0_off2_inb d)) (fun _ => rfl)
  | 2 => (Memref.whole main_arg2).slice (Rect.unit (s := S4x512x2048) (k0_off3 d) S4x256x2048.size (k0_off3_inb d)) (fun _ => rfl)
  | 3 => (Memref.whole main_arg3).slice (Rect.unit (s := S4x1024x4096) (k0_off4 d) S4x512x4096.size (k0_off4_inb d)) (fun _ => rfl)
  | 4 => (Memref.whole main_arg4).slice (Rect.unit (s := S4x4096x4096) (k0_off5 d) S4x2048x4096.size (k0_off5_inb d)) (fun _ => rfl)
  | 5 => (Memref.whole main_arg5).slice (Rect.unit (s := S4x1024x4096) (k0_off4 d) S4x512x4096.size (k0_off4_inb d)) (fun _ => rfl)
  | 6 => (Memref.whole main_arg6).slice (Rect.unit (s := S4x4096x3072) (k0_off6 d) S4x2048x3072.size (k0_off6_inb d)) (fun _ => rfl)
  | 7 => (Memref.whole main_arg7).slice (Rect.unit (s := S4x1024x4096) (k0_off4 d) S4x512x4096.size (k0_off4_inb d)) (fun _ => rfl)
  | 8 => (Memref.whole main_arg8).slice (Rect.unit (s := S4x4096x3072) (k0_off6 d) S4x2048x3072.size (k0_off6_inb d)) (fun _ => rfl)
  | 9 => (Memref.whole main_arg9).slice (Rect.unit (s := S4x1024x4096) (k0_off4 d) S4x512x4096.size (k0_off4_inb d)) (fun _ => rfl)

/-- The array it lands in, on the other core. -/
abbrev dst : (k : Fin 10) → Memref sig .tc .hbm (shp k) .f32
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
  | 9 => Memref.whole main_v1_9

/-- The other core of the chip, as each copy computes it. -/
abbrev peer (d : Dev nD) : Fin 10 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | 7 => ⟨k0_dev8 d, k0_dev8_lt d⟩
  | 8 => ⟨k0_dev9 d, k0_dev9_lt d⟩
  | 9 => ⟨k0_dev10 d, k0_dev10_lt d⟩

/-- The send semaphores. -/
abbrev snd : Fin 10 → DmaSem sig
  | 0 => ((cc0_scratch0.slice (Rect.unit (s := S10) ![0] S1.size inb_S10_S1_0)).squeeze S_ squeezes_S1_S_).sem
  | 1 => ((cc0_scratch0.slice (Rect.unit (s := S10) ![1] S1.size inb_S10_S1_1)).squeeze S_ squeezes_S1_S_).sem
  | 2 => ((cc0_scratch0.slice (Rect.unit (s := S10) ![2] S1.size inb_S10_S1_2)).squeeze S_ squeezes_S1_S_).sem
  | 3 => ((cc0_scratch0.slice (Rect.unit (s := S10) ![3] S1.size inb_S10_S1_3)).squeeze S_ squeezes_S1_S_).sem
  | 4 => ((cc0_scratch0.slice (Rect.unit (s := S10) ![4] S1.size inb_S10_S1_4)).squeeze S_ squeezes_S1_S_).sem
  | 5 => ((cc0_scratch0.slice (Rect.unit (s := S10) ![5] S1.size inb_S10_S1_5)).squeeze S_ squeezes_S1_S_).sem
  | 6 => ((cc0_scratch0.slice (Rect.unit (s := S10) ![6] S1.size inb_S10_S1_6)).squeeze S_ squeezes_S1_S_).sem
  | 7 => ((cc0_scratch0.slice (Rect.unit (s := S10) ![7] S1.size inb_S10_S1_7)).squeeze S_ squeezes_S1_S_).sem
  | 8 => ((cc0_scratch0.slice (Rect.unit (s := S10) ![8] S1.size inb_S10_S1_8)).squeeze S_ squeezes_S1_S_).sem
  | 9 => ((cc0_scratch0.slice (Rect.unit (s := S10) ![9] S1.size inb_S10_S1_9)).squeeze S_ squeezes_S1_S_).sem

/-- The receive semaphores. -/
abbrev rcv : Fin 10 → DmaSem sig
  | 0 => ((cc0_scratch1.slice (Rect.unit (s := S10) ![0] S1.size inb_S10_S1_0)).squeeze S_ squeezes_S1_S_).sem
  | 1 => ((cc0_scratch1.slice (Rect.unit (s := S10) ![1] S1.size inb_S10_S1_1)).squeeze S_ squeezes_S1_S_).sem
  | 2 => ((cc0_scratch1.slice (Rect.unit (s := S10) ![2] S1.size inb_S10_S1_2)).squeeze S_ squeezes_S1_S_).sem
  | 3 => ((cc0_scratch1.slice (Rect.unit (s := S10) ![3] S1.size inb_S10_S1_3)).squeeze S_ squeezes_S1_S_).sem
  | 4 => ((cc0_scratch1.slice (Rect.unit (s := S10) ![4] S1.size inb_S10_S1_4)).squeeze S_ squeezes_S1_S_).sem
  | 5 => ((cc0_scratch1.slice (Rect.unit (s := S10) ![5] S1.size inb_S10_S1_5)).squeeze S_ squeezes_S1_S_).sem
  | 6 => ((cc0_scratch1.slice (Rect.unit (s := S10) ![6] S1.size inb_S10_S1_6)).squeeze S_ squeezes_S1_S_).sem
  | 7 => ((cc0_scratch1.slice (Rect.unit (s := S10) ![7] S1.size inb_S10_S1_7)).squeeze S_ squeezes_S1_S_).sem
  | 8 => ((cc0_scratch1.slice (Rect.unit (s := S10) ![8] S1.size inb_S10_S1_8)).squeeze S_ squeezes_S1_S_).sem
  | 9 => ((cc0_scratch1.slice (Rect.unit (s := S10) ![9] S1.size inb_S10_S1_9)).squeeze S_ squeezes_S1_S_).sem

/-- The other core of the chip. -/
def sib (d : Dev nD) : Dev nD := ⟨(4 * (d.val / 4) + 2 * ((d.val / 2) % 2) + 1) - d.val % 2, by revert d; decide⟩

theorem peer_eq (d : Dev nD) (k : Fin 10) : peer d k = sib d := by revert d k; decide

theorem sib_sib (d : Dev nD) : sib (sib d) = d := by revert d; decide

theorem credit (d : Dev nD) (k : Fin 10) : (src d k).view.dmaCredit = (dst k).view.dmaCredit := by
  fin_cases k <;> rfl

/-- The network. -/
def net : Net nD sig (Fin 10) where
  shp := shp
  elt _ := .f32
  src := src
  dst _ := dst
  peer := peer
  peer_peer d k := by rw [peer_eq, peer_eq, sib_sib]
  snd := snd
  rcv := rcv
  sem_inj := by decide
  N k := (dst k).view.dmaCredit
  N_pos k := View.dmaCredit_pos _ (by revert k; decide)
  credit _ _ := rfl

/-- The arrays the copies read and write, in order. -/
def arrays : Fin 10 ⊕ Fin 10 → Ref sig .tc
  | .inl k => ⟨.hbm, ⟨k.val, by have := k.isLt; decide +revert⟩, rfl⟩
  | .inr k => ⟨.hbm, ⟨10 + k.val, by have := k.isLt; decide +revert⟩, rfl⟩

theorem arrays_injective : Function.Injective arrays := by decide

theorem pref_eq (d : Dev nD) (i : Fin 10 ⊕ Fin 10) : pref net d i = arrays i := by
  rcases i with k | k <;> fin_cases k <;> rfl

theorem apart (d : Dev nD) : Pieces.Apart (pref net d) (pset net d) := fun i j h e => by
  rw [pref_eq, pref_eq] at h
  exact absurd (arrays_injective h).symm e

theorem unscoped (d : Dev nD) (i : Fin 10 ⊕ Fin 10) : ¬ (pref net d i).isScoped := by
  rw [pref_eq]; revert i; decide

theorem ownSemFacts : Pipeline.OwnSemFacts (cfg0.spec) net.osem := by decide

/-- The printed operations. -/
def code (d : Dev nD) : Code (U := Gh nD τ sig) net (defs₀ (F := F)) Variants.none d :=
  Code.of net _ _ (fun k => by fin_cases k <;> rfl) (fun k => View.wordExact_bits rfl) (fun k => View.wordExact_bits rfl)
    (fun k => ⟨⟨rfl, Or.inl rfl⟩, trivial⟩) (fun k => credit d k)

/-- The order of the waits: of every copy first the send, then the landing. -/
def order : List (Fin 10 ⊕ Fin 10) := (List.finRange 10).flatMap fun k => [.inl k, .inr k]

local notation "𝕄" => MT nD τ sig Unit (Elt F) ℕ (Gh nD τ sig) ℕ

set_option maxRecDepth 8000 in
theorem body_eq (c : Dev nD) (t) (s) (R : sProp 𝕄) :
    (wp frame (wpE (defs₀ (F := F)) Variants.none (c : Thread nD τ) none) Set.univ ((List.finRange 10).foldr (code c).start (order.foldr (code c).await (.ret ⟨⟩))) (fun _ => R))
      ⊢ wp frame (wpE (defs₀ (F := F)) Variants.none (c : Thread nD τ) none) Set.univ (defs₀ (F := F) .tc 0 (t, s)) (fun _ => R) := by
  simp only [defs₀, Defs.onTc]
  simp only [cc0_grads_core_exchange_eq_skeleton]
  unfold cc0_grads_core_exchange_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  exact BI.Entails.refl _

/-- What memory holds, seen array by array. -/
abbrev start₀ (m : (ℓ : Loc nD τ sig) → Buf (Elt F) ℓ) (d : Dev nD) (b : Ref sig .tc) : Buf (Elt F) ((d : Thread nD τ).loc b) := m ((d : Thread nD τ).loc b)

set_option maxRecDepth 8000 in
/-- Every run of the program ends, with every array as the copies leave it and every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∃ V, After net (start₀ m) V ∧ ∀ (c : Dev nD) (b : Ref sig .tc), ¬ b.isScoped → r.2.mem ((c : Thread nD τ).loc b) = V c b) ∧ r.2.sem = fun _ => 0) :=
  run_all (fun p => (cfgs p).toPCfg) (fun _ p => (cfgs p).toPCfg_adm) cellOf_inj (0 : Fin 1) winFacts0.to₀ ownSemFacts (fun _ => N_0) (defs₀ (F := F)) Variants.none
    apart unscoped m ρ (fun V => V) main (fun _ _ => .ret ⟨⟩) (fun _ => rfl) (fun c => scopedRest0_eq c) code
    (List.finRange 10) (by decide) (by decide) order (by decide) (by decide)
    (fun c t R => body_eq c t _ R)
    (fun V _ c Q' => by
      rw [wp_ret]
      iintro ⟨HK, H⟩
      imodintro
      iapply HK; iexact H)
    (fun V hV s h hs => ⟨⟨V, hV, h⟩, sem_eq_zero_of_scoped (by decide) hs⟩)

/-- No copy lands in a gradient: it is unchanged. -/
theorem argument_kept {m V : (d : Dev nD) → (b : Ref sig .tc) → Buf (Elt F) ((d : Thread nD τ).loc b)} (h : After net m V) (c : Dev nD) (k : Fin 10) :
    V c (arrays (.inl k)) = m c (arrays (.inl k)) :=
  h.same c _ fun i e => by
    have h := pref_eq c (.inr i)
    exact Sum.inr_ne_inl (arrays_injective (h.symm.trans e))

end Cert.Exchange

end
-- ==== Proof.SwapHalves.lean ====
/-
The reference of the exchange, read at an index: what device `c` is to hold of a gradient.
-/
module

public import Idealize.ShloMosaic.Lib.Pipeline.Value
public import Idealize.ShloMosaic.Lib.ValueIdxRank6
public import Idealize.ShloMosaic.Lib.Layout
public import Mathlib.Tactic.Ring

@[expose] public section

noncomputable section

namespace Cert.Exchange

open Idealize.ShloMosaic Idealize.ShloMosaic.ValueIdx

variable {α : Type} {K h n : ℕ}

/-- Row `r` of half `b` of every shard. -/
def half (hK : K = 2 * h) (b : Fin 2) (i : (⟨3, ![4, h, n]⟩ : Shape).Idx) : (⟨3, ![4, K, n]⟩ : Shape).Idx :=
  ix3 (i 0) ⟨b.val * h + (i 1).val, by
    have h1 : (i 1).val < h := (i 1).isLt
    have h2 : b.val * h ≤ 1 * h := Nat.mul_le_mul_right _ (by omega)
    omega⟩ (i 2)

/-- The other core of the chip. -/
def sibling (c : Fin 8) : Fin 8 := ⟨(4 * (c.val / 4) + 2 * ((c.val / 2) % 2) + 1) - c.val % 2, by revert c; decide⟩

/-- The shapes of the reference's operations agree. -/
structure Sides (K h n : ℕ) : Prop where
  split : (⟨3, ![32, K, n]⟩ : Shape).ShapeCasts ⟨6, ![4, 2, 4, 2, h, n]⟩
  second : (⟨6, ![4, 2, 4, 2, h, n]⟩ : Shape).Slices ![0, 1, 0, 0, 0, 0] ⟨6, ![4, 1, 4, 1, h, n]⟩
  first : (⟨6, ![4, 2, 4, 2, h, n]⟩ : Shape).Slices ![0, 0, 0, 1, 0, 0] ⟨6, ![4, 1, 4, 1, h, n]⟩
  drop : (⟨6, ![4, 1, 4, 1, h, n]⟩ : Shape).ShapeCasts ⟨4, ![4, 4, h, n]⟩
  add : (⟨4, ![4, 4, h, n]⟩ : Shape).BroadcastsInDim ⟨5, ![4, 1, 4, h, n]⟩ ![0, 2, 3, 4]
  stack : Shape.Concatenates [⟨5, ![4, 1, 4, h, n]⟩, ⟨5, ![4, 1, 4, h, n]⟩] ⟨5, ![4, 2, 4, h, n]⟩ 1
  join : (⟨5, ![4, 2, 4, h, n]⟩ : Shape).ShapeCasts ⟨3, ![32, h, n]⟩
  tiles : Layout.Tiles ⟨3, ![4, h, n]⟩ ⟨3, ![32, h, n]⟩ 0 8
  tiles' : Layout.Tiles ⟨3, ![4, K, n]⟩ ⟨3, ![32, K, n]⟩ 0 8

/-- One of the two arrays that the reference stacks: it picks one core and one half of the rows. -/
def pick (H : Sides K h n) (off : Fin 6 → ℕ) (h1 : (⟨6, ![4, 2, 4, 2, h, n]⟩ : Shape).Slices off ⟨6, ![4, 1, 4, 1, h, n]⟩)
    (x : (⟨3, ![32, K, n]⟩ : Shape).Idx → α) : (⟨5, ![4, 1, 4, h, n]⟩ : Shape).Idx → α :=
  broadcastInDim ⟨5, ![4, 1, 4, h, n]⟩ ![0, 2, 3, 4] H.add (shapeCast ⟨4, ![4, 4, h, n]⟩
    (extractStridedSlice ⟨6, ![4, 1, 4, 1, h, n]⟩ off (shapeCast ⟨6, ![4, 2, 4, 2, h, n]⟩ x H.split) h1) H.drop)

/-- The reference's array. -/
def swap (H : Sides K h n) (x : (⟨3, ![32, K, n]⟩ : Shape).Idx → α) : (⟨3, ![32, h, n]⟩ : Shape).Idx → α :=
  shapeCast ⟨3, ![32, h, n]⟩ (concatenate ⟨5, ![4, 2, 4, h, n]⟩ 1
    [⟨⟨5, ![4, 1, 4, h, n]⟩, pick H ![0, 1, 0, 0, 0, 0] H.second x⟩, ⟨⟨5, ![4, 1, 4, h, n]⟩, pick H ![0, 0, 0, 1, 0, 0] H.first x⟩] H.stack) H.join

/-- The reference's array at device `c`'s block: the other core's gradient, at the half of the rows that is `c`'s. -/
theorem swapped (H : Sides K h n) (hK : K = 2 * h) (x : (⟨3, ![32, K, n]⟩ : Shape).Idx → α) (c : Fin 8) (b : Fin 2) (hb : b.val = c.val % 2)
    (i : (⟨3, ![4, h, n]⟩ : Shape).Idx) : swap H x (H.tiles.idx c i) = x (H.tiles'.idx (sibling c) (half hK b i)) := by
  have hc := c.isLt
  obtain ⟨s, r, l, rfl⟩ : ∃ s r l, i = ix3 s r l := ⟨i 0, i 1, i 2, eq_ix3 i⟩
  have e0 : (H.tiles.idx c (ix3 s r l) 0).val = c.val * 4 + s.val := rfl
  have e1 : (H.tiles.idx c (ix3 s r l) 1).val = r.val := rfl
  have e2 : (H.tiles.idx c (ix3 s r l) 2).val = l.val := rfl
  have f0 : (H.tiles'.idx (sibling c) (half hK b (ix3 s r l)) 0).val = (sibling c).val * 4 + s.val := rfl
  have f1 : (H.tiles'.idx (sibling c) (half hK b (ix3 s r l)) 1).val = b.val * h + r.val := rfl
  have f2 : (H.tiles'.idx (sibling c) (half hK b (ix3 s r l)) 2).val = l.val := rfl
  set j := H.tiles.idx c (ix3 s r l) with hj
  set k := H.tiles'.idx (sibling c) (half hK b (ix3 s r l)) with hk
  unfold swap pick
  rw [shapeCast_apply _ H.join j (ix5 ⟨c.val / 2, by omega⟩ b s r l) (by
    rw [Shape.rowMajor_val_five, Shape.rowMajor_val_three, e0, e1, e2]
    show ((((c.val / 2) * 2 + b.val) * 4 + s.val) * h + r.val) * n + l.val = ((c.val * 4 + s.val) * h + r.val) * n + l.val
    rw [hb, show c.val / 2 * 2 + c.val % 2 = c.val by omega])]
  have key (q : Fin 2) (q' : Fin 2) (hq : (sibling c).val = c.val / 2 * 2 + q.val) (hq' : q'.val = b.val) :
      shapeCast ⟨6, ![4, 2, 4, 2, h, n]⟩ x H.split (ix6 ⟨c.val / 2, by omega⟩ q s q' r l) = x k := by
    refine shapeCast_apply _ H.split _ k ?_
    rw [Shape.rowMajor_val_six, Shape.rowMajor_val_three, f0, f1, f2]
    show (((sibling c).val * 4 + s.val) * K + (b.val * h + r.val)) * n + l.val
      = (((((c.val / 2) * 2 + q.val) * 4 + s.val) * 2 + q'.val) * h + r.val) * n + l.val
    rw [hK, hq, hq']; ring
  have hs : (sibling c).val = c.val / 2 * 2 + (1 - c.val % 2) := by
    show (4 * (c.val / 4) + 2 * ((c.val / 2) % 2) + 1) - c.val % 2 = _
    omega
  have drop (X : (⟨6, ![4, 1, 4, 1, h, n]⟩ : Shape).Idx → α) :
      broadcastInDim ⟨5, ![4, 1, 4, h, n]⟩ ![0, 2, 3, 4] H.add (shapeCast ⟨4, ![4, 4, h, n]⟩ X H.drop) (ix5 ⟨c.val / 2, by omega⟩ 0 s r l)
        = X (ix6 ⟨c.val / 2, by omega⟩ 0 s 0 r l) := by
    rw [broadcastInDim_apply _ H.add _ _ (ix4 ⟨c.val / 2, by omega⟩ s r l) (by
      intro a
      have hr : r.val < h := r.isLt
      have hl : l.val < n := l.isLt
      fin_cases a
      · rfl
      · rfl
      · show r.val = if h = 1 then 0 else r.val
        split <;> omega
      · show l.val = if n = 1 then 0 else l.val
        split <;> omega)]
    refine shapeCast_apply _ H.drop _ _ ?_
    rw [Shape.rowMajor_val_six, Shape.rowMajor_val_four]
    show (((((c.val / 2) * 1 + 0) * 4 + s.val) * 1 + 0) * h + r.val) * n + l.val = (((c.val / 2) * 4 + s.val) * h + r.val) * n + l.val
    simp only [Nat.mul_one, Nat.add_zero]
  rcases (show b = 0 ∨ b = 1 by omega) with rfl | rfl
  · rw [concatenate_pair_apply_left 1 _ _ H.stack _ rfl (ix5 ⟨c.val / 2, by omega⟩ 0 s r l) (by intro a; fin_cases a <;> rfl), drop,
      extractStridedSlice_apply _ _ H.second _ (ix6 ⟨c.val / 2, by omega⟩ 1 s 0 r l) (by intro a; fin_cases a <;> simp)]
    refine key 1 0 ?_ rfl
    rw [hs, ← hb]; rfl
  · rw [concatenate_pair_apply_right 1 _ _ H.stack _ rfl rfl (ix5 ⟨c.val / 2, by omega⟩ 0 s r l) (by intro a ha; fin_cases a <;> first | rfl | exact absurd rfl ha) rfl, drop,
      extractStridedSlice_apply _ _ H.first _ (ix6 ⟨c.val / 2, by omega⟩ 0 s 1 r l) (by intro a; fin_cases a <;> simp)]
    refine key 0 1 ?_ rfl
    rw [hs, ← hb]; rfl

end Cert.Exchange

end
-- ==== Proof.ExchangeValue.lean ====
/-
What the exchange leaves in its results: of every gradient the half that the reference puts there.
-/
module

public import proofs.«01_k».proof.Proof.Exchange
public import proofs.«01_k».proof.Proof.SwapHalves

@[expose] public section

noncomputable section

namespace Cert.Exchange

open Cert.KernelIdeal Cert.KernelIdeal.Gen Cert.OneShot
open Idealize.ShloMosaic Idealize.ShloMosaic.ValueIdx
open Idealize.ShloMosaic.TcCoe
open Idealize.SL.Sem

variable {F : FTy → Type} [FloatOps F]

/-- Result `k` holds the other core's half. -/
theorem landed {m V : (d : Dev nD) → (b : Ref sig .tc) → Buf (Elt F) ((d : Thread nD τ).loc b)} (h : After net m V) (c : Dev nD) (k : Fin 10) :
    (dst k).view.read (Elt F) (V c (dst k).view.ref) = (src (sib c) k).view.read (Elt F) (m (sib c) (src (sib c) k).view.ref) := by
  have e : ∀ p, peer c k = p → (dst k).view.read (Elt F) (V c (dst k).view.ref) = (src p k).view.read (Elt F) (m p (src p k).view.ref) := by
    rintro _ rfl; exact h.lands c k
  exact e _ (peer_eq c k)

variable {K h n : ℕ}

/-- The half that begins at row `b * h`. -/
theorem half_eq (hK : K = 2 * h) (b : Fin 2) (off : Fin 3 → ℕ) (inb : ∀ a, off a + (⟨3, ![4, h, n]⟩ : Shape).size a ≤ (⟨3, ![4, K, n]⟩ : Shape).size a)
    (ho : off = ![0, b.val * h, 0]) (i : (⟨3, ![4, h, n]⟩ : Shape).Idx) :
    ((Rect.unit (s := ⟨3, ![4, K, n]⟩) off (⟨3, ![4, h, n]⟩ : Shape).size inb).emb i : (⟨3, ![4, K, n]⟩ : Shape).Idx) = half hK b i := by
  subst ho
  funext a
  refine Fin.ext ?_
  fin_cases a
  · show 0 + 1 * (i 0).val = (i 0).val
    omega
  · show b.val * h + 1 * (i 1).val = b.val * h + (i 1).val
    omega
  · show 0 + 1 * (i 2).val = (i 2).val
    omega

/-- Which half of the rows is device `c`'s. -/
def row (c : Dev nD) : Fin 2 := ⟨c.val % 2, by omega⟩

/-- The other core sends the half that is `c`'s. -/
theorem offset (c : Dev nD) : (![0, h - h * ((sib c).val % 2), 0] : Fin 3 → ℕ) = ![0, (row c).val * h, 0] := by
  have e : (sib c).val % 2 = 1 - (row c).val := by revert c; decide
  rw [e]
  rcases (show (row c).val = 0 ∨ (row c).val = 1 by have := (row c).isLt; omega) with h | h <;> rw [h] <;> simp

/-- A result is its block of the reference's array. -/
theorem result {α : Type} (H : Sides K h n) (hK : K = 2 * h) (x : (⟨3, ![32, K, n]⟩ : Shape).Idx → α) (c : Dev nD) (f : Dev nD → (⟨3, ![4, K, n]⟩ : Shape).Idx → α)
    (hf : ∀ d : Dev nD, f d = Layout.block ⟨3, ![4, K, n]⟩ ⟨3, ![32, K, n]⟩ 0 8 d x H.tiles') (w : (⟨3, ![4, h, n]⟩ : Shape).Idx → α) (off : Dev nD → Fin 3 → ℕ)
    (inb : ∀ d a, off d a + (⟨3, ![4, h, n]⟩ : Shape).size a ≤ (⟨3, ![4, K, n]⟩ : Shape).size a) (ho : ∀ d : Dev nD, off d = ![0, h - h * (d.val % 2), 0])
    (hw : w = fun i => f (sib c) ((Rect.unit (s := ⟨3, ![4, K, n]⟩) (off (sib c)) (⟨3, ![4, h, n]⟩ : Shape).size (inb _)).emb i)) :
    w = Layout.block ⟨3, ![4, h, n]⟩ ⟨3, ![32, h, n]⟩ 0 8 c (swap H x) H.tiles := by
  funext i
  rw [hw, hf]
  refine (congrArg _ (half_eq hK (row c) _ _ ((ho _).trans (offset c)) i)).trans ?_
  exact (swapped H hK x c (row c) rfl i).symm

theorem sides0 : Sides 4096 2048 1424 := by constructor <;> decide
theorem sides1 : Sides 1024 512 1536 := by constructor <;> decide
theorem sides2 : Sides 512 256 2048 := by constructor <;> decide
theorem sides3 : Sides 1024 512 4096 := by constructor <;> decide
theorem sides4 : Sides 4096 2048 4096 := by constructor <;> decide
theorem sides6 : Sides 4096 2048 3072 := by constructor <;> decide

/-- Every run of the program ends with each result at its block of the reference's array, and with the gradients as
they were. -/
theorem run_value (m : (ℓ : Loc nD τ sig) → Buf (Elt F) ℓ) (ρ : Dev nD → PrngReg)
    (x0 : (⟨3, ![32, 4096, 1424]⟩ : Shape).Idx → Elt F .f32) (x1 : (⟨3, ![32, 1024, 1536]⟩ : Shape).Idx → Elt F .f32)
    (x2 : (⟨3, ![32, 512, 2048]⟩ : Shape).Idx → Elt F .f32) (x3 : (⟨3, ![32, 1024, 4096]⟩ : Shape).Idx → Elt F .f32)
    (x4 : (⟨3, ![32, 4096, 4096]⟩ : Shape).Idx → Elt F .f32) (x5 : (⟨3, ![32, 1024, 4096]⟩ : Shape).Idx → Elt F .f32)
    (x6 : (⟨3, ![32, 4096, 3072]⟩ : Shape).Idx → Elt F .f32) (x7 : (⟨3, ![32, 1024, 4096]⟩ : Shape).Idx → Elt F .f32)
    (x8 : (⟨3, ![32, 4096, 3072]⟩ : Shape).Idx → Elt F .f32) (x9 : (⟨3, ![32, 1024, 4096]⟩ : Shape).Idx → Elt F .f32)
    (hin : ∀ c : Dev nD,
      m (c.tc.loc main_arg0) = Layout.block ⟨3, ![4, 4096, 1424]⟩ ⟨3, ![32, 4096, 1424]⟩ 0 8 c x0
      ∧ m (c.tc.loc main_arg1) = Layout.block ⟨3, ![4, 1024, 1536]⟩ ⟨3, ![32, 1024, 1536]⟩ 0 8 c x1
      ∧ m (c.tc.loc main_arg2) = Layout.block ⟨3, ![4, 512, 2048]⟩ ⟨3, ![32, 512, 2048]⟩ 0 8 c x2
      ∧ m (c.tc.loc main_arg3) = Layout.block ⟨3, ![4, 1024, 4096]⟩ ⟨3, ![32, 1024, 4096]⟩ 0 8 c x3
      ∧ m (c.tc.loc main_arg4) = Layout.block ⟨3, ![4, 4096, 4096]⟩ ⟨3, ![32, 4096, 4096]⟩ 0 8 c x4
      ∧ m (c.tc.loc main_arg5) = Layout.block ⟨3, ![4, 1024, 4096]⟩ ⟨3, ![32, 1024, 4096]⟩ 0 8 c x5
      ∧ m (c.tc.loc main_arg6) = Layout.block ⟨3, ![4, 4096, 3072]⟩ ⟨3, ![32, 4096, 3072]⟩ 0 8 c x6
      ∧ m (c.tc.loc main_arg7) = Layout.block ⟨3, ![4, 1024, 4096]⟩ ⟨3, ![32, 1024, 4096]⟩ 0 8 c x7
      ∧ m (c.tc.loc main_arg8) = Layout.block ⟨3, ![4, 4096, 3072]⟩ ⟨3, ![32, 4096, 3072]⟩ 0 8 c x8
      ∧ m (c.tc.loc main_arg9) = Layout.block ⟨3, ![4, 1024, 4096]⟩ ⟨3, ![32, 1024, 4096]⟩ 0 8 c x9) :
    θ_run (defs (F := F)) (onTc (τ := τ) (main (F := F))) ⟨m, fun _ => 0, ρ⟩ (fun r => ∀ c : Dev nD,
      r.2.mem (c.tc.loc main_v1_0) = Layout.block ⟨3, ![4, 2048, 1424]⟩ ⟨3, ![32, 2048, 1424]⟩ 0 8 c (swap sides0 x0)
      ∧ r.2.mem (c.tc.loc main_v1_1) = Layout.block ⟨3, ![4, 512, 1536]⟩ ⟨3, ![32, 512, 1536]⟩ 0 8 c (swap sides1 x1)
      ∧ r.2.mem (c.tc.loc main_v1_2) = Layout.block ⟨3, ![4, 256, 2048]⟩ ⟨3, ![32, 256, 2048]⟩ 0 8 c (swap sides2 x2)
      ∧ r.2.mem (c.tc.loc main_v1_3) = Layout.block ⟨3, ![4, 512, 4096]⟩ ⟨3, ![32, 512, 4096]⟩ 0 8 c (swap sides3 x3)
      ∧ r.2.mem (c.tc.loc main_v1_4) = Layout.block ⟨3, ![4, 2048, 4096]⟩ ⟨3, ![32, 2048, 4096]⟩ 0 8 c (swap sides4 x4)
      ∧ r.2.mem (c.tc.loc main_v1_5) = Layout.block ⟨3, ![4, 512, 4096]⟩ ⟨3, ![32, 512, 4096]⟩ 0 8 c (swap sides3 x5)
      ∧ r.2.mem (c.tc.loc main_v1_6) = Layout.block ⟨3, ![4, 2048, 3072]⟩ ⟨3, ![32, 2048, 3072]⟩ 0 8 c (swap sides6 x6)
      ∧ r.2.mem (c.tc.loc main_v1_7) = Layout.block ⟨3, ![4, 512, 4096]⟩ ⟨3, ![32, 512, 4096]⟩ 0 8 c (swap sides3 x7)
      ∧ r.2.mem (c.tc.loc main_v1_8) = Layout.block ⟨3, ![4, 2048, 3072]⟩ ⟨3, ![32, 2048, 3072]⟩ 0 8 c (swap sides6 x8)
      ∧ r.2.mem (c.tc.loc main_v1_9) = Layout.block ⟨3, ![4, 512, 4096]⟩ ⟨3, ![32, 512, 4096]⟩ 0 8 c (swap sides3 x9)
      ∧ ∀ k, r.2.mem (c.tc.loc (arrays (.inl k))) = m (c.tc.loc (arrays (.inl k)))) := by
  refine (θ_run defs _ _).mono (fun r ⟨⟨V, hV, hr⟩, _⟩ c => ?_) (run_main m ρ)
  have un : ∀ i, ¬ (arrays i).isScoped := by decide
  have get (k : Fin 10) := hr c (arrays (.inr k)) (un (.inr k))
  refine ⟨(get 0).trans ?_, (get 1).trans ?_, (get 2).trans ?_, (get 3).trans ?_, (get 4).trans ?_, (get 5).trans ?_, (get 6).trans ?_, (get 7).trans ?_, (get 8).trans ?_, (get 9).trans ?_,
    fun k => (hr c _ (un (.inl k))).trans (argument_kept hV c k)⟩
  · exact result sides0 rfl x0 c (fun d => m (d.tc.loc main_arg0)) (fun d => (hin d).1) _ k0_off1 k0_off1_inb k0_off1_eq (landed hV c 0)
  · exact result sides1 rfl x1 c (fun d => m (d.tc.loc main_arg1)) (fun d => (hin d).2.1) _ k0_off2 k0_off2_inb k0_off2_eq (landed hV c 1)
  · exact result sides2 rfl x2 c (fun d => m (d.tc.loc main_arg2)) (fun d => (hin d).2.2.1) _ k0_off3 k0_off3_inb k0_off3_eq (landed hV c 2)
  · exact result sides3 rfl x3 c (fun d => m (d.tc.loc main_arg3)) (fun d => (hin d).2.2.2.1) _ k0_off4 k0_off4_inb k0_off4_eq (landed hV c 3)
  · exact result sides4 rfl x4 c (fun d => m (d.tc.loc main_arg4)) (fun d => (hin d).2.2.2.2.1) _ k0_off5 k0_off5_inb k0_off5_eq (landed hV c 4)
  · exact result sides3 rfl x5 c (fun d => m (d.tc.loc main_arg5)) (fun d => (hin d).2.2.2.2.2.1) _ k0_off4 k0_off4_inb k0_off4_eq (landed hV c 5)
  · exact result sides6 rfl x6 c (fun d => m (d.tc.loc main_arg6)) (fun d => (hin d).2.2.2.2.2.2.1) _ k0_off6 k0_off6_inb k0_off6_eq (landed hV c 6)
  · exact result sides3 rfl x7 c (fun d => m (d.tc.loc main_arg7)) (fun d => (hin d).2.2.2.2.2.2.2.1) _ k0_off4 k0_off4_inb k0_off4_eq (landed hV c 7)
  · exact result sides6 rfl x8 c (fun d => m (d.tc.loc main_arg8)) (fun d => (hin d).2.2.2.2.2.2.2.2.1) _ k0_off6 k0_off6_inb k0_off6_eq (landed hV c 8)
  · exact result sides3 rfl x9 c (fun d => m (d.tc.loc main_arg9)) (fun d => (hin d).2.2.2.2.2.2.2.2.2) _ k0_off4 k0_off4_inb k0_off4_eq (landed hV c 9)

end Cert.Exchange

end
-- ==== Proof.HostTail.lean ====
/-
Host operations after a kernel.

A device that holds all its arrays runs a list of host operations and holds them at the contents the list makes of
those it began with.
-/
module

public import Idealize.ShloMosaic.Lib.Pipeline.Launch
public import Idealize.ShloMosaic.Lib.Pipeline.Frame
public import Idealize.ShloMosaic.Lib.StableHlo.RunRead

@[expose] public section

noncomputable section

namespace Cert.HostTail

open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {nD : ℕ} {τ : Topo} {sig : RefSig} {Val : EltTy → Type} {Ix Name U Lvl : Type} [DecidableEq Ix] [DecidableEq Name] [URA U]

local notation "𝕄" => MT nD τ sig Ix Val Name U Lvl

open Classical in
/-- Contents of all of a device's buffers: `f` of those that its main core names, `g` elsewhere. -/
def spread (f : (b : Ref sig .tc) → b.ty.Contents Val) (g : Valuation τ sig Val) : Valuation τ sig Val := fun b =>
  if h : ∃ r : Ref sig .tc, Proc.devRef (τ := τ) .tc r = b then h.choose_spec ▸ (show (Proc.devRef (τ := τ) .tc h.choose).ty.Contents Val from f h.choose) else g b

theorem spread_ref (f : (b : Ref sig .tc) → b.ty.Contents Val) (g : Valuation τ sig Val) (r : Ref sig .tc) :
    spread f g (Proc.devRef .tc r) = f r := by
  have h : ∃ r' : Ref sig .tc, Proc.devRef (τ := τ) .tc r' = Proc.devRef .tc r := ⟨r, rfl⟩
  unfold spread
  rw [dif_pos h]
  have key : ∀ (r' : Ref sig .tc) (e : Proc.devRef (τ := τ) .tc r' = Proc.devRef .tc r),
      (e ▸ (show (Proc.devRef (τ := τ) .tc r').ty.Contents Val from f r') : (Proc.devRef (τ := τ) .tc r).ty.Contents Val) = f r := by
    intro r' e
    obtain rfl := Proc.devRef_injective _ e
    rfl
  exact key _ h.choose_spec

variable {Λ : Labels} (defs : Defs nD τ sig Val Λ) (𝒱 : Variants) [Preorder Lvl]

set_option backward.isDefEq.respectTransparency.types false in
/-- The rule. -/
theorem wp_tail (c : Dev nD) (ops : List (HloOp τ sig Val)) (hsub : ops.Forall fun op => op.bufs ⊆ StableHlo.tcRefs τ sig)
    (hfresh : ops.Forall fun op => op.fresh = ∅) (f : (b : Ref sig .tc) → Buf Val ((c : Thread nD τ).loc b)) (g : Valuation τ sig Val)
    (R : sProp 𝕄) (Q : PUnit → sProp 𝕄) :
    iprop((iprop(boundary (c : Thread nD τ) ∗ unscopedBufs c (fun b => StableHlo.after ops (spread f g) b) ∗ R) -∗ Q ⟨⟩)
        ∗ boundary (c : Thread nD τ) ∗ unscopedBufs c f ∗ R)
      ⊢ wp frame (wpE defs 𝒱 (c : Thread nD τ) none) Set.univ (StableHlo.seq ops) Q := by
  have hf : (unscopedBufs c f : sProp 𝕄) = StableHlo.held (c.tc : Thread nD τ) (Pipeline.ucRefs τ sig) (spread f g) := by
    rw [← Pipeline.unscopedBufs_held (Ix := Ix) (Name := Name) (U := U) (Lvl := Lvl) c (spread f g)]
    exact congrArg (unscopedBufs c) (funext fun b => (spread_ref f g b).symm)
  have h := StableHlo.wp_seq (defs := defs) 𝒱 none Set.univ c (Pipeline.ucRefs τ sig) (fun _ => .ret ⟨⟩) (K := Q) ops
    (fun op h => Pipeline.sub_ucRefs op ((List.forall_iff_forall_mem.mp hsub) op h))
    (fun op h => (List.forall_iff_forall_mem.mp hfresh) op h) (spread f g)
  have e : (StableHlo.seq ops >>= fun _ => .ret ⟨⟩ : Prog (TpuEff nD τ sig Val Λ .tc) PUnit) = StableHlo.seq ops := bind_pure _
  rw [e] at h
  rw [hf, show unscopedBufs c (fun b => StableHlo.after ops (spread f g) b)
      = StableHlo.held (c.tc : Thread nD τ) (Pipeline.ucRefs τ sig) (StableHlo.after ops (spread f g))
    from Pipeline.unscopedBufs_held (Ix := Ix) (Name := Name) (U := U) (Lvl := Lvl) c (StableHlo.after ops (spread f g))]
  iintro ⟨HK, Hb, Hh, HR⟩
  iapply h $$ [Hb Hh]
  · isplitl [Hb] <;> iassumption
  iintro ⟨Hb, Hh⟩
  rw [wp_ret]
  imodintro
  iapply HK
  isplitl [Hb]; · iexact Hb
  isplitl [Hh] <;> iassumption

end Cert.HostTail

end
-- ==== Proof.OneShotHost.lean ====
/-
A program that is one kernel of copies and then a line of host operations.
-/
module

public import proofs.«01_k».proof.Proof.OneShotWhole
public import proofs.«01_k».proof.Proof.HostTail
public import Idealize.ShloMosaic.Lib.Quiescent

@[expose] public section

set_option Elab.async false

noncomputable section

namespace Cert.OneShot

open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.Pipeline (PCfg WinFacts₀ OwnSemFacts pinD)

variable {nD : ℕ} {τ : Topo} {sig : RefSig} {C : Type} [Fintype C] [DecidableEq C] {n : Net nD sig C} {Val : EltTy → Type}

local notation "𝕄" => MT nD τ sig Unit Val ℕ (Gh nD τ sig) ℕ

variable {Λ₀ : Idealize.SL.Sem.Labels} {P : Type} [Fintype P] [DecidableEq P]
variable (pcs : P → PCfg sig Λ₀ Val) (a : Dev nD → (p : P) → (pcs p).Adm) [∀ p, IsEmpty (Fin (pcs p).W)] [∀ p, IsEmpty (Fin (pcs p).pre.K)]
variable (phinj : Function.Injective (Pipeline.PerCore.cellOf (nD := nD) (pinD pcs a))) (p : P)
  (hw : WinFacts₀ (pcs p).spec) (ho : OwnSemFacts (pcs p).spec n.osem) (hN : ∀ c, (pinD pcs a c p).N = 1)
  (defs₀ : Defs nD τ sig Val Λ₀) (𝒱₀ : Variants)

local notation "𝔻" => Pipeline.defs pcs defs₀

variable [∀ e, Nonempty (Val e)]

/-- What memory holds, seen array by array. -/
abbrev seen (m : (ℓ : Loc nD τ sig) → Buf Val ℓ) (d : Dev nD) (b : Ref sig .tc) : Buf Val ((d : Thread nD τ).loc b) := m ((d : Thread nD τ).loc b)

/-- What the host operations make of what the kernel leaves. -/
abbrev outcome (ops : Dev nD → List (HloOp τ sig Val)) (m : (ℓ : Loc nD τ sig) → Buf Val ℓ)
    (V : (d : Dev nD) → (b : Ref sig .tc) → Buf Val ((d : Thread nD τ).loc b)) (c : Dev nD) : Valuation τ sig Val :=
  StableHlo.after (ops c) (HostTail.spread (V c) fun b => m (c, b))

include phinj hw ho hN in
/-- The run. -/
theorem run_host (hA : ∀ d, Pieces.Apart (pref n d) (pset n d)) (hr : ∀ d i, ¬ (pref n d i).isScoped)
    (m : (ℓ : Loc nD τ sig) → Buf Val ℓ) (g : Dev nD → PrngReg) (ops : Dev nD → List (HloOp τ sig Val))
    (hsub : ∀ c, (ops c).Forall fun op => op.bufs ⊆ StableHlo.tcRefs τ sig) (hfresh : ∀ c, (ops c).Forall fun op => op.fresh = ∅)
    (main : Dev nD → Prog (TpuEff nD τ sig Val (Pipeline.Sig Λ₀ P fun p => (pcs p).Adm) .tc) PUnit)
    (hmain : ∀ c, main c = Pipeline.chain [Prog.lift (.customCall (Pipeline.entry p) ()), StableHlo.seq (ops c)])
    (hrest : ∀ c, (Pipeline.scopedRest (pinD pcs a c p).spec c : sProp 𝕄) = BI.emp)
    (hs : ∀ sm : SemLoc sig, sm.isScoped .tc = true)
    (cd : (d : Dev nD) → Code (U := Gh nD τ sig) n defs₀ 𝒱₀ d)
    (l : List C) (hl : Finset.univ = l.toFinset) (hl' : l.Nodup) (lx : List (C ⊕ C)) (hlx : Finset.univ = lx.toFinset) (hlx' : lx.Nodup)
    (hcode : ∀ (c : Dev nD) t (R : sProp 𝕄), wp frame (wpE defs₀ 𝒱₀ (c : Thread nD τ) none) Set.univ (l.foldr (cd c).start (lx.foldr (cd c).await (.ret ⟨⟩))) (fun _ => R)
      ⊢ wp frame (wpE defs₀ 𝒱₀ (c : Thread nD τ) none) Set.univ (defs₀ .tc (pinD pcs a c p).body ((pinD pcs a c p).bodyArgs t ((pinD pcs a c p).slots t))) fun _ => R) :
    θ_run 𝔻 (onTc main) ⟨m, fun _ => 0, g⟩ (fun r =>
      (∃ V, After n (seen m) V ∧ ∀ (c : Dev nD) (b : Ref sig .tc), ¬ b.isScoped → r.2.mem ((c : Thread nD τ).loc b) = outcome ops m V c b) ∧ r.2.sem = fun _ => 0) :=
  run_all pcs a phinj p hw ho hN defs₀ 𝒱₀ hA hr m g (fun V c b => outcome ops m V c b) main (fun c _ => Pipeline.chain [StableHlo.seq (ops c)])
    (fun c => (hmain c).trans rfl) hrest cd l hl hl' lx hlx hlx' hcode
    (fun V _ c Q' => by
      rw [show Pipeline.chain [StableHlo.seq (ops c)] = StableHlo.seq (ops c) from bind_pure _]
      exact HostTail.wp_tail _ _ c (ops c) (hsub c) (hfresh c) (V c) (fun b => m (c, b)) (owing' c 0) Q')
    (fun V hV s h h' => ⟨⟨V, hV, h⟩, sem_eq_zero_of_scoped hs h'⟩)

end Cert.OneShot

end
-- ==== Proof.Slabs.lean ====
/-
Regions of one array told apart by a coordinate.

A region that takes a single index of the array's first axis is a slab. Slabs at different indices are disjoint, and a
copy of a slab onto a slab carries the elements at one index to the elements at the other.
-/
module

public import proofs.«01_k».proof.Proof.Pieces
public import Idealize.ShloMosaic.Lib.ValueIdx
public import Idealize.ShloMosaic.Lib.ValueIdxRank6

@[expose] public section

noncomputable section

namespace Cert.Slabs

open Idealize.ShloMosaic Idealize.ShloMosaic.ValueIdx

variable {sig : RefSig}

/-- Regions are apart when a function of the element tells the regions of one array from one another. -/
theorem apart_of_key {I K : Type} (r : I → Ref sig .tc) (S : (i : I) → Finset (r i).ty.Idx) (key : (b : Ref sig .tc) → b.ty.Idx → K) (at_ : I → K)
    (hk : ∀ i, ∀ x ∈ S i, key (r i) x = at_ i) (hne : ∀ i j, r j = r i → at_ j = at_ i → i = j) : Pieces.Apart r S := by
  intro i j h e
  rw [Finset.disjoint_left]
  intro x hx hx'
  have moved : ∀ (b : Ref sig .tc) (h : r j = b) (x : b.ty.Idx), x ∈ (h ▸ S j : Finset b.ty.Idx) → key b x = at_ j := by
    rintro _ rfl x hx; exact hk j x hx
  exact e (hne i j h ((moved _ h x hx').symm.trans (hk i x hx)))

/-- The first coordinate of an element of an array. -/
def lead (b : Ref sig .tc) (x : b.ty.Idx) : ℕ := if p : 0 < b.ty.shape.rank then (x ⟨0, p⟩).val else 0

/-- Every element of a slab has the slab's first coordinate. -/
theorem lead_slab (b : Ref sig .tc) (p : 0 < b.ty.shape.rank) (off size : Fin b.ty.shape.rank → ℕ) (inb : ∀ a, off a + size a ≤ b.ty.shape.size a)
    (hs : size ⟨0, p⟩ = 1) {s' : Shape} (hn : s'.numel = (Rect.unit off size inb).shape.numel) (x : b.ty.Idx)
    (hx : x ∈ (((View.whole b).slice (Rect.unit off size inb)).reshape s' hn).set) : lead b x = off ⟨0, p⟩ := by
  rw [View.set_reshape, View.set_slice_whole, LoadRect.mem_set] at hx
  obtain ⟨j, hj, e⟩ := hx ⟨0, p⟩
  have hj : j < size ⟨0, p⟩ := hj
  have e : (x ⟨0, p⟩ : ℕ) = off ⟨0, p⟩ + 1 * j := e
  unfold lead
  rw [dif_pos p]
  omega

/-- A slab lies within its array. -/
theorem inb {k h n r : ℕ} {off : Fin 3 → ℕ} (e : off = ![r, 0, 0]) (hr : r < k) (a : Fin 3) :
    off a + (⟨3, ![1, h, n]⟩ : Shape).size a ≤ (⟨3, ![k, h, n]⟩ : Shape).size a := by
  subst e
  fin_cases a
  · exact hr
  · exact (Nat.zero_add h).le
  · exact (Nat.zero_add n).le

/-- A slab is whole words of the array at any packing. -/
theorem words {k h n r : ℕ} {off : Fin 3 → ℕ} (e : off = ![r, 0, 0]) (i : ∀ a, off a + (⟨3, ![1, h, n]⟩ : Shape).size a ≤ (⟨3, ![k, h, n]⟩ : Shape).size a)
    (p : ℕ) : (Rect.unit (s := ⟨3, ![k, h, n]⟩) off (⟨3, ![1, h, n]⟩ : Shape).size i).WholeWords p := by
  subst e
  exact .inr ⟨(by decide : 2 ≤ 3), rfl, rfl, rfl⟩

/-- A slab read as another was: the elements at one index are those at the other. -/
theorem moved {α : Type} {k k' h n r r' : ℕ} {off off' : Fin 3 → ℕ} (e : off = ![r, 0, 0]) (e' : off' = ![r', 0, 0])
    (i : ∀ a, off a + (⟨3, ![1, h, n]⟩ : Shape).size a ≤ (⟨3, ![k, h, n]⟩ : Shape).size a)
    (i' : ∀ a, off' a + (⟨3, ![1, h, n]⟩ : Shape).size a ≤ (⟨3, ![k', h, n]⟩ : Shape).size a)
    (s : Shape) (hn : s.numel = (⟨3, ![1, h, n]⟩ : Shape).numel) (f : (⟨3, ![k, h, n]⟩ : Shape).Idx → α) (g : (⟨3, ![k', h, n]⟩ : Shape).Idx → α)
    (hfg : (fun y : s.Idx => f ((Rect.unit (s := ⟨3, ![k, h, n]⟩) off (⟨3, ![1, h, n]⟩ : Shape).size i).emb (Shape.reshapeEquiv hn y)))
      = fun y : s.Idx => g ((Rect.unit (s := ⟨3, ![k', h, n]⟩) off' (⟨3, ![1, h, n]⟩ : Shape).size i').emb (Shape.reshapeEquiv hn y)))
    (a : Fin k) (a' : Fin k') (ha : a.val = r) (ha' : a'.val = r') (b : Fin h) (c : Fin n) : f (ix3 a b c) = g (ix3 a' b c) := by
  subst e e'
  have := congrFun hfg ((Shape.reshapeEquiv hn).symm (ix3 (0 : Fin 1) b c))
  simp only [Equiv.apply_symm_apply] at this
  have hx : (Rect.unit (s := ⟨3, ![k, h, n]⟩) ![r, 0, 0] (⟨3, ![1, h, n]⟩ : Shape).size i).emb (ix3 (0 : Fin 1) b c) = ix3 a b c := by
    funext t; refine Fin.ext ?_
    fin_cases t
    · show r + 1 * 0 = a.val; omega
    · show 0 + 1 * b.val = b.val; omega
    · show 0 + 1 * c.val = c.val; omega
  have hx' : (Rect.unit (s := ⟨3, ![k', h, n]⟩) ![r', 0, 0] (⟨3, ![1, h, n]⟩ : Shape).size i').emb (ix3 (0 : Fin 1) b c) = ix3 a' b c := by
    funext t; refine Fin.ext ?_
    fin_cases t
    · show r' + 1 * 0 = a'.val; omega
    · show 0 + 1 * b.val = b.val; omega
    · show 0 + 1 * c.val = c.val; omega
  rw [← hx, ← hx']
  exact this

/-! ## Halves of slabs -/

/-- The first coordinate of an element of an array and the half of the rows that its second coordinate is in. -/
def place (b : Ref sig .tc) (x : b.ty.Idx) : ℕ × ℕ :=
  if p : 2 < b.ty.shape.rank then
    ((x ⟨0, Nat.lt_trans (Nat.succ_pos 1) p⟩).val, 2 * (x ⟨1, Nat.lt_of_succ_lt p⟩).val / b.ty.shape.size ⟨1, Nat.lt_of_succ_lt p⟩)
  else (0, 0)

/-- Every element of half a slab has the slab's first coordinate and is in that half. -/
theorem place_half (b : Ref sig .tc) (p : 2 < b.ty.shape.rank) (off size : Fin b.ty.shape.rank → ℕ) (inb : ∀ a, off a + size a ≤ b.ty.shape.size a)
    (h c : ℕ) (hh : 0 < h) (hs : size ⟨0, Nat.lt_trans (Nat.succ_pos 1) p⟩ = 1) (hs1 : size ⟨1, Nat.lt_of_succ_lt p⟩ = h)
    (hb : b.ty.shape.size ⟨1, Nat.lt_of_succ_lt p⟩ = 2 * h) (ho : off ⟨1, Nat.lt_of_succ_lt p⟩ = h * c)
    {s' : Shape} (hn : s'.numel = (Rect.unit off size inb).shape.numel) (x : b.ty.Idx)
    (hx : x ∈ (((View.whole b).slice (Rect.unit off size inb)).reshape s' hn).set) : place b x = (off ⟨0, Nat.lt_trans (Nat.succ_pos 1) p⟩, c) := by
  rw [View.set_reshape, View.set_slice_whole, LoadRect.mem_set] at hx
  obtain ⟨j, hj, e⟩ := hx ⟨0, Nat.lt_trans (Nat.succ_pos 1) p⟩
  obtain ⟨j', hj', e'⟩ := hx ⟨1, Nat.lt_of_succ_lt p⟩
  have hj : j < size ⟨0, _⟩ := hj
  have e : (x ⟨0, _⟩ : ℕ) = off ⟨0, _⟩ + 1 * j := e
  have hj' : j' < size ⟨1, _⟩ := hj'
  have e' : (x ⟨1, _⟩ : ℕ) = off ⟨1, _⟩ + 1 * j' := e'
  unfold place
  rw [dif_pos p]
  refine Prod.ext (by show (x ⟨0, _⟩ : ℕ) = _; omega) ?_
  show 2 * (x ⟨1, _⟩ : ℕ) / _ = c
  rw [e', hb, ho, Nat.mul_div_mul_left _ _ (by decide : 0 < 2), Nat.one_mul, Nat.mul_add_div hh, Nat.div_eq_of_lt (hs1 ▸ hj'), Nat.add_zero]

/-- Half a slab lies within its array. -/
theorem inb_half {k h H n r c g : ℕ} {off : Fin 3 → ℕ} (e : off = ![r, g * c, 0]) (hr : r < k) (hc : c < 2) (hg : h = g) (hH : H = 2 * g) (a : Fin 3) :
    off a + (⟨3, ![1, h, n]⟩ : Shape).size a ≤ (⟨3, ![k, H, n]⟩ : Shape).size a := by
  subst e hg hH
  fin_cases a
  · exact hr
  · show h * c + h ≤ 2 * h
    have : c = 0 ∨ c = 1 := by omega
    rcases this with rfl | rfl <;> omega
  · exact (Nat.zero_add n).le

/-- Half the rows of an array lie within it. -/
theorem inb_rows {h H n c g : ℕ} {off : Fin 2 → ℕ} (e : off = ![g * c, 0]) (hc : c < 2) (hg : h = g) (hH : H = 2 * g) (a : Fin 2) :
    off a + (⟨2, ![h, n]⟩ : Shape).size a ≤ (⟨2, ![H, n]⟩ : Shape).size a := by
  subst e hg hH
  fin_cases a
  · show h * c + h ≤ 2 * h
    have : c = 0 ∨ c = 1 := by omega
    rcases this with rfl | rfl <;> omega
  · exact (Nat.zero_add n).le

/-- Half a slab is whole words where the words divide the rows of the half. -/
theorem words_half {k h H n r c g : ℕ} {off : Fin 3 → ℕ} (e : off = ![r, g * c, 0]) (p : ℕ) (hg : h = g) (hp : p ∣ h)
    (i : ∀ a, off a + (⟨3, ![1, h, n]⟩ : Shape).size a ≤ (⟨3, ![k, H, n]⟩ : Shape).size a) :
    (Rect.unit (s := ⟨3, ![k, H, n]⟩) off (⟨3, ![1, h, n]⟩ : Shape).size i).WholeWords p := by
  subst e hg
  have two : 2 ≤ 3 := by decide
  exact .inl (.inr ⟨two, rfl, .inl ⟨(show p ∣ h * c from hp.mul_right c), (show p ∣ h from hp)⟩⟩)

/-- Half the rows are whole words where the words divide them. -/
theorem words_rows {h H n c g : ℕ} {off : Fin 2 → ℕ} (e : off = ![g * c, 0]) (p : ℕ) (hg : h = g) (hp : p ∣ h)
    (i : ∀ a, off a + (⟨2, ![h, n]⟩ : Shape).size a ≤ (⟨2, ![H, n]⟩ : Shape).size a) :
    (Rect.unit (s := ⟨2, ![H, n]⟩) off (⟨2, ![h, n]⟩ : Shape).size i).WholeWords p := by
  subst e hg
  have two : 2 ≤ 2 := by decide
  exact .inl (.inr ⟨two, rfl, .inl ⟨(show p ∣ h * c from hp.mul_right c), (show p ∣ h from hp)⟩⟩)

/-- Regions with the same offsets are the same. -/
theorem region_congr {s s₂ : Shape} {e : EltTy} (M : Memref sig .tc .hbm s e) {off off' : Fin s.rank → ℕ} (h : off = off') (size : Fin s.rank → ℕ)
    (i : ∀ a, off a + size a ≤ s.size a) (i' : ∀ a, off' a + size a ≤ s.size a) (q : (Rect.unit off size i).shape.Squeezes s₂) :
    ((M.slice (Rect.unit off size i) fun _ => rfl).squeeze s₂ q) = ((M.slice (Rect.unit off' size i') fun _ => rfl).squeeze s₂ q) := by
  subst h; rfl

end Cert.Slabs

end
-- ==== Proof.Scatter.lean ====
/-
The scattering of the ten large gradients over the four chips.

Every core holds, of each gradient's half that its chip summed over its cores, the four chips' shards. It sends each of
the three other chips that chip's shard, into the array that receives it at the index of the sender's chip, and then
copies its own shard into the same array at its own chip's index. This module states the network of the thirty copies
and runs the program.
-/
module

public import proofs.«01_k».proof.Proof.OneShotHost
public import proofs.«01_k».proof.Proof.Slabs
public import proofs.«01_k».proof.Proof.Gen.ScatterIdeal
public import proofs.«01_k».proof.Proof.Gen.ScatterIdeal.Skeleton
public import proofs.«01_k».proof.Proof.Gen.ScatterIdeal.Launch

@[expose] public section

noncomputable section

namespace Cert.Scattering

open Cert.ScatterIdeal Cert.ScatterIdeal.Gen Cert.OneShot
open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

/-- A copy: its gradient and which of the three other chips it goes to. -/
abbrev Copy := Fin 10 × Fin 3

/-- The slabs that are sent. -/
abbrev shp : Copy → Shape
  | (0, _) => S2048x1424
  | (1, _) => S512x1536
  | (2, _) => S256x2048
  | (3, _) => S512x4096
  | (4, _) => S2048x4096
  | (5, _) => S512x4096
  | (6, _) => S2048x3072
  | (7, _) => S512x4096
  | (8, _) => S2048x3072
  | (9, _) => S512x4096

/-- Where the slab of a copy starts in its array, as the program computes it. -/
abbrev offS (d : Dev nD) : Copy → Fin 3 → ℕ
  | (0, 0) => k0_off2 d
  | (0, 1) => k0_off3 d
  | (0, 2) => k0_off4 d
  | (1, 0) => k0_off6 d
  | (1, 1) => k0_off7 d
  | (1, 2) => k0_off8 d
  | (2, 0) => k0_off10 d
  | (2, 1) => k0_off11 d
  | (2, 2) => k0_off12 d
  | (3, 0) => k0_off14 d
  | (3, 1) => k0_off15 d
  | (3, 2) => k0_off16 d
  | (4, 0) => k0_off18 d
  | (4, 1) => k0_off19 d
  | (4, 2) => k0_off20 d
  | (5, 0) => k0_off14 d
  | (5, 1) => k0_off15 d
  | (5, 2) => k0_off16 d
  | (6, 0) => k0_off22 d
  | (6, 1) => k0_off23 d
  | (6, 2) => k0_off24 d
  | (7, 0) => k0_off14 d
  | (7, 1) => k0_off15 d
  | (7, 2) => k0_off16 d
  | (8, 0) => k0_off22 d
  | (8, 1) => k0_off23 d
  | (8, 2) => k0_off24 d
  | (9, 0) => k0_off14 d
  | (9, 1) => k0_off15 d
  | (9, 2) => k0_off16 d

/-- Where it lands in the array that receives it. -/
abbrev offD (d : Dev nD) : Fin 10 → Fin 3 → ℕ
  | 0 => k0_off1 d
  | 1 => k0_off5 d
  | 2 => k0_off9 d
  | 3 => k0_off13 d
  | 4 => k0_off17 d
  | 5 => k0_off13 d
  | 6 => k0_off21 d
  | 7 => k0_off13 d
  | 8 => k0_off21 d
  | 9 => k0_off13 d

/-- The device of the same core on another chip: the numbers of the chips differ in the first bit, the second or both. -/
def other (j : Fin 3) (d : Dev nD) : Dev nD := ⟨d.val ^^^ (![4, 2, 6] : Fin 3 → ℕ) j, by revert d j; decide⟩

theorem other_other : ∀ (j : Fin 3) (d : Dev nD), other j (other j d) = d := by decide

theorem chip_lt (d : Dev nD) : d.val / 2 < 4 := by revert d; decide

/-- A slab is sent from the index of the chip it goes to. -/
theorem offS_eq : ∀ (d : Dev nD) (k : Copy), offS d k = ![(other k.2 d).val / 2, 0, 0] := by decide +kernel

/-- It lands at the index of the sender's chip. -/
theorem offD_eq : ∀ (d : Dev nD) (w : Fin 10), offD d w = ![d.val / 2, 0, 0] := by decide +kernel

theorem inbS (d : Dev nD) (k : Copy) {h n : ℕ} (a : Fin 3) : offS d k a + (⟨3, ![1, h, n]⟩ : Shape).size a ≤ (⟨3, ![4, h, n]⟩ : Shape).size a :=
  Slabs.inb (offS_eq d k) (chip_lt _) a

theorem inbD (d : Dev nD) (w : Fin 10) {h n : ℕ} (a : Fin 3) : offD d w a + (⟨3, ![1, h, n]⟩ : Shape).size a ≤ (⟨3, ![4, h, n]⟩ : Shape).size a :=
  Slabs.inb (offD_eq d w) (chip_lt _) a

/-- What a device sends. -/
abbrev src (d : Dev nD) : (k : Copy) → Memref sig .tc .hbm (shp k) .bf16
  | (0, j) => ((Memref.whole main_arg0).slice (Rect.unit (s := S4x2048x1424) (offS d (0, j)) S1x2048x1424.size (inbS d _)) (fun _ => rfl)).squeeze S2048x1424 squeezes_S1x2048x1424_S2048x1424
  | (1, j) => ((Memref.whole main_arg1).slice (Rect.unit (s := S4x512x1536) (offS d (1, j)) S1x512x1536.size (inbS d _)) (fun _ => rfl)).squeeze S512x1536 squeezes_S1x512x1536_S512x1536
  | (2, j) => ((Memref.whole main_arg2).slice (Rect.unit (s := S4x256x2048) (offS d (2, j)) S1x256x2048.size (inbS d _)) (fun _ => rfl)).squeeze S256x2048 squeezes_S1x256x2048_S256x2048
  | (3, j) => ((Memref.whole main_arg3).slice (Rect.unit (s := S4x512x4096) (offS d (3, j)) S1x512x4096.size (inbS d _)) (fun _ => rfl)).squeeze S512x4096 squeezes_S1x512x4096_S512x4096
  | (4, j) => ((Memref.whole main_arg4).slice (Rect.unit (s := S4x2048x4096) (offS d (4, j)) S1x2048x4096.size (inbS d _)) (fun _ => rfl)).squeeze S2048x4096 squeezes_S1x2048x4096_S2048x4096
  | (5, j) => ((Memref.whole main_arg5).slice (Rect.unit (s := S4x512x4096) (offS d (5, j)) S1x512x4096.size (inbS d _)) (fun _ => rfl)).squeeze S512x4096 squeezes_S1x512x4096_S512x4096
  | (6, j) => ((Memref.whole main_arg6).slice (Rect.unit (s := S4x2048x3072) (offS d (6, j)) S1x2048x3072.size (inbS d _)) (fun _ => rfl)).squeeze S2048x3072 squeezes_S1x2048x3072_S2048x3072
  | (7, j) => ((Memref.whole main_arg7).slice (Rect.unit (s := S4x512x4096) (offS d (7, j)) S1x512x4096.size (inbS d _)) (fun _ => rfl)).squeeze S512x4096 squeezes_S1x512x4096_S512x4096
  | (8, j) => ((Memref.whole main_arg8).slice (Rect.unit (s := S4x2048x3072) (offS d (8, j)) S1x2048x3072.size (inbS d _)) (fun _ => rfl)).squeeze S2048x3072 squeezes_S1x2048x3072_S2048x3072
  | (9, j) => ((Memref.whole main_arg9).slice (Rect.unit (s := S4x512x4096) (offS d (9, j)) S1x512x4096.size (inbS d _)) (fun _ => rfl)).squeeze S512x4096 squeezes_S1x512x4096_S512x4096

/-- Where it lands, on the other chip. -/
abbrev dst (d : Dev nD) : (k : Copy) → Memref sig .tc .hbm (shp k) .bf16
  | (0, _) => ((Memref.whole main_v1_0).slice (Rect.unit (s := S4x2048x1424) (offD d 0) S1x2048x1424.size (inbD d _)) (fun _ => rfl)).squeeze S2048x1424 squeezes_S1x2048x1424_S2048x1424
  | (1, _) => ((Memref.whole main_v1_1).slice (Rect.unit (s := S4x512x1536) (offD d 1) S1x512x1536.size (inbD d _)) (fun _ => rfl)).squeeze S512x1536 squeezes_S1x512x1536_S512x1536
  | (2, _) => ((Memref.whole main_v1_2).slice (Rect.unit (s := S4x256x2048) (offD d 2) S1x256x2048.size (inbD d _)) (fun _ => rfl)).squeeze S256x2048 squeezes_S1x256x2048_S256x2048
  | (3, _) => ((Memref.whole main_v1_3).slice (Rect.unit (s := S4x512x4096) (offD d 3) S1x512x4096.size (inbD d _)) (fun _ => rfl)).squeeze S512x4096 squeezes_S1x512x4096_S512x4096
  | (4, _) => ((Memref.whole main_v1_4).slice (Rect.unit (s := S4x2048x4096) (offD d 4) S1x2048x4096.size (inbD d _)) (fun _ => rfl)).squeeze S2048x4096 squeezes_S1x2048x4096_S2048x4096
  | (5, _) => ((Memref.whole main_v1_5).slice (Rect.unit (s := S4x512x4096) (offD d 5) S1x512x4096.size (inbD d _)) (fun _ => rfl)).squeeze S512x4096 squeezes_S1x512x4096_S512x4096
  | (6, _) => ((Memref.whole main_v1_6).slice (Rect.unit (s := S4x2048x3072) (offD d 6) S1x2048x3072.size (inbD d _)) (fun _ => rfl)).squeeze S2048x3072 squeezes_S1x2048x3072_S2048x3072
  | (7, _) => ((Memref.whole main_v1_7).slice (Rect.unit (s := S4x512x4096) (offD d 7) S1x512x4096.size (inbD d _)) (fun _ => rfl)).squeeze S512x4096 squeezes_S1x512x4096_S512x4096
  | (8, _) => ((Memref.whole main_v1_8).slice (Rect.unit (s := S4x2048x3072) (offD d 8) S1x2048x3072.size (inbD d _)) (fun _ => rfl)).squeeze S2048x3072 squeezes_S1x2048x3072_S2048x3072
  | (9, _) => ((Memref.whole main_v1_9).slice (Rect.unit (s := S4x512x4096) (offD d 9) S1x512x4096.size (inbD d _)) (fun _ => rfl)).squeeze S512x4096 squeezes_S1x512x4096_S512x4096

/-- The slab that device `d` waits for. -/
abbrev slot (d : Dev nD) : (k : Copy) → Memref sig .tc .hbm (shp k) .bf16
  | (0, j) => ((Memref.whole main_v1_0).slice (Rect.unit (s := S4x2048x1424) (offS d (0, j)) S1x2048x1424.size (inbS d _)) (fun _ => rfl)).squeeze S2048x1424 squeezes_S1x2048x1424_S2048x1424
  | (1, j) => ((Memref.whole main_v1_1).slice (Rect.unit (s := S4x512x1536) (offS d (1, j)) S1x512x1536.size (inbS d _)) (fun _ => rfl)).squeeze S512x1536 squeezes_S1x512x1536_S512x1536
  | (2, j) => ((Memref.whole main_v1_2).slice (Rect.unit (s := S4x256x2048) (offS d (2, j)) S1x256x2048.size (inbS d _)) (fun _ => rfl)).squeeze S256x2048 squeezes_S1x256x2048_S256x2048
  | (3, j) => ((Memref.whole main_v1_3).slice (Rect.unit (s := S4x512x4096) (offS d (3, j)) S1x512x4096.size (inbS d _)) (fun _ => rfl)).squeeze S512x4096 squeezes_S1x512x4096_S512x4096
  | (4, j) => ((Memref.whole main_v1_4).slice (Rect.unit (s := S4x2048x4096) (offS d (4, j)) S1x2048x4096.size (inbS d _)) (fun _ => rfl)).squeeze S2048x4096 squeezes_S1x2048x4096_S2048x4096
  | (5, j) => ((Memref.whole main_v1_5).slice (Rect.unit (s := S4x512x4096) (offS d (5, j)) S1x512x4096.size (inbS d _)) (fun _ => rfl)).squeeze S512x4096 squeezes_S1x512x4096_S512x4096
  | (6, j) => ((Memref.whole main_v1_6).slice (Rect.unit (s := S4x2048x3072) (offS d (6, j)) S1x2048x3072.size (inbS d _)) (fun _ => rfl)).squeeze S2048x3072 squeezes_S1x2048x3072_S2048x3072
  | (7, j) => ((Memref.whole main_v1_7).slice (Rect.unit (s := S4x512x4096) (offS d (7, j)) S1x512x4096.size (inbS d _)) (fun _ => rfl)).squeeze S512x4096 squeezes_S1x512x4096_S512x4096
  | (8, j) => ((Memref.whole main_v1_8).slice (Rect.unit (s := S4x2048x3072) (offS d (8, j)) S1x2048x3072.size (inbS d _)) (fun _ => rfl)).squeeze S2048x3072 squeezes_S1x2048x3072_S2048x3072
  | (9, j) => ((Memref.whole main_v1_9).slice (Rect.unit (s := S4x512x4096) (offS d (9, j)) S1x512x4096.size (inbS d _)) (fun _ => rfl)).squeeze S512x4096 squeezes_S1x512x4096_S512x4096

/-- The device a copy goes to, as the copy computes it. -/
abbrev peer (d : Dev nD) : Copy → Dev nD
  | (0, 0) => ⟨k0_dev1 d, k0_dev1_lt d⟩
  | (0, 1) => ⟨k0_dev2 d, k0_dev2_lt d⟩
  | (0, 2) => ⟨k0_dev3 d, k0_dev3_lt d⟩
  | (1, 0) => ⟨k0_dev4 d, k0_dev4_lt d⟩
  | (1, 1) => ⟨k0_dev5 d, k0_dev5_lt d⟩
  | (1, 2) => ⟨k0_dev6 d, k0_dev6_lt d⟩
  | (2, 0) => ⟨k0_dev7 d, k0_dev7_lt d⟩
  | (2, 1) => ⟨k0_dev8 d, k0_dev8_lt d⟩
  | (2, 2) => ⟨k0_dev9 d, k0_dev9_lt d⟩
  | (3, 0) => ⟨k0_dev10 d, k0_dev10_lt d⟩
  | (3, 1) => ⟨k0_dev11 d, k0_dev11_lt d⟩
  | (3, 2) => ⟨k0_dev12 d, k0_dev12_lt d⟩
  | (4, 0) => ⟨k0_dev13 d, k0_dev13_lt d⟩
  | (4, 1) => ⟨k0_dev14 d, k0_dev14_lt d⟩
  | (4, 2) => ⟨k0_dev15 d, k0_dev15_lt d⟩
  | (5, 0) => ⟨k0_dev16 d, k0_dev16_lt d⟩
  | (5, 1) => ⟨k0_dev17 d, k0_dev17_lt d⟩
  | (5, 2) => ⟨k0_dev18 d, k0_dev18_lt d⟩
  | (6, 0) => ⟨k0_dev19 d, k0_dev19_lt d⟩
  | (6, 1) => ⟨k0_dev20 d, k0_dev20_lt d⟩
  | (6, 2) => ⟨k0_dev21 d, k0_dev21_lt d⟩
  | (7, 0) => ⟨k0_dev22 d, k0_dev22_lt d⟩
  | (7, 1) => ⟨k0_dev23 d, k0_dev23_lt d⟩
  | (7, 2) => ⟨k0_dev24 d, k0_dev24_lt d⟩
  | (8, 0) => ⟨k0_dev25 d, k0_dev25_lt d⟩
  | (8, 1) => ⟨k0_dev26 d, k0_dev26_lt d⟩
  | (8, 2) => ⟨k0_dev27 d, k0_dev27_lt d⟩
  | (9, 0) => ⟨k0_dev28 d, k0_dev28_lt d⟩
  | (9, 1) => ⟨k0_dev29 d, k0_dev29_lt d⟩
  | (9, 2) => ⟨k0_dev30 d, k0_dev30_lt d⟩

theorem inb_sem (k : Copy) (a : Fin 1) : (![3 * k.1.val + k.2.val] : Fin 1 → ℕ) a + S1.size a ≤ S30.size a := by
  fin_cases a
  show 3 * k.1.val + k.2.val + 1 ≤ 30
  omega

/-- The send semaphores. -/
abbrev snd (k : Copy) : DmaSem sig := ((cc0_scratch0.slice (Rect.unit (s := S30) ![3 * k.1.val + k.2.val] S1.size (inb_sem k))).squeeze S_ squeezes_S1_S_).sem

/-- The receive semaphores. -/
abbrev rcv (k : Copy) : DmaSem sig := ((cc0_scratch1.slice (Rect.unit (s := S30) ![3 * k.1.val + k.2.val] S1.size (inb_sem k))).squeeze S_ squeezes_S1_S_).sem

theorem peer_eq : ∀ (d : Dev nD) (k : Copy), peer d k = other k.2 d := by decide +kernel

/-- What a copy counts: the size of its slab. -/
abbrev size : Copy → ℕ
  | (0, _) => (dst (0 : Dev nD) (0, 0)).view.dmaCredit
  | (1, _) => (dst (0 : Dev nD) (1, 0)).view.dmaCredit
  | (2, _) => (dst (0 : Dev nD) (2, 0)).view.dmaCredit
  | (3, _) => (dst (0 : Dev nD) (3, 0)).view.dmaCredit
  | (4, _) => (dst (0 : Dev nD) (4, 0)).view.dmaCredit
  | (5, _) => (dst (0 : Dev nD) (5, 0)).view.dmaCredit
  | (6, _) => (dst (0 : Dev nD) (6, 0)).view.dmaCredit
  | (7, _) => (dst (0 : Dev nD) (7, 0)).view.dmaCredit
  | (8, _) => (dst (0 : Dev nD) (8, 0)).view.dmaCredit
  | (9, _) => (dst (0 : Dev nD) (9, 0)).view.dmaCredit

theorem size_pos (k : Copy) : 0 < size k := by
  obtain ⟨w, j⟩ := k
  fin_cases w <;> exact View.dmaCredit_pos _ (by decide)

theorem size_dst (d : Dev nD) (k : Copy) : (dst d k).view.dmaCredit = size k := by
  obtain ⟨w, j⟩ := k
  fin_cases w <;> rfl

theorem size_src (d : Dev nD) (k : Copy) : (src d k).view.dmaCredit = size k := by
  obtain ⟨w, j⟩ := k
  fin_cases w <;> rfl

theorem size_slot (d : Dev nD) (k : Copy) : (slot d k).view.dmaCredit = size k := by
  obtain ⟨w, j⟩ := k
  fin_cases w <;> rfl

/-- The network. -/
def net : Net nD sig Copy where
  shp := shp
  elt _ := .bf16
  src := src
  dst := dst
  peer := peer
  peer_peer d k := by rw [peer_eq, peer_eq, other_other]
  snd := snd
  rcv := rcv
  sem_inj := by decide
  N := size
  N_pos := size_pos
  credit := size_dst

/-- The arrays the copies read and write, in order. -/
def arrays : Fin 10 ⊕ Fin 10 → Ref sig .tc
  | .inl k => ⟨.hbm, ⟨k.val, by have := k.isLt; decide +revert⟩, rfl⟩
  | .inr k => ⟨.hbm, ⟨10 + k.val, by have := k.isLt; decide +revert⟩, rfl⟩

theorem arrays_injective : Function.Injective arrays := by decide

/-- The array of a region. -/
abbrev array : Copy ⊕ Copy → Ref sig .tc := fun i => arrays (i.map Prod.fst Prod.fst)

theorem pref_eq (d : Dev nD) (i : Copy ⊕ Copy) : pref net d i = array i := by
  rcases i with ⟨w, j⟩ | ⟨w, j⟩ <;> fin_cases w <;> rfl

/-- The chip at whose index a region is: the chip it is sent to, or that of the device it comes from. -/
abbrev chip (d : Dev nD) : Copy ⊕ Copy → ℕ := fun i => (other (i.elim Prod.snd Prod.snd) d).val / 2

theorem chip_of_src (d : Dev nD) (k : Copy) (x : (src d k).view.ref.ty.Idx) (hx : x ∈ (src d k).view.set) : Slabs.lead _ x = (other k.2 d).val / 2 := by
  refine Eq.trans ?_ (congrFun (offS_eq d k) 0)
  obtain ⟨w, j⟩ := k
  fin_cases w <;> exact Slabs.lead_slab _ (Nat.succ_pos 2) _ _ _ rfl _ x hx

theorem chip_of_dst (d : Dev nD) (k : Copy) (x : (dst d k).view.ref.ty.Idx) (hx : x ∈ (dst d k).view.set) : Slabs.lead _ x = d.val / 2 := by
  refine Eq.trans ?_ (congrFun (offD_eq d k.1) 0)
  obtain ⟨w, j⟩ := k
  fin_cases w <;> exact Slabs.lead_slab _ (Nat.succ_pos 2) _ _ _ rfl _ x hx

theorem other_inj : ∀ (d : Dev nD) (j j' : Fin 3), (other j d).val / 2 = (other j' d).val / 2 → j = j' := by decide

theorem apart (d : Dev nD) : Pieces.Apart (pref net d) (pset net d) := by
  refine Slabs.apart_of_key _ _ Slabs.lead (chip d) (fun i x hx => ?_) fun i i' h e => ?_
  · rcases i with k | k
    · exact chip_of_src d k x hx
    · refine (chip_of_dst (peer d k) k x hx).trans ?_
      rw [peer_eq]
      rfl
  · rw [pref_eq, pref_eq] at h
    have h := arrays_injective h
    have e := other_inj d _ _ e
    rcases i with ⟨w, j⟩ | ⟨w, j⟩ <;> rcases i' with ⟨w', j'⟩ | ⟨w', j'⟩
    · exact congrArg Sum.inl (Prod.ext (Sum.inl_injective h).symm e.symm)
    · exact absurd h Sum.inr_ne_inl
    · exact absurd h Sum.inl_ne_inr
    · exact congrArg Sum.inr (Prod.ext (Sum.inr_injective h).symm e.symm)

theorem unscoped (d : Dev nD) (i : Copy ⊕ Copy) : ¬ (pref net d i).isScoped := by
  rw [pref_eq]
  have : ∀ i, ¬ (arrays i).isScoped := by decide
  exact this _

theorem ownSemFacts : Pipeline.OwnSemFacts (cfg0.spec) net.osem := by decide

theorem exact_src (d : Dev nD) (k : Copy) : (src d k).view.WordExact := by
  obtain ⟨w, j⟩ := k
  fin_cases w <;> exact ((Memref.isWhole_whole _).wordExact_slice rfl _ (Slabs.words (offS_eq d _) _ _)).reshape _ _

theorem exact_dst (d : Dev nD) (k : Copy) : (dst d k).view.WordExact := by
  obtain ⟨w, j⟩ := k
  fin_cases w <;> exact ((Memref.isWhole_whole _).wordExact_slice rfl _ (Slabs.words (offD_eq d _) _ _)).reshape _ _

theorem exact_slot (d : Dev nD) (k : Copy) : (slot d k).view.WordExact := by
  obtain ⟨w, j⟩ := k
  fin_cases w <;> exact ((Memref.isWhole_whole _).wordExact_slice rfl _ (Slabs.words (offS_eq d _) _ _)).reshape _ _

/-- The printed operations. -/
def code (d : Dev nD) : Code (U := Gh nD τ sig) net (defs₀ (F := F)) Variants.none d :=
  Code.naming net _ _ (fun k => by obtain ⟨w, j⟩ := k; fin_cases w <;> rfl) (exact_src d) (exact_dst d)
    (fun k => ⟨⟨rfl, Or.inl rfl⟩, trivial⟩) (size_src d) (slot d) (slot d) (exact_slot d) (exact_slot d) (size_slot d)

/-- The copies, in order. -/
def copies : List Copy :=
  [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2)]

/-- The order of the waits: the landings, then the sends. -/
def order : List (Copy ⊕ Copy) := copies.map .inr ++ copies.map .inl

local notation "𝕄" => MT nD τ sig Unit (Elt F) ℕ (Gh nD τ sig) ℕ

set_option maxRecDepth 20000 in
set_option maxHeartbeats 4000000 in
theorem body_eq (c : Dev nD) (t) (s) (R : sProp 𝕄) :
    (wp frame (wpE (defs₀ (F := F)) Variants.none (c : Thread nD τ) none) Set.univ (copies.foldr (code c).start (order.foldr (code c).await (.ret ⟨⟩))) (fun _ => R))
      ⊢ wp frame (wpE (defs₀ (F := F)) Variants.none (c : Thread nD τ) none) Set.univ (defs₀ (F := F) .tc 0 (t, s)) (fun _ => R) := by
  simp only [defs₀, Defs.onTc]
  simp only [cc0_grads_chip_scatter_eq_skeleton]
  unfold cc0_grads_chip_scatter_skel
  simp only [k0_part35_eq_skeleton]
  unfold k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [Prog.lift, Prog.bind_op, Prog.bind_ret, Prog.pure_eq_ret, wp_deviceId]
  exact BI.Entails.refl _

theorem fresh (c : Dev nD) : (hostOps1 (F := F) c).Forall fun op => op.fresh = ∅ := by
  unfold hostOps1
  simp only [List.forall_cons]
  repeat' constructor

set_option maxRecDepth 20000 in
/-- Every run of the program ends, with every array as the copies and the host operations leave it and every semaphore
    at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∃ V, After net (seen m) V ∧ ∀ (c : Dev nD) (b : Ref sig .tc), ¬ b.isScoped → r.2.mem ((c : Thread nD τ).loc b) = outcome hostOps1 m V c b) ∧ r.2.sem = fun _ => 0) :=
  run_host (fun p => (cfgs p).toPCfg) (fun _ p => (cfgs p).toPCfg_adm) cellOf_inj (0 : Fin 1) winFacts0.to₀ ownSemFacts (fun _ => N_0) (defs₀ (F := F)) Variants.none
    apart unscoped m ρ hostOps1 hostOps1_sub fresh main main_chain (fun c => scopedRest0_eq c) (by decide) code
    copies (by decide) (by decide) order (by decide) (by decide)
    (fun c t R => body_eq c t _ R)

/-- No copy lands in an argument: it is unchanged. -/
theorem argument_kept {m V : (d : Dev nD) → (b : Ref sig .tc) → Buf (Elt F) ((d : Thread nD τ).loc b)} (h : After net m V) (c : Dev nD) (k : Fin 10) :
    V c (arrays (.inl k)) = m c (arrays (.inl k)) :=
  h.same c _ fun i e => by
    have h := pref_eq c (.inr i)
    exact Sum.inr_ne_inl (arrays_injective (h.symm.trans e))

end Cert.Scattering

end
-- ==== Proof.ScatterValue.lean ====
/-
What the scattering leaves in its results: on every chip, its own shard of every gradient as each of the four chips sent
it.
-/
module

public import proofs.«01_k».proof.Proof.Scatter
public import Idealize.ShloMosaic.Lib.StableHlo.RunRead
public import Idealize.ShloMosaic.Lib.WordCmp
public import Idealize.ShloMosaic.Lib.Layout
public import Idealize.ShloMosaic.Lib.Pipeline.Value
public import Mathlib.Tactic.Ring
public import Mathlib.Tactic.SplitIfs

@[expose] public section

noncomputable section

namespace Cert.Scattering

open Cert.ScatterIdeal Cert.ScatterIdeal.Gen Cert.OneShot
open Idealize.ShloMosaic Idealize.ShloMosaic.ValueIdx
open Idealize.ShloMosaic.TcCoe
open Idealize.SL.Sem

/-! ## Four slabs from four chips -/

section Slabs

variable {α : Type} {h n : ℕ}

/-- The sides of the arrays of one gradient: a device's four slabs and all devices' slabs, and the reference's splitting
    of the latter by receiving chip, core and sending chip. -/
structure Sides (h n : ℕ) : Prop where
  tiles : Layout.Tiles ⟨3, ![4, h, n]⟩ ⟨3, ![32, h, n]⟩ 0 8
  fits : ∀ c : Fin 8, (⟨3, ![4, h, n]⟩ : Shape).Slices ![c.val / 2, 0, 0] ⟨3, ![1, h, n]⟩
  split : (⟨3, ![32, h, n]⟩ : Shape).ShapeCasts ⟨5, ![4, 2, 4, h, n]⟩
  turn : (⟨5, ![4, 2, 4, h, n]⟩ : Shape).Transposes [2, 1, 0, 3, 4] ⟨5, ![4, 2, 4, h, n]⟩
  join : (⟨5, ![4, 2, 4, h, n]⟩ : Shape).ShapeCasts ⟨3, ![32, h, n]⟩

/-- The reference's array: sending and receiving chip exchanged. -/
abbrev turned (H : Sides h n) (x : (⟨3, ![32, h, n]⟩ : Shape).Idx → α) : (⟨3, ![32, h, n]⟩ : Shape).Idx → α :=
  shapeCast _ (transpose ⟨5, ![4, 2, 4, h, n]⟩ [2, 1, 0, 3, 4] (shapeCast _ x H.split) H.turn) H.join

theorem turned_apply (H : Sides h n) (x : (⟨3, ![32, h, n]⟩ : Shape).Idx → α) (a e : Fin 4) (b : Fin 2) (i i' : Fin 32) (hi : i.val = (a.val * 2 + b.val) * 4 + e.val)
    (hi' : i'.val = (e.val * 2 + b.val) * 4 + a.val) (r : Fin h) (l : Fin n) : turned H x (ix3 i r l) = x (ix3 i' r l) := by
  refine (shapeCast_apply _ H.join _ (ix5 a b e r l) ?_).trans ((transpose_apply _ _ H.turn _ (ix5 e b a r l) ?_).trans (shapeCast_apply _ H.split _ _ ?_))
  · rw [Shape.rowMajor_val_five, Shape.rowMajor_val_three]
    show (((a.val * 2 + b.val) * 4 + e.val) * h + r.val) * n + l.val = (i.val * h + r.val) * n + l.val
    rw [hi]
  · intro t; fin_cases t <;> rfl
  · rw [Shape.rowMajor_val_five, Shape.rowMajor_val_three]
    show (i'.val * h + r.val) * n + l.val = (((e.val * 2 + b.val) * 4 + a.val) * h + r.val) * n + l.val
    rw [hi']

theorem every_chip : ∀ (c : Dev nD) (e : Fin 4), e.val ≠ c.val / 2 → ∃ j : Fin 3, (other j c).val = e.val * 2 + c.val % 2 := by decide

/-- A device's slab at an index. -/
theorem slab_of (H : Sides h n) (x : (⟨3, ![32, h, n]⟩ : Shape).Idx → α) (d : Fin 8) (a : Fin 4) (i : Fin 32) (hi : i.val = d.val * 4 + a.val) (r : Fin h) (l : Fin n) :
    Layout.block ⟨3, ![4, h, n]⟩ ⟨3, ![32, h, n]⟩ 0 8 d x H.tiles (ix3 a r l) = x (ix3 i r l) := by
  show x _ = x _
  refine congrArg x (funext fun t => Fin.ext ?_)
  refine (Layout.Tiles.idx_val H.tiles d _ t).trans ?_
  fin_cases t
  · exact hi.symm
  · rfl
  · rfl

/-- The slabs of the three other chips landed, and the own one written at the own chip's index: the block of the
    reference's array. -/
theorem scattered (H : Sides h n) (x : (⟨3, ![32, h, n]⟩ : Shape).Idx → α) (c : Dev nD) (f : Dev nD → (⟨3, ![4, h, n]⟩ : Shape).Idx → α)
    (hf : ∀ d : Dev nD, f d = Layout.block ⟨3, ![4, h, n]⟩ ⟨3, ![32, h, n]⟩ 0 8 d x H.tiles) (J : (⟨3, ![4, h, n]⟩ : Shape).Idx → α)
    (hJ : ∀ (j : Fin 3) (r : Fin h) (l : Fin n), J (ix3 ⟨(other j c).val / 2, chip_lt _⟩ r l) = f (other j c) (ix3 ⟨c.val / 2, chip_lt _⟩ r l)) :
    updateSlice J (extractStridedSlice ⟨3, ![1, h, n]⟩ ![c.val / 2, 0, 0] (f c) (H.fits c)) ![c.val / 2, 0, 0] (H.fits c)
      = Layout.block ⟨3, ![4, h, n]⟩ ⟨3, ![32, h, n]⟩ 0 8 c (turned H x) H.tiles := by
  funext i
  obtain ⟨e, r, l, rfl⟩ : ∃ (e : Fin 4) (r : Fin h) (l : Fin n), i = ix3 e r l := ⟨i 0, i 1, i 2, eq_ix3 i⟩
  have hc : c.val < 8 := c.isLt
  have he : e.val < 4 := e.isLt
  refine Eq.trans ?_ (slab_of H (turned H x) c e ⟨c.val * 4 + e.val, by omega⟩ rfl r l).symm
  rw [turned_apply H x ⟨c.val / 2, chip_lt c⟩ e ⟨c.val % 2, by omega⟩ _ ⟨(e.val * 2 + c.val % 2) * 4 + c.val / 2, by omega⟩
    (by show c.val * 4 + e.val = (c.val / 2 * 2 + c.val % 2) * 4 + e.val; omega) rfl]
  unfold updateSlice
  split_ifs with hin
  · have h0 := hin 0
    have h0 : c.val / 2 ≤ e.val ∧ e.val < c.val / 2 + 1 := h0
    refine (extractStridedSlice_apply _ _ (H.fits c) _ (ix3 ⟨c.val / 2, chip_lt c⟩ r l) ?_).trans ?_
    · intro t
      fin_cases t
      · show c.val / 2 = c.val / 2 + (e.val - c.val / 2)
        omega
      · show r.val = 0 + (r.val - 0)
        omega
      · show l.val = 0 + (l.val - 0)
        omega
    · rw [hf]
      refine slab_of H x c _ _ ?_ r l
      show (e.val * 2 + c.val % 2) * 4 + c.val / 2 = c.val * 4 + c.val / 2
      omega
  · have hne : e.val ≠ c.val / 2 := fun he => hin fun t => by
      fin_cases t
      · exact ⟨he.ge, by show e.val < c.val / 2 + 1; omega⟩
      · exact ⟨Nat.zero_le _, by show r.val < 0 + h; have := r.isLt; omega⟩
      · exact ⟨Nat.zero_le _, by show l.val < 0 + n; have := l.isLt; omega⟩
    obtain ⟨j, hj⟩ := every_chip c e hne
    have hq : e = ⟨(other j c).val / 2, chip_lt _⟩ := Fin.ext (by show e.val = (other j c).val / 2; omega)
    have step := hJ j r l
    rw [← hq, hf] at step
    refine step.trans (slab_of H x _ _ _ ?_ r l)
    show (e.val * 2 + c.val % 2) * 4 + c.val / 2 = (other j c).val * 4 + c.val / 2
    rw [hj]

end Slabs

variable {F : FTy → Type} [FloatOps F]

/-- The other chips' slabs, where they landed. -/
theorem landed {m V : (d : Dev nD) → (b : Ref sig .tc) → Buf (Elt F) ((d : Thread nD τ).loc b)} (h : After net m V) (c : Dev nD) (k : Copy) :
    (dst (other k.2 c) k).view.read (Elt F) (V c (dst (other k.2 c) k).view.ref) = (src (other k.2 c) k).view.read (Elt F) (m (other k.2 c) (src (other k.2 c) k).view.ref) := by
  have e : ∀ p, peer c k = p → (dst p k).view.read (Elt F) (V c (dst p k).view.ref) = (src p k).view.read (Elt F) (m p (src p k).view.ref) := by
    rintro _ rfl; exact h.lands c k
  exact e _ (peer_eq c k)

/-- A slab of another chip is sent from the index of the chip it lands on. -/
theorem offS_other (c : Dev nD) (k : Copy) : offS (other k.2 c) k = ![c.val / 2, 0, 0] := by
  rw [offS_eq, other_other]

theorem sides_2048_1424 : Sides 2048 1424 := by constructor <;> decide
theorem sides_512_1536 : Sides 512 1536 := by constructor <;> decide
theorem sides_256_2048 : Sides 256 2048 := by constructor <;> decide
theorem sides_512_4096 : Sides 512 4096 := by constructor <;> decide
theorem sides_2048_4096 : Sides 2048 4096 := by constructor <;> decide
theorem sides_2048_3072 : Sides 2048 3072 := by constructor <;> decide

/-! ## What the host operations make of the arrays -/

/-- The word that the host operations compute for the number of a device's chip. -/
def word (c : Dev nD) : BitVec 32 :=
  let r := IntOp.addi (IntOp.muli 2#32 (IntOp.remui .host (IntOp.divui .host (Dev.word c) 4#32) 2#32)) (IntOp.remui .host (IntOp.divui .host (Dev.word c) 2#32) 2#32)
  Scalar.select (IntOp.cmpi .slt r 0#32) (IntOp.addi r 4#32) r

theorem word_eq : ∀ c : Dev nD, (word c).toInt = ((c.val / 2 : ℕ) : Int) := by decide +kernel

/-- The index at which a device reads and writes its own slab. -/
theorem start (c : Dev nD) (s : Fin 3 → Int) (h0 : s 0 = ((c.val / 2 : ℕ) : Int)) (h1 : s 1 = 0) (h2 : s 2 = 0) (a : Fin 3) :
    s a = (((![c.val / 2, 0, 0] : Fin 3 → ℕ) a : ℕ) : Int) := by
  fin_cases a
  · exact h0
  · exact h1
  · exact h2

section Host

variable (V : Valuation τ sig (Elt F)) (c : Dev nD)

theorem host0 : StableHlo.after (hostOps1 (F := F) c) V main_v19
    = updateSlice (s := ⟨3, ![4, 2048, 1424]⟩) (u := ⟨3, ![1, 2048, 1424]⟩) (V main_v1_0)
      (extractStridedSlice ⟨3, ![1, 2048, 1424]⟩ ![c.val / 2, 0, 0] (V main_arg0) (sides_2048_1424.fits c)) ![c.val / 2, 0, 0] (sides_2048_1424.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_2048_1424.fits c) (start c _ (word_eq c) rfl rfl)) ?_
  exact congrArg (fun u => updateSlice (s := ⟨3, ![4, 2048, 1424]⟩) (u := ⟨3, ![1, 2048, 1424]⟩) (V main_v1_0) u _ _)
    (WordCmp.dynamicSlice_eq_extract _ _ _ _ _ (sides_2048_1424.fits c) (start c _ (word_eq c) rfl rfl))

theorem host1 : StableHlo.after (hostOps1 (F := F) c) V main_v27
    = updateSlice (s := ⟨3, ![4, 512, 1536]⟩) (u := ⟨3, ![1, 512, 1536]⟩) (V main_v1_1)
      (extractStridedSlice ⟨3, ![1, 512, 1536]⟩ ![c.val / 2, 0, 0] (V main_arg1) (sides_512_1536.fits c)) ![c.val / 2, 0, 0] (sides_512_1536.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_512_1536.fits c) (start c _ (word_eq c) rfl rfl)) ?_
  exact congrArg (fun u => updateSlice (s := ⟨3, ![4, 512, 1536]⟩) (u := ⟨3, ![1, 512, 1536]⟩) (V main_v1_1) u _ _)
    (WordCmp.dynamicSlice_eq_extract _ _ _ _ _ (sides_512_1536.fits c) (start c _ (word_eq c) rfl rfl))

theorem host2 : StableHlo.after (hostOps1 (F := F) c) V main_v35
    = updateSlice (s := ⟨3, ![4, 256, 2048]⟩) (u := ⟨3, ![1, 256, 2048]⟩) (V main_v1_2)
      (extractStridedSlice ⟨3, ![1, 256, 2048]⟩ ![c.val / 2, 0, 0] (V main_arg2) (sides_256_2048.fits c)) ![c.val / 2, 0, 0] (sides_256_2048.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_256_2048.fits c) (start c _ (word_eq c) rfl rfl)) ?_
  exact congrArg (fun u => updateSlice (s := ⟨3, ![4, 256, 2048]⟩) (u := ⟨3, ![1, 256, 2048]⟩) (V main_v1_2) u _ _)
    (WordCmp.dynamicSlice_eq_extract _ _ _ _ _ (sides_256_2048.fits c) (start c _ (word_eq c) rfl rfl))

theorem host3 : StableHlo.after (hostOps1 (F := F) c) V main_v43
    = updateSlice (s := ⟨3, ![4, 512, 4096]⟩) (u := ⟨3, ![1, 512, 4096]⟩) (V main_v1_3)
      (extractStridedSlice ⟨3, ![1, 512, 4096]⟩ ![c.val / 2, 0, 0] (V main_arg3) (sides_512_4096.fits c)) ![c.val / 2, 0, 0] (sides_512_4096.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_512_4096.fits c) (start c _ (word_eq c) rfl rfl)) ?_
  exact congrArg (fun u => updateSlice (s := ⟨3, ![4, 512, 4096]⟩) (u := ⟨3, ![1, 512, 4096]⟩) (V main_v1_3) u _ _)
    (WordCmp.dynamicSlice_eq_extract _ _ _ _ _ (sides_512_4096.fits c) (start c _ (word_eq c) rfl rfl))

theorem host4 : StableHlo.after (hostOps1 (F := F) c) V main_v51
    = updateSlice (s := ⟨3, ![4, 2048, 4096]⟩) (u := ⟨3, ![1, 2048, 4096]⟩) (V main_v1_4)
      (extractStridedSlice ⟨3, ![1, 2048, 4096]⟩ ![c.val / 2, 0, 0] (V main_arg4) (sides_2048_4096.fits c)) ![c.val / 2, 0, 0] (sides_2048_4096.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_2048_4096.fits c) (start c _ (word_eq c) rfl rfl)) ?_
  exact congrArg (fun u => updateSlice (s := ⟨3, ![4, 2048, 4096]⟩) (u := ⟨3, ![1, 2048, 4096]⟩) (V main_v1_4) u _ _)
    (WordCmp.dynamicSlice_eq_extract _ _ _ _ _ (sides_2048_4096.fits c) (start c _ (word_eq c) rfl rfl))

theorem host5 : StableHlo.after (hostOps1 (F := F) c) V main_v59
    = updateSlice (s := ⟨3, ![4, 512, 4096]⟩) (u := ⟨3, ![1, 512, 4096]⟩) (V main_v1_5)
      (extractStridedSlice ⟨3, ![1, 512, 4096]⟩ ![c.val / 2, 0, 0] (V main_arg5) (sides_512_4096.fits c)) ![c.val / 2, 0, 0] (sides_512_4096.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_512_4096.fits c) (start c _ (word_eq c) rfl rfl)) ?_
  exact congrArg (fun u => updateSlice (s := ⟨3, ![4, 512, 4096]⟩) (u := ⟨3, ![1, 512, 4096]⟩) (V main_v1_5) u _ _)
    (WordCmp.dynamicSlice_eq_extract _ _ _ _ _ (sides_512_4096.fits c) (start c _ (word_eq c) rfl rfl))

theorem host6 : StableHlo.after (hostOps1 (F := F) c) V main_v67
    = updateSlice (s := ⟨3, ![4, 2048, 3072]⟩) (u := ⟨3, ![1, 2048, 3072]⟩) (V main_v1_6)
      (extractStridedSlice ⟨3, ![1, 2048, 3072]⟩ ![c.val / 2, 0, 0] (V main_arg6) (sides_2048_3072.fits c)) ![c.val / 2, 0, 0] (sides_2048_3072.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_2048_3072.fits c) (start c _ (word_eq c) rfl rfl)) ?_
  exact congrArg (fun u => updateSlice (s := ⟨3, ![4, 2048, 3072]⟩) (u := ⟨3, ![1, 2048, 3072]⟩) (V main_v1_6) u _ _)
    (WordCmp.dynamicSlice_eq_extract _ _ _ _ _ (sides_2048_3072.fits c) (start c _ (word_eq c) rfl rfl))

theorem host7 : StableHlo.after (hostOps1 (F := F) c) V main_v75
    = updateSlice (s := ⟨3, ![4, 512, 4096]⟩) (u := ⟨3, ![1, 512, 4096]⟩) (V main_v1_7)
      (extractStridedSlice ⟨3, ![1, 512, 4096]⟩ ![c.val / 2, 0, 0] (V main_arg7) (sides_512_4096.fits c)) ![c.val / 2, 0, 0] (sides_512_4096.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_512_4096.fits c) (start c _ (word_eq c) rfl rfl)) ?_
  exact congrArg (fun u => updateSlice (s := ⟨3, ![4, 512, 4096]⟩) (u := ⟨3, ![1, 512, 4096]⟩) (V main_v1_7) u _ _)
    (WordCmp.dynamicSlice_eq_extract _ _ _ _ _ (sides_512_4096.fits c) (start c _ (word_eq c) rfl rfl))

theorem host8 : StableHlo.after (hostOps1 (F := F) c) V main_v83
    = updateSlice (s := ⟨3, ![4, 2048, 3072]⟩) (u := ⟨3, ![1, 2048, 3072]⟩) (V main_v1_8)
      (extractStridedSlice ⟨3, ![1, 2048, 3072]⟩ ![c.val / 2, 0, 0] (V main_arg8) (sides_2048_3072.fits c)) ![c.val / 2, 0, 0] (sides_2048_3072.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_2048_3072.fits c) (start c _ (word_eq c) rfl rfl)) ?_
  exact congrArg (fun u => updateSlice (s := ⟨3, ![4, 2048, 3072]⟩) (u := ⟨3, ![1, 2048, 3072]⟩) (V main_v1_8) u _ _)
    (WordCmp.dynamicSlice_eq_extract _ _ _ _ _ (sides_2048_3072.fits c) (start c _ (word_eq c) rfl rfl))

theorem host9 : StableHlo.after (hostOps1 (F := F) c) V main_v91
    = updateSlice (s := ⟨3, ![4, 512, 4096]⟩) (u := ⟨3, ![1, 512, 4096]⟩) (V main_v1_9)
      (extractStridedSlice ⟨3, ![1, 512, 4096]⟩ ![c.val / 2, 0, 0] (V main_arg9) (sides_512_4096.fits c)) ![c.val / 2, 0, 0] (sides_512_4096.fits c) := by
  after_reads_simp [StableHlo.unaryIndexed_result_read, StableHlo.binaryIndexed_result_read, StableHlo.indexContents_cons, StableHlo.indexContents_empty, cast_eq]
  refine Eq.trans (WordCmp.dynamicUpdateSlice_eq_update _ _ _ _ _ (sides_512_4096.fits c) (start c _ (word_eq c) rfl rfl)) ?_
  exact congrArg (fun u => updateSlice (s := ⟨3, ![4, 512, 4096]⟩) (u := ⟨3, ![1, 512, 4096]⟩) (V main_v1_9) u _ _)
    (WordCmp.dynamicSlice_eq_extract _ _ _ _ _ (sides_512_4096.fits c) (start c _ (word_eq c) rfl rfl))

/-- The arguments are not written. -/
theorem host_kept (k : Fin 10) : StableHlo.after (hostOps1 (F := F) c) V (arrays (.inl k)) = V (arrays (.inl k)) := by
  fin_cases k <;> after_reads_simp

end Host

/-- Every run of the program ends with each result at its block of the reference's array, and with the slabs as they
were. -/
theorem run_value (m : (ℓ : Loc nD τ sig) → Buf (Elt F) ℓ) (ρ : Dev nD → PrngReg)
    (x0 : (⟨3, ![32, 2048, 1424]⟩ : Shape).Idx → Elt F .bf16)
    (x1 : (⟨3, ![32, 512, 1536]⟩ : Shape).Idx → Elt F .bf16)
    (x2 : (⟨3, ![32, 256, 2048]⟩ : Shape).Idx → Elt F .bf16)
    (x3 : (⟨3, ![32, 512, 4096]⟩ : Shape).Idx → Elt F .bf16)
    (x4 : (⟨3, ![32, 2048, 4096]⟩ : Shape).Idx → Elt F .bf16)
    (x5 : (⟨3, ![32, 512, 4096]⟩ : Shape).Idx → Elt F .bf16)
    (x6 : (⟨3, ![32, 2048, 3072]⟩ : Shape).Idx → Elt F .bf16)
    (x7 : (⟨3, ![32, 512, 4096]⟩ : Shape).Idx → Elt F .bf16)
    (x8 : (⟨3, ![32, 2048, 3072]⟩ : Shape).Idx → Elt F .bf16)
    (x9 : (⟨3, ![32, 512, 4096]⟩ : Shape).Idx → Elt F .bf16)
    (hin : ∀ c : Dev nD,
      m (c.tc.loc main_arg0) = Layout.block ⟨3, ![4, 2048, 1424]⟩ ⟨3, ![32, 2048, 1424]⟩ 0 8 c x0
      ∧ m (c.tc.loc main_arg1) = Layout.block ⟨3, ![4, 512, 1536]⟩ ⟨3, ![32, 512, 1536]⟩ 0 8 c x1
      ∧ m (c.tc.loc main_arg2) = Layout.block ⟨3, ![4, 256, 2048]⟩ ⟨3, ![32, 256, 2048]⟩ 0 8 c x2
      ∧ m (c.tc.loc main_arg3) = Layout.block ⟨3, ![4, 512, 4096]⟩ ⟨3, ![32, 512, 4096]⟩ 0 8 c x3
      ∧ m (c.tc.loc main_arg4) = Layout.block ⟨3, ![4, 2048, 4096]⟩ ⟨3, ![32, 2048, 4096]⟩ 0 8 c x4
      ∧ m (c.tc.loc main_arg5) = Layout.block ⟨3, ![4, 512, 4096]⟩ ⟨3, ![32, 512, 4096]⟩ 0 8 c x5
      ∧ m (c.tc.loc main_arg6) = Layout.block ⟨3, ![4, 2048, 3072]⟩ ⟨3, ![32, 2048, 3072]⟩ 0 8 c x6
      ∧ m (c.tc.loc main_arg7) = Layout.block ⟨3, ![4, 512, 4096]⟩ ⟨3, ![32, 512, 4096]⟩ 0 8 c x7
      ∧ m (c.tc.loc main_arg8) = Layout.block ⟨3, ![4, 2048, 3072]⟩ ⟨3, ![32, 2048, 3072]⟩ 0 8 c x8
      ∧ m (c.tc.loc main_arg9) = Layout.block ⟨3, ![4, 512, 4096]⟩ ⟨3, ![32, 512, 4096]⟩ 0 8 c x9) :
    θ_run (defs (F := F)) (onTc (τ := τ) (main (F := F))) ⟨m, fun _ => 0, ρ⟩ (fun r => ∀ c : Dev nD,
      r.2.mem (c.tc.loc main_v19) = Layout.block ⟨3, ![4, 2048, 1424]⟩ ⟨3, ![32, 2048, 1424]⟩ 0 8 c (turned sides_2048_1424 x0)
      ∧ r.2.mem (c.tc.loc main_v27) = Layout.block ⟨3, ![4, 512, 1536]⟩ ⟨3, ![32, 512, 1536]⟩ 0 8 c (turned sides_512_1536 x1)
      ∧ r.2.mem (c.tc.loc main_v35) = Layout.block ⟨3, ![4, 256, 2048]⟩ ⟨3, ![32, 256, 2048]⟩ 0 8 c (turned sides_256_2048 x2)
      ∧ r.2.mem (c.tc.loc main_v43) = Layout.block ⟨3, ![4, 512, 4096]⟩ ⟨3, ![32, 512, 4096]⟩ 0 8 c (turned sides_512_4096 x3)
      ∧ r.2.mem (c.tc.loc main_v51) = Layout.block ⟨3, ![4, 2048, 4096]⟩ ⟨3, ![32, 2048, 4096]⟩ 0 8 c (turned sides_2048_4096 x4)
      ∧ r.2.mem (c.tc.loc main_v59) = Layout.block ⟨3, ![4, 512, 4096]⟩ ⟨3, ![32, 512, 4096]⟩ 0 8 c (turned sides_512_4096 x5)
      ∧ r.2.mem (c.tc.loc main_v67) = Layout.block ⟨3, ![4, 2048, 3072]⟩ ⟨3, ![32, 2048, 3072]⟩ 0 8 c (turned sides_2048_3072 x6)
      ∧ r.2.mem (c.tc.loc main_v75) = Layout.block ⟨3, ![4, 512, 4096]⟩ ⟨3, ![32, 512, 4096]⟩ 0 8 c (turned sides_512_4096 x7)
      ∧ r.2.mem (c.tc.loc main_v83) = Layout.block ⟨3, ![4, 2048, 3072]⟩ ⟨3, ![32, 2048, 3072]⟩ 0 8 c (turned sides_2048_3072 x8)
      ∧ r.2.mem (c.tc.loc main_v91) = Layout.block ⟨3, ![4, 512, 4096]⟩ ⟨3, ![32, 512, 4096]⟩ 0 8 c (turned sides_512_4096 x9)
      ∧ ∀ k, r.2.mem (c.tc.loc (arrays (.inl k))) = m (c.tc.loc (arrays (.inl k)))) := by
  refine (θ_run defs _ _).mono (fun r ⟨⟨V, hV, hr⟩, _⟩ c => ?_) (run_main m ρ)
  have un : ∀ i, ¬ (arrays i).isScoped := by decide
  have own (k : Fin 10) : HostTail.spread (V c) (fun b => m (c, b)) (arrays (.inl k)) = m (c.tc.loc (arrays (.inl k))) :=
    (HostTail.spread_ref _ _ _).trans (argument_kept hV c k)
  have got (k : Fin 10) : HostTail.spread (V c) (fun b => m (c, b)) (arrays (.inr k)) = V c (arrays (.inr k)) := HostTail.spread_ref _ _ _
  refine ⟨(hr c main_v19 (by decide)).trans ((host0 _ c).trans ?_),
    (hr c main_v27 (by decide)).trans ((host1 _ c).trans ?_),
    (hr c main_v35 (by decide)).trans ((host2 _ c).trans ?_),
    (hr c main_v43 (by decide)).trans ((host3 _ c).trans ?_),
    (hr c main_v51 (by decide)).trans ((host4 _ c).trans ?_),
    (hr c main_v59 (by decide)).trans ((host5 _ c).trans ?_),
    (hr c main_v67 (by decide)).trans ((host6 _ c).trans ?_),
    (hr c main_v75 (by decide)).trans ((host7 _ c).trans ?_),
    (hr c main_v83 (by decide)).trans ((host8 _ c).trans ?_),
    (hr c main_v91 (by decide)).trans ((host9 _ c).trans ?_),
    fun k => (hr c _ (un (.inl k))).trans ((host_kept _ c k).trans (own k))⟩
  · refine (congrArg₂ (fun a b => updateSlice (s := ⟨3, ![4, 2048, 1424]⟩) (u := ⟨3, ![1, 2048, 1424]⟩) a (extractStridedSlice ⟨3, ![1, 2048, 1424]⟩ ![c.val / 2, 0, 0] b (sides_2048_1424.fits c)) _ (sides_2048_1424.fits c)) (got 0) (own 0)).trans ?_
    exact scattered sides_2048_1424 x0 c (fun d => m (d.tc.loc main_arg0)) (fun d => (hin d).1) _
      fun j => Slabs.moved (offD_eq (other j c) 0) (offS_other c (0, j)) (inbD _ _) (inbS _ _) S2048x1424 squeezes_S1x2048x1424_S2048x1424.numel_eq _ _ (landed hV c (0, j)) _ _ rfl rfl
  · refine (congrArg₂ (fun a b => updateSlice (s := ⟨3, ![4, 512, 1536]⟩) (u := ⟨3, ![1, 512, 1536]⟩) a (extractStridedSlice ⟨3, ![1, 512, 1536]⟩ ![c.val / 2, 0, 0] b (sides_512_1536.fits c)) _ (sides_512_1536.fits c)) (got 1) (own 1)).trans ?_
    exact scattered sides_512_1536 x1 c (fun d => m (d.tc.loc main_arg1)) (fun d => (hin d).2.1) _
      fun j => Slabs.moved (offD_eq (other j c) 1) (offS_other c (1, j)) (inbD _ _) (inbS _ _) S512x1536 squeezes_S1x512x1536_S512x1536.numel_eq _ _ (landed hV c (1, j)) _ _ rfl rfl
  · refine (congrArg₂ (fun a b => updateSlice (s := ⟨3, ![4, 256, 2048]⟩) (u := ⟨3, ![1, 256, 2048]⟩) a (extractStridedSlice ⟨3, ![1, 256, 2048]⟩ ![c.val / 2, 0, 0] b (sides_256_2048.fits c)) _ (sides_256_2048.fits c)) (got 2) (own 2)).trans ?_
    exact scattered sides_256_2048 x2 c (fun d => m (d.tc.loc main_arg2)) (fun d => (hin d).2.2.1) _
      fun j => Slabs.moved (offD_eq (other j c) 2) (offS_other c (2, j)) (inbD _ _) (inbS _ _) S256x2048 squeezes_S1x256x2048_S256x2048.numel_eq _ _ (landed hV c (2, j)) _ _ rfl rfl
  · refine (congrArg₂ (fun a b => updateSlice (s := ⟨3, ![4, 512, 4096]⟩) (u := ⟨3, ![1, 512, 4096]⟩) a (extractStridedSlice ⟨3, ![1, 512, 4096]⟩ ![c.val / 2, 0, 0] b (sides_512_4096.fits c)) _ (sides_512_4096.fits c)) (got 3) (own 3)).trans ?_
    exact scattered sides_512_4096 x3 c (fun d => m (d.tc.loc main_arg3)) (fun d => (hin d).2.2.2.1) _
      fun j => Slabs.moved (offD_eq (other j c) 3) (offS_other c (3, j)) (inbD _ _) (inbS _ _) S512x4096 squeezes_S1x512x4096_S512x4096.numel_eq _ _ (landed hV c (3, j)) _ _ rfl rfl
  · refine (congrArg₂ (fun a b => updateSlice (s := ⟨3, ![4, 2048, 4096]⟩) (u := ⟨3, ![1, 2048, 4096]⟩) a (extractStridedSlice ⟨3, ![1, 2048, 4096]⟩ ![c.val / 2, 0, 0] b (sides_2048_4096.fits c)) _ (sides_2048_4096.fits c)) (got 4) (own 4)).trans ?_
    exact scattered sides_2048_4096 x4 c (fun d => m (d.tc.loc main_arg4)) (fun d => (hin d).2.2.2.2.1) _
      fun j => Slabs.moved (offD_eq (other j c) 4) (offS_other c (4, j)) (inbD _ _) (inbS _ _) S2048x4096 squeezes_S1x2048x4096_S2048x4096.numel_eq _ _ (landed hV c (4, j)) _ _ rfl rfl
  · refine (congrArg₂ (fun a b => updateSlice (s := ⟨3, ![4, 512, 4096]⟩) (u := ⟨3, ![1, 512, 4096]⟩) a (extractStridedSlice ⟨3, ![1, 512, 4096]⟩ ![c.val / 2, 0, 0] b (sides_512_4096.fits c)) _ (sides_512_4096.fits c)) (got 5) (own 5)).trans ?_
    exact scattered sides_512_4096 x5 c (fun d => m (d.tc.loc main_arg5)) (fun d => (hin d).2.2.2.2.2.1) _
      fun j => Slabs.moved (offD_eq (other j c) 5) (offS_other c (5, j)) (inbD _ _) (inbS _ _) S512x4096 squeezes_S1x512x4096_S512x4096.numel_eq _ _ (landed hV c (5, j)) _ _ rfl rfl
  · refine (congrArg₂ (fun a b => updateSlice (s := ⟨3, ![4, 2048, 3072]⟩) (u := ⟨3, ![1, 2048, 3072]⟩) a (extractStridedSlice ⟨3, ![1, 2048, 3072]⟩ ![c.val / 2, 0, 0] b (sides_2048_3072.fits c)) _ (sides_2048_3072.fits c)) (got 6) (own 6)).trans ?_
    exact scattered sides_2048_3072 x6 c (fun d => m (d.tc.loc main_arg6)) (fun d => (hin d).2.2.2.2.2.2.1) _
      fun j => Slabs.moved (offD_eq (other j c) 6) (offS_other c (6, j)) (inbD _ _) (inbS _ _) S2048x3072 squeezes_S1x2048x3072_S2048x3072.numel_eq _ _ (landed hV c (6, j)) _ _ rfl rfl
  · refine (congrArg₂ (fun a b => updateSlice (s := ⟨3, ![4, 512, 4096]⟩) (u := ⟨3, ![1, 512, 4096]⟩) a (extractStridedSlice ⟨3, ![1, 512, 4096]⟩ ![c.val / 2, 0, 0] b (sides_512_4096.fits c)) _ (sides_512_4096.fits c)) (got 7) (own 7)).trans ?_
    exact scattered sides_512_4096 x7 c (fun d => m (d.tc.loc main_arg7)) (fun d => (hin d).2.2.2.2.2.2.2.1) _
      fun j => Slabs.moved (offD_eq (other j c) 7) (offS_other c (7, j)) (inbD _ _) (inbS _ _) S512x4096 squeezes_S1x512x4096_S512x4096.numel_eq _ _ (landed hV c (7, j)) _ _ rfl rfl
  · refine (congrArg₂ (fun a b => updateSlice (s := ⟨3, ![4, 2048, 3072]⟩) (u := ⟨3, ![1, 2048, 3072]⟩) a (extractStridedSlice ⟨3, ![1, 2048, 3072]⟩ ![c.val / 2, 0, 0] b (sides_2048_3072.fits c)) _ (sides_2048_3072.fits c)) (got 8) (own 8)).trans ?_
    exact scattered sides_2048_3072 x8 c (fun d => m (d.tc.loc main_arg8)) (fun d => (hin d).2.2.2.2.2.2.2.2.1) _
      fun j => Slabs.moved (offD_eq (other j c) 8) (offS_other c (8, j)) (inbD _ _) (inbS _ _) S2048x3072 squeezes_S1x2048x3072_S2048x3072.numel_eq _ _ (landed hV c (8, j)) _ _ rfl rfl
  · refine (congrArg₂ (fun a b => updateSlice (s := ⟨3, ![4, 512, 4096]⟩) (u := ⟨3, ![1, 512, 4096]⟩) a (extractStridedSlice ⟨3, ![1, 512, 4096]⟩ ![c.val / 2, 0, 0] b (sides_512_4096.fits c)) _ (sides_512_4096.fits c)) (got 9) (own 9)).trans ?_
    exact scattered sides_512_4096 x9 c (fun d => m (d.tc.loc main_arg9)) (fun d => (hin d).2.2.2.2.2.2.2.2.2) _
      fun j => Slabs.moved (offD_eq (other j c) 9) (offS_other c (9, j)) (inbD _ _) (inbS _ _) S512x4096 squeezes_S1x512x4096_S512x4096.numel_eq _ _ (landed hV c (9, j)) _ _ rfl rfl

end Cert.Scattering

end
-- ==== Proof.Join.lean ====
/-
The joining of a gradient's halves on the two cores of a chip.

Every core holds, of each of the ten large gradients' shards, the half of the rows that it summed. It sends each half to
the other core, into that core's result array at the rows of the sender's half, and then copies its own half into its
own result array. This module states the network of the ten copies and runs the program.
-/
module

public import proofs.«01_k».proof.Proof.OneShotHost
public import proofs.«01_k».proof.Proof.Gen.JoinIdeal
public import proofs.«01_k».proof.Proof.Gen.JoinIdeal.Skeleton
public import proofs.«01_k».proof.Proof.Gen.JoinIdeal.Launch

@[expose] public section

noncomputable section

namespace Cert.Joining

open Cert.JoinIdeal Cert.JoinIdeal.Gen Cert.OneShot
open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

/-- The halves that are sent. -/
abbrev shp : Fin 10 → Shape
  | 0 => S2048x1424
  | 1 => S512x1536
  | 2 => S256x2048
  | 3 => S512x4096
  | 4 => S2048x4096
  | 5 => S512x4096
  | 6 => S2048x3072
  | 7 => S512x4096
  | 8 => S2048x3072
  | 9 => S512x4096

/-- The half of gradient `k` that a device sends. -/
abbrev src : (k : Fin 10) → Memref sig .tc .hbm (shp k) .f32
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
  | 9 => Memref.whole main_arg9

/-- The rows at which device `d`'s half lands, on the other core. -/
abbrev dst (d : Dev nD) : (k : Fin 10) → Memref sig .tc .hbm (shp k) .f32
  | 0 => (Memref.whole main_v1_0).slice (Rect.unit (s := S4096x1424) (k0_off1 d) S2048x1424.size (k0_off1_inb d)) (fun _ => rfl)
  | 1 => (Memref.whole main_v1_1).slice (Rect.unit (s := S1024x1536) (k0_off2 d) S512x1536.size (k0_off2_inb d)) (fun _ => rfl)
  | 2 => (Memref.whole main_v1_2).slice (Rect.unit (s := S512x2048) (k0_off3 d) S256x2048.size (k0_off3_inb d)) (fun _ => rfl)
  | 3 => (Memref.whole main_v1_3).slice (Rect.unit (s := S1024x4096) (k0_off4 d) S512x4096.size (k0_off4_inb d)) (fun _ => rfl)
  | 4 => (Memref.whole main_v1_4).slice (Rect.unit (s := S4096x4096) (k0_off5 d) S2048x4096.size (k0_off5_inb d)) (fun _ => rfl)
  | 5 => (Memref.whole main_v1_5).slice (Rect.unit (s := S1024x4096) (k0_off4 d) S512x4096.size (k0_off4_inb d)) (fun _ => rfl)
  | 6 => (Memref.whole main_v1_6).slice (Rect.unit (s := S4096x3072) (k0_off6 d) S2048x3072.size (k0_off6_inb d)) (fun _ => rfl)
  | 7 => (Memref.whole main_v1_7).slice (Rect.unit (s := S1024x4096) (k0_off4 d) S512x4096.size (k0_off4_inb d)) (fun _ => rfl)
  | 8 => (Memref.whole main_v1_8).slice (Rect.unit (s := S4096x3072) (k0_off6 d) S2048x3072.size (k0_off6_inb d)) (fun _ => rfl)
  | 9 => (Memref.whole main_v1_9).slice (Rect.unit (s := S1024x4096) (k0_off4 d) S512x4096.size (k0_off4_inb d)) (fun _ => rfl)

/-- The rows that device `d` waits for. -/
abbrev slot (d : Dev nD) : (k : Fin 10) → Memref sig .tc .hbm (shp k) .f32
  | 0 => (Memref.whole main_v1_0).slice (Rect.unit (s := S4096x1424) (k0_off7 d) S2048x1424.size (k0_off7_inb d)) (fun _ => rfl)
  | 1 => (Memref.whole main_v1_1).slice (Rect.unit (s := S1024x1536) (k0_off8 d) S512x1536.size (k0_off8_inb d)) (fun _ => rfl)
  | 2 => (Memref.whole main_v1_2).slice (Rect.unit (s := S512x2048) (k0_off9 d) S256x2048.size (k0_off9_inb d)) (fun _ => rfl)
  | 3 => (Memref.whole main_v1_3).slice (Rect.unit (s := S1024x4096) (k0_off10 d) S512x4096.size (k0_off10_inb d)) (fun _ => rfl)
  | 4 => (Memref.whole main_v1_4).slice (Rect.unit (s := S4096x4096) (k0_off11 d) S2048x4096.size (k0_off11_inb d)) (fun _ => rfl)
  | 5 => (Memref.whole main_v1_5).slice (Rect.unit (s := S1024x4096) (k0_off10 d) S512x4096.size (k0_off10_inb d)) (fun _ => rfl)
  | 6 => (Memref.whole main_v1_6).slice (Rect.unit (s := S4096x3072) (k0_off12 d) S2048x3072.size (k0_off12_inb d)) (fun _ => rfl)
  | 7 => (Memref.whole main_v1_7).slice (Rect.unit (s := S1024x4096) (k0_off10 d) S512x4096.size (k0_off10_inb d)) (fun _ => rfl)
  | 8 => (Memref.whole main_v1_8).slice (Rect.unit (s := S4096x3072) (k0_off12 d) S2048x3072.size (k0_off12_inb d)) (fun _ => rfl)
  | 9 => (Memref.whole main_v1_9).slice (Rect.unit (s := S1024x4096) (k0_off10 d) S512x4096.size (k0_off10_inb d)) (fun _ => rfl)

/-- What the wait for copy `k` names as the region sent: only its size is read. -/
abbrev named (d : Dev nD) : (k : Fin 10) → Memref sig .tc .hbm (shp k) .f32
  | 0 => src 0
  | 1 => slot d 1
  | 2 => slot d 2
  | 3 => slot d 3
  | 4 => slot d 4
  | 5 => slot d 5
  | 6 => slot d 6
  | 7 => slot d 7
  | 8 => slot d 8
  | 9 => slot d 9

/-- The other core of the chip, as each copy computes it. -/
abbrev peer (d : Dev nD) : Fin 10 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | 7 => ⟨k0_dev8 d, k0_dev8_lt d⟩
  | 8 => ⟨k0_dev9 d, k0_dev9_lt d⟩
  | 9 => ⟨k0_dev10 d, k0_dev10_lt d⟩

/-- The send semaphores. -/
abbrev snd : Fin 10 → DmaSem sig
  | 0 => ((cc0_scratch0.slice (Rect.unit (s := S10) ![0] S1.size inb_S10_S1_0)).squeeze S_ squeezes_S1_S_).sem
  | 1 => ((cc0_scratch0.slice (Rect.unit (s := S10) ![1] S1.size inb_S10_S1_1)).squeeze S_ squeezes_S1_S_).sem
  | 2 => ((cc0_scratch0.slice (Rect.unit (s := S10) ![2] S1.size inb_S10_S1_2)).squeeze S_ squeezes_S1_S_).sem
  | 3 => ((cc0_scratch0.slice (Rect.unit (s := S10) ![3] S1.size inb_S10_S1_3)).squeeze S_ squeezes_S1_S_).sem
  | 4 => ((cc0_scratch0.slice (Rect.unit (s := S10) ![4] S1.size inb_S10_S1_4)).squeeze S_ squeezes_S1_S_).sem
  | 5 => ((cc0_scratch0.slice (Rect.unit (s := S10) ![5] S1.size inb_S10_S1_5)).squeeze S_ squeezes_S1_S_).sem
  | 6 => ((cc0_scratch0.slice (Rect.unit (s := S10) ![6] S1.size inb_S10_S1_6)).squeeze S_ squeezes_S1_S_).sem
  | 7 => ((cc0_scratch0.slice (Rect.unit (s := S10) ![7] S1.size inb_S10_S1_7)).squeeze S_ squeezes_S1_S_).sem
  | 8 => ((cc0_scratch0.slice (Rect.unit (s := S10) ![8] S1.size inb_S10_S1_8)).squeeze S_ squeezes_S1_S_).sem
  | 9 => ((cc0_scratch0.slice (Rect.unit (s := S10) ![9] S1.size inb_S10_S1_9)).squeeze S_ squeezes_S1_S_).sem

/-- The receive semaphores. -/
abbrev rcv : Fin 10 → DmaSem sig
  | 0 => ((cc0_scratch1.slice (Rect.unit (s := S10) ![0] S1.size inb_S10_S1_0)).squeeze S_ squeezes_S1_S_).sem
  | 1 => ((cc0_scratch1.slice (Rect.unit (s := S10) ![1] S1.size inb_S10_S1_1)).squeeze S_ squeezes_S1_S_).sem
  | 2 => ((cc0_scratch1.slice (Rect.unit (s := S10) ![2] S1.size inb_S10_S1_2)).squeeze S_ squeezes_S1_S_).sem
  | 3 => ((cc0_scratch1.slice (Rect.unit (s := S10) ![3] S1.size inb_S10_S1_3)).squeeze S_ squeezes_S1_S_).sem
  | 4 => ((cc0_scratch1.slice (Rect.unit (s := S10) ![4] S1.size inb_S10_S1_4)).squeeze S_ squeezes_S1_S_).sem
  | 5 => ((cc0_scratch1.slice (Rect.unit (s := S10) ![5] S1.size inb_S10_S1_5)).squeeze S_ squeezes_S1_S_).sem
  | 6 => ((cc0_scratch1.slice (Rect.unit (s := S10) ![6] S1.size inb_S10_S1_6)).squeeze S_ squeezes_S1_S_).sem
  | 7 => ((cc0_scratch1.slice (Rect.unit (s := S10) ![7] S1.size inb_S10_S1_7)).squeeze S_ squeezes_S1_S_).sem
  | 8 => ((cc0_scratch1.slice (Rect.unit (s := S10) ![8] S1.size inb_S10_S1_8)).squeeze S_ squeezes_S1_S_).sem
  | 9 => ((cc0_scratch1.slice (Rect.unit (s := S10) ![9] S1.size inb_S10_S1_9)).squeeze S_ squeezes_S1_S_).sem

/-- The other core of the chip. -/
def sib (d : Dev nD) : Dev nD := ⟨(4 * (d.val / 4) + 2 * ((d.val / 2) % 2) + 1) - d.val % 2, by revert d; decide⟩

theorem peer_eq (d : Dev nD) (k : Fin 10) : peer d k = sib d := by revert d k; decide

theorem sib_sib (d : Dev nD) : sib (sib d) = d := by revert d; decide

theorem credit (d : Dev nD) (k : Fin 10) : (dst d k).view.dmaCredit = (src k).view.dmaCredit := by
  fin_cases k <;> rfl

theorem credit_slot (d : Dev nD) (k : Fin 10) : (slot d k).view.dmaCredit = (src k).view.dmaCredit := by
  fin_cases k <;> rfl

/-- The network. -/
def net : Net nD sig (Fin 10) where
  shp := shp
  elt _ := .f32
  src _ := src
  dst := dst
  peer := peer
  peer_peer d k := by rw [peer_eq, peer_eq, sib_sib]
  snd := snd
  rcv := rcv
  sem_inj := by decide
  N k := (src k).view.dmaCredit
  N_pos k := View.dmaCredit_pos _ (by revert k; decide)
  credit := credit

/-- The arrays the copies read and write, in order. -/
def arrays : Fin 10 ⊕ Fin 10 → Ref sig .tc
  | .inl k => ⟨.hbm, ⟨k.val, by have := k.isLt; decide +revert⟩, rfl⟩
  | .inr k => ⟨.hbm, ⟨10 + k.val, by have := k.isLt; decide +revert⟩, rfl⟩

theorem arrays_injective : Function.Injective arrays := by decide

theorem pref_eq (d : Dev nD) (i : Fin 10 ⊕ Fin 10) : pref net d i = arrays i := by
  rcases i with k | k <;> fin_cases k <;> rfl

theorem apart (d : Dev nD) : Pieces.Apart (pref net d) (pset net d) := fun i j h e => by
  rw [pref_eq, pref_eq] at h
  exact absurd (arrays_injective h).symm e

theorem unscoped (d : Dev nD) (i : Fin 10 ⊕ Fin 10) : ¬ (pref net d i).isScoped := by
  rw [pref_eq]; revert i; decide

theorem ownSemFacts : Pipeline.OwnSemFacts (cfg0.spec) net.osem := by decide

/-- The printed operations. -/
def code (d : Dev nD) : Code (U := Gh nD τ sig) net (defs₀ (F := F)) Variants.none d :=
  Code.naming net _ _ (fun k => by fin_cases k <;> rfl) (fun k => View.wordExact_bits rfl) (fun k => View.wordExact_bits rfl)
    (fun k => ⟨⟨rfl, Or.inl rfl⟩, trivial⟩) (fun k => rfl) (named d) (slot d) (fun k => View.wordExact_bits rfl) (fun k => View.wordExact_bits rfl)
    (credit_slot d)

/-- The order of the waits: the landings, then the sends. -/
def order : List (Fin 10 ⊕ Fin 10) := (List.finRange 10).map .inr ++ (List.finRange 10).map .inl

local notation "𝕄" => MT nD τ sig Unit (Elt F) ℕ (Gh nD τ sig) ℕ

set_option maxRecDepth 8000 in
theorem body_eq (c : Dev nD) (t) (s) (R : sProp 𝕄) :
    (wp frame (wpE (defs₀ (F := F)) Variants.none (c : Thread nD τ) none) Set.univ ((List.finRange 10).foldr (code c).start (order.foldr (code c).await (.ret ⟨⟩))) (fun _ => R))
      ⊢ wp frame (wpE (defs₀ (F := F)) Variants.none (c : Thread nD τ) none) Set.univ (defs₀ (F := F) .tc 0 (t, s)) (fun _ => R) := by
  simp only [defs₀, Defs.onTc]
  simp only [cc0_grads_core_join_eq_skeleton]
  unfold cc0_grads_core_join_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part9_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  exact BI.Entails.refl _

theorem fresh (c : Dev nD) : (hostOps1 (F := F) c).Forall fun op => op.fresh = ∅ := by
  unfold hostOps1
  simp only [List.forall_cons]
  repeat' constructor

/-- Every run of the program ends, with every array as the copies and the host operations leave it and every semaphore
    at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∃ V, After net (seen m) V ∧ ∀ (c : Dev nD) (b : Ref sig .tc), ¬ b.isScoped → r.2.mem ((c : Thread nD τ).loc b) = outcome hostOps1 m V c b) ∧ r.2.sem = fun _ => 0) :=
  run_host (fun p => (cfgs p).toPCfg) (fun _ p => (cfgs p).toPCfg_adm) cellOf_inj (0 : Fin 1) winFacts0.to₀ ownSemFacts (fun _ => N_0) (defs₀ (F := F)) Variants.none
    apart unscoped m ρ hostOps1 hostOps1_sub fresh main main_chain (fun c => scopedRest0_eq c) (by decide) code
    (List.finRange 10) (by decide) (by decide) order (by decide) (by decide)
    (fun c t R => body_eq c t _ R)

/-- No copy lands in an argument: it is unchanged. -/
theorem argument_kept {m V : (d : Dev nD) → (b : Ref sig .tc) → Buf (Elt F) ((d : Thread nD τ).loc b)} (h : After net m V) (c : Dev nD) (k : Fin 10) :
    V c (arrays (.inl k)) = m c (arrays (.inl k)) :=
  h.same c _ fun i e => by
    have h := pref_eq c (.inr i)
    exact Sum.inr_ne_inl (arrays_injective (h.symm.trans e))

end Cert.Joining

end
-- ==== Proof.JoinValue.lean ====
/-
What the joining leaves in its results: on both cores of a chip, the two halves of every gradient's shard, one below
the other.
-/
module

public import proofs.«01_k».proof.Proof.Join
public import Idealize.ShloMosaic.Lib.StableHlo.RunRead
public import Idealize.ShloMosaic.Lib.WordCmp
public import Idealize.ShloMosaic.Lib.Layout
public import Idealize.ShloMosaic.Lib.ValueIdxRank6
public import Mathlib.Tactic.Ring
public import Mathlib.Tactic.SplitIfs

@[expose] public section

noncomputable section

namespace Cert.Joining

open Cert.JoinIdeal Cert.JoinIdeal.Gen Cert.OneShot
open Idealize.ShloMosaic Idealize.ShloMosaic.ValueIdx
open Idealize.ShloMosaic.TcCoe
open Idealize.SL.Sem

/-! ## Two halves, one below the other -/

section Rows

variable {α : Type} {h K T n : ℕ}

/-- The sides of the arrays of one gradient: a half, a shard, all shards. -/
structure Sides (h K T n : ℕ) : Prop where
  shard : K = 2 * h
  tiles : Layout.Tiles ⟨2, ![h, n]⟩ ⟨2, ![T, n]⟩ 0 8
  tilesN : Layout.TilesN ⟨2, ![K, n]⟩ ⟨2, ![T, n]⟩ (fun b : Fin 2 => Layout.cutSize [2, 2, 2] ((![[0, 1], []] : Fin 2 → List ℕ) b))
  fits : ∀ c : Fin 8, (⟨2, ![K, n]⟩ : Shape).Slices ![h * (c.val % 2), 0] ⟨2, ![h, n]⟩

theorem shard_of (c : Fin 8) : Layout.meshLin [2, 2, 2] c.val [0, 1] = c.val / 2 := by revert c; decide

theorem sib_half (c : Dev nD) : (sib c).val % 2 = 1 - c.val % 2 := by revert c; decide

theorem sib_chip (c : Dev nD) : c.val / 2 = (sib c).val / 2 := by revert c; decide

/-- The shard of a chip, at a row: the half of the core whose half the row is in. -/
theorem shard_row (H : Sides h K T n) (x : (⟨2, ![T, n]⟩ : Shape).Idx → α) (c d : Fin 8) (hd : c.val / 2 = d.val / 2)
    (i : (⟨2, ![K, n]⟩ : Shape).Idx) (j : (⟨2, ![h, n]⟩ : Shape).Idx) (h0 : (i 0).val = h * (d.val % 2) + (j 0).val) (h1 : (i 1).val = (j 1).val) :
    Layout.block ⟨2, ![h, n]⟩ ⟨2, ![T, n]⟩ 0 8 d x H.tiles j
      = Layout.blockN ⟨2, ![K, n]⟩ ⟨2, ![T, n]⟩ (Layout.meshBlock [2, 2, 2] ![[0, 1], []] c) x H.tilesN i := by
  show x _ = x _
  refine congrArg x (funext fun a => Fin.ext ?_)
  fin_cases a
  · refine Eq.trans ?_ (Layout.TilesN.idx_val _ _ _ _).symm
    rw [Layout.meshBlock_val]
    refine (Layout.Tiles.idx_val H.tiles d j 0).trans ?_
    have e : Layout.meshLin [2, 2, 2] c.val [0, 1] = d.val / 2 := (shard_of c).trans hd
    have e' : d.val / 2 * K = d.val / 2 * (2 * h) := by rw [H.shard]
    show d.val * h + (j 0).val = Layout.meshLin [2, 2, 2] c.val [0, 1] * K + (i 0).val
    rw [e, e', h0]
    conv_lhs => rw [← Nat.div_add_mod d.val 2]
    ring
  · refine Eq.trans ?_ (Layout.TilesN.idx_val _ _ _ _).symm
    rw [Layout.meshBlock_val]
    refine (Layout.Tiles.idx_val H.tiles d j 1).trans ?_
    show (j 1).val = 0 * n + (i 1).val
    rw [h1]; omega

/-- The other core's half landed in its rows, and the own half written into the others: the shard. -/
theorem joined (H : Sides h K T n) (x : (⟨2, ![T, n]⟩ : Shape).Idx → α) (c : Dev nD) (f : Dev nD → (⟨2, ![h, n]⟩ : Shape).Idx → α)
    (hf : ∀ d : Dev nD, f d = Layout.block ⟨2, ![h, n]⟩ ⟨2, ![T, n]⟩ 0 8 d x H.tiles) (J : (⟨2, ![K, n]⟩ : Shape).Idx → α) (off : Dev nD → Fin 2 → ℕ)
    (inb : ∀ d a, off d a + (⟨2, ![h, n]⟩ : Shape).size a ≤ (⟨2, ![K, n]⟩ : Shape).size a) (ho : ∀ d : Dev nD, off d = ![h * (d.val % 2), 0])
    (hJ : (fun i => J ((Rect.unit (s := ⟨2, ![K, n]⟩) (off (sib c)) (⟨2, ![h, n]⟩ : Shape).size (inb _)).emb i)) = f (sib c)) :
    updateSlice J (f c) ![h * (c.val % 2), 0] (H.fits c)
      = Layout.blockN ⟨2, ![K, n]⟩ ⟨2, ![T, n]⟩ (Layout.meshBlock [2, 2, 2] ![[0, 1], []] c) x H.tilesN := by
  funext i
  have hs : (sib c).val % 2 = 1 - c.val % 2 := sib_half c
  have hq : c.val / 2 = (sib c).val / 2 := sib_chip c
  have i0 : (i 0).val < 2 * h := lt_of_lt_of_eq (i 0).isLt H.shard
  have i1 : (i 1).val < n := (i 1).isLt
  unfold updateSlice
  split_ifs with hin
  · rw [hf]
    refine shard_row H x c c rfl i _ ?_ ?_
    · have := (hin 0).1
      show (i 0).val = h * (c.val % 2) + ((i 0).val - h * (c.val % 2))
      have : h * (c.val % 2) ≤ (i 0).val := this
      omega
    · show (i 1).val = (i 1).val - 0
      omega
  · have hout : ¬ (h * (c.val % 2) ≤ (i 0).val ∧ (i 0).val < h * (c.val % 2) + h) := fun ⟨ha, hb⟩ => hin fun a => by
      fin_cases a
      · exact ⟨ha, hb⟩
      · exact ⟨Nat.zero_le _, by show (i 1).val < 0 + n; omega⟩
    have hrow : h * ((sib c).val % 2) ≤ (i 0).val ∧ (i 0).val < h * ((sib c).val % 2) + h := by
      rw [hs]
      rcases Nat.mod_two_eq_zero_or_one c.val with e | e <;> rw [e] at hout ⊢ <;> simp only [Nat.sub_zero, Nat.sub_self, Nat.mul_one, Nat.mul_zero, Nat.zero_add] at hout ⊢ <;> omega
    let j : (⟨2, ![h, n]⟩ : Shape).Idx := ix2 ⟨(i 0).val - h * ((sib c).val % 2), by omega⟩ ⟨(i 1).val, i1⟩
    have hj : (Rect.unit (s := ⟨2, ![K, n]⟩) (off (sib c)) (⟨2, ![h, n]⟩ : Shape).size (inb _)).emb j = i := by
      funext a
      refine Fin.ext ?_
      have e := ho (sib c)
      fin_cases a
      · show off (sib c) 0 + 1 * ((i 0).val - h * ((sib c).val % 2)) = (i 0).val
        rw [e]
        show h * ((sib c).val % 2) + 1 * ((i 0).val - h * ((sib c).val % 2)) = (i 0).val
        omega
      · show off (sib c) 1 + 1 * (i 1).val = (i 1).val
        rw [e]
        show 0 + 1 * (i 1).val = (i 1).val
        omega
    have := congrFun hJ j
    rw [hf] at this
    rw [← hj]
    refine this.trans ?_
    rw [hj]
    refine shard_row H x c (sib c) hq i j ?_ rfl
    show (i 0).val = h * ((sib c).val % 2) + ((i 0).val - h * ((sib c).val % 2))
    omega

end Rows

variable {F : FTy → Type} [FloatOps F]

/-- The other core's half, in the rows where it landed. -/
theorem landed {m V : (d : Dev nD) → (b : Ref sig .tc) → Buf (Elt F) ((d : Thread nD τ).loc b)} (h : After net m V) (c : Dev nD) (k : Fin 10) :
    (dst (sib c) k).view.read (Elt F) (V c (dst (sib c) k).view.ref) = (src k).view.read (Elt F) (m (sib c) (src k).view.ref) := by
  have e : ∀ p, peer c k = p → (dst p k).view.read (Elt F) (V c (dst p k).view.ref) = (src k).view.read (Elt F) (m p (src k).view.ref) := by
    rintro _ rfl; exact h.lands c k
  exact e _ (peer_eq c k)

theorem sides_2048_1424 : Sides 2048 4096 16384 1424 := by constructor <;> decide
theorem sides_512_1536 : Sides 512 1024 4096 1536 := by constructor <;> decide
theorem sides_256_2048 : Sides 256 512 2048 2048 := by constructor <;> decide
theorem sides_512_4096 : Sides 512 1024 4096 4096 := by constructor <;> decide
theorem sides_2048_4096 : Sides 2048 4096 16384 4096 := by constructor <;> decide
theorem sides_2048_3072 : Sides 2048 4096 16384 3072 := by constructor <;> decide

/-! ## What the host operations make of the arrays -/

/-- The word that the host operations compute for the first row of a device's half, of `h` rows in a shard of `K`. -/
def word (c : Dev nD) (h K : BitVec 32) : BitVec 32 :=
  let r := IntOp.muli (IntOp.remui .host (IntOp.divui .host (Dev.word c) 1#32) 2#32) h
  Scalar.select (IntOp.cmpi .slt r 0#32) (IntOp.addi r K) r

theorem word_2048 : ∀ c : Dev nD, (word c 2048#32 4096#32).toInt = ((2048 * (c.val % 2) : ℕ) : Int) := by decide +kernel
theorem word_512 : ∀ c : Dev nD, (word c 512#32 1024#32).toInt = ((512 * (c.val % 2) : ℕ) : Int) := by decide +kernel
theorem word_256 : ∀ c : Dev nD, (word c 256#32 512#32).toInt = ((256 * (c.val % 2) : ℕ) : Int) := by decide +kernel

/-- The row at which a device writes its own half, and the column. -/
theorem start (c : Dev nD) (s : Fin 2 → Int) (h : ℕ) (h0 : s 0 = ((h * (c.val % 2) : ℕ) : Int)) (h1 : s 1 = 0) (a : Fin 2) :
    s a = (((![h * (c.val % 2), 0] : Fin 2 → ℕ) a : ℕ) : Int) := by
  fin_cases a
  · exact h0
  · exact h1

section Host

variable (V : Valuation τ sig (Elt F)) (c : Dev nD)

theorem host0 : StableHlo.after (hostOps1 (F := F) c) V main_v10
    = updateSlice (s := ⟨2, ![4096, 1424]⟩) (u := ⟨2, ![2048, 1424]⟩) (V main_v1_0) (V main_arg0) ![2048 * (c.val % 2), 0] (sides_2048_1424.fits c) := by
  after_reads_simp [StableHlo.binaryIndexed_result_read, StableHlo.indexContents_cons, StableHlo.indexContents_empty, cast_eq]
  exact WordCmp.dynamicUpdateSlice_eq_update _ _ _ _ _ _ (start c _ 2048 (word_2048 c) rfl)

theorem host1 : StableHlo.after (hostOps1 (F := F) c) V main_v15
    = updateSlice (s := ⟨2, ![1024, 1536]⟩) (u := ⟨2, ![512, 1536]⟩) (V main_v1_1) (V main_arg1) ![512 * (c.val % 2), 0] (sides_512_1536.fits c) := by
  after_reads_simp [StableHlo.binaryIndexed_result_read, StableHlo.indexContents_cons, StableHlo.indexContents_empty, cast_eq]
  exact WordCmp.dynamicUpdateSlice_eq_update _ _ _ _ _ _ (start c _ 512 (word_512 c) rfl)

theorem host2 : StableHlo.after (hostOps1 (F := F) c) V main_v20
    = updateSlice (s := ⟨2, ![512, 2048]⟩) (u := ⟨2, ![256, 2048]⟩) (V main_v1_2) (V main_arg2) ![256 * (c.val % 2), 0] (sides_256_2048.fits c) := by
  after_reads_simp [StableHlo.binaryIndexed_result_read, StableHlo.indexContents_cons, StableHlo.indexContents_empty, cast_eq]
  exact WordCmp.dynamicUpdateSlice_eq_update _ _ _ _ _ _ (start c _ 256 (word_256 c) rfl)

theorem host3 : StableHlo.after (hostOps1 (F := F) c) V main_v25
    = updateSlice (s := ⟨2, ![1024, 4096]⟩) (u := ⟨2, ![512, 4096]⟩) (V main_v1_3) (V main_arg3) ![512 * (c.val % 2), 0] (sides_512_4096.fits c) := by
  after_reads_simp [StableHlo.binaryIndexed_result_read, StableHlo.indexContents_cons, StableHlo.indexContents_empty, cast_eq]
  exact WordCmp.dynamicUpdateSlice_eq_update _ _ _ _ _ _ (start c _ 512 (word_512 c) rfl)

theorem host4 : StableHlo.after (hostOps1 (F := F) c) V main_v30
    = updateSlice (s := ⟨2, ![4096, 4096]⟩) (u := ⟨2, ![2048, 4096]⟩) (V main_v1_4) (V main_arg4) ![2048 * (c.val % 2), 0] (sides_2048_4096.fits c) := by
  after_reads_simp [StableHlo.binaryIndexed_result_read, StableHlo.indexContents_cons, StableHlo.indexContents_empty, cast_eq]
  exact WordCmp.dynamicUpdateSlice_eq_update _ _ _ _ _ _ (start c _ 2048 (word_2048 c) rfl)

theorem host5 : StableHlo.after (hostOps1 (F := F) c) V main_v35
    = updateSlice (s := ⟨2, ![1024, 4096]⟩) (u := ⟨2, ![512, 4096]⟩) (V main_v1_5) (V main_arg5) ![512 * (c.val % 2), 0] (sides_512_4096.fits c) := by
  after_reads_simp [StableHlo.binaryIndexed_result_read, StableHlo.indexContents_cons, StableHlo.indexContents_empty, cast_eq]
  exact WordCmp.dynamicUpdateSlice_eq_update _ _ _ _ _ _ (start c _ 512 (word_512 c) rfl)

theorem host6 : StableHlo.after (hostOps1 (F := F) c) V main_v40
    = updateSlice (s := ⟨2, ![4096, 3072]⟩) (u := ⟨2, ![2048, 3072]⟩) (V main_v1_6) (V main_arg6) ![2048 * (c.val % 2), 0] (sides_2048_3072.fits c) := by
  after_reads_simp [StableHlo.binaryIndexed_result_read, StableHlo.indexContents_cons, StableHlo.indexContents_empty, cast_eq]
  exact WordCmp.dynamicUpdateSlice_eq_update _ _ _ _ _ _ (start c _ 2048 (word_2048 c) rfl)

theorem host7 : StableHlo.after (hostOps1 (F := F) c) V main_v45
    = updateSlice (s := ⟨2, ![1024, 4096]⟩) (u := ⟨2, ![512, 4096]⟩) (V main_v1_7) (V main_arg7) ![512 * (c.val % 2), 0] (sides_512_4096.fits c) := by
  after_reads_simp [StableHlo.binaryIndexed_result_read, StableHlo.indexContents_cons, StableHlo.indexContents_empty, cast_eq]
  exact WordCmp.dynamicUpdateSlice_eq_update _ _ _ _ _ _ (start c _ 512 (word_512 c) rfl)

theorem host8 : StableHlo.after (hostOps1 (F := F) c) V main_v50
    = updateSlice (s := ⟨2, ![4096, 3072]⟩) (u := ⟨2, ![2048, 3072]⟩) (V main_v1_8) (V main_arg8) ![2048 * (c.val % 2), 0] (sides_2048_3072.fits c) := by
  after_reads_simp [StableHlo.binaryIndexed_result_read, StableHlo.indexContents_cons, StableHlo.indexContents_empty, cast_eq]
  exact WordCmp.dynamicUpdateSlice_eq_update _ _ _ _ _ _ (start c _ 2048 (word_2048 c) rfl)

theorem host9 : StableHlo.after (hostOps1 (F := F) c) V main_v55
    = updateSlice (s := ⟨2, ![1024, 4096]⟩) (u := ⟨2, ![512, 4096]⟩) (V main_v1_9) (V main_arg9) ![512 * (c.val % 2), 0] (sides_512_4096.fits c) := by
  after_reads_simp [StableHlo.binaryIndexed_result_read, StableHlo.indexContents_cons, StableHlo.indexContents_empty, cast_eq]
  exact WordCmp.dynamicUpdateSlice_eq_update _ _ _ _ _ _ (start c _ 512 (word_512 c) rfl)

/-- The arguments are not written. -/
theorem host_kept (k : Fin 10) : StableHlo.after (hostOps1 (F := F) c) V (arrays (.inl k)) = V (arrays (.inl k)) := by
  fin_cases k <;> after_reads_simp

end Host

/-- Every run of the program ends with each result at its block of the reference's array, and with the halves as they
were. -/
theorem run_value (m : (ℓ : Loc nD τ sig) → Buf (Elt F) ℓ) (ρ : Dev nD → PrngReg)
    (x0 : (⟨2, ![16384, 1424]⟩ : Shape).Idx → Elt F .f32)
    (x1 : (⟨2, ![4096, 1536]⟩ : Shape).Idx → Elt F .f32)
    (x2 : (⟨2, ![2048, 2048]⟩ : Shape).Idx → Elt F .f32)
    (x3 : (⟨2, ![4096, 4096]⟩ : Shape).Idx → Elt F .f32)
    (x4 : (⟨2, ![16384, 4096]⟩ : Shape).Idx → Elt F .f32)
    (x5 : (⟨2, ![4096, 4096]⟩ : Shape).Idx → Elt F .f32)
    (x6 : (⟨2, ![16384, 3072]⟩ : Shape).Idx → Elt F .f32)
    (x7 : (⟨2, ![4096, 4096]⟩ : Shape).Idx → Elt F .f32)
    (x8 : (⟨2, ![16384, 3072]⟩ : Shape).Idx → Elt F .f32)
    (x9 : (⟨2, ![4096, 4096]⟩ : Shape).Idx → Elt F .f32)
    (hin : ∀ c : Dev nD,
      m (c.tc.loc main_arg0) = Layout.block ⟨2, ![2048, 1424]⟩ ⟨2, ![16384, 1424]⟩ 0 8 c x0
      ∧ m (c.tc.loc main_arg1) = Layout.block ⟨2, ![512, 1536]⟩ ⟨2, ![4096, 1536]⟩ 0 8 c x1
      ∧ m (c.tc.loc main_arg2) = Layout.block ⟨2, ![256, 2048]⟩ ⟨2, ![2048, 2048]⟩ 0 8 c x2
      ∧ m (c.tc.loc main_arg3) = Layout.block ⟨2, ![512, 4096]⟩ ⟨2, ![4096, 4096]⟩ 0 8 c x3
      ∧ m (c.tc.loc main_arg4) = Layout.block ⟨2, ![2048, 4096]⟩ ⟨2, ![16384, 4096]⟩ 0 8 c x4
      ∧ m (c.tc.loc main_arg5) = Layout.block ⟨2, ![512, 4096]⟩ ⟨2, ![4096, 4096]⟩ 0 8 c x5
      ∧ m (c.tc.loc main_arg6) = Layout.block ⟨2, ![2048, 3072]⟩ ⟨2, ![16384, 3072]⟩ 0 8 c x6
      ∧ m (c.tc.loc main_arg7) = Layout.block ⟨2, ![512, 4096]⟩ ⟨2, ![4096, 4096]⟩ 0 8 c x7
      ∧ m (c.tc.loc main_arg8) = Layout.block ⟨2, ![2048, 3072]⟩ ⟨2, ![16384, 3072]⟩ 0 8 c x8
      ∧ m (c.tc.loc main_arg9) = Layout.block ⟨2, ![512, 4096]⟩ ⟨2, ![4096, 4096]⟩ 0 8 c x9) :
    θ_run (defs (F := F)) (onTc (τ := τ) (main (F := F))) ⟨m, fun _ => 0, ρ⟩ (fun r => ∀ c : Dev nD,
      r.2.mem (c.tc.loc main_v10) = Layout.blockN ⟨2, ![4096, 1424]⟩ ⟨2, ![16384, 1424]⟩ (Layout.meshBlock [2, 2, 2] ![[0, 1], []] c) x0
      ∧ r.2.mem (c.tc.loc main_v15) = Layout.blockN ⟨2, ![1024, 1536]⟩ ⟨2, ![4096, 1536]⟩ (Layout.meshBlock [2, 2, 2] ![[0, 1], []] c) x1
      ∧ r.2.mem (c.tc.loc main_v20) = Layout.blockN ⟨2, ![512, 2048]⟩ ⟨2, ![2048, 2048]⟩ (Layout.meshBlock [2, 2, 2] ![[0, 1], []] c) x2
      ∧ r.2.mem (c.tc.loc main_v25) = Layout.blockN ⟨2, ![1024, 4096]⟩ ⟨2, ![4096, 4096]⟩ (Layout.meshBlock [2, 2, 2] ![[0, 1], []] c) x3
      ∧ r.2.mem (c.tc.loc main_v30) = Layout.blockN ⟨2, ![4096, 4096]⟩ ⟨2, ![16384, 4096]⟩ (Layout.meshBlock [2, 2, 2] ![[0, 1], []] c) x4
      ∧ r.2.mem (c.tc.loc main_v35) = Layout.blockN ⟨2, ![1024, 4096]⟩ ⟨2, ![4096, 4096]⟩ (Layout.meshBlock [2, 2, 2] ![[0, 1], []] c) x5
      ∧ r.2.mem (c.tc.loc main_v40) = Layout.blockN ⟨2, ![4096, 3072]⟩ ⟨2, ![16384, 3072]⟩ (Layout.meshBlock [2, 2, 2] ![[0, 1], []] c) x6
      ∧ r.2.mem (c.tc.loc main_v45) = Layout.blockN ⟨2, ![1024, 4096]⟩ ⟨2, ![4096, 4096]⟩ (Layout.meshBlock [2, 2, 2] ![[0, 1], []] c) x7
      ∧ r.2.mem (c.tc.loc main_v50) = Layout.blockN ⟨2, ![4096, 3072]⟩ ⟨2, ![16384, 3072]⟩ (Layout.meshBlock [2, 2, 2] ![[0, 1], []] c) x8
      ∧ r.2.mem (c.tc.loc main_v55) = Layout.blockN ⟨2, ![1024, 4096]⟩ ⟨2, ![4096, 4096]⟩ (Layout.meshBlock [2, 2, 2] ![[0, 1], []] c) x9
      ∧ ∀ k, r.2.mem (c.tc.loc (arrays (.inl k))) = m (c.tc.loc (arrays (.inl k)))) := by
  refine (θ_run defs _ _).mono (fun r ⟨⟨V, hV, hr⟩, _⟩ c => ?_) (run_main m ρ)
  have un : ∀ i, ¬ (arrays i).isScoped := by decide
  have own (k : Fin 10) : HostTail.spread (V c) (fun b => m (c, b)) (arrays (.inl k)) = m (c.tc.loc (arrays (.inl k))) :=
    (HostTail.spread_ref _ _ _).trans (argument_kept hV c k)
  have got (k : Fin 10) : HostTail.spread (V c) (fun b => m (c, b)) (arrays (.inr k)) = V c (arrays (.inr k)) := HostTail.spread_ref _ _ _
  refine ⟨(hr c main_v10 (by decide)).trans ((host0 _ c).trans ?_), (hr c main_v15 (by decide)).trans ((host1 _ c).trans ?_), (hr c main_v20 (by decide)).trans ((host2 _ c).trans ?_), (hr c main_v25 (by decide)).trans ((host3 _ c).trans ?_), (hr c main_v30 (by decide)).trans ((host4 _ c).trans ?_), (hr c main_v35 (by decide)).trans ((host5 _ c).trans ?_), (hr c main_v40 (by decide)).trans ((host6 _ c).trans ?_), (hr c main_v45 (by decide)).trans ((host7 _ c).trans ?_), (hr c main_v50 (by decide)).trans ((host8 _ c).trans ?_), (hr c main_v55 (by decide)).trans ((host9 _ c).trans ?_),
    fun k => (hr c _ (un (.inl k))).trans ((host_kept _ c k).trans (own k))⟩
  · refine (congrArg₂ (fun a b => updateSlice (s := ⟨2, ![4096, 1424]⟩) (u := ⟨2, ![2048, 1424]⟩) a b _ (sides_2048_1424.fits c)) (got 0) (own 0)).trans ?_
    exact joined sides_2048_1424 x0 c (fun d => m (d.tc.loc main_arg0)) (fun d => (hin d).1) _ k0_off1 k0_off1_inb k0_off1_eq (landed hV c 0)
  · refine (congrArg₂ (fun a b => updateSlice (s := ⟨2, ![1024, 1536]⟩) (u := ⟨2, ![512, 1536]⟩) a b _ (sides_512_1536.fits c)) (got 1) (own 1)).trans ?_
    exact joined sides_512_1536 x1 c (fun d => m (d.tc.loc main_arg1)) (fun d => (hin d).2.1) _ k0_off2 k0_off2_inb k0_off2_eq (landed hV c 1)
  · refine (congrArg₂ (fun a b => updateSlice (s := ⟨2, ![512, 2048]⟩) (u := ⟨2, ![256, 2048]⟩) a b _ (sides_256_2048.fits c)) (got 2) (own 2)).trans ?_
    exact joined sides_256_2048 x2 c (fun d => m (d.tc.loc main_arg2)) (fun d => (hin d).2.2.1) _ k0_off3 k0_off3_inb k0_off3_eq (landed hV c 2)
  · refine (congrArg₂ (fun a b => updateSlice (s := ⟨2, ![1024, 4096]⟩) (u := ⟨2, ![512, 4096]⟩) a b _ (sides_512_4096.fits c)) (got 3) (own 3)).trans ?_
    exact joined sides_512_4096 x3 c (fun d => m (d.tc.loc main_arg3)) (fun d => (hin d).2.2.2.1) _ k0_off4 k0_off4_inb k0_off4_eq (landed hV c 3)
  · refine (congrArg₂ (fun a b => updateSlice (s := ⟨2, ![4096, 4096]⟩) (u := ⟨2, ![2048, 4096]⟩) a b _ (sides_2048_4096.fits c)) (got 4) (own 4)).trans ?_
    exact joined sides_2048_4096 x4 c (fun d => m (d.tc.loc main_arg4)) (fun d => (hin d).2.2.2.2.1) _ k0_off5 k0_off5_inb k0_off5_eq (landed hV c 4)
  · refine (congrArg₂ (fun a b => updateSlice (s := ⟨2, ![1024, 4096]⟩) (u := ⟨2, ![512, 4096]⟩) a b _ (sides_512_4096.fits c)) (got 5) (own 5)).trans ?_
    exact joined sides_512_4096 x5 c (fun d => m (d.tc.loc main_arg5)) (fun d => (hin d).2.2.2.2.2.1) _ k0_off4 k0_off4_inb k0_off4_eq (landed hV c 5)
  · refine (congrArg₂ (fun a b => updateSlice (s := ⟨2, ![4096, 3072]⟩) (u := ⟨2, ![2048, 3072]⟩) a b _ (sides_2048_3072.fits c)) (got 6) (own 6)).trans ?_
    exact joined sides_2048_3072 x6 c (fun d => m (d.tc.loc main_arg6)) (fun d => (hin d).2.2.2.2.2.2.1) _ k0_off6 k0_off6_inb k0_off6_eq (landed hV c 6)
  · refine (congrArg₂ (fun a b => updateSlice (s := ⟨2, ![1024, 4096]⟩) (u := ⟨2, ![512, 4096]⟩) a b _ (sides_512_4096.fits c)) (got 7) (own 7)).trans ?_
    exact joined sides_512_4096 x7 c (fun d => m (d.tc.loc main_arg7)) (fun d => (hin d).2.2.2.2.2.2.2.1) _ k0_off4 k0_off4_inb k0_off4_eq (landed hV c 7)
  · refine (congrArg₂ (fun a b => updateSlice (s := ⟨2, ![4096, 3072]⟩) (u := ⟨2, ![2048, 3072]⟩) a b _ (sides_2048_3072.fits c)) (got 8) (own 8)).trans ?_
    exact joined sides_2048_3072 x8 c (fun d => m (d.tc.loc main_arg8)) (fun d => (hin d).2.2.2.2.2.2.2.2.1) _ k0_off6 k0_off6_inb k0_off6_eq (landed hV c 8)
  · refine (congrArg₂ (fun a b => updateSlice (s := ⟨2, ![1024, 4096]⟩) (u := ⟨2, ![512, 4096]⟩) a b _ (sides_512_4096.fits c)) (got 9) (own 9)).trans ?_
    exact joined sides_512_4096 x9 c (fun d => m (d.tc.loc main_arg9)) (fun d => (hin d).2.2.2.2.2.2.2.2.2) _ k0_off4 k0_off4_inb k0_off4_eq (landed hV c 9)

end Cert.Joining

end
-- ==== Proof.Relay.lean ====
/-
Copies that are passed on.

Every device sends each of its source regions to three peers. What it receives from a peer it passes on to its mate: the
region in which the first copy lands is, once it has been waited for, what the second copy reads. Device by device: all
first copies are started; then, for every one of them, its landing here is waited for and the second copy started; then
the landings of the second copies and all sends are waited for.

A wait for a first landing happens while second copies are still owed, so the cells have two levels: landings of second
copies above all others.
-/
module

public import proofs.«01_k».proof.Proof.OneShotHost
public import Idealize.ShloMosaic.Lib.Ring.Trips

@[expose] public section

set_option Elab.async false

noncomputable section

namespace Cert.Relay

open Cert.OneShot
open Idealize.ShloMosaic
open Idealize.ShloMosaic.TcCoe
open Idealize.SL Idealize.SL.RA
open Idealize.SL.BI (sProp bigSep bigSep_sep' bigSep_mono bigSep_congr bigSepL bigSepL_map bigSepL_append bigSepL_mono)
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (PCfg WinFacts₀ OwnSemFacts pinD)

/-- A source region and which of the three peers it is sent to. -/
abbrev Hop (W : Type) : Type := W × Fin 3

/-- The copies of a relay. -/
structure Plan (nD : ℕ) (sig : RefSig) (W : Type) where
  shp : W → Shape
  elt : W → EltTy
  /-- what device `d` sends -/
  src : Dev nD → (w : W) → Memref sig .tc .hbm (shp w) (elt w)
  /-- where it lands, on every peer -/
  dst : Dev nD → (w : W) → Memref sig .tc .hbm (shp w) (elt w)
  /-- where device `d` finds what a peer sent it; the mate's copy of it has the same place -/
  mid : Dev nD → (k : Hop W) → Memref sig .tc .hbm (shp k.1) (elt k.1)
  peer : Dev nD → Hop W → Dev nD
  peer_peer : ∀ d k, peer (peer d k) k = d
  via : ∀ d k, mid d k = dst (peer d k) k.1
  mate : Dev nD → Hop W → Dev nD
  mate_mate : ∀ d k, mate (mate d k) k = d
  snd : Hop W ⊕ Hop W → DmaSem sig
  rcv : Hop W ⊕ Hop W → DmaSem sig
  sem_inj : Function.Injective (Sum.elim snd rcv : (Hop W ⊕ Hop W) ⊕ (Hop W ⊕ Hop W) → DmaSem sig)
  size : W → ℕ
  size_pos : ∀ w, 0 < size w
  size_dst : ∀ d w, (dst d w).view.dmaCredit = size w

variable {nD : ℕ} {τ : Topo} {sig : RefSig} {W : Type}

namespace Plan

variable (p : Plan nD sig W)

theorem size_mid (d : Dev nD) (k : Hop W) : (p.mid d k).view.dmaCredit = p.size k.1 := by
  rw [p.via, p.size_dst]

/-- The shapes and element types of all copies, first and second. -/
abbrev shape : Hop W ⊕ Hop W → Shape := Sum.elim (fun k => p.shp k.1) (fun k => p.shp k.1)
abbrev elem : Hop W ⊕ Hop W → EltTy := Sum.elim (fun k => p.elt k.1) (fun k => p.elt k.1)

/-- What the copies read. -/
def from_ (d : Dev nD) : (k : Hop W ⊕ Hop W) → Memref sig .tc .hbm (p.shape k) (p.elem k)
  | .inl k => p.src d k.1
  | .inr k => p.mid d k

/-- Where they land. -/
def into (d : Dev nD) : (k : Hop W ⊕ Hop W) → Memref sig .tc .hbm (p.shape k) (p.elem k)
  | .inl k => p.dst d k.1
  | .inr k => p.mid d k

/-- The devices they go to. -/
def goal (d : Dev nD) : Hop W ⊕ Hop W → Dev nD := Sum.elim (p.peer d) (p.mate d)

/-- All copies, as one network. -/
def net : Net nD sig (Hop W ⊕ Hop W) where
  shp := p.shape
  elt := p.elem
  src := p.from_
  dst := p.into
  peer := p.goal
  peer_peer d k := by rcases k with k | k; exacts [p.peer_peer d k, p.mate_mate d k]
  snd := p.snd
  rcv := p.rcv
  sem_inj := p.sem_inj
  N := Sum.elim (fun k => p.size k.1) (fun k => p.size k.1)
  N_pos k := by rcases k with k | k <;> exact p.size_pos _
  credit d k := by rcases k with k | k; exacts [p.size_dst d k.1, p.size_mid d k]

end Plan

section Logic

variable [Fintype W] [DecidableEq W] (p : Plan nD sig W)
variable {Val : EltTy → Type} {U : Type} [URA U]

local notation "𝕄" => MT nD τ sig Unit Val ℕ U ℕ

variable (ER : Emb (URounds (GSem nD τ sig) Unit) (MT nD τ sig Unit Val ℕ U ℕ)) [ER.LandsIn (upEmb : UEmb _ (MT nD τ sig Unit Val ℕ U ℕ))]
variable (V m : (d : Dev nD) → (b : Ref sig .tc) → Buf Val ((d : Thread nD τ).loc b))

/-- A first copy reads a third of a source region's share, a second copy the whole of what has landed. -/
def shares : Hop W ⊕ Hop W → PosShare TreeShare := Sum.elim (fun k => shares3 fullShare k.2) (fun _ => fullShare)

omit [Fintype W] [DecidableEq W] in
/-- What a second copy reads is where the first one has landed. -/
theorem passed_on (f : (d : Dev nD) → (b : Ref sig .tc) → Buf Val ((d : Thread nD τ).loc b)) (d : Dev nD) (k : Hop W) :
    (srcPts p.net f shares d (.inr k) : sProp 𝕄) = landPts p.net f d (.inl k) :=
  congrArg (fun μ : Memref sig .tc .hbm (p.shp k.1) (p.elt k.1) =>
    (μ.view.loc (d : Thread nD τ) ↦[μ.view.set]{fullShare} f d μ.view.ref : sProp 𝕄)) (p.via d k)

omit [DecidableEq W] in
/-- The three peers' shares of a source region are all of it. -/
theorem shared (f : (d : Dev nD) → (b : Ref sig .tc) → Buf Val ((d : Thread nD τ).loc b)) (d : Dev nD) :
    (bigSep Finset.univ fun k : Hop W => srcPts p.net f shares d (.inl k) : sProp 𝕄)
      = bigSep Finset.univ fun w : W => (p.src d w).view.loc (d : Thread nD τ) ↦[(p.src d w).view.set]{fullShare} f d (p.src d w).view.ref := by
  rw [BI.bigSep_univ_prod]
  refine bigSep_congr fun w _ => ?_
  have h := pointsTo_thirds (nD := nD) (τ := τ) (sig := sig) (Ix := Unit) (Val := Val) (Name := ℕ) (U := U) (Lvl := ℕ)
    (ℓ := (p.src d w).view.loc (d : Thread nD τ)) (I := (p.src d w).view.set) fullShare (f d (p.src d w).view.ref)
  refine Eq.trans ?_ (BI.equiv_iff.mp ⟨h.1, h.2⟩).symm
  rw [BI.bigSep_univ_eq_bigSepL [0, 1, 2] (by decide) (by decide)]
  rfl

section Body

variable {Λ : Labels} (defs : Defs nD τ sig Val Λ) (𝒱 : Variants)

/-- The landings of second copies that are still owed for a list of first landings. -/
def debt (d : Dev nD) (l : List (Hop W)) : CellTallies nD τ sig Unit := (l.map fun k => due p.net d (.inr k)).sum

variable {p defs 𝒱}

/-- The wait for a first landing and the start of its second copy, before the rest of the program. -/
def pass {d : Dev nD} (cd : Code (τ := τ) (U := U) p.net defs 𝒱 d) (k : Hop W) (rest : Prog (TpuEff nD τ sig Val Λ .tc) PUnit) : Prog (TpuEff nD τ sig Val Λ .tc) PUnit :=
  cd.await (.inr (.inl k)) (cd.start (.inr k) rest)

/-- Passing on a list of copies. -/
theorem wp_passes {d : Dev nD} (cd : Code (τ := τ) (U := U) p.net defs 𝒱 d) (hV : Lands p.net V) (K) (Γ : sProp 𝕄) [BI.Persistent Γ]
    (hM : ∀ k (l : List (Hop W)), Γ ⊢ MayWait (d : Thread nD τ) (p.net.osem (.inr (.inl k))) () (debt p d l)) (l : List (Hop W)) (rest) (Q : PUnit → sProp 𝕄) :
    iprop((records p.net ER V shares K ∗ Γ)
        ∗ bigSepL l (fun k => iprop((paid p.net (d, .inr (.inl k)) ∗ before p.net ER (d, .inr (.inl k))) ∗ ticket p.net ER m d (.inr k)))
        ∗ owing' d (debt p d l))
      ⊢ iprop(((bigSepL l (fun k => iprop(after p.net ER (d, .inr (.inl k)) ∗ paid p.net (d, .inl (.inr k)))) ∗ owing' d (debt p d []))
          -∗ wp frame (wpE defs 𝒱 (d : Thread nD τ) none) Set.univ rest Q)
        -∗ wp frame (wpE defs 𝒱 (d : Thread nD τ) none) Set.univ (l.foldr (pass cd) rest) Q) := by
  refine wp_list defs 𝒱 (d : Thread nD τ) iprop(records p.net ER V shares K ∗ Γ) _ _ (fun l => owing' d (debt p d l)) (pass cd) Q (fun k l rest => ?_) l rest
  have h1 := wp_wait p.net ER V shares defs 𝒱 K d (.inr (.inl k)) (debt p d (k :: l)) (w := cd.wait (.inr (.inl k))) (cd.hwait (.inr (.inl k))) (Q := Q)
    (rest := fun _ => cd.start (.inr k) rest)
  have h2 := wp_start p.net ER V shares defs 𝒱 hV K m d (.inr k) (debt p d l) (hsc := cd.hsc (.inr k)) (hsrc := cd.hsrc (.inr k)) (hdst := cd.hdst (.inr k)) (hsem := cd.hsem (.inr k))
    (Q := Q) (rest := fun _ => rest)
  have hd : debt (τ := τ) p d (k :: l) = due p.net d (.inr k) + debt p d l := by unfold debt; rw [List.map_cons, List.sum_cons]
  unfold pass Code.await
  iintro ⟨⟨#HR, #HΓ⟩, ⟨⟨Hp, Hb⟩, Ht⟩, HO⟩ Hk
  iapply h1 $$ [Hp Hb HO]
  · isplitr; · iexact HR
    isplitl [Hp Hb]
    · isplitl [Hp] <;> iassumption
    isplitr; · iapply (hM k (k :: l)); iexact HΓ
    iexact HO
  rw [hd]
  iintro ⟨⟨Hpay, Ha⟩, HO⟩
  ihave Hs := (show OneShot.pay p.net V shares (d, .inr (.inl k)) ⊢ srcPts p.net V shares d (.inr k) from Entails.of_eq (passed_on p V d k).symm) $$ Hpay
  unfold Code.start
  iapply h2 $$ [Hs Ht HO]
  · isplitr; · iexact HR
    isplitl [Hs Ht]
    · isplitl [Hs] <;> iassumption
    iexact HO
  iintro ⟨Hps, HO⟩
  iapply Hk
  isplitr [HO]
  · isplitl [Ha] <;> iassumption
  iexact HO

/-- A device that starts its first copies, passes on what it receives, and waits for all the rest ends with its source
    regions back, all landing regions at their final contents, all counters at zero and nothing owed. -/
theorem body {d : Dev nD} (cd : Code (τ := τ) (U := U) p.net defs 𝒱 d) (hV : Lands p.net V) (Γ : sProp 𝕄) [BI.Persistent Γ]
    (hM : ∀ k (l : List (Hop W)), Γ ⊢ MayWait (d : Thread nD τ) (p.net.osem (.inr (.inl k))) () (debt p d l))
    (l : List (Hop W)) (h : Finset.univ = l.toFinset) (hl : l.Nodup) :
    iprop(Γ ∗ hand p.net ER V shares m d ∗ (bigSep Finset.univ fun k => srcPts p.net V shares d (.inl k))
        ∗ (bigSep Finset.univ fun k => paid p.net (d, .inr k)) ∗ owing' d (dues p.net d))
      ⊢ wp frame (wpE defs 𝒱 (d : Thread nD τ) none) Set.univ
          ((l.map .inl).foldr cd.start (l.foldr (pass cd) ((l.map fun k => .inr (.inr k)).foldr cd.await ((l.map Sum.inl ++ l.map Sum.inr).foldr (fun k => cd.await (.inl k)) (.ret ⟨⟩)))))
        fun _ => iprop((bigSep Finset.univ fun k => srcPts p.net V shares d (.inl k)) ∗ (bigSep Finset.univ fun k => landPts p.net V d k)
          ∗ (bigSep Finset.univ fun x => semVal (p.net.kcell (d, x)) 0) ∗ owing' d 0) := by
  have hsum (Φ : Hop W ⊕ Hop W → sProp 𝕄) : bigSep Finset.univ Φ = iprop(bigSepL l (fun k => Φ (.inl k)) ∗ bigSepL l fun k => Φ (.inr k)) := by
    rw [both, BI.bigSep_univ_eq_bigSepL l h hl, BI.bigSep_univ_eq_bigSepL l h hl]
  have hpair (Φ Ψ : Hop W → sProp 𝕄) : bigSepL l (fun k => iprop(Φ k ∗ Ψ k)) = iprop(bigSepL l Φ ∗ bigSepL l Ψ) := by
    simp only [← BI.bigSep_univ_eq_bigSepL l h hl]
    exact bigSep_sep' _ _ _
  have hall (Φ : (Hop W ⊕ Hop W) ⊕ (Hop W ⊕ Hop W) → sProp 𝕄) : bigSep Finset.univ Φ
      = iprop((bigSepL l (fun k => Φ (.inl (.inl k))) ∗ bigSepL l fun k => Φ (.inl (.inr k))) ∗ (bigSepL l (fun k => Φ (.inr (.inl k))) ∗ bigSepL l fun k => Φ (.inr (.inr k)))) := by
    rw [both, hsum, hsum]
  have hdues : dues (τ := τ) p.net d = ((l.map Sum.inl).map (due p.net d)).sum + debt p d l := by
    unfold dues debt
    rw [Fintype.sum_sum_type, h, List.sum_toFinset _ hl, List.sum_toFinset _ hl, List.map_map]
    rfl
  have hnone : debt (τ := τ) p d [] = 0 := rfl
  unfold hand
  iintro ⟨#HΓ, ⟨%K, #HR, Hb, Ht⟩, Hs, Hp, HO⟩
  ihave Hb := (Entails.of_eq (hall _)) $$ Hb
  ihave Ht := (Entails.of_eq (hsum _)) $$ Ht
  ihave Hp := (Entails.of_eq (hsum _)) $$ Hp
  ihave Hs := (Entails.of_eq (BI.bigSep_univ_eq_bigSepL l h hl _)) $$ Hs
  icases Hb with ⟨⟨Hb1, Hb2⟩, Hb3, Hb4⟩
  icases Ht with ⟨Ht1, Ht2⟩
  icases Hp with ⟨Hp1, Hp2⟩
  iapply (wp_starts ER V shares m cd hV K (debt p d l) (l.map .inl) _ _) $$ [Hs Ht1 HO]
  · isplitr; · iexact HR
    isplitl [Hs Ht1]
    · rw [bigSepL_map, hpair]
      isplitl [Hs] <;> iassumption
    · rw [← hdues]; iexact HO
  rw [bigSepL_map]
  iintro ⟨Hq1, HO⟩
  iapply (wp_passes ER V m cd hV K Γ hM l _ _) $$ [Hp1 Hb3 Ht2 HO]
  · isplitr
    · isplitr
      · iexact HR
      · iexact HΓ
    isplitl [Hp1 Hb3 Ht2]
    · rw [hpair, hpair]
      isplitl [Hp1 Hb3]
      · isplitl [Hp1] <;> iassumption
      · iexact Ht2
    · iexact HO
  rw [hnone, hpair]
  iintro ⟨⟨Ha3, Hq2⟩, HO⟩
  iapply (wp_waits ER V shares cd K 0 iprop(emp) (l.map fun k => .inr (.inr k)) (no_debt d) _ _) $$ [Hp2 Hb4 HO]
  · isplitr
    · isplitr; · iexact HR
      iempintro
    isplitl [Hp2 Hb4]
    · rw [bigSepL_map, hpair]
      isplitl [Hp2] <;> iassumption
    · iexact HO
  rw [bigSepL_map, hpair]
  iintro ⟨⟨Hl2, Ha4⟩, HO⟩
  have hw := wp_waits ER V shares cd K 0 iprop(emp) ((l.map Sum.inl ++ l.map Sum.inr).map Sum.inl) (no_debt d) (.ret ⟨⟩)
    (fun _ => iprop((bigSep Finset.univ fun k => srcPts p.net V shares d (.inl k)) ∗ (bigSep Finset.univ fun k => landPts p.net V d k)
          ∗ (bigSep Finset.univ fun x => semVal (p.net.kcell (d, x)) 0) ∗ owing' d 0))
  rw [List.foldr_map] at hw
  iapply hw $$ [Hq1 Hq2 Hb1 Hb2 HO]
  · isplitr
    · isplitr; · iexact HR
      iempintro
    isplitl [Hq1 Hq2 Hb1 Hb2]
    · rw [bigSepL_map, bigSepL_append, bigSepL_map, bigSepL_map, hpair, hpair]
      isplitl [Hq1 Hb1]
      · isplitl [Hq1] <;> iassumption
      · isplitl [Hq2] <;> iassumption
    · iexact HO
  rw [bigSepL_map, bigSepL_append, bigSepL_map, bigSepL_map, hpair, hpair]
  iintro ⟨⟨⟨Hs1, Ha1⟩, Hs2, Ha2⟩, HO⟩
  rw [wp_ret]
  imod (close_cells p.net ER V shares K d) $$ [Ha1 Ha2 Ha3 Ha4] with Hz
  · isplitr; · iexact HR
    iapply (Entails.of_eq (hall _).symm)
    isplitl [Ha1 Ha2]
    · isplitl [Ha1] <;> iassumption
    · isplitl [Ha3] <;> iassumption
  imodintro
  isplitl [Hs1]
  · iapply (Entails.of_eq (BI.bigSep_univ_eq_bigSepL l h hl _).symm); iexact Hs1
  isplitl [Hs2 Hl2]
  · iapply (Entails.of_eq (hsum _).symm)
    isplitl [Hs2]
    · iapply (show bigSepL l (fun k => pay p.net V shares (d, .inl (.inr k))) ⊢ bigSepL l fun k => landPts p.net V d (.inl k) from
        bigSepL_mono fun k _ => Entails.of_eq (passed_on p V d k))
      iexact Hs2
    · iexact Hl2
  isplitl [Hz]; · iexact Hz
  iexact HO

end Body

end Logic

/-! ## What the copies leave -/

section Contents

variable [Fintype W] [DecidableEq W] (p : Plan nD sig W)
variable {Val : EltTy → Type}

/-- The arrays of a device's regions: those it sends, then those in which copies land. -/
def pref (d : Dev nD) : W ⊕ (Hop W ⊕ Hop W) → Ref sig .tc
  | .inl w => (p.src d w).view.ref
  | .inr k => lref p.net d k

/-- The regions. -/
def pset (d : Dev nD) : (i : W ⊕ (Hop W ⊕ Hop W)) → Finset (pref p d i).ty.Idx
  | .inl w => (p.src d w).view.set
  | .inr k => lset p.net d k

/-- `V` is `m` after the copies: what lands first is what a peer held, what lands second is what the mate then holds, all
    else is unchanged. -/
structure Passed (m V : (d : Dev nD) → (b : Ref sig .tc) → Buf Val ((d : Thread nD τ).loc b)) : Prop where
  first : ∀ d k, (p.dst (p.peer d k) k.1).view.read Val (V d (p.dst (p.peer d k) k.1).view.ref)
    = (p.src (p.peer d k) k.1).view.read Val (m (p.peer d k) (p.src (p.peer d k) k.1).view.ref)
  second : ∀ d k, (p.mid (p.mate d k) k).view.read Val (V d (p.mid (p.mate d k) k).view.ref)
    = (p.mid (p.mate d k) k).view.read Val (V (p.mate d k) (p.mid (p.mate d k) k).view.ref)
  off : ∀ d b x, x ∉ Pieces.used (lref p.net d) (lset p.net d) b → V d b x = m d b x

variable {p}

/-- An element of the landing region of one copy is in no other copy's. -/
theorem not_other {d : Dev nD} {L : Type} [Fintype L] (g : L → Hop W ⊕ Hop W) (hA : Pieces.Apart (pref p d) (pset p d)) (i : W ⊕ (Hop W ⊕ Hop W))
    (hi : ∀ k, i ≠ .inr (g k)) (x : (pref p d i).ty.Idx) (hx : x ∈ pset p d i) :
    x ∉ Pieces.used (fun k => lref p.net d (g k)) (fun k => lset p.net d (g k)) (pref p d i) := fun hu => by
  obtain ⟨k, hk, hx'⟩ := Finset.mem_biUnion.mp hu
  have hk := (Finset.mem_filter.mp hk).2
  unfold Pieces.part at hx'
  rw [dif_pos hk] at hx'
  exact Finset.disjoint_left.mp (hA i (.inr (g k)) hk (hi k)) hx hx'

theorem used_wave {d : Dev nD} {L : Type} [Fintype L] (g : L → Hop W ⊕ Hop W) {b : Ref sig .tc} {x : b.ty.Idx}
    (hx : x ∉ Pieces.used (lref p.net d) (lset p.net d) b) : x ∉ Pieces.used (fun k => lref p.net d (g k)) (fun k => lset p.net d (g k)) b := fun hu => by
  obtain ⟨k, hk, hx'⟩ := Finset.mem_biUnion.mp hu
  exact hx (Finset.mem_biUnion.mpr ⟨g k, Finset.mem_filter.mpr ⟨Finset.mem_univ _, (Finset.mem_filter.mp hk).2⟩, hx'⟩)

theorem Passed.exists (hA : ∀ d, Pieces.Apart (pref p d) (pset p d)) (m : (d : Dev nD) → (b : Ref sig .tc) → Buf Val ((d : Thread nD τ).loc b)) :
    ∃ V, Passed (τ := τ) p m V := by
  have apart (d : Dev nD) (g : Hop W → Hop W ⊕ Hop W) (hg : Function.Injective g) : Pieces.Apart (fun k => lref p.net d (g k)) (fun k => lset p.net d (g k)) :=
    fun i j h e => hA d (.inr (g i)) (.inr (g j)) h fun e' => e (hg (Sum.inr_injective e'))
  choose V₁ h₁ off₁ using fun d => Pieces.exists_contents (fun k : Hop W => (p.dst (p.peer d k) k.1).view)
    (fun k => (p.src (p.peer d k) k.1).view.read Val (m (p.peer d k) (p.src (p.peer d k) k.1).view.ref)) (apart d .inl Sum.inl_injective) (m d)
  choose V h off using fun d => Pieces.exists_contents (fun k : Hop W => (p.mid (p.mate d k) k).view)
    (fun k => (p.mid (p.mate d k) k).view.read Val (V₁ (p.mate d k) (p.mid (p.mate d k) k).view.ref)) (apart d .inr Sum.inr_injective) (V₁ d)
  have same (d : Dev nD) (k : Hop W) : (p.dst (p.peer d k) k.1).view.read Val (V d (p.dst (p.peer d k) k.1).view.ref)
      = (p.dst (p.peer d k) k.1).view.read Val (V₁ d (p.dst (p.peer d k) k.1).view.ref) :=
    View.read_congr fun x hx => off d (p.dst (p.peer d k) k.1).view.ref x (not_other (p := p) (d := d) Sum.inr (hA d) (.inr (.inl k)) (fun _ e => by injection e with e; injection e) x hx)
  refine ⟨V, fun d k => (same d k).trans (h₁ d k), fun d k => (h d k).trans ?_, fun d b x hx => (off d b x (used_wave (p := p) Sum.inr hx)).trans (off₁ d b x (used_wave (p := p) Sum.inl hx))⟩
  have e : ∀ e : Dev nD, (p.mid e k).view.read Val (V e (p.mid e k).view.ref) = (p.mid e k).view.read Val (V₁ e (p.mid e k).view.ref) := fun e => by
    rw [p.via]; exact same e k
  exact (e _).symm

variable {m V : (d : Dev nD) → (b : Ref sig .tc) → Buf Val ((d : Thread nD τ).loc b)}

/-- What first copies read is unchanged. -/
theorem Passed.source (h : Passed p m V) (hA : ∀ d, Pieces.Apart (pref p d) (pset p d)) (d : Dev nD) (w : W) :
    ∀ x ∈ (p.src d w).view.set, V d (p.src d w).view.ref x = m d (p.src d w).view.ref x := fun x hx =>
  h.off d (p.src d w).view.ref x (not_other (p := p) (d := d) id (hA d) (.inl w) (fun _ e => by injection e) x hx)

theorem Passed.Lands (h : Passed p m V) (hA : ∀ d, Pieces.Apart (pref p d) (pset p d)) : Lands p.net V := fun d k => by
  rcases k with k | k
  · have h1 := h.first (p.peer d k) k
    rw [p.peer_peer] at h1
    refine Eq.trans h1 (View.read_congr fun x hx => (h.source hA d k.1 x hx).symm)
  · have h1 := h.second (p.mate d k) k
    rw [p.mate_mate] at h1
    exact h1

/-- An array in which nothing lands is unchanged. -/
theorem Passed.same (h : Passed p m V) (d : Dev nD) (b : Ref sig .tc) (hb : ∀ k, lref p.net d k ≠ b) : V d b = m d b :=
  funext fun x => h.off d b x fun hu => by
    obtain ⟨i, hi, -⟩ := Finset.mem_biUnion.mp hu
    exact hb i (Finset.mem_filter.mp hi).2

end Contents

/-! ## The run -/

section Run

variable [Fintype W] [DecidableEq W] {p : Plan nD sig W}
variable {Val : EltTy → Type}

local notation "𝕄" => MT nD τ sig Unit Val ℕ (Gh nD τ sig) ℕ

open Classical in
/-- The levels: landings of second copies above all else. -/
def level (p : Plan nD sig W) (g : GSem nD τ sig) (_ : Unit) : ℕ := if ∃ d k, g = p.net.rCell d (.inr k) then 1 else 0

/-- Owing landings of second copies, a device may wait for the landing of a first one. -/
theorem may_wait (d : Dev nD) (k : Hop W) (l : List (Hop W)) :
    (levAts (fun g : GSem nD τ sig => if g.1.2 = .tc then {()} else ∅) (level p) : sProp 𝕄)
      ⊢ MayWait (d : Thread nD τ) (p.net.osem (.inr (.inl k))) () (debt p d l) := by
  have owed (g : GSem nD τ sig) (u : Unit) (hg : 0 < debt (τ := τ) p d l g u) : ∃ e k, g = p.net.rCell e (.inr k) := by
    unfold debt at hg
    induction l with
    | nil => exact absurd hg (Nat.lt_irrefl 0)
    | cons k l ih =>
      rw [List.map_cons, List.sum_cons] at hg
      by_cases h : g = p.net.rCell (p.net.peer d (.inr k)) (.inr k)
      · exact ⟨_, _, h⟩
      · refine ih (lt_of_lt_of_eq hg ?_)
        show (due p.net d (.inr k)) g u + _ = _
        unfold due
        rw [tallyAt_apply, if_neg fun h' => h h'.1, Nat.zero_add]
  refine MayOwe.of_cut 0 (fun q hq => ?_) (fun g u hg => ?_) (fun q hq => ?_) fun g u hg => ?_
  · rw [if_pos rfl]; exact Finset.mem_singleton_self _
  · obtain ⟨e, k', rfl⟩ := owed g u hg
    exact Finset.mem_singleton_self ()
  · obtain rfl := Finset.mem_singleton.mp hq
    refine le_of_eq (if_neg ?_)
    rintro ⟨e, k', h⟩
    have h := p.net.kcell_injective (τ := τ) (a₁ := (d, .inr (.inl k))) (a₂ := (e, .inr (.inr k'))) h
    have h := Sum.inr_injective (congrArg Prod.snd h)
    exact Sum.inl_ne_inr h
  · obtain ⟨e, k', rfl⟩ := owed g u hg
    exact lt_of_lt_of_eq Nat.one_pos (if_pos ⟨e, k', rfl⟩).symm

/-- All arrays of a device: what it sends, the landing regions, the rest. -/
theorem arrays_cut (hA : ∀ d, Pieces.Apart (pref p d) (pset p d)) (hr : ∀ d i, ¬ (pref p d i).isScoped) (d : Dev nD)
    (f : (d : Dev nD) → (b : Ref sig .tc) → Buf Val ((d : Thread nD τ).loc b)) :
    (unscopedBufs d (f d) : sProp 𝕄) = iprop(((bigSep Finset.univ fun k => srcPts p.net f shares d (.inl k))
      ∗ bigSep Finset.univ fun k => landPts p.net f d k) ∗ Pieces.left (pref p d) (pset p d) d (f d)) := by
  rw [Pieces.arrays_eq (pref p d) (pset p d) d (f d) (hA d) (hr d), shared]
  congr 1
  exact BI.bigSep_univ_sum (fun i => Pieces.held (pref p d) (pset p d) d (f d) i)

variable {m V : (d : Dev nD) → (b : Ref sig .tc) → Buf Val ((d : Thread nD τ).loc b)}

theorem used_landings {d : Dev nD} {b : Ref sig .tc} {x : b.ty.Idx} (hx : x ∉ Pieces.used (pref p d) (pset p d) b) :
    x ∉ Pieces.used (lref p.net d) (lset p.net d) b := fun hu => by
  obtain ⟨i, hi, hx'⟩ := Finset.mem_biUnion.mp hu
  exact hx (Finset.mem_biUnion.mpr ⟨.inr i, Finset.mem_filter.mpr ⟨Finset.mem_univ _, (Finset.mem_filter.mp hi).2⟩, hx'⟩)

theorem Passed.left_eq (h : Passed p m V) (d : Dev nD) :
    (Pieces.left (pref p d) (pset p d) d (V d) : sProp 𝕄) = Pieces.left (pref p d) (pset p d) d (m d) :=
  Pieces.left_congr _ _ _ fun b _ x hx => h.off d b x (used_landings hx)

theorem Passed.srcPts_eq (h : Passed p m V) (hA : ∀ d, Pieces.Apart (pref p d) (pset p d)) (d : Dev nD) (k : Hop W) :
    (srcPts p.net V shares d (.inl k) : sProp 𝕄) = srcPts p.net m shares d (.inl k) :=
  pointsTo_congr fun x hx => h.source hA d k.1 x hx

variable {Λ₀ : Idealize.SL.Sem.Labels} {P : Type} [Fintype P] [DecidableEq P]
variable (pcs : P → PCfg sig Λ₀ Val) (a : Dev nD → (p : P) → (pcs p).Adm) [∀ p, IsEmpty (Fin (pcs p).W)] [∀ p, IsEmpty (Fin (pcs p).pre.K)]
variable (phinj : Function.Injective (Pipeline.PerCore.cellOf (nD := nD) (pinD pcs a))) (i : P)
  (hw : WinFacts₀ (pcs i).spec) (ho : OwnSemFacts (pcs i).spec p.net.osem) (hN : ∀ c, (pinD pcs a c i).N = 1)
  (defs₀ : Defs nD τ sig Val Λ₀) (𝒱₀ : Variants)

local notation "𝔻" => Pipeline.defs pcs defs₀

variable [∀ e, Nonempty (Val e)]

include phinj hw ho hN in
/-- The run of a program that is one relay and then a line of host operations. -/
theorem run_host (hA : ∀ d, Pieces.Apart (pref p d) (pset p d)) (hr : ∀ d i, ¬ (pref p d i).isScoped)
    (m : (ℓ : Loc nD τ sig) → Buf Val ℓ) (g : Dev nD → PrngReg) (ops : Dev nD → List (HloOp τ sig Val))
    (hsub : ∀ c, (ops c).Forall fun op => op.bufs ⊆ StableHlo.tcRefs τ sig) (hfresh : ∀ c, (ops c).Forall fun op => op.fresh = ∅)
    (main : Dev nD → Prog (TpuEff nD τ sig Val (Pipeline.Sig Λ₀ P fun p => (pcs p).Adm) .tc) PUnit)
    (hmain : ∀ c, main c = Pipeline.chain [Prog.lift (.customCall (Pipeline.entry i) ()), StableHlo.seq (ops c)])
    (hrest : ∀ c, (Pipeline.scopedRest (pinD pcs a c i).spec c : sProp 𝕄) = BI.emp)
    (hs : ∀ sm : SemLoc sig, sm.isScoped .tc = true)
    (cd : (d : Dev nD) → Code (U := Gh nD τ sig) p.net defs₀ 𝒱₀ d)
    (l : List (Hop W)) (hl : Finset.univ = l.toFinset) (hl' : l.Nodup)
    (hcode : ∀ (c : Dev nD) t (R : sProp 𝕄), wp frame (wpE defs₀ 𝒱₀ (c : Thread nD τ) none) Set.univ
        ((l.map .inl).foldr (cd c).start (l.foldr (pass (cd c)) ((l.map fun k => .inr (.inr k)).foldr (cd c).await ((l.map Sum.inl ++ l.map Sum.inr).foldr (fun k => (cd c).await (.inl k)) (.ret ⟨⟩))))) (fun _ => R)
      ⊢ wp frame (wpE defs₀ 𝒱₀ (c : Thread nD τ) none) Set.univ (defs₀ .tc (pinD pcs a c i).body ((pinD pcs a c i).bodyArgs t ((pinD pcs a c i).slots t))) fun _ => R) :
    θ_run 𝔻 (onTc main) ⟨m, fun _ => 0, g⟩ (fun r =>
      (∃ V, Passed p (seen m) V ∧ ∀ (c : Dev nD) (b : Ref sig .tc), ¬ b.isScoped → r.2.mem ((c : Thread nD τ).loc b) = outcome ops m V c b) ∧ r.2.sem = fun _ => 0) := by
  obtain ⟨V, hV⟩ := Passed.exists hA (seen m)
  refine run p.net V shares pcs a phinj i hw ho hN defs₀ 𝒱₀ m (fun g => if g.1.2 = .tc then {()} else ∅) (level p)
    (fun c => bigSep Finset.univ fun k => srcPts p.net V shares c (.inl k))
    (fun c => iprop((bigSep Finset.univ fun k => srcPts p.net V shares c (.inl k)) ∗ bigSep Finset.univ fun k => landPts p.net V c k))
    g (fun c => Pieces.left (pref p c) (pset p c) c (V c)) V (fun c b => outcome ops m V c b) main (fun c _ => Pipeline.chain [StableHlo.seq (ops c)])
    (fun c => (hmain c).trans rfl) (fun g hg => if_neg hg) hrest ?_ ?_ ?_ (fun c Q' => ?_)
    (fun s h h' => ⟨⟨V, hV, h⟩, sem_eq_zero_of_scoped hs h'⟩)
  · intro c t
    refine Entails.trans ?_ (hcode c t _)
    have h := body (netEmb nD τ sig Val) V (seen m) (cd c) (hV.Lands hA) (levAts (fun g : GSem nD τ sig => if g.1.2 = .tc then {()} else ∅) (level p))
      (may_wait c) l hl hl'
    refine Entails.trans ?_ (h.trans (wp_mono frame _ _ fun _ => ?_))
    · unfold start
      iintro ⟨⟨HL, HH, HA, HP⟩, HO⟩
      isplitl [HL]; · iexact HL
      isplitl [HH]; · iexact HH
      isplitl [HA]; · iexact HA
      isplitl [HP]; · iexact HP
      iexact HO
    · unfold finish
      iintro ⟨H1, H2, H3, H4⟩
      isplitr [H4]
      · isplitr [H3]
        · isplitl [H1]; · iexact H1
          iexact H2
        · iexact H3
      · iexact H4
  · intro c
    rw [arrays_cut hA hr c (seen m), hV.left_eq c, bigSep_congr (s := Finset.univ) fun k _ => hV.srcPts_eq hA c k]
    iintro ⟨⟨H1, H2⟩, H3⟩
    isplitr [H2]
    · isplitl [H1]; · iexact H1
      iexact H3
    · iexact H2
  · intro c
    rw [arrays_cut hA hr c V]
  · rw [show Pipeline.chain [StableHlo.seq (ops c)] = StableHlo.seq (ops c) from bind_pure _]
    exact HostTail.wp_tail _ _ c (ops c) (hsub c) (hfresh c) (V c) (fun b => m (c, b)) (owing' c 0) Q'

end Run

end Cert.Relay

end
-- ==== Proof.Gather.lean ====
/-
The gathering of the ten sharded weights on every device.

The two cores of a chip hold the same shard. Each core sends its half of the shard's rows to the same core of the three
other chips, and passes every half that it receives on to the other core of its own chip; then the own shard is copied
into the result at the own chip's index. This module states the sixty copies as a relay and runs the program.
-/
module

public import proofs.«01_k».proof.Proof.Relay
public import proofs.«01_k».proof.Proof.Slabs
public import proofs.«01_k».proof.Proof.Gen.GatherIdeal
public import proofs.«01_k».proof.Proof.Gen.GatherIdeal.Skeleton
public import proofs.«01_k».proof.Proof.Gen.GatherIdeal.Launch

@[expose] public section

noncomputable section

namespace Cert.Gathering

open Cert.GatherIdeal Cert.GatherIdeal.Gen Cert.OneShot Cert.Relay
open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

/-- The weights. -/
abbrev Wt := Fin 10

/-- Half the rows of a weight's shard: what one core sends. -/
abbrev rows : Wt → ℕ := ![2048, 512, 256, 512, 2048, 512, 2048, 512, 2048, 512]

/-- The regions that are sent. -/
abbrev shp : Wt → Shape
  | 0 => S2048x1424
  | 1 => S512x1536
  | 2 => S256x2048
  | 3 => S512x4096
  | 4 => S2048x4096
  | 5 => S512x4096
  | 6 => S2048x3072
  | 7 => S512x4096
  | 8 => S2048x3072
  | 9 => S512x4096

/-- Where a device's half starts in its shard, as the program computes it. -/
abbrev offS (d : Dev nD) : Wt → Fin 2 → ℕ
  | 0 => k0_off2 d
  | 1 => k0_off4 d
  | 2 => k0_off6 d
  | 3 => k0_off8 d
  | 4 => k0_off10 d
  | 5 => k0_off8 d
  | 6 => k0_off12 d
  | 7 => k0_off8 d
  | 8 => k0_off12 d
  | 9 => k0_off8 d

/-- Where it lands on the other chips. -/
abbrev offD (d : Dev nD) : Wt → Fin 3 → ℕ
  | 0 => k0_off1 d
  | 1 => k0_off3 d
  | 2 => k0_off5 d
  | 3 => k0_off7 d
  | 4 => k0_off9 d
  | 5 => k0_off7 d
  | 6 => k0_off11 d
  | 7 => k0_off7 d
  | 8 => k0_off11 d
  | 9 => k0_off7 d

/-- Where a half from another chip is found and passed on. -/
abbrev offM (d : Dev nD) : Hop Wt → Fin 3 → ℕ
  | (0, 0) => k0_off13 d
  | (0, 1) => k0_off14 d
  | (0, 2) => k0_off15 d
  | (1, 0) => k0_off16 d
  | (1, 1) => k0_off17 d
  | (1, 2) => k0_off18 d
  | (2, 0) => k0_off19 d
  | (2, 1) => k0_off20 d
  | (2, 2) => k0_off21 d
  | (3, 0) => k0_off22 d
  | (3, 1) => k0_off23 d
  | (3, 2) => k0_off24 d
  | (4, 0) => k0_off25 d
  | (4, 1) => k0_off26 d
  | (4, 2) => k0_off27 d
  | (5, 0) => k0_off22 d
  | (5, 1) => k0_off23 d
  | (5, 2) => k0_off24 d
  | (6, 0) => k0_off28 d
  | (6, 1) => k0_off29 d
  | (6, 2) => k0_off30 d
  | (7, 0) => k0_off22 d
  | (7, 1) => k0_off23 d
  | (7, 2) => k0_off24 d
  | (8, 0) => k0_off28 d
  | (8, 1) => k0_off29 d
  | (8, 2) => k0_off30 d
  | (9, 0) => k0_off22 d
  | (9, 1) => k0_off23 d
  | (9, 2) => k0_off24 d

/-- Where the other half comes in from the other core. -/
abbrev offF (d : Dev nD) : Hop Wt → Fin 3 → ℕ
  | (0, 0) => k0_off31 d
  | (0, 1) => k0_off32 d
  | (0, 2) => k0_off33 d
  | (1, 0) => k0_off34 d
  | (1, 1) => k0_off35 d
  | (1, 2) => k0_off36 d
  | (2, 0) => k0_off37 d
  | (2, 1) => k0_off38 d
  | (2, 2) => k0_off39 d
  | (3, 0) => k0_off40 d
  | (3, 1) => k0_off41 d
  | (3, 2) => k0_off42 d
  | (4, 0) => k0_off43 d
  | (4, 1) => k0_off44 d
  | (4, 2) => k0_off45 d
  | (5, 0) => k0_off40 d
  | (5, 1) => k0_off41 d
  | (5, 2) => k0_off42 d
  | (6, 0) => k0_off46 d
  | (6, 1) => k0_off47 d
  | (6, 2) => k0_off48 d
  | (7, 0) => k0_off40 d
  | (7, 1) => k0_off41 d
  | (7, 2) => k0_off42 d
  | (8, 0) => k0_off46 d
  | (8, 1) => k0_off47 d
  | (8, 2) => k0_off48 d
  | (9, 0) => k0_off40 d
  | (9, 1) => k0_off41 d
  | (9, 2) => k0_off42 d

/-- The device of the same core on another chip: the numbers of the chips differ in the first bit, the second or both. -/
def other (j : Fin 3) (d : Dev nD) : Dev nD := ⟨d.val ^^^ (![4, 2, 6] : Fin 3 → ℕ) j, by revert d j; decide⟩

/-- The other core of a chip. -/
def sibling (d : Dev nD) : Dev nD := ⟨d.val ^^^ 1, by revert d; decide⟩

theorem other_other : ∀ (j : Fin 3) (d : Dev nD), other j (other j d) = d := by decide

theorem sibling_sibling : ∀ d : Dev nD, sibling (sibling d) = d := by decide

theorem chip_other_sibling : ∀ (j : Fin 3) (d : Dev nD), (other j (sibling d)).val / 2 = (other j d).val / 2 := by decide

theorem core_sibling : ∀ d : Dev nD, (sibling d).val % 2 = 1 - d.val % 2 := by decide

theorem core_other : ∀ (j : Fin 3) (d : Dev nD), (other j d).val % 2 = d.val % 2 := by decide

theorem chip_lt (d : Dev nD) : d.val / 2 < 4 := by revert d; decide

theorem core_lt (d : Dev nD) : d.val % 2 < 2 := Nat.mod_lt _ (by decide)

theorem far_lt (d : Dev nD) : 1 - d.val % 2 < 2 := by omega

theorem offS_eq : ∀ (d : Dev nD) (w : Wt), offS d w = ![rows w * (d.val % 2), 0] := by decide +kernel

theorem offD_eq : ∀ (d : Dev nD) (w : Wt), offD d w = ![d.val / 2, rows w * (d.val % 2), 0] := by decide +kernel

theorem offM_eq : ∀ (d : Dev nD) (k : Hop Wt), offM d k = ![(other k.2 d).val / 2, rows k.1 * (d.val % 2), 0] := by decide +kernel

theorem offF_eq : ∀ (d : Dev nD) (k : Hop Wt), offF d k = ![(other k.2 d).val / 2, rows k.1 * (1 - d.val % 2), 0] := by decide +kernel

theorem inbS (d : Dev nD) (w : Wt) {h H n : ℕ} (hg : h = rows w) (hH : H = 2 * rows w) (a : Fin 2) : offS d w a + (⟨2, ![h, n]⟩ : Shape).size a ≤ (⟨2, ![H, n]⟩ : Shape).size a :=
  Slabs.inb_rows (offS_eq d w) (core_lt d) hg hH a

theorem inbD (d : Dev nD) (w : Wt) {h H n : ℕ} (hg : h = rows w) (hH : H = 2 * rows w) (a : Fin 3) : offD d w a + (⟨3, ![1, h, n]⟩ : Shape).size a ≤ (⟨3, ![4, H, n]⟩ : Shape).size a :=
  Slabs.inb_half (offD_eq d w) (chip_lt _) (core_lt d) hg hH a

theorem inbM (d : Dev nD) (k : Hop Wt) {h H n : ℕ} (hg : h = rows k.1) (hH : H = 2 * rows k.1) (a : Fin 3) : offM d k a + (⟨3, ![1, h, n]⟩ : Shape).size a ≤ (⟨3, ![4, H, n]⟩ : Shape).size a :=
  Slabs.inb_half (offM_eq d k) (chip_lt _) (core_lt d) hg hH a

theorem inbF (d : Dev nD) (k : Hop Wt) {h H n : ℕ} (hg : h = rows k.1) (hH : H = 2 * rows k.1) (a : Fin 3) : offF d k a + (⟨3, ![1, h, n]⟩ : Shape).size a ≤ (⟨3, ![4, H, n]⟩ : Shape).size a :=
  Slabs.inb_half (offF_eq d k) (chip_lt _) (far_lt d) hg hH a

/-- What a device sends: its half of the rows. -/
abbrev src (d : Dev nD) : (w : Wt) → Memref sig .tc .hbm (shp w) .bf16
  | 0 => (Memref.whole main_arg0).slice (Rect.unit (s := S4096x1424) (offS d 0) S2048x1424.size (inbS d 0 rfl rfl)) (fun _ => rfl)
  | 1 => (Memref.whole main_arg1).slice (Rect.unit (s := S1024x1536) (offS d 1) S512x1536.size (inbS d 1 rfl rfl)) (fun _ => rfl)
  | 2 => (Memref.whole main_arg2).slice (Rect.unit (s := S512x2048) (offS d 2) S256x2048.size (inbS d 2 rfl rfl)) (fun _ => rfl)
  | 3 => (Memref.whole main_arg3).slice (Rect.unit (s := S1024x4096) (offS d 3) S512x4096.size (inbS d 3 rfl rfl)) (fun _ => rfl)
  | 4 => (Memref.whole main_arg4).slice (Rect.unit (s := S4096x4096) (offS d 4) S2048x4096.size (inbS d 4 rfl rfl)) (fun _ => rfl)
  | 5 => (Memref.whole main_arg5).slice (Rect.unit (s := S1024x4096) (offS d 5) S512x4096.size (inbS d 5 rfl rfl)) (fun _ => rfl)
  | 6 => (Memref.whole main_arg6).slice (Rect.unit (s := S4096x3072) (offS d 6) S2048x3072.size (inbS d 6 rfl rfl)) (fun _ => rfl)
  | 7 => (Memref.whole main_arg7).slice (Rect.unit (s := S1024x4096) (offS d 7) S512x4096.size (inbS d 7 rfl rfl)) (fun _ => rfl)
  | 8 => (Memref.whole main_arg8).slice (Rect.unit (s := S4096x3072) (offS d 8) S2048x3072.size (inbS d 8 rfl rfl)) (fun _ => rfl)
  | 9 => (Memref.whole main_arg9).slice (Rect.unit (s := S1024x4096) (offS d 9) S512x4096.size (inbS d 9 rfl rfl)) (fun _ => rfl)

/-- Where it lands, on every other chip. -/
abbrev dst (d : Dev nD) : (w : Wt) → Memref sig .tc .hbm (shp w) .bf16
  | 0 => ((Memref.whole main_v1_0).slice (Rect.unit (s := S4x4096x1424) (offD d 0) S1x2048x1424.size (inbD d 0 rfl rfl)) (fun _ => rfl)).squeeze S2048x1424 squeezes_S1x2048x1424_S2048x1424
  | 1 => ((Memref.whole main_v1_1).slice (Rect.unit (s := S4x1024x1536) (offD d 1) S1x512x1536.size (inbD d 1 rfl rfl)) (fun _ => rfl)).squeeze S512x1536 squeezes_S1x512x1536_S512x1536
  | 2 => ((Memref.whole main_v1_2).slice (Rect.unit (s := S4x512x2048) (offD d 2) S1x256x2048.size (inbD d 2 rfl rfl)) (fun _ => rfl)).squeeze S256x2048 squeezes_S1x256x2048_S256x2048
  | 3 => ((Memref.whole main_v1_3).slice (Rect.unit (s := S4x1024x4096) (offD d 3) S1x512x4096.size (inbD d 3 rfl rfl)) (fun _ => rfl)).squeeze S512x4096 squeezes_S1x512x4096_S512x4096
  | 4 => ((Memref.whole main_v1_4).slice (Rect.unit (s := S4x4096x4096) (offD d 4) S1x2048x4096.size (inbD d 4 rfl rfl)) (fun _ => rfl)).squeeze S2048x4096 squeezes_S1x2048x4096_S2048x4096
  | 5 => ((Memref.whole main_v1_5).slice (Rect.unit (s := S4x1024x4096) (offD d 5) S1x512x4096.size (inbD d 5 rfl rfl)) (fun _ => rfl)).squeeze S512x4096 squeezes_S1x512x4096_S512x4096
  | 6 => ((Memref.whole main_v1_6).slice (Rect.unit (s := S4x4096x3072) (offD d 6) S1x2048x3072.size (inbD d 6 rfl rfl)) (fun _ => rfl)).squeeze S2048x3072 squeezes_S1x2048x3072_S2048x3072
  | 7 => ((Memref.whole main_v1_7).slice (Rect.unit (s := S4x1024x4096) (offD d 7) S1x512x4096.size (inbD d 7 rfl rfl)) (fun _ => rfl)).squeeze S512x4096 squeezes_S1x512x4096_S512x4096
  | 8 => ((Memref.whole main_v1_8).slice (Rect.unit (s := S4x4096x3072) (offD d 8) S1x2048x3072.size (inbD d 8 rfl rfl)) (fun _ => rfl)).squeeze S2048x3072 squeezes_S1x2048x3072_S2048x3072
  | 9 => ((Memref.whole main_v1_9).slice (Rect.unit (s := S4x1024x4096) (offD d 9) S1x512x4096.size (inbD d 9 rfl rfl)) (fun _ => rfl)).squeeze S512x4096 squeezes_S1x512x4096_S512x4096

/-- Where a device finds what it passes on. -/
abbrev mid (d : Dev nD) : (k : Hop Wt) → Memref sig .tc .hbm (shp k.1) .bf16
  | (0, j) => ((Memref.whole main_v1_0).slice (Rect.unit (s := S4x4096x1424) (offM d (0, j)) S1x2048x1424.size (inbM d (0, j) rfl rfl)) (fun _ => rfl)).squeeze S2048x1424 squeezes_S1x2048x1424_S2048x1424
  | (1, j) => ((Memref.whole main_v1_1).slice (Rect.unit (s := S4x1024x1536) (offM d (1, j)) S1x512x1536.size (inbM d (1, j) rfl rfl)) (fun _ => rfl)).squeeze S512x1536 squeezes_S1x512x1536_S512x1536
  | (2, j) => ((Memref.whole main_v1_2).slice (Rect.unit (s := S4x512x2048) (offM d (2, j)) S1x256x2048.size (inbM d (2, j) rfl rfl)) (fun _ => rfl)).squeeze S256x2048 squeezes_S1x256x2048_S256x2048
  | (3, j) => ((Memref.whole main_v1_3).slice (Rect.unit (s := S4x1024x4096) (offM d (3, j)) S1x512x4096.size (inbM d (3, j) rfl rfl)) (fun _ => rfl)).squeeze S512x4096 squeezes_S1x512x4096_S512x4096
  | (4, j) => ((Memref.whole main_v1_4).slice (Rect.unit (s := S4x4096x4096) (offM d (4, j)) S1x2048x4096.size (inbM d (4, j) rfl rfl)) (fun _ => rfl)).squeeze S2048x4096 squeezes_S1x2048x4096_S2048x4096
  | (5, j) => ((Memref.whole main_v1_5).slice (Rect.unit (s := S4x1024x4096) (offM d (5, j)) S1x512x4096.size (inbM d (5, j) rfl rfl)) (fun _ => rfl)).squeeze S512x4096 squeezes_S1x512x4096_S512x4096
  | (6, j) => ((Memref.whole main_v1_6).slice (Rect.unit (s := S4x4096x3072) (offM d (6, j)) S1x2048x3072.size (inbM d (6, j) rfl rfl)) (fun _ => rfl)).squeeze S2048x3072 squeezes_S1x2048x3072_S2048x3072
  | (7, j) => ((Memref.whole main_v1_7).slice (Rect.unit (s := S4x1024x4096) (offM d (7, j)) S1x512x4096.size (inbM d (7, j) rfl rfl)) (fun _ => rfl)).squeeze S512x4096 squeezes_S1x512x4096_S512x4096
  | (8, j) => ((Memref.whole main_v1_8).slice (Rect.unit (s := S4x4096x3072) (offM d (8, j)) S1x2048x3072.size (inbM d (8, j) rfl rfl)) (fun _ => rfl)).squeeze S2048x3072 squeezes_S1x2048x3072_S2048x3072
  | (9, j) => ((Memref.whole main_v1_9).slice (Rect.unit (s := S4x1024x4096) (offM d (9, j)) S1x512x4096.size (inbM d (9, j) rfl rfl)) (fun _ => rfl)).squeeze S512x4096 squeezes_S1x512x4096_S512x4096

/-- Where a device waits for what is passed on to it. -/
abbrev far (d : Dev nD) : (k : Hop Wt) → Memref sig .tc .hbm (shp k.1) .bf16
  | (0, j) => ((Memref.whole main_v1_0).slice (Rect.unit (s := S4x4096x1424) (offF d (0, j)) S1x2048x1424.size (inbF d (0, j) rfl rfl)) (fun _ => rfl)).squeeze S2048x1424 squeezes_S1x2048x1424_S2048x1424
  | (1, j) => ((Memref.whole main_v1_1).slice (Rect.unit (s := S4x1024x1536) (offF d (1, j)) S1x512x1536.size (inbF d (1, j) rfl rfl)) (fun _ => rfl)).squeeze S512x1536 squeezes_S1x512x1536_S512x1536
  | (2, j) => ((Memref.whole main_v1_2).slice (Rect.unit (s := S4x512x2048) (offF d (2, j)) S1x256x2048.size (inbF d (2, j) rfl rfl)) (fun _ => rfl)).squeeze S256x2048 squeezes_S1x256x2048_S256x2048
  | (3, j) => ((Memref.whole main_v1_3).slice (Rect.unit (s := S4x1024x4096) (offF d (3, j)) S1x512x4096.size (inbF d (3, j) rfl rfl)) (fun _ => rfl)).squeeze S512x4096 squeezes_S1x512x4096_S512x4096
  | (4, j) => ((Memref.whole main_v1_4).slice (Rect.unit (s := S4x4096x4096) (offF d (4, j)) S1x2048x4096.size (inbF d (4, j) rfl rfl)) (fun _ => rfl)).squeeze S2048x4096 squeezes_S1x2048x4096_S2048x4096
  | (5, j) => ((Memref.whole main_v1_5).slice (Rect.unit (s := S4x1024x4096) (offF d (5, j)) S1x512x4096.size (inbF d (5, j) rfl rfl)) (fun _ => rfl)).squeeze S512x4096 squeezes_S1x512x4096_S512x4096
  | (6, j) => ((Memref.whole main_v1_6).slice (Rect.unit (s := S4x4096x3072) (offF d (6, j)) S1x2048x3072.size (inbF d (6, j) rfl rfl)) (fun _ => rfl)).squeeze S2048x3072 squeezes_S1x2048x3072_S2048x3072
  | (7, j) => ((Memref.whole main_v1_7).slice (Rect.unit (s := S4x1024x4096) (offF d (7, j)) S1x512x4096.size (inbF d (7, j) rfl rfl)) (fun _ => rfl)).squeeze S512x4096 squeezes_S1x512x4096_S512x4096
  | (8, j) => ((Memref.whole main_v1_8).slice (Rect.unit (s := S4x4096x3072) (offF d (8, j)) S1x2048x3072.size (inbF d (8, j) rfl rfl)) (fun _ => rfl)).squeeze S2048x3072 squeezes_S1x2048x3072_S2048x3072
  | (9, j) => ((Memref.whole main_v1_9).slice (Rect.unit (s := S4x1024x4096) (offF d (9, j)) S1x512x4096.size (inbF d (9, j) rfl rfl)) (fun _ => rfl)).squeeze S512x4096 squeezes_S1x512x4096_S512x4096

/-- The device a first copy goes to, as the copy computes it. -/
abbrev peer (d : Dev nD) : Hop Wt → Dev nD
  | (0, 0) => ⟨k0_dev1 d, k0_dev1_lt d⟩
  | (0, 1) => ⟨k0_dev2 d, k0_dev2_lt d⟩
  | (0, 2) => ⟨k0_dev3 d, k0_dev3_lt d⟩
  | (1, 0) => ⟨k0_dev4 d, k0_dev4_lt d⟩
  | (1, 1) => ⟨k0_dev5 d, k0_dev5_lt d⟩
  | (1, 2) => ⟨k0_dev6 d, k0_dev6_lt d⟩
  | (2, 0) => ⟨k0_dev7 d, k0_dev7_lt d⟩
  | (2, 1) => ⟨k0_dev8 d, k0_dev8_lt d⟩
  | (2, 2) => ⟨k0_dev9 d, k0_dev9_lt d⟩
  | (3, 0) => ⟨k0_dev10 d, k0_dev10_lt d⟩
  | (3, 1) => ⟨k0_dev11 d, k0_dev11_lt d⟩
  | (3, 2) => ⟨k0_dev12 d, k0_dev12_lt d⟩
  | (4, 0) => ⟨k0_dev13 d, k0_dev13_lt d⟩
  | (4, 1) => ⟨k0_dev14 d, k0_dev14_lt d⟩
  | (4, 2) => ⟨k0_dev15 d, k0_dev15_lt d⟩
  | (5, 0) => ⟨k0_dev16 d, k0_dev16_lt d⟩
  | (5, 1) => ⟨k0_dev17 d, k0_dev17_lt d⟩
  | (5, 2) => ⟨k0_dev18 d, k0_dev18_lt d⟩
  | (6, 0) => ⟨k0_dev19 d, k0_dev19_lt d⟩
  | (6, 1) => ⟨k0_dev20 d, k0_dev20_lt d⟩
  | (6, 2) => ⟨k0_dev21 d, k0_dev21_lt d⟩
  | (7, 0) => ⟨k0_dev22 d, k0_dev22_lt d⟩
  | (7, 1) => ⟨k0_dev23 d, k0_dev23_lt d⟩
  | (7, 2) => ⟨k0_dev24 d, k0_dev24_lt d⟩
  | (8, 0) => ⟨k0_dev25 d, k0_dev25_lt d⟩
  | (8, 1) => ⟨k0_dev26 d, k0_dev26_lt d⟩
  | (8, 2) => ⟨k0_dev27 d, k0_dev27_lt d⟩
  | (9, 0) => ⟨k0_dev28 d, k0_dev28_lt d⟩
  | (9, 1) => ⟨k0_dev29 d, k0_dev29_lt d⟩
  | (9, 2) => ⟨k0_dev30 d, k0_dev30_lt d⟩

/-- The device a second copy goes to. -/
abbrev mate (d : Dev nD) : Hop Wt → Dev nD
  | (0, 0) => ⟨k0_dev31 d, k0_dev31_lt d⟩
  | (0, 1) => ⟨k0_dev32 d, k0_dev32_lt d⟩
  | (0, 2) => ⟨k0_dev33 d, k0_dev33_lt d⟩
  | (1, 0) => ⟨k0_dev34 d, k0_dev34_lt d⟩
  | (1, 1) => ⟨k0_dev35 d, k0_dev35_lt d⟩
  | (1, 2) => ⟨k0_dev36 d, k0_dev36_lt d⟩
  | (2, 0) => ⟨k0_dev37 d, k0_dev37_lt d⟩
  | (2, 1) => ⟨k0_dev38 d, k0_dev38_lt d⟩
  | (2, 2) => ⟨k0_dev39 d, k0_dev39_lt d⟩
  | (3, 0) => ⟨k0_dev40 d, k0_dev40_lt d⟩
  | (3, 1) => ⟨k0_dev41 d, k0_dev41_lt d⟩
  | (3, 2) => ⟨k0_dev42 d, k0_dev42_lt d⟩
  | (4, 0) => ⟨k0_dev43 d, k0_dev43_lt d⟩
  | (4, 1) => ⟨k0_dev44 d, k0_dev44_lt d⟩
  | (4, 2) => ⟨k0_dev45 d, k0_dev45_lt d⟩
  | (5, 0) => ⟨k0_dev46 d, k0_dev46_lt d⟩
  | (5, 1) => ⟨k0_dev47 d, k0_dev47_lt d⟩
  | (5, 2) => ⟨k0_dev48 d, k0_dev48_lt d⟩
  | (6, 0) => ⟨k0_dev49 d, k0_dev49_lt d⟩
  | (6, 1) => ⟨k0_dev50 d, k0_dev50_lt d⟩
  | (6, 2) => ⟨k0_dev51 d, k0_dev51_lt d⟩
  | (7, 0) => ⟨k0_dev52 d, k0_dev52_lt d⟩
  | (7, 1) => ⟨k0_dev53 d, k0_dev53_lt d⟩
  | (7, 2) => ⟨k0_dev54 d, k0_dev54_lt d⟩
  | (8, 0) => ⟨k0_dev55 d, k0_dev55_lt d⟩
  | (8, 1) => ⟨k0_dev56 d, k0_dev56_lt d⟩
  | (8, 2) => ⟨k0_dev57 d, k0_dev57_lt d⟩
  | (9, 0) => ⟨k0_dev58 d, k0_dev58_lt d⟩
  | (9, 1) => ⟨k0_dev59 d, k0_dev59_lt d⟩
  | (9, 2) => ⟨k0_dev60 d, k0_dev60_lt d⟩

/-- The semaphores' places: those of a weight's first copies, then those of its second ones. -/
abbrev spot : Hop Wt ⊕ Hop Wt → ℕ := Sum.elim (fun k => 6 * k.1.val + k.2.val) (fun k => 6 * k.1.val + 3 + k.2.val)

theorem inb_sem (k : Hop Wt ⊕ Hop Wt) (a : Fin 1) : (![spot k] : Fin 1 → ℕ) a + S1.size a ≤ S60.size a := by
  fin_cases a
  rcases k with k | k
  · show 6 * k.1.val + k.2.val + 1 ≤ 60
    omega
  · show 6 * k.1.val + 3 + k.2.val + 1 ≤ 60
    omega

/-- The send semaphores. -/
abbrev snd (k : Hop Wt ⊕ Hop Wt) : DmaSem sig := ((cc0_scratch0.slice (Rect.unit (s := S60) ![spot k] S1.size (inb_sem k))).squeeze S_ squeezes_S1_S_).sem

/-- The receive semaphores. -/
abbrev rcv (k : Hop Wt ⊕ Hop Wt) : DmaSem sig := ((cc0_scratch1.slice (Rect.unit (s := S60) ![spot k] S1.size (inb_sem k))).squeeze S_ squeezes_S1_S_).sem

theorem peer_eq : ∀ (d : Dev nD) (k : Hop Wt), peer d k = other k.2 d := by decide +kernel

theorem mate_eq : ∀ (d : Dev nD) (k : Hop Wt), mate d k = sibling d := by decide +kernel

/-- What is passed on lies where the first copy landed. -/
theorem offM_via (d : Dev nD) (k : Hop Wt) : offM d k = offD (peer d k) k.1 := by
  rw [offM_eq, offD_eq, peer_eq, core_other]

theorem via (d : Dev nD) (k : Hop Wt) : mid d k = dst (peer d k) k.1 := by
  have h := offM_via d k
  obtain ⟨w, j⟩ := k
  fin_cases w
  exacts [Slabs.region_congr _ h _ _ _ squeezes_S1x2048x1424_S2048x1424,
    Slabs.region_congr _ h _ _ _ squeezes_S1x512x1536_S512x1536,
    Slabs.region_congr _ h _ _ _ squeezes_S1x256x2048_S256x2048,
    Slabs.region_congr _ h _ _ _ squeezes_S1x512x4096_S512x4096,
    Slabs.region_congr _ h _ _ _ squeezes_S1x2048x4096_S2048x4096,
    Slabs.region_congr _ h _ _ _ squeezes_S1x512x4096_S512x4096,
    Slabs.region_congr _ h _ _ _ squeezes_S1x2048x3072_S2048x3072,
    Slabs.region_congr _ h _ _ _ squeezes_S1x512x4096_S512x4096,
    Slabs.region_congr _ h _ _ _ squeezes_S1x2048x3072_S2048x3072,
    Slabs.region_congr _ h _ _ _ squeezes_S1x512x4096_S512x4096]

/-- What a copy counts: the size of its region. -/
abbrev size : Wt → ℕ
  | 0 => (dst (0 : Dev nD) 0).view.dmaCredit
  | 1 => (dst (0 : Dev nD) 1).view.dmaCredit
  | 2 => (dst (0 : Dev nD) 2).view.dmaCredit
  | 3 => (dst (0 : Dev nD) 3).view.dmaCredit
  | 4 => (dst (0 : Dev nD) 4).view.dmaCredit
  | 5 => (dst (0 : Dev nD) 5).view.dmaCredit
  | 6 => (dst (0 : Dev nD) 6).view.dmaCredit
  | 7 => (dst (0 : Dev nD) 7).view.dmaCredit
  | 8 => (dst (0 : Dev nD) 8).view.dmaCredit
  | 9 => (dst (0 : Dev nD) 9).view.dmaCredit

theorem size_pos (w : Wt) : 0 < size w := by
  fin_cases w <;> exact View.dmaCredit_pos _ (by decide)

theorem size_dst (d : Dev nD) (w : Wt) : (dst d w).view.dmaCredit = size w := by
  fin_cases w <;> rfl

theorem size_src (d : Dev nD) (w : Wt) : (src d w).view.dmaCredit = size w := by
  fin_cases w <;> rfl

theorem size_mid (d : Dev nD) (k : Hop Wt) : (mid d k).view.dmaCredit = size k.1 := by
  obtain ⟨w, j⟩ := k
  fin_cases w <;> rfl

theorem size_far (d : Dev nD) (k : Hop Wt) : (far d k).view.dmaCredit = size k.1 := by
  obtain ⟨w, j⟩ := k
  fin_cases w <;> rfl

/-- The relay. -/
def plan : Plan nD sig Wt where
  shp := shp
  elt _ := .bf16
  src := src
  dst := dst
  mid := mid
  peer := peer
  peer_peer d k := by rw [peer_eq, peer_eq, other_other]
  via := via
  mate := mate
  mate_mate d k := by rw [mate_eq, mate_eq, sibling_sibling]
  snd := snd
  rcv := rcv
  sem_inj := by decide +kernel
  size := size
  size_pos := size_pos
  size_dst := size_dst

/-- The arrays the copies read and write, in order. -/
def arrays : Fin 10 ⊕ Fin 10 → Ref sig .tc
  | .inl k => ⟨.hbm, ⟨k.val, by have := k.isLt; decide +revert⟩, rfl⟩
  | .inr k => ⟨.hbm, ⟨10 + k.val, by have := k.isLt; decide +revert⟩, rfl⟩

theorem arrays_injective : Function.Injective arrays := by decide

/-- The array of a region. -/
abbrev array : Wt ⊕ (Hop Wt ⊕ Hop Wt) → Ref sig .tc := fun i => arrays (i.map id (Sum.elim Prod.fst Prod.fst))

theorem pref_eq (d : Dev nD) (i : Wt ⊕ (Hop Wt ⊕ Hop Wt)) : Relay.pref plan d i = array i := by
  rcases i with w | ⟨w, j⟩ | ⟨w, j⟩ <;> fin_cases w <;> rfl

/-- The chip and the half of the rows of a landing region. -/
abbrev place (d : Dev nD) : Wt ⊕ (Hop Wt ⊕ Hop Wt) → ℕ × ℕ
  | .inl _ => (0, 0)
  | .inr (.inl k) => ((other k.2 d).val / 2, d.val % 2)
  | .inr (.inr k) => ((other k.2 d).val / 2, 1 - d.val % 2)

theorem rows_pos : ∀ w : Wt, 0 < rows w := by decide

theorem place_of_src (d : Dev nD) (w : Wt) (x : (src d w).view.ref.ty.Idx) : Slabs.place _ x = (0, 0) := by
  fin_cases w <;> exact dif_neg (Nat.lt_irrefl 2)

theorem place_of_dst (d : Dev nD) (w : Wt) (x : (dst d w).view.ref.ty.Idx) (hx : x ∈ (dst d w).view.set) : Slabs.place _ x = (d.val / 2, d.val % 2) := by
  refine Eq.trans ?_ (congrArg (·, d.val % 2) (congrFun (offD_eq d w) 0))
  have h1 := congrFun (offD_eq d w) 1
  have h0 := rows_pos w
  fin_cases w <;> exact Slabs.place_half _ (Nat.lt_succ_self 2) _ _ _ _ _ h0 rfl rfl rfl h1 _ x hx

theorem place_of_mid (d : Dev nD) (k : Hop Wt) (x : (mid d k).view.ref.ty.Idx) (hx : x ∈ (mid d k).view.set) :
    Slabs.place _ x = ((other k.2 d).val / 2, d.val % 2) := by
  refine Eq.trans ?_ (congrArg (·, d.val % 2) (congrFun (offM_eq d k) 0))
  have h1 := congrFun (offM_eq d k) 1
  have h0 := rows_pos k.1
  obtain ⟨w, j⟩ := k
  fin_cases w <;> exact Slabs.place_half _ (Nat.lt_succ_self 2) _ _ _ _ _ h0 rfl rfl rfl h1 _ x hx

theorem other_inj : ∀ (d : Dev nD) (j j' : Fin 3), (other j d).val / 2 = (other j' d).val / 2 → j = j' := by decide

theorem apart (d : Dev nD) : Pieces.Apart (Relay.pref plan d) (Relay.pset plan d) := by
  refine Slabs.apart_of_key _ _ Slabs.place (place d) (fun i x hx => ?_) fun i i' h e => ?_
  · rcases i with w | k | k
    · exact place_of_src d w x
    · refine (place_of_dst (peer d k) k.1 x hx).trans ?_
      rw [peer_eq, core_other]
    · refine (place_of_mid (mate d k) k x hx).trans ?_
      rw [mate_eq, chip_other_sibling, core_sibling]
  · rw [pref_eq, pref_eq] at h
    have h := arrays_injective h
    have hc : d.val % 2 < 2 := core_lt d
    rcases i with w | ⟨w, j⟩ | ⟨w, j⟩ <;> rcases i' with w' | ⟨w', j'⟩ | ⟨w', j'⟩
    · exact congrArg Sum.inl (Sum.inl_injective h).symm
    · exact absurd h Sum.inr_ne_inl
    · exact absurd h Sum.inr_ne_inl
    · exact absurd h Sum.inl_ne_inr
    · exact congrArg (Sum.inr ∘ Sum.inl) (Prod.ext (Sum.inr_injective h).symm (other_inj d _ _ (congrArg Prod.fst e)).symm)
    · have e : 1 - d.val % 2 = d.val % 2 := congrArg Prod.snd e
      omega
    · exact absurd h Sum.inl_ne_inr
    · have e : d.val % 2 = 1 - d.val % 2 := congrArg Prod.snd e
      omega
    · exact congrArg (Sum.inr ∘ Sum.inr) (Prod.ext (Sum.inr_injective h).symm (other_inj d _ _ (congrArg Prod.fst e)).symm)

theorem unscoped (d : Dev nD) (i : Wt ⊕ (Hop Wt ⊕ Hop Wt)) : ¬ (Relay.pref plan d i).isScoped := by
  rw [pref_eq]
  have : ∀ i, ¬ (arrays i).isScoped := by decide
  exact this _

theorem ownSemFacts : Pipeline.OwnSemFacts (cfg0.spec) plan.net.osem := by decide +kernel

theorem even (w : Wt) : EltTy.packing .bf16 ∣ rows w := by revert w; decide

theorem exact_src (d : Dev nD) (w : Wt) : (src d w).view.WordExact := by
  have h := even w
  fin_cases w <;> exact (Memref.isWhole_whole _).wordExact_slice rfl _ (Slabs.words_rows (offS_eq d _) _ rfl h _)

theorem exact_dst (d : Dev nD) (w : Wt) : (dst d w).view.WordExact := by
  have h := even w
  fin_cases w <;> exact ((Memref.isWhole_whole _).wordExact_slice rfl _ (Slabs.words_half (offD_eq d _) _ rfl h _)).reshape _ _

theorem exact_mid (d : Dev nD) (k : Hop Wt) : (mid d k).view.WordExact := by
  rw [via]; exact exact_dst _ _

theorem exact_far (d : Dev nD) (k : Hop Wt) : (far d k).view.WordExact := by
  have h := even k.1
  obtain ⟨w, j⟩ := k
  fin_cases w <;> exact ((Memref.isWhole_whole _).wordExact_slice rfl _ (Slabs.words_half (offF_eq d _) _ rfl h _)).reshape _ _

/-- The regions that the waits for landings name. -/
def named (d : Dev nD) : (k : Hop Wt ⊕ Hop Wt) → Memref sig .tc .hbm (plan.shape k) (plan.elem k)
  | .inl k => mid d k
  | .inr k => far d k

theorem exact_named (d : Dev nD) (k : Hop Wt ⊕ Hop Wt) : (named d k).view.WordExact := by
  rcases k with k | k
  exacts [exact_mid d k, exact_far d k]

theorem not_scratch (d : Dev nD) (k : Hop Wt ⊕ Hop Wt) : (plan.net.dst d k).view.ref.isScScratch = false := by
  rcases k with ⟨w, j⟩ | ⟨w, j⟩ <;> fin_cases w <;> rfl

/-- The printed operations. -/
def code (d : Dev nD) : Code (U := Gh nD τ sig) plan.net (defs₀ (F := F)) Variants.none d :=
  Code.naming plan.net _ _ (not_scratch d) (fun k => by rcases k with k | k; exacts [exact_src d k.1, exact_mid d k])
    (fun k => by rcases k with k | k; exacts [exact_dst d k.1, exact_mid d k])
    (fun k => ⟨⟨rfl, Or.inl rfl⟩, trivial⟩) (fun k => by rcases k with k | k; exacts [size_src d k.1, size_mid d k]) (named d) (named d) (exact_named d) (exact_named d)
    (fun k => by rcases k with k | k; exacts [size_mid d k, size_far d k])

/-- The copies, in order. -/
def hops : List (Hop Wt) :=
  [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2)]

local notation "𝕄" => MT nD τ sig Unit (Elt F) ℕ (Gh nD τ sig) ℕ

set_option maxRecDepth 40000 in
set_option maxHeartbeats 8000000 in
theorem body_eq (c : Dev nD) (t) (s) (R : sProp 𝕄) :
    (wp frame (wpE (defs₀ (F := F)) Variants.none (c : Thread nD τ) none) Set.univ
        ((hops.map Sum.inl).foldr (code c).start (hops.foldr (pass (code c)) ((hops.map fun k => .inr (.inr k)).foldr (code c).await
          ((hops.map Sum.inl ++ hops.map Sum.inr).foldr (fun k => (code c).await (.inl k)) (.ret ⟨⟩))))) (fun _ => R))
      ⊢ wp frame (wpE (defs₀ (F := F)) Variants.none (c : Thread nD τ) none) Set.univ (defs₀ (F := F) .tc 0 (t, s)) (fun _ => R) := by
  simp only [defs₀, Defs.onTc]
  simp only [cc0_gather_weights_eq_skeleton]
  unfold cc0_gather_weights_skel
  simp only [k0_part64_eq_skeleton]
  unfold k0_part64_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel
  simp only [Prog.lift, Prog.bind_op, Prog.bind_ret, Prog.pure_eq_ret, wp_deviceId]
  exact BI.Entails.refl _

theorem fresh (c : Dev nD) : (hostOps1 (F := F) c).Forall fun op => op.fresh = ∅ := by
  unfold hostOps1
  simp only [List.forall_cons]
  repeat' constructor

set_option maxRecDepth 20000 in
/-- Every run of the program ends, with every array as the copies and the host operations leave it and every semaphore
    at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∃ V, Passed plan (seen m) V ∧ ∀ (c : Dev nD) (b : Ref sig .tc), ¬ b.isScoped → r.2.mem ((c : Thread nD τ).loc b) = outcome hostOps1 m V c b) ∧ r.2.sem = fun _ => 0) :=
  Relay.run_host (fun p => (cfgs p).toPCfg) (fun _ p => (cfgs p).toPCfg_adm) cellOf_inj (0 : Fin 1) winFacts0.to₀ ownSemFacts (fun _ => N_0) (defs₀ (F := F)) Variants.none
    apart unscoped m ρ hostOps1 hostOps1_sub fresh main main_chain (fun c => scopedRest0_eq c) (by decide +kernel) code
    hops (by decide) (by decide)
    (fun c t R => body_eq c t _ R)

/-- No copy lands in an argument: it is unchanged. -/
theorem argument_kept {m V : (d : Dev nD) → (b : Ref sig .tc) → Buf (Elt F) ((d : Thread nD τ).loc b)} (h : Passed plan m V) (c : Dev nD) (k : Fin 10) :
    V c (arrays (.inl k)) = m c (arrays (.inl k)) :=
  h.same c _ fun i e => by
    have h := pref_eq c (.inr i)
    exact Sum.inr_ne_inl (arrays_injective (h.symm.trans e))

end Cert.Gathering

end
-- ==== Proof.GatherValue.lean ====
/-
What the gathering leaves in its results: on every device, the four shards of every weight whole.
-/
module

public import proofs.«01_k».proof.Proof.Gather
public import Idealize.ShloMosaic.Lib.StableHlo.RunRead
public import Idealize.ShloMosaic.Lib.WordCmp
public import Idealize.ShloMosaic.Lib.Layout
public import Idealize.ShloMosaic.Lib.ValueLayout
public import Idealize.ShloMosaic.Lib.Pipeline.Value
public import Mathlib.Tactic.Ring
public import Mathlib.Tactic.SplitIfs

@[expose] public section

noncomputable section

namespace Cert.Gathering

open Cert.GatherIdeal Cert.GatherIdeal.Gen Cert.Relay
open Idealize.ShloMosaic Idealize.ShloMosaic.ValueIdx
open Idealize.ShloMosaic.TcCoe
open Idealize.SL.Sem

/-! ## Four shards from four chips -/

section Shards

variable {α : Type} {h H T n : ℕ}

/-- The sides of the arrays of one weight: half a shard, a shard, the whole weight, which the reference splits into its
    four shards. -/
structure Sides (h H T n : ℕ) : Prop where
  halves : H = 2 * h
  tiles : Layout.TilesN ⟨2, ![H, n]⟩ ⟨2, ![T, n]⟩ (fun b : Fin 2 => Layout.cutSize [2, 2, 2] ((![[0, 1], []] : Fin 2 → List ℕ) b))
  fits : ∀ c : Fin 8, (⟨3, ![4, H, n]⟩ : Shape).Slices ![c.val / 2, 0, 0] ⟨3, ![1, H, n]⟩
  spread : (⟨2, ![H, n]⟩ : Shape).BroadcastsInDim ⟨3, ![1, H, n]⟩ ![1, 2]
  split : (⟨2, ![T, n]⟩ : Shape).ShapeCasts ⟨3, ![4, H, n]⟩
  many : n ≠ 1

theorem shard_of (c : Fin 8) : Layout.meshLin [2, 2, 2] c.val [0, 1] = c.val / 2 := by revert c; decide

/-- The shard of a chip, at an index: the split weight at the chip's number. -/
theorem shard_row (S : Sides h H T n) (x : (⟨2, ![T, n]⟩ : Shape).Idx → α) (d : Fin 8) (e : Fin 4) (he : e.val = d.val / 2) (r : Fin H) (l : Fin n) :
    Layout.blockN ⟨2, ![H, n]⟩ ⟨2, ![T, n]⟩ (Layout.meshBlock [2, 2, 2] ![[0, 1], []] d) x S.tiles (ix2 r l)
      = shapeCast ⟨3, ![4, H, n]⟩ x S.split (ix3 e r l) := by
  refine (shapeCast_apply x S.split (ix3 e r l) (S.tiles.idx (Layout.meshBlock [2, 2, 2] ![[0, 1], []] d) (ix2 r l)) ?_).symm
  have h0 : (S.tiles.idx (Layout.meshBlock [2, 2, 2] ![[0, 1], []] d) (ix2 r l) 0).val = e.val * H + r.val := by
    refine (Layout.TilesN.idx_val _ _ _ _).trans ?_
    rw [Layout.meshBlock_val, he, ← shard_of d]
    rfl
  have h1 : (S.tiles.idx (Layout.meshBlock [2, 2, 2] ![[0, 1], []] d) (ix2 r l) 1).val = l.val := by
    refine (Layout.TilesN.idx_val _ _ _ _).trans ?_
    rw [Layout.meshBlock_val]
    show 0 * n + l.val = l.val
    omega
  rw [Shape.rowMajor_val_two, Shape.rowMajor_val_three]
  show (S.tiles.idx (Layout.meshBlock [2, 2, 2] ![[0, 1], []] d) (ix2 r l) 0).val * n + (S.tiles.idx (Layout.meshBlock [2, 2, 2] ![[0, 1], []] d) (ix2 r l) 1).val
    = (e.val * H + r.val) * n + l.val
  rw [h0, h1]

/-- Rows of an array landed in half a slab: the elements of the half are those of the rows. -/
theorem moved_rows {r g g' : ℕ} {off : Fin 3 → ℕ} {off' : Fin 2 → ℕ} (e : off = ![r, g, 0]) (e' : off' = ![g', 0])
    (i : ∀ a, off a + (⟨3, ![1, h, n]⟩ : Shape).size a ≤ (⟨3, ![4, H, n]⟩ : Shape).size a)
    (i' : ∀ a, off' a + (⟨2, ![h, n]⟩ : Shape).size a ≤ (⟨2, ![H, n]⟩ : Shape).size a)
    (hn : (⟨2, ![h, n]⟩ : Shape).numel = (⟨3, ![1, h, n]⟩ : Shape).numel) (J : (⟨3, ![4, H, n]⟩ : Shape).Idx → α) (f : (⟨2, ![H, n]⟩ : Shape).Idx → α)
    (hJ : (fun y : (⟨2, ![h, n]⟩ : Shape).Idx => J ((Rect.unit (s := ⟨3, ![4, H, n]⟩) off (⟨3, ![1, h, n]⟩ : Shape).size i).emb (Shape.reshapeEquiv hn y)))
      = fun y : (⟨2, ![h, n]⟩ : Shape).Idx => f ((Rect.unit (s := ⟨2, ![H, n]⟩) off' (⟨2, ![h, n]⟩ : Shape).size i').emb y))
    (a : Fin 4) (ha : a.val = r) (hg : g = g') (b : Fin H) (b₀ : Fin h) (hb : b.val = g + b₀.val) (l : Fin n) : J (ix3 a b l) = f (ix2 b l) := by
  subst e e' hg
  have := congrFun hJ (ix2 b₀ l)
  rw [reshapeEquiv_ix2_1ab] at this
  have hx : (Rect.unit (s := ⟨3, ![4, H, n]⟩) ![r, g, 0] (⟨3, ![1, h, n]⟩ : Shape).size i).emb (ix3 (⟨0, Nat.one_pos⟩ : Fin 1) b₀ l) = ix3 a b l := by
    funext t; refine Fin.ext ?_
    fin_cases t
    · show r + 1 * 0 = a.val; omega
    · show g + 1 * b₀.val = b.val; omega
    · show 0 + 1 * l.val = l.val; omega
  have hx' : (Rect.unit (s := ⟨2, ![H, n]⟩) ![g, 0] (⟨2, ![h, n]⟩ : Shape).size i').emb (ix2 b₀ l) = ix2 b l := by
    funext t; refine Fin.ext ?_
    fin_cases t
    · show g + 1 * b₀.val = b.val; omega
    · show 0 + 1 * l.val = l.val; omega
  rw [← hx, ← hx']
  exact this

/-- Both halves of the shards of the three other chips landed, and the own shard written at the own chip's index: the
    whole weight. -/
theorem gathered (S : Sides h H T n) (x : (⟨2, ![T, n]⟩ : Shape).Idx → α) (c : Dev nD) (f : Dev nD → (⟨2, ![H, n]⟩ : Shape).Idx → α)
    (hf : ∀ d : Dev nD, f d = Layout.blockN ⟨2, ![H, n]⟩ ⟨2, ![T, n]⟩ (Layout.meshBlock [2, 2, 2] ![[0, 1], []] d) x S.tiles) (J : (⟨3, ![4, H, n]⟩ : Shape).Idx → α)
    (hJ : ∀ p : Dev nD, p.val / 2 ≠ c.val / 2 → ∀ (b : Fin H) (b₀ : Fin h) (_ : b.val = h * (p.val % 2) + b₀.val) (l : Fin n),
      J (ix3 ⟨p.val / 2, chip_lt p⟩ b l) = f p (ix2 b l)) :
    updateSlice J (broadcastInDim ⟨3, ![1, H, n]⟩ ![1, 2] S.spread (f c)) ![c.val / 2, 0, 0] (S.fits c) = shapeCast ⟨3, ![4, H, n]⟩ x S.split := by
  funext i
  obtain ⟨e, r, l, rfl⟩ : ∃ (e : Fin 4) (r : Fin H) (l : Fin n), i = ix3 e r l := ⟨i 0, i 1, i 2, eq_ix3 i⟩
  have hr : r.val < 2 * h := lt_of_lt_of_eq r.isLt S.halves
  have he : e.val < 4 := e.isLt
  unfold updateSlice
  split_ifs with hin
  · have h0 : c.val / 2 ≤ e.val ∧ e.val < c.val / 2 + 1 := hin 0
    refine (broadcastInDim_apply _ S.spread (f c) _ (ix2 r l) ?_).trans ?_
    · intro t
      fin_cases t
      · show r.val = if H = 1 then 0 else r.val - 0
        split
        · have := S.halves; omega
        · rfl
      · show l.val = if n = 1 then 0 else l.val - 0
        rw [if_neg S.many]; rfl
    · rw [hf]
      exact shard_row S x c e (by omega) r l
  · have hne : e.val ≠ c.val / 2 := fun he => hin fun t => by
      fin_cases t
      · exact ⟨he.ge, by show e.val < c.val / 2 + 1; omega⟩
      · exact ⟨Nat.zero_le _, by show r.val < 0 + H; have := r.isLt; omega⟩
      · exact ⟨Nat.zero_le _, by show l.val < 0 + n; have := l.isLt; omega⟩
    obtain ⟨b, r₀, hb, hr₀⟩ : ∃ (b : Fin 2) (r₀ : Fin h), b.val < 2 ∧ r.val = h * b.val + r₀.val := by
      by_cases q : r.val < h
      · exact ⟨0, ⟨r.val, q⟩, by decide, by show r.val = h * 0 + r.val; omega⟩
      · exact ⟨1, ⟨r.val - h, by omega⟩, by decide, by show r.val = h * 1 + (r.val - h); omega⟩
    let p : Dev nD := ⟨e.val * 2 + b.val, by show e.val * 2 + b.val < 8; omega⟩
    have hp : p.val / 2 = e.val := by show (e.val * 2 + b.val) / 2 = e.val; omega
    have hp' : p.val % 2 = b.val := by show (e.val * 2 + b.val) % 2 = b.val; omega
    have hq : e = ⟨p.val / 2, chip_lt p⟩ := Fin.ext hp.symm
    have step := hJ p (by rw [hp]; exact hne) r r₀ (by rw [hp']; exact hr₀) l
    rw [← hq, hf] at step
    exact step.trans (shard_row S x p e hp.symm r l)

end Shards

variable {F : FTy → Type} [FloatOps F]

/-- Every device of another chip is reached by way of the device itself or of its sibling. -/
theorem every_far : ∀ c p : Dev nD, p.val / 2 ≠ c.val / 2 → ∃ j : Fin 3, p = other j c ∨ p = other j (sibling c) := by decide +kernel

/-- The halves of the other chips' shards, where they landed. -/
theorem landed {m V : (d : Dev nD) → (b : Ref sig .tc) → Buf (Elt F) ((d : Thread nD τ).loc b)} (h : Passed plan m V) (c : Dev nD) (k : Hop Wt) :
    (dst (other k.2 c) k.1).view.read (Elt F) (V c (dst (other k.2 c) k.1).view.ref)
      = (src (other k.2 c) k.1).view.read (Elt F) (m (other k.2 c) (src (other k.2 c) k.1).view.ref) := by
  have e : ∀ p, peer c k = p → (dst p k.1).view.read (Elt F) (V c (dst p k.1).view.ref) = (src p k.1).view.read (Elt F) (m p (src p k.1).view.ref) := by
    rintro _ rfl; exact h.first c k
  exact e _ (peer_eq c k)

/-- What the sibling passed on is what it holds. -/
theorem handed {m V : (d : Dev nD) → (b : Ref sig .tc) → Buf (Elt F) ((d : Thread nD τ).loc b)} (h : Passed plan m V) (c : Dev nD) (k : Hop Wt) :
    (dst (other k.2 (sibling c)) k.1).view.read (Elt F) (V c (dst (other k.2 (sibling c)) k.1).view.ref)
      = (dst (other k.2 (sibling c)) k.1).view.read (Elt F) (V (sibling c) (dst (other k.2 (sibling c)) k.1).view.ref) := by
  have e : ∀ q, mate c k = q → ∀ p, peer q k = p →
      (dst p k.1).view.read (Elt F) (V c (dst p k.1).view.ref) = (dst p k.1).view.read (Elt F) (V q (dst p k.1).view.ref) := by
    rintro _ rfl _ rfl
    have := h.second c k
    exact (via (mate c k) k) ▸ this
  exact e _ (mate_eq c k) _ (peer_eq _ k)

/-- Half the shard of every device of another chip, where it landed. -/
theorem arrived {m V : (d : Dev nD) → (b : Ref sig .tc) → Buf (Elt F) ((d : Thread nD τ).loc b)} (h : Passed plan m V) (c p : Dev nD)
    (hp : p.val / 2 ≠ c.val / 2) (w : Wt) :
    (dst p w).view.read (Elt F) (V c (dst p w).view.ref) = (src p w).view.read (Elt F) (m p (src p w).view.ref) := by
  obtain ⟨j, rfl | rfl⟩ := every_far c p hp
  · exact landed h c (w, j)
  · exact (handed h c (w, j)).trans (landed h (sibling c) (w, j))

theorem sides_2048_1424 : Sides 2048 4096 16384 1424 := by constructor <;> decide
theorem sides_512_1536 : Sides 512 1024 4096 1536 := by constructor <;> decide
theorem sides_256_2048 : Sides 256 512 2048 2048 := by constructor <;> decide
theorem sides_512_4096 : Sides 512 1024 4096 4096 := by constructor <;> decide
theorem sides_2048_4096 : Sides 2048 4096 16384 4096 := by constructor <;> decide
theorem sides_2048_3072 : Sides 2048 4096 16384 3072 := by constructor <;> decide

/-! ## What the host operations make of the arrays -/

/-- The word that the host operations compute for the number of a device's chip. -/
def word (c : Dev nD) : BitVec 32 :=
  let r := IntOp.addi (IntOp.muli 2#32 (IntOp.remui .host (IntOp.divui .host (Dev.word c) 4#32) 2#32)) (IntOp.remui .host (IntOp.divui .host (Dev.word c) 2#32) 2#32)
  Scalar.select (IntOp.cmpi .slt r 0#32) (IntOp.addi r 4#32) r

theorem word_eq : ∀ c : Dev nD, (word c).toInt = ((c.val / 2 : ℕ) : Int) := by decide +kernel

/-- The index at which a device reads and writes its own slab. -/
theorem start (c : Dev nD) (s : Fin 3 → Int) (h0 : s 0 = ((c.val / 2 : ℕ) : Int)) (h1 : s 1 = 0) (h2 : s 2 = 0) (a : Fin 3) :
    s a = (((![c.val / 2, 0, 0] : Fin 3 → ℕ) a : ℕ) : Int) := by
  fin_cases a
  · exact h0
  · exact h1
  · exact h2

section Host

variable (V : Valuation τ sig (Elt F)) (c : Dev nD)
theorem host0 : StableHlo.after (hostOps1 (F := F) c) V main_v16
    = updateSlice (s := ⟨3, ![4, 4096, 1424]⟩) (u := ⟨3, ![1, 4096, 1424]⟩) (V main_v1_0)
      (broadcastInDim ⟨3, ![1, 4096, 1424]⟩ ![1, 2] sides_2048_1424.spread (V main_arg0)) ![c.val / 2, 0, 0] (sides_2048_1424.fits c) := by
  after_reads_simp [StableHlo.binaryIndexed_result_read, StableHlo.indexContents_cons, StableHlo.indexContents_empty, cast_eq]
  exact WordCmp.dynamicUpdateSlice_eq_update _ _ _ _ _ (sides_2048_1424.fits c) (start c _ (word_eq c) rfl rfl)

theorem host1 : StableHlo.after (hostOps1 (F := F) c) V main_v21
    = updateSlice (s := ⟨3, ![4, 1024, 1536]⟩) (u := ⟨3, ![1, 1024, 1536]⟩) (V main_v1_1)
      (broadcastInDim ⟨3, ![1, 1024, 1536]⟩ ![1, 2] sides_512_1536.spread (V main_arg1)) ![c.val / 2, 0, 0] (sides_512_1536.fits c) := by
  after_reads_simp [StableHlo.binaryIndexed_result_read, StableHlo.indexContents_cons, StableHlo.indexContents_empty, cast_eq]
  exact WordCmp.dynamicUpdateSlice_eq_update _ _ _ _ _ (sides_512_1536.fits c) (start c _ (word_eq c) rfl rfl)

theorem host2 : StableHlo.after (hostOps1 (F := F) c) V main_v26
    = updateSlice (s := ⟨3, ![4, 512, 2048]⟩) (u := ⟨3, ![1, 512, 2048]⟩) (V main_v1_2)
      (broadcastInDim ⟨3, ![1, 512, 2048]⟩ ![1, 2] sides_256_2048.spread (V main_arg2)) ![c.val / 2, 0, 0] (sides_256_2048.fits c) := by
  after_reads_simp [StableHlo.binaryIndexed_result_read, StableHlo.indexContents_cons, StableHlo.indexContents_empty, cast_eq]
  exact WordCmp.dynamicUpdateSlice_eq_update _ _ _ _ _ (sides_256_2048.fits c) (start c _ (word_eq c) rfl rfl)

theorem host3 : StableHlo.after (hostOps1 (F := F) c) V main_v31
    = updateSlice (s := ⟨3, ![4, 1024, 4096]⟩) (u := ⟨3, ![1, 1024, 4096]⟩) (V main_v1_3)
      (broadcastInDim ⟨3, ![1, 1024, 4096]⟩ ![1, 2] sides_512_4096.spread (V main_arg3)) ![c.val / 2, 0, 0] (sides_512_4096.fits c) := by
  after_reads_simp [StableHlo.binaryIndexed_result_read, StableHlo.indexContents_cons, StableHlo.indexContents_empty, cast_eq]
  exact WordCmp.dynamicUpdateSlice_eq_update _ _ _ _ _ (sides_512_4096.fits c) (start c _ (word_eq c) rfl rfl)

theorem host4 : StableHlo.after (hostOps1 (F := F) c) V main_v36
    = updateSlice (s := ⟨3, ![4, 4096, 4096]⟩) (u := ⟨3, ![1, 4096, 4096]⟩) (V main_v1_4)
      (broadcastInDim ⟨3, ![1, 4096, 4096]⟩ ![1, 2] sides_2048_4096.spread (V main_arg4)) ![c.val / 2, 0, 0] (sides_2048_4096.fits c) := by
  after_reads_simp [StableHlo.binaryIndexed_result_read, StableHlo.indexContents_cons, StableHlo.indexContents_empty, cast_eq]
  exact WordCmp.dynamicUpdateSlice_eq_update _ _ _ _ _ (sides_2048_4096.fits c) (start c _ (word_eq c) rfl rfl)

theorem host5 : StableHlo.after (hostOps1 (F := F) c) V main_v41
    = updateSlice (s := ⟨3, ![4, 1024, 4096]⟩) (u := ⟨3, ![1, 1024, 4096]⟩) (V main_v1_5)
      (broadcastInDim ⟨3, ![1, 1024, 4096]⟩ ![1, 2] sides_512_4096.spread (V main_arg5)) ![c.val / 2, 0, 0] (sides_512_4096.fits c) := by
  after_reads_simp [StableHlo.binaryIndexed_result_read, StableHlo.indexContents_cons, StableHlo.indexContents_empty, cast_eq]
  exact WordCmp.dynamicUpdateSlice_eq_update _ _ _ _ _ (sides_512_4096.fits c) (start c _ (word_eq c) rfl rfl)

theorem host6 : StableHlo.after (hostOps1 (F := F) c) V main_v46
    = updateSlice (s := ⟨3, ![4, 4096, 3072]⟩) (u := ⟨3, ![1, 4096, 3072]⟩) (V main_v1_6)
      (broadcastInDim ⟨3, ![1, 4096, 3072]⟩ ![1, 2] sides_2048_3072.spread (V main_arg6)) ![c.val / 2, 0, 0] (sides_2048_3072.fits c) := by
  after_reads_simp [StableHlo.binaryIndexed_result_read, StableHlo.indexContents_cons, StableHlo.indexContents_empty, cast_eq]
  exact WordCmp.dynamicUpdateSlice_eq_update _ _ _ _ _ (sides_2048_3072.fits c) (start c _ (word_eq c) rfl rfl)

theorem host7 : StableHlo.after (hostOps1 (F := F) c) V main_v51
    = updateSlice (s := ⟨3, ![4, 1024, 4096]⟩) (u := ⟨3, ![1, 1024, 4096]⟩) (V main_v1_7)
      (broadcastInDim ⟨3, ![1, 1024, 4096]⟩ ![1, 2] sides_512_4096.spread (V main_arg7)) ![c.val / 2, 0, 0] (sides_512_4096.fits c) := by
  after_reads_simp [StableHlo.binaryIndexed_result_read, StableHlo.indexContents_cons, StableHlo.indexContents_empty, cast_eq]
  exact WordCmp.dynamicUpdateSlice_eq_update _ _ _ _ _ (sides_512_4096.fits c) (start c _ (word_eq c) rfl rfl)

theorem host8 : StableHlo.after (hostOps1 (F := F) c) V main_v56
    = updateSlice (s := ⟨3, ![4, 4096, 3072]⟩) (u := ⟨3, ![1, 4096, 3072]⟩) (V main_v1_8)
      (broadcastInDim ⟨3, ![1, 4096, 3072]⟩ ![1, 2] sides_2048_3072.spread (V main_arg8)) ![c.val / 2, 0, 0] (sides_2048_3072.fits c) := by
  after_reads_simp [StableHlo.binaryIndexed_result_read, StableHlo.indexContents_cons, StableHlo.indexContents_empty, cast_eq]
  exact WordCmp.dynamicUpdateSlice_eq_update _ _ _ _ _ (sides_2048_3072.fits c) (start c _ (word_eq c) rfl rfl)

theorem host9 : StableHlo.after (hostOps1 (F := F) c) V main_v61
    = updateSlice (s := ⟨3, ![4, 1024, 4096]⟩) (u := ⟨3, ![1, 1024, 4096]⟩) (V main_v1_9)
      (broadcastInDim ⟨3, ![1, 1024, 4096]⟩ ![1, 2] sides_512_4096.spread (V main_arg9)) ![c.val / 2, 0, 0] (sides_512_4096.fits c) := by
  after_reads_simp [StableHlo.binaryIndexed_result_read, StableHlo.indexContents_cons, StableHlo.indexContents_empty, cast_eq]
  exact WordCmp.dynamicUpdateSlice_eq_update _ _ _ _ _ (sides_512_4096.fits c) (start c _ (word_eq c) rfl rfl)

/-- The arguments are not written. -/
theorem host_kept (k : Fin 10) : StableHlo.after (hostOps1 (F := F) c) V (arrays (.inl k)) = V (arrays (.inl k)) := by
  fin_cases k <;> after_reads_simp

end Host

set_option maxHeartbeats 2000000 in
/-- Every run of the program ends with each result the whole of its weight, and with the shards as they were. -/
theorem run_value (m : (ℓ : Loc nD τ sig) → Buf (Elt F) ℓ) (ρ : Dev nD → PrngReg)
    (x0 : (⟨2, ![16384, 1424]⟩ : Shape).Idx → Elt F .bf16)
    (x1 : (⟨2, ![4096, 1536]⟩ : Shape).Idx → Elt F .bf16)
    (x2 : (⟨2, ![2048, 2048]⟩ : Shape).Idx → Elt F .bf16)
    (x3 : (⟨2, ![4096, 4096]⟩ : Shape).Idx → Elt F .bf16)
    (x4 : (⟨2, ![16384, 4096]⟩ : Shape).Idx → Elt F .bf16)
    (x5 : (⟨2, ![4096, 4096]⟩ : Shape).Idx → Elt F .bf16)
    (x6 : (⟨2, ![16384, 3072]⟩ : Shape).Idx → Elt F .bf16)
    (x7 : (⟨2, ![4096, 4096]⟩ : Shape).Idx → Elt F .bf16)
    (x8 : (⟨2, ![16384, 3072]⟩ : Shape).Idx → Elt F .bf16)
    (x9 : (⟨2, ![4096, 4096]⟩ : Shape).Idx → Elt F .bf16)
    (hin : ∀ c : Dev nD,
      m (c.tc.loc main_arg0) = Layout.blockN ⟨2, ![4096, 1424]⟩ ⟨2, ![16384, 1424]⟩ (Layout.meshBlock [2, 2, 2] ![[0, 1], []] c) x0
      ∧ m (c.tc.loc main_arg1) = Layout.blockN ⟨2, ![1024, 1536]⟩ ⟨2, ![4096, 1536]⟩ (Layout.meshBlock [2, 2, 2] ![[0, 1], []] c) x1
      ∧ m (c.tc.loc main_arg2) = Layout.blockN ⟨2, ![512, 2048]⟩ ⟨2, ![2048, 2048]⟩ (Layout.meshBlock [2, 2, 2] ![[0, 1], []] c) x2
      ∧ m (c.tc.loc main_arg3) = Layout.blockN ⟨2, ![1024, 4096]⟩ ⟨2, ![4096, 4096]⟩ (Layout.meshBlock [2, 2, 2] ![[0, 1], []] c) x3
      ∧ m (c.tc.loc main_arg4) = Layout.blockN ⟨2, ![4096, 4096]⟩ ⟨2, ![16384, 4096]⟩ (Layout.meshBlock [2, 2, 2] ![[0, 1], []] c) x4
      ∧ m (c.tc.loc main_arg5) = Layout.blockN ⟨2, ![1024, 4096]⟩ ⟨2, ![4096, 4096]⟩ (Layout.meshBlock [2, 2, 2] ![[0, 1], []] c) x5
      ∧ m (c.tc.loc main_arg6) = Layout.blockN ⟨2, ![4096, 3072]⟩ ⟨2, ![16384, 3072]⟩ (Layout.meshBlock [2, 2, 2] ![[0, 1], []] c) x6
      ∧ m (c.tc.loc main_arg7) = Layout.blockN ⟨2, ![1024, 4096]⟩ ⟨2, ![4096, 4096]⟩ (Layout.meshBlock [2, 2, 2] ![[0, 1], []] c) x7
      ∧ m (c.tc.loc main_arg8) = Layout.blockN ⟨2, ![4096, 3072]⟩ ⟨2, ![16384, 3072]⟩ (Layout.meshBlock [2, 2, 2] ![[0, 1], []] c) x8
      ∧ m (c.tc.loc main_arg9) = Layout.blockN ⟨2, ![1024, 4096]⟩ ⟨2, ![4096, 4096]⟩ (Layout.meshBlock [2, 2, 2] ![[0, 1], []] c) x9) :
    θ_run (defs (F := F)) (onTc (τ := τ) (main (F := F))) ⟨m, fun _ => 0, ρ⟩ (fun r => ∀ c : Dev nD,
      r.2.mem (c.tc.loc main_v16) = shapeCast ⟨3, ![4, 4096, 1424]⟩ x0 sides_2048_1424.split
      ∧ r.2.mem (c.tc.loc main_v21) = shapeCast ⟨3, ![4, 1024, 1536]⟩ x1 sides_512_1536.split
      ∧ r.2.mem (c.tc.loc main_v26) = shapeCast ⟨3, ![4, 512, 2048]⟩ x2 sides_256_2048.split
      ∧ r.2.mem (c.tc.loc main_v31) = shapeCast ⟨3, ![4, 1024, 4096]⟩ x3 sides_512_4096.split
      ∧ r.2.mem (c.tc.loc main_v36) = shapeCast ⟨3, ![4, 4096, 4096]⟩ x4 sides_2048_4096.split
      ∧ r.2.mem (c.tc.loc main_v41) = shapeCast ⟨3, ![4, 1024, 4096]⟩ x5 sides_512_4096.split
      ∧ r.2.mem (c.tc.loc main_v46) = shapeCast ⟨3, ![4, 4096, 3072]⟩ x6 sides_2048_3072.split
      ∧ r.2.mem (c.tc.loc main_v51) = shapeCast ⟨3, ![4, 1024, 4096]⟩ x7 sides_512_4096.split
      ∧ r.2.mem (c.tc.loc main_v56) = shapeCast ⟨3, ![4, 4096, 3072]⟩ x8 sides_2048_3072.split
      ∧ r.2.mem (c.tc.loc main_v61) = shapeCast ⟨3, ![4, 1024, 4096]⟩ x9 sides_512_4096.split
      ∧ ∀ k, r.2.mem (c.tc.loc (arrays (.inl k))) = m (c.tc.loc (arrays (.inl k)))) := by
  refine (θ_run defs _ _).mono (fun r ⟨⟨V, hV, hr⟩, _⟩ c => ?_) (run_main m ρ)
  have un : ∀ i, ¬ (arrays i).isScoped := by decide
  have own (k : Fin 10) : HostTail.spread (V c) (fun b => m (c, b)) (arrays (.inl k)) = m (c.tc.loc (arrays (.inl k))) :=
    (HostTail.spread_ref _ _ _).trans (argument_kept hV c k)
  have got (k : Fin 10) : HostTail.spread (V c) (fun b => m (c, b)) (arrays (.inr k)) = V c (arrays (.inr k)) := HostTail.spread_ref _ _ _
  refine ⟨(hr c main_v16 (by decide)).trans ((host0 _ c).trans ?_),
    (hr c main_v21 (by decide)).trans ((host1 _ c).trans ?_),
    (hr c main_v26 (by decide)).trans ((host2 _ c).trans ?_),
    (hr c main_v31 (by decide)).trans ((host3 _ c).trans ?_),
    (hr c main_v36 (by decide)).trans ((host4 _ c).trans ?_),
    (hr c main_v41 (by decide)).trans ((host5 _ c).trans ?_),
    (hr c main_v46 (by decide)).trans ((host6 _ c).trans ?_),
    (hr c main_v51 (by decide)).trans ((host7 _ c).trans ?_),
    (hr c main_v56 (by decide)).trans ((host8 _ c).trans ?_),
    (hr c main_v61 (by decide)).trans ((host9 _ c).trans ?_),
    fun k => (hr c _ (un (.inl k))).trans ((host_kept _ c k).trans (own k))⟩
  · refine (congrArg₂ (fun a b => updateSlice (s := ⟨3, ![4, 4096, 1424]⟩) (u := ⟨3, ![1, 4096, 1424]⟩) a
      (broadcastInDim ⟨3, ![1, 4096, 1424]⟩ ![1, 2] sides_2048_1424.spread b) _ (sides_2048_1424.fits c)) (got 0) (own 0)).trans ?_
    exact gathered sides_2048_1424 x0 c (fun d => m (d.tc.loc main_arg0)) (fun d => (hin d).1) _
      fun p hp => moved_rows (offD_eq p 0) (offS_eq p 0) (inbD _ 0 rfl rfl) (inbS _ 0 rfl rfl) squeezes_S1x2048x1424_S2048x1424.numel_eq _ _ (arrived hV c p hp 0) _ rfl rfl
  · refine (congrArg₂ (fun a b => updateSlice (s := ⟨3, ![4, 1024, 1536]⟩) (u := ⟨3, ![1, 1024, 1536]⟩) a
      (broadcastInDim ⟨3, ![1, 1024, 1536]⟩ ![1, 2] sides_512_1536.spread b) _ (sides_512_1536.fits c)) (got 1) (own 1)).trans ?_
    exact gathered sides_512_1536 x1 c (fun d => m (d.tc.loc main_arg1)) (fun d => (hin d).2.1) _
      fun p hp => moved_rows (offD_eq p 1) (offS_eq p 1) (inbD _ 1 rfl rfl) (inbS _ 1 rfl rfl) squeezes_S1x512x1536_S512x1536.numel_eq _ _ (arrived hV c p hp 1) _ rfl rfl
  · refine (congrArg₂ (fun a b => updateSlice (s := ⟨3, ![4, 512, 2048]⟩) (u := ⟨3, ![1, 512, 2048]⟩) a
      (broadcastInDim ⟨3, ![1, 512, 2048]⟩ ![1, 2] sides_256_2048.spread b) _ (sides_256_2048.fits c)) (got 2) (own 2)).trans ?_
    exact gathered sides_256_2048 x2 c (fun d => m (d.tc.loc main_arg2)) (fun d => (hin d).2.2.1) _
      fun p hp => moved_rows (offD_eq p 2) (offS_eq p 2) (inbD _ 2 rfl rfl) (inbS _ 2 rfl rfl) squeezes_S1x256x2048_S256x2048.numel_eq _ _ (arrived hV c p hp 2) _ rfl rfl
  · refine (congrArg₂ (fun a b => updateSlice (s := ⟨3, ![4, 1024, 4096]⟩) (u := ⟨3, ![1, 1024, 4096]⟩) a
      (broadcastInDim ⟨3, ![1, 1024, 4096]⟩ ![1, 2] sides_512_4096.spread b) _ (sides_512_4096.fits c)) (got 3) (own 3)).trans ?_
    exact gathered sides_512_4096 x3 c (fun d => m (d.tc.loc main_arg3)) (fun d => (hin d).2.2.2.1) _
      fun p hp => moved_rows (offD_eq p 3) (offS_eq p 3) (inbD _ 3 rfl rfl) (inbS _ 3 rfl rfl) squeezes_S1x512x4096_S512x4096.numel_eq _ _ (arrived hV c p hp 3) _ rfl rfl
  · refine (congrArg₂ (fun a b => updateSlice (s := ⟨3, ![4, 4096, 4096]⟩) (u := ⟨3, ![1, 4096, 4096]⟩) a
      (broadcastInDim ⟨3, ![1, 4096, 4096]⟩ ![1, 2] sides_2048_4096.spread b) _ (sides_2048_4096.fits c)) (got 4) (own 4)).trans ?_
    exact gathered sides_2048_4096 x4 c (fun d => m (d.tc.loc main_arg4)) (fun d => (hin d).2.2.2.2.1) _
      fun p hp => moved_rows (offD_eq p 4) (offS_eq p 4) (inbD _ 4 rfl rfl) (inbS _ 4 rfl rfl) squeezes_S1x2048x4096_S2048x4096.numel_eq _ _ (arrived hV c p hp 4) _ rfl rfl
  · refine (congrArg₂ (fun a b => updateSlice (s := ⟨3, ![4, 1024, 4096]⟩) (u := ⟨3, ![1, 1024, 4096]⟩) a
      (broadcastInDim ⟨3, ![1, 1024, 4096]⟩ ![1, 2] sides_512_4096.spread b) _ (sides_512_4096.fits c)) (got 5) (own 5)).trans ?_
    exact gathered sides_512_4096 x5 c (fun d => m (d.tc.loc main_arg5)) (fun d => (hin d).2.2.2.2.2.1) _
      fun p hp => moved_rows (offD_eq p 5) (offS_eq p 5) (inbD _ 5 rfl rfl) (inbS _ 5 rfl rfl) squeezes_S1x512x4096_S512x4096.numel_eq _ _ (arrived hV c p hp 5) _ rfl rfl
  · refine (congrArg₂ (fun a b => updateSlice (s := ⟨3, ![4, 4096, 3072]⟩) (u := ⟨3, ![1, 4096, 3072]⟩) a
      (broadcastInDim ⟨3, ![1, 4096, 3072]⟩ ![1, 2] sides_2048_3072.spread b) _ (sides_2048_3072.fits c)) (got 6) (own 6)).trans ?_
    exact gathered sides_2048_3072 x6 c (fun d => m (d.tc.loc main_arg6)) (fun d => (hin d).2.2.2.2.2.2.1) _
      fun p hp => moved_rows (offD_eq p 6) (offS_eq p 6) (inbD _ 6 rfl rfl) (inbS _ 6 rfl rfl) squeezes_S1x2048x3072_S2048x3072.numel_eq _ _ (arrived hV c p hp 6) _ rfl rfl
  · refine (congrArg₂ (fun a b => updateSlice (s := ⟨3, ![4, 1024, 4096]⟩) (u := ⟨3, ![1, 1024, 4096]⟩) a
      (broadcastInDim ⟨3, ![1, 1024, 4096]⟩ ![1, 2] sides_512_4096.spread b) _ (sides_512_4096.fits c)) (got 7) (own 7)).trans ?_
    exact gathered sides_512_4096 x7 c (fun d => m (d.tc.loc main_arg7)) (fun d => (hin d).2.2.2.2.2.2.2.1) _
      fun p hp => moved_rows (offD_eq p 7) (offS_eq p 7) (inbD _ 7 rfl rfl) (inbS _ 7 rfl rfl) squeezes_S1x512x4096_S512x4096.numel_eq _ _ (arrived hV c p hp 7) _ rfl rfl
  · refine (congrArg₂ (fun a b => updateSlice (s := ⟨3, ![4, 4096, 3072]⟩) (u := ⟨3, ![1, 4096, 3072]⟩) a
      (broadcastInDim ⟨3, ![1, 4096, 3072]⟩ ![1, 2] sides_2048_3072.spread b) _ (sides_2048_3072.fits c)) (got 8) (own 8)).trans ?_
    exact gathered sides_2048_3072 x8 c (fun d => m (d.tc.loc main_arg8)) (fun d => (hin d).2.2.2.2.2.2.2.2.1) _
      fun p hp => moved_rows (offD_eq p 8) (offS_eq p 8) (inbD _ 8 rfl rfl) (inbS _ 8 rfl rfl) squeezes_S1x2048x3072_S2048x3072.numel_eq _ _ (arrived hV c p hp 8) _ rfl rfl
  · refine (congrArg₂ (fun a b => updateSlice (s := ⟨3, ![4, 1024, 4096]⟩) (u := ⟨3, ![1, 1024, 4096]⟩) a
      (broadcastInDim ⟨3, ![1, 1024, 4096]⟩ ![1, 2] sides_512_4096.spread b) _ (sides_512_4096.fits c)) (got 9) (own 9)).trans ?_
    exact gathered sides_512_4096 x9 c (fun d => m (d.tc.loc main_arg9)) (fun d => (hin d).2.2.2.2.2.2.2.2.2) _
      fun p hp => moved_rows (offD_eq p 9) (offS_eq p 9) (inbD _ 9 rfl rfl) (inbS _ 9 rfl rfl) squeezes_S1x512x4096_S512x4096.numel_eq _ _ (arrived hV c p hp 9) _ rfl rfl

end Cert.Gathering

end
-- ==== Proof.Optimiser.lean ====
/-
The optimiser's step: what the kernel writes, index by index, is what the reference computes with its whole-array
operations. At the extended reals the two divisions are one division and the two roots one root, so the arrays are the same
terms.
-/
module

public import proofs.«01_k».proof.Defs
public import proofs.«01_k».proof.Proof.Gen.Adam4096x1424.Frame
public import proofs.«01_k».proof.Proof.Gen.Adam4096x1424Ideal.Value
public import proofs.«01_k».proof.Proof.Gen.Adam4096x1424RefIdeal.Run
public import proofs.«01_k».proof.Proof.Gen.Adam1024x1536.Frame
public import proofs.«01_k».proof.Proof.Gen.Adam1024x1536Ideal.Value
public import proofs.«01_k».proof.Proof.Gen.Adam1024x1536RefIdeal.Run
public import proofs.«01_k».proof.Proof.Gen.Adam512x2048.Frame
public import proofs.«01_k».proof.Proof.Gen.Adam512x2048Ideal.Value
public import proofs.«01_k».proof.Proof.Gen.Adam512x2048RefIdeal.Run
public import proofs.«01_k».proof.Proof.Gen.Adam1024x4096.Frame
public import proofs.«01_k».proof.Proof.Gen.Adam1024x4096Ideal.Value
public import proofs.«01_k».proof.Proof.Gen.Adam1024x4096RefIdeal.Run
public import proofs.«01_k».proof.Proof.Gen.Adam4096x4096.Frame
public import proofs.«01_k».proof.Proof.Gen.Adam4096x4096Ideal.Value
public import proofs.«01_k».proof.Proof.Gen.Adam4096x4096RefIdeal.Run
public import proofs.«01_k».proof.Proof.Gen.Adam4096x3072.Frame
public import proofs.«01_k».proof.Proof.Gen.Adam4096x3072Ideal.Value
public import proofs.«01_k».proof.Proof.Gen.Adam4096x3072RefIdeal.Run
public import proofs.«01_k».proof.Proof.Gen.Adam1616x128.Frame
public import proofs.«01_k».proof.Proof.Gen.Adam1616x128Ideal.Value
public import proofs.«01_k».proof.Proof.Gen.Adam1616x128RefIdeal.Run

@[expose] public section

noncomputable section

namespace Cert.Proof

open Idealize.ShloMosaic Idealize.SL.Sem
open Idealize.ShloMosaic.TcCoe

/-! ### 4096 × 1424 -/

theorem frame_Adam4096x1424RefIdeal : Cert.quiescent_Adam4096x1424RefIdeal := fun m g _ =>
  (θ_run Cert.Adam4096x1424RefIdeal.defs _ _).mono (fun _ h => ⟨fun c => (h c).2.2.2, sem_eq_zero_of_no_sems rfl _⟩) (Cert.Adam4096x1424RefIdeal.Value.run (F := Ideal) m g)

theorem algebraic_Adam4096x1424 : Cert.algebraic_Adam4096x1424Ideal_Adam4096x1424RefIdeal := fun m g m' g' _ hin =>
  ⟨_, _, _, Cert.Adam4096x1424Ideal.Value.run (F := Ideal) m g, (θ_run Cert.Adam4096x1424RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam4096x1424RefIdeal.Value.run (F := Ideal) m' g')⟩

/-! ### 1024 × 1536 -/

theorem frame_Adam1024x1536RefIdeal : Cert.quiescent_Adam1024x1536RefIdeal := fun m g _ =>
  (θ_run Cert.Adam1024x1536RefIdeal.defs _ _).mono (fun _ h => ⟨fun c => (h c).2.2.2, sem_eq_zero_of_no_sems rfl _⟩) (Cert.Adam1024x1536RefIdeal.Value.run (F := Ideal) m g)

theorem algebraic_Adam1024x1536 : Cert.algebraic_Adam1024x1536Ideal_Adam1024x1536RefIdeal := fun m g m' g' _ hin =>
  ⟨_, _, _, Cert.Adam1024x1536Ideal.Value.run (F := Ideal) m g, (θ_run Cert.Adam1024x1536RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam1024x1536RefIdeal.Value.run (F := Ideal) m' g')⟩

/-! ### 512 × 2048 -/

theorem frame_Adam512x2048RefIdeal : Cert.quiescent_Adam512x2048RefIdeal := fun m g _ =>
  (θ_run Cert.Adam512x2048RefIdeal.defs _ _).mono (fun _ h => ⟨fun c => (h c).2.2.2, sem_eq_zero_of_no_sems rfl _⟩) (Cert.Adam512x2048RefIdeal.Value.run (F := Ideal) m g)

theorem algebraic_Adam512x2048 : Cert.algebraic_Adam512x2048Ideal_Adam512x2048RefIdeal := fun m g m' g' _ hin =>
  ⟨_, _, _, Cert.Adam512x2048Ideal.Value.run (F := Ideal) m g, (θ_run Cert.Adam512x2048RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam512x2048RefIdeal.Value.run (F := Ideal) m' g')⟩

/-! ### 1024 × 4096 -/

theorem frame_Adam1024x4096RefIdeal : Cert.quiescent_Adam1024x4096RefIdeal := fun m g _ =>
  (θ_run Cert.Adam1024x4096RefIdeal.defs _ _).mono (fun _ h => ⟨fun c => (h c).2.2.2, sem_eq_zero_of_no_sems rfl _⟩) (Cert.Adam1024x4096RefIdeal.Value.run (F := Ideal) m g)

theorem algebraic_Adam1024x4096 : Cert.algebraic_Adam1024x4096Ideal_Adam1024x4096RefIdeal := fun m g m' g' _ hin =>
  ⟨_, _, _, Cert.Adam1024x4096Ideal.Value.run (F := Ideal) m g, (θ_run Cert.Adam1024x4096RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam1024x4096RefIdeal.Value.run (F := Ideal) m' g')⟩

/-! ### 4096 × 4096 -/

theorem frame_Adam4096x4096RefIdeal : Cert.quiescent_Adam4096x4096RefIdeal := fun m g _ =>
  (θ_run Cert.Adam4096x4096RefIdeal.defs _ _).mono (fun _ h => ⟨fun c => (h c).2.2.2, sem_eq_zero_of_no_sems rfl _⟩) (Cert.Adam4096x4096RefIdeal.Value.run (F := Ideal) m g)

theorem algebraic_Adam4096x4096 : Cert.algebraic_Adam4096x4096Ideal_Adam4096x4096RefIdeal := fun m g m' g' _ hin =>
  ⟨_, _, _, Cert.Adam4096x4096Ideal.Value.run (F := Ideal) m g, (θ_run Cert.Adam4096x4096RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam4096x4096RefIdeal.Value.run (F := Ideal) m' g')⟩

/-! ### 4096 × 3072 -/

theorem frame_Adam4096x3072RefIdeal : Cert.quiescent_Adam4096x3072RefIdeal := fun m g _ =>
  (θ_run Cert.Adam4096x3072RefIdeal.defs _ _).mono (fun _ h => ⟨fun c => (h c).2.2.2, sem_eq_zero_of_no_sems rfl _⟩) (Cert.Adam4096x3072RefIdeal.Value.run (F := Ideal) m g)

theorem algebraic_Adam4096x3072 : Cert.algebraic_Adam4096x3072Ideal_Adam4096x3072RefIdeal := fun m g m' g' _ hin =>
  ⟨_, _, _, Cert.Adam4096x3072Ideal.Value.run (F := Ideal) m g, (θ_run Cert.Adam4096x3072RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam4096x3072RefIdeal.Value.run (F := Ideal) m' g')⟩

/-! ### 1616 × 128 -/

theorem frame_Adam1616x128RefIdeal : Cert.quiescent_Adam1616x128RefIdeal := fun m g _ =>
  (θ_run Cert.Adam1616x128RefIdeal.defs _ _).mono (fun _ h => ⟨fun c => (h c).2.2.2, sem_eq_zero_of_no_sems rfl _⟩) (Cert.Adam1616x128RefIdeal.Value.run (F := Ideal) m g)

theorem algebraic_Adam1616x128 : Cert.algebraic_Adam1616x128Ideal_Adam1616x128RefIdeal := fun m g m' g' _ hin =>
  ⟨_, _, _, Cert.Adam1616x128Ideal.Value.run (F := Ideal) m g, (θ_run Cert.Adam1616x128RefIdeal.defs _ _).mono (fun _ h c => by
    obtain ⟨h0, h1, h2, hk⟩ := h c
    obtain ⟨aw, ag, am, av⟩ := hin c
    rw [aw, ag, am, av] at h0
    rw [ag, am] at h1
    rw [ag, av] at h2
    exact ⟨h0, h1, h2, hk⟩) (Cert.Adam1616x128RefIdeal.Value.run (F := Ideal) m' g')⟩

end Cert.Proof

end
-- ==== Proof.PairSums.lean ====
/-
The sums over the two cores of a chip: one sum and one rounding at every index, in the kernel as in the reference.
-/
module

public import proofs.«01_k».proof.Defs
public import proofs.«01_k».proof.Proof.Gen.Pair8192x1424.Value
public import proofs.«01_k».proof.Proof.Gen.Pair8192x1424Ideal.Value
public import proofs.«01_k».proof.Proof.Gen.Pair8192x1424Ref.Run
public import proofs.«01_k».proof.Proof.Gen.Pair8192x1424RefIdeal.Run
public import proofs.«01_k».proof.Proof.Gen.Pair2048x1536.Value
public import proofs.«01_k».proof.Proof.Gen.Pair2048x1536Ideal.Value
public import proofs.«01_k».proof.Proof.Gen.Pair2048x1536Ref.Run
public import proofs.«01_k».proof.Proof.Gen.Pair2048x1536RefIdeal.Run
public import proofs.«01_k».proof.Proof.Gen.Pair1024x2048.Value
public import proofs.«01_k».proof.Proof.Gen.Pair1024x2048Ideal.Value
public import proofs.«01_k».proof.Proof.Gen.Pair1024x2048Ref.Run
public import proofs.«01_k».proof.Proof.Gen.Pair1024x2048RefIdeal.Run
public import proofs.«01_k».proof.Proof.Gen.Pair2048x4096.Value
public import proofs.«01_k».proof.Proof.Gen.Pair2048x4096Ideal.Value
public import proofs.«01_k».proof.Proof.Gen.Pair2048x4096Ref.Run
public import proofs.«01_k».proof.Proof.Gen.Pair2048x4096RefIdeal.Run
public import proofs.«01_k».proof.Proof.Gen.Pair8192x4096.Value
public import proofs.«01_k».proof.Proof.Gen.Pair8192x4096Ideal.Value
public import proofs.«01_k».proof.Proof.Gen.Pair8192x4096Ref.Run
public import proofs.«01_k».proof.Proof.Gen.Pair8192x4096RefIdeal.Run
public import proofs.«01_k».proof.Proof.Gen.Pair8192x3072.Value
public import proofs.«01_k».proof.Proof.Gen.Pair8192x3072Ideal.Value
public import proofs.«01_k».proof.Proof.Gen.Pair8192x3072Ref.Run
public import proofs.«01_k».proof.Proof.Gen.Pair8192x3072RefIdeal.Run

@[expose] public section

noncomputable section

namespace Cert.Proof

open Idealize.ShloMosaic Idealize.SL.Sem
open Idealize.ShloMosaic.TcCoe

/-! ### 8192 × 1424 -/

theorem frame_Pair8192x1424RefIdeal : Cert.quiescent_Pair8192x1424RefIdeal := fun m g _ =>
  (θ_run Cert.Pair8192x1424RefIdeal.defs _ _).mono (fun _ h => ⟨fun c => (h c).2, sem_eq_zero_of_no_sems rfl _⟩) (Cert.Pair8192x1424RefIdeal.Value.run (F := Ideal) m g)

theorem frame_Pair8192x1424Ref : Cert.quiescent_Pair8192x1424Ref := fun m g _ =>
  (θ_run Cert.Pair8192x1424Ref.defs _ _).mono (fun _ h => ⟨fun c => (h c).2, sem_eq_zero_of_no_sems rfl _⟩) (Cert.Pair8192x1424Ref.Value.run (F := Bits) m g)

theorem algebraic_Pair8192x1424 : Cert.algebraic_Pair8192x1424Ideal_Pair8192x1424RefIdeal := fun m g m' g' _ hin =>
  ⟨_, Cert.Pair8192x1424Ideal.Value.run (F := Ideal) m g, (θ_run Cert.Pair8192x1424RefIdeal.defs _ _).mono (fun _ h c => by
    obtain ⟨h0, hk⟩ := h c
    rw [(hin c).1, (hin c).2] at h0
    exact ⟨h0, hk⟩) (Cert.Pair8192x1424RefIdeal.Value.run (F := Ideal) m' g')⟩

theorem bitexact_Pair8192x1424 : Cert.bitexact_Pair8192x1424_Pair8192x1424Ref := fun m g m' g' _ hin =>
  ⟨_, Cert.Pair8192x1424.Value.run (F := Bits) m g, (θ_run Cert.Pair8192x1424Ref.defs _ _).mono (fun _ h c => by
    obtain ⟨h0, hk⟩ := h c
    rw [(hin c).1, (hin c).2] at h0
    exact ⟨h0, hk⟩) (Cert.Pair8192x1424Ref.Value.run (F := Bits) m' g')⟩

/-! ### 2048 × 1536 -/

theorem frame_Pair2048x1536RefIdeal : Cert.quiescent_Pair2048x1536RefIdeal := fun m g _ =>
  (θ_run Cert.Pair2048x1536RefIdeal.defs _ _).mono (fun _ h => ⟨fun c => (h c).2, sem_eq_zero_of_no_sems rfl _⟩) (Cert.Pair2048x1536RefIdeal.Value.run (F := Ideal) m g)

theorem frame_Pair2048x1536Ref : Cert.quiescent_Pair2048x1536Ref := fun m g _ =>
  (θ_run Cert.Pair2048x1536Ref.defs _ _).mono (fun _ h => ⟨fun c => (h c).2, sem_eq_zero_of_no_sems rfl _⟩) (Cert.Pair2048x1536Ref.Value.run (F := Bits) m g)

theorem algebraic_Pair2048x1536 : Cert.algebraic_Pair2048x1536Ideal_Pair2048x1536RefIdeal := fun m g m' g' _ hin =>
  ⟨_, Cert.Pair2048x1536Ideal.Value.run (F := Ideal) m g, (θ_run Cert.Pair2048x1536RefIdeal.defs _ _).mono (fun _ h c => by
    obtain ⟨h0, hk⟩ := h c
    rw [(hin c).1, (hin c).2] at h0
    exact ⟨h0, hk⟩) (Cert.Pair2048x1536RefIdeal.Value.run (F := Ideal) m' g')⟩

theorem bitexact_Pair2048x1536 : Cert.bitexact_Pair2048x1536_Pair2048x1536Ref := fun m g m' g' _ hin =>
  ⟨_, Cert.Pair2048x1536.Value.run (F := Bits) m g, (θ_run Cert.Pair2048x1536Ref.defs _ _).mono (fun _ h c => by
    obtain ⟨h0, hk⟩ := h c
    rw [(hin c).1, (hin c).2] at h0
    exact ⟨h0, hk⟩) (Cert.Pair2048x1536Ref.Value.run (F := Bits) m' g')⟩

/-! ### 1024 × 2048 -/

theorem frame_Pair1024x2048RefIdeal : Cert.quiescent_Pair1024x2048RefIdeal := fun m g _ =>
  (θ_run Cert.Pair1024x2048RefIdeal.defs _ _).mono (fun _ h => ⟨fun c => (h c).2, sem_eq_zero_of_no_sems rfl _⟩) (Cert.Pair1024x2048RefIdeal.Value.run (F := Ideal) m g)

theorem frame_Pair1024x2048Ref : Cert.quiescent_Pair1024x2048Ref := fun m g _ =>
  (θ_run Cert.Pair1024x2048Ref.defs _ _).mono (fun _ h => ⟨fun c => (h c).2, sem_eq_zero_of_no_sems rfl _⟩) (Cert.Pair1024x2048Ref.Value.run (F := Bits) m g)

theorem algebraic_Pair1024x2048 : Cert.algebraic_Pair1024x2048Ideal_Pair1024x2048RefIdeal := fun m g m' g' _ hin =>
  ⟨_, Cert.Pair1024x2048Ideal.Value.run (F := Ideal) m g, (θ_run Cert.Pair1024x2048RefIdeal.defs _ _).mono (fun _ h c => by
    obtain ⟨h0, hk⟩ := h c
    rw [(hin c).1, (hin c).2] at h0
    exact ⟨h0, hk⟩) (Cert.Pair1024x2048RefIdeal.Value.run (F := Ideal) m' g')⟩

theorem bitexact_Pair1024x2048 : Cert.bitexact_Pair1024x2048_Pair1024x2048Ref := fun m g m' g' _ hin =>
  ⟨_, Cert.Pair1024x2048.Value.run (F := Bits) m g, (θ_run Cert.Pair1024x2048Ref.defs _ _).mono (fun _ h c => by
    obtain ⟨h0, hk⟩ := h c
    rw [(hin c).1, (hin c).2] at h0
    exact ⟨h0, hk⟩) (Cert.Pair1024x2048Ref.Value.run (F := Bits) m' g')⟩

/-! ### 2048 × 4096 -/

theorem frame_Pair2048x4096RefIdeal : Cert.quiescent_Pair2048x4096RefIdeal := fun m g _ =>
  (θ_run Cert.Pair2048x4096RefIdeal.defs _ _).mono (fun _ h => ⟨fun c => (h c).2, sem_eq_zero_of_no_sems rfl _⟩) (Cert.Pair2048x4096RefIdeal.Value.run (F := Ideal) m g)

theorem frame_Pair2048x4096Ref : Cert.quiescent_Pair2048x4096Ref := fun m g _ =>
  (θ_run Cert.Pair2048x4096Ref.defs _ _).mono (fun _ h => ⟨fun c => (h c).2, sem_eq_zero_of_no_sems rfl _⟩) (Cert.Pair2048x4096Ref.Value.run (F := Bits) m g)

theorem algebraic_Pair2048x4096 : Cert.algebraic_Pair2048x4096Ideal_Pair2048x4096RefIdeal := fun m g m' g' _ hin =>
  ⟨_, Cert.Pair2048x4096Ideal.Value.run (F := Ideal) m g, (θ_run Cert.Pair2048x4096RefIdeal.defs _ _).mono (fun _ h c => by
    obtain ⟨h0, hk⟩ := h c
    rw [(hin c).1, (hin c).2] at h0
    exact ⟨h0, hk⟩) (Cert.Pair2048x4096RefIdeal.Value.run (F := Ideal) m' g')⟩

theorem bitexact_Pair2048x4096 : Cert.bitexact_Pair2048x4096_Pair2048x4096Ref := fun m g m' g' _ hin =>
  ⟨_, Cert.Pair2048x4096.Value.run (F := Bits) m g, (θ_run Cert.Pair2048x4096Ref.defs _ _).mono (fun _ h c => by
    obtain ⟨h0, hk⟩ := h c
    rw [(hin c).1, (hin c).2] at h0
    exact ⟨h0, hk⟩) (Cert.Pair2048x4096Ref.Value.run (F := Bits) m' g')⟩

/-! ### 8192 × 4096 -/

theorem frame_Pair8192x4096RefIdeal : Cert.quiescent_Pair8192x4096RefIdeal := fun m g _ =>
  (θ_run Cert.Pair8192x4096RefIdeal.defs _ _).mono (fun _ h => ⟨fun c => (h c).2, sem_eq_zero_of_no_sems rfl _⟩) (Cert.Pair8192x4096RefIdeal.Value.run (F := Ideal) m g)

theorem frame_Pair8192x4096Ref : Cert.quiescent_Pair8192x4096Ref := fun m g _ =>
  (θ_run Cert.Pair8192x4096Ref.defs _ _).mono (fun _ h => ⟨fun c => (h c).2, sem_eq_zero_of_no_sems rfl _⟩) (Cert.Pair8192x4096Ref.Value.run (F := Bits) m g)

theorem algebraic_Pair8192x4096 : Cert.algebraic_Pair8192x4096Ideal_Pair8192x4096RefIdeal := fun m g m' g' _ hin =>
  ⟨_, Cert.Pair8192x4096Ideal.Value.run (F := Ideal) m g, (θ_run Cert.Pair8192x4096RefIdeal.defs _ _).mono (fun _ h c => by
    obtain ⟨h0, hk⟩ := h c
    rw [(hin c).1, (hin c).2] at h0
    exact ⟨h0, hk⟩) (Cert.Pair8192x4096RefIdeal.Value.run (F := Ideal) m' g')⟩

theorem bitexact_Pair8192x4096 : Cert.bitexact_Pair8192x4096_Pair8192x4096Ref := fun m g m' g' _ hin =>
  ⟨_, Cert.Pair8192x4096.Value.run (F := Bits) m g, (θ_run Cert.Pair8192x4096Ref.defs _ _).mono (fun _ h c => by
    obtain ⟨h0, hk⟩ := h c
    rw [(hin c).1, (hin c).2] at h0
    exact ⟨h0, hk⟩) (Cert.Pair8192x4096Ref.Value.run (F := Bits) m' g')⟩

/-! ### 8192 × 3072 -/

theorem frame_Pair8192x3072RefIdeal : Cert.quiescent_Pair8192x3072RefIdeal := fun m g _ =>
  (θ_run Cert.Pair8192x3072RefIdeal.defs _ _).mono (fun _ h => ⟨fun c => (h c).2, sem_eq_zero_of_no_sems rfl _⟩) (Cert.Pair8192x3072RefIdeal.Value.run (F := Ideal) m g)

theorem frame_Pair8192x3072Ref : Cert.quiescent_Pair8192x3072Ref := fun m g _ =>
  (θ_run Cert.Pair8192x3072Ref.defs _ _).mono (fun _ h => ⟨fun c => (h c).2, sem_eq_zero_of_no_sems rfl _⟩) (Cert.Pair8192x3072Ref.Value.run (F := Bits) m g)

theorem algebraic_Pair8192x3072 : Cert.algebraic_Pair8192x3072Ideal_Pair8192x3072RefIdeal := fun m g m' g' _ hin =>
  ⟨_, Cert.Pair8192x3072Ideal.Value.run (F := Ideal) m g, (θ_run Cert.Pair8192x3072RefIdeal.defs _ _).mono (fun _ h c => by
    obtain ⟨h0, hk⟩ := h c
    rw [(hin c).1, (hin c).2] at h0
    exact ⟨h0, hk⟩) (Cert.Pair8192x3072RefIdeal.Value.run (F := Ideal) m' g')⟩

theorem bitexact_Pair8192x3072 : Cert.bitexact_Pair8192x3072_Pair8192x3072Ref := fun m g m' g' _ hin =>
  ⟨_, Cert.Pair8192x3072.Value.run (F := Bits) m g, (θ_run Cert.Pair8192x3072Ref.defs _ _).mono (fun _ h c => by
    obtain ⟨h0, hk⟩ := h c
    rw [(hin c).1, (hin c).2] at h0
    exact ⟨h0, hk⟩) (Cert.Pair8192x3072Ref.Value.run (F := Bits) m' g')⟩

end Cert.Proof

end
-- ==== Proof.Sums.lean ====
/-
Sums over the first axis of an array, and the coordinates at which a block of such an array is read.
-/
module

public import Idealize.ShloMosaic.Lib.Pointwise

@[expose] public section

noncomputable section

namespace Cert.Sums

open Idealize.ShloMosaic

/-- A host sum over the first axis, from zero, is the sum of the slices. -/
theorem reduceAdd_first {J R C : Nat} {t u : Shape} (h : (⟨3, ![J, R, C]⟩ : Shape).ReducesTo [0] t) (hu : 0 < u.numel)
    (v : (⟨3, ![J, R, C]⟩ : Shape).Idx → EReal) (j : t.Idx) :
    Host.reduceAdd (F := Ideal) (φ := .f32) v (constant (F := Ideal) u .f32 0x00000000#32) h hu j
      = ∑ k : Fin J, v (ix3 k ⟨(j ⟨0, h.lt_r3_a0_0⟩).val, Shape.coordLt (j ⟨0, h.lt_r3_a0_0⟩) h.size_r3_a0_0⟩
          ⟨(j ⟨1, h.lt_r3_a0_1⟩).val, Shape.coordLt (j ⟨1, h.lt_r3_a0_1⟩) h.size_r3_a0_1⟩) := by
  rw [Host.reduceAdd_apply]
  show Ideal.hostReduceAdd h v (Ideal.ofBits .f32 0x00000000#32) j = _
  rw [Ideal.hostReduceAdd_r3_a0]
  have z : Ideal.ofBits .f32 0x00000000#32 = 0 := by simp
  rw [z, zero_add]

/-- Four terms, each equal to the other's. -/
theorem add_four {a b c d a' b' c' d' : EReal} (h0 : a = a') (h1 : b = b') (h2 : c = c') (h3 : d = d') :
    a + b + c + d = a' + b' + c' + d' := by rw [h0, h1, h2, h3]

/-- Eight terms, each equal to the other's. -/
theorem add_eight {a b c d e f g h a' b' c' d' e' f' g' h' : EReal} (h0 : a = a') (h1 : b = b') (h2 : c = c') (h3 : d = d')
    (h4 : e = e') (h5 : f = f') (h6 : g = g') (h7 : h = h') :
    a + b + c + d + e + f + g + h = a' + b' + c' + d' + e' + f' + g' + h' := by rw [h0, h1, h2, h3, h4, h5, h6, h7]

/-- The slice's number, in a window that holds all slices. -/
theorem slice_coord {i n k : Nat} (h : i = 0) : i * n + 1 * (k + 1 * 0) = k := by subst h; omega

/-- A row or a lane of a block, in two windows that move together. -/
theorem block_coord {i i' n y : Nat} (h : i = i') : i * n + 1 * (0 + 1 * y) = i' * n + 1 * y := by subst h; omega

/-- The slice's number, in an array read whole. -/
theorem slice_whole (k : Nat) : k + 1 * 0 = k := by omega

/-- A row or a lane, in an array read whole. -/
theorem whole_coord (y : Nat) : 0 + 1 * (0 + 1 * y) = y := by omega

end Cert.Sums

end
-- ==== Proof.SliceSums.lean ====
/-
The sums over the four chips and over the eight slots of the small weights' gradients: the kernel adds the slices one after
the other, block by block; the reference sums over the first axis.
-/
module

public import proofs.«01_k».proof.Defs
public import proofs.«01_k».proof.Proof.Sums
public import Idealize.ShloMosaic.Lib.Pipeline.ValueKit
public import proofs.«01_k».proof.Proof.Gen.Chip2048x1424.Frame
public import proofs.«01_k».proof.Proof.Gen.Chip2048x1424Ideal.Value
public import proofs.«01_k».proof.Proof.Gen.Chip2048x1424RefIdeal.Run
public import proofs.«01_k».proof.Proof.Gen.Chip512x1536.Frame
public import proofs.«01_k».proof.Proof.Gen.Chip512x1536Ideal.Value
public import proofs.«01_k».proof.Proof.Gen.Chip512x1536RefIdeal.Run
public import proofs.«01_k».proof.Proof.Gen.Chip256x2048.Frame
public import proofs.«01_k».proof.Proof.Gen.Chip256x2048Ideal.Value
public import proofs.«01_k».proof.Proof.Gen.Chip256x2048RefIdeal.Run
public import proofs.«01_k».proof.Proof.Gen.Chip512x4096.Frame
public import proofs.«01_k».proof.Proof.Gen.Chip512x4096Ideal.Value
public import proofs.«01_k».proof.Proof.Gen.Chip512x4096RefIdeal.Run
public import proofs.«01_k».proof.Proof.Gen.Chip2048x4096.Frame
public import proofs.«01_k».proof.Proof.Gen.Chip2048x4096Ideal.Value
public import proofs.«01_k».proof.Proof.Gen.Chip2048x4096RefIdeal.Run
public import proofs.«01_k».proof.Proof.Gen.Chip2048x3072.Frame
public import proofs.«01_k».proof.Proof.Gen.Chip2048x3072Ideal.Value
public import proofs.«01_k».proof.Proof.Gen.Chip2048x3072RefIdeal.Run
public import proofs.«01_k».proof.Proof.Gen.Slots.Frame
public import proofs.«01_k».proof.Proof.Gen.SlotsIdeal.Value
public import proofs.«01_k».proof.Proof.Gen.SlotsRefIdeal.Run

@[expose] public section

noncomputable section

namespace Cert.Proof

open Idealize.ShloMosaic Idealize.SL.Sem
open Idealize.ShloMosaic.TcCoe

open Cert.Sums

/-! ### 2048 × 1424 -/

section
open Cert.Chip2048x1424Ideal Cert.Chip2048x1424Ideal.Gen

/-- The array after the run is the sum over the chips. -/
theorem final_Chip2048x1424 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip2048x1424RefIdeal.S_ .f32 0x00000000#32) Cert.Chip2048x1424RefIdeal.Gen.reducesTo_S4x2048x1424_S2048x1424_d0
      Cert.Chip2048x1424RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip2048x1424RefIdeal : Cert.quiescent_Chip2048x1424RefIdeal := fun m g _ =>
  (θ_run Cert.Chip2048x1424RefIdeal.defs _ _).mono (fun _ h => ⟨fun c => (h c).2, sem_eq_zero_of_no_sems rfl _⟩) (Cert.Chip2048x1424RefIdeal.Value.run (F := Ideal) m g)

theorem algebraic_Chip2048x1424 : Cert.algebraic_Chip2048x1424Ideal_Chip2048x1424RefIdeal := fun m g m' g' _ hin =>
  ⟨_, (θ_run Cert.Chip2048x1424Ideal.defs _ _).mono (fun _ h c => ⟨(h c).1.trans (final_Chip2048x1424 m c), (h c).2⟩)
      (Cert.Chip2048x1424Ideal.Value.run_blocks (F := Ideal) m g),
    (θ_run Cert.Chip2048x1424RefIdeal.defs _ _).mono (fun _ h c => by
      obtain ⟨h0, hk⟩ := h c
      rw [hin c] at h0
      exact ⟨h0, hk⟩) (Cert.Chip2048x1424RefIdeal.Value.run (F := Ideal) m' g')⟩

/-! ### 512 × 1536 -/

section
open Cert.Chip512x1536Ideal Cert.Chip512x1536Ideal.Gen

/-- The array after the run is the sum over the chips. -/
theorem final_Chip512x1536 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip512x1536RefIdeal.S_ .f32 0x00000000#32) Cert.Chip512x1536RefIdeal.Gen.reducesTo_S4x512x1536_S512x1536_d0
      Cert.Chip512x1536RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip512x1536RefIdeal : Cert.quiescent_Chip512x1536RefIdeal := fun m g _ =>
  (θ_run Cert.Chip512x1536RefIdeal.defs _ _).mono (fun _ h => ⟨fun c => (h c).2, sem_eq_zero_of_no_sems rfl _⟩) (Cert.Chip512x1536RefIdeal.Value.run (F := Ideal) m g)

theorem algebraic_Chip512x1536 : Cert.algebraic_Chip512x1536Ideal_Chip512x1536RefIdeal := fun m g m' g' _ hin =>
  ⟨_, (θ_run Cert.Chip512x1536Ideal.defs _ _).mono (fun _ h c => ⟨(h c).1.trans (final_Chip512x1536 m c), (h c).2⟩)
      (Cert.Chip512x1536Ideal.Value.run_blocks (F := Ideal) m g),
    (θ_run Cert.Chip512x1536RefIdeal.defs _ _).mono (fun _ h c => by
      obtain ⟨h0, hk⟩ := h c
      rw [hin c] at h0
      exact ⟨h0, hk⟩) (Cert.Chip512x1536RefIdeal.Value.run (F := Ideal) m' g')⟩

/-! ### 256 × 2048 -/

section
open Cert.Chip256x2048Ideal Cert.Chip256x2048Ideal.Gen

/-- The array after the run is the sum over the chips. -/
theorem final_Chip256x2048 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip256x2048RefIdeal.S_ .f32 0x00000000#32) Cert.Chip256x2048RefIdeal.Gen.reducesTo_S4x256x2048_S256x2048_d0
      Cert.Chip256x2048RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip256x2048RefIdeal : Cert.quiescent_Chip256x2048RefIdeal := fun m g _ =>
  (θ_run Cert.Chip256x2048RefIdeal.defs _ _).mono (fun _ h => ⟨fun c => (h c).2, sem_eq_zero_of_no_sems rfl _⟩) (Cert.Chip256x2048RefIdeal.Value.run (F := Ideal) m g)

theorem algebraic_Chip256x2048 : Cert.algebraic_Chip256x2048Ideal_Chip256x2048RefIdeal := fun m g m' g' _ hin =>
  ⟨_, (θ_run Cert.Chip256x2048Ideal.defs _ _).mono (fun _ h c => ⟨(h c).1.trans (final_Chip256x2048 m c), (h c).2⟩)
      (Cert.Chip256x2048Ideal.Value.run_blocks (F := Ideal) m g),
    (θ_run Cert.Chip256x2048RefIdeal.defs _ _).mono (fun _ h c => by
      obtain ⟨h0, hk⟩ := h c
      rw [hin c] at h0
      exact ⟨h0, hk⟩) (Cert.Chip256x2048RefIdeal.Value.run (F := Ideal) m' g')⟩

/-! ### 512 × 4096 -/

section
open Cert.Chip512x4096Ideal Cert.Chip512x4096Ideal.Gen

/-- The array after the run is the sum over the chips. -/
theorem final_Chip512x4096 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip512x4096RefIdeal.S_ .f32 0x00000000#32) Cert.Chip512x4096RefIdeal.Gen.reducesTo_S4x512x4096_S512x4096_d0
      Cert.Chip512x4096RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip512x4096RefIdeal : Cert.quiescent_Chip512x4096RefIdeal := fun m g _ =>
  (θ_run Cert.Chip512x4096RefIdeal.defs _ _).mono (fun _ h => ⟨fun c => (h c).2, sem_eq_zero_of_no_sems rfl _⟩) (Cert.Chip512x4096RefIdeal.Value.run (F := Ideal) m g)

theorem algebraic_Chip512x4096 : Cert.algebraic_Chip512x4096Ideal_Chip512x4096RefIdeal := fun m g m' g' _ hin =>
  ⟨_, (θ_run Cert.Chip512x4096Ideal.defs _ _).mono (fun _ h c => ⟨(h c).1.trans (final_Chip512x4096 m c), (h c).2⟩)
      (Cert.Chip512x4096Ideal.Value.run_blocks (F := Ideal) m g),
    (θ_run Cert.Chip512x4096RefIdeal.defs _ _).mono (fun _ h c => by
      obtain ⟨h0, hk⟩ := h c
      rw [hin c] at h0
      exact ⟨h0, hk⟩) (Cert.Chip512x4096RefIdeal.Value.run (F := Ideal) m' g')⟩

/-! ### 2048 × 4096 -/

section
open Cert.Chip2048x4096Ideal Cert.Chip2048x4096Ideal.Gen

/-- The array after the run is the sum over the chips. -/
theorem final_Chip2048x4096 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip2048x4096RefIdeal.S_ .f32 0x00000000#32) Cert.Chip2048x4096RefIdeal.Gen.reducesTo_S4x2048x4096_S2048x4096_d0
      Cert.Chip2048x4096RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip2048x4096RefIdeal : Cert.quiescent_Chip2048x4096RefIdeal := fun m g _ =>
  (θ_run Cert.Chip2048x4096RefIdeal.defs _ _).mono (fun _ h => ⟨fun c => (h c).2, sem_eq_zero_of_no_sems rfl _⟩) (Cert.Chip2048x4096RefIdeal.Value.run (F := Ideal) m g)

theorem algebraic_Chip2048x4096 : Cert.algebraic_Chip2048x4096Ideal_Chip2048x4096RefIdeal := fun m g m' g' _ hin =>
  ⟨_, (θ_run Cert.Chip2048x4096Ideal.defs _ _).mono (fun _ h c => ⟨(h c).1.trans (final_Chip2048x4096 m c), (h c).2⟩)
      (Cert.Chip2048x4096Ideal.Value.run_blocks (F := Ideal) m g),
    (θ_run Cert.Chip2048x4096RefIdeal.defs _ _).mono (fun _ h c => by
      obtain ⟨h0, hk⟩ := h c
      rw [hin c] at h0
      exact ⟨h0, hk⟩) (Cert.Chip2048x4096RefIdeal.Value.run (F := Ideal) m' g')⟩

/-! ### 2048 × 3072 -/

section
open Cert.Chip2048x3072Ideal Cert.Chip2048x3072Ideal.Gen

/-- The array after the run is the sum over the chips. -/
theorem final_Chip2048x3072 (m : (ℓ : Loc nD τ sig) → Buf (Elt Ideal) ℓ) (c : Dev nD) :
    (dats m 0 c).arrAt 1 cfg0.N = Host.reduceAdd (F := Ideal) (φ := .f32) (extf .f32 (m (c.tc.loc main_arg0)) bitsLt_bf16_f32)
      (constant Cert.Chip2048x3072RefIdeal.S_ .f32 0x00000000#32) Cert.Chip2048x3072RefIdeal.Gen.reducesTo_S4x2048x3072_S2048x3072_d0
      Cert.Chip2048x3072RefIdeal.Gen.h_S_ := by
  refine (dats m 0 c).arrAt_eq_of_covers 1 _ (by decide +kernel) fun t hf y => ?_
  blk_simp
  rw [after0_1]
  unfold out0_1
  rw [Value.canon1_eq, reduceAdd_first, Fin.sum_univ_four]
  have e : ∀ t : Fin grid0.N, win0_0.index t 0 = 0 ∧ win0_0.index t 1 = win0_1.index t 0 ∧ win0_0.index t 2 = win0_1.index t 1 := by
    decide +kernel
  obtain ⟨e0, e1, e2⟩ := e t
  refine add_four ?_ ?_ ?_ ?_ <;> refine congrArg (m (c.tc.loc main_arg0)) (funext fun a => Fin.ext ?_) <;>
    exact match a with
    | ⟨0, _⟩ => slice_coord e0
    | ⟨1, _⟩ => block_coord e1
    | ⟨2, _⟩ => block_coord e2

end

theorem frame_Chip2048x3072RefIdeal : Cert.quiescent_Chip2048x3072RefIdeal := fun m g _ =>
  (θ_run Cert.Chip2048x3072RefIdeal.defs _ _).mono (fun _ h => ⟨fun c => (h c).2, sem_eq_zero_of_no_sems rfl _⟩) (Cert.Chip2048x3072RefIdeal.Value.run (F := Ideal) m g)

theorem algebraic_Chip2048x3072 : Cert.algebraic_Chip2048x3072Ideal_Chip2048x3072RefIdeal := fun m g m' g' _ hin =>
  ⟨_, (θ_run Cert.Chip2048x3072Ideal.defs _ _).mono (fun _ h c => ⟨(h c).1.trans (final_Chip2048x3072 m c), (h c).2⟩)
      (Cert.Chip2048x3072Ideal.Value.run_blocks (F := Ideal) m g),
    (θ_run Cert.Chip2048x3072RefIdeal.defs _ _).mono (fun _ h c => by
      obtain ⟨h0, hk⟩ := h c
      rw [hin c] at h0
      exact ⟨h0, hk⟩) (Cert.Chip2048x3072RefIdeal.Value.run (F := Ideal) m' g')⟩

/-! ### The slots of the small weights' gradients -/

theorem frame_SlotsRefIdeal : Cert.quiescent_SlotsRefIdeal := fun m g _ =>
  (θ_run Cert.SlotsRefIdeal.defs _ _).mono (fun _ h => ⟨fun c => (h c).2, sem_eq_zero_of_no_sems rfl _⟩) (Cert.SlotsRefIdeal.Value.run (F := Ideal) m g)

theorem algebraic_Slots : Cert.algebraic_SlotsIdeal_SlotsRefIdeal := fun m g m' g' _ hin =>
  ⟨_, Cert.SlotsIdeal.Value.run (F := Ideal) m g, (θ_run Cert.SlotsRefIdeal.defs _ _).mono (fun r h c => by
    obtain ⟨h0, hk⟩ := h c
    rw [hin c] at h0
    refine ⟨h0.trans (funext fun j => ?_), hk⟩
    rw [reduceAdd_first, Fin.sum_univ_eight]
    refine Eq.trans ?_ (Cert.SlotsIdeal.Value.piece1_0 _ _ _ _ _ _ _ _ j).symm
    refine add_eight ?_ ?_ ?_ ?_ ?_ ?_ ?_ ?_ <;>
      refine congrArg (m (c.tc.loc Cert.SlotsIdeal.main_arg0)) (funext fun a => Fin.ext (Eq.symm ?_)) <;>
      exact match a with
      | ⟨0, _⟩ => slice_whole _
      | ⟨1, _⟩ => whole_coord _
      | ⟨2, _⟩ => whole_coord _) (Cert.SlotsRefIdeal.Value.run (F := Ideal) m' g')⟩

end Cert.Proof

end
-- ==== Proof.Blocks.lean ====
/-
Sums over the rows of an array, taken block by block, and the constants of the mean over a row of 4096 entries.
-/
module

public import Idealize.ShloMosaic.Lib.Pointwise

@[expose] public section

noncomputable section

namespace Cert.Blocks

open Idealize.ShloMosaic

/-- Entries of a row or column of known length, zero beyond its end. -/
def over {N : ℕ} (q : Fin N → EReal) (i : ℕ) : EReal := if h : i < N then q ⟨i, h⟩ else 0

theorem over_at {N : ℕ} (q : Fin N → EReal) {i : ℕ} (h : i < N) : over q i = q ⟨i, h⟩ := dif_pos h

theorem sum_over {N : ℕ} (q : Fin N → EReal) : ∑ i ∈ Finset.range N, over q i = ∑ i, q i := by
  rw [Finset.sum_range]
  exact Finset.sum_congr rfl fun i _ => over_at q i.isLt

/-- What accumulates block by block is the sum over all rows so far. -/
theorem sum_blocks {N k : ℕ} (Q : ℕ → EReal) (A : (n : ℕ) → n < N → EReal)
    (first : ∀ h, A 0 h = ∑ r : Fin k, Q (0 * k + r))
    (next : ∀ n (h : n + 1 < N), A (n + 1) h = A n (Nat.lt_of_succ_lt h) + ∑ r : Fin k, Q ((n + 1) * k + r)) :
    ∀ n h, A n h = ∑ i ∈ Finset.range ((n + 1) * k), Q i
  | 0, h => by
    rw [first h, zero_add, one_mul, Finset.sum_range]
    simp
  | n + 1, h => by
    rw [next n h, sum_blocks Q A first next n _, add_mul (n + 1) 1 k, one_mul, Finset.sum_range_add,
      Finset.sum_range (fun r => Q ((n + 1) * k + r))]

/-- A real factor that is not negative goes through a sum, at the infinities too. -/
theorem sum_mul {ι : Type} (s : Finset ι) (f : ι → EReal) {k : ℝ} (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (by exact_mod_cast hk) (EReal.coe_ne_top k)]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem lanes : Ideal.ofBits .f32 0x45800000#32 = ((4096 : ℝ) : EReal) := by
  simp [Ideal.ofBits, Ideal.ieee, -EReal.coe_mul]; norm_num

theorem lanes_inv : Ideal.ofBits .f32 0x39800000#32 = ((1 / 4096 : ℝ) : EReal) := by
  simp [Ideal.ofBits, Ideal.ieee, -EReal.coe_mul]; norm_num

theorem half_lanes_inv : Ideal.ofBits .f32 0x39000000#32 = ((1 / 8192 : ℝ) : EReal) := by
  simp [Ideal.ofBits, Ideal.ieee, -EReal.coe_mul]; norm_num

theorem div_lanes (x : EReal) : Ideal.div x (Ideal.ofBits .f32 0x45800000#32) = x * ((1 / 4096 : ℝ) : EReal) := by
  rw [lanes, Ideal.div_coe (by norm_num)]

/-- Half of a sum of means over 4096 entries is the sum over all entries, divided once. -/
theorem half_mean {ι : Type} [Fintype ι] (f : ι → EReal) :
    Ideal.ofBits .f32 0x3F000000#32 * ∑ i, Ideal.div (f i) (Ideal.ofBits .f32 0x45800000#32)
      = (∑ i, f i) * Ideal.ofBits .f32 0x39000000#32 := by
  simp only [div_lanes]
  rw [sum_mul _ _ (by norm_num), half, half_lanes_inv, mul_comm, mul_assoc, ← EReal.coe_mul]
  norm_num

/-- The derivative of half a square's share of the mean. -/
theorem half_square (e : EReal) :
    Ideal.div (Ideal.ofBits .f32 0x3F000000#32) (Ideal.ofBits .f32 0x45800000#32) * (Ideal.ofBits .f32 0x40000000#32 * e)
      = e * Ideal.ofBits .f32 0x39800000#32 := by
  rw [div_lanes, half, two, lanes_inv, ← mul_assoc, ← EReal.coe_mul, ← EReal.coe_mul, mul_comm]
  norm_num

/-- A row of a block, in the whole array. -/
theorem row_coord {i t n r : ℕ} (h : i = t) : i * n + 1 * r = t * n + r := by subst h; omega

/-- A lane of a block of whole rows. -/
theorem lane_coord {i n l : ℕ} (h : i = 0) : i * n + 1 * l = l := by subst h; omega

end Cert.Blocks

end
-- ==== Proof.LossHead.lean ====
/-
The loss and its derivative at the last layer's output: the kernel adds the squares of its blocks' differences, block after
block, and divides once at the end; the reference takes the mean of every row.
-/
module

public import proofs.«01_k».proof.Defs
public import proofs.«01_k».proof.Proof.Blocks
public import Idealize.ShloMosaic.Lib.Pipeline.ValueKit
public import Idealize.ShloMosaic.Lib.Claim
public import proofs.«01_k».proof.Proof.Gen.Loss.Frame
public import proofs.«01_k».proof.Proof.Gen.LossIdeal.Frame
public import proofs.«01_k».proof.Proof.Gen.LossRefIdeal.Run

@[expose] public section

noncomputable section

namespace Cert.Proof

open Idealize.ShloMosaic Idealize.SL.Sem
open Idealize.ShloMosaic.TcCoe

open Cert.Blocks

section
open Cert.LossIdeal Cert.LossIdeal.Gen

variable (m : (ℓ : Loc nD τ sig) → Buf (Elt Ideal) ℓ) (c : Dev nD)

/-- The squares of the differences in a row, added. -/
def rowSquares (X T : S4096x4096.Idx → EReal) (i : Fin 4096) : EReal :=
  ∑ l : Fin 4096, (X (ix2 i l) - T (ix2 i l)) * (X (ix2 i l) - T (ix2 i l))

/-- The derivative of the loss by an activation. -/
def lossGrad (X T : S4096x4096.Idx → EReal) (j : S4096x4096.Idx) : EReal := (X j - T j) * Ideal.ofBits .f32 0x39800000#32

/-- The squares in a row of a block, added. -/
def rowSum (e : S256x4096.Idx → EReal) (r : Fin 256) : EReal := ∑ l : Fin 4096, e (ix2 r l) * e (ix2 r l)

/-- The squares of the rows of one device's arrays. -/
def devSquares : Fin 4096 → EReal := rowSquares (m (c.tc.loc main_arg0)) (m (c.tc.loc main_arg1))

theorem loss_row_lt (t : Fin cfg0.N) (r : Fin 256) : t.val * 256 + r.val < 4096 := by
  have hN : t.val < 16 := lt_of_lt_of_eq t.isLt (show cfg0.N = 16 from N_0)
  omega

theorem loss_block_0 (t : Fin cfg0.N) (r : Fin 256) (l : Fin 4096) :
    iblk m c 0 t (ix2 r l) = m (c.tc.loc main_arg0) (ix2 ⟨t.val * 256 + r.val, loss_row_lt t r⟩ l) := by
  have e : ∀ t : Fin grid0.N, win0_0.index t 0 = t.val ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem loss_block_1 (t : Fin cfg0.N) (r : Fin 256) (l : Fin 4096) :
    iblk m c 1 t (ix2 r l) = m (c.tc.loc main_arg1) (ix2 ⟨t.val * 256 + r.val, loss_row_lt t r⟩ l) := by
  have e : ∀ t : Fin grid0.N, win0_1.index t 0 = t.val ∧ win0_1.index t 1 = 0 := by decide +kernel
  obtain ⟨e0, e1⟩ := e t
  unfold iblk
  rw [View.read_apply]
  exact congrArg (m (c.tc.loc main_arg1)) (funext fun a => Fin.ext (match a with
    | ⟨0, _⟩ => row_coord e0
    | ⟨1, _⟩ => lane_coord e1))

/-- What a point adds: the squares of its block's rows. -/
theorem loss_point (t : Fin cfg0.N) (b : S8x128.Idx → EReal) (j : S8x128.Idx) :
    k0_pay4 (F := Ideal) (iblk m c 0 t) (iblk m c 1 t) b j
      = b j + ∑ r : Fin 256, over (devSquares m c) (t.val * 256 + r.val) := by
  have h : ∀ r : Fin 256, over (devSquares m c) (t.val * 256 + r.val)
      = rowSum (k0_pay1 (F := Ideal) (iblk m c 0 t) (iblk m c 1 t)) r := fun r => by
    rw [over_at _ (loss_row_lt t r)]
    unfold devSquares rowSquares rowSum
    refine Finset.sum_congr rfl fun l _ => ?_
    rw [← loss_block_0 m c t r l, ← loss_block_1 m c t r l]
    rfl
  simp only [h]
  unfold k0_pay4
  pointwise
  rfl

theorem loss_sum (n : ℕ) (h : n < cfg0.N) (j : S8x128.Idx) :
    (outsAt0 m c n h).2 j = ∑ i ∈ Finset.range ((n + 1) * 256), over (devSquares m c) i := by
  refine sum_blocks (over (devSquares m c)) (fun n h => (outsAt0 m c n h).2 j) (fun h => ?_) (fun n h => ?_) n h
  · rw [outsAt0_A m c ⟨0, h⟩ rfl]
    frame_out
    rw [loss_point]
    unfold k0_pay3
    pointwise
  · have hN : n + 1 < 16 := lt_of_lt_of_eq h (show cfg0.N = 16 from N_0)
    rw [outsAt0_B m c ⟨n + 1, h⟩ (by dsimp only; omega)]
    frame_out
    rw [loss_point]
    rfl

/-- The accumulator after the run. -/
theorem final_loss (j : S8x128.Idx) : (dats m 0 c).arrAt 3 cfg0.N j = ∑ i : Fin 4096, devSquares m c i := by
  have h : (dats m 0 c).arrAt 3 cfg0.N = (fun _ => ∑ i : Fin 4096, devSquares m c i : S8x128.Idx → EReal) := by
    refine (dats m 0 c).arrAt_eq_of_after_last 3 t0_15 (by decide +kernel) _ fun j => ?_
    blk_simp
    rw [after0_3]
    exact (loss_sum m c _ _ j).trans (sum_over (devSquares m c))
  exact congrFun h j

/-- The derivative after the run. -/
theorem final_loss_grad : (dats m 0 c).arrAt 2 cfg0.N
    = lossGrad (m (c.tc.loc main_arg0)) (m (c.tc.loc main_arg1)) := by
  refine (dats m 0 c).arrAt_eq_of_covers 2 _ (by decide +kernel) fun t hf y => ?_
  blk_simp
  rw [after0_2]
  have e : (outsAt0 m c t.val t.isLt).1 = k0_pay2 (F := Ideal) (iblk m c 0 t) (iblk m c 1 t) := by
    by_cases h0 : t.val % 16 = 0
    · rw [outsAt0_A m c t h0]
      frame_out
    · rw [outsAt0_B m c t h0]
      frame_out
  rw [e]
  unfold k0_pay2 k0_pay1 lossGrad
  pointwise
  rfl

theorem final_loss_scaled : Pipeline.afterTail₀ cfgs (dats m) 0 (V0 m) [hostOps1] c main_v3
    = (fun _ => (∑ i : Fin 4096, devSquares m c i) * Ideal.ofBits .f32 0x39000000#32 : S_.Idx → EReal) := by
  unfold Pipeline.afterTail₀
  show StableHlo.after hostOps1 _ _ = _
  after_results
  rw [Pipeline.withArrays_arr spec0 (by decide) c _ _ 3]
  funext j
  pointwise
  rw [final_loss]

end

theorem frame_LossRefIdeal : Cert.quiescent_LossRefIdeal := fun m g _ =>
  (θ_run Cert.LossRefIdeal.defs _ _).mono (fun _ h => ⟨fun c => (h c).2.2, sem_eq_zero_of_no_sems rfl _⟩) (Cert.LossRefIdeal.Value.run (F := Ideal) m g)

theorem algebraic_Loss : Cert.algebraic_LossIdeal_LossRefIdeal := by
  pair_intro
  · run_from Cert.LossIdeal.Gen.run_main m g
  · run_from Cert.LossRefIdeal.Value.run m' g'
    · refine Eq.trans (funext fun j => ?_) (final_loss_grad m c).symm
      pointwise
      exact half_square _
    · refine Eq.trans (funext fun j => ?_) (final_loss_scaled m c).symm
      pointwise
      exact half_mean _

end Cert.Proof

end
-- ==== Proof.NormGradient.lean ====
/-
The derivative of the layers' normalisation, with the residual's gradient added: the kernel goes over blocks of rows, adding
the gain's derivative block after block; the reference takes the whole arrays.
-/
module

public import proofs.«01_k».proof.Defs
public import proofs.«01_k».proof.Proof.Blocks
public import Idealize.ShloMosaic.Lib.Pipeline.ValueKit
public import Idealize.ShloMosaic.Lib.Claim
public import proofs.«01_k».proof.Proof.Gen.NormGrad.Frame
public import proofs.«01_k».proof.Proof.Gen.NormGradIdeal.Value
public import proofs.«01_k».proof.Proof.Gen.NormGradRefIdeal.Run

@[expose] public section

noncomputable section

namespace Cert.Proof

open Idealize.ShloMosaic Idealize.SL.Sem
open Idealize.ShloMosaic.TcCoe

open Cert.Blocks

/-! The values, row by row: `x` and `d` are a row's entries and its upstream gradient's, `g` the gain. -/

/-- The inverse of a row's root mean square. -/
def rowInv (x : Fin 4096 → EReal) : EReal :=
  Ideal.rsqrt (Ideal.div (∑ l, x l * x l) (Ideal.ofBits .f32 0x45800000#32) + Ideal.ofBits .f32 0x358637BD#32)

/-- A row, normalised. -/
def rowNormed (x : Fin 4096 → EReal) (l : Fin 4096) : EReal := x l * rowInv x

/-- The mean of a row's gradient along the normalised row. -/
def rowAlong (x g d : Fin 4096 → EReal) : EReal :=
  Ideal.div (∑ l, g l * d l * rowNormed x l) (Ideal.ofBits .f32 0x45800000#32)

/-- The derivative by a row's entry. -/
def rowGrad (x g d : Fin 4096 → EReal) (l : Fin 4096) : EReal :=
  rowInv x * (g l * d l - rowNormed x l * rowAlong x g d)

section
open Cert.NormGradRefIdeal Cert.NormGradRefIdeal.Gen

/-- The derivative by the activations, with the residual's gradient. -/
def normGrad (x : S4096x4096.Idx → EReal) (g : S4096.Idx → EReal) (d e : S4096x4096.Idx → EReal) (j : S4096x4096.Idx) : EReal :=
  rowGrad (fun l => x (ix2 (j 0) l)) (fun l => g (ix1 l)) (fun l => d (ix2 (j 0) l)) (j 1) + e j

/-- A row's share of the derivative by the gain. -/
def gainShare (x d : S4096x4096.Idx → EReal) (l i : Fin 4096) : EReal :=
  d (ix2 i l) * rowNormed (fun l => x (ix2 i l)) l

/-- The derivative by the gain. -/
def gainGrad (x d : S4096x4096.Idx → EReal) (j : S1x4096.Idx) : EReal := ∑ i, gainShare x d (j 1) i

/-- The reference's inverse root mean squares. -/
def refInv (x : FVec Ideal S4096x4096 .f32) : FVec Ideal S4096x1 .f32 :=
  Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))

/-- The reference's normalised rows. -/
def refNormed (x : FVec Ideal S4096x4096 .f32) : FVec Ideal S4096x4096 .f32 :=
  mulf x (broadcastInDim S4096x4096 ![0, 1] bcast_S4096x1_S4096x4096_0_1 (refInv x))

/-- The reference's gradients by the normalised rows. -/
def refScaled (g : FVec Ideal S4096 .f32) (d : FVec Ideal S4096x4096 .f32) : FVec Ideal S4096x4096 .f32 :=
  mulf (broadcastInDim S4096x4096 ![0, 1] bcast_S1x4096_S4096x4096_0_1 (broadcastInDim S1x4096 ![1] bcast_S4096_S1x4096_1 g)) d

/-- The reference's means along the normalised rows. -/
def refAlong (x : FVec Ideal S4096x4096 .f32) (g : FVec Ideal S4096 .f32) (d : FVec Ideal S4096x4096 .f32) : FVec Ideal S4096x1 .f32 :=
  Host.divf (broadcastInDim S4096x1 ![0] bcast_S4096_S4096x1_0 (Host.reduceAdd (mulf (refScaled g d) (refNormed x)) (constant S_ .f32 0x00000000#32) reducesTo_S4096x4096_S4096_d1 h_S_)) (broadcastInDim S4096x1 ![] bcast_S_S4096x1 (constant S_ .f32 0x45800000#32))

/-- The reference's derivative by the activations. -/
def refGrad (x : FVec Ideal S4096x4096 .f32) (g : FVec Ideal S4096 .f32) (d e : FVec Ideal S4096x4096 .f32) : FVec Ideal S4096x4096 .f32 :=
  addf e (mulf (broadcastInDim S4096x4096 ![0, 1] bcast_S4096x1_S4096x4096_0_1 (refInv x)) (subf (refScaled g d) (mulf (refNormed x) (broadcastInDim S4096x4096 ![0, 1] bcast_S4096x1_S4096x4096_0_1 (refAlong x g d)))))

/-- The reference's derivative by the gain. -/
def refGain (x d : FVec Ideal S4096x4096 .f32) : FVec Ideal S1x4096 .f32 :=
  broadcastInDim S1x4096 ![1] bcast_S4096_S1x4096_1 (Host.reduceAdd (mulf d (refNormed x)) (constant S_ .f32 0x00000000#32) reducesTo_S4096x4096_S4096_d0 h_S_)

variable (x : S4096x4096.Idx → EReal) (g : S4096.Idx → EReal) (d e : S4096x4096.Idx → EReal)

theorem refInv_at (i : Fin 4096) (z : Fin 1) : refInv x (ix2 i z) = rowInv fun l => x (ix2 i l) := by
  unfold refInv rowInv
  pointwise

theorem refNormed_at (i l : Fin 4096) : refNormed x (ix2 i l) = rowNormed (fun l => x (ix2 i l)) l := by
  unfold refNormed rowNormed
  rw [← refInv_at x i 0]
  pointwise

theorem refScaled_at (i l : Fin 4096) : refScaled g d (ix2 i l) = g (ix1 l) * d (ix2 i l) := by
  unfold refScaled
  pointwise

theorem refAlong_at (i : Fin 4096) (z : Fin 1) : refAlong x g d (ix2 i z)
    = rowAlong (fun l => x (ix2 i l)) (fun l => g (ix1 l)) (fun l => d (ix2 i l)) := by
  unfold refAlong rowAlong
  pointwise
  simp only [refNormed_at, refScaled_at]

theorem refGrad_eq : refGrad x g d e = normGrad x g d e := by
  funext j
  obtain ⟨i, l, rfl⟩ : ∃ i l, j = ix2 i l := ⟨j 0, j 1, (ix2_eta j).symm⟩
  unfold refGrad normGrad rowGrad
  pointwise
  rw [refInv_at, refNormed_at, refScaled_at, refAlong_at, add_comm]

theorem refGain_eq : refGain x d = gainGrad x d := by
  funext j
  obtain ⟨z, l, rfl⟩ : ∃ z l, j = ix2 z l := ⟨j 0, j 1, (ix2_eta j).symm⟩
  unfold refGain gainGrad gainShare
  pointwise
  simp only [refNormed_at]

end

section
open Cert.NormGradIdeal Cert.NormGradIdeal.Gen

section
variable (v0 : S1x256x4096.Idx → EReal) (v2 v27 : S256x4096.Idx → EReal) (v13 : S1x4096.Idx → EReal)

theorem inv_at (r : Fin 256) (z : Fin 1) : k0_pay3 (F := Ideal) v0 (ix2 r z) = rowInv fun l => v0 (ix3 0 r l) := by
  unfold k0_pay3 k0_pay2 rowInv
  pointwise

theorem normed_at (r : Fin 256) (l : Fin 4096) : k0_pay4 (F := Ideal) v0 (ix2 r l) = rowNormed (fun l => v0 (ix3 0 r l)) l := by
  unfold k0_pay4 k0_pay2 rowNormed
  pointwise
  rw [inv_at]

theorem grad_at (r : Fin 256) (l : Fin 4096) : k0_pay5 (F := Ideal) v0 v2 v13 v27 (ix2 r l)
    = rowGrad (fun l => v0 (ix3 0 r l)) (fun l => v13 (ix2 0 l)) (fun l => v2 (ix2 r l)) l + v27 (ix2 r l) := by
  unfold k0_pay5 rowGrad rowAlong
  pointwise
  simp only [inv_at, normed_at]

theorem gain_at (z : Fin 1) (l : Fin 4096) : k0_pay1 (F := Ideal) (k0_pay7 v13) (k0_pay8 v0 v2) (ix2 z l)
    = v13 (ix2 z l) + ∑ r : Fin 256, v2 (ix2 r l) * rowNormed (fun l => v0 (ix3 0 r l)) l := by
  unfold k0_pay1 k0_pay7 k0_pay8
  pointwise
  simp only [normed_at]

end

variable (m : (ℓ : Loc nD τ sig) → Buf (Elt Ideal) ℓ) (c : Dev nD)

theorem norm_row_lt (t : Fin cfg0.N) (r : Fin 256) : t.val * 256 + r.val < 4096 := by
  have hN : t.val < 16 := lt_of_lt_of_eq t.isLt (show cfg0.N = 16 from N_0)
  omega

/-- A row of a block, in the whole array. -/
abbrev normRow (t : Fin cfg0.N) (r : Fin 256) : Fin 4096 := ⟨t.val * 256 + r.val, norm_row_lt t r⟩

theorem norm_block_0 (t : Fin cfg0.N) (z : Fin 1) (r : Fin 256) (l : Fin 4096) :
    iblk m c 0 t (ix3 z r l) = m (c.tc.loc main_arg0) (ix2 (normRow t r) l) := by
  have e : ∀ t : Fin grid0.N, win0_0.index t 0 = 0 ∧ win0_0.index t 1 = t.val ∧ win0_0.index t 2 = 0 := by decide +kernel
  obtain ⟨e0, e1, e2⟩ := e t
  have h : (win0_0.blk t).view.emb (ix3 z r l) = ix3 (0 : Fin 1) (normRow t r) l := funext fun a => Fin.ext (match a with
    | ⟨0, _⟩ => (lane_coord (n := 1) (l := z.val) e0).trans (show z.val = 0 by omega)
    | ⟨1, _⟩ => row_coord e1
    | ⟨2, _⟩ => lane_coord e2)
  unfold iblk
  rw [View.read_apply]
  blk_simp
  unfold V
  refine (congrArg _ h).trans ?_
  show StableHlo.after hostOps0 (fun b => m (c, b)) (Proc.tc.devRef main_v0) _ = _
  after_results
  pointwise

theorem norm_block_1 (t : Fin cfg0.N) (z : Fin 1) (l : Fin 4096) :
    iblk m c 1 t (ix2 z l) = m (c.tc.loc main_arg1) (ix1 l) := by
  have e : ∀ t : Fin grid0.N, win0_1.index t 0 = 0 ∧ win0_1.index t 1 = 0 := by decide +kernel
  obtain ⟨e0, e1⟩ := e t
  have h : (win0_1.blk t).view.emb (ix2 z l) = ix2 (0 : Fin 1) l := funext fun a => Fin.ext (match a with
    | ⟨0, _⟩ => (lane_coord (n := 1) (l := z.val) e0).trans (show z.val = 0 by omega)
    | ⟨1, _⟩ => lane_coord e1)
  unfold iblk
  rw [View.read_apply]
  blk_simp
  unfold V
  refine (congrArg _ h).trans ?_
  show StableHlo.after hostOps0 (fun b => m (c, b)) (Proc.tc.devRef main_v1) _ = _
  after_results
  pointwise

theorem norm_block_2 (t : Fin cfg0.N) (r : Fin 256) (l : Fin 4096) :
    iblk m c 2 t (ix2 r l) = m (c.tc.loc main_arg2) (ix2 (normRow t r) l) := by
  have e : ∀ t : Fin grid0.N, win0_2.index t 0 = t.val ∧ win0_2.index t 1 = 0 := by decide +kernel
  obtain ⟨e0, e1⟩ := e t
  unfold iblk
  rw [View.read_apply]
  exact congrArg (m (c.tc.loc main_arg2)) (funext fun a => Fin.ext (match a with
    | ⟨0, _⟩ => row_coord e0
    | ⟨1, _⟩ => lane_coord e1))

theorem norm_block_3 (t : Fin cfg0.N) (r : Fin 256) (l : Fin 4096) :
    iblk m c 3 t (ix2 r l) = m (c.tc.loc main_arg3) (ix2 (normRow t r) l) := by
  have e : ∀ t : Fin grid0.N, win0_3.index t 0 = t.val ∧ win0_3.index t 1 = 0 := by decide +kernel
  obtain ⟨e0, e1⟩ := e t
  unfold iblk
  rw [View.read_apply]
  exact congrArg (m (c.tc.loc main_arg3)) (funext fun a => Fin.ext (match a with
    | ⟨0, _⟩ => row_coord e0
    | ⟨1, _⟩ => lane_coord e1))

/-- The shares of the rows of one device's arrays in the derivative by an entry of the gain. -/
def devShare (l : Fin 4096) : Fin 4096 → EReal := gainShare (m (c.tc.loc main_arg0)) (m (c.tc.loc main_arg2)) l

/-- What a point adds: the shares of its block's rows. -/
theorem gain_point (t : Fin cfg0.N) (b : S1x4096.Idx → EReal) (z : Fin 1) (l : Fin 4096) :
    k0_pay1 (F := Ideal) (k0_pay7 b) (k0_pay8 (iblk m c 0 t) (iblk m c 2 t)) (ix2 z l)
      = b (ix2 z l) + ∑ r : Fin 256, over (devShare m c l) (t.val * 256 + r.val) := by
  have h : ∀ r : Fin 256, over (devShare m c l) (t.val * 256 + r.val) = devShare m c l (normRow t r) := fun r => over_at _ (norm_row_lt t r)
  simp only [h]
  unfold devShare gainShare
  refine (gain_at (iblk m c 0 t) (iblk m c 2 t) b z l).trans ?_
  simp only [norm_block_0, norm_block_2]

theorem gain_sum (n : ℕ) (h : n < cfg0.N) (z : Fin 1) (l : Fin 4096) :
    (outsAt0 m c n h).2 (ix2 z l) = ∑ i ∈ Finset.range ((n + 1) * 256), over (devShare m c l) i := by
  refine sum_blocks (over (devShare m c l)) (fun n h => (outsAt0 m c n h).2 (ix2 z l)) (fun h => ?_) (fun n h => ?_) n h
  · rw [outsAt0_A m c ⟨0, h⟩ rfl]
    frame_out
    refine (gain_point m c ⟨0, h⟩ _ z l).trans ?_
    unfold k0_pay6
    pointwise
  · have hN : n + 1 < 16 := lt_of_lt_of_eq h (show cfg0.N = 16 from N_0)
    rw [outsAt0_B m c ⟨n + 1, h⟩ (by dsimp only; omega)]
    frame_out
    exact gain_point m c ⟨n + 1, h⟩ _ z l

/-- The derivative by the gain, after the run. -/
theorem final_gain : (dats m 0 c).arrAt 5 cfg0.N = gainGrad (m (c.tc.loc main_arg0)) (m (c.tc.loc main_arg2)) := by
  refine (dats m 0 c).arrAt_eq_of_after_last 5 t0_15 (by decide +kernel) _ fun j => ?_
  obtain ⟨z, l, rfl⟩ : ∃ z l, j = ix2 z l := ⟨j 0, j 1, (ix2_eta j).symm⟩
  blk_simp
  rw [after0_5]
  exact (gain_sum m c _ _ z l).trans (sum_over (devShare m c l))

/-- The derivative by the activations, after the run. -/
theorem final_grad : (dats m 0 c).arrAt 4 cfg0.N
    = normGrad (m (c.tc.loc main_arg0)) (m (c.tc.loc main_arg1)) (m (c.tc.loc main_arg2)) (m (c.tc.loc main_arg3)) := by
  refine (dats m 0 c).arrAt_eq_of_covers 4 _ (by decide +kernel) fun t hf y => ?_
  obtain ⟨r, l, rfl⟩ : ∃ r l, y = ix2 r l := ⟨y 0, y 1, (ix2_eta y).symm⟩
  have e : ∀ t : Fin grid0.N, win0_4.index t 0 = t.val ∧ win0_4.index t 1 = 0 := by decide +kernel
  obtain ⟨e0, e1⟩ := e t
  have h : (win0_4.blk t).view.emb (ix2 r l) = ix2 (normRow t r) l := funext fun a => Fin.ext (match a with
    | ⟨0, _⟩ => row_coord e0
    | ⟨1, _⟩ => lane_coord e1)
  blk_simp
  rw [after0_4]
  have e : (outsAt0 m c t.val t.isLt).1 = k0_pay5 (F := Ideal) (iblk m c 0 t) (iblk m c 2 t) (iblk m c 1 t) (iblk m c 3 t) := by
    by_cases h0 : t.val % 16 = 0
    · rw [outsAt0_A m c t h0]
      frame_out
    · rw [outsAt0_B m c t h0]
      frame_out
  rw [e]
  refine Eq.trans ?_ (congrArg _ h).symm
  refine (grad_at (iblk m c 0 t) (iblk m c 2 t) (iblk m c 3 t) (iblk m c 1 t) r l).trans ?_
  unfold normGrad
  simp only [norm_block_0, norm_block_1, norm_block_2, norm_block_3]
  rfl

end

theorem frame_NormGradRefIdeal : Cert.quiescent_NormGradRefIdeal := fun m g _ =>
  (θ_run Cert.NormGradRefIdeal.defs _ _).mono (fun _ h => ⟨fun c => (h c).2.2, sem_eq_zero_of_no_sems rfl _⟩) (Cert.NormGradRefIdeal.Value.run (F := Ideal) m g)

theorem algebraic_NormGrad : Cert.algebraic_NormGradIdeal_NormGradRefIdeal := fun m g m' g' _ agree =>
  ⟨_, _, Cert.NormGradIdeal.Value.run_blocks m g,
    (θ_run _ _ _).mono (fun _ h c => ⟨(h c).1.trans ((refGrad_eq _ _ _ _).trans (by
        rw [(agree c).1, (agree c).2.1, (agree c).2.2.1, (agree c).2.2.2]
        exact (final_grad m c).symm)),
      (h c).2.1.trans ((refGain_eq _ _).trans (by
        rw [(agree c).1, (agree c).2.2.1]
        exact (final_gain m c).symm)),
      (h c).2.2⟩) (Cert.NormGradRefIdeal.Value.run (F := Ideal) m' g')⟩

end Cert.Proof

end
-- ==== Proof.LayerNorms.lean ====
/-
The normalisations: of a layer's input, of a mixer's output with the residual added, and the derivative of the latter. The
kernels go over blocks of rows; the references take the whole arrays.
-/
module

public import proofs.«01_k».proof.Defs
public import proofs.«01_k».proof.Proof.NormGradient
public import Idealize.ShloMosaic.Lib.Pipeline.ValueKit
public import Idealize.ShloMosaic.Lib.Claim
public import proofs.«01_k».proof.Proof.Gen.PreNorm.Frame
public import proofs.«01_k».proof.Proof.Gen.PreNormIdeal.Value
public import proofs.«01_k».proof.Proof.Gen.PreNormRefIdeal.Run
public import proofs.«01_k».proof.Proof.Gen.PostNorm.Frame
public import proofs.«01_k».proof.Proof.Gen.PostNormIdeal.Value
public import proofs.«01_k».proof.Proof.Gen.PostNormRefIdeal.Run
public import proofs.«01_k».proof.Proof.Gen.PostNormGrad.Frame
public import proofs.«01_k».proof.Proof.Gen.PostNormGradIdeal.Value
public import proofs.«01_k».proof.Proof.Gen.PostNormGradRefIdeal.Run

@[expose] public section

noncomputable section

namespace Cert.Proof

open Idealize.ShloMosaic Idealize.SL.Sem
open Idealize.ShloMosaic.TcCoe

open Cert.Blocks

/-- A row, normalised, times the gain. -/
def rowScaled (x g : Fin 4096 → EReal) (l : Fin 4096) : EReal := rowNormed x l * g l

section
open Cert.NormGradRefIdeal Cert.NormGradRefIdeal.Gen

/-- The rows of an array, normalised, times the gain. -/
def scaledRows (x : S4096x4096.Idx → EReal) (g : S4096.Idx → EReal) (j : S4096x4096.Idx) : EReal :=
  rowScaled (fun l => x (ix2 (j 0) l)) (fun l => g (ix1 l)) (j 1)

/-- The derivative by the rows of an array. -/
def rowsGrad (x : S4096x4096.Idx → EReal) (g : S4096.Idx → EReal) (d : S4096x4096.Idx → EReal) (j : S4096x4096.Idx) : EReal :=
  rowGrad (fun l => x (ix2 (j 0) l)) (fun l => g (ix1 l)) (fun l => d (ix2 (j 0) l)) (j 1)

/-- The reference's normalised rows, times the gain. -/
def refRows (x : FVec Ideal S4096x4096 .f32) (g : FVec Ideal S4096 .f32) : FVec Ideal S4096x4096 .f32 :=
  mulf (refNormed x) (broadcastInDim S4096x4096 ![0, 1] bcast_S1x4096_S4096x4096_0_1 (broadcastInDim S1x4096 ![1] bcast_S4096_S1x4096_1 g))

/-- The reference's derivative by the rows. -/
def refRowsGrad (x : FVec Ideal S4096x4096 .f32) (g : FVec Ideal S4096 .f32) (d : FVec Ideal S4096x4096 .f32) : FVec Ideal S4096x4096 .f32 :=
  mulf (broadcastInDim S4096x4096 ![0, 1] bcast_S4096x1_S4096x4096_0_1 (refInv x)) (subf (refScaled g d) (mulf (refNormed x) (broadcastInDim S4096x4096 ![0, 1] bcast_S4096x1_S4096x4096_0_1 (refAlong x g d))))

variable (x : S4096x4096.Idx → EReal) (g : S4096.Idx → EReal) (d e : S4096x4096.Idx → EReal)

theorem refRows_eq : refRows x g = scaledRows x g := by
  funext j
  obtain ⟨i, l, rfl⟩ : ∃ i l, j = ix2 i l := ⟨j 0, j 1, (ix2_eta j).symm⟩
  unfold refRows scaledRows rowScaled
  pointwise
  rw [refNormed_at]

theorem refRowsGrad_eq : refRowsGrad x g d = rowsGrad x g d := by
  funext j
  obtain ⟨i, l, rfl⟩ : ∃ i l, j = ix2 i l := ⟨j 0, j 1, (ix2_eta j).symm⟩
  unfold refRowsGrad rowsGrad rowGrad
  pointwise
  rw [refInv_at, refNormed_at, refScaled_at, refAlong_at]

/-- An array with an axis of one entry before its rows, without that axis. -/
def rowsOf (y : Cert.PostNormRefIdeal.S1x4096x4096.Idx → EReal) (j : S4096x4096.Idx) : EReal := y (ix3 (0 : Fin 1) (j 0) (j 1))

theorem rowsOf_cast (y : Cert.PostNormRefIdeal.S1x4096x4096.Idx → EReal) :
    shapeCast S4096x4096 y Cert.PostNormRefIdeal.Gen.shapeCasts_S1x4096x4096_S4096x4096 = rowsOf y := by
  funext j
  obtain ⟨i, l, rfl⟩ : ∃ i l, j = ix2 i l := ⟨j 0, j 1, (ix2_eta j).symm⟩
  unfold rowsOf
  pointwise

end

/-! ### Before a mixer -/

section
open Cert.PreNormIdeal Cert.PreNormIdeal.Gen

theorem pre_at (v0 : S1x256x4096.Idx → EReal) (v12 : S1x4096.Idx → EReal) (r : Fin 256) (l : Fin 4096) :
    k0_pay1 (F := Ideal) v0 v12 (ix2 r l) = rowScaled (fun l => v0 (ix3 0 r l)) (fun l => v12 (ix2 0 l)) l := by
  unfold k0_pay1 rowScaled rowNormed rowInv
  pointwise

variable (m : (ℓ : Loc nD τ sig) → Buf (Elt Ideal) ℓ) (c : Dev nD)

theorem pre_row_lt (t : Fin cfg0.N) (r : Fin 256) : t.val * 256 + r.val < 4096 := by
  have hN : t.val < 16 := lt_of_lt_of_eq t.isLt (show cfg0.N = 16 from N_0)
  omega

/-- A row of a block, in the whole array. -/
abbrev preRow (t : Fin cfg0.N) (r : Fin 256) : Fin 4096 := ⟨t.val * 256 + r.val, pre_row_lt t r⟩

theorem pre_block_0 (t : Fin cfg0.N) (z : Fin 1) (r : Fin 256) (l : Fin 4096) :
    iblk m c 0 t (ix3 z r l) = m (c.tc.loc main_arg0) (ix2 (preRow t r) l) := by
  have e : ∀ t : Fin grid0.N, win0_0.index t 0 = 0 ∧ win0_0.index t 1 = t.val ∧ win0_0.index t 2 = 0 := by decide +kernel
  obtain ⟨e0, e1, e2⟩ := e t
  have h : (win0_0.blk t).view.emb (ix3 z r l) = ix3 (0 : Fin 1) (preRow t r) l := funext fun a => Fin.ext (match a with
    | ⟨0, _⟩ => (lane_coord (n := 1) (l := z.val) e0).trans (show z.val = 0 by omega)
    | ⟨1, _⟩ => row_coord e1
    | ⟨2, _⟩ => lane_coord e2)
  unfold iblk
  rw [View.read_apply]
  blk_simp
  unfold V
  refine (congrArg _ h).trans ?_
  show StableHlo.after hostOps0 (fun b => m (c, b)) (Proc.tc.devRef main_v0) _ = _
  after_results
  pointwise

theorem pre_block_1 (t : Fin cfg0.N) (z : Fin 1) (l : Fin 4096) :
    iblk m c 1 t (ix2 z l) = m (c.tc.loc main_arg1) (ix1 l) := by
  have e : ∀ t : Fin grid0.N, win0_1.index t 0 = 0 ∧ win0_1.index t 1 = 0 := by decide +kernel
  obtain ⟨e0, e1⟩ := e t
  have h : (win0_1.blk t).view.emb (ix2 z l) = ix2 (0 : Fin 1) l := funext fun a => Fin.ext (match a with
    | ⟨0, _⟩ => (lane_coord (n := 1) (l := z.val) e0).trans (show z.val = 0 by omega)
    | ⟨1, _⟩ => lane_coord e1)
  unfold iblk
  rw [View.read_apply]
  blk_simp
  unfold V
  refine (congrArg _ h).trans ?_
  show StableHlo.after hostOps0 (fun b => m (c, b)) (Proc.tc.devRef main_v1) _ = _
  after_results
  pointwise

/-- The normalised input, after the run. -/
theorem final_pre : (dats m 0 c).arrAt 2 cfg0.N
    = scaledRows (m (c.tc.loc main_arg0)) (m (c.tc.loc main_arg1)) := by
  refine (dats m 0 c).arrAt_eq_of_covers 2 _ (by decide +kernel) fun t hf y => ?_
  obtain ⟨r, l, rfl⟩ : ∃ r l, y = ix2 r l := ⟨y 0, y 1, (ix2_eta y).symm⟩
  have e : ∀ t : Fin grid0.N, win0_2.index t 0 = t.val ∧ win0_2.index t 1 = 0 := by decide +kernel
  obtain ⟨e0, e1⟩ := e t
  have h : (win0_2.blk t).view.emb (ix2 r l) = ix2 (preRow t r) l := funext fun a => Fin.ext (match a with
    | ⟨0, _⟩ => row_coord e0
    | ⟨1, _⟩ => lane_coord e1)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (pre_at (iblk m c 0 t) (iblk m c 1 t) r l).trans ?_
  unfold scaledRows
  simp only [pre_block_0, pre_block_1]
  rfl

end

theorem frame_PreNormRefIdeal : Cert.quiescent_PreNormRefIdeal := fun m g _ =>
  (θ_run Cert.PreNormRefIdeal.defs _ _).mono (fun _ h => ⟨fun c => (h c).2, sem_eq_zero_of_no_sems rfl _⟩) (Cert.PreNormRefIdeal.Value.run (F := Ideal) m g)

theorem algebraic_PreNorm : Cert.algebraic_PreNormIdeal_PreNormRefIdeal := fun m g m' g' _ agree =>
  ⟨_, Cert.PreNormIdeal.Value.run_blocks m g,
    (θ_run _ _ _).mono (fun _ h c => ⟨(h c).1.trans ((refRows_eq _ _).trans (by
        rw [(agree c).1, (agree c).2]
        exact (final_pre m c).symm)),
      (h c).2⟩) (Cert.PreNormRefIdeal.Value.run (F := Ideal) m' g')⟩

/-! ### After a mixer -/

section
open Cert.PostNormIdeal Cert.PostNormIdeal.Gen

/-- The normalised rows, with the residual added. -/
def addedRows (y : S1x4096x4096.Idx → EReal) (g : S4096.Idx → EReal) (x : S4096x4096.Idx → EReal) (j : S4096x4096.Idx) : EReal :=
  x j + scaledRows (rowsOf y) g j

theorem refAdded_eq (y : S1x4096x4096.Idx → EReal) (g : S4096.Idx → EReal) (x : S4096x4096.Idx → EReal) :
    addf (F := Ideal) (φ := .f32) x (refRows (shapeCast S4096x4096 y Cert.PostNormRefIdeal.Gen.shapeCasts_S1x4096x4096_S4096x4096) g)
      = addedRows y g x := by
  rw [rowsOf_cast]
  exact congrArg (addf (F := Ideal) (φ := .f32) x) (refRows_eq (rowsOf y) g)

theorem post_at (v0 : S1x256x4096.Idx → EReal) (v12 : S1x4096.Idx → EReal) (v16 : S256x4096.Idx → EReal) (r : Fin 256) (l : Fin 4096) :
    k0_pay1 (F := Ideal) v0 v12 v16 (ix2 r l) = v16 (ix2 r l) + rowScaled (fun l => v0 (ix3 0 r l)) (fun l => v12 (ix2 0 l)) l := by
  unfold k0_pay1 rowScaled rowNormed rowInv
  pointwise

variable (m : (ℓ : Loc nD τ sig) → Buf (Elt Ideal) ℓ) (c : Dev nD)

theorem post_row_lt (t : Fin cfg0.N) (r : Fin 256) : t.val * 256 + r.val < 4096 := by
  have hN : t.val < 16 := lt_of_lt_of_eq t.isLt (show cfg0.N = 16 from N_0)
  omega

/-- A row of a block, in the whole array. -/
abbrev postRow (t : Fin cfg0.N) (r : Fin 256) : Fin 4096 := ⟨t.val * 256 + r.val, post_row_lt t r⟩

theorem post_block_0 (t : Fin cfg0.N) (z : Fin 1) (r : Fin 256) (l : Fin 4096) :
    iblk m c 0 t (ix3 z r l) = m (c.tc.loc main_arg0) (ix3 (0 : Fin 1) (postRow t r) l) := by
  have e : ∀ t : Fin grid0.N, win0_0.index t 0 = 0 ∧ win0_0.index t 1 = t.val ∧ win0_0.index t 2 = 0 := by decide +kernel
  obtain ⟨e0, e1, e2⟩ := e t
  unfold iblk
  rw [View.read_apply]
  exact congrArg (m (c.tc.loc main_arg0)) (funext fun a => Fin.ext (match a with
    | ⟨0, _⟩ => (lane_coord (n := 1) (l := z.val) e0).trans (show z.val = 0 by omega)
    | ⟨1, _⟩ => row_coord e1
    | ⟨2, _⟩ => lane_coord e2))

theorem post_block_1 (t : Fin cfg0.N) (z : Fin 1) (l : Fin 4096) :
    iblk m c 1 t (ix2 z l) = m (c.tc.loc main_arg1) (ix1 l) := by
  have e : ∀ t : Fin grid0.N, win0_1.index t 0 = 0 ∧ win0_1.index t 1 = 0 := by decide +kernel
  obtain ⟨e0, e1⟩ := e t
  have h : (win0_1.blk t).view.emb (ix2 z l) = ix2 (0 : Fin 1) l := funext fun a => Fin.ext (match a with
    | ⟨0, _⟩ => (lane_coord (n := 1) (l := z.val) e0).trans (show z.val = 0 by omega)
    | ⟨1, _⟩ => lane_coord e1)
  unfold iblk
  rw [View.read_apply]
  blk_simp
  unfold V
  refine (congrArg _ h).trans ?_
  show StableHlo.after hostOps0 (fun b => m (c, b)) (Proc.tc.devRef main_v0) _ = _
  after_results
  pointwise

theorem post_block_2 (t : Fin cfg0.N) (r : Fin 256) (l : Fin 4096) :
    iblk m c 2 t (ix2 r l) = m (c.tc.loc main_arg2) (ix2 (postRow t r) l) := by
  have e : ∀ t : Fin grid0.N, win0_2.index t 0 = t.val ∧ win0_2.index t 1 = 0 := by decide +kernel
  obtain ⟨e0, e1⟩ := e t
  unfold iblk
  rw [View.read_apply]
  exact congrArg (m (c.tc.loc main_arg2)) (funext fun a => Fin.ext (match a with
    | ⟨0, _⟩ => row_coord e0
    | ⟨1, _⟩ => lane_coord e1))

/-- The layer's output, after the run. -/
theorem final_post : (dats m 0 c).arrAt 3 cfg0.N
    = addedRows (m (c.tc.loc main_arg0)) (m (c.tc.loc main_arg1)) (m (c.tc.loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  have e : ∀ t : Fin grid0.N, win0_3.index t 0 = t.val ∧ win0_3.index t 1 = 0 := by decide +kernel
  obtain ⟨e0, e1⟩ := e t
  have h : (win0_3.blk t).view.emb (ix2 r l) = ix2 (postRow t r) l := funext fun a => Fin.ext (match a with
    | ⟨0, _⟩ => row_coord e0
    | ⟨1, _⟩ => lane_coord e1)
  blk_simp
  rw [after0_3]
  have e : out0_3 (iblk m c 0 t) (iblk m c 1 t) (iblk m c 2 t) = k0_pay1 (F := Ideal) (iblk m c 0 t) (iblk m c 1 t) (iblk m c 2 t) := by
    unfold out0_3
    frame_out
  rw [e]
  refine Eq.trans ?_ (congrArg _ h).symm
  refine (post_at (iblk m c 0 t) (iblk m c 1 t) (iblk m c 2 t) r l).trans ?_
  unfold addedRows scaledRows rowsOf
  simp only [post_block_0, post_block_1, post_block_2]
  rfl

end

theorem frame_PostNormRefIdeal : Cert.quiescent_PostNormRefIdeal := fun m g _ =>
  (θ_run Cert.PostNormRefIdeal.defs _ _).mono (fun _ h => ⟨fun c => (h c).2, sem_eq_zero_of_no_sems rfl _⟩) (Cert.PostNormRefIdeal.Value.run (F := Ideal) m g)

theorem algebraic_PostNorm : Cert.algebraic_PostNormIdeal_PostNormRefIdeal := fun m g m' g' _ agree =>
  ⟨_, Cert.PostNormIdeal.Value.run_blocks m g,
    (θ_run _ _ _).mono (fun _ h c => ⟨(h c).1.trans ((refAdded_eq _ _ _).trans (by
        rw [(agree c).1, (agree c).2.1, (agree c).2.2]
        exact (final_post m c).symm)),
      (h c).2⟩) (Cert.PostNormRefIdeal.Value.run (F := Ideal) m' g')⟩

/-! ### The derivative of the normalisation after a mixer -/

section
open Cert.PostNormGradIdeal Cert.PostNormGradIdeal.Gen

section
variable (v0 : S1x256x4096.Idx → EReal) (v2 : S256x4096.Idx → EReal) (v13 : S1x4096.Idx → EReal)

theorem postInv_at (r : Fin 256) (z : Fin 1) : k0_pay2 (F := Ideal) v0 (ix2 r z) = rowInv fun l => v0 (ix3 0 r l) := by
  unfold k0_pay2 k0_pay1 rowInv
  pointwise

theorem postNormed_at (r : Fin 256) (l : Fin 4096) : k0_pay3 (F := Ideal) v0 (ix2 r l) = rowNormed (fun l => v0 (ix3 0 r l)) l := by
  unfold k0_pay3 k0_pay1 rowNormed
  pointwise
  rw [postInv_at]

theorem postGrad_at (r : Fin 256) (l : Fin 4096) : k0_pay4 (F := Ideal) v0 v2 v13 (ix2 r l)
    = rowGrad (fun l => v0 (ix3 0 r l)) (fun l => v13 (ix2 0 l)) (fun l => v2 (ix2 r l)) l := by
  unfold k0_pay4 rowGrad rowAlong
  pointwise
  simp only [postInv_at, postNormed_at]

theorem postGain_at (z : Fin 1) (l : Fin 4096) : k0_pay6 (F := Ideal) v0 v2 v13 (ix2 z l)
    = v13 (ix2 z l) + ∑ r : Fin 256, v2 (ix2 r l) * rowNormed (fun l => v0 (ix3 0 r l)) l := by
  unfold k0_pay6
  pointwise
  simp only [postNormed_at]

end

variable (m : (ℓ : Loc nD τ sig) → Buf (Elt Ideal) ℓ) (c : Dev nD)

theorem postGrad_row_lt (t : Fin cfg0.N) (r : Fin 256) : t.val * 256 + r.val < 4096 := by
  have hN : t.val < 16 := lt_of_lt_of_eq t.isLt (show cfg0.N = 16 from N_0)
  omega

/-- A row of a block, in the whole array. -/
abbrev postGradRow (t : Fin cfg0.N) (r : Fin 256) : Fin 4096 := ⟨t.val * 256 + r.val, postGrad_row_lt t r⟩

theorem postGrad_block_0 (t : Fin cfg0.N) (z : Fin 1) (r : Fin 256) (l : Fin 4096) :
    iblk m c 0 t (ix3 z r l) = m (c.tc.loc main_arg0) (ix3 (0 : Fin 1) (postGradRow t r) l) := by
  have e : ∀ t : Fin grid0.N, win0_0.index t 0 = 0 ∧ win0_0.index t 1 = t.val ∧ win0_0.index t 2 = 0 := by decide +kernel
  obtain ⟨e0, e1, e2⟩ := e t
  unfold iblk
  rw [View.read_apply]
  exact congrArg (m (c.tc.loc main_arg0)) (funext fun a => Fin.ext (match a with
    | ⟨0, _⟩ => (lane_coord (n := 1) (l := z.val) e0).trans (show z.val = 0 by omega)
    | ⟨1, _⟩ => row_coord e1
    | ⟨2, _⟩ => lane_coord e2))

theorem postGrad_block_1 (t : Fin cfg0.N) (z : Fin 1) (l : Fin 4096) :
    iblk m c 1 t (ix2 z l) = m (c.tc.loc main_arg1) (ix1 l) := by
  have e : ∀ t : Fin grid0.N, win0_1.index t 0 = 0 ∧ win0_1.index t 1 = 0 := by decide +kernel
  obtain ⟨e0, e1⟩ := e t
  have h : (win0_1.blk t).view.emb (ix2 z l) = ix2 (0 : Fin 1) l := funext fun a => Fin.ext (match a with
    | ⟨0, _⟩ => (lane_coord (n := 1) (l := z.val) e0).trans (show z.val = 0 by omega)
    | ⟨1, _⟩ => lane_coord e1)
  unfold iblk
  rw [View.read_apply]
  blk_simp
  unfold V
  refine (congrArg _ h).trans ?_
  show StableHlo.after hostOps0 (fun b => m (c, b)) (Proc.tc.devRef main_v0) _ = _
  after_results
  pointwise

theorem postGrad_block_2 (t : Fin cfg0.N) (r : Fin 256) (l : Fin 4096) :
    iblk m c 2 t (ix2 r l) = m (c.tc.loc main_arg2) (ix2 (postGradRow t r) l) := by
  have e : ∀ t : Fin grid0.N, win0_2.index t 0 = t.val ∧ win0_2.index t 1 = 0 := by decide +kernel
  obtain ⟨e0, e1⟩ := e t
  unfold iblk
  rw [View.read_apply]
  exact congrArg (m (c.tc.loc main_arg2)) (funext fun a => Fin.ext (match a with
    | ⟨0, _⟩ => row_coord e0
    | ⟨1, _⟩ => lane_coord e1))

/-- The shares of the rows of one device's arrays in the derivative by an entry of the gain. -/
def postShare (l : Fin 4096) : Fin 4096 → EReal := gainShare (rowsOf (m (c.tc.loc main_arg0))) (m (c.tc.loc main_arg2)) l

/-- What a point adds: the shares of its block's rows. -/
theorem postGain_point (t : Fin cfg0.N) (b : S1x4096.Idx → EReal) (z : Fin 1) (l : Fin 4096) :
    k0_pay6 (F := Ideal) (iblk m c 0 t) (iblk m c 2 t) b (ix2 z l)
      = b (ix2 z l) + ∑ r : Fin 256, over (postShare m c l) (t.val * 256 + r.val) := by
  have h : ∀ r : Fin 256, over (postShare m c l) (t.val * 256 + r.val) = postShare m c l (postGradRow t r) := fun r => over_at _ (postGrad_row_lt t r)
  simp only [h]
  unfold postShare gainShare
  refine (postGain_at (iblk m c 0 t) (iblk m c 2 t) b z l).trans ?_
  simp only [postGrad_block_0, postGrad_block_2]
  rfl

theorem postGain_sum (n : ℕ) (h : n < cfg0.N) (z : Fin 1) (l : Fin 4096) :
    (outsAt0 m c n h).2 (ix2 z l) = ∑ i ∈ Finset.range ((n + 1) * 256), over (postShare m c l) i := by
  refine sum_blocks (over (postShare m c l)) (fun n h => (outsAt0 m c n h).2 (ix2 z l)) (fun h => ?_) (fun n h => ?_) n h
  · rw [outsAt0_A m c ⟨0, h⟩ rfl]
    frame_out
    refine (postGain_point m c ⟨0, h⟩ _ z l).trans ?_
    unfold k0_pay5
    pointwise
  · have hN : n + 1 < 16 := lt_of_lt_of_eq h (show cfg0.N = 16 from N_0)
    rw [outsAt0_B m c ⟨n + 1, h⟩ (by dsimp only; omega)]
    frame_out
    exact postGain_point m c ⟨n + 1, h⟩ _ z l

/-- The derivative by the gain, after the run. -/
theorem final_postGain : (dats m 0 c).arrAt 4 cfg0.N = gainGrad (rowsOf (m (c.tc.loc main_arg0))) (m (c.tc.loc main_arg2)) := by
  refine (dats m 0 c).arrAt_eq_of_after_last 4 t0_15 (by decide +kernel) _ fun j => ?_
  obtain ⟨z, l, rfl⟩ : ∃ z l, j = ix2 z l := ⟨j 0, j 1, (ix2_eta j).symm⟩
  blk_simp
  rw [after0_4]
  exact (postGain_sum m c _ _ z l).trans (sum_over (postShare m c l))

/-- The derivative by the mixer's output, after the run. -/
theorem final_postGrad : (dats m 0 c).arrAt 3 cfg0.N
    = rowsGrad (rowsOf (m (c.tc.loc main_arg0))) (m (c.tc.loc main_arg1)) (m (c.tc.loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  have e : ∀ t : Fin grid0.N, win0_3.index t 0 = t.val ∧ win0_3.index t 1 = 0 := by decide +kernel
  obtain ⟨e0, e1⟩ := e t
  have h : (win0_3.blk t).view.emb (ix2 r l) = ix2 (postGradRow t r) l := funext fun a => Fin.ext (match a with
    | ⟨0, _⟩ => row_coord e0
    | ⟨1, _⟩ => lane_coord e1)
  blk_simp
  rw [after0_3]
  have e : (outsAt0 m c t.val t.isLt).1 = k0_pay4 (F := Ideal) (iblk m c 0 t) (iblk m c 2 t) (iblk m c 1 t) := by
    by_cases h0 : t.val % 16 = 0
    · rw [outsAt0_A m c t h0]
      frame_out
    · rw [outsAt0_B m c t h0]
      frame_out
  rw [e]
  refine Eq.trans ?_ (congrArg _ h).symm
  refine (postGrad_at (iblk m c 0 t) (iblk m c 2 t) (iblk m c 1 t) r l).trans ?_
  unfold rowsGrad rowsOf
  simp only [postGrad_block_0, postGrad_block_1, postGrad_block_2]
  rfl

theorem refPostGrad_eq (y : S1x4096x4096.Idx → EReal) (g : S4096.Idx → EReal) (d : S4096x4096.Idx → EReal) :
    truncf (F := Ideal) (φ := .f32) .bf16 (refRowsGrad (shapeCast S4096x4096 y Cert.PostNormGradRefIdeal.Gen.shapeCasts_S1x4096x4096_S4096x4096) g d) Cert.PostNormGradRefIdeal.Gen.bitsLt_bf16_f32
      = rowsGrad (rowsOf y) g d := by
  rw [rowsOf_cast]
  exact refRowsGrad_eq (rowsOf y) g d

theorem refPostGain_eq (y : S1x4096x4096.Idx → EReal) (d : S4096x4096.Idx → EReal) :
    refGain (shapeCast S4096x4096 y Cert.PostNormGradRefIdeal.Gen.shapeCasts_S1x4096x4096_S4096x4096) d
      = gainGrad (rowsOf y) d := by
  rw [rowsOf_cast]
  exact refGain_eq (rowsOf y) d

end

theorem frame_PostNormGradRefIdeal : Cert.quiescent_PostNormGradRefIdeal := fun m g _ =>
  (θ_run Cert.PostNormGradRefIdeal.defs _ _).mono (fun _ h => ⟨fun c => (h c).2.2, sem_eq_zero_of_no_sems rfl _⟩) (Cert.PostNormGradRefIdeal.Value.run (F := Ideal) m g)

theorem algebraic_PostNormGrad : Cert.algebraic_PostNormGradIdeal_PostNormGradRefIdeal := fun m g m' g' _ agree =>
  ⟨_, _, Cert.PostNormGradIdeal.Value.run_blocks m g,
    (θ_run _ _ _).mono (fun _ h c => ⟨(h c).1.trans ((refPostGrad_eq _ _ _).trans (by
        rw [(agree c).1, (agree c).2.1, (agree c).2.2]
        exact (final_postGrad m c).symm)),
      (h c).2.1.trans ((refPostGain_eq _ _).trans (by
        rw [(agree c).1, (agree c).2.2]
        exact (final_postGain m c).symm)),
      (h c).2.2⟩) (Cert.PostNormGradRefIdeal.Value.run (F := Ideal) m' g')⟩

end Cert.Proof

end
-- ==== Proof.Gates.lean ====
/-
The gate of the attention's output and its derivative: the kernels go over blocks of rows, the references take the whole
arrays. The logistic function is one operation in the kernels, and an exponential, a sum and a division in the references.
-/
module

public import proofs.«01_k».proof.Defs
public import proofs.«01_k».proof.Proof.Blocks
public import Idealize.ShloMosaic.Lib.Pipeline.ValueKit
public import Idealize.ShloMosaic.Lib.Claim
public import proofs.«01_k».proof.Proof.Gen.Gate.Frame
public import proofs.«01_k».proof.Proof.Gen.GateIdeal.Value
public import proofs.«01_k».proof.Proof.Gen.GateRefIdeal.Run
public import proofs.«01_k».proof.Proof.Gen.GateGrad.Frame
public import proofs.«01_k».proof.Proof.Gen.GateGradIdeal.Value
public import proofs.«01_k».proof.Proof.Gen.GateGradRefIdeal.Run

@[expose] public section

noncomputable section

namespace Cert.Proof

open Idealize.ShloMosaic Idealize.SL.Sem
open Idealize.ShloMosaic.TcCoe

open Cert.Blocks

/-- The logistic function. -/
def sigmoid (z : EReal) : EReal := Ideal.logistic z

/-- An output, gated. -/
def gated (o z : EReal) : EReal := o * (z * sigmoid z)

/-- The derivative of `z` times its logistic function. -/
def gateSlope (z : EReal) : EReal :=
  sigmoid z * (Ideal.ofBits .f32 0x3F800000#32 + z * (Ideal.ofBits .f32 0x3F800000#32 - sigmoid z))

section
open Cert.GateGradRefIdeal Cert.GateGradRefIdeal.Gen

/-- The gated outputs. -/
def gatedRows (o : S4096x4096.Idx → EReal) (z : S1x4096x4096.Idx → EReal) (j : S4096x4096.Idx) : EReal :=
  gated (o j) (z (ix3 (0 : Fin 1) (j 0) (j 1)))

/-- The derivative by the gate's argument. -/
def slopeRows (d o : S4096x4096.Idx → EReal) (z : S1x4096x4096.Idx → EReal) (j : S1x4096x4096.Idx) : EReal :=
  d (ix2 (j 1) (j 2)) * o (ix2 (j 1) (j 2)) * gateSlope (z (ix3 (0 : Fin 1) (j 1) (j 2)))

/-- The reference's gate argument, without the axis of one entry. -/
def refArg (z : FVec Ideal S1x4096x4096 .f32) : FVec Ideal S4096x4096 .f32 := shapeCast _ z shapeCasts_S1x4096x4096_S4096x4096

/-- The reference's logistic function. -/
def refSigmoid (z : FVec Ideal S1x4096x4096 .f32) : FVec Ideal S4096x4096 .f32 :=
  Host.divf (broadcastInDim S4096x4096 ![] bcast_S_S4096x4096 (constant S_ .f32 0x3F800000#32)) (addf (broadcastInDim S4096x4096 ![] bcast_S_S4096x4096 (constant S_ .f32 0x3F800000#32)) (Host.exp (Host.negf (refArg z))))

/-- The reference's gated outputs. -/
def refGated (o : FVec Ideal S4096x4096 .f32) (z : FVec Ideal S1x4096x4096 .f32) : FVec Ideal S4096x4096 .bf16 :=
  truncf .bf16 (mulf o (mulf (refArg z) (refSigmoid z))) bitsLt_bf16_f32

/-- The reference's derivative by the gate's argument. -/
def refSlope (d o : FVec Ideal S4096x4096 .f32) (z : FVec Ideal S1x4096x4096 .f32) : FVec Ideal S1x4096x4096 .bf16 :=
  broadcastInDim S1x4096x4096 ![1, 2] bcast_S4096x4096_S1x4096x4096_1_2 (truncf .bf16 (mulf (mulf d o) (mulf (refSigmoid z) (addf (broadcastInDim S4096x4096 ![] bcast_S_S4096x4096 (constant S_ .f32 0x3F800000#32)) (mulf (refArg z) (subf (broadcastInDim S4096x4096 ![] bcast_S_S4096x4096 (constant S_ .f32 0x3F800000#32)) (refSigmoid z)))))) bitsLt_bf16_f32)

variable (d o : S4096x4096.Idx → EReal) (z : S1x4096x4096.Idx → EReal)

theorem refArg_at (i l : Fin 4096) : refArg z (ix2 i l) = z (ix3 (0 : Fin 1) i l) := by
  unfold refArg
  pointwise

theorem refSigmoid_at (i l : Fin 4096) : refSigmoid z (ix2 i l) = sigmoid (z (ix3 (0 : Fin 1) i l)) := by
  rw [← refArg_at z i l]
  unfold refSigmoid sigmoid
  pointwise
  rfl

theorem refGated_eq : refGated o z = gatedRows o z := by
  funext j
  obtain ⟨i, l, rfl⟩ : ∃ i l, j = ix2 i l := ⟨j 0, j 1, (ix2_eta j).symm⟩
  unfold refGated gatedRows gated
  pointwise
  rw [refArg_at, refSigmoid_at]

theorem refSlope_eq : refSlope d o z = slopeRows d o z := by
  funext j
  obtain ⟨k, i, l, rfl⟩ : ∃ k i l, j = ix3 k i l := ⟨j 0, j 1, j 2, (ix3_eta j).symm⟩
  unfold refSlope slopeRows gateSlope
  pointwise
  rw [refArg_at, refSigmoid_at]

end

/-! ### The gate -/

section
open Cert.GateIdeal Cert.GateIdeal.Gen

theorem gate_at (v0 : S256x4096.Idx → EReal) (v1 : S1x256x4096.Idx → EReal) (r : Fin 256) (l : Fin 4096) :
    k0_pay1 (F := Ideal) v0 v1 (ix2 r l) = gated (v0 (ix2 r l)) (v1 (ix3 0 r l)) := by
  unfold k0_pay1 gated sigmoid
  pointwise

variable (m : (ℓ : Loc nD τ sig) → Buf (Elt Ideal) ℓ) (c : Dev nD)

theorem gate_row_lt (t : Fin cfg0.N) (r : Fin 256) : t.val * 256 + r.val < 4096 := by
  have hN : t.val < 16 := lt_of_lt_of_eq t.isLt (show cfg0.N = 16 from N_0)
  omega

/-- A row of a block, in the whole array. -/
abbrev gateRow (t : Fin cfg0.N) (r : Fin 256) : Fin 4096 := ⟨t.val * 256 + r.val, gate_row_lt t r⟩

theorem gate_block_0 (t : Fin cfg0.N) (r : Fin 256) (l : Fin 4096) :
    iblk m c 0 t (ix2 r l) = m (c.tc.loc main_arg0) (ix2 (gateRow t r) l) := by
  have e : ∀ t : Fin grid0.N, win0_0.index t 0 = t.val ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem gate_block_1 (t : Fin cfg0.N) (z : Fin 1) (r : Fin 256) (l : Fin 4096) :
    iblk m c 1 t (ix3 z r l) = m (c.tc.loc main_arg1) (ix3 (0 : Fin 1) (gateRow t r) l) := by
  have e : ∀ t : Fin grid0.N, win0_1.index t 0 = 0 ∧ win0_1.index t 1 = t.val ∧ win0_1.index t 2 = 0 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => row_coord e1
    | ⟨2, _⟩ => lane_coord e2))

/-- The gated outputs, after the run. -/
theorem final_gate : (dats m 0 c).arrAt 2 cfg0.N
    = gatedRows (m (c.tc.loc main_arg0)) (m (c.tc.loc main_arg1)) := by
  refine (dats m 0 c).arrAt_eq_of_covers 2 _ (by decide +kernel) fun t hf y => ?_
  obtain ⟨r, l, rfl⟩ : ∃ r l, y = ix2 r l := ⟨y 0, y 1, (ix2_eta y).symm⟩
  have e : ∀ t : Fin grid0.N, win0_2.index t 0 = t.val ∧ win0_2.index t 1 = 0 := by decide +kernel
  obtain ⟨e0, e1⟩ := e t
  have h : (win0_2.blk t).view.emb (ix2 r l) = ix2 (gateRow t r) l := funext fun a => Fin.ext (match a with
    | ⟨0, _⟩ => row_coord e0
    | ⟨1, _⟩ => lane_coord e1)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (gate_at (iblk m c 0 t) (iblk m c 1 t) r l).trans ?_
  unfold gatedRows
  simp only [gate_block_0, gate_block_1]
  rfl

end

theorem frame_GateRefIdeal : Cert.quiescent_GateRefIdeal := fun m g _ =>
  (θ_run Cert.GateRefIdeal.defs _ _).mono (fun _ h => ⟨fun c => (h c).2, sem_eq_zero_of_no_sems rfl _⟩) (Cert.GateRefIdeal.Value.run (F := Ideal) m g)

theorem algebraic_Gate : Cert.algebraic_GateIdeal_GateRefIdeal := fun m g m' g' _ agree =>
  ⟨_, Cert.GateIdeal.Value.run_blocks m g,
    (θ_run _ _ _).mono (fun _ h c => ⟨(h c).1.trans ((refGated_eq _ _).trans (by
        rw [(agree c).1, (agree c).2]
        exact (final_gate m c).symm)),
      (h c).2⟩) (Cert.GateRefIdeal.Value.run (F := Ideal) m' g')⟩

/-! ### Its derivative -/

section
open Cert.GateGradIdeal Cert.GateGradIdeal.Gen

theorem gateOut_at (v0 : S256x4096.Idx → EReal) (v1 : S1x256x4096.Idx → EReal) (r : Fin 256) (l : Fin 4096) :
    k0_pay2 (F := Ideal) v0 v1 (ix2 r l) = gated (v0 (ix2 r l)) (v1 (ix3 0 r l)) := by
  unfold k0_pay2 k0_pay1 gated sigmoid
  pointwise

theorem gateArg_at (v0 : S256x4096.Idx → EReal) (v1 : S1x256x4096.Idx → EReal) (v8 : S256x4096.Idx → EReal) (z : Fin 1) (r : Fin 256) (l : Fin 4096) :
    k0_pay3 (F := Ideal) v0 v1 v8 (ix3 z r l) = v0 (ix2 r l) * v8 (ix2 r l) * gateSlope (v1 (ix3 0 r l)) := by
  unfold k0_pay3 k0_pay1 gateSlope sigmoid
  pointwise

variable (m : (ℓ : Loc nD τ sig) → Buf (Elt Ideal) ℓ) (c : Dev nD)

theorem gateGrad_row_lt (t : Fin cfg0.N) (r : Fin 256) : t.val * 256 + r.val < 4096 := by
  have hN : t.val < 16 := lt_of_lt_of_eq t.isLt (show cfg0.N = 16 from N_0)
  omega

/-- A row of a block, in the whole array. -/
abbrev gateGradRow (t : Fin cfg0.N) (r : Fin 256) : Fin 4096 := ⟨t.val * 256 + r.val, gateGrad_row_lt t r⟩

theorem gateGrad_block_0 (t : Fin cfg0.N) (r : Fin 256) (l : Fin 4096) :
    iblk m c 0 t (ix2 r l) = m (c.tc.loc main_arg0) (ix2 (gateGradRow t r) l) := by
  have e : ∀ t : Fin grid0.N, win0_0.index t 0 = t.val ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem gateGrad_block_1 (t : Fin cfg0.N) (r : Fin 256) (l : Fin 4096) :
    iblk m c 1 t (ix2 r l) = m (c.tc.loc main_arg1) (ix2 (gateGradRow t r) l) := by
  have e : ∀ t : Fin grid0.N, win0_1.index t 0 = t.val ∧ win0_1.index t 1 = 0 := by decide +kernel
  obtain ⟨e0, e1⟩ := e t
  unfold iblk
  rw [View.read_apply]
  exact congrArg (m (c.tc.loc main_arg1)) (funext fun a => Fin.ext (match a with
    | ⟨0, _⟩ => row_coord e0
    | ⟨1, _⟩ => lane_coord e1))

theorem gateGrad_block_2 (t : Fin cfg0.N) (z : Fin 1) (r : Fin 256) (l : Fin 4096) :
    iblk m c 2 t (ix3 z r l) = m (c.tc.loc main_arg2) (ix3 (0 : Fin 1) (gateGradRow t r) l) := by
  have e : ∀ t : Fin grid0.N, win0_2.index t 0 = 0 ∧ win0_2.index t 1 = t.val ∧ win0_2.index t 2 = 0 := by decide +kernel
  obtain ⟨e0, e1, e2⟩ := e t
  unfold iblk
  rw [View.read_apply]
  exact congrArg (m (c.tc.loc main_arg2)) (funext fun a => Fin.ext (match a with
    | ⟨0, _⟩ => (lane_coord (n := 1) (l := z.val) e0).trans (show z.val = 0 by omega)
    | ⟨1, _⟩ => row_coord e1
    | ⟨2, _⟩ => lane_coord e2))

/-- The derivative by the attention's output, after the run. -/
theorem final_gateOut : (dats m 0 c).arrAt 3 cfg0.N
    = gatedRows (m (c.tc.loc main_arg0)) (m (c.tc.loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  have e : ∀ t : Fin grid0.N, win0_3.index t 0 = t.val ∧ win0_3.index t 1 = 0 := by decide +kernel
  obtain ⟨e0, e1⟩ := e t
  have h : (win0_3.blk t).view.emb (ix2 r l) = ix2 (gateGradRow t r) l := funext fun a => Fin.ext (match a with
    | ⟨0, _⟩ => row_coord e0
    | ⟨1, _⟩ => lane_coord e1)
  blk_simp
  rw [after0_3]
  have e : out0_3 (iblk m c 0 t) (iblk m c 1 t) (iblk m c 2 t) = k0_pay2 (F := Ideal) (iblk m c 0 t) (iblk m c 2 t) := by
    unfold out0_3
    frame_out
  rw [e]
  refine Eq.trans ?_ (congrArg _ h).symm
  refine (gateOut_at (iblk m c 0 t) (iblk m c 2 t) r l).trans ?_
  unfold gatedRows
  simp only [gateGrad_block_0, gateGrad_block_2]
  rfl

/-- The derivative by the gate's argument, after the run. -/
theorem final_gateArg : (dats m 0 c).arrAt 4 cfg0.N
    = slopeRows (m (c.tc.loc main_arg0)) (m (c.tc.loc main_arg1)) (m (c.tc.loc main_arg2)) := by
  refine (dats m 0 c).arrAt_eq_of_covers 4 _ (by decide +kernel) fun t hf y => ?_
  obtain ⟨z, r, l, rfl⟩ : ∃ z r l, y = ix3 z r l := ⟨y 0, y 1, y 2, (ix3_eta y).symm⟩
  have e : ∀ t : Fin grid0.N, win0_4.index t 0 = 0 ∧ win0_4.index t 1 = t.val ∧ win0_4.index t 2 = 0 := by decide +kernel
  obtain ⟨e0, e1, e2⟩ := e t
  have h : (win0_4.blk t).view.emb (ix3 z r l) = ix3 (0 : Fin 1) (gateGradRow t r) l := funext fun a => Fin.ext (match a with
    | ⟨0, _⟩ => (lane_coord (n := 1) (l := z.val) e0).trans (show z.val = 0 by omega)
    | ⟨1, _⟩ => row_coord e1
    | ⟨2, _⟩ => lane_coord e2)
  blk_simp
  rw [after0_4]
  have e : out0_4 (iblk m c 0 t) (iblk m c 1 t) (iblk m c 2 t) = k0_pay3 (F := Ideal) (iblk m c 0 t) (iblk m c 2 t) (iblk m c 1 t) := by
    unfold out0_4
    frame_out
  rw [e]
  refine Eq.trans ?_ (congrArg _ h).symm
  refine (gateArg_at (iblk m c 0 t) (iblk m c 2 t) (iblk m c 1 t) z r l).trans ?_
  unfold slopeRows
  simp only [gateGrad_block_0, gateGrad_block_1, gateGrad_block_2]
  rfl

end

theorem frame_GateGradRefIdeal : Cert.quiescent_GateGradRefIdeal := fun m g _ =>
  (θ_run Cert.GateGradRefIdeal.defs _ _).mono (fun _ h => ⟨fun c => (h c).2.2, sem_eq_zero_of_no_sems rfl _⟩) (Cert.GateGradRefIdeal.Value.run (F := Ideal) m g)

theorem algebraic_GateGrad : Cert.algebraic_GateGradIdeal_GateGradRefIdeal := fun m g m' g' _ agree =>
  ⟨_, _, Cert.GateGradIdeal.Value.run_blocks m g,
    (θ_run _ _ _).mono (fun _ h c => ⟨(h c).1.trans ((refGated_eq _ _).trans (by
        rw [(agree c).1, (agree c).2.2]
        exact (final_gateOut m c).symm)),
      (h c).2.1.trans ((refSlope_eq _ _ _).trans (by
        rw [(agree c).1, (agree c).2.1, (agree c).2.2]
        exact (final_gateArg m c).symm)),
      (h c).2.2⟩) (Cert.GateGradRefIdeal.Value.run (F := Ideal) m' g')⟩

end Cert.Proof

end
-- ==== Proof.Products.lean ====
/-
The products of the activations with the weights. The kernels take tiles of 1024 rows and at most 1664 columns, the references
the whole arrays.
-/
module

public import proofs.«01_k».proof.Defs
public import proofs.«01_k».proof.Proof.Blocks
public import Idealize.ShloMosaic.Lib.Pipeline.ValueKit
public import Idealize.ShloMosaic.Lib.Claim
public import proofs.«01_k».proof.Proof.Gen.InA.Frame
public import proofs.«01_k».proof.Proof.Gen.InAIdeal.Value
public import proofs.«01_k».proof.Proof.Gen.InARefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.QUp.Frame
public import proofs.«01_k».proof.Proof.Gen.QUpIdeal.Value
public import proofs.«01_k».proof.Proof.Gen.QUpRefIdeal.Run
public import proofs.«01_k».proof.Proof.Gen.KvUp.Frame
public import proofs.«01_k».proof.Proof.Gen.KvUpIdeal.Value
public import proofs.«01_k».proof.Proof.Gen.KvUpRefIdeal.Run
public import proofs.«01_k».proof.Proof.Gen.ScIn.Frame
public import proofs.«01_k».proof.Proof.Gen.ScInIdeal.Value
public import proofs.«01_k».proof.Proof.Gen.ScInRefIdeal.Run
public import proofs.«01_k».proof.Proof.Gen.GmIn.Frame
public import proofs.«01_k».proof.Proof.Gen.GmInIdeal.Value
public import proofs.«01_k».proof.Proof.Gen.GmInRefIdeal.Run

@[expose] public section

noncomputable section

namespace Cert.Proof

open Idealize.ShloMosaic Idealize.SL.Sem
open Idealize.ShloMosaic.TcCoe

open Cert.Blocks

/-! ### `InA` -/

section
open Cert.InAIdeal Cert.InAIdeal.Gen

/-- The product of the rows of `a` with the columns of every piece of `w`. -/
def inAOf (a : S4096x4096.Idx → EReal) (w : S1x4096x1664.Idx → EReal) (j : S1x4096x1664.Idx) : EReal :=
  ∑ k : Fin 4096, a (ix2 (j 1) k) * w (ix3 (j 0) k (j 2))

end

section
open Cert.InARefIdeal Cert.InARefIdeal.Gen

/-- The reference's result. -/
def inARef (x0 : FVec Ideal S4096x4096 .bf16) (x1 : FVec Ideal S1x4096x1664 .bf16) : FVec Ideal S1x4096x1664 .f32 :=
  transpose S1x4096x1664 [0, 2, 1] (Host.dotGeneral dot_S1x4096x1664_S4096x4096_S1x1664x4096_1_1_02_0_n_n none x1 x0) transposes_S1x1664x4096_S1x4096x1664_0_2_1

theorem inARef_eq (x0 : FVec Ideal S4096x4096 .bf16) (x1 : FVec Ideal S1x4096x1664 .bf16) : inARef x0 x1 = inAOf x0 x1 := by
  funext j
  obtain ⟨p, i, l, rfl⟩ : ∃ p i l, j = ix3 p i l := ⟨j 0, j 1, j 2, (ix3_eta j).symm⟩
  unfold inARef inAOf
  obtain rfl : p = 0 := Subsingleton.elim _ _
  pointwise
  exact Finset.sum_congr rfl fun k _ => mul_comm _ _

end

section
open Cert.InAIdeal Cert.InAIdeal.Gen

theorem inA_at (v0 : S1024x4096.Idx → EReal) (v1 : S1x4096x1664.Idx → EReal) (z : Fin 1) (r : Fin 1024) (l : Fin 1664) :
    k0_pay1 (F := Ideal) v0 v1 (ix3 z r l) = ∑ k : Fin 4096, v0 (ix2 r k) * v1 (ix3 0 k l) := by
  unfold k0_pay1
  pointwise

variable (m : (ℓ : Loc nD τ sig) → Buf (Elt Ideal) ℓ) (c : Dev nD)

theorem inAPos2_lt (t : Fin cfg0.N) (x : Fin 1024) : (t.val / 1) * 1024 + x.val < 4096 := by
  have hN : t.val < 4 := lt_of_lt_of_eq t.isLt (show cfg0.N = 4 from N_0)
  omega

/-- A coordinate in a block, in the whole array. -/
abbrev inAPos2 (t : Fin cfg0.N) (x : Fin 1024) : Fin 4096 := ⟨(t.val / 1) * 1024 + x.val, inAPos2_lt t x⟩

theorem inAPos3_lt (t : Fin cfg0.N) (x : Fin 1664) : (t.val % 1 % 1) * 1664 + x.val < 1664 := by
  have hN : t.val < 4 := lt_of_lt_of_eq t.isLt (show cfg0.N = 4 from N_0)
  omega

/-- A coordinate in a block, in the whole array. -/
abbrev inAPos3 (t : Fin cfg0.N) (x : Fin 1664) : Fin 1664 := ⟨(t.val % 1 % 1) * 1664 + x.val, inAPos3_lt t x⟩

theorem inA_block_0 (t : Fin cfg0.N) (r : Fin 1024) (l : Fin 4096) :
    iblk m c 0 t (ix2 r l) = m (c.tc.loc main_arg0) (ix2 (inAPos2 t r) l) := by
  have e : ∀ t : Fin grid0.N, win0_0.index t 0 = t.val / 1 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem inA_block_1 (t : Fin cfg0.N) (z : Fin 1) (r : Fin 4096) (l : Fin 1664) :
    iblk m c 1 t (ix3 z r l) = m (c.tc.loc main_arg1) (ix3 (0 : Fin 1) r (inAPos3 t l)) := by
  have e : ∀ t : Fin grid0.N, win0_1.index t 0 = 0 ∧ win0_1.index t 1 = 0 ∧ win0_1.index t 2 = t.val % 1 % 1 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem inA_final : (dats m 0 c).arrAt 2 cfg0.N = inAOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 1 ∧ win0_2.index t 2 = t.val % 1 % 1 := by decide +kernel
  obtain ⟨e0, e1, e2⟩ := e t
  have h : (win0_2.blk t).view.emb (ix3 z r l) = ix3 (0 : Fin 1) (inAPos2 t r) (inAPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (inA_at (iblk m c 0 t) (iblk m c 1 t) z r l).trans ?_
  simp only [inA_block_0, inA_block_1]
  rfl

end

theorem frame_InARefIdeal : Cert.quiescent_InARefIdeal := fun m g _ =>
  (θ_run Cert.InARefIdeal.defs _ _).mono (fun _ h => ⟨fun c => (h c).2, sem_eq_zero_of_no_sems rfl _⟩) (Cert.InARefIdeal.Value.run (F := Ideal) m g)

theorem algebraic_InA : Cert.algebraic_InAIdeal_InARefIdeal := fun m g m' g' _ agree =>
  ⟨_, Cert.InAIdeal.Value.run_blocks m g,
    (θ_run _ _ _).mono (fun _ h c => ⟨(h c).1.trans ((inARef_eq _ _).trans (by
        rw [(agree c).1, (agree c).2]
        exact (inA_final m c).symm)),
      (h c).2⟩) (Cert.InARefIdeal.Value.run (F := Ideal) m' g')⟩

/-! ### `OutProj` -/

section
open Cert.OutProjIdeal Cert.OutProjIdeal.Gen

/-- The product of the rows of `a` with the columns of every piece of `w`. -/
def outProjOf (a : S4096x4096.Idx → EReal) (w : S1x4096x4096.Idx → EReal) (j : S1x4096x4096.Idx) : EReal :=
  ∑ k : Fin 4096, a (ix2 (j 1) k) * w (ix3 (j 0) k (j 2))

end

section
open Cert.OutProjRefIdeal Cert.OutProjRefIdeal.Gen

/-- The reference's result. -/
def outProjRef (x0 : FVec Ideal S4096x4096 .bf16) (x1 : FVec Ideal S1x4096x4096 .bf16) : FVec Ideal S1x4096x4096 .f32 :=
  transpose S1x4096x4096 [0, 2, 1] (Host.dotGeneral dot_S1x4096x4096_S4096x4096_S1x4096x4096_1_1_02_0_n_n none x1 x0) transposes_S1x4096x4096_S1x4096x4096_0_2_1

theorem outProjRef_eq (x0 : FVec Ideal S4096x4096 .bf16) (x1 : FVec Ideal S1x4096x4096 .bf16) : outProjRef x0 x1 = outProjOf x0 x1 := by
  funext j
  obtain ⟨p, i, l, rfl⟩ : ∃ p i l, j = ix3 p i l := ⟨j 0, j 1, j 2, (ix3_eta j).symm⟩
  unfold outProjRef outProjOf
  obtain rfl : p = 0 := Subsingleton.elim _ _
  pointwise
  exact Finset.sum_congr rfl fun k _ => mul_comm _ _

end

section
open Cert.OutProjIdeal Cert.OutProjIdeal.Gen

theorem outProj_at (v0 : S1024x4096.Idx → EReal) (v1 : S1x4096x1024.Idx → EReal) (z : Fin 1) (r : Fin 1024) (l : Fin 1024) :
    k0_pay1 (F := Ideal) v0 v1 (ix3 z r l) = ∑ k : Fin 4096, v0 (ix2 r k) * v1 (ix3 0 k l) := by
  unfold k0_pay1
  pointwise

variable (m : (ℓ : Loc nD τ sig) → Buf (Elt Ideal) ℓ) (c : Dev nD)

theorem outProjPos2_lt (t : Fin cfg0.N) (x : Fin 1024) : (t.val / 4) * 1024 + x.val < 4096 := by
  have hN : t.val < 16 := lt_of_lt_of_eq t.isLt (show cfg0.N = 16 from N_0)
  omega

/-- A coordinate in a block, in the whole array. -/
abbrev outProjPos2 (t : Fin cfg0.N) (x : Fin 1024) : Fin 4096 := ⟨(t.val / 4) * 1024 + x.val, outProjPos2_lt t x⟩

theorem outProjPos3_lt (t : Fin cfg0.N) (x : Fin 1024) : (t.val % 4 % 4) * 1024 + x.val < 4096 := by
  have hN : t.val < 16 := lt_of_lt_of_eq t.isLt (show cfg0.N = 16 from N_0)
  omega

/-- A coordinate in a block, in the whole array. -/
abbrev outProjPos3 (t : Fin cfg0.N) (x : Fin 1024) : Fin 4096 := ⟨(t.val % 4 % 4) * 1024 + x.val, outProjPos3_lt t x⟩

theorem outProj_block_0 (t : Fin cfg0.N) (r : Fin 1024) (l : Fin 4096) :
    iblk m c 0 t (ix2 r l) = m (c.tc.loc main_arg0) (ix2 (outProjPos2 t r) l) := by
  have e : ∀ t : Fin grid0.N, win0_0.index t 0 = t.val / 4 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem outProj_block_1 (t : Fin cfg0.N) (z : Fin 1) (r : Fin 4096) (l : Fin 1024) :
    iblk m c 1 t (ix3 z r l) = m (c.tc.loc main_arg1) (ix3 (0 : Fin 1) r (outProjPos3 t l)) := by
  have e : ∀ t : Fin grid0.N, win0_1.index t 0 = 0 ∧ win0_1.index t 1 = 0 ∧ win0_1.index t 2 = t.val % 4 % 4 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem outProj_final : (dats m 0 c).arrAt 2 cfg0.N = outProjOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 4 ∧ win0_2.index t 2 = t.val % 4 % 4 := by decide +kernel
  obtain ⟨e0, e1, e2⟩ := e t
  have h : (win0_2.blk t).view.emb (ix3 z r l) = ix3 (0 : Fin 1) (outProjPos2 t r) (outProjPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (outProj_at (iblk m c 0 t) (iblk m c 1 t) z r l).trans ?_
  simp only [outProj_block_0, outProj_block_1]
  rfl

end

theorem frame_OutProjRefIdeal : Cert.quiescent_OutProjRefIdeal := fun m g _ =>
  (θ_run Cert.OutProjRefIdeal.defs _ _).mono (fun _ h => ⟨fun c => (h c).2, sem_eq_zero_of_no_sems rfl _⟩) (Cert.OutProjRefIdeal.Value.run (F := Ideal) m g)

theorem algebraic_OutProj : Cert.algebraic_OutProjIdeal_OutProjRefIdeal := fun m g m' g' _ agree =>
  ⟨_, Cert.OutProjIdeal.Value.run_blocks m g,
    (θ_run _ _ _).mono (fun _ h c => ⟨(h c).1.trans ((outProjRef_eq _ _).trans (by
        rw [(agree c).1, (agree c).2]
        exact (outProj_final m c).symm)),
      (h c).2⟩) (Cert.OutProjRefIdeal.Value.run (F := Ideal) m' g')⟩

/-! ### `QUp` -/

section
open Cert.QUpIdeal Cert.QUpIdeal.Gen

/-- The product of the rows of `a` with the columns of every piece of `w`. -/
def qUpOf (a : S4096x1024.Idx → EReal) (w : S1x1024x8192.Idx → EReal) (j : S1x4096x8192.Idx) : EReal :=
  ∑ k : Fin 1024, a (ix2 (j 1) k) * w (ix3 (j 0) k (j 2))

end

section
open Cert.QUpRefIdeal Cert.QUpRefIdeal.Gen

/-- The reference's result. -/
def qUpRef (x0 : FVec Ideal S4096x1024 .bf16) (x1 : FVec Ideal S1x1024x8192 .bf16) : FVec Ideal S1x4096x8192 .f32 :=
  transpose S1x4096x8192 [0, 2, 1] (Host.dotGeneral dot_S1x1024x8192_S4096x1024_S1x8192x4096_1_1_02_0_n_n none x1 x0) transposes_S1x8192x4096_S1x4096x8192_0_2_1

theorem qUpRef_eq (x0 : FVec Ideal S4096x1024 .bf16) (x1 : FVec Ideal S1x1024x8192 .bf16) : qUpRef x0 x1 = qUpOf x0 x1 := by
  funext j
  obtain ⟨p, i, l, rfl⟩ : ∃ p i l, j = ix3 p i l := ⟨j 0, j 1, j 2, (ix3_eta j).symm⟩
  unfold qUpRef qUpOf
  obtain rfl : p = 0 := Subsingleton.elim _ _
  pointwise
  exact Finset.sum_congr rfl fun k _ => mul_comm _ _

end

section
open Cert.QUpIdeal Cert.QUpIdeal.Gen

theorem qUp_at (v0 : S1024x1024.Idx → EReal) (v1 : S1x1024x1024.Idx → EReal) (z : Fin 1) (r : Fin 1024) (l : Fin 1024) :
    k0_pay1 (F := Ideal) v0 v1 (ix3 z r l) = ∑ k : Fin 1024, v0 (ix2 r k) * v1 (ix3 0 k l) := by
  unfold k0_pay1
  pointwise

variable (m : (ℓ : Loc nD τ sig) → Buf (Elt Ideal) ℓ) (c : Dev nD)

theorem qUpPos2_lt (t : Fin cfg0.N) (x : Fin 1024) : (t.val / 8) * 1024 + x.val < 4096 := by
  have hN : t.val < 32 := lt_of_lt_of_eq t.isLt (show cfg0.N = 32 from N_0)
  omega

/-- A coordinate in a block, in the whole array. -/
abbrev qUpPos2 (t : Fin cfg0.N) (x : Fin 1024) : Fin 4096 := ⟨(t.val / 8) * 1024 + x.val, qUpPos2_lt t x⟩

theorem qUpPos3_lt (t : Fin cfg0.N) (x : Fin 1024) : (t.val % 8 % 8) * 1024 + x.val < 8192 := by
  have hN : t.val < 32 := lt_of_lt_of_eq t.isLt (show cfg0.N = 32 from N_0)
  omega

/-- A coordinate in a block, in the whole array. -/
abbrev qUpPos3 (t : Fin cfg0.N) (x : Fin 1024) : Fin 8192 := ⟨(t.val % 8 % 8) * 1024 + x.val, qUpPos3_lt t x⟩

theorem qUp_block_0 (t : Fin cfg0.N) (r : Fin 1024) (l : Fin 1024) :
    iblk m c 0 t (ix2 r l) = m (c.tc.loc main_arg0) (ix2 (qUpPos2 t r) l) := by
  have e : ∀ t : Fin grid0.N, win0_0.index t 0 = t.val / 8 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem qUp_block_1 (t : Fin cfg0.N) (z : Fin 1) (r : Fin 1024) (l : Fin 1024) :
    iblk m c 1 t (ix3 z r l) = m (c.tc.loc main_arg1) (ix3 (0 : Fin 1) r (qUpPos3 t l)) := by
  have e : ∀ t : Fin grid0.N, win0_1.index t 0 = 0 ∧ win0_1.index t 1 = 0 ∧ win0_1.index t 2 = t.val % 8 % 8 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem qUp_final : (dats m 0 c).arrAt 2 cfg0.N = qUpOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 8 ∧ win0_2.index t 2 = t.val % 8 % 8 := by decide +kernel
  obtain ⟨e0, e1, e2⟩ := e t
  have h : (win0_2.blk t).view.emb (ix3 z r l) = ix3 (0 : Fin 1) (qUpPos2 t r) (qUpPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (qUp_at (iblk m c 0 t) (iblk m c 1 t) z r l).trans ?_
  simp only [qUp_block_0, qUp_block_1]
  rfl

end

theorem frame_QUpRefIdeal : Cert.quiescent_QUpRefIdeal := fun m g _ =>
  (θ_run Cert.QUpRefIdeal.defs _ _).mono (fun _ h => ⟨fun c => (h c).2, sem_eq_zero_of_no_sems rfl _⟩) (Cert.QUpRefIdeal.Value.run (F := Ideal) m g)

theorem algebraic_QUp : Cert.algebraic_QUpIdeal_QUpRefIdeal := fun m g m' g' _ agree =>
  ⟨_, Cert.QUpIdeal.Value.run_blocks m g,
    (θ_run _ _ _).mono (fun _ h c => ⟨(h c).1.trans ((qUpRef_eq _ _).trans (by
        rw [(agree c).1, (agree c).2]
        exact (qUp_final m c).symm)),
      (h c).2⟩) (Cert.QUpRefIdeal.Value.run (F := Ideal) m' g')⟩

/-! ### `KvUp` -/

section
open Cert.KvUpIdeal Cert.KvUpIdeal.Gen

/-- The product of the rows of `a` with the columns of every piece of `w`. -/
def kvUpOf (a : S4096x512.Idx → EReal) (w : S1x512x8192.Idx → EReal) (j : S1x4096x8192.Idx) : EReal :=
  ∑ k : Fin 512, a (ix2 (j 1) k) * w (ix3 (j 0) k (j 2))

end

section
open Cert.KvUpRefIdeal Cert.KvUpRefIdeal.Gen

/-- The reference's result. -/
def kvUpRef (x0 : FVec Ideal S4096x512 .bf16) (x1 : FVec Ideal S1x512x8192 .bf16) : FVec Ideal S1x4096x8192 .f32 :=
  transpose S1x4096x8192 [0, 2, 1] (Host.dotGeneral dot_S1x512x8192_S4096x512_S1x8192x4096_1_1_02_0_n_n none x1 x0) transposes_S1x8192x4096_S1x4096x8192_0_2_1

theorem kvUpRef_eq (x0 : FVec Ideal S4096x512 .bf16) (x1 : FVec Ideal S1x512x8192 .bf16) : kvUpRef x0 x1 = kvUpOf x0 x1 := by
  funext j
  obtain ⟨p, i, l, rfl⟩ : ∃ p i l, j = ix3 p i l := ⟨j 0, j 1, j 2, (ix3_eta j).symm⟩
  unfold kvUpRef kvUpOf
  obtain rfl : p = 0 := Subsingleton.elim _ _
  pointwise
  exact Finset.sum_congr rfl fun k _ => mul_comm _ _

end

section
open Cert.KvUpIdeal Cert.KvUpIdeal.Gen

theorem kvUp_at (v0 : S1024x512.Idx → EReal) (v1 : S1x512x1024.Idx → EReal) (z : Fin 1) (r : Fin 1024) (l : Fin 1024) :
    k0_pay1 (F := Ideal) v0 v1 (ix3 z r l) = ∑ k : Fin 512, v0 (ix2 r k) * v1 (ix3 0 k l) := by
  unfold k0_pay1
  pointwise

variable (m : (ℓ : Loc nD τ sig) → Buf (Elt Ideal) ℓ) (c : Dev nD)

theorem kvUpPos2_lt (t : Fin cfg0.N) (x : Fin 1024) : (t.val / 8) * 1024 + x.val < 4096 := by
  have hN : t.val < 32 := lt_of_lt_of_eq t.isLt (show cfg0.N = 32 from N_0)
  omega

/-- A coordinate in a block, in the whole array. -/
abbrev kvUpPos2 (t : Fin cfg0.N) (x : Fin 1024) : Fin 4096 := ⟨(t.val / 8) * 1024 + x.val, kvUpPos2_lt t x⟩

theorem kvUpPos3_lt (t : Fin cfg0.N) (x : Fin 1024) : (t.val % 8 % 8) * 1024 + x.val < 8192 := by
  have hN : t.val < 32 := lt_of_lt_of_eq t.isLt (show cfg0.N = 32 from N_0)
  omega

/-- A coordinate in a block, in the whole array. -/
abbrev kvUpPos3 (t : Fin cfg0.N) (x : Fin 1024) : Fin 8192 := ⟨(t.val % 8 % 8) * 1024 + x.val, kvUpPos3_lt t x⟩

theorem kvUp_block_0 (t : Fin cfg0.N) (r : Fin 1024) (l : Fin 512) :
    iblk m c 0 t (ix2 r l) = m (c.tc.loc main_arg0) (ix2 (kvUpPos2 t r) l) := by
  have e : ∀ t : Fin grid0.N, win0_0.index t 0 = t.val / 8 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem kvUp_block_1 (t : Fin cfg0.N) (z : Fin 1) (r : Fin 512) (l : Fin 1024) :
    iblk m c 1 t (ix3 z r l) = m (c.tc.loc main_arg1) (ix3 (0 : Fin 1) r (kvUpPos3 t l)) := by
  have e : ∀ t : Fin grid0.N, win0_1.index t 0 = 0 ∧ win0_1.index t 1 = 0 ∧ win0_1.index t 2 = t.val % 8 % 8 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem kvUp_final : (dats m 0 c).arrAt 2 cfg0.N = kvUpOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 8 ∧ win0_2.index t 2 = t.val % 8 % 8 := by decide +kernel
  obtain ⟨e0, e1, e2⟩ := e t
  have h : (win0_2.blk t).view.emb (ix3 z r l) = ix3 (0 : Fin 1) (kvUpPos2 t r) (kvUpPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (kvUp_at (iblk m c 0 t) (iblk m c 1 t) z r l).trans ?_
  simp only [kvUp_block_0, kvUp_block_1]
  rfl

end

theorem frame_KvUpRefIdeal : Cert.quiescent_KvUpRefIdeal := fun m g _ =>
  (θ_run Cert.KvUpRefIdeal.defs _ _).mono (fun _ h => ⟨fun c => (h c).2, sem_eq_zero_of_no_sems rfl _⟩) (Cert.KvUpRefIdeal.Value.run (F := Ideal) m g)

theorem algebraic_KvUp : Cert.algebraic_KvUpIdeal_KvUpRefIdeal := fun m g m' g' _ agree =>
  ⟨_, Cert.KvUpIdeal.Value.run_blocks m g,
    (θ_run _ _ _).mono (fun _ h c => ⟨(h c).1.trans ((kvUpRef_eq _ _).trans (by
        rw [(agree c).1, (agree c).2]
        exact (kvUp_final m c).symm)),
      (h c).2⟩) (Cert.KvUpRefIdeal.Value.run (F := Ideal) m' g')⟩

/-! ### `ScIn` -/

section
open Cert.ScInIdeal Cert.ScInIdeal.Gen

/-- The product of the rows of `a` with the columns of every piece of `w`. -/
def scInOf (a : S4096x4096.Idx → EReal) (w : S4x4096x4096.Idx → EReal) (j : S4x4096x4096.Idx) : EReal :=
  ∑ k : Fin 4096, a (ix2 (j 1) k) * w (ix3 (j 0) k (j 2))

end

section
open Cert.ScInRefIdeal Cert.ScInRefIdeal.Gen

/-- The reference's result. -/
def scInRef (x0 : FVec Ideal S4096x4096 .bf16) (x1 : FVec Ideal S4x4096x4096 .bf16) : FVec Ideal S4x4096x4096 .f32 :=
  transpose S4x4096x4096 [0, 2, 1] (Host.dotGeneral dot_S4x4096x4096_S4096x4096_S4x4096x4096_1_1_02_0_n_n none x1 x0) transposes_S4x4096x4096_S4x4096x4096_0_2_1

theorem scInRef_eq (x0 : FVec Ideal S4096x4096 .bf16) (x1 : FVec Ideal S4x4096x4096 .bf16) : scInRef x0 x1 = scInOf x0 x1 := by
  funext j
  obtain ⟨p, i, l, rfl⟩ : ∃ p i l, j = ix3 p i l := ⟨j 0, j 1, j 2, (ix3_eta j).symm⟩
  unfold scInRef scInOf
  pointwise
  exact Finset.sum_congr rfl fun k _ => mul_comm _ _

end

section
open Cert.ScInIdeal Cert.ScInIdeal.Gen

theorem scIn_at (v0 : S1024x4096.Idx → EReal) (v1 : S1x4096x1024.Idx → EReal) (z : Fin 1) (r : Fin 1024) (l : Fin 1024) :
    k0_pay1 (F := Ideal) v0 v1 (ix3 z r l) = ∑ k : Fin 4096, v0 (ix2 r k) * v1 (ix3 0 k l) := by
  unfold k0_pay1
  pointwise

variable (m : (ℓ : Loc nD τ sig) → Buf (Elt Ideal) ℓ) (c : Dev nD)

theorem scInPos2_lt (t : Fin cfg0.N) (x : Fin 1024) : (t.val / 16) * 1024 + x.val < 4096 := by
  have hN : t.val < 64 := lt_of_lt_of_eq t.isLt (show cfg0.N = 64 from N_0)
  omega

/-- A coordinate in a block, in the whole array. -/
abbrev scInPos2 (t : Fin cfg0.N) (x : Fin 1024) : Fin 4096 := ⟨(t.val / 16) * 1024 + x.val, scInPos2_lt t x⟩

/-- A block's piece, in the whole array. -/
abbrev scInPos3 (t : Fin cfg0.N) : Fin 4 := ⟨t.val % 16 / 4, by
  have hN : t.val < 64 := lt_of_lt_of_eq t.isLt (show cfg0.N = 64 from N_0)
  omega⟩

theorem scInPos4_lt (t : Fin cfg0.N) (x : Fin 1024) : (t.val % 16 % 4) * 1024 + x.val < 4096 := by
  have hN : t.val < 64 := lt_of_lt_of_eq t.isLt (show cfg0.N = 64 from N_0)
  omega

/-- A coordinate in a block, in the whole array. -/
abbrev scInPos4 (t : Fin cfg0.N) (x : Fin 1024) : Fin 4096 := ⟨(t.val % 16 % 4) * 1024 + x.val, scInPos4_lt t x⟩

theorem scIn_block_0 (t : Fin cfg0.N) (r : Fin 1024) (l : Fin 4096) :
    iblk m c 0 t (ix2 r l) = m (c.tc.loc main_arg0) (ix2 (scInPos2 t r) l) := by
  have e : ∀ t : Fin grid0.N, win0_0.index t 0 = t.val / 16 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem scIn_block_1 (t : Fin cfg0.N) (z : Fin 1) (r : Fin 4096) (l : Fin 1024) :
    iblk m c 1 t (ix3 z r l) = m (c.tc.loc main_arg1) (ix3 (scInPos3 t) r (scInPos4 t l)) := by
  have e : ∀ t : Fin grid0.N, win0_1.index t 0 = t.val % 16 / 4 ∧ win0_1.index t 1 = 0 ∧ win0_1.index t 2 = t.val % 16 % 4 := by decide +kernel
  obtain ⟨e0, e1, e2⟩ := e t
  unfold iblk
  rw [View.read_apply]
  exact congrArg (m (c.tc.loc main_arg1)) (funext fun a => Fin.ext (match a with
    | ⟨0, _⟩ => (row_coord (n := 1) (r := z.val) e0).trans (show (t.val % 16 / 4) * 1 + z.val = t.val % 16 / 4 by omega)
    | ⟨1, _⟩ => lane_coord e1
    | ⟨2, _⟩ => row_coord e2))

/-- The result, after the run. -/
theorem scIn_final : (dats m 0 c).arrAt 2 cfg0.N = scInOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = t.val % 16 / 4 ∧ win0_2.index t 1 = t.val / 16 ∧ win0_2.index t 2 = t.val % 16 % 4 := by decide +kernel
  obtain ⟨e0, e1, e2⟩ := e t
  have h : (win0_2.blk t).view.emb (ix3 z r l) = ix3 (scInPos3 t) (scInPos2 t r) (scInPos4 t l) := funext fun a => Fin.ext (match a with
    | ⟨0, _⟩ => (row_coord (n := 1) (r := z.val) e0).trans (show (t.val % 16 / 4) * 1 + z.val = t.val % 16 / 4 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (scIn_at (iblk m c 0 t) (iblk m c 1 t) z r l).trans ?_
  simp only [scIn_block_0, scIn_block_1]
  rfl

end

theorem frame_ScInRefIdeal : Cert.quiescent_ScInRefIdeal := fun m g _ =>
  (θ_run Cert.ScInRefIdeal.defs _ _).mono (fun _ h => ⟨fun c => (h c).2, sem_eq_zero_of_no_sems rfl _⟩) (Cert.ScInRefIdeal.Value.run (F := Ideal) m g)

theorem algebraic_ScIn : Cert.algebraic_ScInIdeal_ScInRefIdeal := fun m g m' g' _ agree =>
  ⟨_, Cert.ScInIdeal.Value.run_blocks m g,
    (θ_run _ _ _).mono (fun _ h c => ⟨(h c).1.trans ((scInRef_eq _ _).trans (by
        rw [(agree c).1, (agree c).2]
        exact (scIn_final m c).symm)),
      (h c).2⟩) (Cert.ScInRefIdeal.Value.run (F := Ideal) m' g')⟩

/-! ### `GmIn` -/

section
open Cert.GmInIdeal Cert.GmInIdeal.Gen

/-- The product of the rows of `a` with the columns of every piece of `w`. -/
def gmInOf (a : S4096x4096.Idx → EReal) (w : S4x4096x3072.Idx → EReal) (j : S3x4096x4096.Idx) : EReal :=
  ∑ k : Fin 4096, a (ix2 (j 1) k) * w (ix3 (⟨((j 0).val * 4096 + (j 2).val) / 3072, by have := (j 0).isLt; have := (j 2).isLt; dsimp at *; omega⟩ : Fin 4) k (⟨((j 0).val * 4096 + (j 2).val) % 3072, Nat.mod_lt _ (by decide)⟩ : Fin 3072))

end

section
open Cert.GmInRefIdeal Cert.GmInRefIdeal.Gen

/-- The reference's result. -/
def gmInRef (x0 : FVec Ideal S4096x4096 .bf16) (x1 : FVec Ideal S4x4096x3072 .bf16) : FVec Ideal S3x4096x4096 .f32 :=
  transpose S3x4096x4096 [1, 0, 2] (shapeCast _ (Host.dotGeneral dot_S4096x4096_S4096x12288_S4096x12288_1_0_0_1_n_n none x0 (shapeCast _ (transpose S4096x4x3072 [1, 0, 2] x1 transposes_S4x4096x3072_S4096x4x3072_1_0_2) shapeCasts_S4096x4x3072_S4096x12288)) shapeCasts_S4096x12288_S4096x3x4096) transposes_S4096x3x4096_S3x4096x4096_1_0_2

theorem gmInRef_eq (x0 : FVec Ideal S4096x4096 .bf16) (x1 : FVec Ideal S4x4096x3072 .bf16) : gmInRef x0 x1 = gmInOf x0 x1 := by
  funext j
  obtain ⟨p, i, l, rfl⟩ : ∃ p i l, j = ix3 p i l := ⟨j 0, j 1, j 2, (ix3_eta j).symm⟩
  unfold gmInRef gmInOf
  pointwise

end

section
open Cert.GmInIdeal Cert.GmInIdeal.Gen

theorem gmIn_at (v0 : S1024x4096.Idx → EReal) (v1 : S1x4096x1024.Idx → EReal) (z : Fin 1) (r : Fin 1024) (l : Fin 1024) :
    k0_pay1 (F := Ideal) v0 v1 (ix3 z r l) = ∑ k : Fin 4096, v0 (ix2 r k) * v1 (ix3 0 k l) := by
  unfold k0_pay1
  pointwise

variable (m : (ℓ : Loc nD τ sig) → Buf (Elt Ideal) ℓ) (c : Dev nD)

theorem gmInPos2_lt (t : Fin cfg0.N) (x : Fin 1024) : (t.val / 12) * 1024 + x.val < 4096 := by
  have hN : t.val < 48 := lt_of_lt_of_eq t.isLt (show cfg0.N = 48 from N_0)
  omega

/-- A coordinate in a block, in the whole array. -/
abbrev gmInPos2 (t : Fin cfg0.N) (x : Fin 1024) : Fin 4096 := ⟨(t.val / 12) * 1024 + x.val, gmInPos2_lt t x⟩

/-- A block's piece, in the whole array. -/
abbrev gmInPos3 (t : Fin cfg0.N) : Fin 4 := ⟨t.val % 12 / 3, by
  have hN : t.val < 48 := lt_of_lt_of_eq t.isLt (show cfg0.N = 48 from N_0)
  omega⟩

theorem gmInPos4_lt (t : Fin cfg0.N) (x : Fin 1024) : (t.val % 12 % 3) * 1024 + x.val < 3072 := by
  have hN : t.val < 48 := lt_of_lt_of_eq t.isLt (show cfg0.N = 48 from N_0)
  omega

/-- A coordinate in a block, in the whole array. -/
abbrev gmInPos4 (t : Fin cfg0.N) (x : Fin 1024) : Fin 3072 := ⟨(t.val % 12 % 3) * 1024 + x.val, gmInPos4_lt t x⟩

/-- A block's piece, in the whole array. -/
abbrev gmInPos5 (t : Fin cfg0.N) : Fin 3 := ⟨t.val % 12 / 4, by
  have hN : t.val < 48 := lt_of_lt_of_eq t.isLt (show cfg0.N = 48 from N_0)
  omega⟩

theorem gmInPos6_lt (t : Fin cfg0.N) (x : Fin 1024) : (t.val % 12 % 4) * 1024 + x.val < 4096 := by
  have hN : t.val < 48 := lt_of_lt_of_eq t.isLt (show cfg0.N = 48 from N_0)
  omega

/-- A coordinate in a block, in the whole array. -/
abbrev gmInPos6 (t : Fin cfg0.N) (x : Fin 1024) : Fin 4096 := ⟨(t.val % 12 % 4) * 1024 + x.val, gmInPos6_lt t x⟩

theorem gmIn_block_0 (t : Fin cfg0.N) (r : Fin 1024) (l : Fin 4096) :
    iblk m c 0 t (ix2 r l) = m (c.tc.loc main_arg0) (ix2 (gmInPos2 t r) l) := by
  have e : ∀ t : Fin grid0.N, win0_0.index t 0 = t.val / 12 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => row_coord e0
    | ⟨1, _⟩ => lane_coord e1))

theorem gmIn_block_1 (t : Fin cfg0.N) (z : Fin 1) (r : Fin 4096) (l : Fin 1024) :
    iblk m c 1 t (ix3 z r l) = m (c.tc.loc main_arg1) (ix3 (gmInPos3 t) r (gmInPos4 t l)) := by
  have e : ∀ t : Fin grid0.N, win0_1.index t 0 = t.val % 12 / 3 ∧ win0_1.index t 1 = 0 ∧ win0_1.index t 2 = t.val % 12 % 3 := by decide +kernel
  obtain ⟨e0, e1, e2⟩ := e t
  unfold iblk
  rw [View.read_apply]
  exact congrArg (m (c.tc.loc main_arg1)) (funext fun a => Fin.ext (match a with
    | ⟨0, _⟩ => (row_coord (n := 1) (r := z.val) e0).trans (show (t.val % 12 / 3) * 1 + z.val = t.val % 12 / 3 by omega)
    | ⟨1, _⟩ => lane_coord e1
    | ⟨2, _⟩ => row_coord e2))

/-- The result, after the run. -/
theorem gmIn_final : (dats m 0 c).arrAt 2 cfg0.N = gmInOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = t.val % 12 / 4 ∧ win0_2.index t 1 = t.val / 12 ∧ win0_2.index t 2 = t.val % 12 % 4 := by decide +kernel
  obtain ⟨e0, e1, e2⟩ := e t
  have h : (win0_2.blk t).view.emb (ix3 z r l) = ix3 (gmInPos5 t) (gmInPos2 t r) (gmInPos6 t l) := funext fun a => Fin.ext (match a with
    | ⟨0, _⟩ => (row_coord (n := 1) (r := z.val) e0).trans (show (t.val % 12 / 4) * 1 + z.val = t.val % 12 / 4 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (gmIn_at (iblk m c 0 t) (iblk m c 1 t) z r l).trans ?_
  simp only [gmIn_block_0, gmIn_block_1]
  unfold gmInOf
  refine Finset.sum_congr rfl fun k _ => congrArg₂ (· * ·) rfl (congrArg _ (funext fun a => Fin.ext (match a with
    | ⟨0, _⟩ => ?_
    | ⟨1, _⟩ => rfl
    | ⟨2, _⟩ => ?_)))
  · show t.val % 12 / 3 = (t.val % 12 / 4 * 4096 + (t.val % 12 % 4 * 1024 + l.val)) / 3072
    omega
  · show t.val % 12 % 3 * 1024 + l.val = (t.val % 12 / 4 * 4096 + (t.val % 12 % 4 * 1024 + l.val)) % 3072
    omega

end

theorem frame_GmInRefIdeal : Cert.quiescent_GmInRefIdeal := fun m g _ =>
  (θ_run Cert.GmInRefIdeal.defs _ _).mono (fun _ h => ⟨fun c => (h c).2, sem_eq_zero_of_no_sems rfl _⟩) (Cert.GmInRefIdeal.Value.run (F := Ideal) m g)

theorem algebraic_GmIn : Cert.algebraic_GmInIdeal_GmInRefIdeal := fun m g m' g' _ agree =>
  ⟨_, Cert.GmInIdeal.Value.run_blocks m g,
    (θ_run _ _ _).mono (fun _ h c => ⟨(h c).1.trans ((gmInRef_eq _ _).trans (by
        rw [(agree c).1, (agree c).2]
        exact (gmIn_final m c).symm)),
      (h c).2⟩) (Cert.GmInRefIdeal.Value.run (F := Ideal) m' g')⟩

end Cert.Proof

end
-- ==== Proof.WeightProducts.lean ====
/-
The products that give the gradients of the weights: the contraction is over the rows of both arrays.
-/
module

public import proofs.«01_k».proof.Defs
public import proofs.«01_k».proof.Proof.Blocks
public import Idealize.ShloMosaic.Lib.Pipeline.ValueKit
public import Idealize.ShloMosaic.Lib.Claim
public import proofs.«01_k».proof.Proof.Gen.InADw.Frame
public import proofs.«01_k».proof.Proof.Gen.InADwIdeal.Value
public import proofs.«01_k».proof.Proof.Gen.InADwRefIdeal.Run
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.QUpDw.Frame
public import proofs.«01_k».proof.Proof.Gen.QUpDwIdeal.Value
public import proofs.«01_k».proof.Proof.Gen.QUpDwRefIdeal.Run
public import proofs.«01_k».proof.Proof.Gen.KvUpDw.Frame
public import proofs.«01_k».proof.Proof.Gen.KvUpDwIdeal.Value
public import proofs.«01_k».proof.Proof.Gen.KvUpDwRefIdeal.Run
public import proofs.«01_k».proof.Proof.Gen.ScInDw.Frame
public import proofs.«01_k».proof.Proof.Gen.ScInDwIdeal.Value
public import proofs.«01_k».proof.Proof.Gen.ScInDwRefIdeal.Run
public import proofs.«01_k».proof.Proof.Gen.GmInDw.Frame
public import proofs.«01_k».proof.Proof.Gen.GmInDwIdeal.Value
public import proofs.«01_k».proof.Proof.Gen.GmInDwRefIdeal.Run

@[expose] public section

noncomputable section

namespace Cert.Proof

open Idealize.ShloMosaic Idealize.SL.Sem
open Idealize.ShloMosaic.TcCoe

open Cert.Blocks

/-! ### `InADw` -/

section
open Cert.InADwIdeal Cert.InADwIdeal.Gen

/-- The products of the columns of `a` with the columns of every piece of `d`. -/
def inADwOf (a : S4096x4096.Idx → EReal) (d : S1x4096x1664.Idx → EReal) (j : S1x4096x1664.Idx) : EReal :=
  ∑ k : Fin 4096, a (ix2 k (j 1)) * d (ix3 (j 0) k (j 2))

end

section
open Cert.InADwRefIdeal Cert.InADwRefIdeal.Gen

/-- The reference's result. -/
def inADwRef (x0 : FVec Ideal S4096x4096 .bf16) (x1 : FVec Ideal S1x4096x1664 .bf16) : FVec Ideal S1x4096x1664 .f32 :=
  transpose S1x4096x1664 [0, 2, 1] (Host.dotGeneral dot_S1x4096x1664_S4096x4096_S1x1664x4096_1_0_02_1_n_n none x1 x0) transposes_S1x1664x4096_S1x4096x1664_0_2_1

theorem inADwRef_eq (x0 : FVec Ideal S4096x4096 .bf16) (x1 : FVec Ideal S1x4096x1664 .bf16) : inADwRef x0 x1 = inADwOf x0 x1 := by
  funext j
  obtain ⟨p, i, l, rfl⟩ : ∃ p i l, j = ix3 p i l := ⟨j 0, j 1, j 2, (ix3_eta j).symm⟩
  unfold inADwRef inADwOf
  obtain rfl : p = 0 := Subsingleton.elim _ _
  pointwise
  exact Finset.sum_congr rfl fun k _ => mul_comm _ _

end

section
open Cert.InADwIdeal Cert.InADwIdeal.Gen

theorem inADw_at (v0 : S4096x1024.Idx → EReal) (v1 : S1x4096x1664.Idx → EReal) (z : Fin 1) (r : Fin 1024) (l : Fin 1664) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem inADwPos2_lt (t : Fin cfg0.N) (x : Fin 1024) : (t.val / 1) * 1024 + x.val < 4096 := by
  have hN : t.val < 4 := lt_of_lt_of_eq t.isLt (show cfg0.N = 4 from N_0)
  omega

/-- A coordinate in a block, in the whole array. -/
abbrev inADwPos2 (t : Fin cfg0.N) (x : Fin 1024) : Fin 4096 := ⟨(t.val / 1) * 1024 + x.val, inADwPos2_lt t x⟩

theorem inADwPos3_lt (t : Fin cfg0.N) (x : Fin 1664) : (t.val % 1 % 1) * 1664 + x.val < 1664 := by
  have hN : t.val < 4 := lt_of_lt_of_eq t.isLt (show cfg0.N = 4 from N_0)
  omega

/-- A coordinate in a block, in the whole array. -/
abbrev inADwPos3 (t : Fin cfg0.N) (x : Fin 1664) : Fin 1664 := ⟨(t.val % 1 % 1) * 1664 + x.val, inADwPos3_lt t x⟩

theorem inADw_block_0 (t : Fin cfg0.N) (r : Fin 4096) (l : Fin 1024) :
    iblk m c 0 t (ix2 r l) = m (c.tc.loc main_arg0) (ix2 r (inADwPos2 t l)) := by
  have e : ∀ t : Fin grid0.N, win0_0.index t 0 = 0 ∧ win0_0.index t 1 = t.val / 1 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => row_coord e1))

theorem inADw_block_1 (t : Fin cfg0.N) (z : Fin 1) (r : Fin 4096) (l : Fin 1664) :
    iblk m c 1 t (ix3 z r l) = m (c.tc.loc main_arg1) (ix3 (0 : Fin 1) r (inADwPos3 t l)) := by
  have e : ∀ t : Fin grid0.N, win0_1.index t 0 = 0 ∧ win0_1.index t 1 = 0 ∧ win0_1.index t 2 = t.val % 1 % 1 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem inADw_final : (dats m 0 c).arrAt 2 cfg0.N = inADwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 1 ∧ win0_2.index t 2 = t.val % 1 % 1 := by decide +kernel
  obtain ⟨e0, e1, e2⟩ := e t
  have h : (win0_2.blk t).view.emb (ix3 z r l) = ix3 (0 : Fin 1) (inADwPos2 t r) (inADwPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (inADw_at (iblk m c 0 t) (iblk m c 1 t) z r l).trans ?_
  simp only [inADw_block_0, inADw_block_1]
  rfl

end

theorem frame_InADwRefIdeal : Cert.quiescent_InADwRefIdeal := fun m g _ =>
  (θ_run Cert.InADwRefIdeal.defs _ _).mono (fun _ h => ⟨fun c => (h c).2, sem_eq_zero_of_no_sems rfl _⟩) (Cert.InADwRefIdeal.Value.run (F := Ideal) m g)

theorem algebraic_InADw : Cert.algebraic_InADwIdeal_InADwRefIdeal := fun m g m' g' _ agree =>
  ⟨_, Cert.InADwIdeal.Value.run_blocks m g,
    (θ_run _ _ _).mono (fun _ h c => ⟨(h c).1.trans ((inADwRef_eq _ _).trans (by
        rw [(agree c).1, (agree c).2]
        exact (inADw_final m c).symm)),
      (h c).2⟩) (Cert.InADwRefIdeal.Value.run (F := Ideal) m' g')⟩

/-! ### `OutProjDw` -/

section
open Cert.OutProjDwIdeal Cert.OutProjDwIdeal.Gen

/-- The products of the columns of `a` with the columns of every piece of `d`. -/
def outProjDwOf (a : S4096x4096.Idx → EReal) (d : S1x4096x4096.Idx → EReal) (j : S1x4096x4096.Idx) : EReal :=
  ∑ k : Fin 4096, a (ix2 k (j 1)) * d (ix3 (j 0) k (j 2))

end

section
open Cert.OutProjDwRefIdeal Cert.OutProjDwRefIdeal.Gen

/-- The reference's result. -/
def outProjDwRef (x0 : FVec Ideal S4096x4096 .bf16) (x1 : FVec Ideal S1x4096x4096 .bf16) : FVec Ideal S1x4096x4096 .f32 :=
  transpose S1x4096x4096 [0, 2, 1] (Host.dotGeneral dot_S1x4096x4096_S4096x4096_S1x4096x4096_1_0_02_1_n_n none x1 x0) transposes_S1x4096x4096_S1x4096x4096_0_2_1

theorem outProjDwRef_eq (x0 : FVec Ideal S4096x4096 .bf16) (x1 : FVec Ideal S1x4096x4096 .bf16) : outProjDwRef x0 x1 = outProjDwOf x0 x1 := by
  funext j
  obtain ⟨p, i, l, rfl⟩ : ∃ p i l, j = ix3 p i l := ⟨j 0, j 1, j 2, (ix3_eta j).symm⟩
  unfold outProjDwRef outProjDwOf
  obtain rfl : p = 0 := Subsingleton.elim _ _
  pointwise
  exact Finset.sum_congr rfl fun k _ => mul_comm _ _

end

section
open Cert.OutProjDwIdeal Cert.OutProjDwIdeal.Gen

theorem outProjDw_at (v0 : S4096x1024.Idx → EReal) (v1 : S1x4096x1024.Idx → EReal) (z : Fin 1) (r : Fin 1024) (l : Fin 1024) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem outProjDwPos2_lt (t : Fin cfg0.N) (x : Fin 1024) : (t.val / 4) * 1024 + x.val < 4096 := by
  have hN : t.val < 16 := lt_of_lt_of_eq t.isLt (show cfg0.N = 16 from N_0)
  omega

/-- A coordinate in a block, in the whole array. -/
abbrev outProjDwPos2 (t : Fin cfg0.N) (x : Fin 1024) : Fin 4096 := ⟨(t.val / 4) * 1024 + x.val, outProjDwPos2_lt t x⟩

theorem outProjDwPos3_lt (t : Fin cfg0.N) (x : Fin 1024) : (t.val % 4 % 4) * 1024 + x.val < 4096 := by
  have hN : t.val < 16 := lt_of_lt_of_eq t.isLt (show cfg0.N = 16 from N_0)
  omega

/-- A coordinate in a block, in the whole array. -/
abbrev outProjDwPos3 (t : Fin cfg0.N) (x : Fin 1024) : Fin 4096 := ⟨(t.val % 4 % 4) * 1024 + x.val, outProjDwPos3_lt t x⟩

theorem outProjDw_block_0 (t : Fin cfg0.N) (r : Fin 4096) (l : Fin 1024) :
    iblk m c 0 t (ix2 r l) = m (c.tc.loc main_arg0) (ix2 r (outProjDwPos2 t l)) := by
  have e : ∀ t : Fin grid0.N, win0_0.index t 0 = 0 ∧ win0_0.index t 1 = t.val / 4 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => row_coord e1))

theorem outProjDw_block_1 (t : Fin cfg0.N) (z : Fin 1) (r : Fin 4096) (l : Fin 1024) :
    iblk m c 1 t (ix3 z r l) = m (c.tc.loc main_arg1) (ix3 (0 : Fin 1) r (outProjDwPos3 t l)) := by
  have e : ∀ t : Fin grid0.N, win0_1.index t 0 = 0 ∧ win0_1.index t 1 = 0 ∧ win0_1.index t 2 = t.val % 4 % 4 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem outProjDw_final : (dats m 0 c).arrAt 2 cfg0.N = outProjDwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = t.val / 4 ∧ win0_2.index t 2 = t.val % 4 % 4 := by decide +kernel
  obtain ⟨e0, e1, e2⟩ := e t
  have h : (win0_2.blk t).view.emb (ix3 z r l) = ix3 (0 : Fin 1) (outProjDwPos2 t r) (outProjDwPos3 t l) := funext fun a => Fin.ext (match a with
    | ⟨0, _⟩ => (lane_coord (n := 1) (l := z.val) e0).trans (show z.val = 0 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (outProjDw_at (iblk m c 0 t) (iblk m c 1 t) z r l).trans ?_
  simp only [outProjDw_block_0, outProjDw_block_1]
  rfl

end

theorem frame_OutProjDwRefIdeal : Cert.quiescent_OutProjDwRefIdeal := fun m g _ =>
  (θ_run Cert.OutProjDwRefIdeal.defs _ _).mono (fun _ h => ⟨fun c => (h c).2, sem_eq_zero_of_no_sems rfl _⟩) (Cert.OutProjDwRefIdeal.Value.run (F := Ideal) m g)

theorem algebraic_OutProjDw : Cert.algebraic_OutProjDwIdeal_OutProjDwRefIdeal := fun m g m' g' _ agree =>
  ⟨_, Cert.OutProjDwIdeal.Value.run_blocks m g,
    (θ_run _ _ _).mono (fun _ h c => ⟨(h c).1.trans ((outProjDwRef_eq _ _).trans (by
        rw [(agree c).1, (agree c).2]
        exact (outProjDw_final m c).symm)),
      (h c).2⟩) (Cert.OutProjDwRefIdeal.Value.run (F := Ideal) m' g')⟩

/-! ### `QUpDw` -/

section
open Cert.QUpDwIdeal Cert.QUpDwIdeal.Gen

/-- The products of the columns of `a` with the columns of every piece of `d`. -/
def qUpDwOf (a : S4096x1024.Idx → EReal) (d : S1x4096x8192.Idx → EReal) (j : S1x1024x8192.Idx) : EReal :=
  ∑ k : Fin 4096, a (ix2 k (j 1)) * d (ix3 (j 0) k (j 2))

end

section
open Cert.QUpDwRefIdeal Cert.QUpDwRefIdeal.Gen

/-- The reference's result. -/
def qUpDwRef (x0 : FVec Ideal S4096x1024 .bf16) (x1 : FVec Ideal S1x4096x8192 .bf16) : FVec Ideal S1x1024x8192 .f32 :=
  transpose S1x1024x8192 [0, 2, 1] (Host.dotGeneral dot_S1x4096x8192_S4096x1024_S1x8192x1024_1_0_02_1_n_n none x1 x0) transposes_S1x8192x1024_S1x1024x8192_0_2_1

theorem qUpDwRef_eq (x0 : FVec Ideal S4096x1024 .bf16) (x1 : FVec Ideal S1x4096x8192 .bf16) : qUpDwRef x0 x1 = qUpDwOf x0 x1 := by
  funext j
  obtain ⟨p, i, l, rfl⟩ : ∃ p i l, j = ix3 p i l := ⟨j 0, j 1, j 2, (ix3_eta j).symm⟩
  unfold qUpDwRef qUpDwOf
  obtain rfl : p = 0 := Subsingleton.elim _ _
  pointwise
  exact Finset.sum_congr rfl fun k _ => mul_comm _ _

end

section
open Cert.QUpDwIdeal Cert.QUpDwIdeal.Gen

theorem qUpDw_at (v0 : S4096x1024.Idx → EReal) (v1 : S1x4096x1024.Idx → EReal) (z : Fin 1) (r : Fin 1024) (l : Fin 1024) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem qUpDwPos2_lt (t : Fin cfg0.N) (x : Fin 1024) : (t.val % 8 % 8) * 1024 + x.val < 8192 := by
  have hN : t.val < 8 := lt_of_lt_of_eq t.isLt (show cfg0.N = 8 from N_0)
  omega

/-- A coordinate in a block, in the whole array. -/
abbrev qUpDwPos2 (t : Fin cfg0.N) (x : Fin 1024) : Fin 8192 := ⟨(t.val % 8 % 8) * 1024 + x.val, qUpDwPos2_lt t x⟩

theorem qUpDw_block_0 (t : Fin cfg0.N) (r : Fin 4096) (l : Fin 1024) :
    iblk m c 0 t (ix2 r l) = m (c.tc.loc main_arg0) (ix2 r l) := by
  have e : ∀ t : Fin grid0.N, win0_0.index t 0 = 0 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => lane_coord e1))

theorem qUpDw_block_1 (t : Fin cfg0.N) (z : Fin 1) (r : Fin 4096) (l : Fin 1024) :
    iblk m c 1 t (ix3 z r l) = m (c.tc.loc main_arg1) (ix3 (0 : Fin 1) r (qUpDwPos2 t l)) := by
  have e : ∀ t : Fin grid0.N, win0_1.index t 0 = 0 ∧ win0_1.index t 1 = 0 ∧ win0_1.index t 2 = t.val % 8 % 8 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem qUpDw_final : (dats m 0 c).arrAt 2 cfg0.N = qUpDwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = 0 ∧ win0_2.index t 2 = t.val % 8 % 8 := by decide +kernel
  obtain ⟨e0, e1, e2⟩ := e t
  have h : (win0_2.blk t).view.emb (ix3 z r l) = ix3 (0 : Fin 1) r (qUpDwPos2 t l) := funext fun a => Fin.ext (match a with
    | ⟨0, _⟩ => (lane_coord (n := 1) (l := z.val) e0).trans (show z.val = 0 by omega)
    | ⟨1, _⟩ => lane_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (qUpDw_at (iblk m c 0 t) (iblk m c 1 t) z r l).trans ?_
  simp only [qUpDw_block_0, qUpDw_block_1]
  rfl

end

theorem frame_QUpDwRefIdeal : Cert.quiescent_QUpDwRefIdeal := fun m g _ =>
  (θ_run Cert.QUpDwRefIdeal.defs _ _).mono (fun _ h => ⟨fun c => (h c).2, sem_eq_zero_of_no_sems rfl _⟩) (Cert.QUpDwRefIdeal.Value.run (F := Ideal) m g)

theorem algebraic_QUpDw : Cert.algebraic_QUpDwIdeal_QUpDwRefIdeal := fun m g m' g' _ agree =>
  ⟨_, Cert.QUpDwIdeal.Value.run_blocks m g,
    (θ_run _ _ _).mono (fun _ h c => ⟨(h c).1.trans ((qUpDwRef_eq _ _).trans (by
        rw [(agree c).1, (agree c).2]
        exact (qUpDw_final m c).symm)),
      (h c).2⟩) (Cert.QUpDwRefIdeal.Value.run (F := Ideal) m' g')⟩

/-! ### `KvUpDw` -/

section
open Cert.KvUpDwIdeal Cert.KvUpDwIdeal.Gen

/-- The products of the columns of `a` with the columns of every piece of `d`. -/
def kvUpDwOf (a : S4096x512.Idx → EReal) (d : S1x4096x8192.Idx → EReal) (j : S1x512x8192.Idx) : EReal :=
  ∑ k : Fin 4096, a (ix2 k (j 1)) * d (ix3 (j 0) k (j 2))

end

section
open Cert.KvUpDwRefIdeal Cert.KvUpDwRefIdeal.Gen

/-- The reference's result. -/
def kvUpDwRef (x0 : FVec Ideal S4096x512 .bf16) (x1 : FVec Ideal S1x4096x8192 .bf16) : FVec Ideal S1x512x8192 .f32 :=
  transpose S1x512x8192 [0, 2, 1] (Host.dotGeneral dot_S1x4096x8192_S4096x512_S1x8192x512_1_0_02_1_n_n none x1 x0) transposes_S1x8192x512_S1x512x8192_0_2_1

theorem kvUpDwRef_eq (x0 : FVec Ideal S4096x512 .bf16) (x1 : FVec Ideal S1x4096x8192 .bf16) : kvUpDwRef x0 x1 = kvUpDwOf x0 x1 := by
  funext j
  obtain ⟨p, i, l, rfl⟩ : ∃ p i l, j = ix3 p i l := ⟨j 0, j 1, j 2, (ix3_eta j).symm⟩
  unfold kvUpDwRef kvUpDwOf
  obtain rfl : p = 0 := Subsingleton.elim _ _
  pointwise
  exact Finset.sum_congr rfl fun k _ => mul_comm _ _

end

section
open Cert.KvUpDwIdeal Cert.KvUpDwIdeal.Gen

theorem kvUpDw_at (v0 : S4096x512.Idx → EReal) (v1 : S1x4096x1024.Idx → EReal) (z : Fin 1) (r : Fin 512) (l : Fin 1024) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem kvUpDwPos2_lt (t : Fin cfg0.N) (x : Fin 1024) : (t.val % 8 % 8) * 1024 + x.val < 8192 := by
  have hN : t.val < 8 := lt_of_lt_of_eq t.isLt (show cfg0.N = 8 from N_0)
  omega

/-- A coordinate in a block, in the whole array. -/
abbrev kvUpDwPos2 (t : Fin cfg0.N) (x : Fin 1024) : Fin 8192 := ⟨(t.val % 8 % 8) * 1024 + x.val, kvUpDwPos2_lt t x⟩

theorem kvUpDw_block_0 (t : Fin cfg0.N) (r : Fin 4096) (l : Fin 512) :
    iblk m c 0 t (ix2 r l) = m (c.tc.loc main_arg0) (ix2 r l) := by
  have e : ∀ t : Fin grid0.N, win0_0.index t 0 = 0 ∧ win0_0.index t 1 = 0 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => lane_coord e1))

theorem kvUpDw_block_1 (t : Fin cfg0.N) (z : Fin 1) (r : Fin 4096) (l : Fin 1024) :
    iblk m c 1 t (ix3 z r l) = m (c.tc.loc main_arg1) (ix3 (0 : Fin 1) r (kvUpDwPos2 t l)) := by
  have e : ∀ t : Fin grid0.N, win0_1.index t 0 = 0 ∧ win0_1.index t 1 = 0 ∧ win0_1.index t 2 = t.val % 8 % 8 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => lane_coord e1
    | ⟨2, _⟩ => row_coord e2))

/-- The result, after the run. -/
theorem kvUpDw_final : (dats m 0 c).arrAt 2 cfg0.N = kvUpDwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = 0 ∧ win0_2.index t 1 = 0 ∧ win0_2.index t 2 = t.val % 8 % 8 := by decide +kernel
  obtain ⟨e0, e1, e2⟩ := e t
  have h : (win0_2.blk t).view.emb (ix3 z r l) = ix3 (0 : Fin 1) r (kvUpDwPos2 t l) := funext fun a => Fin.ext (match a with
    | ⟨0, _⟩ => (lane_coord (n := 1) (l := z.val) e0).trans (show z.val = 0 by omega)
    | ⟨1, _⟩ => lane_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (kvUpDw_at (iblk m c 0 t) (iblk m c 1 t) z r l).trans ?_
  simp only [kvUpDw_block_0, kvUpDw_block_1]
  rfl

end

theorem frame_KvUpDwRefIdeal : Cert.quiescent_KvUpDwRefIdeal := fun m g _ =>
  (θ_run Cert.KvUpDwRefIdeal.defs _ _).mono (fun _ h => ⟨fun c => (h c).2, sem_eq_zero_of_no_sems rfl _⟩) (Cert.KvUpDwRefIdeal.Value.run (F := Ideal) m g)

theorem algebraic_KvUpDw : Cert.algebraic_KvUpDwIdeal_KvUpDwRefIdeal := fun m g m' g' _ agree =>
  ⟨_, Cert.KvUpDwIdeal.Value.run_blocks m g,
    (θ_run _ _ _).mono (fun _ h c => ⟨(h c).1.trans ((kvUpDwRef_eq _ _).trans (by
        rw [(agree c).1, (agree c).2]
        exact (kvUpDw_final m c).symm)),
      (h c).2⟩) (Cert.KvUpDwRefIdeal.Value.run (F := Ideal) m' g')⟩

/-! ### `ScInDw` -/

section
open Cert.ScInDwIdeal Cert.ScInDwIdeal.Gen

/-- The products of the columns of `a` with the columns of every piece of `d`. -/
def scInDwOf (a : S4096x4096.Idx → EReal) (d : S4x4096x4096.Idx → EReal) (j : S4x4096x4096.Idx) : EReal :=
  ∑ k : Fin 4096, a (ix2 k (j 1)) * d (ix3 (j 0) k (j 2))

end

section
open Cert.ScInDwRefIdeal Cert.ScInDwRefIdeal.Gen

/-- The reference's result. -/
def scInDwRef (x0 : FVec Ideal S4096x4096 .bf16) (x1 : FVec Ideal S4x4096x4096 .bf16) : FVec Ideal S4x4096x4096 .f32 :=
  transpose S4x4096x4096 [0, 2, 1] (Host.dotGeneral dot_S4x4096x4096_S4096x4096_S4x4096x4096_1_0_02_1_n_n none x1 x0) transposes_S4x4096x4096_S4x4096x4096_0_2_1

theorem scInDwRef_eq (x0 : FVec Ideal S4096x4096 .bf16) (x1 : FVec Ideal S4x4096x4096 .bf16) : scInDwRef x0 x1 = scInDwOf x0 x1 := by
  funext j
  obtain ⟨p, i, l, rfl⟩ : ∃ p i l, j = ix3 p i l := ⟨j 0, j 1, j 2, (ix3_eta j).symm⟩
  unfold scInDwRef scInDwOf
  pointwise
  exact Finset.sum_congr rfl fun k _ => mul_comm _ _

end

section
open Cert.ScInDwIdeal Cert.ScInDwIdeal.Gen

theorem scInDw_at (v0 : S4096x1024.Idx → EReal) (v1 : S1x4096x1024.Idx → EReal) (z : Fin 1) (r : Fin 1024) (l : Fin 1024) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem scInDwPos2_lt (t : Fin cfg0.N) (x : Fin 1024) : (t.val / 16) * 1024 + x.val < 4096 := by
  have hN : t.val < 64 := lt_of_lt_of_eq t.isLt (show cfg0.N = 64 from N_0)
  omega

/-- A coordinate in a block, in the whole array. -/
abbrev scInDwPos2 (t : Fin cfg0.N) (x : Fin 1024) : Fin 4096 := ⟨(t.val / 16) * 1024 + x.val, scInDwPos2_lt t x⟩

/-- A block's piece, in the whole array. -/
abbrev scInDwPos3 (t : Fin cfg0.N) : Fin 4 := ⟨t.val % 16 / 4, by
  have hN : t.val < 64 := lt_of_lt_of_eq t.isLt (show cfg0.N = 64 from N_0)
  omega⟩

theorem scInDwPos4_lt (t : Fin cfg0.N) (x : Fin 1024) : (t.val % 16 % 4) * 1024 + x.val < 4096 := by
  have hN : t.val < 64 := lt_of_lt_of_eq t.isLt (show cfg0.N = 64 from N_0)
  omega

/-- A coordinate in a block, in the whole array. -/
abbrev scInDwPos4 (t : Fin cfg0.N) (x : Fin 1024) : Fin 4096 := ⟨(t.val % 16 % 4) * 1024 + x.val, scInDwPos4_lt t x⟩

theorem scInDw_block_0 (t : Fin cfg0.N) (r : Fin 4096) (l : Fin 1024) :
    iblk m c 0 t (ix2 r l) = m (c.tc.loc main_arg0) (ix2 r (scInDwPos2 t l)) := by
  have e : ∀ t : Fin grid0.N, win0_0.index t 0 = 0 ∧ win0_0.index t 1 = t.val / 16 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => row_coord e1))

theorem scInDw_block_1 (t : Fin cfg0.N) (z : Fin 1) (r : Fin 4096) (l : Fin 1024) :
    iblk m c 1 t (ix3 z r l) = m (c.tc.loc main_arg1) (ix3 (scInDwPos3 t) r (scInDwPos4 t l)) := by
  have e : ∀ t : Fin grid0.N, win0_1.index t 0 = t.val % 16 / 4 ∧ win0_1.index t 1 = 0 ∧ win0_1.index t 2 = t.val % 16 % 4 := by decide +kernel
  obtain ⟨e0, e1, e2⟩ := e t
  unfold iblk
  rw [View.read_apply]
  exact congrArg (m (c.tc.loc main_arg1)) (funext fun a => Fin.ext (match a with
    | ⟨0, _⟩ => (row_coord (n := 1) (r := z.val) e0).trans (show (t.val % 16 / 4) * 1 + z.val = t.val % 16 / 4 by omega)
    | ⟨1, _⟩ => lane_coord e1
    | ⟨2, _⟩ => row_coord e2))

/-- The result, after the run. -/
theorem scInDw_final : (dats m 0 c).arrAt 2 cfg0.N = scInDwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = t.val % 16 / 4 ∧ win0_2.index t 1 = t.val / 16 ∧ win0_2.index t 2 = t.val % 16 % 4 := by decide +kernel
  obtain ⟨e0, e1, e2⟩ := e t
  have h : (win0_2.blk t).view.emb (ix3 z r l) = ix3 (scInDwPos3 t) (scInDwPos2 t r) (scInDwPos4 t l) := funext fun a => Fin.ext (match a with
    | ⟨0, _⟩ => (row_coord (n := 1) (r := z.val) e0).trans (show (t.val % 16 / 4) * 1 + z.val = t.val % 16 / 4 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (scInDw_at (iblk m c 0 t) (iblk m c 1 t) z r l).trans ?_
  simp only [scInDw_block_0, scInDw_block_1]
  rfl

end

theorem frame_ScInDwRefIdeal : Cert.quiescent_ScInDwRefIdeal := fun m g _ =>
  (θ_run Cert.ScInDwRefIdeal.defs _ _).mono (fun _ h => ⟨fun c => (h c).2, sem_eq_zero_of_no_sems rfl _⟩) (Cert.ScInDwRefIdeal.Value.run (F := Ideal) m g)

theorem algebraic_ScInDw : Cert.algebraic_ScInDwIdeal_ScInDwRefIdeal := fun m g m' g' _ agree =>
  ⟨_, Cert.ScInDwIdeal.Value.run_blocks m g,
    (θ_run _ _ _).mono (fun _ h c => ⟨(h c).1.trans ((scInDwRef_eq _ _).trans (by
        rw [(agree c).1, (agree c).2]
        exact (scInDw_final m c).symm)),
      (h c).2⟩) (Cert.ScInDwRefIdeal.Value.run (F := Ideal) m' g')⟩

/-! ### `GmInDw` -/

section
open Cert.GmInDwIdeal Cert.GmInDwIdeal.Gen

/-- The products of the columns of `a` with the columns of every piece of `d`. -/
def gmInDwOf (a : S4096x4096.Idx → EReal) (d : S3x4096x4096.Idx → EReal) (j : S4x4096x3072.Idx) : EReal :=
  ∑ k : Fin 4096, a (ix2 k (j 1)) * d (ix3 (⟨((j 0).val * 3072 + (j 2).val) / 4096, by have := (j 0).isLt; have := (j 2).isLt; dsimp at *; omega⟩ : Fin 3) k (⟨((j 0).val * 3072 + (j 2).val) % 4096, Nat.mod_lt _ (by decide)⟩ : Fin 4096))

end

section
open Cert.GmInDwRefIdeal Cert.GmInDwRefIdeal.Gen

/-- The reference's result. -/
def gmInDwRef (x0 : FVec Ideal S4096x4096 .bf16) (x1 : FVec Ideal S3x4096x4096 .bf16) : FVec Ideal S4x4096x3072 .f32 :=
  transpose S4x4096x3072 [1, 0, 2] (shapeCast _ (Host.dotGeneral dot_S4096x4096_S4096x12288_S4096x12288_1_0_0_1_n_n none (transpose S4096x4096 [1, 0] x0 transposes_S4096x4096_S4096x4096_1_0) (shapeCast _ (transpose S4096x3x4096 [1, 0, 2] x1 transposes_S3x4096x4096_S4096x3x4096_1_0_2) shapeCasts_S4096x3x4096_S4096x12288)) shapeCasts_S4096x12288_S4096x4x3072) transposes_S4096x4x3072_S4x4096x3072_1_0_2

theorem gmInDwRef_eq (x0 : FVec Ideal S4096x4096 .bf16) (x1 : FVec Ideal S3x4096x4096 .bf16) : gmInDwRef x0 x1 = gmInDwOf x0 x1 := by
  funext j
  obtain ⟨p, i, l, rfl⟩ : ∃ p i l, j = ix3 p i l := ⟨j 0, j 1, j 2, (ix3_eta j).symm⟩
  unfold gmInDwRef gmInDwOf
  pointwise

end

section
open Cert.GmInDwIdeal Cert.GmInDwIdeal.Gen

theorem gmInDw_at (v0 : S4096x1024.Idx → EReal) (v1 : S1x4096x1024.Idx → EReal) (z : Fin 1) (r : Fin 1024) (l : Fin 1024) :
    k0_pay1 (F := Ideal) v0 v1 (ix3 z r l) = ∑ k : Fin 4096, v0 (ix2 k r) * v1 (ix3 0 k l) := by
  unfold k0_pay1
  pointwise

variable (m : (ℓ : Loc nD τ sig) → Buf (Elt Ideal) ℓ) (c : Dev nD)

theorem gmInDwPos2_lt (t : Fin cfg0.N) (x : Fin 1024) : (t.val / 12) * 1024 + x.val < 4096 := by
  have hN : t.val < 48 := lt_of_lt_of_eq t.isLt (show cfg0.N = 48 from N_0)
  omega

/-- A coordinate in a block, in the whole array. -/
abbrev gmInDwPos2 (t : Fin cfg0.N) (x : Fin 1024) : Fin 4096 := ⟨(t.val / 12) * 1024 + x.val, gmInDwPos2_lt t x⟩

/-- A block's piece, in the whole array. -/
abbrev gmInDwPos3 (t : Fin cfg0.N) : Fin 3 := ⟨t.val % 12 / 4, by
  have hN : t.val < 48 := lt_of_lt_of_eq t.isLt (show cfg0.N = 48 from N_0)
  omega⟩

theorem gmInDwPos4_lt (t : Fin cfg0.N) (x : Fin 1024) : (t.val % 12 % 4) * 1024 + x.val < 4096 := by
  have hN : t.val < 48 := lt_of_lt_of_eq t.isLt (show cfg0.N = 48 from N_0)
  omega

/-- A coordinate in a block, in the whole array. -/
abbrev gmInDwPos4 (t : Fin cfg0.N) (x : Fin 1024) : Fin 4096 := ⟨(t.val % 12 % 4) * 1024 + x.val, gmInDwPos4_lt t x⟩

/-- A block's piece, in the whole array. -/
abbrev gmInDwPos5 (t : Fin cfg0.N) : Fin 4 := ⟨t.val % 12 / 3, by
  have hN : t.val < 48 := lt_of_lt_of_eq t.isLt (show cfg0.N = 48 from N_0)
  omega⟩

theorem gmInDwPos6_lt (t : Fin cfg0.N) (x : Fin 1024) : (t.val % 12 % 3) * 1024 + x.val < 3072 := by
  have hN : t.val < 48 := lt_of_lt_of_eq t.isLt (show cfg0.N = 48 from N_0)
  omega

/-- A coordinate in a block, in the whole array. -/
abbrev gmInDwPos6 (t : Fin cfg0.N) (x : Fin 1024) : Fin 3072 := ⟨(t.val % 12 % 3) * 1024 + x.val, gmInDwPos6_lt t x⟩

theorem gmInDw_block_0 (t : Fin cfg0.N) (r : Fin 4096) (l : Fin 1024) :
    iblk m c 0 t (ix2 r l) = m (c.tc.loc main_arg0) (ix2 r (gmInDwPos2 t l)) := by
  have e : ∀ t : Fin grid0.N, win0_0.index t 0 = 0 ∧ win0_0.index t 1 = t.val / 12 := by decide +kernel
  obtain ⟨e0, e1⟩ := e t
  unfold iblk
  rw [View.read_apply]
  exact congrArg (m (c.tc.loc main_arg0)) (funext fun a => Fin.ext (match a with
    | ⟨0, _⟩ => lane_coord e0
    | ⟨1, _⟩ => row_coord e1))

theorem gmInDw_block_1 (t : Fin cfg0.N) (z : Fin 1) (r : Fin 4096) (l : Fin 1024) :
    iblk m c 1 t (ix3 z r l) = m (c.tc.loc main_arg1) (ix3 (gmInDwPos3 t) r (gmInDwPos4 t l)) := by
  have e : ∀ t : Fin grid0.N, win0_1.index t 0 = t.val % 12 / 4 ∧ win0_1.index t 1 = 0 ∧ win0_1.index t 2 = t.val % 12 % 4 := by decide +kernel
  obtain ⟨e0, e1, e2⟩ := e t
  unfold iblk
  rw [View.read_apply]
  exact congrArg (m (c.tc.loc main_arg1)) (funext fun a => Fin.ext (match a with
    | ⟨0, _⟩ => (row_coord (n := 1) (r := z.val) e0).trans (show (t.val % 12 / 4) * 1 + z.val = t.val % 12 / 4 by omega)
    | ⟨1, _⟩ => lane_coord e1
    | ⟨2, _⟩ => row_coord e2))

/-- The result, after the run. -/
theorem gmInDw_final : (dats m 0 c).arrAt 2 cfg0.N = gmInDwOf (m (c.tc.loc main_arg0)) (m (c.tc.loc main_arg1)) := by
  refine (dats m 0 c).arrAt_eq_of_covers 2 _ (by decide +kernel) fun t hf y => ?_
  obtain ⟨z, r, l, rfl⟩ : ∃ z r l, y = ix3 z r l := ⟨y 0, y 1, y 2, (ix3_eta y).symm⟩
  have e : ∀ t : Fin grid0.N, win0_2.index t 0 = t.val % 12 / 3 ∧ win0_2.index t 1 = t.val / 12 ∧ win0_2.index t 2 = t.val % 12 % 3 := by decide +kernel
  obtain ⟨e0, e1, e2⟩ := e t
  have h : (win0_2.blk t).view.emb (ix3 z r l) = ix3 (gmInDwPos5 t) (gmInDwPos2 t r) (gmInDwPos6 t l) := funext fun a => Fin.ext (match a with
    | ⟨0, _⟩ => (row_coord (n := 1) (r := z.val) e0).trans (show (t.val % 12 / 3) * 1 + z.val = t.val % 12 / 3 by omega)
    | ⟨1, _⟩ => row_coord e1
    | ⟨2, _⟩ => row_coord e2)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (gmInDw_at (iblk m c 0 t) (iblk m c 1 t) z r l).trans ?_
  simp only [gmInDw_block_0, gmInDw_block_1]
  unfold gmInDwOf
  refine Finset.sum_congr rfl fun k _ => congrArg₂ (· * ·) rfl (congrArg _ (funext fun a => Fin.ext (match a with
    | ⟨0, _⟩ => ?_
    | ⟨1, _⟩ => rfl
    | ⟨2, _⟩ => ?_)))
  · show t.val % 12 / 4 = (t.val % 12 / 3 * 3072 + (t.val % 12 % 3 * 1024 + l.val)) / 4096
    omega
  · show t.val % 12 % 4 * 1024 + l.val = (t.val % 12 / 3 * 3072 + (t.val % 12 % 3 * 1024 + l.val)) % 4096
    omega

end

theorem frame_GmInDwRefIdeal : Cert.quiescent_GmInDwRefIdeal := fun m g _ =>
  (θ_run Cert.GmInDwRefIdeal.defs _ _).mono (fun _ h => ⟨fun c => (h c).2, sem_eq_zero_of_no_sems rfl _⟩) (Cert.GmInDwRefIdeal.Value.run (F := Ideal) m g)

theorem algebraic_GmInDw : Cert.algebraic_GmInDwIdeal_GmInDwRefIdeal := fun m g m' g' _ agree =>
  ⟨_, Cert.GmInDwIdeal.Value.run_blocks m g,
    (θ_run _ _ _).mono (fun _ h c => ⟨(h c).1.trans ((gmInDwRef_eq _ _).trans (by
        rw [(agree c).1, (agree c).2]
        exact (gmInDw_final m c).symm)),
      (h c).2⟩) (Cert.GmInDwRefIdeal.Value.run (F := Ideal) m' g')⟩

end Cert.Proof

end
-- ==== Proof.BackProducts.lean ====
/-
The products that give the gradients of the activations: the contraction is over the columns of both arrays.
-/
module

public import proofs.«01_k».proof.Defs
public import proofs.«01_k».proof.Proof.Blocks
public import Idealize.ShloMosaic.Lib.Pipeline.ValueKit
public import Idealize.ShloMosaic.Lib.Claim
public import proofs.«01_k».proof.Proof.Gen.InADx.Frame
public import proofs.«01_k».proof.Proof.Gen.InADxIdeal.Value
public import proofs.«01_k».proof.Proof.Gen.InADxRefIdeal.Run
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.InZDx.Frame
public import proofs.«01_k».proof.Proof.Gen.InZDxIdeal.Value
public import proofs.«01_k».proof.Proof.Gen.InZDxRefIdeal.Run

@[expose] public section

noncomputable section

namespace Cert.Proof

open Idealize.ShloMosaic Idealize.SL.Sem
open Idealize.ShloMosaic.TcCoe

open Cert.Blocks

/-! ### `InADx` -/

section
open Cert.InADxIdeal Cert.InADxIdeal.Gen

/-- The products of the rows of `d` with the rows of `w`. -/
def inADxOf (d w : S1x4096x1664.Idx → EReal) (j : S4096x4096.Idx) : EReal :=
  ∑ k : Fin 1664, d (ix3 (0 : Fin 1) (j 0) k) * w (ix3 (0 : Fin 1) (j 1) k)

end

section
open Cert.InADxRefIdeal Cert.InADxRefIdeal.Gen

/-- The reference's result. -/
def inADxRef (x0 : FVec Ideal S1x4096x1664 .bf16) (x1 : FVec Ideal S1x4096x1664 .bf16) : FVec Ideal S4096x4096 .f32 :=
  Host.dotGeneral dot_S1x4096x1664_S1x4096x1664_S4096x4096_02_02_1_1_n_n none x0 x1

theorem inADxRef_eq (x0 : FVec Ideal S1x4096x1664 .bf16) (x1 : FVec Ideal S1x4096x1664 .bf16) : inADxRef x0 x1 = inADxOf x0 x1 := by
  funext j
  obtain ⟨i, l, rfl⟩ : ∃ i l, j = ix2 i l := ⟨j 0, j 1, (ix2_eta j).symm⟩
  unfold inADxRef inADxOf
  pointwise
  simp

end

section
open Cert.InADxIdeal Cert.InADxIdeal.Gen

theorem inADx_at (v0 v2 : S1x1024x1664.Idx → EReal) (r l : Fin 1024) :
    k0_pay1 (F := Ideal) v0 v2 (ix2 r l) = ∑ k : Fin 1664, v0 (ix3 0 r k) * v2 (ix3 0 l k) := by
  unfold k0_pay1
  pointwise

variable (m : (ℓ : Loc nD τ sig) → Buf (Elt Ideal) ℓ) (c : Dev nD)

theorem inADxPos2_lt (t : Fin cfg0.N) (x : Fin 1024) : (t.val / 4) * 1024 + x.val < 4096 := by
  have hN : t.val < 16 := lt_of_lt_of_eq t.isLt (show cfg0.N = 16 from N_0)
  omega

/-- A coordinate in a block, in the whole array. -/
abbrev inADxPos2 (t : Fin cfg0.N) (x : Fin 1024) : Fin 4096 := ⟨(t.val / 4) * 1024 + x.val, inADxPos2_lt t x⟩

theorem inADxPos3_lt (t : Fin cfg0.N) (x : Fin 1024) : (t.val % 4) * 1024 + x.val < 4096 := by
  have hN : t.val < 16 := lt_of_lt_of_eq t.isLt (show cfg0.N = 16 from N_0)
  omega

/-- A coordinate in a block, in the whole array. -/
abbrev inADxPos3 (t : Fin cfg0.N) (x : Fin 1024) : Fin 4096 := ⟨(t.val % 4) * 1024 + x.val, inADxPos3_lt t x⟩

theorem inADx_block_0 (t : Fin cfg0.N) (z : Fin 1) (r : Fin 1024) (l : Fin 1664) :
    iblk m c 0 t (ix3 z r l) = m (c.tc.loc main_arg0) (ix3 (0 : Fin 1) (inADxPos2 t r) l) := by
  have e : ∀ t : Fin grid0.N, win0_0.index t 0 = 0 ∧ win0_0.index t 1 = t.val / 4 ∧ win0_0.index t 2 = 0 := by decide +kernel
  obtain ⟨e0, e1, e2⟩ := e t
  unfold iblk
  rw [View.read_apply]
  exact congrArg (m (c.tc.loc main_arg0)) (funext fun a => Fin.ext (match a with
    | ⟨0, _⟩ => (lane_coord (n := 1) (l := z.val) e0).trans (show z.val = 0 by omega)
    | ⟨1, _⟩ => row_coord e1
    | ⟨2, _⟩ => lane_coord e2))

theorem inADx_block_1 (t : Fin cfg0.N) (z : Fin 1) (r : Fin 1024) (l : Fin 1664) :
    iblk m c 1 t (ix3 z r l) = m (c.tc.loc main_arg1) (ix3 (0 : Fin 1) (inADxPos3 t r) l) := by
  have e : ∀ t : Fin grid0.N, win0_1.index t 0 = 0 ∧ win0_1.index t 1 = t.val % 4 ∧ win0_1.index t 2 = 0 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => row_coord e1
    | ⟨2, _⟩ => lane_coord e2))

/-- The result, after the run. -/
theorem inADx_final : (dats m 0 c).arrAt 2 cfg0.N = inADxOf (m (c.tc.loc main_arg0)) (m (c.tc.loc main_arg1)) := by
  refine (dats m 0 c).arrAt_eq_of_covers 2 _ (by decide +kernel) fun t hf y => ?_
  obtain ⟨r, l, rfl⟩ : ∃ r l, y = ix2 r l := ⟨y 0, y 1, (ix2_eta y).symm⟩
  have e : ∀ t : Fin grid0.N, win0_2.index t 0 = t.val / 4 ∧ win0_2.index t 1 = t.val % 4 := by decide +kernel
  obtain ⟨e0, e1⟩ := e t
  have h : (win0_2.blk t).view.emb (ix2 r l) = ix2 (inADxPos2 t r) (inADxPos3 t l) := funext fun a => Fin.ext (match a with
    | ⟨0, _⟩ => row_coord e0
    | ⟨1, _⟩ => row_coord e1)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (inADx_at (iblk m c 0 t) (iblk m c 1 t) r l).trans ?_
  simp only [inADx_block_0, inADx_block_1]
  rfl

end

theorem frame_InADxRefIdeal : Cert.quiescent_InADxRefIdeal := fun m g _ =>
  (θ_run Cert.InADxRefIdeal.defs _ _).mono (fun _ h => ⟨fun c => (h c).2, sem_eq_zero_of_no_sems rfl _⟩) (Cert.InADxRefIdeal.Value.run (F := Ideal) m g)

theorem algebraic_InADx : Cert.algebraic_InADxIdeal_InADxRefIdeal := fun m g m' g' _ agree =>
  ⟨_, Cert.InADxIdeal.Value.run_blocks m g,
    (θ_run _ _ _).mono (fun _ h c => ⟨(h c).1.trans ((inADxRef_eq _ _).trans (by
        rw [(agree c).1, (agree c).2]
        exact (inADx_final m c).symm)),
      (h c).2⟩) (Cert.InADxRefIdeal.Value.run (F := Ideal) m' g')⟩

/-! ### `OutProjDx` -/

section
open Cert.OutProjDxIdeal Cert.OutProjDxIdeal.Gen

/-- The products of the rows of `d` with the rows of `w`. -/
def outProjDxOf (d w : S1x4096x4096.Idx → EReal) (j : S4096x4096.Idx) : EReal :=
  ∑ k : Fin 4096, d (ix3 (0 : Fin 1) (j 0) k) * w (ix3 (0 : Fin 1) (j 1) k)

end

section
open Cert.OutProjDxRefIdeal Cert.OutProjDxRefIdeal.Gen

/-- The reference's result. -/
def outProjDxRef (x0 : FVec Ideal S1x4096x4096 .bf16) (x1 : FVec Ideal S1x4096x4096 .bf16) : FVec Ideal S4096x4096 .f32 :=
  Host.dotGeneral dot_S1x4096x4096_S1x4096x4096_S4096x4096_02_02_1_1_n_n none x0 x1

theorem outProjDxRef_eq (x0 : FVec Ideal S1x4096x4096 .bf16) (x1 : FVec Ideal S1x4096x4096 .bf16) : outProjDxRef x0 x1 = outProjDxOf x0 x1 := by
  funext j
  obtain ⟨i, l, rfl⟩ : ∃ i l, j = ix2 i l := ⟨j 0, j 1, (ix2_eta j).symm⟩
  unfold outProjDxRef outProjDxOf
  pointwise
  simp

end

section
open Cert.OutProjDxIdeal Cert.OutProjDxIdeal.Gen

theorem outProjDx_at (v0 v2 : S1x1024x4096.Idx → EReal) (r l : Fin 1024) :
    k0_pay1 (F := Ideal) v0 v2 (ix2 r l) = ∑ k : Fin 4096, v0 (ix3 0 r k) * v2 (ix3 0 l k) := by
  unfold k0_pay1
  pointwise

variable (m : (ℓ : Loc nD τ sig) → Buf (Elt Ideal) ℓ) (c : Dev nD)

theorem outProjDxPos2_lt (t : Fin cfg0.N) (x : Fin 1024) : (t.val / 4) * 1024 + x.val < 4096 := by
  have hN : t.val < 16 := lt_of_lt_of_eq t.isLt (show cfg0.N = 16 from N_0)
  omega

/-- A coordinate in a block, in the whole array. -/
abbrev outProjDxPos2 (t : Fin cfg0.N) (x : Fin 1024) : Fin 4096 := ⟨(t.val / 4) * 1024 + x.val, outProjDxPos2_lt t x⟩

theorem outProjDxPos3_lt (t : Fin cfg0.N) (x : Fin 1024) : (t.val % 4) * 1024 + x.val < 4096 := by
  have hN : t.val < 16 := lt_of_lt_of_eq t.isLt (show cfg0.N = 16 from N_0)
  omega

/-- A coordinate in a block, in the whole array. -/
abbrev outProjDxPos3 (t : Fin cfg0.N) (x : Fin 1024) : Fin 4096 := ⟨(t.val % 4) * 1024 + x.val, outProjDxPos3_lt t x⟩

theorem outProjDx_block_0 (t : Fin cfg0.N) (z : Fin 1) (r : Fin 1024) (l : Fin 4096) :
    iblk m c 0 t (ix3 z r l) = m (c.tc.loc main_arg0) (ix3 (0 : Fin 1) (outProjDxPos2 t r) l) := by
  have e : ∀ t : Fin grid0.N, win0_0.index t 0 = 0 ∧ win0_0.index t 1 = t.val / 4 ∧ win0_0.index t 2 = 0 := by decide +kernel
  obtain ⟨e0, e1, e2⟩ := e t
  unfold iblk
  rw [View.read_apply]
  exact congrArg (m (c.tc.loc main_arg0)) (funext fun a => Fin.ext (match a with
    | ⟨0, _⟩ => (lane_coord (n := 1) (l := z.val) e0).trans (show z.val = 0 by omega)
    | ⟨1, _⟩ => row_coord e1
    | ⟨2, _⟩ => lane_coord e2))

theorem outProjDx_block_1 (t : Fin cfg0.N) (z : Fin 1) (r : Fin 1024) (l : Fin 4096) :
    iblk m c 1 t (ix3 z r l) = m (c.tc.loc main_arg1) (ix3 (0 : Fin 1) (outProjDxPos3 t r) l) := by
  have e : ∀ t : Fin grid0.N, win0_1.index t 0 = 0 ∧ win0_1.index t 1 = t.val % 4 ∧ win0_1.index t 2 = 0 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => row_coord e1
    | ⟨2, _⟩ => lane_coord e2))

/-- The result, after the run. -/
theorem outProjDx_final : (dats m 0 c).arrAt 2 cfg0.N = outProjDxOf (m (c.tc.loc main_arg0)) (m (c.tc.loc main_arg1)) := by
  refine (dats m 0 c).arrAt_eq_of_covers 2 _ (by decide +kernel) fun t hf y => ?_
  obtain ⟨r, l, rfl⟩ : ∃ r l, y = ix2 r l := ⟨y 0, y 1, (ix2_eta y).symm⟩
  have e : ∀ t : Fin grid0.N, win0_2.index t 0 = t.val / 4 ∧ win0_2.index t 1 = t.val % 4 := by decide +kernel
  obtain ⟨e0, e1⟩ := e t
  have h : (win0_2.blk t).view.emb (ix2 r l) = ix2 (outProjDxPos2 t r) (outProjDxPos3 t l) := funext fun a => Fin.ext (match a with
    | ⟨0, _⟩ => row_coord e0
    | ⟨1, _⟩ => row_coord e1)
  blk_simp
  rw [after0_2]
  have e : out0_2 (iblk m c 0 t) (iblk m c 1 t) = k0_pay1 (F := Ideal) (iblk m c 0 t) (iblk m c 1 t) := by
    unfold out0_2
    frame_out
  rw [e]
  refine Eq.trans ?_ (congrArg _ h).symm
  refine (outProjDx_at (iblk m c 0 t) (iblk m c 1 t) r l).trans ?_
  simp only [outProjDx_block_0, outProjDx_block_1]
  rfl

end

theorem frame_OutProjDxRefIdeal : Cert.quiescent_OutProjDxRefIdeal := fun m g _ =>
  (θ_run Cert.OutProjDxRefIdeal.defs _ _).mono (fun _ h => ⟨fun c => (h c).2, sem_eq_zero_of_no_sems rfl _⟩) (Cert.OutProjDxRefIdeal.Value.run (F := Ideal) m g)

theorem algebraic_OutProjDx : Cert.algebraic_OutProjDxIdeal_OutProjDxRefIdeal := fun m g m' g' _ agree =>
  ⟨_, Cert.OutProjDxIdeal.Value.run_blocks m g,
    (θ_run _ _ _).mono (fun _ h c => ⟨(h c).1.trans ((outProjDxRef_eq _ _).trans (by
        rw [(agree c).1, (agree c).2]
        exact (outProjDx_final m c).symm)),
      (h c).2⟩) (Cert.OutProjDxRefIdeal.Value.run (F := Ideal) m' g')⟩

/-! ### `InZDx` -/

section
open Cert.InZDxIdeal Cert.InZDxIdeal.Gen

/-- The products of the rows of `d` with the rows of `w`, added to `e`. -/
def inZDxOf (d w : S1x4096x4096.Idx → EReal) (e : S4096x4096.Idx → EReal) (j : S4096x4096.Idx) : EReal :=
  e j + ∑ k : Fin 4096, d (ix3 (0 : Fin 1) (j 0) k) * w (ix3 (0 : Fin 1) (j 1) k)

end

section
open Cert.InZDxRefIdeal Cert.InZDxRefIdeal.Gen

/-- The reference's result. -/
def inZDxRef (x0 : FVec Ideal S1x4096x4096 .bf16) (x1 : FVec Ideal S1x4096x4096 .bf16) (x2 : FVec Ideal S4096x4096 .f32) : FVec Ideal S4096x4096 .f32 :=
  addf x2 (Host.dotGeneral dot_S1x4096x4096_S1x4096x4096_S4096x4096_02_02_1_1_n_n none x0 x1)

theorem inZDxRef_eq (x0 : FVec Ideal S1x4096x4096 .bf16) (x1 : FVec Ideal S1x4096x4096 .bf16) (x2 : FVec Ideal S4096x4096 .f32) : inZDxRef x0 x1 x2 = inZDxOf x0 x1 x2 := by
  funext j
  obtain ⟨i, l, rfl⟩ : ∃ i l, j = ix2 i l := ⟨j 0, j 1, (ix2_eta j).symm⟩
  unfold inZDxRef inZDxOf
  pointwise
  simp

end

section
open Cert.InZDxIdeal Cert.InZDxIdeal.Gen

theorem inZDx_at (v0 v2 : S1x1024x4096.Idx → EReal) (v5 : S1024x1024.Idx → EReal) (r l : Fin 1024) :
    k0_pay1 (F := Ideal) v0 v2 v5 (ix2 r l) = v5 (ix2 r l) + ∑ k : Fin 4096, v0 (ix3 0 r k) * v2 (ix3 0 l k) := by
  unfold k0_pay1
  pointwise
  exact add_comm _ _

variable (m : (ℓ : Loc nD τ sig) → Buf (Elt Ideal) ℓ) (c : Dev nD)

theorem inZDxPos2_lt (t : Fin cfg0.N) (x : Fin 1024) : (t.val / 4) * 1024 + x.val < 4096 := by
  have hN : t.val < 16 := lt_of_lt_of_eq t.isLt (show cfg0.N = 16 from N_0)
  omega

/-- A coordinate in a block, in the whole array. -/
abbrev inZDxPos2 (t : Fin cfg0.N) (x : Fin 1024) : Fin 4096 := ⟨(t.val / 4) * 1024 + x.val, inZDxPos2_lt t x⟩

theorem inZDxPos3_lt (t : Fin cfg0.N) (x : Fin 1024) : (t.val % 4) * 1024 + x.val < 4096 := by
  have hN : t.val < 16 := lt_of_lt_of_eq t.isLt (show cfg0.N = 16 from N_0)
  omega

/-- A coordinate in a block, in the whole array. -/
abbrev inZDxPos3 (t : Fin cfg0.N) (x : Fin 1024) : Fin 4096 := ⟨(t.val % 4) * 1024 + x.val, inZDxPos3_lt t x⟩

theorem inZDx_block_0 (t : Fin cfg0.N) (z : Fin 1) (r : Fin 1024) (l : Fin 4096) :
    iblk m c 0 t (ix3 z r l) = m (c.tc.loc main_arg0) (ix3 (0 : Fin 1) (inZDxPos2 t r) l) := by
  have e : ∀ t : Fin grid0.N, win0_0.index t 0 = 0 ∧ win0_0.index t 1 = t.val / 4 ∧ win0_0.index t 2 = 0 := by decide +kernel
  obtain ⟨e0, e1, e2⟩ := e t
  unfold iblk
  rw [View.read_apply]
  exact congrArg (m (c.tc.loc main_arg0)) (funext fun a => Fin.ext (match a with
    | ⟨0, _⟩ => (lane_coord (n := 1) (l := z.val) e0).trans (show z.val = 0 by omega)
    | ⟨1, _⟩ => row_coord e1
    | ⟨2, _⟩ => lane_coord e2))

theorem inZDx_block_1 (t : Fin cfg0.N) (z : Fin 1) (r : Fin 1024) (l : Fin 4096) :
    iblk m c 1 t (ix3 z r l) = m (c.tc.loc main_arg1) (ix3 (0 : Fin 1) (inZDxPos3 t r) l) := by
  have e : ∀ t : Fin grid0.N, win0_1.index t 0 = 0 ∧ win0_1.index t 1 = t.val % 4 ∧ win0_1.index t 2 = 0 := by decide +kernel
  obtain ⟨e0, e1, e2⟩ := e t
  unfold iblk
  rw [View.read_apply]
  exact congrArg (m (c.tc.loc main_arg1)) (funext fun a => Fin.ext (match a with
    | ⟨0, _⟩ => (lane_coord (n := 1) (l := z.val) e0).trans (show z.val = 0 by omega)
    | ⟨1, _⟩ => row_coord e1
    | ⟨2, _⟩ => lane_coord e2))

theorem inZDx_block_2 (t : Fin cfg0.N) (r : Fin 1024) (l : Fin 1024) :
    iblk m c 2 t (ix2 r l) = m (c.tc.loc main_arg2) (ix2 (inZDxPos2 t r) (inZDxPos3 t l)) := by
  have e : ∀ t : Fin grid0.N, win0_2.index t 0 = t.val / 4 ∧ win0_2.index t 1 = t.val % 4 := by decide +kernel
  obtain ⟨e0, e1⟩ := e t
  unfold iblk
  rw [View.read_apply]
  exact congrArg (m (c.tc.loc main_arg2)) (funext fun a => Fin.ext (match a with
    | ⟨0, _⟩ => row_coord e0
    | ⟨1, _⟩ => row_coord e1))

/-- The result, after the run. -/
theorem inZDx_final : (dats m 0 c).arrAt 3 cfg0.N = inZDxOf (m (c.tc.loc main_arg0)) (m (c.tc.loc main_arg1)) (m (c.tc.loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  have e : ∀ t : Fin grid0.N, win0_3.index t 0 = t.val / 4 ∧ win0_3.index t 1 = t.val % 4 := by decide +kernel
  obtain ⟨e0, e1⟩ := e t
  have h : (win0_3.blk t).view.emb (ix2 r l) = ix2 (inZDxPos2 t r) (inZDxPos3 t l) := funext fun a => Fin.ext (match a with
    | ⟨0, _⟩ => row_coord e0
    | ⟨1, _⟩ => row_coord e1)
  blk_simp
  rw [after0_3]
  have e : out0_3 (iblk m c 0 t) (iblk m c 1 t) (iblk m c 2 t) = k0_pay1 (F := Ideal) (iblk m c 0 t) (iblk m c 1 t) (iblk m c 2 t) := by
    unfold out0_3
    frame_out
  rw [e]
  refine Eq.trans ?_ (congrArg _ h).symm
  refine (inZDx_at (iblk m c 0 t) (iblk m c 1 t) (iblk m c 2 t) r l).trans ?_
  simp only [inZDx_block_0, inZDx_block_1, inZDx_block_2]
  rfl

end

theorem frame_InZDxRefIdeal : Cert.quiescent_InZDxRefIdeal := fun m g _ =>
  (θ_run Cert.InZDxRefIdeal.defs _ _).mono (fun _ h => ⟨fun c => (h c).2, sem_eq_zero_of_no_sems rfl _⟩) (Cert.InZDxRefIdeal.Value.run (F := Ideal) m g)

theorem algebraic_InZDx : Cert.algebraic_InZDxIdeal_InZDxRefIdeal := fun m g m' g' _ agree =>
  ⟨_, Cert.InZDxIdeal.Value.run_blocks m g,
    (θ_run _ _ _).mono (fun _ h c => ⟨(h c).1.trans ((inZDxRef_eq _ _ _).trans (by
        rw [(agree c).1, (agree c).2.1, (agree c).2.2]
        exact (inZDx_final m c).symm)),
      (h c).2⟩) (Cert.InZDxRefIdeal.Value.run (F := Ideal) m' g')⟩

end Cert.Proof

end
-- ==== Proof.lean ====
/-
The claims. Here: the calls that exchange data: the exchange of the gradients' halves between the cores of a chip, their
scattering over the chips, the joining of the summed halves and the gathering of the weights. The claims about
the calls on one device, the sums, the optimiser's step, the loss, the normalisations, the gate and the products, are in the modules named after them.
-/
module

public import proofs.«01_k».proof.Defs
public import proofs.«01_k».proof.Proof.Gen.Kernel
public import proofs.«01_k».proof.Proof.Gen.KernelIdeal
public import proofs.«01_k».proof.Proof.Gen.Reference.Run
public import proofs.«01_k».proof.Proof.Gen.ReferenceIdeal.Run
public import proofs.«01_k».proof.Proof.Gen.Scatter
public import proofs.«01_k».proof.Proof.Gen.ScatterIdeal
public import proofs.«01_k».proof.Proof.Gen.ScatterRef.Run
public import proofs.«01_k».proof.Proof.Gen.ScatterRefIdeal.Run
public import proofs.«01_k».proof.Proof.Gen.Join
public import proofs.«01_k».proof.Proof.Gen.JoinIdeal
public import proofs.«01_k».proof.Proof.Gen.JoinRef.Run
public import proofs.«01_k».proof.Proof.Gen.JoinRefIdeal.Run
public import proofs.«01_k».proof.Proof.Gen.Gather
public import proofs.«01_k».proof.Proof.Gen.GatherIdeal
public import proofs.«01_k».proof.Proof.Gen.GatherRef.Run
public import proofs.«01_k».proof.Proof.Gen.GatherRefIdeal.Run
public import proofs.«01_k».proof.Proof.ExchangeValue
public import proofs.«01_k».proof.Proof.ScatterValue
public import proofs.«01_k».proof.Proof.JoinValue
public import proofs.«01_k».proof.Proof.GatherValue
public import proofs.«01_k».proof.Proof.Optimiser
public import proofs.«01_k».proof.Proof.PairSums
public import proofs.«01_k».proof.Proof.SliceSums
public import proofs.«01_k».proof.Proof.LossHead
public import proofs.«01_k».proof.Proof.NormGradient
public import proofs.«01_k».proof.Proof.LayerNorms
public import proofs.«01_k».proof.Proof.Gates
public import proofs.«01_k».proof.Proof.Products
public import proofs.«01_k».proof.Proof.WeightProducts
public import proofs.«01_k».proof.Proof.BackProducts

@[expose] public section

noncomputable section

namespace Cert.Proof

open Idealize.ShloMosaic Idealize.SL.Sem
open Idealize.ShloMosaic.TcCoe

/-! ## The exchange -/

section
variable {F : FTy → Type} [FloatOps F]

/-- Every run ends with the arguments as they were and the semaphores at zero. -/
theorem exchange_frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ (c : Dev Cert.KernelIdeal.nD) (k : Fin 10), r.2.mem (c.tc.loc (Exchange.arrays (.inl k))) = m (c.tc.loc (Exchange.arrays (.inl k)))) ∧ r.2.sem = fun _ => 0) := by
  refine (θ_run Cert.KernelIdeal.defs _ _).mono (fun r ⟨⟨V, hV, hr⟩, hs⟩ => ⟨fun c k => ?_, hs⟩) (Exchange.run_main m g)
  have un : ∀ i, ¬ (Exchange.arrays i).isScoped := by decide
  exact (hr c _ (un (.inl k))).trans (Exchange.argument_kept hV c k)

end

theorem frame_kernelIdeal : Cert.quiescent_KernelIdeal := fun m g _ =>
  (θ_run Cert.KernelIdeal.defs _ _).mono (fun r ⟨h, hs⟩ => ⟨fun c => ⟨h c 0, h c 1, h c 2, h c 3, h c 4, h c 5, h c 6, h c 7, h c 8, h c 9⟩, hs⟩)
    (exchange_frame (F := Ideal) m g)

theorem frame_kernel : Cert.quiescent_Kernel := fun m g _ =>
  (θ_run Cert.KernelIdeal.defs _ _).mono (fun r ⟨h, hs⟩ => ⟨fun c => ⟨h c 0, h c 1, h c 2, h c 3, h c 4, h c 5, h c 6, h c 7, h c 8, h c 9⟩, hs⟩)
    (exchange_frame (F := Bits) m g)

theorem frame_referenceIdeal : Cert.quiescent_ReferenceIdeal := fun m g _ =>
  (θ_run Cert.ReferenceIdeal.defs _ _).mono (fun r h => ⟨fun c => (h c).2.2.2.2.2.2.2.2.2.2, sem_eq_zero_of_no_sems rfl _⟩) (Cert.ReferenceIdeal.Value.run (F := Ideal) m g)

theorem frame_reference : Cert.quiescent_Reference := fun m g _ =>
  (θ_run Cert.Reference.defs _ _).mono (fun r h => ⟨fun c => (h c).2.2.2.2.2.2.2.2.2.2, sem_eq_zero_of_no_sems rfl _⟩) (Cert.Reference.Value.run (F := Bits) m g)

theorem algebraic : Cert.algebraic_KernelIdeal_ReferenceIdeal := fun m g m' g' _ hin =>
  ⟨_, _, _, _, _, _, _, _, _, _,
    (θ_run Cert.KernelIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Exchange.run_value (F := Ideal) m g _ _ _ _ _ _ _ _ _ _ hin),
    (θ_run Cert.ReferenceIdeal.defs _ _).mono (fun r h => h 0) (Cert.ReferenceIdeal.Value.run (F := Ideal) m' g')⟩

theorem bitexact : Cert.bitexact_Kernel_Reference := fun m g m' g' _ hin =>
  ⟨_, _, _, _, _, _, _, _, _, _,
    (θ_run Cert.KernelIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Exchange.run_value (F := Bits) m g _ _ _ _ _ _ _ _ _ _ hin),
    (θ_run Cert.Reference.defs _ _).mono (fun r h => h 0) (Cert.Reference.Value.run (F := Bits) m' g')⟩

/-! ## The scattering -/

section
variable {F : FTy → Type} [FloatOps F]

/-- Every run ends with the arguments as they were and the semaphores at zero. -/
theorem scatter_frame (m : (ℓ : Loc Cert.ScatterIdeal.nD Cert.ScatterIdeal.τ Cert.ScatterIdeal.sig) → Buf (Elt F) ℓ) (g : Dev Cert.ScatterIdeal.nD → PrngReg) :
    θ_run (Cert.ScatterIdeal.defs (F := F)) (onTc (τ := Cert.ScatterIdeal.τ) (Cert.ScatterIdeal.main (F := F))) ⟨m, fun _ => 0, g⟩ (fun r =>
      (∀ (c : Dev Cert.ScatterIdeal.nD) (k : Fin 10), r.2.mem (c.tc.loc (Scattering.arrays (.inl k))) = m (c.tc.loc (Scattering.arrays (.inl k)))) ∧ r.2.sem = fun _ => 0) := by
  refine (θ_run Cert.ScatterIdeal.defs _ _).mono (fun r ⟨⟨V, hV, hr⟩, hs⟩ => ⟨fun c k => ?_, hs⟩) (Scattering.run_main m g)
  have un : ∀ i, ¬ (Scattering.arrays i).isScoped := by decide
  exact (hr c _ (un (.inl k))).trans ((Scattering.host_kept _ c k).trans ((HostTail.spread_ref _ _ _).trans (Scattering.argument_kept hV c k)))

end

theorem frame_scatterIdeal : Cert.quiescent_ScatterIdeal := fun m g _ =>
  (θ_run Cert.ScatterIdeal.defs _ _).mono (fun r ⟨h, hs⟩ => ⟨fun c => ⟨h c 0, h c 1, h c 2, h c 3, h c 4, h c 5, h c 6, h c 7, h c 8, h c 9⟩, hs⟩)
    (scatter_frame (F := Ideal) m g)

set_option maxHeartbeats 2000000 in
theorem frame_scatter : Cert.quiescent_Scatter := fun m g _ =>
  (θ_run Cert.ScatterIdeal.defs _ _).mono (fun r ⟨h, hs⟩ => ⟨fun c => ⟨h c 0, h c 1, h c 2, h c 3, h c 4, h c 5, h c 6, h c 7, h c 8, h c 9⟩, hs⟩)
    (scatter_frame (F := Bits) m g)

theorem frame_scatterRefIdeal : Cert.quiescent_ScatterRefIdeal := fun m g _ =>
  (θ_run Cert.ScatterRefIdeal.defs _ _).mono (fun r h => ⟨fun c => (h c).2.2.2.2.2.2.2.2.2.2, sem_eq_zero_of_no_sems rfl _⟩) (Cert.ScatterRefIdeal.Value.run (F := Ideal) m g)

theorem frame_scatterRef : Cert.quiescent_ScatterRef := fun m g _ =>
  (θ_run Cert.ScatterRef.defs _ _).mono (fun r h => ⟨fun c => (h c).2.2.2.2.2.2.2.2.2.2, sem_eq_zero_of_no_sems rfl _⟩) (Cert.ScatterRef.Value.run (F := Bits) m g)

theorem algebraic_scatter : Cert.algebraic_ScatterIdeal_ScatterRefIdeal := fun m g m' g' _ hin =>
  ⟨_, _, _, _, _, _, _, _, _, _,
    (θ_run Cert.ScatterIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Scattering.run_value (F := Ideal) m g _ _ _ _ _ _ _ _ _ _ hin),
    (θ_run Cert.ScatterRefIdeal.defs _ _).mono (fun r h => h 0) (Cert.ScatterRefIdeal.Value.run (F := Ideal) m' g')⟩

set_option maxHeartbeats 2000000 in
theorem bitexact_scatter : Cert.bitexact_Scatter_ScatterRef := fun m g m' g' _ hin =>
  ⟨_, _, _, _, _, _, _, _, _, _,
    (θ_run Cert.ScatterIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Scattering.run_value (F := Bits) m g _ _ _ _ _ _ _ _ _ _ hin),
    (θ_run Cert.ScatterRef.defs _ _).mono (fun r h => h 0) (Cert.ScatterRef.Value.run (F := Bits) m' g')⟩

/-! ## The joining -/

section
variable {F : FTy → Type} [FloatOps F]

/-- Every run ends with the arguments as they were and the semaphores at zero. -/
theorem join_frame (m : (ℓ : Loc Cert.JoinIdeal.nD Cert.JoinIdeal.τ Cert.JoinIdeal.sig) → Buf (Elt F) ℓ) (g : Dev Cert.JoinIdeal.nD → PrngReg) :
    θ_run (Cert.JoinIdeal.defs (F := F)) (onTc (τ := Cert.JoinIdeal.τ) (Cert.JoinIdeal.main (F := F))) ⟨m, fun _ => 0, g⟩ (fun r =>
      (∀ (c : Dev Cert.JoinIdeal.nD) (k : Fin 10), r.2.mem (c.tc.loc (Joining.arrays (.inl k))) = m (c.tc.loc (Joining.arrays (.inl k)))) ∧ r.2.sem = fun _ => 0) := by
  refine (θ_run Cert.JoinIdeal.defs _ _).mono (fun r ⟨⟨V, hV, hr⟩, hs⟩ => ⟨fun c k => ?_, hs⟩) (Joining.run_main m g)
  have un : ∀ i, ¬ (Joining.arrays i).isScoped := by decide
  exact (hr c _ (un (.inl k))).trans ((Joining.host_kept _ c k).trans ((HostTail.spread_ref _ _ _).trans (Joining.argument_kept hV c k)))

end

theorem frame_joinIdeal : Cert.quiescent_JoinIdeal := fun m g _ =>
  (θ_run Cert.JoinIdeal.defs _ _).mono (fun r ⟨h, hs⟩ => ⟨fun c => ⟨h c 0, h c 1, h c 2, h c 3, h c 4, h c 5, h c 6, h c 7, h c 8, h c 9⟩, hs⟩)
    (join_frame (F := Ideal) m g)

set_option maxHeartbeats 2000000 in
theorem frame_join : Cert.quiescent_Join := fun m g _ =>
  (θ_run Cert.JoinIdeal.defs _ _).mono (fun r ⟨h, hs⟩ => ⟨fun c => ⟨h c 0, h c 1, h c 2, h c 3, h c 4, h c 5, h c 6, h c 7, h c 8, h c 9⟩, hs⟩)
    (join_frame (F := Bits) m g)

theorem frame_joinRefIdeal : Cert.quiescent_JoinRefIdeal := fun m g _ =>
  (θ_run Cert.JoinRefIdeal.defs _ _).mono (fun r h => ⟨fun c => (h c).2.2.2.2.2.2.2.2.2.2, sem_eq_zero_of_no_sems rfl _⟩) (Cert.JoinRefIdeal.Value.run (F := Ideal) m g)

theorem frame_joinRef : Cert.quiescent_JoinRef := fun m g _ =>
  (θ_run Cert.JoinRef.defs _ _).mono (fun r h => ⟨fun c => (h c).2.2.2.2.2.2.2.2.2.2, sem_eq_zero_of_no_sems rfl _⟩) (Cert.JoinRef.Value.run (F := Bits) m g)

theorem algebraic_join : Cert.algebraic_JoinIdeal_JoinRefIdeal := fun m g m' g' _ hin =>
  ⟨_, _, _, _, _, _, _, _, _, _,
    (θ_run Cert.JoinIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Joining.run_value (F := Ideal) m g _ _ _ _ _ _ _ _ _ _ hin),
    (θ_run Cert.JoinRefIdeal.defs _ _).mono (fun r h => by
      obtain ⟨h0, h1, h2, h3, h4, h5, h6, h7, h8, h9, hk⟩ := h 0
      exact ⟨h0.trans (shapeCast_shapeCast _ _ _), h1.trans (shapeCast_shapeCast _ _ _), h2.trans (shapeCast_shapeCast _ _ _), h3.trans (shapeCast_shapeCast _ _ _), h4.trans (shapeCast_shapeCast _ _ _), h5.trans (shapeCast_shapeCast _ _ _), h6.trans (shapeCast_shapeCast _ _ _), h7.trans (shapeCast_shapeCast _ _ _), h8.trans (shapeCast_shapeCast _ _ _), h9.trans (shapeCast_shapeCast _ _ _), hk⟩) (Cert.JoinRefIdeal.Value.run (F := Ideal) m' g')⟩

set_option maxHeartbeats 2000000 in
theorem bitexact_join : Cert.bitexact_Join_JoinRef := fun m g m' g' _ hin =>
  ⟨_, _, _, _, _, _, _, _, _, _,
    (θ_run Cert.JoinIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Joining.run_value (F := Bits) m g _ _ _ _ _ _ _ _ _ _ hin),
    (θ_run Cert.JoinRef.defs _ _).mono (fun r h => by
      obtain ⟨h0, h1, h2, h3, h4, h5, h6, h7, h8, h9, hk⟩ := h 0
      exact ⟨h0.trans (shapeCast_shapeCast _ _ _), h1.trans (shapeCast_shapeCast _ _ _), h2.trans (shapeCast_shapeCast _ _ _), h3.trans (shapeCast_shapeCast _ _ _), h4.trans (shapeCast_shapeCast _ _ _), h5.trans (shapeCast_shapeCast _ _ _), h6.trans (shapeCast_shapeCast _ _ _), h7.trans (shapeCast_shapeCast _ _ _), h8.trans (shapeCast_shapeCast _ _ _), h9.trans (shapeCast_shapeCast _ _ _), hk⟩) (Cert.JoinRef.Value.run (F := Bits) m' g')⟩

/-! ## The gathering -/

section
variable {F : FTy → Type} [FloatOps F]

/-- Every run ends with the arguments as they were and the semaphores at zero. -/
theorem gather_frame (m : (ℓ : Loc Cert.GatherIdeal.nD Cert.GatherIdeal.τ Cert.GatherIdeal.sig) → Buf (Elt F) ℓ) (g : Dev Cert.GatherIdeal.nD → PrngReg) :
    θ_run (Cert.GatherIdeal.defs (F := F)) (onTc (τ := Cert.GatherIdeal.τ) (Cert.GatherIdeal.main (F := F))) ⟨m, fun _ => 0, g⟩ (fun r =>
      (∀ (c : Dev Cert.GatherIdeal.nD) (k : Fin 10), r.2.mem (c.tc.loc (Gathering.arrays (.inl k))) = m (c.tc.loc (Gathering.arrays (.inl k)))) ∧ r.2.sem = fun _ => 0) := by
  refine (θ_run Cert.GatherIdeal.defs _ _).mono (fun r ⟨⟨V, hV, hr⟩, hs⟩ => ⟨fun c k => ?_, hs⟩) (Gathering.run_main m g)
  have un : ∀ i, ¬ (Gathering.arrays i).isScoped := by decide
  exact (hr c _ (un (.inl k))).trans ((Gathering.host_kept _ c k).trans ((HostTail.spread_ref _ _ _).trans (Gathering.argument_kept hV c k)))

end

theorem frame_gatherIdeal : Cert.quiescent_GatherIdeal := fun m g _ =>
  (θ_run Cert.GatherIdeal.defs _ _).mono (fun r ⟨h, hs⟩ => ⟨fun c => ⟨h c 0, h c 1, h c 2, h c 3, h c 4, h c 5, h c 6, h c 7, h c 8, h c 9⟩, hs⟩)
    (gather_frame (F := Ideal) m g)

set_option maxHeartbeats 2000000 in
theorem frame_gather : Cert.quiescent_Gather := fun m g _ =>
  (θ_run Cert.GatherIdeal.defs _ _).mono (fun r ⟨h, hs⟩ => ⟨fun c => ⟨h c 0, h c 1, h c 2, h c 3, h c 4, h c 5, h c 6, h c 7, h c 8, h c 9⟩, hs⟩)
    (gather_frame (F := Bits) m g)

theorem frame_gatherRefIdeal : Cert.quiescent_GatherRefIdeal := fun m g _ =>
  (θ_run Cert.GatherRefIdeal.defs _ _).mono (fun r h => ⟨fun c => (h c).2.2.2.2.2.2.2.2.2.2, sem_eq_zero_of_no_sems rfl _⟩) (Cert.GatherRefIdeal.Value.run (F := Ideal) m g)

theorem frame_gatherRef : Cert.quiescent_GatherRef := fun m g _ =>
  (θ_run Cert.GatherRef.defs _ _).mono (fun r h => ⟨fun c => (h c).2.2.2.2.2.2.2.2.2.2, sem_eq_zero_of_no_sems rfl _⟩) (Cert.GatherRef.Value.run (F := Bits) m g)

theorem algebraic_gather : Cert.algebraic_GatherIdeal_GatherRefIdeal := fun m g m' g' _ hin =>
  ⟨_, _, _, _, _, _, _, _, _, _,
    (θ_run Cert.GatherIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Gathering.run_value (F := Ideal) m g _ _ _ _ _ _ _ _ _ _ hin),
    (θ_run Cert.GatherRefIdeal.defs _ _).mono (fun r h => h 0) (Cert.GatherRefIdeal.Value.run (F := Ideal) m' g')⟩

set_option maxHeartbeats 2000000 in
theorem bitexact_gather : Cert.bitexact_Gather_GatherRef := fun m g m' g' _ hin =>
  ⟨_, _, _, _, _, _, _, _, _, _,
    (θ_run Cert.GatherIdeal.defs _ _).mono (fun r h c => by
      obtain ⟨h0, h1, h2, h3, h4, h5, h6, h7, h8, h9, hk⟩ := h c
      exact ⟨h0, h1, h2, h3, h4, h5, h6, h7, h8, h9, hk 0, hk 1, hk 2, hk 3, hk 4, hk 5, hk 6, hk 7, hk 8, hk 9⟩)
      (Gathering.run_value (F := Bits) m g _ _ _ _ _ _ _ _ _ _ hin),
    (θ_run Cert.GatherRef.defs _ _).mono (fun r h => h 0) (Cert.GatherRef.Value.run (F := Bits) m' g')⟩

/-! ## All claims -/

theorem claim : Cert.Claim :=
  ⟨Cert.Kernel.Gen.facts, Cert.KernelIdeal.Gen.facts, Cert.ReferenceIdeal.Gen.facts, Cert.Reference.Gen.facts,
    Cert.Scatter.Gen.facts, Cert.ScatterIdeal.Gen.facts, Cert.ScatterRefIdeal.Gen.facts, Cert.ScatterRef.Gen.facts,
    Cert.Join.Gen.facts, Cert.JoinIdeal.Gen.facts, Cert.JoinRefIdeal.Gen.facts, Cert.JoinRef.Gen.facts,
    Cert.Gather.Gen.facts, Cert.GatherIdeal.Gen.facts, Cert.GatherRefIdeal.Gen.facts, Cert.GatherRef.Gen.facts,
    Cert.Adam4096x1424.Gen.facts, Cert.Adam4096x1424Ideal.Gen.facts, Cert.Adam4096x1424RefIdeal.Gen.facts, Cert.Adam1024x1536.Gen.facts,
    Cert.Adam1024x1536Ideal.Gen.facts, Cert.Adam1024x1536RefIdeal.Gen.facts, Cert.Adam512x2048.Gen.facts, Cert.Adam512x2048Ideal.Gen.facts,
    Cert.Adam512x2048RefIdeal.Gen.facts, Cert.Adam1024x4096.Gen.facts, Cert.Adam1024x4096Ideal.Gen.facts, Cert.Adam1024x4096RefIdeal.Gen.facts,
    Cert.Adam4096x4096.Gen.facts, Cert.Adam4096x4096Ideal.Gen.facts, Cert.Adam4096x4096RefIdeal.Gen.facts, Cert.Adam4096x3072.Gen.facts,
    Cert.Adam4096x3072Ideal.Gen.facts, Cert.Adam4096x3072RefIdeal.Gen.facts, Cert.Adam1616x128.Gen.facts, Cert.Adam1616x128Ideal.Gen.facts,
    Cert.Adam1616x128RefIdeal.Gen.facts, Cert.Slots.Gen.facts, Cert.SlotsIdeal.Gen.facts, Cert.SlotsRefIdeal.Gen.facts,
    Cert.Pair8192x1424.Gen.facts, Cert.Pair8192x1424Ideal.Gen.facts, Cert.Pair8192x1424RefIdeal.Gen.facts, Cert.Pair8192x1424Ref.Gen.facts,
    Cert.Chip2048x1424.Gen.facts, Cert.Chip2048x1424Ideal.Gen.facts, Cert.Chip2048x1424RefIdeal.Gen.facts, Cert.Pair2048x1536.Gen.facts,
    Cert.Pair2048x1536Ideal.Gen.facts, Cert.Pair2048x1536RefIdeal.Gen.facts, Cert.Pair2048x1536Ref.Gen.facts, Cert.Chip512x1536.Gen.facts,
    Cert.Chip512x1536Ideal.Gen.facts, Cert.Chip512x1536RefIdeal.Gen.facts, Cert.Pair1024x2048.Gen.facts, Cert.Pair1024x2048Ideal.Gen.facts,
    Cert.Pair1024x2048RefIdeal.Gen.facts, Cert.Pair1024x2048Ref.Gen.facts, Cert.Chip256x2048.Gen.facts, Cert.Chip256x2048Ideal.Gen.facts,
    Cert.Chip256x2048RefIdeal.Gen.facts, Cert.Pair2048x4096.Gen.facts, Cert.Pair2048x4096Ideal.Gen.facts, Cert.Pair2048x4096RefIdeal.Gen.facts,
    Cert.Pair2048x4096Ref.Gen.facts, Cert.Chip512x4096.Gen.facts, Cert.Chip512x4096Ideal.Gen.facts, Cert.Chip512x4096RefIdeal.Gen.facts,
    Cert.Pair8192x4096.Gen.facts, Cert.Pair8192x4096Ideal.Gen.facts, Cert.Pair8192x4096RefIdeal.Gen.facts, Cert.Pair8192x4096Ref.Gen.facts,
    Cert.Chip2048x4096.Gen.facts, Cert.Chip2048x4096Ideal.Gen.facts, Cert.Chip2048x4096RefIdeal.Gen.facts, Cert.Pair8192x3072.Gen.facts,
    Cert.Pair8192x3072Ideal.Gen.facts, Cert.Pair8192x3072RefIdeal.Gen.facts, Cert.Pair8192x3072Ref.Gen.facts, Cert.Chip2048x3072.Gen.facts,
    Cert.Chip2048x3072Ideal.Gen.facts, Cert.Chip2048x3072RefIdeal.Gen.facts, Cert.Loss.Gen.facts, Cert.LossIdeal.Gen.facts,
    Cert.LossRefIdeal.Gen.facts, Cert.NormGrad.Gen.facts, Cert.NormGradIdeal.Gen.facts, Cert.NormGradRefIdeal.Gen.facts,
    Cert.PreNorm.Gen.facts, Cert.PreNormIdeal.Gen.facts, Cert.PreNormRefIdeal.Gen.facts, Cert.PostNorm.Gen.facts,
    Cert.PostNormIdeal.Gen.facts, Cert.PostNormRefIdeal.Gen.facts, Cert.PostNormGrad.Gen.facts, Cert.PostNormGradIdeal.Gen.facts,
    Cert.PostNormGradRefIdeal.Gen.facts, Cert.Gate.Gen.facts, Cert.GateIdeal.Gen.facts, Cert.GateRefIdeal.Gen.facts,
    Cert.GateGrad.Gen.facts, Cert.GateGradIdeal.Gen.facts, Cert.GateGradRefIdeal.Gen.facts, Cert.InA.Gen.facts,
    Cert.InAIdeal.Gen.facts, Cert.InARefIdeal.Gen.facts, Cert.InADw.Gen.facts, Cert.InADwIdeal.Gen.facts,
    Cert.InADwRefIdeal.Gen.facts, Cert.OutProj.Gen.facts, Cert.OutProjIdeal.Gen.facts, Cert.OutProjRefIdeal.Gen.facts,
    Cert.OutProjDw.Gen.facts, Cert.OutProjDwIdeal.Gen.facts, Cert.OutProjDwRefIdeal.Gen.facts, Cert.QUp.Gen.facts,
    Cert.QUpIdeal.Gen.facts, Cert.QUpRefIdeal.Gen.facts, Cert.QUpDw.Gen.facts, Cert.QUpDwIdeal.Gen.facts,
    Cert.QUpDwRefIdeal.Gen.facts, Cert.KvUp.Gen.facts, Cert.KvUpIdeal.Gen.facts, Cert.KvUpRefIdeal.Gen.facts,
    Cert.KvUpDw.Gen.facts, Cert.KvUpDwIdeal.Gen.facts, Cert.KvUpDwRefIdeal.Gen.facts, Cert.ScIn.Gen.facts,
    Cert.ScInIdeal.Gen.facts, Cert.ScInRefIdeal.Gen.facts, Cert.ScInDw.Gen.facts, Cert.ScInDwIdeal.Gen.facts,
    Cert.ScInDwRefIdeal.Gen.facts, Cert.InADx.Gen.facts, Cert.InADxIdeal.Gen.facts, Cert.InADxRefIdeal.Gen.facts,
    Cert.OutProjDx.Gen.facts, Cert.OutProjDxIdeal.Gen.facts, Cert.OutProjDxRefIdeal.Gen.facts, Cert.InZDx.Gen.facts,
    Cert.InZDxIdeal.Gen.facts, Cert.InZDxRefIdeal.Gen.facts, Cert.GmIn.Gen.facts, Cert.GmInIdeal.Gen.facts,
    Cert.GmInRefIdeal.Gen.facts, Cert.GmInDw.Gen.facts, Cert.GmInDwIdeal.Gen.facts, Cert.GmInDwRefIdeal.Gen.facts,
    frame_kernel, frame_kernelIdeal, frame_referenceIdeal, frame_reference,
    frame_scatter, frame_scatterIdeal, frame_scatterRefIdeal, frame_scatterRef,
    frame_join, frame_joinIdeal, frame_joinRefIdeal, frame_joinRef,
    frame_gather, frame_gatherIdeal, frame_gatherRefIdeal, frame_gatherRef,
    fun m g _ => Cert.Adam4096x1424.Gen.frame m g, fun m g _ => Cert.Adam4096x1424Ideal.Gen.frame m g, frame_Adam4096x1424RefIdeal, fun m g _ => Cert.Adam1024x1536.Gen.frame m g,
    fun m g _ => Cert.Adam1024x1536Ideal.Gen.frame m g, frame_Adam1024x1536RefIdeal, fun m g _ => Cert.Adam512x2048.Gen.frame m g, fun m g _ => Cert.Adam512x2048Ideal.Gen.frame m g,
    frame_Adam512x2048RefIdeal, fun m g _ => Cert.Adam1024x4096.Gen.frame m g, fun m g _ => Cert.Adam1024x4096Ideal.Gen.frame m g, frame_Adam1024x4096RefIdeal,
    fun m g _ => Cert.Adam4096x4096.Gen.frame m g, fun m g _ => Cert.Adam4096x4096Ideal.Gen.frame m g, frame_Adam4096x4096RefIdeal, fun m g _ => Cert.Adam4096x3072.Gen.frame m g,
    fun m g _ => Cert.Adam4096x3072Ideal.Gen.frame m g, frame_Adam4096x3072RefIdeal, fun m g _ => Cert.Adam1616x128.Gen.frame m g, fun m g _ => Cert.Adam1616x128Ideal.Gen.frame m g,
    frame_Adam1616x128RefIdeal, fun m g _ => Cert.Slots.Gen.frame m g, fun m g _ => Cert.SlotsIdeal.Gen.frame m g, frame_SlotsRefIdeal,
    fun m g _ => Cert.Pair8192x1424.Gen.frame m g, fun m g _ => Cert.Pair8192x1424Ideal.Gen.frame m g, frame_Pair8192x1424RefIdeal, frame_Pair8192x1424Ref,
    fun m g _ => Cert.Chip2048x1424.Gen.frame m g, fun m g _ => Cert.Chip2048x1424Ideal.Gen.frame m g, frame_Chip2048x1424RefIdeal, fun m g _ => Cert.Pair2048x1536.Gen.frame m g,
    fun m g _ => Cert.Pair2048x1536Ideal.Gen.frame m g, frame_Pair2048x1536RefIdeal, frame_Pair2048x1536Ref, fun m g _ => Cert.Chip512x1536.Gen.frame m g,
    fun m g _ => Cert.Chip512x1536Ideal.Gen.frame m g, frame_Chip512x1536RefIdeal, fun m g _ => Cert.Pair1024x2048.Gen.frame m g, fun m g _ => Cert.Pair1024x2048Ideal.Gen.frame m g,
    frame_Pair1024x2048RefIdeal, frame_Pair1024x2048Ref, fun m g _ => Cert.Chip256x2048.Gen.frame m g, fun m g _ => Cert.Chip256x2048Ideal.Gen.frame m g,
    frame_Chip256x2048RefIdeal, fun m g _ => Cert.Pair2048x4096.Gen.frame m g, fun m g _ => Cert.Pair2048x4096Ideal.Gen.frame m g, frame_Pair2048x4096RefIdeal,
    frame_Pair2048x4096Ref, fun m g _ => Cert.Chip512x4096.Gen.frame m g, fun m g _ => Cert.Chip512x4096Ideal.Gen.frame m g, frame_Chip512x4096RefIdeal,
    fun m g _ => Cert.Pair8192x4096.Gen.frame m g, fun m g _ => Cert.Pair8192x4096Ideal.Gen.frame m g, frame_Pair8192x4096RefIdeal, frame_Pair8192x4096Ref,
    fun m g _ => Cert.Chip2048x4096.Gen.frame m g, fun m g _ => Cert.Chip2048x4096Ideal.Gen.frame m g, frame_Chip2048x4096RefIdeal, fun m g _ => Cert.Pair8192x3072.Gen.frame m g,
    fun m g _ => Cert.Pair8192x3072Ideal.Gen.frame m g, frame_Pair8192x3072RefIdeal, frame_Pair8192x3072Ref, fun m g _ => Cert.Chip2048x3072.Gen.frame m g,
    fun m g _ => Cert.Chip2048x3072Ideal.Gen.frame m g, frame_Chip2048x3072RefIdeal, fun m g _ => Cert.Loss.Gen.frame m g, fun m g _ => Cert.LossIdeal.Gen.frame m g,
    frame_LossRefIdeal, fun m g _ => Cert.NormGrad.Gen.frame m g, fun m g _ => Cert.NormGradIdeal.Gen.frame m g, frame_NormGradRefIdeal,
    fun m g _ => Cert.PreNorm.Gen.frame m g, fun m g _ => Cert.PreNormIdeal.Gen.frame m g, frame_PreNormRefIdeal, fun m g _ => Cert.PostNorm.Gen.frame m g,
    fun m g _ => Cert.PostNormIdeal.Gen.frame m g, frame_PostNormRefIdeal, fun m g _ => Cert.PostNormGrad.Gen.frame m g, fun m g _ => Cert.PostNormGradIdeal.Gen.frame m g,
    frame_PostNormGradRefIdeal, fun m g _ => Cert.Gate.Gen.frame m g, fun m g _ => Cert.GateIdeal.Gen.frame m g, frame_GateRefIdeal,
    fun m g _ => Cert.GateGrad.Gen.frame m g, fun m g _ => Cert.GateGradIdeal.Gen.frame m g, frame_GateGradRefIdeal, fun m g _ => Cert.InA.Gen.frame m g,
    fun m g _ => Cert.InAIdeal.Gen.frame m g, frame_InARefIdeal, fun m g _ => Cert.InADw.Gen.frame m g, fun m g _ => Cert.InADwIdeal.Gen.frame m g,
    frame_InADwRefIdeal, fun m g _ => Cert.OutProj.Gen.frame m g, fun m g _ => Cert.OutProjIdeal.Gen.frame m g, frame_OutProjRefIdeal,
    fun m g _ => Cert.OutProjDw.Gen.frame m g, fun m g _ => Cert.OutProjDwIdeal.Gen.frame m g, frame_OutProjDwRefIdeal, fun m g _ => Cert.QUp.Gen.frame m g,
    fun m g _ => Cert.QUpIdeal.Gen.frame m g, frame_QUpRefIdeal, fun m g _ => Cert.QUpDw.Gen.frame m g, fun m g _ => Cert.QUpDwIdeal.Gen.frame m g,
    frame_QUpDwRefIdeal, fun m g _ => Cert.KvUp.Gen.frame m g, fun m g _ => Cert.KvUpIdeal.Gen.frame m g, frame_KvUpRefIdeal,
    fun m g _ => Cert.KvUpDw.Gen.frame m g, fun m g _ => Cert.KvUpDwIdeal.Gen.frame m g, frame_KvUpDwRefIdeal, fun m g _ => Cert.ScIn.Gen.frame m g,
    fun m g _ => Cert.ScInIdeal.Gen.frame m g, frame_ScInRefIdeal, fun m g _ => Cert.ScInDw.Gen.frame m g, fun m g _ => Cert.ScInDwIdeal.Gen.frame m g,
    frame_ScInDwRefIdeal, fun m g _ => Cert.InADx.Gen.frame m g, fun m g _ => Cert.InADxIdeal.Gen.frame m g, frame_InADxRefIdeal,
    fun m g _ => Cert.OutProjDx.Gen.frame m g, fun m g _ => Cert.OutProjDxIdeal.Gen.frame m g, frame_OutProjDxRefIdeal, fun m g _ => Cert.InZDx.Gen.frame m g,
    fun m g _ => Cert.InZDxIdeal.Gen.frame m g, frame_InZDxRefIdeal, fun m g _ => Cert.GmIn.Gen.frame m g, fun m g _ => Cert.GmInIdeal.Gen.frame m g,
    frame_GmInRefIdeal, fun m g _ => Cert.GmInDw.Gen.frame m g, fun m g _ => Cert.GmInDwIdeal.Gen.frame m g, frame_GmInDwRefIdeal,
    trivial, algebraic, bitexact,
    trivial, algebraic_scatter, bitexact_scatter,
    trivial, algebraic_join, bitexact_join,
    trivial, algebraic_gather, bitexact_gather,
    trivial, algebraic_Adam4096x1424, trivial,
    algebraic_Adam1024x1536, trivial, algebraic_Adam512x2048,
    trivial, algebraic_Adam1024x4096, trivial,
    algebraic_Adam4096x4096, trivial, algebraic_Adam4096x3072,
    trivial, algebraic_Adam1616x128, trivial,
    algebraic_Slots, trivial, algebraic_Pair8192x1424,
    bitexact_Pair8192x1424, trivial, algebraic_Chip2048x1424,
    trivial, algebraic_Pair2048x1536, bitexact_Pair2048x1536,
    trivial, algebraic_Chip512x1536, trivial,
    algebraic_Pair1024x2048, bitexact_Pair1024x2048, trivial,
    algebraic_Chip256x2048, trivial, algebraic_Pair2048x4096,
    bitexact_Pair2048x4096, trivial, algebraic_Chip512x4096,
    trivial, algebraic_Pair8192x4096, bitexact_Pair8192x4096,
    trivial, algebraic_Chip2048x4096, trivial,
    algebraic_Pair8192x3072, bitexact_Pair8192x3072, trivial,
    algebraic_Chip2048x3072, trivial, algebraic_Loss,
    trivial, algebraic_NormGrad, trivial,
    algebraic_PreNorm, trivial, algebraic_PostNorm,
    trivial, algebraic_PostNormGrad, trivial,
    algebraic_Gate, trivial, algebraic_GateGrad,
    trivial, algebraic_InA, trivial,
    algebraic_InADw, trivial, algebraic_OutProj,
    trivial, algebraic_OutProjDw, trivial,
    algebraic_QUp, trivial, algebraic_QUpDw,
    trivial, algebraic_KvUp, trivial,
    algebraic_KvUpDw, trivial, algebraic_ScIn,
    trivial, algebraic_ScInDw, trivial,
    algebraic_InADx, trivial, algebraic_OutProjDx,
    trivial, algebraic_InZDx, trivial,
    algebraic_GmIn, trivial, algebraic_GmInDw⟩

end Cert.Proof

end
